-- ==== Defs.lean ====
def Pre_KernelLb (m : (ℓ : Loc Cert.KernelLb.nD Cert.KernelLb.τ Cert.KernelLb.sig) → Buf (Elt Bits) ℓ) : Prop :=
  True

def Pre_KernelLbIdeal (m : (ℓ : Loc Cert.KernelLbIdeal.nD Cert.KernelLbIdeal.τ Cert.KernelLbIdeal.sig) → Buf (Elt Ideal) ℓ) : Prop :=
  True

def Pre_KernelLbIdeal_finite_lb [hPre_finite_lb : Cert.Pre_finite_lb.Facts] (m : (ℓ : Loc Cert.KernelLbIdeal.nD Cert.KernelLbIdeal.τ Cert.KernelLbIdeal.sig) → Buf (Elt Ideal) ℓ) : Prop :=
  ∀ c : Dev Cert.KernelLbIdeal.nD,
    (Cert.Pre_finite_lb.fn (F := Ideal) (m ((c.tc : Thread Cert.KernelLbIdeal.nD Cert.KernelLbIdeal.τ).loc Cert.KernelLbIdeal.main_arg0)) (m ((c.tc : Thread Cert.KernelLbIdeal.nD Cert.KernelLbIdeal.τ).loc Cert.KernelLbIdeal.main_arg1))).1 = (fun _ => 1#1)
    ∧ (Cert.Pre_finite_lb.fn (F := Ideal) (m ((c.tc : Thread Cert.KernelLbIdeal.nD Cert.KernelLbIdeal.τ).loc Cert.KernelLbIdeal.main_arg0)) (m ((c.tc : Thread Cert.KernelLbIdeal.nD Cert.KernelLbIdeal.τ).loc Cert.KernelLbIdeal.main_arg1))).2 = (fun _ => 1#1)

def Pre_ReferenceLbIdeal (m : (ℓ : Loc Cert.ReferenceLbIdeal.nD Cert.ReferenceLbIdeal.τ Cert.ReferenceLbIdeal.sig) → Buf (Elt Ideal) ℓ) : Prop :=
  True

def Pre_ReferenceLbIdeal_finite_lb [hPre_finite_lb : Cert.Pre_finite_lb.Facts] (m : (ℓ : Loc Cert.ReferenceLbIdeal.nD Cert.ReferenceLbIdeal.τ Cert.ReferenceLbIdeal.sig) → Buf (Elt Ideal) ℓ) : Prop :=
  ∀ c : Dev Cert.ReferenceLbIdeal.nD,
    (Cert.Pre_finite_lb.fn (F := Ideal) (m ((c.tc : Thread Cert.ReferenceLbIdeal.nD Cert.ReferenceLbIdeal.τ).loc Cert.ReferenceLbIdeal.main_arg0)) (m ((c.tc : Thread Cert.ReferenceLbIdeal.nD Cert.ReferenceLbIdeal.τ).loc Cert.ReferenceLbIdeal.main_arg1))).1 = (fun _ => 1#1)
    ∧ (Cert.Pre_finite_lb.fn (F := Ideal) (m ((c.tc : Thread Cert.ReferenceLbIdeal.nD Cert.ReferenceLbIdeal.τ).loc Cert.ReferenceLbIdeal.main_arg0)) (m ((c.tc : Thread Cert.ReferenceLbIdeal.nD Cert.ReferenceLbIdeal.τ).loc Cert.ReferenceLbIdeal.main_arg1))).2 = (fun _ => 1#1)

def Pre_KernelLn2 (m : (ℓ : Loc Cert.KernelLn2.nD Cert.KernelLn2.τ Cert.KernelLn2.sig) → Buf (Elt Bits) ℓ) : Prop :=
  True

def Pre_KernelLn2Ideal (m : (ℓ : Loc Cert.KernelLn2Ideal.nD Cert.KernelLn2Ideal.τ Cert.KernelLn2Ideal.sig) → Buf (Elt Ideal) ℓ) : Prop :=
  True

def Pre_KernelLn2Ideal_finite_ln2 [hPre_finite_ln2 : Cert.Pre_finite_ln2.Facts] (m : (ℓ : Loc Cert.KernelLn2Ideal.nD Cert.KernelLn2Ideal.τ Cert.KernelLn2Ideal.sig) → Buf (Elt Ideal) ℓ) : Prop :=
  ∀ c : Dev Cert.KernelLn2Ideal.nD,
    (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4))).1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4))).2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4))).2.2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4))).2.2.2 = (fun _ => 1#1)

def Pre_ReferenceLn2Ideal (m : (ℓ : Loc Cert.ReferenceLn2Ideal.nD Cert.ReferenceLn2Ideal.τ Cert.ReferenceLn2Ideal.sig) → Buf (Elt Ideal) ℓ) : Prop :=
  True

def Pre_ReferenceLn2Ideal_finite_ln2 [hPre_finite_ln2 : Cert.Pre_finite_ln2.Facts] (m : (ℓ : Loc Cert.ReferenceLn2Ideal.nD Cert.ReferenceLn2Ideal.τ Cert.ReferenceLn2Ideal.sig) → Buf (Elt Ideal) ℓ) : Prop :=
  ∀ c : Dev Cert.ReferenceLn2Ideal.nD,
    (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4))).1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4))).2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4))).2.2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4))).2.2.2 = (fun _ => 1#1)

def Pre_KernelLn3 (m : (ℓ : Loc Cert.KernelLn3.nD Cert.KernelLn3.τ Cert.KernelLn3.sig) → Buf (Elt Bits) ℓ) : Prop :=
  True

def Pre_KernelLn3Ideal (m : (ℓ : Loc Cert.KernelLn3Ideal.nD Cert.KernelLn3Ideal.τ Cert.KernelLn3Ideal.sig) → Buf (Elt Ideal) ℓ) : Prop :=
  True

def Pre_KernelLn3Ideal_finite_ln3 [hPre_finite_ln3 : Cert.Pre_finite_ln3.Facts] (m : (ℓ : Loc Cert.KernelLn3Ideal.nD Cert.KernelLn3Ideal.τ Cert.KernelLn3Ideal.sig) → Buf (Elt Ideal) ℓ) : Prop :=
  ∀ c : Dev Cert.KernelLn3Ideal.nD,
    (Cert.Pre_finite_ln3.fn (F := Ideal) (m ((c.tc : Thread Cert.KernelLn3Ideal.nD Cert.KernelLn3Ideal.τ).loc Cert.KernelLn3Ideal.main_arg0)) (m ((c.tc : Thread Cert.KernelLn3Ideal.nD Cert.KernelLn3Ideal.τ).loc Cert.KernelLn3Ideal.main_arg1)) (m ((c.tc : Thread Cert.KernelLn3Ideal.nD Cert.KernelLn3Ideal.τ).loc Cert.KernelLn3Ideal.main_arg2)) (m ((c.tc : Thread Cert.KernelLn3Ideal.nD Cert.KernelLn3Ideal.τ).loc Cert.KernelLn3Ideal.main_arg3)) (m ((c.tc : Thread Cert.KernelLn3Ideal.nD Cert.KernelLn3Ideal.τ).loc Cert.KernelLn3Ideal.main_arg4))).1 = (fun _ => 1#1)
    ∧ (Cert.Pre_finite_ln3.fn (F := Ideal) (m ((c.tc : Thread Cert.KernelLn3Ideal.nD Cert.KernelLn3Ideal.τ).loc Cert.KernelLn3Ideal.main_arg0)) (m ((c.tc : Thread Cert.KernelLn3Ideal.nD Cert.KernelLn3Ideal.τ).loc Cert.KernelLn3Ideal.main_arg1)) (m ((c.tc : Thread Cert.KernelLn3Ideal.nD Cert.KernelLn3Ideal.τ).loc Cert.KernelLn3Ideal.main_arg2)) (m ((c.tc : Thread Cert.KernelLn3Ideal.nD Cert.KernelLn3Ideal.τ).loc Cert.KernelLn3Ideal.main_arg3)) (m ((c.tc : Thread Cert.KernelLn3Ideal.nD Cert.KernelLn3Ideal.τ).loc Cert.KernelLn3Ideal.main_arg4))).2.1 = (fun _ => 1#1)
    ∧ (Cert.Pre_finite_ln3.fn (F := Ideal) (m ((c.tc : Thread Cert.KernelLn3Ideal.nD Cert.KernelLn3Ideal.τ).loc Cert.KernelLn3Ideal.main_arg0)) (m ((c.tc : Thread Cert.KernelLn3Ideal.nD Cert.KernelLn3Ideal.τ).loc Cert.KernelLn3Ideal.main_arg1)) (m ((c.tc : Thread Cert.KernelLn3Ideal.nD Cert.KernelLn3Ideal.τ).loc Cert.KernelLn3Ideal.main_arg2)) (m ((c.tc : Thread Cert.KernelLn3Ideal.nD Cert.KernelLn3Ideal.τ).loc Cert.KernelLn3Ideal.main_arg3)) (m ((c.tc : Thread Cert.KernelLn3Ideal.nD Cert.KernelLn3Ideal.τ).loc Cert.KernelLn3Ideal.main_arg4))).2.2.1 = (fun _ => 1#1)
    ∧ (Cert.Pre_finite_ln3.fn (F := Ideal) (m ((c.tc : Thread Cert.KernelLn3Ideal.nD Cert.KernelLn3Ideal.τ).loc Cert.KernelLn3Ideal.main_arg0)) (m ((c.tc : Thread Cert.KernelLn3Ideal.nD Cert.KernelLn3Ideal.τ).loc Cert.KernelLn3Ideal.main_arg1)) (m ((c.tc : Thread Cert.KernelLn3Ideal.nD Cert.KernelLn3Ideal.τ).loc Cert.KernelLn3Ideal.main_arg2)) (m ((c.tc : Thread Cert.KernelLn3Ideal.nD Cert.KernelLn3Ideal.τ).loc Cert.KernelLn3Ideal.main_arg3)) (m ((c.tc : Thread Cert.KernelLn3Ideal.nD Cert.KernelLn3Ideal.τ).loc Cert.KernelLn3Ideal.main_arg4))).2.2.2.1 = (fun _ => 1#1)
    ∧ (Cert.Pre_finite_ln3.fn (F := Ideal) (m ((c.tc : Thread Cert.KernelLn3Ideal.nD Cert.KernelLn3Ideal.τ).loc Cert.KernelLn3Ideal.main_arg0)) (m ((c.tc : Thread Cert.KernelLn3Ideal.nD Cert.KernelLn3Ideal.τ).loc Cert.KernelLn3Ideal.main_arg1)) (m ((c.tc : Thread Cert.KernelLn3Ideal.nD Cert.KernelLn3Ideal.τ).loc Cert.KernelLn3Ideal.main_arg2)) (m ((c.tc : Thread Cert.KernelLn3Ideal.nD Cert.KernelLn3Ideal.τ).loc Cert.KernelLn3Ideal.main_arg3)) (m ((c.tc : Thread Cert.KernelLn3Ideal.nD Cert.KernelLn3Ideal.τ).loc Cert.KernelLn3Ideal.main_arg4))).2.2.2.2 = (fun _ => 1#1)

def Pre_ReferenceLn3Ideal (m : (ℓ : Loc Cert.ReferenceLn3Ideal.nD Cert.ReferenceLn3Ideal.τ Cert.ReferenceLn3Ideal.sig) → Buf (Elt Ideal) ℓ) : Prop :=
  True

def Pre_ReferenceLn3Ideal_finite_ln3 [hPre_finite_ln3 : Cert.Pre_finite_ln3.Facts] (m : (ℓ : Loc Cert.ReferenceLn3Ideal.nD Cert.ReferenceLn3Ideal.τ Cert.ReferenceLn3Ideal.sig) → Buf (Elt Ideal) ℓ) : Prop :=
  ∀ c : Dev Cert.ReferenceLn3Ideal.nD,
    (Cert.Pre_finite_ln3.fn (F := Ideal) (m ((c.tc : Thread Cert.ReferenceLn3Ideal.nD Cert.ReferenceLn3Ideal.τ).loc Cert.ReferenceLn3Ideal.main_arg0)) (m ((c.tc : Thread Cert.ReferenceLn3Ideal.nD Cert.ReferenceLn3Ideal.τ).loc Cert.ReferenceLn3Ideal.main_arg1)) (m ((c.tc : Thread Cert.ReferenceLn3Ideal.nD Cert.ReferenceLn3Ideal.τ).loc Cert.ReferenceLn3Ideal.main_arg2)) (m ((c.tc : Thread Cert.ReferenceLn3Ideal.nD Cert.ReferenceLn3Ideal.τ).loc Cert.ReferenceLn3Ideal.main_arg3)) (m ((c.tc : Thread Cert.ReferenceLn3Ideal.nD Cert.ReferenceLn3Ideal.τ).loc Cert.ReferenceLn3Ideal.main_arg4))).1 = (fun _ => 1#1)
    ∧ (Cert.Pre_finite_ln3.fn (F := Ideal) (m ((c.tc : Thread Cert.ReferenceLn3Ideal.nD Cert.ReferenceLn3Ideal.τ).loc Cert.ReferenceLn3Ideal.main_arg0)) (m ((c.tc : Thread Cert.ReferenceLn3Ideal.nD Cert.ReferenceLn3Ideal.τ).loc Cert.ReferenceLn3Ideal.main_arg1)) (m ((c.tc : Thread Cert.ReferenceLn3Ideal.nD Cert.ReferenceLn3Ideal.τ).loc Cert.ReferenceLn3Ideal.main_arg2)) (m ((c.tc : Thread Cert.ReferenceLn3Ideal.nD Cert.ReferenceLn3Ideal.τ).loc Cert.ReferenceLn3Ideal.main_arg3)) (m ((c.tc : Thread Cert.ReferenceLn3Ideal.nD Cert.ReferenceLn3Ideal.τ).loc Cert.ReferenceLn3Ideal.main_arg4))).2.1 = (fun _ => 1#1)
    ∧ (Cert.Pre_finite_ln3.fn (F := Ideal) (m ((c.tc : Thread Cert.ReferenceLn3Ideal.nD Cert.ReferenceLn3Ideal.τ).loc Cert.ReferenceLn3Ideal.main_arg0)) (m ((c.tc : Thread Cert.ReferenceLn3Ideal.nD Cert.ReferenceLn3Ideal.τ).loc Cert.ReferenceLn3Ideal.main_arg1)) (m ((c.tc : Thread Cert.ReferenceLn3Ideal.nD Cert.ReferenceLn3Ideal.τ).loc Cert.ReferenceLn3Ideal.main_arg2)) (m ((c.tc : Thread Cert.ReferenceLn3Ideal.nD Cert.ReferenceLn3Ideal.τ).loc Cert.ReferenceLn3Ideal.main_arg3)) (m ((c.tc : Thread Cert.ReferenceLn3Ideal.nD Cert.ReferenceLn3Ideal.τ).loc Cert.ReferenceLn3Ideal.main_arg4))).2.2.1 = (fun _ => 1#1)
    ∧ (Cert.Pre_finite_ln3.fn (F := Ideal) (m ((c.tc : Thread Cert.ReferenceLn3Ideal.nD Cert.ReferenceLn3Ideal.τ).loc Cert.ReferenceLn3Ideal.main_arg0)) (m ((c.tc : Thread Cert.ReferenceLn3Ideal.nD Cert.ReferenceLn3Ideal.τ).loc Cert.ReferenceLn3Ideal.main_arg1)) (m ((c.tc : Thread Cert.ReferenceLn3Ideal.nD Cert.ReferenceLn3Ideal.τ).loc Cert.ReferenceLn3Ideal.main_arg2)) (m ((c.tc : Thread Cert.ReferenceLn3Ideal.nD Cert.ReferenceLn3Ideal.τ).loc Cert.ReferenceLn3Ideal.main_arg3)) (m ((c.tc : Thread Cert.ReferenceLn3Ideal.nD Cert.ReferenceLn3Ideal.τ).loc Cert.ReferenceLn3Ideal.main_arg4))).2.2.2.1 = (fun _ => 1#1)
    ∧ (Cert.Pre_finite_ln3.fn (F := Ideal) (m ((c.tc : Thread Cert.ReferenceLn3Ideal.nD Cert.ReferenceLn3Ideal.τ).loc Cert.ReferenceLn3Ideal.main_arg0)) (m ((c.tc : Thread Cert.ReferenceLn3Ideal.nD Cert.ReferenceLn3Ideal.τ).loc Cert.ReferenceLn3Ideal.main_arg1)) (m ((c.tc : Thread Cert.ReferenceLn3Ideal.nD Cert.ReferenceLn3Ideal.τ).loc Cert.ReferenceLn3Ideal.main_arg2)) (m ((c.tc : Thread Cert.ReferenceLn3Ideal.nD Cert.ReferenceLn3Ideal.τ).loc Cert.ReferenceLn3Ideal.main_arg3)) (m ((c.tc : Thread Cert.ReferenceLn3Ideal.nD Cert.ReferenceLn3Ideal.τ).loc Cert.ReferenceLn3Ideal.main_arg4))).2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelHgb (m : (ℓ : Loc Cert.KernelHgb.nD Cert.KernelHgb.τ Cert.KernelHgb.sig) → Buf (Elt Bits) ℓ) : Prop :=
  True

def Pre_KernelHgbIdeal (m : (ℓ : Loc Cert.KernelHgbIdeal.nD Cert.KernelHgbIdeal.τ Cert.KernelHgbIdeal.sig) → Buf (Elt Ideal) ℓ) : Prop :=
  True

def Pre_KernelHgf (m : (ℓ : Loc Cert.KernelHgf.nD Cert.KernelHgf.τ Cert.KernelHgf.sig) → Buf (Elt Bits) ℓ) : Prop :=
  True

def Pre_KernelHgfIdeal (m : (ℓ : Loc Cert.KernelHgfIdeal.nD Cert.KernelHgfIdeal.τ Cert.KernelHgfIdeal.sig) → Buf (Elt Ideal) ℓ) : Prop :=
  True

def Pre_KernelSbf (m : (ℓ : Loc Cert.KernelSbf.nD Cert.KernelSbf.τ Cert.KernelSbf.sig) → Buf (Elt Bits) ℓ) : Prop :=
  True

def Pre_KernelSbfIdeal (m : (ℓ : Loc Cert.KernelSbfIdeal.nD Cert.KernelSbfIdeal.τ Cert.KernelSbfIdeal.sig) → Buf (Elt Ideal) ℓ) : Prop :=
  True

def Pre_KernelSbfIdeal_finite_sbf [hPre_finite_sbf : Cert.Pre_finite_sbf.Facts] (m : (ℓ : Loc Cert.KernelSbfIdeal.nD Cert.KernelSbfIdeal.τ Cert.KernelSbfIdeal.sig) → Buf (Elt Ideal) ℓ) : Prop :=
  ∀ c : Dev Cert.KernelSbfIdeal.nD,
    (Cert.Pre_finite_sbf.fn (F := Ideal) (m ((c.tc : Thread Cert.KernelSbfIdeal.nD Cert.KernelSbfIdeal.τ).loc Cert.KernelSbfIdeal.main_arg0))) = (fun _ => 1#1)

def Pre_ReferenceSbfIdeal (m : (ℓ : Loc Cert.ReferenceSbfIdeal.nD Cert.ReferenceSbfIdeal.τ Cert.ReferenceSbfIdeal.sig) → Buf (Elt Ideal) ℓ) : Prop :=
  True

def Pre_ReferenceSbfIdeal_finite_sbf [hPre_finite_sbf : Cert.Pre_finite_sbf.Facts] (m : (ℓ : Loc Cert.ReferenceSbfIdeal.nD Cert.ReferenceSbfIdeal.τ Cert.ReferenceSbfIdeal.sig) → Buf (Elt Ideal) ℓ) : Prop :=
  ∀ c : Dev Cert.ReferenceSbfIdeal.nD,
    (Cert.Pre_finite_sbf.fn (F := Ideal) (m ((c.tc : Thread Cert.ReferenceSbfIdeal.nD Cert.ReferenceSbfIdeal.τ).loc Cert.ReferenceSbfIdeal.main_arg0))) = (fun _ => 1#1)

def Pre_KernelSbb (m : (ℓ : Loc Cert.KernelSbb.nD Cert.KernelSbb.τ Cert.KernelSbb.sig) → Buf (Elt Bits) ℓ) : Prop :=
  True

def Pre_KernelSbbIdeal (m : (ℓ : Loc Cert.KernelSbbIdeal.nD Cert.KernelSbbIdeal.τ Cert.KernelSbbIdeal.sig) → Buf (Elt Ideal) ℓ) : Prop :=
  True

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelDwn (m : (ℓ : Loc Cert.KernelDwn.nD Cert.KernelDwn.τ Cert.KernelDwn.sig) → Buf (Elt Bits) ℓ) : Prop :=
  True

def Pre_KernelDwnIdeal (m : (ℓ : Loc Cert.KernelDwnIdeal.nD Cert.KernelDwnIdeal.τ Cert.KernelDwnIdeal.sig) → Buf (Elt Ideal) ℓ) : Prop :=
  True

def Pre_ReferenceDwnIdeal (m : (ℓ : Loc Cert.ReferenceDwnIdeal.nD Cert.ReferenceDwnIdeal.τ Cert.ReferenceDwnIdeal.sig) → Buf (Elt Ideal) ℓ) : Prop :=
  True

def Pre_KernelInp (m : (ℓ : Loc Cert.KernelInp.nD Cert.KernelInp.τ Cert.KernelInp.sig) → Buf (Elt Bits) ℓ) : Prop :=
  True

def Pre_KernelInpIdeal (m : (ℓ : Loc Cert.KernelInpIdeal.nD Cert.KernelInpIdeal.τ Cert.KernelInpIdeal.sig) → Buf (Elt Ideal) ℓ) : Prop :=
  True

def Pre_ReferenceInpIdeal (m : (ℓ : Loc Cert.ReferenceInpIdeal.nD Cert.ReferenceInpIdeal.τ Cert.ReferenceInpIdeal.sig) → Buf (Elt Ideal) ℓ) : Prop :=
  True

def Pre_KernelGin (m : (ℓ : Loc Cert.KernelGin.nD Cert.KernelGin.τ Cert.KernelGin.sig) → Buf (Elt Bits) ℓ) : Prop :=
  True

def Pre_KernelGinIdeal (m : (ℓ : Loc Cert.KernelGinIdeal.nD Cert.KernelGinIdeal.τ Cert.KernelGinIdeal.sig) → Buf (Elt Ideal) ℓ) : Prop :=
  True

def Pre_ReferenceGinIdeal (m : (ℓ : Loc Cert.ReferenceGinIdeal.nD Cert.ReferenceGinIdeal.τ Cert.ReferenceGinIdeal.sig) → Buf (Elt Ideal) ℓ) : Prop :=
  True

def Pre_KernelGiw (m : (ℓ : Loc Cert.KernelGiw.nD Cert.KernelGiw.τ Cert.KernelGiw.sig) → Buf (Elt Bits) ℓ) : Prop :=
  True

def Pre_KernelGiwIdeal (m : (ℓ : Loc Cert.KernelGiwIdeal.nD Cert.KernelGiwIdeal.τ Cert.KernelGiwIdeal.sig) → Buf (Elt Ideal) ℓ) : Prop :=
  True

def Pre_ReferenceGiwIdeal (m : (ℓ : Loc Cert.ReferenceGiwIdeal.nD Cert.ReferenceGiwIdeal.τ Cert.ReferenceGiwIdeal.sig) → Buf (Elt Ideal) ℓ) : Prop :=
  True

def Pre_KernelFdh (m : (ℓ : Loc Cert.KernelFdh.nD Cert.KernelFdh.τ Cert.KernelFdh.sig) → Buf (Elt Bits) ℓ) : Prop :=
  True

def Pre_KernelFdhIdeal (m : (ℓ : Loc Cert.KernelFdhIdeal.nD Cert.KernelFdhIdeal.τ Cert.KernelFdhIdeal.sig) → Buf (Elt Ideal) ℓ) : Prop :=
  True

def Pre_ReferenceFdhIdeal (m : (ℓ : Loc Cert.ReferenceFdhIdeal.nD Cert.ReferenceFdhIdeal.τ Cert.ReferenceFdhIdeal.sig) → Buf (Elt Ideal) ℓ) : Prop :=
  True

def Pre_KernelGw (m : (ℓ : Loc Cert.KernelGw.nD Cert.KernelGw.τ Cert.KernelGw.sig) → Buf (Elt Bits) ℓ) : Prop :=
  True

def Pre_KernelGwIdeal (m : (ℓ : Loc Cert.KernelGwIdeal.nD Cert.KernelGwIdeal.τ Cert.KernelGwIdeal.sig) → Buf (Elt Ideal) ℓ) : Prop :=
  True

def Pre_ReferenceGwIdeal (m : (ℓ : Loc Cert.ReferenceGwIdeal.nD Cert.ReferenceGwIdeal.τ Cert.ReferenceGwIdeal.sig) → Buf (Elt Ideal) ℓ) : Prop :=
  True

def Pre_KernelGwr (m : (ℓ : Loc Cert.KernelGwr.nD Cert.KernelGwr.τ Cert.KernelGwr.sig) → Buf (Elt Bits) ℓ) : Prop :=
  True

def Pre_KernelGwrIdeal (m : (ℓ : Loc Cert.KernelGwrIdeal.nD Cert.KernelGwrIdeal.τ Cert.KernelGwrIdeal.sig) → Buf (Elt Ideal) ℓ) : Prop :=
  True

def Pre_ReferenceGwrIdeal (m : (ℓ : Loc Cert.ReferenceGwrIdeal.nD Cert.ReferenceGwrIdeal.τ Cert.ReferenceGwrIdeal.sig) → Buf (Elt Ideal) ℓ) : Prop :=
  True

def Pre_KernelFdw (m : (ℓ : Loc Cert.KernelFdw.nD Cert.KernelFdw.τ Cert.KernelFdw.sig) → Buf (Elt Bits) ℓ) : Prop :=
  True

def Pre_KernelFdwIdeal (m : (ℓ : Loc Cert.KernelFdwIdeal.nD Cert.KernelFdwIdeal.τ Cert.KernelFdwIdeal.sig) → Buf (Elt Ideal) ℓ) : Prop :=
  True

def Pre_ReferenceFdwIdeal (m : (ℓ : Loc Cert.ReferenceFdwIdeal.nD Cert.ReferenceFdwIdeal.τ Cert.ReferenceFdwIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def quiescent_KernelLb [hKernelLb : Cert.KernelLb.Facts] : Prop :=
  ∀ (m : (ℓ : Loc Cert.KernelLb.nD Cert.KernelLb.τ Cert.KernelLb.sig) → Buf (Elt Bits) ℓ) (g : Dev Cert.KernelLb.nD → PrngReg), Pre_KernelLb m →
    θ_run (Cert.KernelLb.defs (F := Bits)) (onTc (τ := Cert.KernelLb.τ) (Cert.KernelLb.main (F := Bits))) ⟨m, fun _ => 0, g⟩ (fun r => (∀ c : Dev Cert.KernelLb.nD,
      r.2.mem ((c.tc : Thread Cert.KernelLb.nD Cert.KernelLb.τ).loc Cert.KernelLb.main_arg0) = m ((c.tc : Thread Cert.KernelLb.nD Cert.KernelLb.τ).loc Cert.KernelLb.main_arg0)
      ∧ r.2.mem ((c.tc : Thread Cert.KernelLb.nD Cert.KernelLb.τ).loc Cert.KernelLb.main_arg1) = m ((c.tc : Thread Cert.KernelLb.nD Cert.KernelLb.τ).loc Cert.KernelLb.main_arg1))
      ∧ r.2.sem = fun _ => 0)

def quiescent_KernelLbIdeal [hKernelLbIdeal : Cert.KernelLbIdeal.Facts] : Prop :=
  ∀ (m : (ℓ : Loc Cert.KernelLbIdeal.nD Cert.KernelLbIdeal.τ Cert.KernelLbIdeal.sig) → Buf (Elt Ideal) ℓ) (g : Dev Cert.KernelLbIdeal.nD → PrngReg), Pre_KernelLbIdeal m →
    θ_run (Cert.KernelLbIdeal.defs (F := Ideal)) (onTc (τ := Cert.KernelLbIdeal.τ) (Cert.KernelLbIdeal.main (F := Ideal))) ⟨m, fun _ => 0, g⟩ (fun r => (∀ c : Dev Cert.KernelLbIdeal.nD,
      r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
      ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1))
      ∧ r.2.sem = fun _ => 0)

def quiescent_KernelLbIdeal_pre_finite_lb [hKernelLbIdeal : Cert.KernelLbIdeal.Facts] [hPre_finite_lb : Cert.Pre_finite_lb.Facts] : Prop :=
  ∀ (m : (ℓ : Loc Cert.KernelLbIdeal.nD Cert.KernelLbIdeal.τ Cert.KernelLbIdeal.sig) → Buf (Elt Ideal) ℓ) (g : Dev Cert.KernelLbIdeal.nD → PrngReg), Pre_KernelLbIdeal_finite_lb m →
    θ_run (Cert.KernelLbIdeal.defs (F := Ideal)) (onTc (τ := Cert.KernelLbIdeal.τ) (Cert.KernelLbIdeal.main (F := Ideal))) ⟨m, fun _ => 0, g⟩ (fun r => (∀ c : Dev Cert.KernelLbIdeal.nD,
      r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
      ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1))
      ∧ r.2.sem = fun _ => 0)

def quiescent_ReferenceLbIdeal [hReferenceLbIdeal : Cert.ReferenceLbIdeal.Facts] : Prop :=
  ∀ (m : (ℓ : Loc Cert.ReferenceLbIdeal.nD Cert.ReferenceLbIdeal.τ Cert.ReferenceLbIdeal.sig) → Buf (Elt Ideal) ℓ) (g : Dev Cert.ReferenceLbIdeal.nD → PrngReg), Pre_ReferenceLbIdeal m →
    θ_run (Cert.ReferenceLbIdeal.defs (F := Ideal)) (onTc (τ := Cert.ReferenceLbIdeal.τ) (Cert.ReferenceLbIdeal.main (F := Ideal))) ⟨m, fun _ => 0, g⟩ (fun r => (∀ c : Dev Cert.ReferenceLbIdeal.nD,
      r.2.mem ((c.tc : Thread Cert.ReferenceLbIdeal.nD Cert.ReferenceLbIdeal.τ).loc Cert.ReferenceLbIdeal.main_arg0) = m ((c.tc : Thread Cert.ReferenceLbIdeal.nD Cert.ReferenceLbIdeal.τ).loc Cert.ReferenceLbIdeal.main_arg0)
      ∧ r.2.mem ((c.tc : Thread Cert.ReferenceLbIdeal.nD Cert.ReferenceLbIdeal.τ).loc Cert.ReferenceLbIdeal.main_arg1) = m ((c.tc : Thread Cert.ReferenceLbIdeal.nD Cert.ReferenceLbIdeal.τ).loc Cert.ReferenceLbIdeal.main_arg1))
      ∧ r.2.sem = fun _ => 0)

def quiescent_ReferenceLbIdeal_pre_finite_lb [hReferenceLbIdeal : Cert.ReferenceLbIdeal.Facts] [hPre_finite_lb : Cert.Pre_finite_lb.Facts] : Prop :=
  ∀ (m : (ℓ : Loc Cert.ReferenceLbIdeal.nD Cert.ReferenceLbIdeal.τ Cert.ReferenceLbIdeal.sig) → Buf (Elt Ideal) ℓ) (g : Dev Cert.ReferenceLbIdeal.nD → PrngReg), Pre_ReferenceLbIdeal_finite_lb m →
    θ_run (Cert.ReferenceLbIdeal.defs (F := Ideal)) (onTc (τ := Cert.ReferenceLbIdeal.τ) (Cert.ReferenceLbIdeal.main (F := Ideal))) ⟨m, fun _ => 0, g⟩ (fun r => (∀ c : Dev Cert.ReferenceLbIdeal.nD,
      r.2.mem ((c.tc : Thread Cert.ReferenceLbIdeal.nD Cert.ReferenceLbIdeal.τ).loc Cert.ReferenceLbIdeal.main_arg0) = m ((c.tc : Thread Cert.ReferenceLbIdeal.nD Cert.ReferenceLbIdeal.τ).loc Cert.ReferenceLbIdeal.main_arg0)
      ∧ r.2.mem ((c.tc : Thread Cert.ReferenceLbIdeal.nD Cert.ReferenceLbIdeal.τ).loc Cert.ReferenceLbIdeal.main_arg1) = m ((c.tc : Thread Cert.ReferenceLbIdeal.nD Cert.ReferenceLbIdeal.τ).loc Cert.ReferenceLbIdeal.main_arg1))
      ∧ r.2.sem = fun _ => 0)

def quiescent_KernelLn2 [hKernelLn2 : Cert.KernelLn2.Facts] : Prop :=
  ∀ (m : (ℓ : Loc Cert.KernelLn2.nD Cert.KernelLn2.τ Cert.KernelLn2.sig) → Buf (Elt Bits) ℓ) (g : Dev Cert.KernelLn2.nD → PrngReg), Pre_KernelLn2 m →
    θ_run (Cert.KernelLn2.defs (F := Bits)) (onTc (τ := Cert.KernelLn2.τ) (Cert.KernelLn2.main (F := Bits))) ⟨m, fun _ => 0, g⟩ (fun r => (∀ c : Dev Cert.KernelLn2.nD,
      r.2.mem ((c.tc : Thread Cert.KernelLn2.nD Cert.KernelLn2.τ).loc Cert.KernelLn2.main_arg0) = m ((c.tc : Thread Cert.KernelLn2.nD Cert.KernelLn2.τ).loc Cert.KernelLn2.main_arg0)
      ∧ r.2.mem ((c.tc : Thread Cert.KernelLn2.nD Cert.KernelLn2.τ).loc Cert.KernelLn2.main_arg1) = m ((c.tc : Thread Cert.KernelLn2.nD Cert.KernelLn2.τ).loc Cert.KernelLn2.main_arg1)
      ∧ r.2.mem ((c.tc : Thread Cert.KernelLn2.nD Cert.KernelLn2.τ).loc Cert.KernelLn2.main_arg2) = m ((c.tc : Thread Cert.KernelLn2.nD Cert.KernelLn2.τ).loc Cert.KernelLn2.main_arg2)
      ∧ r.2.mem ((c.tc : Thread Cert.KernelLn2.nD Cert.KernelLn2.τ).loc Cert.KernelLn2.main_arg3) = m ((c.tc : Thread Cert.KernelLn2.nD Cert.KernelLn2.τ).loc Cert.KernelLn2.main_arg3)
      ∧ r.2.mem ((c.tc : Thread Cert.KernelLn2.nD Cert.KernelLn2.τ).loc Cert.KernelLn2.main_arg4) = m ((c.tc : Thread Cert.KernelLn2.nD Cert.KernelLn2.τ).loc Cert.KernelLn2.main_arg4))
      ∧ r.2.sem = fun _ => 0)

def quiescent_KernelLn2Ideal [hKernelLn2Ideal : Cert.KernelLn2Ideal.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg), Pre_KernelLn2Ideal m →
    θ_run (Cert.KernelLn2Ideal.defs (F := Ideal)) (onTc (τ := Cert.KernelLn2Ideal.τ) (Cert.KernelLn2Ideal.main (F := Ideal))) ⟨m, fun _ => 0, g⟩ (fun r => (∀ c : Dev Cert.KernelLn2Ideal.nD,
      r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
      ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
      ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
      ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
      ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4))
      ∧ r.2.sem = fun _ => 0)

def quiescent_KernelLn2Ideal_pre_finite_ln2 [hKernelLn2Ideal : Cert.KernelLn2Ideal.Facts] [hPre_finite_ln2 : Cert.Pre_finite_ln2.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg), Pre_KernelLn2Ideal_finite_ln2 m →
    θ_run (Cert.KernelLn2Ideal.defs (F := Ideal)) (onTc (τ := Cert.KernelLn2Ideal.τ) (Cert.KernelLn2Ideal.main (F := Ideal))) ⟨m, fun _ => 0, g⟩ (fun r => (∀ c : Dev Cert.KernelLn2Ideal.nD,
      r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
      ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
      ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
      ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
      ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4))
      ∧ r.2.sem = fun _ => 0)

def quiescent_ReferenceLn2Ideal [hReferenceLn2Ideal : Cert.ReferenceLn2Ideal.Facts] : Prop :=
  ∀ (m : (ℓ : Loc Cert.ReferenceLn2Ideal.nD Cert.ReferenceLn2Ideal.τ Cert.ReferenceLn2Ideal.sig) → Buf (Elt Ideal) ℓ) (g : Dev Cert.ReferenceLn2Ideal.nD → PrngReg), Pre_ReferenceLn2Ideal m →
    θ_run (Cert.ReferenceLn2Ideal.defs (F := Ideal)) (onTc (τ := Cert.ReferenceLn2Ideal.τ) (Cert.ReferenceLn2Ideal.main (F := Ideal))) ⟨m, fun _ => 0, g⟩ (fun r => (∀ c : Dev Cert.ReferenceLn2Ideal.nD,
      r.2.mem ((c.tc : Thread Cert.ReferenceLn2Ideal.nD Cert.ReferenceLn2Ideal.τ).loc Cert.ReferenceLn2Ideal.main_arg0) = m ((c.tc : Thread Cert.ReferenceLn2Ideal.nD Cert.ReferenceLn2Ideal.τ).loc Cert.ReferenceLn2Ideal.main_arg0)
      ∧ r.2.mem ((c.tc : Thread Cert.ReferenceLn2Ideal.nD Cert.ReferenceLn2Ideal.τ).loc Cert.ReferenceLn2Ideal.main_arg1) = m ((c.tc : Thread Cert.ReferenceLn2Ideal.nD Cert.ReferenceLn2Ideal.τ).loc Cert.ReferenceLn2Ideal.main_arg1)
      ∧ r.2.mem ((c.tc : Thread Cert.ReferenceLn2Ideal.nD Cert.ReferenceLn2Ideal.τ).loc Cert.ReferenceLn2Ideal.main_arg2) = m ((c.tc : Thread Cert.ReferenceLn2Ideal.nD Cert.ReferenceLn2Ideal.τ).loc Cert.ReferenceLn2Ideal.main_arg2)
      ∧ r.2.mem ((c.tc : Thread Cert.ReferenceLn2Ideal.nD Cert.ReferenceLn2Ideal.τ).loc Cert.ReferenceLn2Ideal.main_arg3) = m ((c.tc : Thread Cert.ReferenceLn2Ideal.nD Cert.ReferenceLn2Ideal.τ).loc Cert.ReferenceLn2Ideal.main_arg3)
      ∧ r.2.mem ((c.tc : Thread Cert.ReferenceLn2Ideal.nD Cert.ReferenceLn2Ideal.τ).loc Cert.ReferenceLn2Ideal.main_arg4) = m ((c.tc : Thread Cert.ReferenceLn2Ideal.nD Cert.ReferenceLn2Ideal.τ).loc Cert.ReferenceLn2Ideal.main_arg4))
      ∧ r.2.sem = fun _ => 0)

def quiescent_ReferenceLn2Ideal_pre_finite_ln2 [hReferenceLn2Ideal : Cert.ReferenceLn2Ideal.Facts] [hPre_finite_ln2 : Cert.Pre_finite_ln2.Facts] : Prop :=
  ∀ (m : (ℓ : Loc Cert.ReferenceLn2Ideal.nD Cert.ReferenceLn2Ideal.τ Cert.ReferenceLn2Ideal.sig) → Buf (Elt Ideal) ℓ) (g : Dev Cert.ReferenceLn2Ideal.nD → PrngReg), Pre_ReferenceLn2Ideal_finite_ln2 m →
    θ_run (Cert.ReferenceLn2Ideal.defs (F := Ideal)) (onTc (τ := Cert.ReferenceLn2Ideal.τ) (Cert.ReferenceLn2Ideal.main (F := Ideal))) ⟨m, fun _ => 0, g⟩ (fun r => (∀ c : Dev Cert.ReferenceLn2Ideal.nD,
      r.2.mem ((c.tc : Thread Cert.ReferenceLn2Ideal.nD Cert.ReferenceLn2Ideal.τ).loc Cert.ReferenceLn2Ideal.main_arg0) = m ((c.tc : Thread Cert.ReferenceLn2Ideal.nD Cert.ReferenceLn2Ideal.τ).loc Cert.ReferenceLn2Ideal.main_arg0)
      ∧ r.2.mem ((c.tc : Thread Cert.ReferenceLn2Ideal.nD Cert.ReferenceLn2Ideal.τ).loc Cert.ReferenceLn2Ideal.main_arg1) = m ((c.tc : Thread Cert.ReferenceLn2Ideal.nD Cert.ReferenceLn2Ideal.τ).loc Cert.ReferenceLn2Ideal.main_arg1)
      ∧ r.2.mem ((c.tc : Thread Cert.ReferenceLn2Ideal.nD Cert.ReferenceLn2Ideal.τ).loc Cert.ReferenceLn2Ideal.main_arg2) = m ((c.tc : Thread Cert.ReferenceLn2Ideal.nD Cert.ReferenceLn2Ideal.τ).loc Cert.ReferenceLn2Ideal.main_arg2)
      ∧ r.2.mem ((c.tc : Thread Cert.ReferenceLn2Ideal.nD Cert.ReferenceLn2Ideal.τ).loc Cert.ReferenceLn2Ideal.main_arg3) = m ((c.tc : Thread Cert.ReferenceLn2Ideal.nD Cert.ReferenceLn2Ideal.τ).loc Cert.ReferenceLn2Ideal.main_arg3)
      ∧ r.2.mem ((c.tc : Thread Cert.ReferenceLn2Ideal.nD Cert.ReferenceLn2Ideal.τ).loc Cert.ReferenceLn2Ideal.main_arg4) = m ((c.tc : Thread Cert.ReferenceLn2Ideal.nD Cert.ReferenceLn2Ideal.τ).loc Cert.ReferenceLn2Ideal.main_arg4))
      ∧ r.2.sem = fun _ => 0)

def quiescent_KernelLn3 [hKernelLn3 : Cert.KernelLn3.Facts] : Prop :=
  ∀ (m : (ℓ : Loc Cert.KernelLn3.nD Cert.KernelLn3.τ Cert.KernelLn3.sig) → Buf (Elt Bits) ℓ) (g : Dev Cert.KernelLn3.nD → PrngReg), Pre_KernelLn3 m →
    θ_run (Cert.KernelLn3.defs (F := Bits)) (onTc (τ := Cert.KernelLn3.τ) (Cert.KernelLn3.main (F := Bits))) ⟨m, fun _ => 0, g⟩ (fun r => (∀ c : Dev Cert.KernelLn3.nD,
      r.2.mem ((c.tc : Thread Cert.KernelLn3.nD Cert.KernelLn3.τ).loc Cert.KernelLn3.main_arg0) = m ((c.tc : Thread Cert.KernelLn3.nD Cert.KernelLn3.τ).loc Cert.KernelLn3.main_arg0)
      ∧ r.2.mem ((c.tc : Thread Cert.KernelLn3.nD Cert.KernelLn3.τ).loc Cert.KernelLn3.main_arg1) = m ((c.tc : Thread Cert.KernelLn3.nD Cert.KernelLn3.τ).loc Cert.KernelLn3.main_arg1)
      ∧ r.2.mem ((c.tc : Thread Cert.KernelLn3.nD Cert.KernelLn3.τ).loc Cert.KernelLn3.main_arg2) = m ((c.tc : Thread Cert.KernelLn3.nD Cert.KernelLn3.τ).loc Cert.KernelLn3.main_arg2)
      ∧ r.2.mem ((c.tc : Thread Cert.KernelLn3.nD Cert.KernelLn3.τ).loc Cert.KernelLn3.main_arg3) = m ((c.tc : Thread Cert.KernelLn3.nD Cert.KernelLn3.τ).loc Cert.KernelLn3.main_arg3)
      ∧ r.2.mem ((c.tc : Thread Cert.KernelLn3.nD Cert.KernelLn3.τ).loc Cert.KernelLn3.main_arg4) = m ((c.tc : Thread Cert.KernelLn3.nD Cert.KernelLn3.τ).loc Cert.KernelLn3.main_arg4))
      ∧ r.2.sem = fun _ => 0)

def quiescent_KernelLn3Ideal [hKernelLn3Ideal : Cert.KernelLn3Ideal.Facts] : Prop :=
  ∀ (m : (ℓ : Loc Cert.KernelLn3Ideal.nD Cert.KernelLn3Ideal.τ Cert.KernelLn3Ideal.sig) → Buf (Elt Ideal) ℓ) (g : Dev Cert.KernelLn3Ideal.nD → PrngReg), Pre_KernelLn3Ideal m →
    θ_run (Cert.KernelLn3Ideal.defs (F := Ideal)) (onTc (τ := Cert.KernelLn3Ideal.τ) (Cert.KernelLn3Ideal.main (F := Ideal))) ⟨m, fun _ => 0, g⟩ (fun r => (∀ c : Dev Cert.KernelLn3Ideal.nD,
      r.2.mem ((c.tc : Thread Cert.KernelLn3Ideal.nD Cert.KernelLn3Ideal.τ).loc Cert.KernelLn3Ideal.main_arg0) = m ((c.tc : Thread Cert.KernelLn3Ideal.nD Cert.KernelLn3Ideal.τ).loc Cert.KernelLn3Ideal.main_arg0)
      ∧ r.2.mem ((c.tc : Thread Cert.KernelLn3Ideal.nD Cert.KernelLn3Ideal.τ).loc Cert.KernelLn3Ideal.main_arg1) = m ((c.tc : Thread Cert.KernelLn3Ideal.nD Cert.KernelLn3Ideal.τ).loc Cert.KernelLn3Ideal.main_arg1)
      ∧ r.2.mem ((c.tc : Thread Cert.KernelLn3Ideal.nD Cert.KernelLn3Ideal.τ).loc Cert.KernelLn3Ideal.main_arg2) = m ((c.tc : Thread Cert.KernelLn3Ideal.nD Cert.KernelLn3Ideal.τ).loc Cert.KernelLn3Ideal.main_arg2)
      ∧ r.2.mem ((c.tc : Thread Cert.KernelLn3Ideal.nD Cert.KernelLn3Ideal.τ).loc Cert.KernelLn3Ideal.main_arg3) = m ((c.tc : Thread Cert.KernelLn3Ideal.nD Cert.KernelLn3Ideal.τ).loc Cert.KernelLn3Ideal.main_arg3)
      ∧ r.2.mem ((c.tc : Thread Cert.KernelLn3Ideal.nD Cert.KernelLn3Ideal.τ).loc Cert.KernelLn3Ideal.main_arg4) = m ((c.tc : Thread Cert.KernelLn3Ideal.nD Cert.KernelLn3Ideal.τ).loc Cert.KernelLn3Ideal.main_arg4))
      ∧ r.2.sem = fun _ => 0)

def quiescent_KernelLn3Ideal_pre_finite_ln3 [hKernelLn3Ideal : Cert.KernelLn3Ideal.Facts] [hPre_finite_ln3 : Cert.Pre_finite_ln3.Facts] : Prop :=
  ∀ (m : (ℓ : Loc Cert.KernelLn3Ideal.nD Cert.KernelLn3Ideal.τ Cert.KernelLn3Ideal.sig) → Buf (Elt Ideal) ℓ) (g : Dev Cert.KernelLn3Ideal.nD → PrngReg), Pre_KernelLn3Ideal_finite_ln3 m →
    θ_run (Cert.KernelLn3Ideal.defs (F := Ideal)) (onTc (τ := Cert.KernelLn3Ideal.τ) (Cert.KernelLn3Ideal.main (F := Ideal))) ⟨m, fun _ => 0, g⟩ (fun r => (∀ c : Dev Cert.KernelLn3Ideal.nD,
      r.2.mem ((c.tc : Thread Cert.KernelLn3Ideal.nD Cert.KernelLn3Ideal.τ).loc Cert.KernelLn3Ideal.main_arg0) = m ((c.tc : Thread Cert.KernelLn3Ideal.nD Cert.KernelLn3Ideal.τ).loc Cert.KernelLn3Ideal.main_arg0)
      ∧ r.2.mem ((c.tc : Thread Cert.KernelLn3Ideal.nD Cert.KernelLn3Ideal.τ).loc Cert.KernelLn3Ideal.main_arg1) = m ((c.tc : Thread Cert.KernelLn3Ideal.nD Cert.KernelLn3Ideal.τ).loc Cert.KernelLn3Ideal.main_arg1)
      ∧ r.2.mem ((c.tc : Thread Cert.KernelLn3Ideal.nD Cert.KernelLn3Ideal.τ).loc Cert.KernelLn3Ideal.main_arg2) = m ((c.tc : Thread Cert.KernelLn3Ideal.nD Cert.KernelLn3Ideal.τ).loc Cert.KernelLn3Ideal.main_arg2)
      ∧ r.2.mem ((c.tc : Thread Cert.KernelLn3Ideal.nD Cert.KernelLn3Ideal.τ).loc Cert.KernelLn3Ideal.main_arg3) = m ((c.tc : Thread Cert.KernelLn3Ideal.nD Cert.KernelLn3Ideal.τ).loc Cert.KernelLn3Ideal.main_arg3)
      ∧ r.2.mem ((c.tc : Thread Cert.KernelLn3Ideal.nD Cert.KernelLn3Ideal.τ).loc Cert.KernelLn3Ideal.main_arg4) = m ((c.tc : Thread Cert.KernelLn3Ideal.nD Cert.KernelLn3Ideal.τ).loc Cert.KernelLn3Ideal.main_arg4))
      ∧ r.2.sem = fun _ => 0)

def quiescent_ReferenceLn3Ideal [hReferenceLn3Ideal : Cert.ReferenceLn3Ideal.Facts] : Prop :=
  ∀ (m : (ℓ : Loc Cert.ReferenceLn3Ideal.nD Cert.ReferenceLn3Ideal.τ Cert.ReferenceLn3Ideal.sig) → Buf (Elt Ideal) ℓ) (g : Dev Cert.ReferenceLn3Ideal.nD → PrngReg), Pre_ReferenceLn3Ideal m →
    θ_run (Cert.ReferenceLn3Ideal.defs (F := Ideal)) (onTc (τ := Cert.ReferenceLn3Ideal.τ) (Cert.ReferenceLn3Ideal.main (F := Ideal))) ⟨m, fun _ => 0, g⟩ (fun r => (∀ c : Dev Cert.ReferenceLn3Ideal.nD,
      r.2.mem ((c.tc : Thread Cert.ReferenceLn3Ideal.nD Cert.ReferenceLn3Ideal.τ).loc Cert.ReferenceLn3Ideal.main_arg0) = m ((c.tc : Thread Cert.ReferenceLn3Ideal.nD Cert.ReferenceLn3Ideal.τ).loc Cert.ReferenceLn3Ideal.main_arg0)
      ∧ r.2.mem ((c.tc : Thread Cert.ReferenceLn3Ideal.nD Cert.ReferenceLn3Ideal.τ).loc Cert.ReferenceLn3Ideal.main_arg1) = m ((c.tc : Thread Cert.ReferenceLn3Ideal.nD Cert.ReferenceLn3Ideal.τ).loc Cert.ReferenceLn3Ideal.main_arg1)
      ∧ r.2.mem ((c.tc : Thread Cert.ReferenceLn3Ideal.nD Cert.ReferenceLn3Ideal.τ).loc Cert.ReferenceLn3Ideal.main_arg2) = m ((c.tc : Thread Cert.ReferenceLn3Ideal.nD Cert.ReferenceLn3Ideal.τ).loc Cert.ReferenceLn3Ideal.main_arg2)
      ∧ r.2.mem ((c.tc : Thread Cert.ReferenceLn3Ideal.nD Cert.ReferenceLn3Ideal.τ).loc Cert.ReferenceLn3Ideal.main_arg3) = m ((c.tc : Thread Cert.ReferenceLn3Ideal.nD Cert.ReferenceLn3Ideal.τ).loc Cert.ReferenceLn3Ideal.main_arg3)
      ∧ r.2.mem ((c.tc : Thread Cert.ReferenceLn3Ideal.nD Cert.ReferenceLn3Ideal.τ).loc Cert.ReferenceLn3Ideal.main_arg4) = m ((c.tc : Thread Cert.ReferenceLn3Ideal.nD Cert.ReferenceLn3Ideal.τ).loc Cert.ReferenceLn3Ideal.main_arg4))
      ∧ r.2.sem = fun _ => 0)

def quiescent_ReferenceLn3Ideal_pre_finite_ln3 [hReferenceLn3Ideal : Cert.ReferenceLn3Ideal.Facts] [hPre_finite_ln3 : Cert.Pre_finite_ln3.Facts] : Prop :=
  ∀ (m : (ℓ : Loc Cert.ReferenceLn3Ideal.nD Cert.ReferenceLn3Ideal.τ Cert.ReferenceLn3Ideal.sig) → Buf (Elt Ideal) ℓ) (g : Dev Cert.ReferenceLn3Ideal.nD → PrngReg), Pre_ReferenceLn3Ideal_finite_ln3 m →
    θ_run (Cert.ReferenceLn3Ideal.defs (F := Ideal)) (onTc (τ := Cert.ReferenceLn3Ideal.τ) (Cert.ReferenceLn3Ideal.main (F := Ideal))) ⟨m, fun _ => 0, g⟩ (fun r => (∀ c : Dev Cert.ReferenceLn3Ideal.nD,
      r.2.mem ((c.tc : Thread Cert.ReferenceLn3Ideal.nD Cert.ReferenceLn3Ideal.τ).loc Cert.ReferenceLn3Ideal.main_arg0) = m ((c.tc : Thread Cert.ReferenceLn3Ideal.nD Cert.ReferenceLn3Ideal.τ).loc Cert.ReferenceLn3Ideal.main_arg0)
      ∧ r.2.mem ((c.tc : Thread Cert.ReferenceLn3Ideal.nD Cert.ReferenceLn3Ideal.τ).loc Cert.ReferenceLn3Ideal.main_arg1) = m ((c.tc : Thread Cert.ReferenceLn3Ideal.nD Cert.ReferenceLn3Ideal.τ).loc Cert.ReferenceLn3Ideal.main_arg1)
      ∧ r.2.mem ((c.tc : Thread Cert.ReferenceLn3Ideal.nD Cert.ReferenceLn3Ideal.τ).loc Cert.ReferenceLn3Ideal.main_arg2) = m ((c.tc : Thread Cert.ReferenceLn3Ideal.nD Cert.ReferenceLn3Ideal.τ).loc Cert.ReferenceLn3Ideal.main_arg2)
      ∧ r.2.mem ((c.tc : Thread Cert.ReferenceLn3Ideal.nD Cert.ReferenceLn3Ideal.τ).loc Cert.ReferenceLn3Ideal.main_arg3) = m ((c.tc : Thread Cert.ReferenceLn3Ideal.nD Cert.ReferenceLn3Ideal.τ).loc Cert.ReferenceLn3Ideal.main_arg3)
      ∧ r.2.mem ((c.tc : Thread Cert.ReferenceLn3Ideal.nD Cert.ReferenceLn3Ideal.τ).loc Cert.ReferenceLn3Ideal.main_arg4) = m ((c.tc : Thread Cert.ReferenceLn3Ideal.nD Cert.ReferenceLn3Ideal.τ).loc Cert.ReferenceLn3Ideal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelHgb [hKernelHgb : Cert.KernelHgb.Facts] : Prop :=
  ∀ (m : (ℓ : Loc Cert.KernelHgb.nD Cert.KernelHgb.τ Cert.KernelHgb.sig) → Buf (Elt Bits) ℓ) (g : Dev Cert.KernelHgb.nD → PrngReg), Pre_KernelHgb m →
    θ_run (Cert.KernelHgb.defs (F := Bits)) (onTc (τ := Cert.KernelHgb.τ) (Cert.KernelHgb.main (F := Bits))) ⟨m, fun _ => 0, g⟩ (fun r => (∀ c : Dev Cert.KernelHgb.nD,
      r.2.mem ((c.tc : Thread Cert.KernelHgb.nD Cert.KernelHgb.τ).loc Cert.KernelHgb.main_arg0) = m ((c.tc : Thread Cert.KernelHgb.nD Cert.KernelHgb.τ).loc Cert.KernelHgb.main_arg0)
      ∧ r.2.mem ((c.tc : Thread Cert.KernelHgb.nD Cert.KernelHgb.τ).loc Cert.KernelHgb.main_arg1) = m ((c.tc : Thread Cert.KernelHgb.nD Cert.KernelHgb.τ).loc Cert.KernelHgb.main_arg1)
      ∧ r.2.mem ((c.tc : Thread Cert.KernelHgb.nD Cert.KernelHgb.τ).loc Cert.KernelHgb.main_arg2) = m ((c.tc : Thread Cert.KernelHgb.nD Cert.KernelHgb.τ).loc Cert.KernelHgb.main_arg2)
      ∧ r.2.mem ((c.tc : Thread Cert.KernelHgb.nD Cert.KernelHgb.τ).loc Cert.KernelHgb.main_arg3) = m ((c.tc : Thread Cert.KernelHgb.nD Cert.KernelHgb.τ).loc Cert.KernelHgb.main_arg3)
      ∧ r.2.mem ((c.tc : Thread Cert.KernelHgb.nD Cert.KernelHgb.τ).loc Cert.KernelHgb.main_arg4) = m ((c.tc : Thread Cert.KernelHgb.nD Cert.KernelHgb.τ).loc Cert.KernelHgb.main_arg4)
      ∧ r.2.mem ((c.tc : Thread Cert.KernelHgb.nD Cert.KernelHgb.τ).loc Cert.KernelHgb.main_arg5) = m ((c.tc : Thread Cert.KernelHgb.nD Cert.KernelHgb.τ).loc Cert.KernelHgb.main_arg5))
      ∧ r.2.sem = fun _ => 0)

def quiescent_KernelHgbIdeal [hKernelHgbIdeal : Cert.KernelHgbIdeal.Facts] : Prop :=
  ∀ (m : (ℓ : Loc Cert.KernelHgbIdeal.nD Cert.KernelHgbIdeal.τ Cert.KernelHgbIdeal.sig) → Buf (Elt Ideal) ℓ) (g : Dev Cert.KernelHgbIdeal.nD → PrngReg), Pre_KernelHgbIdeal m →
    θ_run (Cert.KernelHgbIdeal.defs (F := Ideal)) (onTc (τ := Cert.KernelHgbIdeal.τ) (Cert.KernelHgbIdeal.main (F := Ideal))) ⟨m, fun _ => 0, g⟩ (fun r => (∀ c : Dev Cert.KernelHgbIdeal.nD,
      r.2.mem ((c.tc : Thread Cert.KernelHgbIdeal.nD Cert.KernelHgbIdeal.τ).loc Cert.KernelHgbIdeal.main_arg0) = m ((c.tc : Thread Cert.KernelHgbIdeal.nD Cert.KernelHgbIdeal.τ).loc Cert.KernelHgbIdeal.main_arg0)
      ∧ r.2.mem ((c.tc : Thread Cert.KernelHgbIdeal.nD Cert.KernelHgbIdeal.τ).loc Cert.KernelHgbIdeal.main_arg1) = m ((c.tc : Thread Cert.KernelHgbIdeal.nD Cert.KernelHgbIdeal.τ).loc Cert.KernelHgbIdeal.main_arg1)
      ∧ r.2.mem ((c.tc : Thread Cert.KernelHgbIdeal.nD Cert.KernelHgbIdeal.τ).loc Cert.KernelHgbIdeal.main_arg2) = m ((c.tc : Thread Cert.KernelHgbIdeal.nD Cert.KernelHgbIdeal.τ).loc Cert.KernelHgbIdeal.main_arg2)
      ∧ r.2.mem ((c.tc : Thread Cert.KernelHgbIdeal.nD Cert.KernelHgbIdeal.τ).loc Cert.KernelHgbIdeal.main_arg3) = m ((c.tc : Thread Cert.KernelHgbIdeal.nD Cert.KernelHgbIdeal.τ).loc Cert.KernelHgbIdeal.main_arg3)
      ∧ r.2.mem ((c.tc : Thread Cert.KernelHgbIdeal.nD Cert.KernelHgbIdeal.τ).loc Cert.KernelHgbIdeal.main_arg4) = m ((c.tc : Thread Cert.KernelHgbIdeal.nD Cert.KernelHgbIdeal.τ).loc Cert.KernelHgbIdeal.main_arg4)
      ∧ r.2.mem ((c.tc : Thread Cert.KernelHgbIdeal.nD Cert.KernelHgbIdeal.τ).loc Cert.KernelHgbIdeal.main_arg5) = m ((c.tc : Thread Cert.KernelHgbIdeal.nD Cert.KernelHgbIdeal.τ).loc Cert.KernelHgbIdeal.main_arg5))
      ∧ r.2.sem = fun _ => 0)

def quiescent_KernelHgf [hKernelHgf : Cert.KernelHgf.Facts] : Prop :=
  ∀ (m : (ℓ : Loc Cert.KernelHgf.nD Cert.KernelHgf.τ Cert.KernelHgf.sig) → Buf (Elt Bits) ℓ) (g : Dev Cert.KernelHgf.nD → PrngReg), Pre_KernelHgf m →
    θ_run (Cert.KernelHgf.defs (F := Bits)) (onTc (τ := Cert.KernelHgf.τ) (Cert.KernelHgf.main (F := Bits))) ⟨m, fun _ => 0, g⟩ (fun r => (∀ c : Dev Cert.KernelHgf.nD,
      r.2.mem ((c.tc : Thread Cert.KernelHgf.nD Cert.KernelHgf.τ).loc Cert.KernelHgf.main_arg0) = m ((c.tc : Thread Cert.KernelHgf.nD Cert.KernelHgf.τ).loc Cert.KernelHgf.main_arg0)
      ∧ r.2.mem ((c.tc : Thread Cert.KernelHgf.nD Cert.KernelHgf.τ).loc Cert.KernelHgf.main_arg1) = m ((c.tc : Thread Cert.KernelHgf.nD Cert.KernelHgf.τ).loc Cert.KernelHgf.main_arg1)
      ∧ r.2.mem ((c.tc : Thread Cert.KernelHgf.nD Cert.KernelHgf.τ).loc Cert.KernelHgf.main_arg2) = m ((c.tc : Thread Cert.KernelHgf.nD Cert.KernelHgf.τ).loc Cert.KernelHgf.main_arg2))
      ∧ r.2.sem = fun _ => 0)

def quiescent_KernelHgfIdeal [hKernelHgfIdeal : Cert.KernelHgfIdeal.Facts] : Prop :=
  ∀ (m : (ℓ : Loc Cert.KernelHgfIdeal.nD Cert.KernelHgfIdeal.τ Cert.KernelHgfIdeal.sig) → Buf (Elt Ideal) ℓ) (g : Dev Cert.KernelHgfIdeal.nD → PrngReg), Pre_KernelHgfIdeal m →
    θ_run (Cert.KernelHgfIdeal.defs (F := Ideal)) (onTc (τ := Cert.KernelHgfIdeal.τ) (Cert.KernelHgfIdeal.main (F := Ideal))) ⟨m, fun _ => 0, g⟩ (fun r => (∀ c : Dev Cert.KernelHgfIdeal.nD,
      r.2.mem ((c.tc : Thread Cert.KernelHgfIdeal.nD Cert.KernelHgfIdeal.τ).loc Cert.KernelHgfIdeal.main_arg0) = m ((c.tc : Thread Cert.KernelHgfIdeal.nD Cert.KernelHgfIdeal.τ).loc Cert.KernelHgfIdeal.main_arg0)
      ∧ r.2.mem ((c.tc : Thread Cert.KernelHgfIdeal.nD Cert.KernelHgfIdeal.τ).loc Cert.KernelHgfIdeal.main_arg1) = m ((c.tc : Thread Cert.KernelHgfIdeal.nD Cert.KernelHgfIdeal.τ).loc Cert.KernelHgfIdeal.main_arg1)
      ∧ r.2.mem ((c.tc : Thread Cert.KernelHgfIdeal.nD Cert.KernelHgfIdeal.τ).loc Cert.KernelHgfIdeal.main_arg2) = m ((c.tc : Thread Cert.KernelHgfIdeal.nD Cert.KernelHgfIdeal.τ).loc Cert.KernelHgfIdeal.main_arg2))
      ∧ r.2.sem = fun _ => 0)

def quiescent_KernelSbf [hKernelSbf : Cert.KernelSbf.Facts] : Prop :=
  ∀ (m : (ℓ : Loc Cert.KernelSbf.nD Cert.KernelSbf.τ Cert.KernelSbf.sig) → Buf (Elt Bits) ℓ) (g : Dev Cert.KernelSbf.nD → PrngReg), Pre_KernelSbf m →
    θ_run (Cert.KernelSbf.defs (F := Bits)) (onTc (τ := Cert.KernelSbf.τ) (Cert.KernelSbf.main (F := Bits))) ⟨m, fun _ => 0, g⟩ (fun r => (∀ c : Dev Cert.KernelSbf.nD,
      r.2.mem ((c.tc : Thread Cert.KernelSbf.nD Cert.KernelSbf.τ).loc Cert.KernelSbf.main_arg0) = m ((c.tc : Thread Cert.KernelSbf.nD Cert.KernelSbf.τ).loc Cert.KernelSbf.main_arg0))
      ∧ r.2.sem = fun _ => 0)

def quiescent_KernelSbfIdeal [hKernelSbfIdeal : Cert.KernelSbfIdeal.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg), Pre_KernelSbfIdeal m →
    θ_run (Cert.KernelSbfIdeal.defs (F := Ideal)) (onTc (τ := Cert.KernelSbfIdeal.τ) (Cert.KernelSbfIdeal.main (F := Ideal))) ⟨m, fun _ => 0, g⟩ (fun r => (∀ c : Dev Cert.KernelSbfIdeal.nD,
      r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0))
      ∧ r.2.sem = fun _ => 0)

def quiescent_KernelSbfIdeal_pre_finite_sbf [hKernelSbfIdeal : Cert.KernelSbfIdeal.Facts] [hPre_finite_sbf : Cert.Pre_finite_sbf.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg), Pre_KernelSbfIdeal_finite_sbf m →
    θ_run (Cert.KernelSbfIdeal.defs (F := Ideal)) (onTc (τ := Cert.KernelSbfIdeal.τ) (Cert.KernelSbfIdeal.main (F := Ideal))) ⟨m, fun _ => 0, g⟩ (fun r => (∀ c : Dev Cert.KernelSbfIdeal.nD,
      r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0))
      ∧ r.2.sem = fun _ => 0)

def quiescent_ReferenceSbfIdeal [hReferenceSbfIdeal : Cert.ReferenceSbfIdeal.Facts] : Prop :=
  ∀ (m : (ℓ : Loc Cert.ReferenceSbfIdeal.nD Cert.ReferenceSbfIdeal.τ Cert.ReferenceSbfIdeal.sig) → Buf (Elt Ideal) ℓ) (g : Dev Cert.ReferenceSbfIdeal.nD → PrngReg), Pre_ReferenceSbfIdeal m →
    θ_run (Cert.ReferenceSbfIdeal.defs (F := Ideal)) (onTc (τ := Cert.ReferenceSbfIdeal.τ) (Cert.ReferenceSbfIdeal.main (F := Ideal))) ⟨m, fun _ => 0, g⟩ (fun r => (∀ c : Dev Cert.ReferenceSbfIdeal.nD,
      r.2.mem ((c.tc : Thread Cert.ReferenceSbfIdeal.nD Cert.ReferenceSbfIdeal.τ).loc Cert.ReferenceSbfIdeal.main_arg0) = m ((c.tc : Thread Cert.ReferenceSbfIdeal.nD Cert.ReferenceSbfIdeal.τ).loc Cert.ReferenceSbfIdeal.main_arg0))
      ∧ r.2.sem = fun _ => 0)

def quiescent_ReferenceSbfIdeal_pre_finite_sbf [hReferenceSbfIdeal : Cert.ReferenceSbfIdeal.Facts] [hPre_finite_sbf : Cert.Pre_finite_sbf.Facts] : Prop :=
  ∀ (m : (ℓ : Loc Cert.ReferenceSbfIdeal.nD Cert.ReferenceSbfIdeal.τ Cert.ReferenceSbfIdeal.sig) → Buf (Elt Ideal) ℓ) (g : Dev Cert.ReferenceSbfIdeal.nD → PrngReg), Pre_ReferenceSbfIdeal_finite_sbf m →
    θ_run (Cert.ReferenceSbfIdeal.defs (F := Ideal)) (onTc (τ := Cert.ReferenceSbfIdeal.τ) (Cert.ReferenceSbfIdeal.main (F := Ideal))) ⟨m, fun _ => 0, g⟩ (fun r => (∀ c : Dev Cert.ReferenceSbfIdeal.nD,
      r.2.mem ((c.tc : Thread Cert.ReferenceSbfIdeal.nD Cert.ReferenceSbfIdeal.τ).loc Cert.ReferenceSbfIdeal.main_arg0) = m ((c.tc : Thread Cert.ReferenceSbfIdeal.nD Cert.ReferenceSbfIdeal.τ).loc Cert.ReferenceSbfIdeal.main_arg0))
      ∧ r.2.sem = fun _ => 0)

def quiescent_KernelSbb [hKernelSbb : Cert.KernelSbb.Facts] : Prop :=
  ∀ (m : (ℓ : Loc Cert.KernelSbb.nD Cert.KernelSbb.τ Cert.KernelSbb.sig) → Buf (Elt Bits) ℓ) (g : Dev Cert.KernelSbb.nD → PrngReg), Pre_KernelSbb m →
    θ_run (Cert.KernelSbb.defs (F := Bits)) (onTc (τ := Cert.KernelSbb.τ) (Cert.KernelSbb.main (F := Bits))) ⟨m, fun _ => 0, g⟩ (fun r => (∀ c : Dev Cert.KernelSbb.nD,
      r.2.mem ((c.tc : Thread Cert.KernelSbb.nD Cert.KernelSbb.τ).loc Cert.KernelSbb.main_arg0) = m ((c.tc : Thread Cert.KernelSbb.nD Cert.KernelSbb.τ).loc Cert.KernelSbb.main_arg0)
      ∧ r.2.mem ((c.tc : Thread Cert.KernelSbb.nD Cert.KernelSbb.τ).loc Cert.KernelSbb.main_arg1) = m ((c.tc : Thread Cert.KernelSbb.nD Cert.KernelSbb.τ).loc Cert.KernelSbb.main_arg1)
      ∧ r.2.mem ((c.tc : Thread Cert.KernelSbb.nD Cert.KernelSbb.τ).loc Cert.KernelSbb.main_arg2) = m ((c.tc : Thread Cert.KernelSbb.nD Cert.KernelSbb.τ).loc Cert.KernelSbb.main_arg2)
      ∧ r.2.mem ((c.tc : Thread Cert.KernelSbb.nD Cert.KernelSbb.τ).loc Cert.KernelSbb.main_arg3) = m ((c.tc : Thread Cert.KernelSbb.nD Cert.KernelSbb.τ).loc Cert.KernelSbb.main_arg3))
      ∧ r.2.sem = fun _ => 0)

def quiescent_KernelSbbIdeal [hKernelSbbIdeal : Cert.KernelSbbIdeal.Facts] : Prop :=
  ∀ (m : (ℓ : Loc Cert.KernelSbbIdeal.nD Cert.KernelSbbIdeal.τ Cert.KernelSbbIdeal.sig) → Buf (Elt Ideal) ℓ) (g : Dev Cert.KernelSbbIdeal.nD → PrngReg), Pre_KernelSbbIdeal m →
    θ_run (Cert.KernelSbbIdeal.defs (F := Ideal)) (onTc (τ := Cert.KernelSbbIdeal.τ) (Cert.KernelSbbIdeal.main (F := Ideal))) ⟨m, fun _ => 0, g⟩ (fun r => (∀ c : Dev Cert.KernelSbbIdeal.nD,
      r.2.mem ((c.tc : Thread Cert.KernelSbbIdeal.nD Cert.KernelSbbIdeal.τ).loc Cert.KernelSbbIdeal.main_arg0) = m ((c.tc : Thread Cert.KernelSbbIdeal.nD Cert.KernelSbbIdeal.τ).loc Cert.KernelSbbIdeal.main_arg0)
      ∧ r.2.mem ((c.tc : Thread Cert.KernelSbbIdeal.nD Cert.KernelSbbIdeal.τ).loc Cert.KernelSbbIdeal.main_arg1) = m ((c.tc : Thread Cert.KernelSbbIdeal.nD Cert.KernelSbbIdeal.τ).loc Cert.KernelSbbIdeal.main_arg1)
      ∧ r.2.mem ((c.tc : Thread Cert.KernelSbbIdeal.nD Cert.KernelSbbIdeal.τ).loc Cert.KernelSbbIdeal.main_arg2) = m ((c.tc : Thread Cert.KernelSbbIdeal.nD Cert.KernelSbbIdeal.τ).loc Cert.KernelSbbIdeal.main_arg2)
      ∧ r.2.mem ((c.tc : Thread Cert.KernelSbbIdeal.nD Cert.KernelSbbIdeal.τ).loc Cert.KernelSbbIdeal.main_arg3) = m ((c.tc : Thread Cert.KernelSbbIdeal.nD Cert.KernelSbbIdeal.τ).loc Cert.KernelSbbIdeal.main_arg3))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2)
      ∧ r.2.mem ((c.tc : Thread Cert.KernelRes.nD Cert.KernelRes.τ).loc Cert.KernelRes.main_arg3) = m ((c.tc : Thread Cert.KernelRes.nD Cert.KernelRes.τ).loc Cert.KernelRes.main_arg3)
      ∧ r.2.mem ((c.tc : Thread Cert.KernelRes.nD Cert.KernelRes.τ).loc Cert.KernelRes.main_arg4) = m ((c.tc : Thread Cert.KernelRes.nD Cert.KernelRes.τ).loc Cert.KernelRes.main_arg4))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
      ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
      ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2)
      ∧ r.2.mem ((c.tc : Thread Cert.ReferenceResIdeal.nD Cert.ReferenceResIdeal.τ).loc Cert.ReferenceResIdeal.main_arg3) = m ((c.tc : Thread Cert.ReferenceResIdeal.nD Cert.ReferenceResIdeal.τ).loc Cert.ReferenceResIdeal.main_arg3)
      ∧ r.2.mem ((c.tc : Thread Cert.ReferenceResIdeal.nD Cert.ReferenceResIdeal.τ).loc Cert.ReferenceResIdeal.main_arg4) = m ((c.tc : Thread Cert.ReferenceResIdeal.nD Cert.ReferenceResIdeal.τ).loc Cert.ReferenceResIdeal.main_arg4))
      ∧ r.2.sem = fun _ => 0)

def quiescent_KernelDwn [hKernelDwn : Cert.KernelDwn.Facts] : Prop :=
  ∀ (m : (ℓ : Loc Cert.KernelDwn.nD Cert.KernelDwn.τ Cert.KernelDwn.sig) → Buf (Elt Bits) ℓ) (g : Dev Cert.KernelDwn.nD → PrngReg), Pre_KernelDwn m →
    θ_run (Cert.KernelDwn.defs (F := Bits)) (onTc (τ := Cert.KernelDwn.τ) (Cert.KernelDwn.main (F := Bits))) ⟨m, fun _ => 0, g⟩ (fun r => (∀ c : Dev Cert.KernelDwn.nD,
      r.2.mem ((c.tc : Thread Cert.KernelDwn.nD Cert.KernelDwn.τ).loc Cert.KernelDwn.main_arg0) = m ((c.tc : Thread Cert.KernelDwn.nD Cert.KernelDwn.τ).loc Cert.KernelDwn.main_arg0)
      ∧ r.2.mem ((c.tc : Thread Cert.KernelDwn.nD Cert.KernelDwn.τ).loc Cert.KernelDwn.main_arg1) = m ((c.tc : Thread Cert.KernelDwn.nD Cert.KernelDwn.τ).loc Cert.KernelDwn.main_arg1)
      ∧ r.2.mem ((c.tc : Thread Cert.KernelDwn.nD Cert.KernelDwn.τ).loc Cert.KernelDwn.main_arg2) = m ((c.tc : Thread Cert.KernelDwn.nD Cert.KernelDwn.τ).loc Cert.KernelDwn.main_arg2)
      ∧ r.2.mem ((c.tc : Thread Cert.KernelDwn.nD Cert.KernelDwn.τ).loc Cert.KernelDwn.main_arg3) = m ((c.tc : Thread Cert.KernelDwn.nD Cert.KernelDwn.τ).loc Cert.KernelDwn.main_arg3)
      ∧ r.2.mem ((c.tc : Thread Cert.KernelDwn.nD Cert.KernelDwn.τ).loc Cert.KernelDwn.main_arg4) = m ((c.tc : Thread Cert.KernelDwn.nD Cert.KernelDwn.τ).loc Cert.KernelDwn.main_arg4))
      ∧ r.2.sem = fun _ => 0)

def quiescent_KernelDwnIdeal [hKernelDwnIdeal : Cert.KernelDwnIdeal.Facts] : Prop :=
  ∀ (m : (ℓ : Loc Cert.KernelDwnIdeal.nD Cert.KernelDwnIdeal.τ Cert.KernelDwnIdeal.sig) → Buf (Elt Ideal) ℓ) (g : Dev Cert.KernelDwnIdeal.nD → PrngReg), Pre_KernelDwnIdeal m →
    θ_run (Cert.KernelDwnIdeal.defs (F := Ideal)) (onTc (τ := Cert.KernelDwnIdeal.τ) (Cert.KernelDwnIdeal.main (F := Ideal))) ⟨m, fun _ => 0, g⟩ (fun r => (∀ c : Dev Cert.KernelDwnIdeal.nD,
      r.2.mem ((c.tc : Thread Cert.KernelDwnIdeal.nD Cert.KernelDwnIdeal.τ).loc Cert.KernelDwnIdeal.main_arg0) = m ((c.tc : Thread Cert.KernelDwnIdeal.nD Cert.KernelDwnIdeal.τ).loc Cert.KernelDwnIdeal.main_arg0)
      ∧ r.2.mem ((c.tc : Thread Cert.KernelDwnIdeal.nD Cert.KernelDwnIdeal.τ).loc Cert.KernelDwnIdeal.main_arg1) = m ((c.tc : Thread Cert.KernelDwnIdeal.nD Cert.KernelDwnIdeal.τ).loc Cert.KernelDwnIdeal.main_arg1)
      ∧ r.2.mem ((c.tc : Thread Cert.KernelDwnIdeal.nD Cert.KernelDwnIdeal.τ).loc Cert.KernelDwnIdeal.main_arg2) = m ((c.tc : Thread Cert.KernelDwnIdeal.nD Cert.KernelDwnIdeal.τ).loc Cert.KernelDwnIdeal.main_arg2)
      ∧ r.2.mem ((c.tc : Thread Cert.KernelDwnIdeal.nD Cert.KernelDwnIdeal.τ).loc Cert.KernelDwnIdeal.main_arg3) = m ((c.tc : Thread Cert.KernelDwnIdeal.nD Cert.KernelDwnIdeal.τ).loc Cert.KernelDwnIdeal.main_arg3)
      ∧ r.2.mem ((c.tc : Thread Cert.KernelDwnIdeal.nD Cert.KernelDwnIdeal.τ).loc Cert.KernelDwnIdeal.main_arg4) = m ((c.tc : Thread Cert.KernelDwnIdeal.nD Cert.KernelDwnIdeal.τ).loc Cert.KernelDwnIdeal.main_arg4))
      ∧ r.2.sem = fun _ => 0)

def quiescent_ReferenceDwnIdeal [hReferenceDwnIdeal : Cert.ReferenceDwnIdeal.Facts] : Prop :=
  ∀ (m : (ℓ : Loc Cert.ReferenceDwnIdeal.nD Cert.ReferenceDwnIdeal.τ Cert.ReferenceDwnIdeal.sig) → Buf (Elt Ideal) ℓ) (g : Dev Cert.ReferenceDwnIdeal.nD → PrngReg), Pre_ReferenceDwnIdeal m →
    θ_run (Cert.ReferenceDwnIdeal.defs (F := Ideal)) (onTc (τ := Cert.ReferenceDwnIdeal.τ) (Cert.ReferenceDwnIdeal.main (F := Ideal))) ⟨m, fun _ => 0, g⟩ (fun r => (∀ c : Dev Cert.ReferenceDwnIdeal.nD,
      r.2.mem ((c.tc : Thread Cert.ReferenceDwnIdeal.nD Cert.ReferenceDwnIdeal.τ).loc Cert.ReferenceDwnIdeal.main_arg0) = m ((c.tc : Thread Cert.ReferenceDwnIdeal.nD Cert.ReferenceDwnIdeal.τ).loc Cert.ReferenceDwnIdeal.main_arg0)
      ∧ r.2.mem ((c.tc : Thread Cert.ReferenceDwnIdeal.nD Cert.ReferenceDwnIdeal.τ).loc Cert.ReferenceDwnIdeal.main_arg1) = m ((c.tc : Thread Cert.ReferenceDwnIdeal.nD Cert.ReferenceDwnIdeal.τ).loc Cert.ReferenceDwnIdeal.main_arg1)
      ∧ r.2.mem ((c.tc : Thread Cert.ReferenceDwnIdeal.nD Cert.ReferenceDwnIdeal.τ).loc Cert.ReferenceDwnIdeal.main_arg2) = m ((c.tc : Thread Cert.ReferenceDwnIdeal.nD Cert.ReferenceDwnIdeal.τ).loc Cert.ReferenceDwnIdeal.main_arg2)
      ∧ r.2.mem ((c.tc : Thread Cert.ReferenceDwnIdeal.nD Cert.ReferenceDwnIdeal.τ).loc Cert.ReferenceDwnIdeal.main_arg3) = m ((c.tc : Thread Cert.ReferenceDwnIdeal.nD Cert.ReferenceDwnIdeal.τ).loc Cert.ReferenceDwnIdeal.main_arg3)
      ∧ r.2.mem ((c.tc : Thread Cert.ReferenceDwnIdeal.nD Cert.ReferenceDwnIdeal.τ).loc Cert.ReferenceDwnIdeal.main_arg4) = m ((c.tc : Thread Cert.ReferenceDwnIdeal.nD Cert.ReferenceDwnIdeal.τ).loc Cert.ReferenceDwnIdeal.main_arg4))
      ∧ r.2.sem = fun _ => 0)

def quiescent_KernelInp [hKernelInp : Cert.KernelInp.Facts] : Prop :=
  ∀ (m : (ℓ : Loc Cert.KernelInp.nD Cert.KernelInp.τ Cert.KernelInp.sig) → Buf (Elt Bits) ℓ) (g : Dev Cert.KernelInp.nD → PrngReg), Pre_KernelInp m →
    θ_run (Cert.KernelInp.defs (F := Bits)) (onTc (τ := Cert.KernelInp.τ) (Cert.KernelInp.main (F := Bits))) ⟨m, fun _ => 0, g⟩ (fun r => (∀ c : Dev Cert.KernelInp.nD,
      r.2.mem ((c.tc : Thread Cert.KernelInp.nD Cert.KernelInp.τ).loc Cert.KernelInp.main_arg0) = m ((c.tc : Thread Cert.KernelInp.nD Cert.KernelInp.τ).loc Cert.KernelInp.main_arg0)
      ∧ r.2.mem ((c.tc : Thread Cert.KernelInp.nD Cert.KernelInp.τ).loc Cert.KernelInp.main_arg1) = m ((c.tc : Thread Cert.KernelInp.nD Cert.KernelInp.τ).loc Cert.KernelInp.main_arg1))
      ∧ r.2.sem = fun _ => 0)

def quiescent_KernelInpIdeal [hKernelInpIdeal : Cert.KernelInpIdeal.Facts] : Prop :=
  ∀ (m : (ℓ : Loc Cert.KernelInpIdeal.nD Cert.KernelInpIdeal.τ Cert.KernelInpIdeal.sig) → Buf (Elt Ideal) ℓ) (g : Dev Cert.KernelInpIdeal.nD → PrngReg), Pre_KernelInpIdeal m →
    θ_run (Cert.KernelInpIdeal.defs (F := Ideal)) (onTc (τ := Cert.KernelInpIdeal.τ) (Cert.KernelInpIdeal.main (F := Ideal))) ⟨m, fun _ => 0, g⟩ (fun r => (∀ c : Dev Cert.KernelInpIdeal.nD,
      r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
      ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1))
      ∧ r.2.sem = fun _ => 0)

def quiescent_ReferenceInpIdeal [hReferenceInpIdeal : Cert.ReferenceInpIdeal.Facts] : Prop :=
  ∀ (m : (ℓ : Loc Cert.ReferenceInpIdeal.nD Cert.ReferenceInpIdeal.τ Cert.ReferenceInpIdeal.sig) → Buf (Elt Ideal) ℓ) (g : Dev Cert.ReferenceInpIdeal.nD → PrngReg), Pre_ReferenceInpIdeal m →
    θ_run (Cert.ReferenceInpIdeal.defs (F := Ideal)) (onTc (τ := Cert.ReferenceInpIdeal.τ) (Cert.ReferenceInpIdeal.main (F := Ideal))) ⟨m, fun _ => 0, g⟩ (fun r => (∀ c : Dev Cert.ReferenceInpIdeal.nD,
      r.2.mem ((c.tc : Thread Cert.ReferenceInpIdeal.nD Cert.ReferenceInpIdeal.τ).loc Cert.ReferenceInpIdeal.main_arg0) = m ((c.tc : Thread Cert.ReferenceInpIdeal.nD Cert.ReferenceInpIdeal.τ).loc Cert.ReferenceInpIdeal.main_arg0)
      ∧ r.2.mem ((c.tc : Thread Cert.ReferenceInpIdeal.nD Cert.ReferenceInpIdeal.τ).loc Cert.ReferenceInpIdeal.main_arg1) = m ((c.tc : Thread Cert.ReferenceInpIdeal.nD Cert.ReferenceInpIdeal.τ).loc Cert.ReferenceInpIdeal.main_arg1))
      ∧ r.2.sem = fun _ => 0)

def quiescent_KernelGin [hKernelGin : Cert.KernelGin.Facts] : Prop :=
  ∀ (m : (ℓ : Loc Cert.KernelGin.nD Cert.KernelGin.τ Cert.KernelGin.sig) → Buf (Elt Bits) ℓ) (g : Dev Cert.KernelGin.nD → PrngReg), Pre_KernelGin m →
    θ_run (Cert.KernelGin.defs (F := Bits)) (onTc (τ := Cert.KernelGin.τ) (Cert.KernelGin.main (F := Bits))) ⟨m, fun _ => 0, g⟩ (fun r => (∀ c : Dev Cert.KernelGin.nD,
      r.2.mem ((c.tc : Thread Cert.KernelGin.nD Cert.KernelGin.τ).loc Cert.KernelGin.main_arg0) = m ((c.tc : Thread Cert.KernelGin.nD Cert.KernelGin.τ).loc Cert.KernelGin.main_arg0)
      ∧ r.2.mem ((c.tc : Thread Cert.KernelGin.nD Cert.KernelGin.τ).loc Cert.KernelGin.main_arg1) = m ((c.tc : Thread Cert.KernelGin.nD Cert.KernelGin.τ).loc Cert.KernelGin.main_arg1)
      ∧ r.2.mem ((c.tc : Thread Cert.KernelGin.nD Cert.KernelGin.τ).loc Cert.KernelGin.main_arg2) = m ((c.tc : Thread Cert.KernelGin.nD Cert.KernelGin.τ).loc Cert.KernelGin.main_arg2))
      ∧ r.2.sem = fun _ => 0)

def quiescent_KernelGinIdeal [hKernelGinIdeal : Cert.KernelGinIdeal.Facts] : Prop :=
  ∀ (m : (ℓ : Loc Cert.KernelGinIdeal.nD Cert.KernelGinIdeal.τ Cert.KernelGinIdeal.sig) → Buf (Elt Ideal) ℓ) (g : Dev Cert.KernelGinIdeal.nD → PrngReg), Pre_KernelGinIdeal m →
    θ_run (Cert.KernelGinIdeal.defs (F := Ideal)) (onTc (τ := Cert.KernelGinIdeal.τ) (Cert.KernelGinIdeal.main (F := Ideal))) ⟨m, fun _ => 0, g⟩ (fun r => (∀ c : Dev Cert.KernelGinIdeal.nD,
      r.2.mem ((c.tc : Thread Cert.KernelGinIdeal.nD Cert.KernelGinIdeal.τ).loc Cert.KernelGinIdeal.main_arg0) = m ((c.tc : Thread Cert.KernelGinIdeal.nD Cert.KernelGinIdeal.τ).loc Cert.KernelGinIdeal.main_arg0)
      ∧ r.2.mem ((c.tc : Thread Cert.KernelGinIdeal.nD Cert.KernelGinIdeal.τ).loc Cert.KernelGinIdeal.main_arg1) = m ((c.tc : Thread Cert.KernelGinIdeal.nD Cert.KernelGinIdeal.τ).loc Cert.KernelGinIdeal.main_arg1)
      ∧ r.2.mem ((c.tc : Thread Cert.KernelGinIdeal.nD Cert.KernelGinIdeal.τ).loc Cert.KernelGinIdeal.main_arg2) = m ((c.tc : Thread Cert.KernelGinIdeal.nD Cert.KernelGinIdeal.τ).loc Cert.KernelGinIdeal.main_arg2))
      ∧ r.2.sem = fun _ => 0)

def quiescent_ReferenceGinIdeal [hReferenceGinIdeal : Cert.ReferenceGinIdeal.Facts] : Prop :=
  ∀ (m : (ℓ : Loc Cert.ReferenceGinIdeal.nD Cert.ReferenceGinIdeal.τ Cert.ReferenceGinIdeal.sig) → Buf (Elt Ideal) ℓ) (g : Dev Cert.ReferenceGinIdeal.nD → PrngReg), Pre_ReferenceGinIdeal m →
    θ_run (Cert.ReferenceGinIdeal.defs (F := Ideal)) (onTc (τ := Cert.ReferenceGinIdeal.τ) (Cert.ReferenceGinIdeal.main (F := Ideal))) ⟨m, fun _ => 0, g⟩ (fun r => (∀ c : Dev Cert.ReferenceGinIdeal.nD,
      r.2.mem ((c.tc : Thread Cert.ReferenceGinIdeal.nD Cert.ReferenceGinIdeal.τ).loc Cert.ReferenceGinIdeal.main_arg0) = m ((c.tc : Thread Cert.ReferenceGinIdeal.nD Cert.ReferenceGinIdeal.τ).loc Cert.ReferenceGinIdeal.main_arg0)
      ∧ r.2.mem ((c.tc : Thread Cert.ReferenceGinIdeal.nD Cert.ReferenceGinIdeal.τ).loc Cert.ReferenceGinIdeal.main_arg1) = m ((c.tc : Thread Cert.ReferenceGinIdeal.nD Cert.ReferenceGinIdeal.τ).loc Cert.ReferenceGinIdeal.main_arg1)
      ∧ r.2.mem ((c.tc : Thread Cert.ReferenceGinIdeal.nD Cert.ReferenceGinIdeal.τ).loc Cert.ReferenceGinIdeal.main_arg2) = m ((c.tc : Thread Cert.ReferenceGinIdeal.nD Cert.ReferenceGinIdeal.τ).loc Cert.ReferenceGinIdeal.main_arg2))
      ∧ r.2.sem = fun _ => 0)

def quiescent_KernelGiw [hKernelGiw : Cert.KernelGiw.Facts] : Prop :=
  ∀ (m : (ℓ : Loc Cert.KernelGiw.nD Cert.KernelGiw.τ Cert.KernelGiw.sig) → Buf (Elt Bits) ℓ) (g : Dev Cert.KernelGiw.nD → PrngReg), Pre_KernelGiw m →
    θ_run (Cert.KernelGiw.defs (F := Bits)) (onTc (τ := Cert.KernelGiw.τ) (Cert.KernelGiw.main (F := Bits))) ⟨m, fun _ => 0, g⟩ (fun r => (∀ c : Dev Cert.KernelGiw.nD,
      r.2.mem ((c.tc : Thread Cert.KernelGiw.nD Cert.KernelGiw.τ).loc Cert.KernelGiw.main_arg0) = m ((c.tc : Thread Cert.KernelGiw.nD Cert.KernelGiw.τ).loc Cert.KernelGiw.main_arg0)
      ∧ r.2.mem ((c.tc : Thread Cert.KernelGiw.nD Cert.KernelGiw.τ).loc Cert.KernelGiw.main_arg1) = m ((c.tc : Thread Cert.KernelGiw.nD Cert.KernelGiw.τ).loc Cert.KernelGiw.main_arg1))
      ∧ r.2.sem = fun _ => 0)

def quiescent_KernelGiwIdeal [hKernelGiwIdeal : Cert.KernelGiwIdeal.Facts] : Prop :=
  ∀ (m : (ℓ : Loc Cert.KernelGiwIdeal.nD Cert.KernelGiwIdeal.τ Cert.KernelGiwIdeal.sig) → Buf (Elt Ideal) ℓ) (g : Dev Cert.KernelGiwIdeal.nD → PrngReg), Pre_KernelGiwIdeal m →
    θ_run (Cert.KernelGiwIdeal.defs (F := Ideal)) (onTc (τ := Cert.KernelGiwIdeal.τ) (Cert.KernelGiwIdeal.main (F := Ideal))) ⟨m, fun _ => 0, g⟩ (fun r => (∀ c : Dev Cert.KernelGiwIdeal.nD,
      r.2.mem ((c.tc : Thread Cert.KernelGiwIdeal.nD Cert.KernelGiwIdeal.τ).loc Cert.KernelGiwIdeal.main_arg0) = m ((c.tc : Thread Cert.KernelGiwIdeal.nD Cert.KernelGiwIdeal.τ).loc Cert.KernelGiwIdeal.main_arg0)
      ∧ r.2.mem ((c.tc : Thread Cert.KernelGiwIdeal.nD Cert.KernelGiwIdeal.τ).loc Cert.KernelGiwIdeal.main_arg1) = m ((c.tc : Thread Cert.KernelGiwIdeal.nD Cert.KernelGiwIdeal.τ).loc Cert.KernelGiwIdeal.main_arg1))
      ∧ r.2.sem = fun _ => 0)

def quiescent_ReferenceGiwIdeal [hReferenceGiwIdeal : Cert.ReferenceGiwIdeal.Facts] : Prop :=
  ∀ (m : (ℓ : Loc Cert.ReferenceGiwIdeal.nD Cert.ReferenceGiwIdeal.τ Cert.ReferenceGiwIdeal.sig) → Buf (Elt Ideal) ℓ) (g : Dev Cert.ReferenceGiwIdeal.nD → PrngReg), Pre_ReferenceGiwIdeal m →
    θ_run (Cert.ReferenceGiwIdeal.defs (F := Ideal)) (onTc (τ := Cert.ReferenceGiwIdeal.τ) (Cert.ReferenceGiwIdeal.main (F := Ideal))) ⟨m, fun _ => 0, g⟩ (fun r => (∀ c : Dev Cert.ReferenceGiwIdeal.nD,
      r.2.mem ((c.tc : Thread Cert.ReferenceGiwIdeal.nD Cert.ReferenceGiwIdeal.τ).loc Cert.ReferenceGiwIdeal.main_arg0) = m ((c.tc : Thread Cert.ReferenceGiwIdeal.nD Cert.ReferenceGiwIdeal.τ).loc Cert.ReferenceGiwIdeal.main_arg0)
      ∧ r.2.mem ((c.tc : Thread Cert.ReferenceGiwIdeal.nD Cert.ReferenceGiwIdeal.τ).loc Cert.ReferenceGiwIdeal.main_arg1) = m ((c.tc : Thread Cert.ReferenceGiwIdeal.nD Cert.ReferenceGiwIdeal.τ).loc Cert.ReferenceGiwIdeal.main_arg1))
      ∧ r.2.sem = fun _ => 0)

def quiescent_KernelFdh [hKernelFdh : Cert.KernelFdh.Facts] : Prop :=
  ∀ (m : (ℓ : Loc Cert.KernelFdh.nD Cert.KernelFdh.τ Cert.KernelFdh.sig) → Buf (Elt Bits) ℓ) (g : Dev Cert.KernelFdh.nD → PrngReg), Pre_KernelFdh m →
    θ_run (Cert.KernelFdh.defs (F := Bits)) (onTc (τ := Cert.KernelFdh.τ) (Cert.KernelFdh.main (F := Bits))) ⟨m, fun _ => 0, g⟩ (fun r => (∀ c : Dev Cert.KernelFdh.nD,
      r.2.mem ((c.tc : Thread Cert.KernelFdh.nD Cert.KernelFdh.τ).loc Cert.KernelFdh.main_arg0) = m ((c.tc : Thread Cert.KernelFdh.nD Cert.KernelFdh.τ).loc Cert.KernelFdh.main_arg0)
      ∧ r.2.mem ((c.tc : Thread Cert.KernelFdh.nD Cert.KernelFdh.τ).loc Cert.KernelFdh.main_arg1) = m ((c.tc : Thread Cert.KernelFdh.nD Cert.KernelFdh.τ).loc Cert.KernelFdh.main_arg1)
      ∧ r.2.mem ((c.tc : Thread Cert.KernelFdh.nD Cert.KernelFdh.τ).loc Cert.KernelFdh.main_arg2) = m ((c.tc : Thread Cert.KernelFdh.nD Cert.KernelFdh.τ).loc Cert.KernelFdh.main_arg2)
      ∧ r.2.mem ((c.tc : Thread Cert.KernelFdh.nD Cert.KernelFdh.τ).loc Cert.KernelFdh.main_arg3) = m ((c.tc : Thread Cert.KernelFdh.nD Cert.KernelFdh.τ).loc Cert.KernelFdh.main_arg3)
      ∧ r.2.mem ((c.tc : Thread Cert.KernelFdh.nD Cert.KernelFdh.τ).loc Cert.KernelFdh.main_arg4) = m ((c.tc : Thread Cert.KernelFdh.nD Cert.KernelFdh.τ).loc Cert.KernelFdh.main_arg4))
      ∧ r.2.sem = fun _ => 0)

def quiescent_KernelFdhIdeal [hKernelFdhIdeal : Cert.KernelFdhIdeal.Facts] : Prop :=
  ∀ (m : (ℓ : Loc Cert.KernelFdhIdeal.nD Cert.KernelFdhIdeal.τ Cert.KernelFdhIdeal.sig) → Buf (Elt Ideal) ℓ) (g : Dev Cert.KernelFdhIdeal.nD → PrngReg), Pre_KernelFdhIdeal m →
    θ_run (Cert.KernelFdhIdeal.defs (F := Ideal)) (onTc (τ := Cert.KernelFdhIdeal.τ) (Cert.KernelFdhIdeal.main (F := Ideal))) ⟨m, fun _ => 0, g⟩ (fun r => (∀ c : Dev Cert.KernelFdhIdeal.nD,
      r.2.mem ((c.tc : Thread Cert.KernelFdhIdeal.nD Cert.KernelFdhIdeal.τ).loc Cert.KernelFdhIdeal.main_arg0) = m ((c.tc : Thread Cert.KernelFdhIdeal.nD Cert.KernelFdhIdeal.τ).loc Cert.KernelFdhIdeal.main_arg0)
      ∧ r.2.mem ((c.tc : Thread Cert.KernelFdhIdeal.nD Cert.KernelFdhIdeal.τ).loc Cert.KernelFdhIdeal.main_arg1) = m ((c.tc : Thread Cert.KernelFdhIdeal.nD Cert.KernelFdhIdeal.τ).loc Cert.KernelFdhIdeal.main_arg1)
      ∧ r.2.mem ((c.tc : Thread Cert.KernelFdhIdeal.nD Cert.KernelFdhIdeal.τ).loc Cert.KernelFdhIdeal.main_arg2) = m ((c.tc : Thread Cert.KernelFdhIdeal.nD Cert.KernelFdhIdeal.τ).loc Cert.KernelFdhIdeal.main_arg2)
      ∧ r.2.mem ((c.tc : Thread Cert.KernelFdhIdeal.nD Cert.KernelFdhIdeal.τ).loc Cert.KernelFdhIdeal.main_arg3) = m ((c.tc : Thread Cert.KernelFdhIdeal.nD Cert.KernelFdhIdeal.τ).loc Cert.KernelFdhIdeal.main_arg3)
      ∧ r.2.mem ((c.tc : Thread Cert.KernelFdhIdeal.nD Cert.KernelFdhIdeal.τ).loc Cert.KernelFdhIdeal.main_arg4) = m ((c.tc : Thread Cert.KernelFdhIdeal.nD Cert.KernelFdhIdeal.τ).loc Cert.KernelFdhIdeal.main_arg4))
      ∧ r.2.sem = fun _ => 0)

def quiescent_ReferenceFdhIdeal [hReferenceFdhIdeal : Cert.ReferenceFdhIdeal.Facts] : Prop :=
  ∀ (m : (ℓ : Loc Cert.ReferenceFdhIdeal.nD Cert.ReferenceFdhIdeal.τ Cert.ReferenceFdhIdeal.sig) → Buf (Elt Ideal) ℓ) (g : Dev Cert.ReferenceFdhIdeal.nD → PrngReg), Pre_ReferenceFdhIdeal m →
    θ_run (Cert.ReferenceFdhIdeal.defs (F := Ideal)) (onTc (τ := Cert.ReferenceFdhIdeal.τ) (Cert.ReferenceFdhIdeal.main (F := Ideal))) ⟨m, fun _ => 0, g⟩ (fun r => (∀ c : Dev Cert.ReferenceFdhIdeal.nD,
      r.2.mem ((c.tc : Thread Cert.ReferenceFdhIdeal.nD Cert.ReferenceFdhIdeal.τ).loc Cert.ReferenceFdhIdeal.main_arg0) = m ((c.tc : Thread Cert.ReferenceFdhIdeal.nD Cert.ReferenceFdhIdeal.τ).loc Cert.ReferenceFdhIdeal.main_arg0)
      ∧ r.2.mem ((c.tc : Thread Cert.ReferenceFdhIdeal.nD Cert.ReferenceFdhIdeal.τ).loc Cert.ReferenceFdhIdeal.main_arg1) = m ((c.tc : Thread Cert.ReferenceFdhIdeal.nD Cert.ReferenceFdhIdeal.τ).loc Cert.ReferenceFdhIdeal.main_arg1)
      ∧ r.2.mem ((c.tc : Thread Cert.ReferenceFdhIdeal.nD Cert.ReferenceFdhIdeal.τ).loc Cert.ReferenceFdhIdeal.main_arg2) = m ((c.tc : Thread Cert.ReferenceFdhIdeal.nD Cert.ReferenceFdhIdeal.τ).loc Cert.ReferenceFdhIdeal.main_arg2)
      ∧ r.2.mem ((c.tc : Thread Cert.ReferenceFdhIdeal.nD Cert.ReferenceFdhIdeal.τ).loc Cert.ReferenceFdhIdeal.main_arg3) = m ((c.tc : Thread Cert.ReferenceFdhIdeal.nD Cert.ReferenceFdhIdeal.τ).loc Cert.ReferenceFdhIdeal.main_arg3)
      ∧ r.2.mem ((c.tc : Thread Cert.ReferenceFdhIdeal.nD Cert.ReferenceFdhIdeal.τ).loc Cert.ReferenceFdhIdeal.main_arg4) = m ((c.tc : Thread Cert.ReferenceFdhIdeal.nD Cert.ReferenceFdhIdeal.τ).loc Cert.ReferenceFdhIdeal.main_arg4))
      ∧ r.2.sem = fun _ => 0)

def quiescent_KernelGw [hKernelGw : Cert.KernelGw.Facts] : Prop :=
  ∀ (m : (ℓ : Loc Cert.KernelGw.nD Cert.KernelGw.τ Cert.KernelGw.sig) → Buf (Elt Bits) ℓ) (g : Dev Cert.KernelGw.nD → PrngReg), Pre_KernelGw m →
    θ_run (Cert.KernelGw.defs (F := Bits)) (onTc (τ := Cert.KernelGw.τ) (Cert.KernelGw.main (F := Bits))) ⟨m, fun _ => 0, g⟩ (fun r => (∀ c : Dev Cert.KernelGw.nD,
      r.2.mem ((c.tc : Thread Cert.KernelGw.nD Cert.KernelGw.τ).loc Cert.KernelGw.main_arg0) = m ((c.tc : Thread Cert.KernelGw.nD Cert.KernelGw.τ).loc Cert.KernelGw.main_arg0)
      ∧ r.2.mem ((c.tc : Thread Cert.KernelGw.nD Cert.KernelGw.τ).loc Cert.KernelGw.main_arg1) = m ((c.tc : Thread Cert.KernelGw.nD Cert.KernelGw.τ).loc Cert.KernelGw.main_arg1))
      ∧ r.2.sem = fun _ => 0)

def quiescent_KernelGwIdeal [hKernelGwIdeal : Cert.KernelGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg), Pre_KernelGwIdeal m →
    θ_run (Cert.KernelGwIdeal.defs (F := Ideal)) (onTc (τ := Cert.KernelGwIdeal.τ) (Cert.KernelGwIdeal.main (F := Ideal))) ⟨m, fun _ => 0, g⟩ (fun r => (∀ c : Dev Cert.KernelGwIdeal.nD,
      r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
      ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ r.2.sem = fun _ => 0)

def quiescent_ReferenceGwIdeal [hReferenceGwIdeal : Cert.ReferenceGwIdeal.Facts] : Prop :=
  ∀ (m : (ℓ : Loc Cert.ReferenceGwIdeal.nD Cert.ReferenceGwIdeal.τ Cert.ReferenceGwIdeal.sig) → Buf (Elt Ideal) ℓ) (g : Dev Cert.ReferenceGwIdeal.nD → PrngReg), Pre_ReferenceGwIdeal m →
    θ_run (Cert.ReferenceGwIdeal.defs (F := Ideal)) (onTc (τ := Cert.ReferenceGwIdeal.τ) (Cert.ReferenceGwIdeal.main (F := Ideal))) ⟨m, fun _ => 0, g⟩ (fun r => (∀ c : Dev Cert.ReferenceGwIdeal.nD,
      r.2.mem ((c.tc : Thread Cert.ReferenceGwIdeal.nD Cert.ReferenceGwIdeal.τ).loc Cert.ReferenceGwIdeal.main_arg0) = m ((c.tc : Thread Cert.ReferenceGwIdeal.nD Cert.ReferenceGwIdeal.τ).loc Cert.ReferenceGwIdeal.main_arg0)
      ∧ r.2.mem ((c.tc : Thread Cert.ReferenceGwIdeal.nD Cert.ReferenceGwIdeal.τ).loc Cert.ReferenceGwIdeal.main_arg1) = m ((c.tc : Thread Cert.ReferenceGwIdeal.nD Cert.ReferenceGwIdeal.τ).loc Cert.ReferenceGwIdeal.main_arg1))
      ∧ r.2.sem = fun _ => 0)

def quiescent_KernelGwr [hKernelGwr : Cert.KernelGwr.Facts] : Prop :=
  ∀ (m : (ℓ : Loc Cert.KernelGwr.nD Cert.KernelGwr.τ Cert.KernelGwr.sig) → Buf (Elt Bits) ℓ) (g : Dev Cert.KernelGwr.nD → PrngReg), Pre_KernelGwr m →
    θ_run (Cert.KernelGwr.defs (F := Bits)) (onTc (τ := Cert.KernelGwr.τ) (Cert.KernelGwr.main (F := Bits))) ⟨m, fun _ => 0, g⟩ (fun r => (∀ c : Dev Cert.KernelGwr.nD,
      r.2.mem ((c.tc : Thread Cert.KernelGwr.nD Cert.KernelGwr.τ).loc Cert.KernelGwr.main_arg0) = m ((c.tc : Thread Cert.KernelGwr.nD Cert.KernelGwr.τ).loc Cert.KernelGwr.main_arg0)
      ∧ r.2.mem ((c.tc : Thread Cert.KernelGwr.nD Cert.KernelGwr.τ).loc Cert.KernelGwr.main_arg1) = m ((c.tc : Thread Cert.KernelGwr.nD Cert.KernelGwr.τ).loc Cert.KernelGwr.main_arg1))
      ∧ r.2.sem = fun _ => 0)

def quiescent_KernelGwrIdeal [hKernelGwrIdeal : Cert.KernelGwrIdeal.Facts] : Prop :=
  ∀ (m : (ℓ : Loc Cert.KernelGwrIdeal.nD Cert.KernelGwrIdeal.τ Cert.KernelGwrIdeal.sig) → Buf (Elt Ideal) ℓ) (g : Dev Cert.KernelGwrIdeal.nD → PrngReg), Pre_KernelGwrIdeal m →
    θ_run (Cert.KernelGwrIdeal.defs (F := Ideal)) (onTc (τ := Cert.KernelGwrIdeal.τ) (Cert.KernelGwrIdeal.main (F := Ideal))) ⟨m, fun _ => 0, g⟩ (fun r => (∀ c : Dev Cert.KernelGwrIdeal.nD,
      r.2.mem ((c.tc : Thread Cert.KernelGwrIdeal.nD Cert.KernelGwrIdeal.τ).loc Cert.KernelGwrIdeal.main_arg0) = m ((c.tc : Thread Cert.KernelGwrIdeal.nD Cert.KernelGwrIdeal.τ).loc Cert.KernelGwrIdeal.main_arg0)
      ∧ r.2.mem ((c.tc : Thread Cert.KernelGwrIdeal.nD Cert.KernelGwrIdeal.τ).loc Cert.KernelGwrIdeal.main_arg1) = m ((c.tc : Thread Cert.KernelGwrIdeal.nD Cert.KernelGwrIdeal.τ).loc Cert.KernelGwrIdeal.main_arg1))
      ∧ r.2.sem = fun _ => 0)

def quiescent_ReferenceGwrIdeal [hReferenceGwrIdeal : Cert.ReferenceGwrIdeal.Facts] : Prop :=
  ∀ (m : (ℓ : Loc Cert.ReferenceGwrIdeal.nD Cert.ReferenceGwrIdeal.τ Cert.ReferenceGwrIdeal.sig) → Buf (Elt Ideal) ℓ) (g : Dev Cert.ReferenceGwrIdeal.nD → PrngReg), Pre_ReferenceGwrIdeal m →
    θ_run (Cert.ReferenceGwrIdeal.defs (F := Ideal)) (onTc (τ := Cert.ReferenceGwrIdeal.τ) (Cert.ReferenceGwrIdeal.main (F := Ideal))) ⟨m, fun _ => 0, g⟩ (fun r => (∀ c : Dev Cert.ReferenceGwrIdeal.nD,
      r.2.mem ((c.tc : Thread Cert.ReferenceGwrIdeal.nD Cert.ReferenceGwrIdeal.τ).loc Cert.ReferenceGwrIdeal.main_arg0) = m ((c.tc : Thread Cert.ReferenceGwrIdeal.nD Cert.ReferenceGwrIdeal.τ).loc Cert.ReferenceGwrIdeal.main_arg0)
      ∧ r.2.mem ((c.tc : Thread Cert.ReferenceGwrIdeal.nD Cert.ReferenceGwrIdeal.τ).loc Cert.ReferenceGwrIdeal.main_arg1) = m ((c.tc : Thread Cert.ReferenceGwrIdeal.nD Cert.ReferenceGwrIdeal.τ).loc Cert.ReferenceGwrIdeal.main_arg1))
      ∧ r.2.sem = fun _ => 0)

def quiescent_KernelFdw [hKernelFdw : Cert.KernelFdw.Facts] : Prop :=
  ∀ (m : (ℓ : Loc Cert.KernelFdw.nD Cert.KernelFdw.τ Cert.KernelFdw.sig) → Buf (Elt Bits) ℓ) (g : Dev Cert.KernelFdw.nD → PrngReg), Pre_KernelFdw m →
    θ_run (Cert.KernelFdw.defs (F := Bits)) (onTc (τ := Cert.KernelFdw.τ) (Cert.KernelFdw.main (F := Bits))) ⟨m, fun _ => 0, g⟩ (fun r => (∀ c : Dev Cert.KernelFdw.nD,
      r.2.mem ((c.tc : Thread Cert.KernelFdw.nD Cert.KernelFdw.τ).loc Cert.KernelFdw.main_arg0) = m ((c.tc : Thread Cert.KernelFdw.nD Cert.KernelFdw.τ).loc Cert.KernelFdw.main_arg0)
      ∧ r.2.mem ((c.tc : Thread Cert.KernelFdw.nD Cert.KernelFdw.τ).loc Cert.KernelFdw.main_arg1) = m ((c.tc : Thread Cert.KernelFdw.nD Cert.KernelFdw.τ).loc Cert.KernelFdw.main_arg1))
      ∧ r.2.sem = fun _ => 0)

def quiescent_KernelFdwIdeal [hKernelFdwIdeal : Cert.KernelFdwIdeal.Facts] : Prop :=
  ∀ (m : (ℓ : Loc Cert.KernelFdwIdeal.nD Cert.KernelFdwIdeal.τ Cert.KernelFdwIdeal.sig) → Buf (Elt Ideal) ℓ) (g : Dev Cert.KernelFdwIdeal.nD → PrngReg), Pre_KernelFdwIdeal m →
    θ_run (Cert.KernelFdwIdeal.defs (F := Ideal)) (onTc (τ := Cert.KernelFdwIdeal.τ) (Cert.KernelFdwIdeal.main (F := Ideal))) ⟨m, fun _ => 0, g⟩ (fun r => (∀ c : Dev Cert.KernelFdwIdeal.nD,
      r.2.mem ((c.tc : Thread Cert.KernelFdwIdeal.nD Cert.KernelFdwIdeal.τ).loc Cert.KernelFdwIdeal.main_arg0) = m ((c.tc : Thread Cert.KernelFdwIdeal.nD Cert.KernelFdwIdeal.τ).loc Cert.KernelFdwIdeal.main_arg0)
      ∧ r.2.mem ((c.tc : Thread Cert.KernelFdwIdeal.nD Cert.KernelFdwIdeal.τ).loc Cert.KernelFdwIdeal.main_arg1) = m ((c.tc : Thread Cert.KernelFdwIdeal.nD Cert.KernelFdwIdeal.τ).loc Cert.KernelFdwIdeal.main_arg1))
      ∧ r.2.sem = fun _ => 0)

def quiescent_ReferenceFdwIdeal [hReferenceFdwIdeal : Cert.ReferenceFdwIdeal.Facts] : Prop :=
  ∀ (m : (ℓ : Loc Cert.ReferenceFdwIdeal.nD Cert.ReferenceFdwIdeal.τ Cert.ReferenceFdwIdeal.sig) → Buf (Elt Ideal) ℓ) (g : Dev Cert.ReferenceFdwIdeal.nD → PrngReg), Pre_ReferenceFdwIdeal m →
    θ_run (Cert.ReferenceFdwIdeal.defs (F := Ideal)) (onTc (τ := Cert.ReferenceFdwIdeal.τ) (Cert.ReferenceFdwIdeal.main (F := Ideal))) ⟨m, fun _ => 0, g⟩ (fun r => (∀ c : Dev Cert.ReferenceFdwIdeal.nD,
      r.2.mem ((c.tc : Thread Cert.ReferenceFdwIdeal.nD Cert.ReferenceFdwIdeal.τ).loc Cert.ReferenceFdwIdeal.main_arg0) = m ((c.tc : Thread Cert.ReferenceFdwIdeal.nD Cert.ReferenceFdwIdeal.τ).loc Cert.ReferenceFdwIdeal.main_arg0)
      ∧ r.2.mem ((c.tc : Thread Cert.ReferenceFdwIdeal.nD Cert.ReferenceFdwIdeal.τ).loc Cert.ReferenceFdwIdeal.main_arg1) = m ((c.tc : Thread Cert.ReferenceFdwIdeal.nD Cert.ReferenceFdwIdeal.τ).loc Cert.ReferenceFdwIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def preserves_KernelLb_KernelLbIdeal : Prop :=
  True

def algebraic_KernelLbIdeal_ReferenceLbIdeal_pre_finite_lb [hKernelLbIdeal : Cert.KernelLbIdeal.Facts] [hReferenceLbIdeal : Cert.ReferenceLbIdeal.Facts] [hPre_finite_lb : Cert.Pre_finite_lb.Facts] : Prop :=
  ∀ (m : (ℓ : Loc Cert.KernelLbIdeal.nD Cert.KernelLbIdeal.τ Cert.KernelLbIdeal.sig) → Buf (Elt Ideal) ℓ) (g : Dev Cert.KernelLbIdeal.nD → PrngReg)
    (m' : (ℓ : Loc Cert.ReferenceLbIdeal.nD Cert.ReferenceLbIdeal.τ Cert.ReferenceLbIdeal.sig) → Buf (Elt Ideal) ℓ) (g' : Dev Cert.ReferenceLbIdeal.nD → PrngReg), Pre_KernelLbIdeal_finite_lb m →
    (∀ c : Dev Cert.KernelLbIdeal.nD,
      m' ((c.tc : Thread Cert.ReferenceLbIdeal.nD Cert.ReferenceLbIdeal.τ).loc Cert.ReferenceLbIdeal.main_arg0) = m ((c.tc : Thread Cert.KernelLbIdeal.nD Cert.KernelLbIdeal.τ).loc Cert.KernelLbIdeal.main_arg0)
      ∧ m' ((c.tc : Thread Cert.ReferenceLbIdeal.nD Cert.ReferenceLbIdeal.τ).loc Cert.ReferenceLbIdeal.main_arg1) = m ((c.tc : Thread Cert.KernelLbIdeal.nD Cert.KernelLbIdeal.τ).loc Cert.KernelLbIdeal.main_arg1)) →
    ∃ (v0 : (c : Dev Cert.KernelLbIdeal.nD) → Buf (Elt Ideal) ((c.tc : Thread Cert.KernelLbIdeal.nD Cert.KernelLbIdeal.τ).loc Cert.KernelLbIdeal.main_v0)),
      θ_run (Cert.KernelLbIdeal.defs (F := Ideal)) (onTc (τ := Cert.KernelLbIdeal.τ) (Cert.KernelLbIdeal.main (F := Ideal))) ⟨m, fun _ => 0, g⟩ (fun r => ∀ c : Dev Cert.KernelLbIdeal.nD,
          r.2.mem ((c.tc : Thread Cert.KernelLbIdeal.nD Cert.KernelLbIdeal.τ).loc Cert.KernelLbIdeal.main_v0) = v0 c
          ∧ r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
          ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1))
      ∧ θ_run (Cert.ReferenceLbIdeal.defs (F := Ideal)) (onTc (τ := Cert.ReferenceLbIdeal.τ) (Cert.ReferenceLbIdeal.main (F := Ideal))) ⟨m', fun _ => 0, g'⟩ (fun r => ∀ c : Dev Cert.ReferenceLbIdeal.nD,
          r.2.mem ((c.tc : Thread Cert.ReferenceLbIdeal.nD Cert.ReferenceLbIdeal.τ).loc Cert.ReferenceLbIdeal.main_v46) = v0 c
          ∧ r.2.mem ((c.tc : Thread Cert.ReferenceLbIdeal.nD Cert.ReferenceLbIdeal.τ).loc Cert.ReferenceLbIdeal.main_arg0) = m' ((c.tc : Thread Cert.ReferenceLbIdeal.nD Cert.ReferenceLbIdeal.τ).loc Cert.ReferenceLbIdeal.main_arg0)
          ∧ r.2.mem ((c.tc : Thread Cert.ReferenceLbIdeal.nD Cert.ReferenceLbIdeal.τ).loc Cert.ReferenceLbIdeal.main_arg1) = m' ((c.tc : Thread Cert.ReferenceLbIdeal.nD Cert.ReferenceLbIdeal.τ).loc Cert.ReferenceLbIdeal.main_arg1))

def preserves_KernelLn2_KernelLn2Ideal : Prop :=
  True

def algebraic_KernelLn2Ideal_ReferenceLn2Ideal_pre_finite_ln2 [hKernelLn2Ideal : Cert.KernelLn2Ideal.Facts] [hReferenceLn2Ideal : Cert.ReferenceLn2Ideal.Facts] [hPre_finite_ln2 : Cert.Pre_finite_ln2.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg)
    (m' : (ℓ : Loc Cert.ReferenceLn2Ideal.nD Cert.ReferenceLn2Ideal.τ Cert.ReferenceLn2Ideal.sig) → Buf (Elt Ideal) ℓ) (g' : Dev Cert.ReferenceLn2Ideal.nD → PrngReg), Pre_KernelLn2Ideal_finite_ln2 m →
    (∀ c : Dev Cert.KernelLn2Ideal.nD,
      m' ((c.tc : Thread Cert.ReferenceLn2Ideal.nD Cert.ReferenceLn2Ideal.τ).loc Cert.ReferenceLn2Ideal.main_arg0) = m ((c.tc : Thread Cert.KernelLn2Ideal.nD Cert.KernelLn2Ideal.τ).loc Cert.KernelLn2Ideal.main_arg0)
      ∧ m' ((c.tc : Thread Cert.ReferenceLn2Ideal.nD Cert.ReferenceLn2Ideal.τ).loc Cert.ReferenceLn2Ideal.main_arg1) = m ((c.tc : Thread Cert.KernelLn2Ideal.nD Cert.KernelLn2Ideal.τ).loc Cert.KernelLn2Ideal.main_arg1)
      ∧ m' ((c.tc : Thread Cert.ReferenceLn2Ideal.nD Cert.ReferenceLn2Ideal.τ).loc Cert.ReferenceLn2Ideal.main_arg2) = m ((c.tc : Thread Cert.KernelLn2Ideal.nD Cert.KernelLn2Ideal.τ).loc Cert.KernelLn2Ideal.main_arg2)
      ∧ m' ((c.tc : Thread Cert.ReferenceLn2Ideal.nD Cert.ReferenceLn2Ideal.τ).loc Cert.ReferenceLn2Ideal.main_arg3) = m ((c.tc : Thread Cert.KernelLn2Ideal.nD Cert.KernelLn2Ideal.τ).loc Cert.KernelLn2Ideal.main_arg3)
      ∧ m' ((c.tc : Thread Cert.ReferenceLn2Ideal.nD Cert.ReferenceLn2Ideal.τ).loc Cert.ReferenceLn2Ideal.main_arg4) = m ((c.tc : Thread Cert.KernelLn2Ideal.nD Cert.KernelLn2Ideal.τ).loc Cert.KernelLn2Ideal.main_arg4)) →
    ∃ (v0 : (c : Dev Cert.KernelLn2Ideal.nD) → Buf (Elt Ideal) ((c.tc : Thread Cert.KernelLn2Ideal.nD Cert.KernelLn2Ideal.τ).loc Cert.KernelLn2Ideal.main_v5_0)) (v1 : (c : Dev Cert.KernelLn2Ideal.nD) → Buf (Elt Ideal) ((c.tc : Thread Cert.KernelLn2Ideal.nD Cert.KernelLn2Ideal.τ).loc Cert.KernelLn2Ideal.main_v5_1)) (v2 : (c : Dev Cert.KernelLn2Ideal.nD) → Buf (Elt Ideal) ((c.tc : Thread Cert.KernelLn2Ideal.nD Cert.KernelLn2Ideal.τ).loc Cert.KernelLn2Ideal.main_v5_2)) (v3 : (c : Dev Cert.KernelLn2Ideal.nD) → Buf (Elt Ideal) ((c.tc : Thread Cert.KernelLn2Ideal.nD Cert.KernelLn2Ideal.τ).loc Cert.KernelLn2Ideal.main_v5_3)),
      θ_run (Cert.KernelLn2Ideal.defs (F := Ideal)) (onTc (τ := Cert.KernelLn2Ideal.τ) (Cert.KernelLn2Ideal.main (F := Ideal))) ⟨m, fun _ => 0, g⟩ (fun r => ∀ c : Dev Cert.KernelLn2Ideal.nD,
          r.2.mem ((c.tc : Thread Cert.KernelLn2Ideal.nD Cert.KernelLn2Ideal.τ).loc Cert.KernelLn2Ideal.main_v5_0) = v0 c
          ∧ r.2.mem ((c.tc : Thread Cert.KernelLn2Ideal.nD Cert.KernelLn2Ideal.τ).loc Cert.KernelLn2Ideal.main_v5_1) = v1 c
          ∧ r.2.mem ((c.tc : Thread Cert.KernelLn2Ideal.nD Cert.KernelLn2Ideal.τ).loc Cert.KernelLn2Ideal.main_v5_2) = v2 c
          ∧ r.2.mem ((c.tc : Thread Cert.KernelLn2Ideal.nD Cert.KernelLn2Ideal.τ).loc Cert.KernelLn2Ideal.main_v5_3) = v3 c
          ∧ r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
          ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
          ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
          ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
          ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4))
      ∧ θ_run (Cert.ReferenceLn2Ideal.defs (F := Ideal)) (onTc (τ := Cert.ReferenceLn2Ideal.τ) (Cert.ReferenceLn2Ideal.main (F := Ideal))) ⟨m', fun _ => 0, g'⟩ (fun r => ∀ c : Dev Cert.ReferenceLn2Ideal.nD,
          r.2.mem ((c.tc : Thread Cert.ReferenceLn2Ideal.nD Cert.ReferenceLn2Ideal.τ).loc Cert.ReferenceLn2Ideal.main_v72) = v0 c
          ∧ r.2.mem ((c.tc : Thread Cert.ReferenceLn2Ideal.nD Cert.ReferenceLn2Ideal.τ).loc Cert.ReferenceLn2Ideal.main_v74) = v1 c
          ∧ r.2.mem ((c.tc : Thread Cert.ReferenceLn2Ideal.nD Cert.ReferenceLn2Ideal.τ).loc Cert.ReferenceLn2Ideal.main_v71) = v2 c
          ∧ r.2.mem ((c.tc : Thread Cert.ReferenceLn2Ideal.nD Cert.ReferenceLn2Ideal.τ).loc Cert.ReferenceLn2Ideal.main_v70) = v3 c
          ∧ r.2.mem ((c.tc : Thread Cert.ReferenceLn2Ideal.nD Cert.ReferenceLn2Ideal.τ).loc Cert.ReferenceLn2Ideal.main_arg0) = m' ((c.tc : Thread Cert.ReferenceLn2Ideal.nD Cert.ReferenceLn2Ideal.τ).loc Cert.ReferenceLn2Ideal.main_arg0)
          ∧ r.2.mem ((c.tc : Thread Cert.ReferenceLn2Ideal.nD Cert.ReferenceLn2Ideal.τ).loc Cert.ReferenceLn2Ideal.main_arg1) = m' ((c.tc : Thread Cert.ReferenceLn2Ideal.nD Cert.ReferenceLn2Ideal.τ).loc Cert.ReferenceLn2Ideal.main_arg1)
          ∧ r.2.mem ((c.tc : Thread Cert.ReferenceLn2Ideal.nD Cert.ReferenceLn2Ideal.τ).loc Cert.ReferenceLn2Ideal.main_arg2) = m' ((c.tc : Thread Cert.ReferenceLn2Ideal.nD Cert.ReferenceLn2Ideal.τ).loc Cert.ReferenceLn2Ideal.main_arg2)
          ∧ r.2.mem ((c.tc : Thread Cert.ReferenceLn2Ideal.nD Cert.ReferenceLn2Ideal.τ).loc Cert.ReferenceLn2Ideal.main_arg3) = m' ((c.tc : Thread Cert.ReferenceLn2Ideal.nD Cert.ReferenceLn2Ideal.τ).loc Cert.ReferenceLn2Ideal.main_arg3)
          ∧ r.2.mem ((c.tc : Thread Cert.ReferenceLn2Ideal.nD Cert.ReferenceLn2Ideal.τ).loc Cert.ReferenceLn2Ideal.main_arg4) = m' ((c.tc : Thread Cert.ReferenceLn2Ideal.nD Cert.ReferenceLn2Ideal.τ).loc Cert.ReferenceLn2Ideal.main_arg4))

def preserves_KernelLn3_KernelLn3Ideal : Prop :=
  True

def algebraic_KernelLn3Ideal_ReferenceLn3Ideal_pre_finite_ln3 [hKernelLn3Ideal : Cert.KernelLn3Ideal.Facts] [hReferenceLn3Ideal : Cert.ReferenceLn3Ideal.Facts] [hPre_finite_ln3 : Cert.Pre_finite_ln3.Facts] : Prop :=
  ∀ (m : (ℓ : Loc Cert.KernelLn3Ideal.nD Cert.KernelLn3Ideal.τ Cert.KernelLn3Ideal.sig) → Buf (Elt Ideal) ℓ) (g : Dev Cert.KernelLn3Ideal.nD → PrngReg)
    (m' : (ℓ : Loc Cert.ReferenceLn3Ideal.nD Cert.ReferenceLn3Ideal.τ Cert.ReferenceLn3Ideal.sig) → Buf (Elt Ideal) ℓ) (g' : Dev Cert.ReferenceLn3Ideal.nD → PrngReg), Pre_KernelLn3Ideal_finite_ln3 m →
    (∀ c : Dev Cert.KernelLn3Ideal.nD,
      m' ((c.tc : Thread Cert.ReferenceLn3Ideal.nD Cert.ReferenceLn3Ideal.τ).loc Cert.ReferenceLn3Ideal.main_arg0) = m ((c.tc : Thread Cert.KernelLn3Ideal.nD Cert.KernelLn3Ideal.τ).loc Cert.KernelLn3Ideal.main_arg0)
      ∧ m' ((c.tc : Thread Cert.ReferenceLn3Ideal.nD Cert.ReferenceLn3Ideal.τ).loc Cert.ReferenceLn3Ideal.main_arg1) = m ((c.tc : Thread Cert.KernelLn3Ideal.nD Cert.KernelLn3Ideal.τ).loc Cert.KernelLn3Ideal.main_arg1)
      ∧ m' ((c.tc : Thread Cert.ReferenceLn3Ideal.nD Cert.ReferenceLn3Ideal.τ).loc Cert.ReferenceLn3Ideal.main_arg2) = m ((c.tc : Thread Cert.KernelLn3Ideal.nD Cert.KernelLn3Ideal.τ).loc Cert.KernelLn3Ideal.main_arg2)
      ∧ m' ((c.tc : Thread Cert.ReferenceLn3Ideal.nD Cert.ReferenceLn3Ideal.τ).loc Cert.ReferenceLn3Ideal.main_arg3) = m ((c.tc : Thread Cert.KernelLn3Ideal.nD Cert.KernelLn3Ideal.τ).loc Cert.KernelLn3Ideal.main_arg3)
      ∧ m' ((c.tc : Thread Cert.ReferenceLn3Ideal.nD Cert.ReferenceLn3Ideal.τ).loc Cert.ReferenceLn3Ideal.main_arg4) = m ((c.tc : Thread Cert.KernelLn3Ideal.nD Cert.KernelLn3Ideal.τ).loc Cert.KernelLn3Ideal.main_arg4)) →
    ∃ (v0 : (c : Dev Cert.KernelLn3Ideal.nD) → Buf (Elt Ideal) ((c.tc : Thread Cert.KernelLn3Ideal.nD Cert.KernelLn3Ideal.τ).loc Cert.KernelLn3Ideal.main_v7_0)) (v1 : (c : Dev Cert.KernelLn3Ideal.nD) → Buf (Elt Ideal) ((c.tc : Thread Cert.KernelLn3Ideal.nD Cert.KernelLn3Ideal.τ).loc Cert.KernelLn3Ideal.main_v7_1)) (v2 : (c : Dev Cert.KernelLn3Ideal.nD) → Buf (Elt Ideal) ((c.tc : Thread Cert.KernelLn3Ideal.nD Cert.KernelLn3Ideal.τ).loc Cert.KernelLn3Ideal.main_v7_2)) (v3 : (c : Dev Cert.KernelLn3Ideal.nD) → Buf (Elt Ideal) ((c.tc : Thread Cert.KernelLn3Ideal.nD Cert.KernelLn3Ideal.τ).loc Cert.KernelLn3Ideal.main_v7_3)) (v4 : (c : Dev Cert.KernelLn3Ideal.nD) → Buf (Elt Ideal) ((c.tc : Thread Cert.KernelLn3Ideal.nD Cert.KernelLn3Ideal.τ).loc Cert.KernelLn3Ideal.main_v7_4)),
      θ_run (Cert.KernelLn3Ideal.defs (F := Ideal)) (onTc (τ := Cert.KernelLn3Ideal.τ) (Cert.KernelLn3Ideal.main (F := Ideal))) ⟨m, fun _ => 0, g⟩ (fun r => ∀ c : Dev Cert.KernelLn3Ideal.nD,
          r.2.mem ((c.tc : Thread Cert.KernelLn3Ideal.nD Cert.KernelLn3Ideal.τ).loc Cert.KernelLn3Ideal.main_v7_0) = v0 c
          ∧ r.2.mem ((c.tc : Thread Cert.KernelLn3Ideal.nD Cert.KernelLn3Ideal.τ).loc Cert.KernelLn3Ideal.main_v7_1) = v1 c
          ∧ r.2.mem ((c.tc : Thread Cert.KernelLn3Ideal.nD Cert.KernelLn3Ideal.τ).loc Cert.KernelLn3Ideal.main_v7_2) = v2 c
          ∧ r.2.mem ((c.tc : Thread Cert.KernelLn3Ideal.nD Cert.KernelLn3Ideal.τ).loc Cert.KernelLn3Ideal.main_v7_3) = v3 c
          ∧ r.2.mem ((c.tc : Thread Cert.KernelLn3Ideal.nD Cert.KernelLn3Ideal.τ).loc Cert.KernelLn3Ideal.main_v7_4) = v4 c
          ∧ r.2.mem ((c.tc : Thread Cert.KernelLn3Ideal.nD Cert.KernelLn3Ideal.τ).loc Cert.KernelLn3Ideal.main_arg0) = m ((c.tc : Thread Cert.KernelLn3Ideal.nD Cert.KernelLn3Ideal.τ).loc Cert.KernelLn3Ideal.main_arg0)
          ∧ r.2.mem ((c.tc : Thread Cert.KernelLn3Ideal.nD Cert.KernelLn3Ideal.τ).loc Cert.KernelLn3Ideal.main_arg1) = m ((c.tc : Thread Cert.KernelLn3Ideal.nD Cert.KernelLn3Ideal.τ).loc Cert.KernelLn3Ideal.main_arg1)
          ∧ r.2.mem ((c.tc : Thread Cert.KernelLn3Ideal.nD Cert.KernelLn3Ideal.τ).loc Cert.KernelLn3Ideal.main_arg2) = m ((c.tc : Thread Cert.KernelLn3Ideal.nD Cert.KernelLn3Ideal.τ).loc Cert.KernelLn3Ideal.main_arg2)
          ∧ r.2.mem ((c.tc : Thread Cert.KernelLn3Ideal.nD Cert.KernelLn3Ideal.τ).loc Cert.KernelLn3Ideal.main_arg3) = m ((c.tc : Thread Cert.KernelLn3Ideal.nD Cert.KernelLn3Ideal.τ).loc Cert.KernelLn3Ideal.main_arg3)
          ∧ r.2.mem ((c.tc : Thread Cert.KernelLn3Ideal.nD Cert.KernelLn3Ideal.τ).loc Cert.KernelLn3Ideal.main_arg4) = m ((c.tc : Thread Cert.KernelLn3Ideal.nD Cert.KernelLn3Ideal.τ).loc Cert.KernelLn3Ideal.main_arg4))
      ∧ θ_run (Cert.ReferenceLn3Ideal.defs (F := Ideal)) (onTc (τ := Cert.ReferenceLn3Ideal.τ) (Cert.ReferenceLn3Ideal.main (F := Ideal))) ⟨m', fun _ => 0, g'⟩ (fun r => ∀ c : Dev Cert.ReferenceLn3Ideal.nD,
          r.2.mem ((c.tc : Thread Cert.ReferenceLn3Ideal.nD Cert.ReferenceLn3Ideal.τ).loc Cert.ReferenceLn3Ideal.main_v90) = v0 c
          ∧ r.2.mem ((c.tc : Thread Cert.ReferenceLn3Ideal.nD Cert.ReferenceLn3Ideal.τ).loc Cert.ReferenceLn3Ideal.main_v94) = v1 c
          ∧ r.2.mem ((c.tc : Thread Cert.ReferenceLn3Ideal.nD Cert.ReferenceLn3Ideal.τ).loc Cert.ReferenceLn3Ideal.main_v89) = v2 c
          ∧ r.2.mem ((c.tc : Thread Cert.ReferenceLn3Ideal.nD Cert.ReferenceLn3Ideal.τ).loc Cert.ReferenceLn3Ideal.main_v88) = v3 c
          ∧ r.2.mem ((c.tc : Thread Cert.ReferenceLn3Ideal.nD Cert.ReferenceLn3Ideal.τ).loc Cert.ReferenceLn3Ideal.main_v95) = v4 c
          ∧ r.2.mem ((c.tc : Thread Cert.ReferenceLn3Ideal.nD Cert.ReferenceLn3Ideal.τ).loc Cert.ReferenceLn3Ideal.main_arg0) = m' ((c.tc : Thread Cert.ReferenceLn3Ideal.nD Cert.ReferenceLn3Ideal.τ).loc Cert.ReferenceLn3Ideal.main_arg0)
          ∧ r.2.mem ((c.tc : Thread Cert.ReferenceLn3Ideal.nD Cert.ReferenceLn3Ideal.τ).loc Cert.ReferenceLn3Ideal.main_arg1) = m' ((c.tc : Thread Cert.ReferenceLn3Ideal.nD Cert.ReferenceLn3Ideal.τ).loc Cert.ReferenceLn3Ideal.main_arg1)
          ∧ r.2.mem ((c.tc : Thread Cert.ReferenceLn3Ideal.nD Cert.ReferenceLn3Ideal.τ).loc Cert.ReferenceLn3Ideal.main_arg2) = m' ((c.tc : Thread Cert.ReferenceLn3Ideal.nD Cert.ReferenceLn3Ideal.τ).loc Cert.ReferenceLn3Ideal.main_arg2)
          ∧ r.2.mem ((c.tc : Thread Cert.ReferenceLn3Ideal.nD Cert.ReferenceLn3Ideal.τ).loc Cert.ReferenceLn3Ideal.main_arg3) = m' ((c.tc : Thread Cert.ReferenceLn3Ideal.nD Cert.ReferenceLn3Ideal.τ).loc Cert.ReferenceLn3Ideal.main_arg3)
          ∧ r.2.mem ((c.tc : Thread Cert.ReferenceLn3Ideal.nD Cert.ReferenceLn3Ideal.τ).loc Cert.ReferenceLn3Ideal.main_arg4) = m' ((c.tc : Thread Cert.ReferenceLn3Ideal.nD Cert.ReferenceLn3Ideal.τ).loc Cert.ReferenceLn3Ideal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v16_0)) (v1 : (c : Dev Cert.KernelFfnIdeal.nD) → Buf (Elt Ideal) ((c.tc : Thread Cert.KernelFfnIdeal.nD Cert.KernelFfnIdeal.τ).loc Cert.KernelFfnIdeal.main_v16_1)) (v2 : (c : Dev Cert.KernelFfnIdeal.nD) → Buf (Elt Ideal) ((c.tc : Thread Cert.KernelFfnIdeal.nD Cert.KernelFfnIdeal.τ).loc Cert.KernelFfnIdeal.main_v13_2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v16_0) = v0 c
          ∧ r.2.mem ((c.tc : Thread Cert.KernelFfnIdeal.nD Cert.KernelFfnIdeal.τ).loc Cert.KernelFfnIdeal.main_v16_1) = v1 c
          ∧ r.2.mem ((c.tc : Thread Cert.KernelFfnIdeal.nD Cert.KernelFfnIdeal.τ).loc Cert.KernelFfnIdeal.main_v13_2) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v15) = v0 c
          ∧ r.2.mem ((c.tc : Thread Cert.ReferenceFfnIdeal.nD Cert.ReferenceFfnIdeal.τ).loc Cert.ReferenceFfnIdeal.main_v19) = v1 c
          ∧ r.2.mem ((c.tc : Thread Cert.ReferenceFfnIdeal.nD Cert.ReferenceFfnIdeal.τ).loc Cert.ReferenceFfnIdeal.main_v23) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v9_2)) (v1 : (c : Dev Cert.KernelMergeIdeal.nD) → Buf (Elt Ideal) ((c.tc : Thread Cert.KernelMergeIdeal.nD Cert.KernelMergeIdeal.τ).loc Cert.KernelMergeIdeal.main_v15_0)) (v2 : (c : Dev Cert.KernelMergeIdeal.nD) → Buf (Elt Ideal) ((c.tc : Thread Cert.KernelMergeIdeal.nD Cert.KernelMergeIdeal.τ).loc Cert.KernelMergeIdeal.main_v15_1)) (v3 : (c : Dev Cert.KernelMergeIdeal.nD) → Buf (Elt Ideal) ((c.tc : Thread Cert.KernelMergeIdeal.nD Cert.KernelMergeIdeal.τ).loc Cert.KernelMergeIdeal.main_v15_2)) (v4 : (c : Dev Cert.KernelMergeIdeal.nD) → Buf (Elt Ideal) ((c.tc : Thread Cert.KernelMergeIdeal.nD Cert.KernelMergeIdeal.τ).loc Cert.KernelMergeIdeal.main_v15_3)) (v5 : (c : Dev Cert.KernelMergeIdeal.nD) → Buf (Elt Ideal) ((c.tc : Thread Cert.KernelMergeIdeal.nD Cert.KernelMergeIdeal.τ).loc Cert.KernelMergeIdeal.main_v16)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v9_2) = v0 c
          ∧ r.2.mem ((c.tc : Thread Cert.KernelMergeIdeal.nD Cert.KernelMergeIdeal.τ).loc Cert.KernelMergeIdeal.main_v15_0) = v1 c
          ∧ r.2.mem ((c.tc : Thread Cert.KernelMergeIdeal.nD Cert.KernelMergeIdeal.τ).loc Cert.KernelMergeIdeal.main_v15_1) = v2 c
          ∧ r.2.mem ((c.tc : Thread Cert.KernelMergeIdeal.nD Cert.KernelMergeIdeal.τ).loc Cert.KernelMergeIdeal.main_v15_2) = v3 c
          ∧ r.2.mem ((c.tc : Thread Cert.KernelMergeIdeal.nD Cert.KernelMergeIdeal.τ).loc Cert.KernelMergeIdeal.main_v15_3) = v4 c
          ∧ r.2.mem ((c.tc : Thread Cert.KernelMergeIdeal.nD Cert.KernelMergeIdeal.τ).loc Cert.KernelMergeIdeal.main_v16) = v5 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v45) = v0 c
          ∧ r.2.mem ((c.tc : Thread Cert.ReferenceMergeIdeal.nD Cert.ReferenceMergeIdeal.τ).loc Cert.ReferenceMergeIdeal.main_v47) = v1 c
          ∧ r.2.mem ((c.tc : Thread Cert.ReferenceMergeIdeal.nD Cert.ReferenceMergeIdeal.τ).loc Cert.ReferenceMergeIdeal.main_v49) = v2 c
          ∧ r.2.mem ((c.tc : Thread Cert.ReferenceMergeIdeal.nD Cert.ReferenceMergeIdeal.τ).loc Cert.ReferenceMergeIdeal.main_v51) = v3 c
          ∧ r.2.mem ((c.tc : Thread Cert.ReferenceMergeIdeal.nD Cert.ReferenceMergeIdeal.τ).loc Cert.ReferenceMergeIdeal.main_v53) = v4 c
          ∧ r.2.mem ((c.tc : Thread Cert.ReferenceMergeIdeal.nD Cert.ReferenceMergeIdeal.τ).loc Cert.ReferenceMergeIdeal.main_v54) = v5 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelHgb_KernelHgbIdeal : Prop :=
  True

def preserves_KernelHgf_KernelHgfIdeal : Prop :=
  True

def preserves_KernelSbf_KernelSbfIdeal : Prop :=
  IdealRules.named_const.Statement Cert.KernelSbfIdeal.κ "dead" .f32 0xC2D00000#32 ⊥

def algebraic_KernelSbfIdeal_ReferenceSbfIdeal_pre_finite_sbf [hKernelSbfIdeal : Cert.KernelSbfIdeal.Facts] [hReferenceSbfIdeal : Cert.ReferenceSbfIdeal.Facts] [hPre_finite_sbf : Cert.Pre_finite_sbf.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg)
    (m' : (ℓ : Loc Cert.ReferenceSbfIdeal.nD Cert.ReferenceSbfIdeal.τ Cert.ReferenceSbfIdeal.sig) → Buf (Elt Ideal) ℓ) (g' : Dev Cert.ReferenceSbfIdeal.nD → PrngReg), Pre_KernelSbfIdeal_finite_sbf m →
    (∀ c : Dev Cert.KernelSbfIdeal.nD,
      m' ((c.tc : Thread Cert.ReferenceSbfIdeal.nD Cert.ReferenceSbfIdeal.τ).loc Cert.ReferenceSbfIdeal.main_arg0) = m ((c.tc : Thread Cert.KernelSbfIdeal.nD Cert.KernelSbfIdeal.τ).loc Cert.KernelSbfIdeal.main_arg0)) →
    ∃ (v0 : (c : Dev Cert.KernelSbfIdeal.nD) → Buf (Elt Ideal) ((c.tc : Thread Cert.KernelSbfIdeal.nD Cert.KernelSbfIdeal.τ).loc Cert.KernelSbfIdeal.main_v0_0)),
      θ_run (Cert.KernelSbfIdeal.defs (F := Ideal)) (onTc (τ := Cert.KernelSbfIdeal.τ) (Cert.KernelSbfIdeal.main (F := Ideal))) ⟨m, fun _ => 0, g⟩ (fun r => ∀ c : Dev Cert.KernelSbfIdeal.nD,
          r.2.mem ((c.tc : Thread Cert.KernelSbfIdeal.nD Cert.KernelSbfIdeal.τ).loc Cert.KernelSbfIdeal.main_v0_0) = v0 c
          ∧ r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0))
      ∧ θ_run (Cert.ReferenceSbfIdeal.defs (F := Ideal)) (onTc (τ := Cert.ReferenceSbfIdeal.τ) (Cert.ReferenceSbfIdeal.main (F := Ideal))) ⟨m', fun _ => 0, g'⟩ (fun r => ∀ c : Dev Cert.ReferenceSbfIdeal.nD,
          r.2.mem ((c.tc : Thread Cert.ReferenceSbfIdeal.nD Cert.ReferenceSbfIdeal.τ).loc Cert.ReferenceSbfIdeal.main_v39) = v0 c
          ∧ r.2.mem ((c.tc : Thread Cert.ReferenceSbfIdeal.nD Cert.ReferenceSbfIdeal.τ).loc Cert.ReferenceSbfIdeal.main_arg0) = m' ((c.tc : Thread Cert.ReferenceSbfIdeal.nD Cert.ReferenceSbfIdeal.τ).loc Cert.ReferenceSbfIdeal.main_arg0))

def preserves_KernelSbb_KernelSbbIdeal : Prop :=
  True

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)
      ∧ m' ((c.tc : Thread Cert.ReferenceResIdeal.nD Cert.ReferenceResIdeal.τ).loc Cert.ReferenceResIdeal.main_arg3) = m ((c.tc : Thread Cert.KernelResIdeal.nD Cert.KernelResIdeal.τ).loc Cert.KernelResIdeal.main_arg3)
      ∧ m' ((c.tc : Thread Cert.ReferenceResIdeal.nD Cert.ReferenceResIdeal.τ).loc Cert.ReferenceResIdeal.main_arg4) = m ((c.tc : Thread Cert.KernelResIdeal.nD Cert.KernelResIdeal.τ).loc Cert.KernelResIdeal.main_arg4)) →
    ∃ (v0 : (c : Dev Cert.KernelResIdeal.nD) → Buf (Elt Ideal) ((c.tc : Thread Cert.KernelResIdeal.nD Cert.KernelResIdeal.τ).loc Cert.KernelResIdeal.main_v5_0)) (v1 : (c : Dev Cert.KernelResIdeal.nD) → Buf (Elt Ideal) ((c.tc : Thread Cert.KernelResIdeal.nD Cert.KernelResIdeal.τ).loc Cert.KernelResIdeal.main_v5_1)) (v2 : (c : Dev Cert.KernelResIdeal.nD) → Buf (Elt Ideal) ((c.tc : Thread Cert.KernelResIdeal.nD Cert.KernelResIdeal.τ).loc Cert.KernelResIdeal.main_v5_2)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v5_0) = v0 c
          ∧ r.2.mem ((c.tc : Thread Cert.KernelResIdeal.nD Cert.KernelResIdeal.τ).loc Cert.KernelResIdeal.main_v5_1) = v1 c
          ∧ r.2.mem ((c.tc : Thread Cert.KernelResIdeal.nD Cert.KernelResIdeal.τ).loc Cert.KernelResIdeal.main_v5_2) = v2 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
          ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
          ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v31) = v0 c
          ∧ r.2.mem ((c.tc : Thread Cert.ReferenceResIdeal.nD Cert.ReferenceResIdeal.τ).loc Cert.ReferenceResIdeal.main_v32) = v1 c
          ∧ r.2.mem ((c.tc : Thread Cert.ReferenceResIdeal.nD Cert.ReferenceResIdeal.τ).loc Cert.ReferenceResIdeal.main_v34) = v2 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2)
          ∧ r.2.mem ((c.tc : Thread Cert.ReferenceResIdeal.nD Cert.ReferenceResIdeal.τ).loc Cert.ReferenceResIdeal.main_arg3) = m' ((c.tc : Thread Cert.ReferenceResIdeal.nD Cert.ReferenceResIdeal.τ).loc Cert.ReferenceResIdeal.main_arg3)
          ∧ r.2.mem ((c.tc : Thread Cert.ReferenceResIdeal.nD Cert.ReferenceResIdeal.τ).loc Cert.ReferenceResIdeal.main_arg4) = m' ((c.tc : Thread Cert.ReferenceResIdeal.nD Cert.ReferenceResIdeal.τ).loc Cert.ReferenceResIdeal.main_arg4))

def preserves_KernelDwn_KernelDwnIdeal : Prop :=
  True

def algebraic_KernelDwnIdeal_ReferenceDwnIdeal [hKernelDwnIdeal : Cert.KernelDwnIdeal.Facts] [hReferenceDwnIdeal : Cert.ReferenceDwnIdeal.Facts] : Prop :=
  ∀ (m : (ℓ : Loc Cert.KernelDwnIdeal.nD Cert.KernelDwnIdeal.τ Cert.KernelDwnIdeal.sig) → Buf (Elt Ideal) ℓ) (g : Dev Cert.KernelDwnIdeal.nD → PrngReg)
    (m' : (ℓ : Loc Cert.ReferenceDwnIdeal.nD Cert.ReferenceDwnIdeal.τ Cert.ReferenceDwnIdeal.sig) → Buf (Elt Ideal) ℓ) (g' : Dev Cert.ReferenceDwnIdeal.nD → PrngReg), Pre_KernelDwnIdeal m →
    (∀ c : Dev Cert.KernelDwnIdeal.nD,
      m' ((c.tc : Thread Cert.ReferenceDwnIdeal.nD Cert.ReferenceDwnIdeal.τ).loc Cert.ReferenceDwnIdeal.main_arg0) = m ((c.tc : Thread Cert.KernelDwnIdeal.nD Cert.KernelDwnIdeal.τ).loc Cert.KernelDwnIdeal.main_arg0)
      ∧ m' ((c.tc : Thread Cert.ReferenceDwnIdeal.nD Cert.ReferenceDwnIdeal.τ).loc Cert.ReferenceDwnIdeal.main_arg1) = m ((c.tc : Thread Cert.KernelDwnIdeal.nD Cert.KernelDwnIdeal.τ).loc Cert.KernelDwnIdeal.main_arg1)
      ∧ m' ((c.tc : Thread Cert.ReferenceDwnIdeal.nD Cert.ReferenceDwnIdeal.τ).loc Cert.ReferenceDwnIdeal.main_arg2) = m ((c.tc : Thread Cert.KernelDwnIdeal.nD Cert.KernelDwnIdeal.τ).loc Cert.KernelDwnIdeal.main_arg2)
      ∧ m' ((c.tc : Thread Cert.ReferenceDwnIdeal.nD Cert.ReferenceDwnIdeal.τ).loc Cert.ReferenceDwnIdeal.main_arg3) = m ((c.tc : Thread Cert.KernelDwnIdeal.nD Cert.KernelDwnIdeal.τ).loc Cert.KernelDwnIdeal.main_arg3)
      ∧ m' ((c.tc : Thread Cert.ReferenceDwnIdeal.nD Cert.ReferenceDwnIdeal.τ).loc Cert.ReferenceDwnIdeal.main_arg4) = m ((c.tc : Thread Cert.KernelDwnIdeal.nD Cert.KernelDwnIdeal.τ).loc Cert.KernelDwnIdeal.main_arg4)) →
    ∃ (v0 : (c : Dev Cert.KernelDwnIdeal.nD) → Buf (Elt Ideal) ((c.tc : Thread Cert.KernelDwnIdeal.nD Cert.KernelDwnIdeal.τ).loc Cert.KernelDwnIdeal.main_v8_0)) (v1 : (c : Dev Cert.KernelDwnIdeal.nD) → Buf (Elt Ideal) ((c.tc : Thread Cert.KernelDwnIdeal.nD Cert.KernelDwnIdeal.τ).loc Cert.KernelDwnIdeal.main_v8_1)) (v2 : (c : Dev Cert.KernelDwnIdeal.nD) → Buf (Elt Ideal) ((c.tc : Thread Cert.KernelDwnIdeal.nD Cert.KernelDwnIdeal.τ).loc Cert.KernelDwnIdeal.main_v8_2)),
      θ_run (Cert.KernelDwnIdeal.defs (F := Ideal)) (onTc (τ := Cert.KernelDwnIdeal.τ) (Cert.KernelDwnIdeal.main (F := Ideal))) ⟨m, fun _ => 0, g⟩ (fun r => ∀ c : Dev Cert.KernelDwnIdeal.nD,
          r.2.mem ((c.tc : Thread Cert.KernelDwnIdeal.nD Cert.KernelDwnIdeal.τ).loc Cert.KernelDwnIdeal.main_v8_0) = v0 c
          ∧ r.2.mem ((c.tc : Thread Cert.KernelDwnIdeal.nD Cert.KernelDwnIdeal.τ).loc Cert.KernelDwnIdeal.main_v8_1) = v1 c
          ∧ r.2.mem ((c.tc : Thread Cert.KernelDwnIdeal.nD Cert.KernelDwnIdeal.τ).loc Cert.KernelDwnIdeal.main_v8_2) = v2 c
          ∧ r.2.mem ((c.tc : Thread Cert.KernelDwnIdeal.nD Cert.KernelDwnIdeal.τ).loc Cert.KernelDwnIdeal.main_arg0) = m ((c.tc : Thread Cert.KernelDwnIdeal.nD Cert.KernelDwnIdeal.τ).loc Cert.KernelDwnIdeal.main_arg0)
          ∧ r.2.mem ((c.tc : Thread Cert.KernelDwnIdeal.nD Cert.KernelDwnIdeal.τ).loc Cert.KernelDwnIdeal.main_arg1) = m ((c.tc : Thread Cert.KernelDwnIdeal.nD Cert.KernelDwnIdeal.τ).loc Cert.KernelDwnIdeal.main_arg1)
          ∧ r.2.mem ((c.tc : Thread Cert.KernelDwnIdeal.nD Cert.KernelDwnIdeal.τ).loc Cert.KernelDwnIdeal.main_arg2) = m ((c.tc : Thread Cert.KernelDwnIdeal.nD Cert.KernelDwnIdeal.τ).loc Cert.KernelDwnIdeal.main_arg2)
          ∧ r.2.mem ((c.tc : Thread Cert.KernelDwnIdeal.nD Cert.KernelDwnIdeal.τ).loc Cert.KernelDwnIdeal.main_arg3) = m ((c.tc : Thread Cert.KernelDwnIdeal.nD Cert.KernelDwnIdeal.τ).loc Cert.KernelDwnIdeal.main_arg3)
          ∧ r.2.mem ((c.tc : Thread Cert.KernelDwnIdeal.nD Cert.KernelDwnIdeal.τ).loc Cert.KernelDwnIdeal.main_arg4) = m ((c.tc : Thread Cert.KernelDwnIdeal.nD Cert.KernelDwnIdeal.τ).loc Cert.KernelDwnIdeal.main_arg4))
      ∧ θ_run (Cert.ReferenceDwnIdeal.defs (F := Ideal)) (onTc (τ := Cert.ReferenceDwnIdeal.τ) (Cert.ReferenceDwnIdeal.main (F := Ideal))) ⟨m', fun _ => 0, g'⟩ (fun r => ∀ c : Dev Cert.ReferenceDwnIdeal.nD,
          r.2.mem ((c.tc : Thread Cert.ReferenceDwnIdeal.nD Cert.ReferenceDwnIdeal.τ).loc Cert.ReferenceDwnIdeal.main_v33) = v0 c
          ∧ r.2.mem ((c.tc : Thread Cert.ReferenceDwnIdeal.nD Cert.ReferenceDwnIdeal.τ).loc Cert.ReferenceDwnIdeal.main_v34) = v1 c
          ∧ r.2.mem ((c.tc : Thread Cert.ReferenceDwnIdeal.nD Cert.ReferenceDwnIdeal.τ).loc Cert.ReferenceDwnIdeal.main_v36) = v2 c
          ∧ r.2.mem ((c.tc : Thread Cert.ReferenceDwnIdeal.nD Cert.ReferenceDwnIdeal.τ).loc Cert.ReferenceDwnIdeal.main_arg0) = m' ((c.tc : Thread Cert.ReferenceDwnIdeal.nD Cert.ReferenceDwnIdeal.τ).loc Cert.ReferenceDwnIdeal.main_arg0)
          ∧ r.2.mem ((c.tc : Thread Cert.ReferenceDwnIdeal.nD Cert.ReferenceDwnIdeal.τ).loc Cert.ReferenceDwnIdeal.main_arg1) = m' ((c.tc : Thread Cert.ReferenceDwnIdeal.nD Cert.ReferenceDwnIdeal.τ).loc Cert.ReferenceDwnIdeal.main_arg1)
          ∧ r.2.mem ((c.tc : Thread Cert.ReferenceDwnIdeal.nD Cert.ReferenceDwnIdeal.τ).loc Cert.ReferenceDwnIdeal.main_arg2) = m' ((c.tc : Thread Cert.ReferenceDwnIdeal.nD Cert.ReferenceDwnIdeal.τ).loc Cert.ReferenceDwnIdeal.main_arg2)
          ∧ r.2.mem ((c.tc : Thread Cert.ReferenceDwnIdeal.nD Cert.ReferenceDwnIdeal.τ).loc Cert.ReferenceDwnIdeal.main_arg3) = m' ((c.tc : Thread Cert.ReferenceDwnIdeal.nD Cert.ReferenceDwnIdeal.τ).loc Cert.ReferenceDwnIdeal.main_arg3)
          ∧ r.2.mem ((c.tc : Thread Cert.ReferenceDwnIdeal.nD Cert.ReferenceDwnIdeal.τ).loc Cert.ReferenceDwnIdeal.main_arg4) = m' ((c.tc : Thread Cert.ReferenceDwnIdeal.nD Cert.ReferenceDwnIdeal.τ).loc Cert.ReferenceDwnIdeal.main_arg4))

def preserves_KernelInp_KernelInpIdeal : Prop :=
  True

def algebraic_KernelInpIdeal_ReferenceInpIdeal [hKernelInpIdeal : Cert.KernelInpIdeal.Facts] [hReferenceInpIdeal : Cert.ReferenceInpIdeal.Facts] : Prop :=
  ∀ (m : (ℓ : Loc Cert.KernelInpIdeal.nD Cert.KernelInpIdeal.τ Cert.KernelInpIdeal.sig) → Buf (Elt Ideal) ℓ) (g : Dev Cert.KernelInpIdeal.nD → PrngReg)
    (m' : (ℓ : Loc Cert.ReferenceInpIdeal.nD Cert.ReferenceInpIdeal.τ Cert.ReferenceInpIdeal.sig) → Buf (Elt Ideal) ℓ) (g' : Dev Cert.ReferenceInpIdeal.nD → PrngReg), Pre_KernelInpIdeal m →
    (∀ c : Dev Cert.KernelInpIdeal.nD,
      m' ((c.tc : Thread Cert.ReferenceInpIdeal.nD Cert.ReferenceInpIdeal.τ).loc Cert.ReferenceInpIdeal.main_arg0) = m ((c.tc : Thread Cert.KernelInpIdeal.nD Cert.KernelInpIdeal.τ).loc Cert.KernelInpIdeal.main_arg0)
      ∧ m' ((c.tc : Thread Cert.ReferenceInpIdeal.nD Cert.ReferenceInpIdeal.τ).loc Cert.ReferenceInpIdeal.main_arg1) = m ((c.tc : Thread Cert.KernelInpIdeal.nD Cert.KernelInpIdeal.τ).loc Cert.KernelInpIdeal.main_arg1)) →
    ∃ (v0 : (c : Dev Cert.KernelInpIdeal.nD) → Buf (Elt Ideal) ((c.tc : Thread Cert.KernelInpIdeal.nD Cert.KernelInpIdeal.τ).loc Cert.KernelInpIdeal.main_v6_0)) (v1 : (c : Dev Cert.KernelInpIdeal.nD) → Buf (Elt Ideal) ((c.tc : Thread Cert.KernelInpIdeal.nD Cert.KernelInpIdeal.τ).loc Cert.KernelInpIdeal.main_v6_1)),
      θ_run (Cert.KernelInpIdeal.defs (F := Ideal)) (onTc (τ := Cert.KernelInpIdeal.τ) (Cert.KernelInpIdeal.main (F := Ideal))) ⟨m, fun _ => 0, g⟩ (fun r => ∀ c : Dev Cert.KernelInpIdeal.nD,
          r.2.mem ((c.tc : Thread Cert.KernelInpIdeal.nD Cert.KernelInpIdeal.τ).loc Cert.KernelInpIdeal.main_v6_0) = v0 c
          ∧ r.2.mem ((c.tc : Thread Cert.KernelInpIdeal.nD Cert.KernelInpIdeal.τ).loc Cert.KernelInpIdeal.main_v6_1) = v1 c
          ∧ r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
          ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1))
      ∧ θ_run (Cert.ReferenceInpIdeal.defs (F := Ideal)) (onTc (τ := Cert.ReferenceInpIdeal.τ) (Cert.ReferenceInpIdeal.main (F := Ideal))) ⟨m', fun _ => 0, g'⟩ (fun r => ∀ c : Dev Cert.ReferenceInpIdeal.nD,
          r.2.mem ((c.tc : Thread Cert.ReferenceInpIdeal.nD Cert.ReferenceInpIdeal.τ).loc Cert.ReferenceInpIdeal.main_v2) = v0 c
          ∧ r.2.mem ((c.tc : Thread Cert.ReferenceInpIdeal.nD Cert.ReferenceInpIdeal.τ).loc Cert.ReferenceInpIdeal.main_v3) = v1 c
          ∧ r.2.mem ((c.tc : Thread Cert.ReferenceInpIdeal.nD Cert.ReferenceInpIdeal.τ).loc Cert.ReferenceInpIdeal.main_arg0) = m' ((c.tc : Thread Cert.ReferenceInpIdeal.nD Cert.ReferenceInpIdeal.τ).loc Cert.ReferenceInpIdeal.main_arg0)
          ∧ r.2.mem ((c.tc : Thread Cert.ReferenceInpIdeal.nD Cert.ReferenceInpIdeal.τ).loc Cert.ReferenceInpIdeal.main_arg1) = m' ((c.tc : Thread Cert.ReferenceInpIdeal.nD Cert.ReferenceInpIdeal.τ).loc Cert.ReferenceInpIdeal.main_arg1))

def preserves_KernelGin_KernelGinIdeal : Prop :=
  True

def algebraic_KernelGinIdeal_ReferenceGinIdeal [hKernelGinIdeal : Cert.KernelGinIdeal.Facts] [hReferenceGinIdeal : Cert.ReferenceGinIdeal.Facts] : Prop :=
  ∀ (m : (ℓ : Loc Cert.KernelGinIdeal.nD Cert.KernelGinIdeal.τ Cert.KernelGinIdeal.sig) → Buf (Elt Ideal) ℓ) (g : Dev Cert.KernelGinIdeal.nD → PrngReg)
    (m' : (ℓ : Loc Cert.ReferenceGinIdeal.nD Cert.ReferenceGinIdeal.τ Cert.ReferenceGinIdeal.sig) → Buf (Elt Ideal) ℓ) (g' : Dev Cert.ReferenceGinIdeal.nD → PrngReg), Pre_KernelGinIdeal m →
    (∀ c : Dev Cert.KernelGinIdeal.nD,
      m' ((c.tc : Thread Cert.ReferenceGinIdeal.nD Cert.ReferenceGinIdeal.τ).loc Cert.ReferenceGinIdeal.main_arg0) = m ((c.tc : Thread Cert.KernelGinIdeal.nD Cert.KernelGinIdeal.τ).loc Cert.KernelGinIdeal.main_arg0)
      ∧ m' ((c.tc : Thread Cert.ReferenceGinIdeal.nD Cert.ReferenceGinIdeal.τ).loc Cert.ReferenceGinIdeal.main_arg1) = m ((c.tc : Thread Cert.KernelGinIdeal.nD Cert.KernelGinIdeal.τ).loc Cert.KernelGinIdeal.main_arg1)
      ∧ m' ((c.tc : Thread Cert.ReferenceGinIdeal.nD Cert.ReferenceGinIdeal.τ).loc Cert.ReferenceGinIdeal.main_arg2) = m ((c.tc : Thread Cert.KernelGinIdeal.nD Cert.KernelGinIdeal.τ).loc Cert.KernelGinIdeal.main_arg2)) →
    ∃ (v0 : (c : Dev Cert.KernelGinIdeal.nD) → Buf (Elt Ideal) ((c.tc : Thread Cert.KernelGinIdeal.nD Cert.KernelGinIdeal.τ).loc Cert.KernelGinIdeal.main_v7)),
      θ_run (Cert.KernelGinIdeal.defs (F := Ideal)) (onTc (τ := Cert.KernelGinIdeal.τ) (Cert.KernelGinIdeal.main (F := Ideal))) ⟨m, fun _ => 0, g⟩ (fun r => ∀ c : Dev Cert.KernelGinIdeal.nD,
          r.2.mem ((c.tc : Thread Cert.KernelGinIdeal.nD Cert.KernelGinIdeal.τ).loc Cert.KernelGinIdeal.main_v7) = v0 c
          ∧ r.2.mem ((c.tc : Thread Cert.KernelGinIdeal.nD Cert.KernelGinIdeal.τ).loc Cert.KernelGinIdeal.main_arg0) = m ((c.tc : Thread Cert.KernelGinIdeal.nD Cert.KernelGinIdeal.τ).loc Cert.KernelGinIdeal.main_arg0)
          ∧ r.2.mem ((c.tc : Thread Cert.KernelGinIdeal.nD Cert.KernelGinIdeal.τ).loc Cert.KernelGinIdeal.main_arg1) = m ((c.tc : Thread Cert.KernelGinIdeal.nD Cert.KernelGinIdeal.τ).loc Cert.KernelGinIdeal.main_arg1)
          ∧ r.2.mem ((c.tc : Thread Cert.KernelGinIdeal.nD Cert.KernelGinIdeal.τ).loc Cert.KernelGinIdeal.main_arg2) = m ((c.tc : Thread Cert.KernelGinIdeal.nD Cert.KernelGinIdeal.τ).loc Cert.KernelGinIdeal.main_arg2))
      ∧ θ_run (Cert.ReferenceGinIdeal.defs (F := Ideal)) (onTc (τ := Cert.ReferenceGinIdeal.τ) (Cert.ReferenceGinIdeal.main (F := Ideal))) ⟨m', fun _ => 0, g'⟩ (fun r => ∀ c : Dev Cert.ReferenceGinIdeal.nD,
          r.2.mem ((c.tc : Thread Cert.ReferenceGinIdeal.nD Cert.ReferenceGinIdeal.τ).loc Cert.ReferenceGinIdeal.main_v9) = v0 c
          ∧ r.2.mem ((c.tc : Thread Cert.ReferenceGinIdeal.nD Cert.ReferenceGinIdeal.τ).loc Cert.ReferenceGinIdeal.main_arg0) = m' ((c.tc : Thread Cert.ReferenceGinIdeal.nD Cert.ReferenceGinIdeal.τ).loc Cert.ReferenceGinIdeal.main_arg0)
          ∧ r.2.mem ((c.tc : Thread Cert.ReferenceGinIdeal.nD Cert.ReferenceGinIdeal.τ).loc Cert.ReferenceGinIdeal.main_arg1) = m' ((c.tc : Thread Cert.ReferenceGinIdeal.nD Cert.ReferenceGinIdeal.τ).loc Cert.ReferenceGinIdeal.main_arg1)
          ∧ r.2.mem ((c.tc : Thread Cert.ReferenceGinIdeal.nD Cert.ReferenceGinIdeal.τ).loc Cert.ReferenceGinIdeal.main_arg2) = m' ((c.tc : Thread Cert.ReferenceGinIdeal.nD Cert.ReferenceGinIdeal.τ).loc Cert.ReferenceGinIdeal.main_arg2))

def preserves_KernelGiw_KernelGiwIdeal : Prop :=
  True

def algebraic_KernelGiwIdeal_ReferenceGiwIdeal [hKernelGiwIdeal : Cert.KernelGiwIdeal.Facts] [hReferenceGiwIdeal : Cert.ReferenceGiwIdeal.Facts] : Prop :=
  ∀ (m : (ℓ : Loc Cert.KernelGiwIdeal.nD Cert.KernelGiwIdeal.τ Cert.KernelGiwIdeal.sig) → Buf (Elt Ideal) ℓ) (g : Dev Cert.KernelGiwIdeal.nD → PrngReg)
    (m' : (ℓ : Loc Cert.ReferenceGiwIdeal.nD Cert.ReferenceGiwIdeal.τ Cert.ReferenceGiwIdeal.sig) → Buf (Elt Ideal) ℓ) (g' : Dev Cert.ReferenceGiwIdeal.nD → PrngReg), Pre_KernelGiwIdeal m →
    (∀ c : Dev Cert.KernelGiwIdeal.nD,
      m' ((c.tc : Thread Cert.ReferenceGiwIdeal.nD Cert.ReferenceGiwIdeal.τ).loc Cert.ReferenceGiwIdeal.main_arg0) = m ((c.tc : Thread Cert.KernelGiwIdeal.nD Cert.KernelGiwIdeal.τ).loc Cert.KernelGiwIdeal.main_arg0)
      ∧ m' ((c.tc : Thread Cert.ReferenceGiwIdeal.nD Cert.ReferenceGiwIdeal.τ).loc Cert.ReferenceGiwIdeal.main_arg1) = m ((c.tc : Thread Cert.KernelGiwIdeal.nD Cert.KernelGiwIdeal.τ).loc Cert.KernelGiwIdeal.main_arg1)) →
    ∃ (v0 : (c : Dev Cert.KernelGiwIdeal.nD) → Buf (Elt Ideal) ((c.tc : Thread Cert.KernelGiwIdeal.nD Cert.KernelGiwIdeal.τ).loc Cert.KernelGiwIdeal.main_v4)),
      θ_run (Cert.KernelGiwIdeal.defs (F := Ideal)) (onTc (τ := Cert.KernelGiwIdeal.τ) (Cert.KernelGiwIdeal.main (F := Ideal))) ⟨m, fun _ => 0, g⟩ (fun r => ∀ c : Dev Cert.KernelGiwIdeal.nD,
          r.2.mem ((c.tc : Thread Cert.KernelGiwIdeal.nD Cert.KernelGiwIdeal.τ).loc Cert.KernelGiwIdeal.main_v4) = v0 c
          ∧ r.2.mem ((c.tc : Thread Cert.KernelGiwIdeal.nD Cert.KernelGiwIdeal.τ).loc Cert.KernelGiwIdeal.main_arg0) = m ((c.tc : Thread Cert.KernelGiwIdeal.nD Cert.KernelGiwIdeal.τ).loc Cert.KernelGiwIdeal.main_arg0)
          ∧ r.2.mem ((c.tc : Thread Cert.KernelGiwIdeal.nD Cert.KernelGiwIdeal.τ).loc Cert.KernelGiwIdeal.main_arg1) = m ((c.tc : Thread Cert.KernelGiwIdeal.nD Cert.KernelGiwIdeal.τ).loc Cert.KernelGiwIdeal.main_arg1))
      ∧ θ_run (Cert.ReferenceGiwIdeal.defs (F := Ideal)) (onTc (τ := Cert.ReferenceGiwIdeal.τ) (Cert.ReferenceGiwIdeal.main (F := Ideal))) ⟨m', fun _ => 0, g'⟩ (fun r => ∀ c : Dev Cert.ReferenceGiwIdeal.nD,
          r.2.mem ((c.tc : Thread Cert.ReferenceGiwIdeal.nD Cert.ReferenceGiwIdeal.τ).loc Cert.ReferenceGiwIdeal.main_v4) = v0 c
          ∧ r.2.mem ((c.tc : Thread Cert.ReferenceGiwIdeal.nD Cert.ReferenceGiwIdeal.τ).loc Cert.ReferenceGiwIdeal.main_arg0) = m' ((c.tc : Thread Cert.ReferenceGiwIdeal.nD Cert.ReferenceGiwIdeal.τ).loc Cert.ReferenceGiwIdeal.main_arg0)
          ∧ r.2.mem ((c.tc : Thread Cert.ReferenceGiwIdeal.nD Cert.ReferenceGiwIdeal.τ).loc Cert.ReferenceGiwIdeal.main_arg1) = m' ((c.tc : Thread Cert.ReferenceGiwIdeal.nD Cert.ReferenceGiwIdeal.τ).loc Cert.ReferenceGiwIdeal.main_arg1))

def preserves_KernelFdh_KernelFdhIdeal : Prop :=
  True

def algebraic_KernelFdhIdeal_ReferenceFdhIdeal [hKernelFdhIdeal : Cert.KernelFdhIdeal.Facts] [hReferenceFdhIdeal : Cert.ReferenceFdhIdeal.Facts] : Prop :=
  ∀ (m : (ℓ : Loc Cert.KernelFdhIdeal.nD Cert.KernelFdhIdeal.τ Cert.KernelFdhIdeal.sig) → Buf (Elt Ideal) ℓ) (g : Dev Cert.KernelFdhIdeal.nD → PrngReg)
    (m' : (ℓ : Loc Cert.ReferenceFdhIdeal.nD Cert.ReferenceFdhIdeal.τ Cert.ReferenceFdhIdeal.sig) → Buf (Elt Ideal) ℓ) (g' : Dev Cert.ReferenceFdhIdeal.nD → PrngReg), Pre_KernelFdhIdeal m →
    (∀ c : Dev Cert.KernelFdhIdeal.nD,
      m' ((c.tc : Thread Cert.ReferenceFdhIdeal.nD Cert.ReferenceFdhIdeal.τ).loc Cert.ReferenceFdhIdeal.main_arg0) = m ((c.tc : Thread Cert.KernelFdhIdeal.nD Cert.KernelFdhIdeal.τ).loc Cert.KernelFdhIdeal.main_arg0)
      ∧ m' ((c.tc : Thread Cert.ReferenceFdhIdeal.nD Cert.ReferenceFdhIdeal.τ).loc Cert.ReferenceFdhIdeal.main_arg1) = m ((c.tc : Thread Cert.KernelFdhIdeal.nD Cert.KernelFdhIdeal.τ).loc Cert.KernelFdhIdeal.main_arg1)
      ∧ m' ((c.tc : Thread Cert.ReferenceFdhIdeal.nD Cert.ReferenceFdhIdeal.τ).loc Cert.ReferenceFdhIdeal.main_arg2) = m ((c.tc : Thread Cert.KernelFdhIdeal.nD Cert.KernelFdhIdeal.τ).loc Cert.KernelFdhIdeal.main_arg2)
      ∧ m' ((c.tc : Thread Cert.ReferenceFdhIdeal.nD Cert.ReferenceFdhIdeal.τ).loc Cert.ReferenceFdhIdeal.main_arg3) = m ((c.tc : Thread Cert.KernelFdhIdeal.nD Cert.KernelFdhIdeal.τ).loc Cert.KernelFdhIdeal.main_arg3)
      ∧ m' ((c.tc : Thread Cert.ReferenceFdhIdeal.nD Cert.ReferenceFdhIdeal.τ).loc Cert.ReferenceFdhIdeal.main_arg4) = m ((c.tc : Thread Cert.KernelFdhIdeal.nD Cert.KernelFdhIdeal.τ).loc Cert.KernelFdhIdeal.main_arg4)) →
    ∃ (v0 : (c : Dev Cert.KernelFdhIdeal.nD) → Buf (Elt Ideal) ((c.tc : Thread Cert.KernelFdhIdeal.nD Cert.KernelFdhIdeal.τ).loc Cert.KernelFdhIdeal.main_v17)),
      θ_run (Cert.KernelFdhIdeal.defs (F := Ideal)) (onTc (τ := Cert.KernelFdhIdeal.τ) (Cert.KernelFdhIdeal.main (F := Ideal))) ⟨m, fun _ => 0, g⟩ (fun r => ∀ c : Dev Cert.KernelFdhIdeal.nD,
          r.2.mem ((c.tc : Thread Cert.KernelFdhIdeal.nD Cert.KernelFdhIdeal.τ).loc Cert.KernelFdhIdeal.main_v17) = v0 c
          ∧ r.2.mem ((c.tc : Thread Cert.KernelFdhIdeal.nD Cert.KernelFdhIdeal.τ).loc Cert.KernelFdhIdeal.main_arg0) = m ((c.tc : Thread Cert.KernelFdhIdeal.nD Cert.KernelFdhIdeal.τ).loc Cert.KernelFdhIdeal.main_arg0)
          ∧ r.2.mem ((c.tc : Thread Cert.KernelFdhIdeal.nD Cert.KernelFdhIdeal.τ).loc Cert.KernelFdhIdeal.main_arg1) = m ((c.tc : Thread Cert.KernelFdhIdeal.nD Cert.KernelFdhIdeal.τ).loc Cert.KernelFdhIdeal.main_arg1)
          ∧ r.2.mem ((c.tc : Thread Cert.KernelFdhIdeal.nD Cert.KernelFdhIdeal.τ).loc Cert.KernelFdhIdeal.main_arg2) = m ((c.tc : Thread Cert.KernelFdhIdeal.nD Cert.KernelFdhIdeal.τ).loc Cert.KernelFdhIdeal.main_arg2)
          ∧ r.2.mem ((c.tc : Thread Cert.KernelFdhIdeal.nD Cert.KernelFdhIdeal.τ).loc Cert.KernelFdhIdeal.main_arg3) = m ((c.tc : Thread Cert.KernelFdhIdeal.nD Cert.KernelFdhIdeal.τ).loc Cert.KernelFdhIdeal.main_arg3)
          ∧ r.2.mem ((c.tc : Thread Cert.KernelFdhIdeal.nD Cert.KernelFdhIdeal.τ).loc Cert.KernelFdhIdeal.main_arg4) = m ((c.tc : Thread Cert.KernelFdhIdeal.nD Cert.KernelFdhIdeal.τ).loc Cert.KernelFdhIdeal.main_arg4))
      ∧ θ_run (Cert.ReferenceFdhIdeal.defs (F := Ideal)) (onTc (τ := Cert.ReferenceFdhIdeal.τ) (Cert.ReferenceFdhIdeal.main (F := Ideal))) ⟨m', fun _ => 0, g'⟩ (fun r => ∀ c : Dev Cert.ReferenceFdhIdeal.nD,
          r.2.mem ((c.tc : Thread Cert.ReferenceFdhIdeal.nD Cert.ReferenceFdhIdeal.τ).loc Cert.ReferenceFdhIdeal.main_v13) = v0 c
          ∧ r.2.mem ((c.tc : Thread Cert.ReferenceFdhIdeal.nD Cert.ReferenceFdhIdeal.τ).loc Cert.ReferenceFdhIdeal.main_arg0) = m' ((c.tc : Thread Cert.ReferenceFdhIdeal.nD Cert.ReferenceFdhIdeal.τ).loc Cert.ReferenceFdhIdeal.main_arg0)
          ∧ r.2.mem ((c.tc : Thread Cert.ReferenceFdhIdeal.nD Cert.ReferenceFdhIdeal.τ).loc Cert.ReferenceFdhIdeal.main_arg1) = m' ((c.tc : Thread Cert.ReferenceFdhIdeal.nD Cert.ReferenceFdhIdeal.τ).loc Cert.ReferenceFdhIdeal.main_arg1)
          ∧ r.2.mem ((c.tc : Thread Cert.ReferenceFdhIdeal.nD Cert.ReferenceFdhIdeal.τ).loc Cert.ReferenceFdhIdeal.main_arg2) = m' ((c.tc : Thread Cert.ReferenceFdhIdeal.nD Cert.ReferenceFdhIdeal.τ).loc Cert.ReferenceFdhIdeal.main_arg2)
          ∧ r.2.mem ((c.tc : Thread Cert.ReferenceFdhIdeal.nD Cert.ReferenceFdhIdeal.τ).loc Cert.ReferenceFdhIdeal.main_arg3) = m' ((c.tc : Thread Cert.ReferenceFdhIdeal.nD Cert.ReferenceFdhIdeal.τ).loc Cert.ReferenceFdhIdeal.main_arg3)
          ∧ r.2.mem ((c.tc : Thread Cert.ReferenceFdhIdeal.nD Cert.ReferenceFdhIdeal.τ).loc Cert.ReferenceFdhIdeal.main_arg4) = m' ((c.tc : Thread Cert.ReferenceFdhIdeal.nD Cert.ReferenceFdhIdeal.τ).loc Cert.ReferenceFdhIdeal.main_arg4))

def preserves_KernelGw_KernelGwIdeal : Prop :=
  True

def algebraic_KernelGwIdeal_ReferenceGwIdeal [hKernelGwIdeal : Cert.KernelGwIdeal.Facts] [hReferenceGwIdeal : Cert.ReferenceGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg)
    (m' : (ℓ : Loc Cert.ReferenceGwIdeal.nD Cert.ReferenceGwIdeal.τ Cert.ReferenceGwIdeal.sig) → Buf (Elt Ideal) ℓ) (g' : Dev Cert.ReferenceGwIdeal.nD → PrngReg), Pre_KernelGwIdeal m →
    (∀ c : Dev Cert.KernelGwIdeal.nD,
      m' ((c.tc : Thread Cert.ReferenceGwIdeal.nD Cert.ReferenceGwIdeal.τ).loc Cert.ReferenceGwIdeal.main_arg0) = m ((c.tc : Thread Cert.KernelGwIdeal.nD Cert.KernelGwIdeal.τ).loc Cert.KernelGwIdeal.main_arg0)
      ∧ m' ((c.tc : Thread Cert.ReferenceGwIdeal.nD Cert.ReferenceGwIdeal.τ).loc Cert.ReferenceGwIdeal.main_arg1) = m ((c.tc : Thread Cert.KernelGwIdeal.nD Cert.KernelGwIdeal.τ).loc Cert.KernelGwIdeal.main_arg1)) →
    ∃ (v0 : (c : Dev Cert.KernelGwIdeal.nD) → Buf (Elt Ideal) ((c.tc : Thread Cert.KernelGwIdeal.nD Cert.KernelGwIdeal.τ).loc Cert.KernelGwIdeal.main_v4)),
      θ_run (Cert.KernelGwIdeal.defs (F := Ideal)) (onTc (τ := Cert.KernelGwIdeal.τ) (Cert.KernelGwIdeal.main (F := Ideal))) ⟨m, fun _ => 0, g⟩ (fun r => ∀ c : Dev Cert.KernelGwIdeal.nD,
          r.2.mem ((c.tc : Thread Cert.KernelGwIdeal.nD Cert.KernelGwIdeal.τ).loc Cert.KernelGwIdeal.main_v4) = v0 c
          ∧ r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
          ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ θ_run (Cert.ReferenceGwIdeal.defs (F := Ideal)) (onTc (τ := Cert.ReferenceGwIdeal.τ) (Cert.ReferenceGwIdeal.main (F := Ideal))) ⟨m', fun _ => 0, g'⟩ (fun r => ∀ c : Dev Cert.ReferenceGwIdeal.nD,
          r.2.mem ((c.tc : Thread Cert.ReferenceGwIdeal.nD Cert.ReferenceGwIdeal.τ).loc Cert.ReferenceGwIdeal.main_v6) = v0 c
          ∧ r.2.mem ((c.tc : Thread Cert.ReferenceGwIdeal.nD Cert.ReferenceGwIdeal.τ).loc Cert.ReferenceGwIdeal.main_arg0) = m' ((c.tc : Thread Cert.ReferenceGwIdeal.nD Cert.ReferenceGwIdeal.τ).loc Cert.ReferenceGwIdeal.main_arg0)
          ∧ r.2.mem ((c.tc : Thread Cert.ReferenceGwIdeal.nD Cert.ReferenceGwIdeal.τ).loc Cert.ReferenceGwIdeal.main_arg1) = m' ((c.tc : Thread Cert.ReferenceGwIdeal.nD Cert.ReferenceGwIdeal.τ).loc Cert.ReferenceGwIdeal.main_arg1))

def preserves_KernelGwr_KernelGwrIdeal : Prop :=
  True

def algebraic_KernelGwrIdeal_ReferenceGwrIdeal [hKernelGwrIdeal : Cert.KernelGwrIdeal.Facts] [hReferenceGwrIdeal : Cert.ReferenceGwrIdeal.Facts] : Prop :=
  ∀ (m : (ℓ : Loc Cert.KernelGwrIdeal.nD Cert.KernelGwrIdeal.τ Cert.KernelGwrIdeal.sig) → Buf (Elt Ideal) ℓ) (g : Dev Cert.KernelGwrIdeal.nD → PrngReg)
    (m' : (ℓ : Loc Cert.ReferenceGwrIdeal.nD Cert.ReferenceGwrIdeal.τ Cert.ReferenceGwrIdeal.sig) → Buf (Elt Ideal) ℓ) (g' : Dev Cert.ReferenceGwrIdeal.nD → PrngReg), Pre_KernelGwrIdeal m →
    (∀ c : Dev Cert.KernelGwrIdeal.nD,
      m' ((c.tc : Thread Cert.ReferenceGwrIdeal.nD Cert.ReferenceGwrIdeal.τ).loc Cert.ReferenceGwrIdeal.main_arg0) = m ((c.tc : Thread Cert.KernelGwrIdeal.nD Cert.KernelGwrIdeal.τ).loc Cert.KernelGwrIdeal.main_arg0)
      ∧ m' ((c.tc : Thread Cert.ReferenceGwrIdeal.nD Cert.ReferenceGwrIdeal.τ).loc Cert.ReferenceGwrIdeal.main_arg1) = m ((c.tc : Thread Cert.KernelGwrIdeal.nD Cert.KernelGwrIdeal.τ).loc Cert.KernelGwrIdeal.main_arg1)) →
    ∃ (v0 : (c : Dev Cert.KernelGwrIdeal.nD) → Buf (Elt Ideal) ((c.tc : Thread Cert.KernelGwrIdeal.nD Cert.KernelGwrIdeal.τ).loc Cert.KernelGwrIdeal.main_v4)),
      θ_run (Cert.KernelGwrIdeal.defs (F := Ideal)) (onTc (τ := Cert.KernelGwrIdeal.τ) (Cert.KernelGwrIdeal.main (F := Ideal))) ⟨m, fun _ => 0, g⟩ (fun r => ∀ c : Dev Cert.KernelGwrIdeal.nD,
          r.2.mem ((c.tc : Thread Cert.KernelGwrIdeal.nD Cert.KernelGwrIdeal.τ).loc Cert.KernelGwrIdeal.main_v4) = v0 c
          ∧ r.2.mem ((c.tc : Thread Cert.KernelGwrIdeal.nD Cert.KernelGwrIdeal.τ).loc Cert.KernelGwrIdeal.main_arg0) = m ((c.tc : Thread Cert.KernelGwrIdeal.nD Cert.KernelGwrIdeal.τ).loc Cert.KernelGwrIdeal.main_arg0)
          ∧ r.2.mem ((c.tc : Thread Cert.KernelGwrIdeal.nD Cert.KernelGwrIdeal.τ).loc Cert.KernelGwrIdeal.main_arg1) = m ((c.tc : Thread Cert.KernelGwrIdeal.nD Cert.KernelGwrIdeal.τ).loc Cert.KernelGwrIdeal.main_arg1))
      ∧ θ_run (Cert.ReferenceGwrIdeal.defs (F := Ideal)) (onTc (τ := Cert.ReferenceGwrIdeal.τ) (Cert.ReferenceGwrIdeal.main (F := Ideal))) ⟨m', fun _ => 0, g'⟩ (fun r => ∀ c : Dev Cert.ReferenceGwrIdeal.nD,
          r.2.mem ((c.tc : Thread Cert.ReferenceGwrIdeal.nD Cert.ReferenceGwrIdeal.τ).loc Cert.ReferenceGwrIdeal.main_v5) = v0 c
          ∧ r.2.mem ((c.tc : Thread Cert.ReferenceGwrIdeal.nD Cert.ReferenceGwrIdeal.τ).loc Cert.ReferenceGwrIdeal.main_arg0) = m' ((c.tc : Thread Cert.ReferenceGwrIdeal.nD Cert.ReferenceGwrIdeal.τ).loc Cert.ReferenceGwrIdeal.main_arg0)
          ∧ r.2.mem ((c.tc : Thread Cert.ReferenceGwrIdeal.nD Cert.ReferenceGwrIdeal.τ).loc Cert.ReferenceGwrIdeal.main_arg1) = m' ((c.tc : Thread Cert.ReferenceGwrIdeal.nD Cert.ReferenceGwrIdeal.τ).loc Cert.ReferenceGwrIdeal.main_arg1))

def preserves_KernelFdw_KernelFdwIdeal : Prop :=
  True

def algebraic_KernelFdwIdeal_ReferenceFdwIdeal [hKernelFdwIdeal : Cert.KernelFdwIdeal.Facts] [hReferenceFdwIdeal : Cert.ReferenceFdwIdeal.Facts] : Prop :=
  ∀ (m : (ℓ : Loc Cert.KernelFdwIdeal.nD Cert.KernelFdwIdeal.τ Cert.KernelFdwIdeal.sig) → Buf (Elt Ideal) ℓ) (g : Dev Cert.KernelFdwIdeal.nD → PrngReg)
    (m' : (ℓ : Loc Cert.ReferenceFdwIdeal.nD Cert.ReferenceFdwIdeal.τ Cert.ReferenceFdwIdeal.sig) → Buf (Elt Ideal) ℓ) (g' : Dev Cert.ReferenceFdwIdeal.nD → PrngReg), Pre_KernelFdwIdeal m →
    (∀ c : Dev Cert.KernelFdwIdeal.nD,
      m' ((c.tc : Thread Cert.ReferenceFdwIdeal.nD Cert.ReferenceFdwIdeal.τ).loc Cert.ReferenceFdwIdeal.main_arg0) = m ((c.tc : Thread Cert.KernelFdwIdeal.nD Cert.KernelFdwIdeal.τ).loc Cert.KernelFdwIdeal.main_arg0)
      ∧ m' ((c.tc : Thread Cert.ReferenceFdwIdeal.nD Cert.ReferenceFdwIdeal.τ).loc Cert.ReferenceFdwIdeal.main_arg1) = m ((c.tc : Thread Cert.KernelFdwIdeal.nD Cert.KernelFdwIdeal.τ).loc Cert.KernelFdwIdeal.main_arg1)) →
    ∃ (v0 : (c : Dev Cert.KernelFdwIdeal.nD) → Buf (Elt Ideal) ((c.tc : Thread Cert.KernelFdwIdeal.nD Cert.KernelFdwIdeal.τ).loc Cert.KernelFdwIdeal.main_v6)),
      θ_run (Cert.KernelFdwIdeal.defs (F := Ideal)) (onTc (τ := Cert.KernelFdwIdeal.τ) (Cert.KernelFdwIdeal.main (F := Ideal))) ⟨m, fun _ => 0, g⟩ (fun r => ∀ c : Dev Cert.KernelFdwIdeal.nD,
          r.2.mem ((c.tc : Thread Cert.KernelFdwIdeal.nD Cert.KernelFdwIdeal.τ).loc Cert.KernelFdwIdeal.main_v6) = v0 c
          ∧ r.2.mem ((c.tc : Thread Cert.KernelFdwIdeal.nD Cert.KernelFdwIdeal.τ).loc Cert.KernelFdwIdeal.main_arg0) = m ((c.tc : Thread Cert.KernelFdwIdeal.nD Cert.KernelFdwIdeal.τ).loc Cert.KernelFdwIdeal.main_arg0)
          ∧ r.2.mem ((c.tc : Thread Cert.KernelFdwIdeal.nD Cert.KernelFdwIdeal.τ).loc Cert.KernelFdwIdeal.main_arg1) = m ((c.tc : Thread Cert.KernelFdwIdeal.nD Cert.KernelFdwIdeal.τ).loc Cert.KernelFdwIdeal.main_arg1))
      ∧ θ_run (Cert.ReferenceFdwIdeal.defs (F := Ideal)) (onTc (τ := Cert.ReferenceFdwIdeal.τ) (Cert.ReferenceFdwIdeal.main (F := Ideal))) ⟨m', fun _ => 0, g'⟩ (fun r => ∀ c : Dev Cert.ReferenceFdwIdeal.nD,
          r.2.mem ((c.tc : Thread Cert.ReferenceFdwIdeal.nD Cert.ReferenceFdwIdeal.τ).loc Cert.ReferenceFdwIdeal.main_v5) = v0 c
          ∧ r.2.mem ((c.tc : Thread Cert.ReferenceFdwIdeal.nD Cert.ReferenceFdwIdeal.τ).loc Cert.ReferenceFdwIdeal.main_arg0) = m' ((c.tc : Thread Cert.ReferenceFdwIdeal.nD Cert.ReferenceFdwIdeal.τ).loc Cert.ReferenceFdwIdeal.main_arg0)
          ∧ r.2.mem ((c.tc : Thread Cert.ReferenceFdwIdeal.nD Cert.ReferenceFdwIdeal.τ).loc Cert.ReferenceFdwIdeal.main_arg1) = m' ((c.tc : Thread Cert.ReferenceFdwIdeal.nD Cert.ReferenceFdwIdeal.τ).loc Cert.ReferenceFdwIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v1) = v0 c
          ∧ r.2.mem ((c.tc : Thread Cert.ReferenceAdamIdeal.nD Cert.ReferenceAdamIdeal.τ).loc Cert.ReferenceAdamIdeal.main_v25) = v1 c
          ∧ r.2.mem ((c.tc : Thread Cert.ReferenceAdamIdeal.nD Cert.ReferenceAdamIdeal.τ).loc Cert.ReferenceAdamIdeal.main_v6) = v2 c
          ∧ r.2.mem ((c.tc : Thread Cert.ReferenceAdamIdeal.nD Cert.ReferenceAdamIdeal.τ).loc Cert.ReferenceAdamIdeal.main_v12) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def Claim : Prop :=
  ∃ (hKernelLb : Cert.KernelLb.Facts) (hKernelLbIdeal : Cert.KernelLbIdeal.Facts) (hReferenceLbIdeal : Cert.ReferenceLbIdeal.Facts) (hKernelLn2 : Cert.KernelLn2.Facts) (hKernelLn2Ideal : Cert.KernelLn2Ideal.Facts) (hReferenceLn2Ideal : Cert.ReferenceLn2Ideal.Facts) (hKernelLn3 : Cert.KernelLn3.Facts) (hKernelLn3Ideal : Cert.KernelLn3Ideal.Facts) (hReferenceLn3Ideal : Cert.ReferenceLn3Ideal.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelHgb : Cert.KernelHgb.Facts) (hKernelHgbIdeal : Cert.KernelHgbIdeal.Facts) (hKernelHgf : Cert.KernelHgf.Facts) (hKernelHgfIdeal : Cert.KernelHgfIdeal.Facts) (hKernelSbf : Cert.KernelSbf.Facts) (hKernelSbfIdeal : Cert.KernelSbfIdeal.Facts) (hReferenceSbfIdeal : Cert.ReferenceSbfIdeal.Facts) (hKernelSbb : Cert.KernelSbb.Facts) (hKernelSbbIdeal : Cert.KernelSbbIdeal.Facts) (hKernelRes : Cert.KernelRes.Facts) (hKernelResIdeal : Cert.KernelResIdeal.Facts) (hReferenceResIdeal : Cert.ReferenceResIdeal.Facts) (hKernelDwn : Cert.KernelDwn.Facts) (hKernelDwnIdeal : Cert.KernelDwnIdeal.Facts) (hReferenceDwnIdeal : Cert.ReferenceDwnIdeal.Facts) (hKernelInp : Cert.KernelInp.Facts) (hKernelInpIdeal : Cert.KernelInpIdeal.Facts) (hReferenceInpIdeal : Cert.ReferenceInpIdeal.Facts) (hKernelGin : Cert.KernelGin.Facts) (hKernelGinIdeal : Cert.KernelGinIdeal.Facts) (hReferenceGinIdeal : Cert.ReferenceGinIdeal.Facts) (hKernelGiw : Cert.KernelGiw.Facts) (hKernelGiwIdeal : Cert.KernelGiwIdeal.Facts) (hReferenceGiwIdeal : Cert.ReferenceGiwIdeal.Facts) (hKernelFdh : Cert.KernelFdh.Facts) (hKernelFdhIdeal : Cert.KernelFdhIdeal.Facts) (hReferenceFdhIdeal : Cert.ReferenceFdhIdeal.Facts) (hKernelGw : Cert.KernelGw.Facts) (hKernelGwIdeal : Cert.KernelGwIdeal.Facts) (hReferenceGwIdeal : Cert.ReferenceGwIdeal.Facts) (hKernelGwr : Cert.KernelGwr.Facts) (hKernelGwrIdeal : Cert.KernelGwrIdeal.Facts) (hReferenceGwrIdeal : Cert.ReferenceGwrIdeal.Facts) (hKernelFdw : Cert.KernelFdw.Facts) (hKernelFdwIdeal : Cert.KernelFdwIdeal.Facts) (hReferenceFdwIdeal : Cert.ReferenceFdwIdeal.Facts) (hKernelAdam : Cert.KernelAdam.Facts) (hKernelAdamIdeal : Cert.KernelAdamIdeal.Facts) (hReferenceAdamIdeal : Cert.ReferenceAdamIdeal.Facts) (hPre_finite_lb : Cert.Pre_finite_lb.Facts) (hPre_finite_ln2 : Cert.Pre_finite_ln2.Facts) (hPre_finite_ln3 : Cert.Pre_finite_ln3.Facts) (hPre_finite_ffn : Cert.Pre_finite_ffn.Facts) (hPre_finite_sbf : Cert.Pre_finite_sbf.Facts),
    quiescent_KernelLb (hKernelLb := hKernelLb)
    ∧ quiescent_KernelLbIdeal (hKernelLbIdeal := hKernelLbIdeal)
    ∧ quiescent_KernelLbIdeal_pre_finite_lb (hKernelLbIdeal := hKernelLbIdeal) (hPre_finite_lb := hPre_finite_lb)
    ∧ quiescent_ReferenceLbIdeal (hReferenceLbIdeal := hReferenceLbIdeal)
    ∧ quiescent_ReferenceLbIdeal_pre_finite_lb (hReferenceLbIdeal := hReferenceLbIdeal) (hPre_finite_lb := hPre_finite_lb)
    ∧ quiescent_KernelLn2 (hKernelLn2 := hKernelLn2)
    ∧ quiescent_KernelLn2Ideal (hKernelLn2Ideal := hKernelLn2Ideal)
    ∧ quiescent_KernelLn2Ideal_pre_finite_ln2 (hKernelLn2Ideal := hKernelLn2Ideal) (hPre_finite_ln2 := hPre_finite_ln2)
    ∧ quiescent_ReferenceLn2Ideal (hReferenceLn2Ideal := hReferenceLn2Ideal)
    ∧ quiescent_ReferenceLn2Ideal_pre_finite_ln2 (hReferenceLn2Ideal := hReferenceLn2Ideal) (hPre_finite_ln2 := hPre_finite_ln2)
    ∧ quiescent_KernelLn3 (hKernelLn3 := hKernelLn3)
    ∧ quiescent_KernelLn3Ideal (hKernelLn3Ideal := hKernelLn3Ideal)
    ∧ quiescent_KernelLn3Ideal_pre_finite_ln3 (hKernelLn3Ideal := hKernelLn3Ideal) (hPre_finite_ln3 := hPre_finite_ln3)
    ∧ quiescent_ReferenceLn3Ideal (hReferenceLn3Ideal := hReferenceLn3Ideal)
    ∧ quiescent_ReferenceLn3Ideal_pre_finite_ln3 (hReferenceLn3Ideal := hReferenceLn3Ideal) (hPre_finite_ln3 := hPre_finite_ln3)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelHgb (hKernelHgb := hKernelHgb)
    ∧ quiescent_KernelHgbIdeal (hKernelHgbIdeal := hKernelHgbIdeal)
    ∧ quiescent_KernelHgf (hKernelHgf := hKernelHgf)
    ∧ quiescent_KernelHgfIdeal (hKernelHgfIdeal := hKernelHgfIdeal)
    ∧ quiescent_KernelSbf (hKernelSbf := hKernelSbf)
    ∧ quiescent_KernelSbfIdeal (hKernelSbfIdeal := hKernelSbfIdeal)
    ∧ quiescent_KernelSbfIdeal_pre_finite_sbf (hKernelSbfIdeal := hKernelSbfIdeal) (hPre_finite_sbf := hPre_finite_sbf)
    ∧ quiescent_ReferenceSbfIdeal (hReferenceSbfIdeal := hReferenceSbfIdeal)
    ∧ quiescent_ReferenceSbfIdeal_pre_finite_sbf (hReferenceSbfIdeal := hReferenceSbfIdeal) (hPre_finite_sbf := hPre_finite_sbf)
    ∧ quiescent_KernelSbb (hKernelSbb := hKernelSbb)
    ∧ quiescent_KernelSbbIdeal (hKernelSbbIdeal := hKernelSbbIdeal)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelDwn (hKernelDwn := hKernelDwn)
    ∧ quiescent_KernelDwnIdeal (hKernelDwnIdeal := hKernelDwnIdeal)
    ∧ quiescent_ReferenceDwnIdeal (hReferenceDwnIdeal := hReferenceDwnIdeal)
    ∧ quiescent_KernelInp (hKernelInp := hKernelInp)
    ∧ quiescent_KernelInpIdeal (hKernelInpIdeal := hKernelInpIdeal)
    ∧ quiescent_ReferenceInpIdeal (hReferenceInpIdeal := hReferenceInpIdeal)
    ∧ quiescent_KernelGin (hKernelGin := hKernelGin)
    ∧ quiescent_KernelGinIdeal (hKernelGinIdeal := hKernelGinIdeal)
    ∧ quiescent_ReferenceGinIdeal (hReferenceGinIdeal := hReferenceGinIdeal)
    ∧ quiescent_KernelGiw (hKernelGiw := hKernelGiw)
    ∧ quiescent_KernelGiwIdeal (hKernelGiwIdeal := hKernelGiwIdeal)
    ∧ quiescent_ReferenceGiwIdeal (hReferenceGiwIdeal := hReferenceGiwIdeal)
    ∧ quiescent_KernelFdh (hKernelFdh := hKernelFdh)
    ∧ quiescent_KernelFdhIdeal (hKernelFdhIdeal := hKernelFdhIdeal)
    ∧ quiescent_ReferenceFdhIdeal (hReferenceFdhIdeal := hReferenceFdhIdeal)
    ∧ quiescent_KernelGw (hKernelGw := hKernelGw)
    ∧ quiescent_KernelGwIdeal (hKernelGwIdeal := hKernelGwIdeal)
    ∧ quiescent_ReferenceGwIdeal (hReferenceGwIdeal := hReferenceGwIdeal)
    ∧ quiescent_KernelGwr (hKernelGwr := hKernelGwr)
    ∧ quiescent_KernelGwrIdeal (hKernelGwrIdeal := hKernelGwrIdeal)
    ∧ quiescent_ReferenceGwrIdeal (hReferenceGwrIdeal := hReferenceGwrIdeal)
    ∧ quiescent_KernelFdw (hKernelFdw := hKernelFdw)
    ∧ quiescent_KernelFdwIdeal (hKernelFdwIdeal := hKernelFdwIdeal)
    ∧ quiescent_ReferenceFdwIdeal (hReferenceFdwIdeal := hReferenceFdwIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ preserves_KernelLb_KernelLbIdeal
    ∧ algebraic_KernelLbIdeal_ReferenceLbIdeal_pre_finite_lb (hKernelLbIdeal := hKernelLbIdeal) (hReferenceLbIdeal := hReferenceLbIdeal) (hPre_finite_lb := hPre_finite_lb)
    ∧ preserves_KernelLn2_KernelLn2Ideal
    ∧ algebraic_KernelLn2Ideal_ReferenceLn2Ideal_pre_finite_ln2 (hKernelLn2Ideal := hKernelLn2Ideal) (hReferenceLn2Ideal := hReferenceLn2Ideal) (hPre_finite_ln2 := hPre_finite_ln2)
    ∧ preserves_KernelLn3_KernelLn3Ideal
    ∧ algebraic_KernelLn3Ideal_ReferenceLn3Ideal_pre_finite_ln3 (hKernelLn3Ideal := hKernelLn3Ideal) (hReferenceLn3Ideal := hReferenceLn3Ideal) (hPre_finite_ln3 := hPre_finite_ln3)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelHgb_KernelHgbIdeal
    ∧ preserves_KernelHgf_KernelHgfIdeal
    ∧ preserves_KernelSbf_KernelSbfIdeal
    ∧ algebraic_KernelSbfIdeal_ReferenceSbfIdeal_pre_finite_sbf (hKernelSbfIdeal := hKernelSbfIdeal) (hReferenceSbfIdeal := hReferenceSbfIdeal) (hPre_finite_sbf := hPre_finite_sbf)
    ∧ preserves_KernelSbb_KernelSbbIdeal
    ∧ preserves_KernelRes_KernelResIdeal
    ∧ algebraic_KernelResIdeal_ReferenceResIdeal (hKernelResIdeal := hKernelResIdeal) (hReferenceResIdeal := hReferenceResIdeal)
    ∧ preserves_KernelDwn_KernelDwnIdeal
    ∧ algebraic_KernelDwnIdeal_ReferenceDwnIdeal (hKernelDwnIdeal := hKernelDwnIdeal) (hReferenceDwnIdeal := hReferenceDwnIdeal)
    ∧ preserves_KernelInp_KernelInpIdeal
    ∧ algebraic_KernelInpIdeal_ReferenceInpIdeal (hKernelInpIdeal := hKernelInpIdeal) (hReferenceInpIdeal := hReferenceInpIdeal)
    ∧ preserves_KernelGin_KernelGinIdeal
    ∧ algebraic_KernelGinIdeal_ReferenceGinIdeal (hKernelGinIdeal := hKernelGinIdeal) (hReferenceGinIdeal := hReferenceGinIdeal)
    ∧ preserves_KernelGiw_KernelGiwIdeal
    ∧ algebraic_KernelGiwIdeal_ReferenceGiwIdeal (hKernelGiwIdeal := hKernelGiwIdeal) (hReferenceGiwIdeal := hReferenceGiwIdeal)
    ∧ preserves_KernelFdh_KernelFdhIdeal
    ∧ algebraic_KernelFdhIdeal_ReferenceFdhIdeal (hKernelFdhIdeal := hKernelFdhIdeal) (hReferenceFdhIdeal := hReferenceFdhIdeal)
    ∧ preserves_KernelGw_KernelGwIdeal
    ∧ algebraic_KernelGwIdeal_ReferenceGwIdeal (hKernelGwIdeal := hKernelGwIdeal) (hReferenceGwIdeal := hReferenceGwIdeal)
    ∧ preserves_KernelGwr_KernelGwrIdeal
    ∧ algebraic_KernelGwrIdeal_ReferenceGwrIdeal (hKernelGwrIdeal := hKernelGwrIdeal) (hReferenceGwrIdeal := hReferenceGwrIdeal)
    ∧ preserves_KernelFdw_KernelFdwIdeal
    ∧ algebraic_KernelFdwIdeal_ReferenceFdwIdeal (hKernelFdwIdeal := hKernelFdwIdeal) (hReferenceFdwIdeal := hReferenceFdwIdeal)
    ∧ preserves_KernelAdam_KernelAdamIdeal
    ∧ algebraic_KernelAdamIdeal_ReferenceAdamIdeal (hKernelAdamIdeal := hKernelAdamIdeal) (hReferenceAdamIdeal := hReferenceAdamIdeal)
-- ==== Pre_finite_ffn.lean ====
abbrev S1x8320x2048 : Shape := ⟨3, ![1, 8320, 2048]⟩
abbrev S1x2048x5632 : Shape := ⟨3, ![1, 2048, 5632]⟩
abbrev S1x5632x2048 : Shape := ⟨3, ![1, 5632, 2048]⟩
abbrev S_ : Shape := ⟨0, ![]⟩

class Facts : Prop where
  bcast_S_S1x8320x2048 : S_.BroadcastsInDim S1x8320x2048 (![] : Fin 0 → Fin S1x8320x2048.rank)
  bcast_S_S1x2048x5632 : S_.BroadcastsInDim S1x2048x5632 (![] : Fin 0 → Fin S1x2048x5632.rank)
  bcast_S_S1x5632x2048 : S_.BroadcastsInDim S1x5632x2048 (![] : Fin 0 → Fin S1x5632x2048.rank)

variable [Facts]

def fn {F : FTy → Type} [FloatOps F] (main_arg0 : FVec F S1x8320x2048 .f32) (main_arg1 : FVec F S1x2048x5632 .f32) (main_arg2 : FVec F S1x2048x5632 .f32) (main_arg3 : FVec F S1x5632x2048 .f32) (main_arg4 : FVec F S1x8320x2048 .f32) : IVec S1x8320x2048 1 × IVec S1x2048x5632 1 × IVec S1x2048x5632 1 × IVec S1x5632x2048 1 × IVec S1x8320x2048 1 :=
  let main_v0 : FVec F S1x8320x2048 .f32 := Host.absf main_arg0
  let main_cst : FVec F S_ .f32 := constant S_ .f32 0x7F800000#32
  let main_v1 : FVec F S1x8320x2048 .f32 := broadcastInDim S1x8320x2048 ![] bcast_S_S1x8320x2048 main_cst
  let main_v2 : IVec S1x8320x2048 1 := cmpf .olt main_v0 main_v1
  let main_v3 : FVec F S1x2048x5632 .f32 := Host.absf main_arg1
  let main_cst_0 : FVec F S_ .f32 := constant S_ .f32 0x7F800000#32
  let main_v4 : FVec F S1x2048x5632 .f32 := broadcastInDim S1x2048x5632 ![] bcast_S_S1x2048x5632 main_cst_0
  let main_v5 : IVec S1x2048x5632 1 := cmpf .olt main_v3 main_v4
  let main_v6 : FVec F S1x2048x5632 .f32 := Host.absf main_arg2
  let main_cst_1 : FVec F S_ .f32 := constant S_ .f32 0x7F800000#32
  let main_v7 : FVec F S1x2048x5632 .f32 := broadcastInDim S1x2048x5632 ![] bcast_S_S1x2048x5632 main_cst_1
  let main_v8 : IVec S1x2048x5632 1 := cmpf .olt main_v6 main_v7
  let main_v9 : FVec F S1x5632x2048 .f32 := Host.absf main_arg3
  let main_cst_2 : FVec F S_ .f32 := constant S_ .f32 0x7F800000#32
  let main_v10 : FVec F S1x5632x2048 .f32 := broadcastInDim S1x5632x2048 ![] bcast_S_S1x5632x2048 main_cst_2
  let main_v11 : IVec S1x5632x2048 1 := cmpf .olt main_v9 main_v10
  let main_v12 : FVec F S1x8320x2048 .f32 := Host.absf main_arg4
  let main_cst_3 : FVec F S_ .f32 := constant S_ .f32 0x7F800000#32
  let main_v13 : FVec F S1x8320x2048 .f32 := broadcastInDim S1x8320x2048 ![] bcast_S_S1x8320x2048 main_cst_3
  let main_v14 : IVec S1x8320x2048 1 := cmpf .olt main_v12 main_v13
  (main_v2, main_v5, main_v8, main_v11, main_v14)
-- ==== Pre_finite_lb.lean ====
abbrev S2x1024 : Shape := ⟨2, ![2, 1024]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)
  bcast_S_S1x1024 : S_.BroadcastsInDim S1x1024 (![] : Fin 0 → Fin S1x1024.rank)

variable [Facts]

def fn {F : FTy → Type} [FloatOps F] (main_arg0 : FVec F S2x1024 .f32) (main_arg1 : FVec F S1x1024 .f32) : IVec S2x1024 1 × IVec S1x1024 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_ln2.lean ====
abbrev S1x8320x2048 : Shape := ⟨3, ![1, 8320, 2048]⟩
abbrev S1x2048 : Shape := ⟨2, ![1, 2048]⟩
abbrev S_ : Shape := ⟨0, ![]⟩

class Facts : Prop where
  bcast_S_S1x8320x2048 : S_.BroadcastsInDim S1x8320x2048 (![] : Fin 0 → Fin S1x8320x2048.rank)
  bcast_S_S1x2048 : S_.BroadcastsInDim S1x2048 (![] : Fin 0 → Fin S1x2048.rank)

variable [Facts]

def fn {F : FTy → Type} [FloatOps F] (main_arg0 : FVec F S1x8320x2048 .f32) (main_arg1 : FVec F S1x8320x2048 .f32) (main_arg2 : FVec F S1x2048 .f32) (main_arg3 : FVec F S1x2048 .f32) (main_arg4 : FVec F S1x8320x2048 .f32) : IVec S1x8320x2048 1 × IVec S1x8320x2048 1 × IVec S1x2048 1 × IVec S1x8320x2048 1 :=
  let main_v0 : FVec F S1x8320x2048 .f32 := Host.absf main_arg0
  let main_cst : FVec F S_ .f32 := constant S_ .f32 0x7F800000#32
  let main_v1 : FVec F S1x8320x2048 .f32 := broadcastInDim S1x8320x2048 ![] bcast_S_S1x8320x2048 main_cst
  let main_v2 : IVec S1x8320x2048 1 := cmpf .olt main_v0 main_v1
  let main_v3 : FVec F S1x8320x2048 .f32 := Host.absf main_arg1
  let main_cst_0 : FVec F S_ .f32 := constant S_ .f32 0x7F800000#32
  let main_v4 : FVec F S1x8320x2048 .f32 := broadcastInDim S1x8320x2048 ![] bcast_S_S1x8320x2048 main_cst_0
  let main_v5 : IVec S1x8320x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x8320x2048 .f32 := Host.absf main_arg4
  let main_cst_2 : FVec F S_ .f32 := constant S_ .f32 0x7F800000#32
  let main_v10 : FVec F S1x8320x2048 .f32 := broadcastInDim S1x8320x2048 ![] bcast_S_S1x8320x2048 main_cst_2
  let main_v11 : IVec S1x8320x2048 1 := cmpf .olt main_v9 main_v10
  (main_v2, main_v5, main_v8, main_v11)
-- ==== Pre_finite_ln3.lean ====
abbrev S1x8320x2048 : Shape := ⟨3, ![1, 8320, 2048]⟩
abbrev S1x2048 : Shape := ⟨2, ![1, 2048]⟩
abbrev S1x8192x2048 : Shape := ⟨3, ![1, 8192, 2048]⟩
abbrev S_ : Shape := ⟨0, ![]⟩

class Facts : Prop where
  bcast_S_S1x8320x2048 : S_.BroadcastsInDim S1x8320x2048 (![] : Fin 0 → Fin S1x8320x2048.rank)
  bcast_S_S1x2048 : S_.BroadcastsInDim S1x2048 (![] : Fin 0 → Fin S1x2048.rank)
  bcast_S_S1x8192x2048 : S_.BroadcastsInDim S1x8192x2048 (![] : Fin 0 → Fin S1x8192x2048.rank)

variable [Facts]

def fn {F : FTy → Type} [FloatOps F] (main_arg0 : FVec F S1x8320x2048 .f32) (main_arg1 : FVec F S1x8320x2048 .f32) (main_arg2 : FVec F S1x2048 .f32) (main_arg3 : FVec F S1x2048 .f32) (main_arg4 : FVec F S1x8192x2048 .f32) : IVec S1x8320x2048 1 × IVec S1x8320x2048 1 × IVec S1x2048 1 × IVec S1x2048 1 × IVec S1x8192x2048 1 :=
  let main_v0 : FVec F S1x8320x2048 .f32 := Host.absf main_arg0
  let main_cst : FVec F S_ .f32 := constant S_ .f32 0x7F800000#32
  let main_v1 : FVec F S1x8320x2048 .f32 := broadcastInDim S1x8320x2048 ![] bcast_S_S1x8320x2048 main_cst
  let main_v2 : IVec S1x8320x2048 1 := cmpf .olt main_v0 main_v1
  let main_v3 : FVec F S1x8320x2048 .f32 := Host.absf main_arg1
  let main_cst_0 : FVec F S_ .f32 := constant S_ .f32 0x7F800000#32
  let main_v4 : FVec F S1x8320x2048 .f32 := broadcastInDim S1x8320x2048 ![] bcast_S_S1x8320x2048 main_cst_0
  let main_v5 : IVec S1x8320x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8192x2048 .f32 := Host.absf main_arg4
  let main_cst_3 : FVec F S_ .f32 := constant S_ .f32 0x7F800000#32
  let main_v13 : FVec F S1x8192x2048 .f32 := broadcastInDim S1x8192x2048 ![] bcast_S_S1x8192x2048 main_cst_3
  let main_v14 : IVec S1x8192x2048 1 := cmpf .olt main_v12 main_v13
  (main_v2, main_v5, main_v8, main_v11, main_v14)
-- ==== Pre_finite_sbf.lean ====
abbrev S8320x11264 : Shape := ⟨2, ![8320, 11264]⟩
abbrev S_ : Shape := ⟨0, ![]⟩

class Facts : Prop where
  bcast_S_S8320x11264 : S_.BroadcastsInDim S8320x11264 (![] : Fin 0 → Fin S8320x11264.rank)

variable [Facts]

def fn {F : FTy → Type} [FloatOps F] (main_arg0 : FVec F S8320x11264 .bf16) : IVec S8320x11264 1 :=
  let main_v0 : FVec F S8320x11264 .bf16 := Host.absf main_arg0
  let main_cst : FVec F S_ .bf16 := constant S_ .bf16 0x7F80#16
  let main_v1 : FVec F S8320x11264 .bf16 := broadcastInDim S8320x11264 ![] bcast_S_S8320x11264 main_cst
  let main_v2 : IVec S8320x11264 1 := cmpf .olt main_v0 main_v1
  main_v2
-- ==== KernelLb.lean ====
abbrev S2x1024 : Shape := ⟨2, ![2, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S2x1024, .f32⟩
  | .local _ .vmem, ⟨0, _⟩ => ⟨S2x1024, .f32⟩
  | .local _ .vmem, ⟨1, _⟩ => ⟨S1x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceLbIdeal.lean ====
abbrev S2x1024 : Shape := ⟨2, ![2, 1024]⟩
abbrev S1x1024 : Shape := ⟨2, ![1, 1024]⟩
abbrev S_ : Shape := ⟨0, ![]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S2x1024, .f32⟩
  | .hbm, ⟨43, _⟩ => ⟨S1x1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S2x1024, .f32⟩
  | .hbm, ⟨49, _⟩ => ⟨S_, .f32⟩
  | .hbm, ⟨50, _⟩ => ⟨S_, .f32⟩
  | .hbm, ⟨51, _⟩ => ⟨S2x1024, .f32⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S2x1024, .f32⟩
  | .hbm, ⟨60, _⟩ => ⟨S2x1024, .f32⟩
  | .hbm, ⟨61, _⟩ => ⟨S_, .f32⟩
  | .hbm, ⟨62, _⟩ => ⟨S1024, .f32⟩
  | .hbm, ⟨63, _⟩ => ⟨S2x1024, .f32⟩
  | .hbm, ⟨64, _⟩ => ⟨S2x1024, .f32⟩
  | .hbm, ⟨65, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_call1_call0_cst : Ref sig .tc := ⟨.hbm, 49, rfl⟩
abbrev main_call1_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== KernelLn2.lean ====
abbrev S1x8320x2048 : Shape := ⟨3, ![1, 8320, 2048]⟩
abbrev S1x2048 : Shape := ⟨2, ![1, 2048]⟩
abbrev S_ : Shape := ⟨0, ![]⟩
abbrev S8320x2048 : Shape := ⟨2, ![8320, 2048]⟩
abbrev S320x2048 : Shape := ⟨2, ![320, 2048]⟩
abbrev S320 : Shape := ⟨1, ![320]⟩
abbrev S320x1 : Shape := ⟨2, ![320, 1]⟩
abbrev S2048 : Shape := ⟨1, ![2048]⟩

abbrev nBuf : Space → Nat
  | .hbm => 15
  | .vmem => 11
  | .smem => 0
  | _ => 0

abbrev bufTy : (tb : Table) → Fin (tcTables nBuf tb) → BufTy
  | .hbm, ⟨0, _⟩ => ⟨S1x8320x2048, .f32⟩
  | .hbm, ⟨1, _⟩ => ⟨S1x8320x2048, .f32⟩
  | .hbm, ⟨2, _⟩ => ⟨S1x2048, .f32⟩
  | .hbm, ⟨3, _⟩ => ⟨S1x2048, .f32⟩
  | .hbm, ⟨4, _⟩ => ⟨S1x8320x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S1x8320x2048, .f32⟩
  | .hbm, ⟨9, _⟩ => ⟨S8320x2048, .f32⟩
  | .hbm, ⟨10, _⟩ => ⟨S8320x2048, .f32⟩
  | .hbm, ⟨11, _⟩ => ⟨S8320x2048, .f32⟩
  | .hbm, ⟨12, _⟩ => ⟨S8320x2048, .bf16⟩
  | .hbm, ⟨13, _⟩ => ⟨S1x2048, .f32⟩
  | .hbm, ⟨14, _⟩ => ⟨S1x2048, .f32⟩
  | .local _ .vmem, ⟨0, _⟩ => ⟨S320x2048, .f32⟩
  | .local _ .vmem, ⟨1, _⟩ => ⟨S320x2048, .f32⟩
  | .local _ .vmem, ⟨2, _⟩ => ⟨S1x2048, .f32⟩
  | .local _ .vmem, ⟨3, _⟩ => ⟨S320x2048, .f32⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | .local _ .vmem, ⟨7, _⟩ => ⟨S320x2048, .bf16⟩
  | .local _ .vmem, ⟨8, _⟩ => ⟨S320x2048, .bf16⟩
  | .local _ .vmem, ⟨9, _⟩ => ⟨S1x2048, .f32⟩
  | .local _ .vmem, ⟨10, _⟩ => ⟨S1x2048, .f32⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLn2Ideal.lean ====
abbrev S1x8320x2048 : Shape := ⟨3, ![1, 8320, 2048]⟩
abbrev S1x2048 : Shape := ⟨2, ![1, 2048]⟩
abbrev S_ : Shape := ⟨0, ![]⟩
abbrev S2048 : Shape := ⟨1, ![2048]⟩
abbrev S1x8320 : Shape := ⟨2, ![1, 8320]⟩
abbrev S1x8320x1 : Shape := ⟨3, ![1, 8320, 1]⟩
abbrev S1x1x2048 : Shape := ⟨3, ![1, 1, 2048]⟩
abbrev S8320 : Shape := ⟨1, ![8320]⟩
abbrev S8320x2048 : Shape := ⟨2, ![8320, 2048]⟩

abbrev nBuf : Space → Nat
  | .hbm => 99
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x8320x2048, .f32⟩
  | .hbm, ⟨2, _⟩ => ⟨S1x2048, .f32⟩
  | .hbm, ⟨3, _⟩ => ⟨S1x2048, .f32⟩
  | .hbm, ⟨4, _⟩ => ⟨S1x8320x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S1x8320x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S1x8320, .f32⟩
  | .hbm, ⟨13, _⟩ => ⟨S1x8320x1, .f32⟩
  | .hbm, ⟨14, _⟩ => ⟨S_, .f32⟩
  | .hbm, ⟨15, _⟩ => ⟨S1x8320x1, .f32⟩
  | .hbm, ⟨16, _⟩ => ⟨S1x8320x1, .f32⟩
  | .hbm, ⟨17, _⟩ => ⟨S1x8320x2048, .f32⟩
  | .hbm, ⟨18, _⟩ => ⟨S1x8320x2048, .f32⟩
  | .hbm, ⟨19, _⟩ => ⟨S1x8320x2048, .f32⟩
  | .hbm, ⟨20, _⟩ => ⟨S_, .f32⟩
  | .hbm, ⟨21, _⟩ => ⟨S1x8320x2048, .f32⟩
  | .hbm, ⟨22, _⟩ => ⟨S1x8320x2048, .f32⟩
  | .hbm, ⟨23, _⟩ => ⟨S_, .f32⟩
  | .hbm, ⟨24, _⟩ => ⟨S1x8320, .f32⟩
  | .hbm, ⟨25, _⟩ => ⟨S1x8320x1, .f32⟩
  | .hbm, ⟨26, _⟩ => ⟨S_, .f32⟩
  | .hbm, ⟨27, _⟩ => ⟨S1x8320x1, .f32⟩
  | .hbm, ⟨28, _⟩ => ⟨S1x8320x1, .f32⟩
  | .hbm, ⟨29, _⟩ => ⟨S1x8320x2048, .f32⟩
  | .hbm, ⟨30, _⟩ => ⟨S1x8320x2048, .f32⟩
  | .hbm, ⟨31, _⟩ => ⟨S_, .f32⟩
  | .hbm, ⟨32, _⟩ => ⟨S1x8320x1, .f32⟩
  | .hbm, ⟨33, _⟩ => ⟨S1x8320x1, .f32⟩
  | .hbm, ⟨34, _⟩ => ⟨S1x8320x1, .f32⟩
  | .hbm, ⟨35, _⟩ => ⟨S1x8320x1, .f32⟩
  | .hbm, ⟨36, _⟩ => ⟨S_, .f32⟩
  | .hbm, ⟨37, _⟩ => ⟨S1x8320x1, .f32⟩
  | .hbm, ⟨38, _⟩ => ⟨S1x8320x1, .f32⟩
  | .hbm, ⟨39, _⟩ => ⟨S1x8320x2048, .f32⟩
  | .hbm, ⟨40, _⟩ => ⟨S1x8320x2048, .f32⟩
  | .hbm, ⟨41, _⟩ => ⟨S1x1x2048, .f32⟩
  | .hbm, ⟨42, _⟩ => ⟨S1x8320x2048, .f32⟩
  | .hbm, ⟨43, _⟩ => ⟨S1x8320x2048, .f32⟩
  | .hbm, ⟨44, _⟩ => ⟨S1x1x2048, .f32⟩
  | .hbm, ⟨45, _⟩ => ⟨S1x8320x2048, .f32⟩
  | .hbm, ⟨46, _⟩ => ⟨S1x8320x2048, .f32⟩
  | .hbm, ⟨47, _⟩ => ⟨S1x8320x2048, .f32⟩
  | .hbm, ⟨48, _⟩ => ⟨S_, .f32⟩
  | .hbm, ⟨49, _⟩ => ⟨S1x2048, .f32⟩
  | .hbm, ⟨50, _⟩ => ⟨S1x1x2048, .f32⟩
  | .hbm, ⟨51, _⟩ => ⟨S_, .f32⟩
  | .hbm, ⟨52, _⟩ => ⟨S2048, .f32⟩
  | .hbm, ⟨53, _⟩ => ⟨S1x8320x2048, .f32⟩
  | .hbm, ⟨54, _⟩ => ⟨S_, .f32⟩
  | .hbm, ⟨55, _⟩ => ⟨S1x2048, .f32⟩
  | .hbm, ⟨56, _⟩ => ⟨S1x1x2048, .f32⟩
  | .hbm, ⟨57, _⟩ => ⟨S1x8320x2048, .f32⟩
  | .hbm, ⟨58, _⟩ => ⟨S1x8320x2048, .f32⟩
  | .hbm, ⟨59, _⟩ => ⟨S_, .f32⟩
  | .hbm, ⟨60, _⟩ => ⟨S2048, .f32⟩
  | .hbm, ⟨61, _⟩ => ⟨S1x8320x2048, .f32⟩
  | .hbm, ⟨62, _⟩ => ⟨S_, .f32⟩
  | .hbm, ⟨63, _⟩ => ⟨S1x8320, .f32⟩
  | .hbm, ⟨64, _⟩ => ⟨S1x8320x1, .f32⟩
  | .hbm, ⟨65, _⟩ => ⟨S1x8320x2048, .f32⟩
  | .hbm, ⟨66, _⟩ => ⟨S1x8320x2048, .f32⟩
  | .hbm, ⟨67, _⟩ => ⟨S1x8320x1, .f32⟩
  | .hbm, ⟨68, _⟩ => ⟨S1x8320x2048, .f32⟩
  | .hbm, ⟨69, _⟩ => ⟨S_, .f32⟩
  | .hbm, ⟨70, _⟩ => ⟨S1x8320, .f32⟩
  | .hbm, ⟨71, _⟩ => ⟨S1x8320x1, .f32⟩
  | .hbm, ⟨72, _⟩ => ⟨S_, .f32⟩
  | .hbm, ⟨73, _⟩ => ⟨S1x8320x1, .f32⟩
  | .hbm, ⟨74, _⟩ => ⟨S1x8320x1, .f32⟩
  | .hbm, ⟨75, _⟩ => ⟨S_, .f32⟩
  | .hbm, ⟨76, _⟩ => ⟨S8320, .f32⟩
  | .hbm, ⟨77, _⟩ => ⟨S1x8320, .f32⟩
  | .hbm, ⟨78, _⟩ => ⟨S1x8320x2048, .f32⟩
  | .hbm, ⟨79, _⟩ => ⟨S1x8320x2048, .f32⟩
  | .hbm, ⟨80, _⟩ => ⟨S1x8320x2048, .f32⟩
  | .hbm, ⟨81, _⟩ => ⟨S_, .f32⟩
  | .hbm, ⟨82, _⟩ => ⟨S1x8320, .f32⟩
  | .hbm, ⟨83, _⟩ => ⟨S1x8320x1, .f32⟩
  | .hbm, ⟨84, _⟩ => ⟨S1x8320x2048, .f32⟩
  | .hbm, ⟨85, _⟩ => ⟨S1x8320x1, .f32⟩
  | .hbm, ⟨86, _⟩ => ⟨S_, .f32⟩
  | .hbm, ⟨87, _⟩ => ⟨S1x8320x1, .f32⟩
  | .hbm, ⟨88, _⟩ => ⟨S1x8320x1, .f32⟩
  | .hbm, ⟨89, _⟩ => ⟨S_, .f32⟩
  | .hbm, ⟨90, _⟩ => ⟨S8320, .f32⟩
  | .hbm, ⟨91, _⟩ => ⟨S1x8320, .f32⟩
  | .hbm, ⟨92, _⟩ => ⟨S1x8320x2048, .f32⟩
  | .hbm, ⟨93, _⟩ => ⟨S1x8320x2048, .f32⟩
  | .hbm, ⟨94, _⟩ => ⟨S1x2048, .f32⟩
  | .hbm, ⟨95, _⟩ => ⟨S1x2048, .f32⟩
  | .hbm, ⟨96, _⟩ => ⟨S8320x2048, .f32⟩
  | .hbm, ⟨97, _⟩ => ⟨S8320x2048, .f32⟩
  | .hbm, ⟨98, _⟩ => ⟨S8320x2048, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== KernelLn3.lean ====
abbrev S1x8320x2048 : Shape := ⟨3, ![1, 8320, 2048]⟩
abbrev S1x2048 : Shape := ⟨2, ![1, 2048]⟩
abbrev S1x8192x2048 : Shape := ⟨3, ![1, 8192, 2048]⟩
abbrev S_ : Shape := ⟨0, ![]⟩
abbrev S8320x2048 : Shape := ⟨2, ![8320, 2048]⟩
abbrev S8192x2048 : Shape := ⟨2, ![8192, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 19
  | .vmem => 13
  | .smem => 0
  | _ => 0

abbrev bufTy : (tb : Table) → Fin (tcTables nBuf tb) → BufTy
  | .hbm, ⟨0, _⟩ => ⟨S1x8320x2048, .f32⟩
  | .hbm, ⟨1, _⟩ => ⟨S1x8320x2048, .f32⟩
  | .hbm, ⟨2, _⟩ => ⟨S1x2048, .f32⟩
  | .hbm, ⟨3, _⟩ => ⟨S1x2048, .f32⟩
  | .hbm, ⟨4, _⟩ => ⟨S1x8192x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S_, .f32⟩
  | .hbm, ⟨9, _⟩ => ⟨S1x8320x2048, .f32⟩
  | .hbm, ⟨10, _⟩ => ⟨S1x8320x2048, .f32⟩
  | .hbm, ⟨11, _⟩ => ⟨S1x8320x2048, .f32⟩
  | .hbm, ⟨12, _⟩ => ⟨S8320x2048, .f32⟩
  | .hbm, ⟨13, _⟩ => ⟨S8192x2048, .f32⟩
  | .hbm, ⟨14, _⟩ => ⟨S8320x2048, .f32⟩
  | .hbm, ⟨15, _⟩ => ⟨S8320x2048, .bf16⟩
  | .hbm, ⟨16, _⟩ => ⟨S1x2048, .f32⟩
  | .hbm, ⟨17, _⟩ => ⟨S1x2048, .f32⟩
  | .hbm, ⟨18, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | .local _ .vmem, ⟨11, _⟩ => ⟨S1x2048, .f32⟩
  | .local _ .vmem, ⟨12, _⟩ => ⟨S1x128, .f32⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLn3Ideal.lean ====
abbrev S1x8320x2048 : Shape := ⟨3, ![1, 8320, 2048]⟩
abbrev S1x2048 : Shape := ⟨2, ![1, 2048]⟩
abbrev S1x8192x2048 : Shape := ⟨3, ![1, 8192, 2048]⟩
abbrev S_ : Shape := ⟨0, ![]⟩
abbrev S2048 : Shape := ⟨1, ![2048]⟩
abbrev S1x8320 : Shape := ⟨2, ![1, 8320]⟩
abbrev S1x8320x1 : Shape := ⟨3, ![1, 8320, 1]⟩
abbrev S1x1x2048 : Shape := ⟨3, ![1, 1, 2048]⟩
abbrev S1x8192 : Shape := ⟨2, ![1, 8192]⟩
abbrev S8320 : Shape := ⟨1, ![8320]⟩
abbrev S8320x2048 : Shape := ⟨2, ![8320, 2048]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S1x8320x2048, .f32⟩
  | 1 => ⟨S1x8320x2048, .f32⟩
  | 2 => ⟨S1x2048, .f32⟩
  | 3 => ⟨S1x2048, .f32⟩
  | 4 => ⟨S1x8192x2048, .f32⟩
  | 5 => ⟨S_, .f32⟩
  | 6 => ⟨S1x8320x2048, .f32⟩
  | 7 => ⟨S1x8320x2048, .f32⟩
  | 8 => ⟨S_, .f32⟩
  | 9 => ⟨S1x8320x2048, .f32⟩
  | 10 => ⟨S1x8320x2048, .f32⟩
  | 11 => ⟨S1x8320x2048, .f32⟩
  | 12 => ⟨S2048, .f32⟩
  | 13 => ⟨S2048, .f32⟩
  | 14 => ⟨S_, .f32⟩
  | 15 => ⟨S1x8320, .f32⟩
  | 16 => ⟨S1x8320x1, .f32⟩
  | 17 => ⟨S_, .f32⟩
  | 18 => ⟨S1x8320x1, .f32⟩
  | 19 => ⟨S1x8320x1, .f32⟩
  | 20 => ⟨S1x8320x2048, .f32⟩
  | 21 => ⟨S1x8320x2048, .f32⟩
  | 22 => ⟨S1x8320x2048, .f32⟩
  | 23 => ⟨S_, .f32⟩
  | 24 => ⟨S1x8320x2048, .f32⟩
  | 25 => ⟨S1x8320x2048, .f32⟩
  | 26 => ⟨S_, .f32⟩
  | 27 => ⟨S1x8320, .f32⟩
  | 28 => ⟨S1x8320x1, .f32⟩
  | 29 => ⟨S_, .f32⟩
  | 30 => ⟨S1x8320x1, .f32⟩
  | 31 => ⟨S1x8320x1, .f32⟩
  | 32 => ⟨S1x8320x2048, .f32⟩
  | 33 => ⟨S1x8320x2048, .f32⟩
  | 34 => ⟨S_, .f32⟩
  | 35 => ⟨S1x8320x1, .f32⟩
  | 36 => ⟨S1x8320x1, .f32⟩
  | 37 => ⟨S1x8320x1, .f32⟩
  | 38 => ⟨S1x8320x1, .f32⟩
  | 39 => ⟨S_, .f32⟩
  | 40 => ⟨S1x8320x1, .f32⟩
  | 41 => ⟨S1x8320x1, .f32⟩
  | 42 => ⟨S1x8320x2048, .f32⟩
  | 43 => ⟨S1x8320x2048, .f32⟩
  | 44 => ⟨S1x1x2048, .f32⟩
  | 45 => ⟨S1x8320x2048, .f32⟩
  | 46 => ⟨S1x8320x2048, .f32⟩
  | 47 => ⟨S1x1x2048, .f32⟩
  | 48 => ⟨S1x8320x2048, .f32⟩
  | 49 => ⟨S1x8320x2048, .f32⟩
  | 50 => ⟨S1x8192x2048, .f32⟩
  | 51 => ⟨S1x8192x2048, .f32⟩
  | 52 => ⟨S1x8192x2048, .f32⟩
  | 53 => ⟨S_, .f32⟩
  | 54 => ⟨S1x8192x2048, .f32⟩
  | 55 => ⟨S1x8192x2048, .f32⟩
  | 56 => ⟨S_, .f32⟩
  | 57 => ⟨S1x8192, .f32⟩
  | 58 => ⟨S_, .f32⟩
  | 59 => ⟨S1x8192, .f32⟩
  | 60 => ⟨S1x8192, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1x8192, .f32⟩
  | 69 => ⟨S_, .f32⟩
  | 70 => ⟨S1x8192, .f32⟩
  | 71 => ⟨S1x8192, .f32⟩
  | 72 => ⟨S1x8192x2048, .f32⟩
  | 73 => ⟨S1x8192x2048, .f32⟩
  | 74 => ⟨S_, .f32⟩
  | 75 => ⟨S1x8320x2048, .f32⟩
  | 76 => ⟨S_, .f32⟩
  | 77 => ⟨S1x2048, .f32⟩
  | 78 => ⟨S1x1x2048, .f32⟩
  | 79 => ⟨S_, .f32⟩
  | 80 => ⟨S2048, .f32⟩
  | 81 => ⟨S1x8320x2048, .f32⟩
  | 82 => ⟨S_, .f32⟩
  | 83 => ⟨S1x2048, .f32⟩
  | 84 => ⟨S1x1x2048, .f32⟩
  | 85 => ⟨S1x8320x2048, .f32⟩
  | 86 => ⟨S1x8320x2048, .f32⟩
  | 87 => ⟨S_, .f32⟩
  | 88 => ⟨S2048, .f32⟩
  | 89 => ⟨S1x8320x2048, .f32⟩
  | 90 => ⟨S_, .f32⟩
  | 91 => ⟨S1x8320, .f32⟩
  | 92 => ⟨S1x8320x1, .f32⟩
  | 93 => ⟨S1x8320x2048, .f32⟩
  | 94 => ⟨S1x8320x2048, .f32⟩
  | 95 => ⟨S1x8320x1, .f32⟩
  | 96 => ⟨S1x8320x2048, .f32⟩
  | 97 => ⟨S_, .f32⟩
  | 98 => ⟨S1x8320, .f32⟩
  | 99 => ⟨S1x8320x1, .f32⟩
  | 100 => ⟨S_, .f32⟩
  | 101 => ⟨S1x8320x1, .f32⟩
  | 102 => ⟨S1x8320x1, .f32⟩
  | 103 => ⟨S_, .f32⟩
  | 104 => ⟨S8320, .f32⟩
  | 105 => ⟨S1x8320, .f32⟩
  | 106 => ⟨S1x8320x2048, .f32⟩
  | 107 => ⟨S1x8320x2048, .f32⟩
  | 108 => ⟨S1x8320x2048, .f32⟩
  | 109 => ⟨S_, .f32⟩
  | 110 => ⟨S1x8320, .f32⟩
  | 111 => ⟨S1x8320x1, .f32⟩
  | 112 => ⟨S1x8320x2048, .f32⟩
  | 113 => ⟨S1x8320x1, .f32⟩
  | 114 => ⟨S_, .f32⟩
  | 115 => ⟨S1x8320x1, .f32⟩
  | 116 => ⟨S1x8320x1, .f32⟩
  | 117 => ⟨S_, .f32⟩
  | 118 => ⟨S8320, .f32⟩
  | 119 => ⟨S1x8320, .f32⟩
  | 120 => ⟨S1x8320x2048, .f32⟩
  | 121 => ⟨S1x8320x2048, .f32⟩
  | 122 => ⟨S1x2048, .f32⟩
  | 123 => ⟨S1x2048, .f32⟩
  | 124 => ⟨S8320x2048, .f32⟩
  | 125 => ⟨S_, .f32⟩
  | 126 => ⟨S1x8320x2048, .f32⟩
  | 127 => ⟨S1x8320x2048, .f32⟩
  | _ => ⟨S1x8320x2048, .f32⟩

abbrev hbmTy0_1 (i : Nat) : BufTy := match i % 128 with
  | 0 => ⟨S8320x2048, .f32⟩
  | 1 => ⟨S8320x2048, .bf16⟩
  | 2 => ⟨S1x128, .f32⟩
  | _ => ⟨S1x8320x2048, .f32⟩

abbrev hbmTy (i : Nat) : BufTy := match i / 128 with
  | 0 => hbmTy0_0 i
  | 1 => hbmTy0_1 i
  | _ => ⟨S1x8320x2048, .f32⟩

abbrev bufTy : (tb : Table) → Fin (tcTables nBuf tb) → BufTy
  | .hbm, ⟨i, _⟩ => hbmTy i
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_cst_13 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_20 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_cst_24 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_25 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_26 : Ref sig .tc := ⟨.hbm, 114, rfl⟩
abbrev main_v82 : Ref sig .tc := ⟨.hbm, 115, rfl⟩
abbrev main_v83 : Ref sig .tc := ⟨.hbm, 116, rfl⟩
abbrev main_cst_27 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_28 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== KernelFfn.lean ====
abbrev S1x8320x2048 : Shape := ⟨3, ![1, 8320, 2048]⟩
abbrev S1x2048x5632 : Shape := ⟨3, ![1, 2048, 5632]⟩
abbrev S1x5632x2048 : Shape := ⟨3, ![1, 5632, 2048]⟩
abbrev S5632x2048 : Shape := ⟨2, ![5632, 2048]⟩
abbrev S8x704x2048 : Shape := ⟨3, ![8, 704, 2048]⟩
abbrev S8320x2048 : Shape := ⟨2, ![8320, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x8320x704 : Shape := ⟨3, ![8, 8320, 704]⟩
abbrev S640x2048 : Shape := ⟨2, ![640, 2048]⟩
abbrev S1x2048x704 : Shape := ⟨3, ![1, 2048, 704]⟩
abbrev S1x640x704 : Shape := ⟨3, ![1, 640, 704]⟩
abbrev S2048x704 : Shape := ⟨2, ![2048, 704]⟩
abbrev S640x704 : Shape := ⟨2, ![640, 704]⟩
abbrev S2x704x2048 : Shape := ⟨3, ![2, 704, 2048]⟩
abbrev S2x640x704 : Shape := ⟨3, ![2, 640, 704]⟩
abbrev S1x704x2048 : Shape := ⟨3, ![1, 704, 2048]⟩
abbrev S704x2048 : Shape := ⟨2, ![704, 2048]⟩

abbrev nBuf : Space → Nat
  | .hbm => 25
  | .vmem => 24
  | .smem => 0
  | _ => 0

abbrev bufTy : (tb : Table) → Fin (tcTables nBuf tb) → BufTy
  | .hbm, ⟨0, _⟩ => ⟨S1x8320x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x8320x2048, .f32⟩
  | .hbm, ⟨5, _⟩ => ⟨S5632x2048, .f32⟩
  | .hbm, ⟨6, _⟩ => ⟨S5632x2048, .bf16⟩
  | .hbm, ⟨7, _⟩ => ⟨S8x704x2048, .bf16⟩
  | .hbm, ⟨8, _⟩ => ⟨S8320x2048, .f32⟩
  | .hbm, ⟨9, _⟩ => ⟨S8320x2048, .bf16⟩
  | .hbm, ⟨10, _⟩ => ⟨S2048x5632, .f32⟩
  | .hbm, ⟨11, _⟩ => ⟨S2048x5632, .bf16⟩
  | .hbm, ⟨12, _⟩ => ⟨S2048x8x704, .bf16⟩
  | .hbm, ⟨13, _⟩ => ⟨S8x2048x704, .bf16⟩
  | .hbm, ⟨14, _⟩ => ⟨S2048x5632, .f32⟩
  | .hbm, ⟨15, _⟩ => ⟨S2048x5632, .bf16⟩
  | .hbm, ⟨16, _⟩ => ⟨S2048x8x704, .bf16⟩
  | .hbm, ⟨17, _⟩ => ⟨S8x2048x704, .bf16⟩
  | .hbm, ⟨18, _⟩ => ⟨S8x8320x704, .f32⟩
  | .hbm, ⟨19, _⟩ => ⟨S8x8320x704, .f32⟩
  | .hbm, ⟨20, _⟩ => ⟨S8x8320x704, .bf16⟩
  | .hbm, ⟨21, _⟩ => ⟨S8320x2048, .f32⟩
  | .hbm, ⟨22, _⟩ => ⟨S8320x2048, .bf16⟩
  | .hbm, ⟨23, _⟩ => ⟨S8x8320x704, .bf16⟩
  | .hbm, ⟨24, _⟩ => ⟨S8x8320x704, .bf16⟩
  | .local _ .vmem, ⟨0, _⟩ => ⟨S640x2048, .bf16⟩
  | .local _ .vmem, ⟨1, _⟩ => ⟨S640x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x640x704, .f32⟩
  | .local _ .vmem, ⟨7, _⟩ => ⟨S1x640x704, .f32⟩
  | .local _ .vmem, ⟨8, _⟩ => ⟨S1x640x704, .f32⟩
  | .local _ .vmem, ⟨9, _⟩ => ⟨S1x640x704, .f32⟩
  | .local _ .vmem, ⟨10, _⟩ => ⟨S1x640x704, .bf16⟩
  | .local _ .vmem, ⟨11, _⟩ => ⟨S1x640x704, .bf16⟩
  | .local _ .vmem, ⟨12, _⟩ => ⟨S640x2048, .bf16⟩
  | .local _ .vmem, ⟨13, _⟩ => ⟨S640x2048, .bf16⟩
  | .local _ .vmem, ⟨14, _⟩ => ⟨S2x704x2048, .bf16⟩
  | .local _ .vmem, ⟨15, _⟩ => ⟨S2x704x2048, .bf16⟩
  | .local _ .vmem, ⟨16, _⟩ => ⟨S2x640x704, .f32⟩
  | .local _ .vmem, ⟨17, _⟩ => ⟨S2x640x704, .f32⟩
  | .local _ .vmem, ⟨18, _⟩ => ⟨S2x640x704, .f32⟩
  | .local _ .vmem, ⟨19, _⟩ => ⟨S2x640x704, .f32⟩
  | .local _ .vmem, ⟨20, _⟩ => ⟨S2x640x704, .bf16⟩
  | .local _ .vmem, ⟨21, _⟩ => ⟨S2x640x704, .bf16⟩
  | .local _ .vmem, ⟨22, _⟩ => ⟨S2x640x704, .bf16⟩
  | .local _ .vmem, ⟨23, _⟩ => ⟨S2x640x704, .bf16⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x640x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x640x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![13, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x640x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x640x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x640x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x640x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceFfnIdeal.lean ====
abbrev S1x8320x2048 : Shape := ⟨3, ![1, 8320, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S1x8320x5632 : Shape := ⟨3, ![1, 8320, 5632]⟩
abbrev S_ : Shape := ⟨0, ![]⟩
abbrev S5632x2048 : Shape := ⟨2, ![5632, 2048]⟩
abbrev S8320x5632 : Shape := ⟨2, ![8320, 5632]⟩
abbrev S8320x8x704 : Shape := ⟨3, ![8320, 8, 704]⟩
abbrev S8x8320x704 : Shape := ⟨3, ![8, 8320, 704]⟩

abbrev nBuf : Space → Nat
  | .hbm => 44
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x8320x2048, .f32⟩
  | .hbm, ⟨5, _⟩ => ⟨S2048x5632, .f32⟩
  | .hbm, ⟨6, _⟩ => ⟨S1x8320x5632, .f32⟩
  | .hbm, ⟨7, _⟩ => ⟨S2048x5632, .f32⟩
  | .hbm, ⟨8, _⟩ => ⟨S1x8320x5632, .f32⟩
  | .hbm, ⟨9, _⟩ => ⟨S1x8320x5632, .f32⟩
  | .hbm, ⟨10, _⟩ => ⟨S1x8320x5632, .f32⟩
  | .hbm, ⟨11, _⟩ => ⟨S_, .f32⟩
  | .hbm, ⟨12, _⟩ => ⟨S1x8320x5632, .f32⟩
  | .hbm, ⟨13, _⟩ => ⟨S1x8320x5632, .f32⟩
  | .hbm, ⟨14, _⟩ => ⟨S_, .f32⟩
  | .hbm, ⟨15, _⟩ => ⟨S1x8320x5632, .f32⟩
  | .hbm, ⟨16, _⟩ => ⟨S1x8320x5632, .f32⟩
  | .hbm, ⟨17, _⟩ => ⟨S_, .f32⟩
  | .hbm, ⟨18, _⟩ => ⟨S1x8320x5632, .f32⟩
  | .hbm, ⟨19, _⟩ => ⟨S1x8320x5632, .f32⟩
  | .hbm, ⟨20, _⟩ => ⟨S1x8320x5632, .f32⟩
  | .hbm, ⟨21, _⟩ => ⟨S1x8320x5632, .f32⟩
  | .hbm, ⟨22, _⟩ => ⟨S1x8320x5632, .f32⟩
  | .hbm, ⟨23, _⟩ => ⟨S5632x2048, .f32⟩
  | .hbm, ⟨24, _⟩ => ⟨S1x8320x2048, .f32⟩
  | .hbm, ⟨25, _⟩ => ⟨S1x8320x5632, .f32⟩
  | .hbm, ⟨26, _⟩ => ⟨S1x8320x5632, .f32⟩
  | .hbm, ⟨27, _⟩ => ⟨S1x8320x5632, .f32⟩
  | .hbm, ⟨28, _⟩ => ⟨S1x8320x5632, .f32⟩
  | .hbm, ⟨29, _⟩ => ⟨S1x8320x5632, .f32⟩
  | .hbm, ⟨30, _⟩ => ⟨S1x8320x5632, .f32⟩
  | .hbm, ⟨31, _⟩ => ⟨S1x8320x5632, .f32⟩
  | .hbm, ⟨32, _⟩ => ⟨S8320x5632, .f32⟩
  | .hbm, ⟨33, _⟩ => ⟨S8320x5632, .bf16⟩
  | .hbm, ⟨34, _⟩ => ⟨S8320x8x704, .bf16⟩
  | .hbm, ⟨35, _⟩ => ⟨S8x8320x704, .bf16⟩
  | .hbm, ⟨36, _⟩ => ⟨S8320x5632, .f32⟩
  | .hbm, ⟨37, _⟩ => ⟨S8320x5632, .bf16⟩
  | .hbm, ⟨38, _⟩ => ⟨S8320x8x704, .bf16⟩
  | .hbm, ⟨39, _⟩ => ⟨S8x8320x704, .bf16⟩
  | .hbm, ⟨40, _⟩ => ⟨S8320x5632, .f32⟩
  | .hbm, ⟨41, _⟩ => ⟨S8320x5632, .bf16⟩
  | .hbm, ⟨42, _⟩ => ⟨S8320x8x704, .bf16⟩
  | .hbm, ⟨43, _⟩ => ⟨S8x8320x704, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== KernelMerge.lean ====
abbrev S1x8320x1024 : Shape := ⟨3, ![1, 8320, 1024]⟩
abbrev S1x1024x2048 : Shape := ⟨3, ![1, 1024, 2048]⟩
abbrev S1x8320x11264 : Shape := ⟨3, ![1, 8320, 11264]⟩
abbrev S1x4096 : Shape := ⟨2, ![1, 4096]⟩
abbrev S1x2048x2048 : Shape := ⟨3, ![1, 2048, 2048]⟩
abbrev S1x8320x2048 : Shape := ⟨3, ![1, 8320, 2048]⟩
abbrev S8320x1024 : Shape := ⟨2, ![8320, 1024]⟩
abbrev S1024x2048 : Shape := ⟨2, ![1024, 2048]⟩
abbrev S8320x11264 : Shape := ⟨2, ![8320, 11264]⟩
abbrev S8320x2048 : Shape := ⟨2, ![8320, 2048]⟩
abbrev S640x1024 : Shape := ⟨2, ![640, 1024]⟩
abbrev S1024x512 : Shape := ⟨2, ![1024, 512]⟩
abbrev S640x512 : Shape := ⟨2, ![640, 512]⟩
abbrev S1x512 : Shape := ⟨2, ![1, 512]⟩
abbrev S2048x2048 : Shape := ⟨2, ![2048, 2048]⟩
abbrev S1x2048 : Shape := ⟨2, ![1, 2048]⟩
abbrev S640x2048 : Shape := ⟨2, ![640, 2048]⟩
abbrev S512x2048 : Shape := ⟨2, ![512, 2048]⟩
abbrev S512 : Shape := ⟨1, ![512]⟩

abbrev nBuf : Space → Nat
  | .hbm => 32
  | .vmem => 50
  | .smem => 0
  | _ => 0

abbrev bufTy : (tb : Table) → Fin (tcTables nBuf tb) → BufTy
  | .hbm, ⟨0, _⟩ => ⟨S1x8320x1024, .f32⟩
  | .hbm, ⟨1, _⟩ => ⟨S1x8320x1024, .f32⟩
  | .hbm, ⟨2, _⟩ => ⟨S1x1024x2048, .f32⟩
  | .hbm, ⟨3, _⟩ => ⟨S1x1024x2048, .f32⟩
  | .hbm, ⟨4, _⟩ => ⟨S1x8320x11264, .f32⟩
  | .hbm, ⟨5, _⟩ => ⟨S1x4096, .f32⟩
  | .hbm, ⟨6, _⟩ => ⟨S1x2048x2048, .f32⟩
  | .hbm, ⟨7, _⟩ => ⟨S1x8320x2048, .f32⟩
  | .hbm, ⟨8, _⟩ => ⟨S8320x1024, .f32⟩
  | .hbm, ⟨9, _⟩ => ⟨S8320x1024, .bf16⟩
  | .hbm, ⟨10, _⟩ => ⟨S8320x1024, .f32⟩
  | .hbm, ⟨11, _⟩ => ⟨S8320x1024, .bf16⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S8320x11264, .f32⟩
  | .hbm, ⟨17, _⟩ => ⟨S8320x2048, .f32⟩
  | .hbm, ⟨18, _⟩ => ⟨S8320x2048, .f32⟩
  | .hbm, ⟨19, _⟩ => ⟨S8320x2048, .bf16⟩
  | .hbm, ⟨20, _⟩ => ⟨S8320x2048, .f32⟩
  | .hbm, ⟨21, _⟩ => ⟨S8320x2048, .bf16⟩
  | .hbm, ⟨22, _⟩ => ⟨S2048x2048, .f32⟩
  | .hbm, ⟨23, _⟩ => ⟨S2048x2048, .bf16⟩
  | .hbm, ⟨24, _⟩ => ⟨S8320x11264, .f32⟩
  | .hbm, ⟨25, _⟩ => ⟨S8320x2048, .bf16⟩
  | .hbm, ⟨26, _⟩ => ⟨S8320x2048, .bf16⟩
  | .hbm, ⟨27, _⟩ => ⟨S8320x2048, .bf16⟩
  | .hbm, ⟨28, _⟩ => ⟨S8320x2048, .bf16⟩
  | .hbm, ⟨29, _⟩ => ⟨S1x2048, .f32⟩
  | .hbm, ⟨30, _⟩ => ⟨S1x2048, .f32⟩
  | .hbm, ⟨31, _⟩ => ⟨S1x4096, .f32⟩
  | .local _ .vmem, ⟨0, _⟩ => ⟨S640x1024, .bf16⟩
  | .local _ .vmem, ⟨1, _⟩ => ⟨S640x1024, .bf16⟩
  | .local _ .vmem, ⟨2, _⟩ => ⟨S1024x512, .bf16⟩
  | .local _ .vmem, ⟨3, _⟩ => ⟨S1024x512, .bf16⟩
  | .local _ .vmem, ⟨4, _⟩ => ⟨S640x1024, .bf16⟩
  | .local _ .vmem, ⟨5, _⟩ => ⟨S640x1024, .bf16⟩
  | .local _ .vmem, ⟨6, _⟩ => ⟨S1024x512, .bf16⟩
  | .local _ .vmem, ⟨7, _⟩ => ⟨S1024x512, .bf16⟩
  | .local _ .vmem, ⟨8, _⟩ => ⟨S640x512, .f32⟩
  | .local _ .vmem, ⟨9, _⟩ => ⟨S640x512, .f32⟩
  | .local _ .vmem, ⟨10, _⟩ => ⟨S640x512, .f32⟩
  | .local _ .vmem, ⟨11, _⟩ => ⟨S640x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S640x512, .f32⟩
  | .local _ .vmem, ⟨17, _⟩ => ⟨S640x512, .f32⟩
  | .local _ .vmem, ⟨18, _⟩ => ⟨S640x512, .f32⟩
  | .local _ .vmem, ⟨19, _⟩ => ⟨S640x512, .f32⟩
  | .local _ .vmem, ⟨20, _⟩ => ⟨S640x512, .bf16⟩
  | .local _ .vmem, ⟨21, _⟩ => ⟨S640x512, .bf16⟩
  | .local _ .vmem, ⟨22, _⟩ => ⟨S640x2048, .bf16⟩
  | .local _ .vmem, ⟨23, _⟩ => ⟨S640x2048, .bf16⟩
  | .local _ .vmem, ⟨24, _⟩ => ⟨S512x2048, .bf16⟩
  | .local _ .vmem, ⟨25, _⟩ => ⟨S512x2048, .bf16⟩
  | .local _ .vmem, ⟨26, _⟩ => ⟨S640x512, .f32⟩
  | .local _ .vmem, ⟨27, _⟩ => ⟨S640x512, .f32⟩
  | .local _ .vmem, ⟨28, _⟩ => ⟨S640x512, .f32⟩
  | .local _ .vmem, ⟨29, _⟩ => ⟨S640x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S640x512, .f32⟩
  | .local _ .vmem, ⟨35, _⟩ => ⟨S640x512, .f32⟩
  | .local _ .vmem, ⟨36, _⟩ => ⟨S640x512, .f32⟩
  | .local _ .vmem, ⟨37, _⟩ => ⟨S640x512, .f32⟩
  | .local _ .vmem, ⟨38, _⟩ => ⟨S640x512, .bf16⟩
  | .local _ .vmem, ⟨39, _⟩ => ⟨S640x512, .bf16⟩
  | .local _ .vmem, ⟨40, _⟩ => ⟨S640x512, .bf16⟩
  | .local _ .vmem, ⟨41, _⟩ => ⟨S640x512, .bf16⟩
  | .local _ .vmem, ⟨42, _⟩ => ⟨S640x512, .bf16⟩
  | .local _ .vmem, ⟨43, _⟩ => ⟨S640x512, .bf16⟩
  | .local _ .vmem, ⟨44, _⟩ => ⟨S640x512, .bf16⟩
  | .local _ .vmem, ⟨45, _⟩ => ⟨S640x512, .bf16⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | _, _ => ⟨S1x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev grid1 : Pipeline.Grid := ⟨3, ![4, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S640x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S640x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S640x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S640x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S640x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S640x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]

abbrev stage1_10 : Fin 2 → Memref sig .tc .vmem S640x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]

abbrev stage1_11 : Fin 2 → Memref sig .tc .vmem S640x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, false]

abbrev stage1_12 : Fin 2 → Memref sig .tc .vmem S1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false, false]

abbrev stage1_13 : Fin 2 → Memref sig .tc .vmem S1x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false, false]
-- ==== ReferenceMergeIdeal.lean ====
abbrev S1x8320x1024 : Shape := ⟨3, ![1, 8320, 1024]⟩
abbrev S1x1024x2048 : Shape := ⟨3, ![1, 1024, 2048]⟩
abbrev S1x8320x11264 : Shape := ⟨3, ![1, 8320, 11264]⟩
abbrev S1x4096 : Shape := ⟨2, ![1, 4096]⟩
abbrev S1x2048x2048 : Shape := ⟨3, ![1, 2048, 2048]⟩
abbrev S1x8320x2048 : Shape := ⟨3, ![1, 8320, 2048]⟩
abbrev S1x8320x4096 : Shape := ⟨3, ![1, 8320, 4096]⟩
abbrev S1024x2048 : Shape := ⟨2, ![1024, 2048]⟩
abbrev S4096 : Shape := ⟨1, ![4096]⟩
abbrev S1x1x4096 : Shape := ⟨3, ![1, 1, 4096]⟩
abbrev S_ : Shape := ⟨0, ![]⟩
abbrev S2048x2048 : Shape := ⟨2, ![2048, 2048]⟩
abbrev S8320x2048 : Shape := ⟨2, ![8320, 2048]⟩

abbrev nBuf : Space → Nat
  | .hbm => 68
  | .vmem => 0
  | .smem => 0
  | _ => 0

abbrev bufTy : (tb : Table) → Fin (tcTables nBuf tb) → BufTy
  | .hbm, ⟨0, _⟩ => ⟨S1x8320x1024, .f32⟩
  | .hbm, ⟨1, _⟩ => ⟨S1x8320x1024, .f32⟩
  | .hbm, ⟨2, _⟩ => ⟨S1x1024x2048, .f32⟩
  | .hbm, ⟨3, _⟩ => ⟨S1x1024x2048, .f32⟩
  | .hbm, ⟨4, _⟩ => ⟨S1x8320x11264, .f32⟩
  | .hbm, ⟨5, _⟩ => ⟨S1x4096, .f32⟩
  | .hbm, ⟨6, _⟩ => ⟨S1x2048x2048, .f32⟩
  | .hbm, ⟨7, _⟩ => ⟨S1x8320x2048, .f32⟩
  | .hbm, ⟨8, _⟩ => ⟨S1x8320x1024, .f32⟩
  | .hbm, ⟨9, _⟩ => ⟨S1x8320x1024, .f32⟩
  | .hbm, ⟨10, _⟩ => ⟨S1x8320x1024, .f32⟩
  | .hbm, ⟨11, _⟩ => ⟨S1x8320x1024, .f32⟩
  | .hbm, ⟨12, _⟩ => ⟨S1x8320x1024, .f32⟩
  | .hbm, ⟨13, _⟩ => ⟨S1x8320x1024, .f32⟩
  | .hbm, ⟨14, _⟩ => ⟨S1x8320x1024, .f32⟩
  | .hbm, ⟨15, _⟩ => ⟨S1x8320x4096, .f32⟩
  | .hbm, ⟨16, _⟩ => ⟨S1024x2048, .f32⟩
  | .hbm, ⟨17, _⟩ => ⟨S1x8320x2048, .f32⟩
  | .hbm, ⟨18, _⟩ => ⟨S1024x2048, .f32⟩
  | .hbm, ⟨19, _⟩ => ⟨S1x8320x2048, .f32⟩
  | .hbm, ⟨20, _⟩ => ⟨S4096, .f32⟩
  | .hbm, ⟨21, _⟩ => ⟨S1x1x4096, .f32⟩
  | .hbm, ⟨22, _⟩ => ⟨S1x8320x4096, .f32⟩
  | .hbm, ⟨23, _⟩ => ⟨S1x8320x4096, .f32⟩
  | .hbm, ⟨24, _⟩ => ⟨S1x8320x4096, .f32⟩
  | .hbm, ⟨25, _⟩ => ⟨S1x8320x4096, .f32⟩
  | .hbm, ⟨26, _⟩ => ⟨S_, .f32⟩
  | .hbm, ⟨27, _⟩ => ⟨S1x8320x4096, .f32⟩
  | .hbm, ⟨28, _⟩ => ⟨S1x8320x4096, .f32⟩
  | .hbm, ⟨29, _⟩ => ⟨S_, .f32⟩
  | .hbm, ⟨30, _⟩ => ⟨S1x8320x4096, .f32⟩
  | .hbm, ⟨31, _⟩ => ⟨S1x8320x4096, .f32⟩
  | .hbm, ⟨32, _⟩ => ⟨S_, .f32⟩
  | .hbm, ⟨33, _⟩ => ⟨S1x8320x4096, .f32⟩
  | .hbm, ⟨34, _⟩ => ⟨S1x8320x4096, .f32⟩
  | .hbm, ⟨35, _⟩ => ⟨S1x8320x4096, .f32⟩
  | .hbm, ⟨36, _⟩ => ⟨S1x8320x2048, .f32⟩
  | .hbm, ⟨37, _⟩ => ⟨S1x8320x2048, .f32⟩
  | .hbm, ⟨38, _⟩ => ⟨S1x8320x2048, .f32⟩
  | .hbm, ⟨39, _⟩ => ⟨S1x8320x2048, .f32⟩
  | .hbm, ⟨40, _⟩ => ⟨S1x8320x2048, .f32⟩
  | .hbm, ⟨41, _⟩ => ⟨S2048x2048, .f32⟩
  | .hbm, ⟨42, _⟩ => ⟨S1x8320x2048, .f32⟩
  | .hbm, ⟨43, _⟩ => ⟨S1x8320x2048, .f32⟩
  | .hbm, ⟨44, _⟩ => ⟨S1x8320x2048, .f32⟩
  | .hbm, ⟨45, _⟩ => ⟨S1x8320x2048, .f32⟩
  | .hbm, ⟨46, _⟩ => ⟨S1x8320x2048, .f32⟩
  | .hbm, ⟨47, _⟩ => ⟨S1x8320x2048, .f32⟩
  | .hbm, ⟨48, _⟩ => ⟨S1x8320x4096, .f32⟩
  | .hbm, ⟨49, _⟩ => ⟨S1x8320x4096, .f32⟩
  | .hbm, ⟨50, _⟩ => ⟨S_, .f32⟩
  | .hbm, ⟨51, _⟩ => ⟨S1x4096, .f32⟩
  | .hbm, ⟨52, _⟩ => ⟨S1x1x4096, .f32⟩
  | .hbm, ⟨53, _⟩ => ⟨S_, .f32⟩
  | .hbm, ⟨54, _⟩ => ⟨S4096, .f32⟩
  | .hbm, ⟨55, _⟩ => ⟨S1x8320x2048, .f32⟩
  | .hbm, ⟨56, _⟩ => ⟨S1x8320x2048, .f32⟩
  | .hbm, ⟨57, _⟩ => ⟨S8320x2048, .f32⟩
  | .hbm, ⟨58, _⟩ => ⟨S8320x2048, .bf16⟩
  | .hbm, ⟨59, _⟩ => ⟨S8320x2048, .f32⟩
  | .hbm, ⟨60, _⟩ => ⟨S8320x2048, .bf16⟩
  | .hbm, ⟨61, _⟩ => ⟨S8320x2048, .f32⟩
  | .hbm, ⟨62, _⟩ => ⟨S8320x2048, .bf16⟩
  | .hbm, ⟨63, _⟩ => ⟨S8320x2048, .f32⟩
  | .hbm, ⟨64, _⟩ => ⟨S8320x2048, .bf16⟩
  | .hbm, ⟨65, _⟩ => ⟨S8320x2048, .f32⟩
  | .hbm, ⟨66, _⟩ => ⟨S8320x2048, .bf16⟩
  | .hbm, ⟨67, _⟩ => ⟨S1x4096, .f32⟩
  | _, _ => ⟨S1x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== KernelHgb.lean ====
abbrev S8320x11264 : Shape := ⟨2, ![8320, 11264]⟩
abbrev S2x1024 : Shape := ⟨2, ![2, 1024]⟩
abbrev S1x1024 : Shape := ⟨2, ![1, 1024]⟩
abbrev S8320x1024 : Shape := ⟨2, ![8320, 1024]⟩
abbrev S8x520x128x128 : Shape := ⟨4, ![8, 520, 128, 128]⟩
abbrev S128x1024 : Shape := ⟨2, ![128, 1024]⟩
abbrev S8x8x128x128 : Shape := ⟨4, ![8, 8, 128, 128]⟩
abbrev S8x1x128x128 : Shape := ⟨4, ![8, 1, 128, 128]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1024 : Shape := ⟨1, ![1024]⟩
abbrev S1x1x128x128 : Shape := ⟨4, ![1, 1, 128, 128]⟩
abbrev S16x128 : Shape := ⟨2, ![16, 128]⟩
abbrev S1x128 : Shape := ⟨2, ![1, 128]⟩
abbrev S1x128x128 : Shape := ⟨3, ![1, 128, 128]⟩
abbrev S8x128 : Shape := ⟨2, ![8, 128]⟩
abbrev S8x16x1 : Shape := ⟨3, ![8, 16, 1]⟩
abbrev S1x16x128 : Shape := ⟨3, ![1, 16, 128]⟩
abbrev S8x1x128 : Shape := ⟨3, ![8, 1, 128]⟩
abbrev S8x16x128 : Shape := ⟨3, ![8, 16, 128]⟩
abbrev S8x8x1 : Shape := ⟨3, ![8, 8, 1]⟩
abbrev S1x8x128 : Shape := ⟨3, ![1, 8, 128]⟩
abbrev S8x8x128 : Shape := ⟨3, ![8, 8, 128]⟩
abbrev S8x16 : Shape := ⟨2, ![8, 16]⟩
abbrev S8x8 : Shape := ⟨2, ![8, 8]⟩

abbrev nBuf : Space → Nat
  | .hbm => 12
  | .vmem => 38
  | .smem => 0
  | _ => 0

abbrev bufTy : (tb : Table) → Fin (tcTables nBuf tb) → BufTy
  | .hbm, ⟨0, _⟩ => ⟨S8320x11264, .f32⟩
  | .hbm, ⟨1, _⟩ => ⟨S2x1024, .f32⟩
  | .hbm, ⟨2, _⟩ => ⟨S1x1024, .f32⟩
  | .hbm, ⟨3, _⟩ => ⟨S8320x1024, .f32⟩
  | .hbm, ⟨4, _⟩ => ⟨S8320x1024, .f32⟩
  | .hbm, ⟨5, _⟩ => ⟨S8x520x128x128, .bf16⟩
  | .hbm, ⟨6, _⟩ => ⟨S8320x1024, .bf16⟩
  | .hbm, ⟨7, _⟩ => ⟨S8320x1024, .bf16⟩
  | .hbm, ⟨8, _⟩ => ⟨S8320x1024, .bf16⟩
  | .hbm, ⟨9, _⟩ => ⟨S8320x1024, .bf16⟩
  | .hbm, ⟨10, _⟩ => ⟨S1x1024, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S2x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S8x8x128x128, .bf16⟩
  | .local _ .vmem, ⟨15, _⟩ => ⟨S8x8x128x128, .bf16⟩
  | .local _ .vmem, ⟨16, _⟩ => ⟨S8x1x128x128, .bf16⟩
  | .local _ .vmem, ⟨17, _⟩ => ⟨S8x1x128x128, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S1x1024, .f32⟩
  | .local _ .vmem, ⟨27, _⟩ => ⟨S1x1024, .f32⟩
  | .local _ .vmem, ⟨28, _⟩ => ⟨S8x128x128, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | _, _ => ⟨S8320x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨2, ![1, 65], ![false, false]⟩

@[reducible] def k0_t1_loop : Scf.Loop 32 :=
  let c0_i32_152 : BitVec 32 := 0#32
  let c8_i32 : BitVec 32 := 8#32
  let v354 : BitVec 32 := Scalar.addi c0_i32_152 c8_i32
  let c1_i32 : BitVec 32 := 1#32
  ⟨c0_i32_152, v354, c1_i32⟩
def k0_mult1 (k0_t1 : Fin k0_t1_loop.trips) : BitVec 32 :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  v455
def k0_mult2 (k0_t1 : Fin k0_t1_loop.trips) : BitVec 32 :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  v459
def k0_off1 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v464 : Index := Scalar.indexCast v456
  let c0_198 : Index := 0#32
  ![v464.toNat, 0]
def k0_off2 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v466 : Index := Scalar.indexCast v460
  let c0_199 : Index := 0#32
  ![v466.toNat, 0]
def k0_off3 (k0_t1 : Fin k0_t1_loop.trips) : Fin 4 → Nat :=
  let c0_207 : Index := 0#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v490 : Index := Scalar.indexCast v454
  let c0_208 : Index := 0#32
  let c0_209 : Index := 0#32
  ![0, v490.toNat, 0, 0]
def k0_off4 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v631 : Index := Scalar.indexCast v456
  let c128_234 : Index := 128#32
  ![v631.toNat, 128]
def k0_off5 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v633 : Index := Scalar.indexCast v460
  let c128_235 : Index := 128#32
  ![v633.toNat, 128]
def k0_off6 (k0_t1 : Fin k0_t1_loop.trips) : Fin 4 → Nat :=
  let c1_243 : Index := 1#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v657 : Index := Scalar.indexCast v454
  let c0_244 : Index := 0#32
  let c0_245 : Index := 0#32
  ![1, v657.toNat, 0, 0]
def k0_off7 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v798 : Index := Scalar.indexCast v456
  let c256_270 : Index := 256#32
  ![v798.toNat, 256]
def k0_off8 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v800 : Index := Scalar.indexCast v460
  let c256_271 : Index := 256#32
  ![v800.toNat, 256]
def k0_off9 (k0_t1 : Fin k0_t1_loop.trips) : Fin 4 → Nat :=
  let c2_279 : Index := 2#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v824 : Index := Scalar.indexCast v454
  let c0_280 : Index := 0#32
  let c0_281 : Index := 0#32
  ![2, v824.toNat, 0, 0]
def k0_off10 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v965 : Index := Scalar.indexCast v456
  let c384_306 : Index := 384#32
  ![v965.toNat, 384]
def k0_off11 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v967 : Index := Scalar.indexCast v460
  let c384_307 : Index := 384#32
  ![v967.toNat, 384]
def k0_off12 (k0_t1 : Fin k0_t1_loop.trips) : Fin 4 → Nat :=
  let c3_315 : Index := 3#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v991 : Index := Scalar.indexCast v454
  let c0_316 : Index := 0#32
  let c0_317 : Index := 0#32
  ![3, v991.toNat, 0, 0]
def k0_off13 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v1132 : Index := Scalar.indexCast v456
  let c512_342 : Index := 512#32
  ![v1132.toNat, 512]
def k0_off14 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v1134 : Index := Scalar.indexCast v460
  let c512_343 : Index := 512#32
  ![v1134.toNat, 512]
def k0_off15 (k0_t1 : Fin k0_t1_loop.trips) : Fin 4 → Nat :=
  let c4_351 : Index := 4#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v1158 : Index := Scalar.indexCast v454
  let c0_352 : Index := 0#32
  let c0_353 : Index := 0#32
  ![4, v1158.toNat, 0, 0]
def k0_off16 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v1299 : Index := Scalar.indexCast v456
  let c640_378 : Index := 640#32
  ![v1299.toNat, 640]
def k0_off17 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v1301 : Index := Scalar.indexCast v460
  let c640_379 : Index := 640#32
  ![v1301.toNat, 640]
def k0_off18 (k0_t1 : Fin k0_t1_loop.trips) : Fin 4 → Nat :=
  let c5_387 : Index := 5#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v1325 : Index := Scalar.indexCast v454
  let c0_388 : Index := 0#32
  let c0_389 : Index := 0#32
  ![5, v1325.toNat, 0, 0]
def k0_off19 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v1466 : Index := Scalar.indexCast v456
  let c768_414 : Index := 768#32
  ![v1466.toNat, 768]
def k0_off20 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v1468 : Index := Scalar.indexCast v460
  let c768_415 : Index := 768#32
  ![v1468.toNat, 768]
def k0_off21 (k0_t1 : Fin k0_t1_loop.trips) : Fin 4 → Nat :=
  let c6_423 : Index := 6#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v1492 : Index := Scalar.indexCast v454
  let c0_424 : Index := 0#32
  let c0_425 : Index := 0#32
  ![6, v1492.toNat, 0, 0]
def k0_off22 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c16_i32_193 : BitVec 32 := 16#32
  let v455 : BitVec 32 := Scalar.muli v454 c16_i32_193
  let v456 : BitVec 32 := v455
  let v1633 : Index := Scalar.indexCast v456
  let c896_450 : Index := 896#32
  ![v1633.toNat, 896]
def k0_off23 (k0_t1 : Fin k0_t1_loop.trips) : Fin 2 → Nat :=
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let c1_i32_194 : BitVec 32 := 1#32
  let v457 : BitVec 32 := Scalar.subi v454 c1_i32_194
  let c0_i32_195 : BitVec 32 := 0#32
  let v458 : BitVec 32 := Scalar.maxsi v457 c0_i32_195
  let c16_i32_196 : BitVec 32 := 16#32
  let v459 : BitVec 32 := Scalar.muli v458 c16_i32_196
  let v460 : BitVec 32 := v459
  let v1635 : Index := Scalar.indexCast v460
  let c896_451 : Index := 896#32
  ![v1635.toNat, 896]
def k0_off24 (k0_t1 : Fin k0_t1_loop.trips) : Fin 4 → Nat :=
  let c7_459 : Index := 7#32
  let c7_i32 : BitVec 32 := 7#32
  let c0_i32_152 : BitVec 32 := 0#32
  let c1_i32 : BitVec 32 := 1#32
  let arg28 : BitVec 32 := Scf.iv c0_i32_152 c1_i32 k0_t1
  let v454 : BitVec 32 := Scalar.subi c7_i32 arg28
  let v1659 : Index := Scalar.indexCast v454
  let c0_460 : Index := 0#32
  let c0_461 : Index := 0#32
  ![7, v1659.toNat, 0, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c3_i32 : BitVec 32 := 3#32
  let v1 : BitVec 32 := Scalar.addi c3_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c8_i32 : BitVec 32 := 8#32
  let v1 : BitVec 32 := Scalar.muli v0 c8_i32
  let c519_i32 : BitVec 32 := 519#32
  let v2 : BitVec 32 := Scalar.minsi v1 c519_i32
  let c0_i32 : BitVec 32 := 0#32
  let c0_i32_0 : BitVec 32 := 0#32
  let c0_i32_1 : BitVec 32 := 0#32
  ![arg0.toNat, v2.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== KernelHgf.lean ====
abbrev S8320x11264 : Shape := ⟨2, ![8320, 11264]⟩
abbrev S2x1024 : Shape := ⟨2, ![2, 1024]⟩
abbrev S1x1024 : Shape := ⟨2, ![1, 1024]⟩
abbrev S8320x1024 : Shape := ⟨2, ![8320, 1024]⟩
abbrev S8x520x128x128 : Shape := ⟨4, ![8, 520, 128, 128]⟩
abbrev S128x1024 : Shape := ⟨2, ![128, 1024]⟩
abbrev S8x8x128x128 : Shape := ⟨4, ![8, 8, 128, 128]⟩
abbrev S8x128x128 : Shape := ⟨3, ![8, 128, 128]⟩
abbrev S128x128 : Shape := ⟨2, ![128, 128]⟩
abbrev S16x128 : Shape := ⟨2, ![16, 128]⟩
abbrev S1x128 : Shape := ⟨2, ![1, 128]⟩
abbrev S1x128x128 : Shape := ⟨3, ![1, 128, 128]⟩
abbrev S1x1x128x128 : Shape := ⟨4, ![1, 1, 128, 128]⟩
abbrev S8x128 : Shape := ⟨2, ![8, 128]⟩
abbrev S8x16x1 : Shape := ⟨3, ![8, 16, 1]⟩
abbrev S1x16x128 : Shape := ⟨3, ![1, 16, 128]⟩
abbrev S8x1x128 : Shape := ⟨3, ![8, 1, 128]⟩
abbrev S8x16x128 : Shape := ⟨3, ![8, 16, 128]⟩
abbrev S8x8x1 : Shape := ⟨3, ![8, 8, 1]⟩
abbrev S1x8x128 : Shape := ⟨3, ![1, 8, 128]⟩
abbrev S8x8x128 : Shape := ⟨3, ![8, 8, 128]⟩
abbrev S8x16 : Shape := ⟨2, ![8, 16]⟩
abbrev S8x8 : Shape := ⟨2, ![8, 8]⟩
abbrev S128 : Shape := ⟨1, ![128]⟩
abbrev S128x1 : Shape := ⟨2, ![128, 1]⟩

abbrev nBuf : Space → Nat
  | .hbm => 6
  | .vmem => 21
  | .smem => 0
  | _ => 0

abbrev bufTy : (tb : Table) → Fin (tcTables nBuf tb) → BufTy
  | .hbm, ⟨0, _⟩ => ⟨S8320x11264, .f32⟩
  | .hbm, ⟨1, _⟩ => ⟨S2x1024, .f32⟩
  | .hbm, ⟨2, _⟩ => ⟨S1x1024, .f32⟩
  | .hbm, ⟨3, _⟩ => ⟨S8320x1024, .f32⟩
  | .hbm, ⟨4, _⟩ => ⟨S8320x1024, .bf16⟩
  | .hbm, ⟨5, _⟩ => ⟨S8x520x128x128, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S2x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S8x8x128x128, .bf16⟩
  | .local _ .vmem, ⟨15, _⟩ => ⟨S8x8x128x128, .bf16⟩
  | .local _ .vmem, ⟨16, _⟩ => ⟨S8x128x128, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S8320x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 65], ![false, false]⟩

@[reducible] def k0_t1_loop : Scf.Loop 32 :=
  let c0_i32_26 : BitVec 32 := 0#32
  let c8_i32 : BitVec 32 := 8#32
  let v70 : BitVec 32 := Scalar.addi c0_i32_26 c8_i32
  let c1_i32 : BitVec 32 := 1#32
  ⟨c0_i32_26, v70, c1_i32⟩
def k0_mult1 (k0_t1 : Fin k0_t1_loop.trips) : BitVec 32 :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  v287
def k0_mult2 (k0_t1 : Fin k0_t1_loop.trips) : BitVec 32 :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  v291
def k0_off1 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v296 : Index := Scalar.indexCast v288
  let c0_137 : Index := 0#32
  ![v296.toNat, 0]
def k0_off2 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v298 : Index := Scalar.indexCast v292
  let c0_138 : Index := 0#32
  ![v298.toNat, 0]
def k0_off3 (k0_t1 : Fin k0_t1_loop.trips) : Fin 4 → Nat :=
  let c0_145 : Index := 0#32
  let c0_i32_26 : BitVec 32 := 0#32
  let c1_i32 : BitVec 32 := 1#32
  let arg16 : BitVec 32 := Scf.iv c0_i32_26 c1_i32 k0_t1
  let v314 : Index := Scalar.indexCast arg16
  let c0_146 : Index := 0#32
  let c0_147 : Index := 0#32
  ![0, v314.toNat, 0, 0]
def k0_off4 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v405 : Index := Scalar.indexCast v288
  let c128_160 : Index := 128#32
  ![v405.toNat, 128]
def k0_off5 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v407 : Index := Scalar.indexCast v292
  let c128_161 : Index := 128#32
  ![v407.toNat, 128]
def k0_off6 (k0_t1 : Fin k0_t1_loop.trips) : Fin 4 → Nat :=
  let c1_167 : Index := 1#32
  let c0_i32_26 : BitVec 32 := 0#32
  let c1_i32 : BitVec 32 := 1#32
  let arg16 : BitVec 32 := Scf.iv c0_i32_26 c1_i32 k0_t1
  let v423 : Index := Scalar.indexCast arg16
  let c0_168 : Index := 0#32
  let c0_169 : Index := 0#32
  ![1, v423.toNat, 0, 0]
def k0_off7 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v514 : Index := Scalar.indexCast v288
  let c256_182 : Index := 256#32
  ![v514.toNat, 256]
def k0_off8 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v516 : Index := Scalar.indexCast v292
  let c256_183 : Index := 256#32
  ![v516.toNat, 256]
def k0_off9 (k0_t1 : Fin k0_t1_loop.trips) : Fin 4 → Nat :=
  let c2_189 : Index := 2#32
  let c0_i32_26 : BitVec 32 := 0#32
  let c1_i32 : BitVec 32 := 1#32
  let arg16 : BitVec 32 := Scf.iv c0_i32_26 c1_i32 k0_t1
  let v532 : Index := Scalar.indexCast arg16
  let c0_190 : Index := 0#32
  let c0_191 : Index := 0#32
  ![2, v532.toNat, 0, 0]
def k0_off10 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v623 : Index := Scalar.indexCast v288
  let c384_204 : Index := 384#32
  ![v623.toNat, 384]
def k0_off11 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v625 : Index := Scalar.indexCast v292
  let c384_205 : Index := 384#32
  ![v625.toNat, 384]
def k0_off12 (k0_t1 : Fin k0_t1_loop.trips) : Fin 4 → Nat :=
  let c3_211 : Index := 3#32
  let c0_i32_26 : BitVec 32 := 0#32
  let c1_i32 : BitVec 32 := 1#32
  let arg16 : BitVec 32 := Scf.iv c0_i32_26 c1_i32 k0_t1
  let v641 : Index := Scalar.indexCast arg16
  let c0_212 : Index := 0#32
  let c0_213 : Index := 0#32
  ![3, v641.toNat, 0, 0]
def k0_off13 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v732 : Index := Scalar.indexCast v288
  let c512_226 : Index := 512#32
  ![v732.toNat, 512]
def k0_off14 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v734 : Index := Scalar.indexCast v292
  let c512_227 : Index := 512#32
  ![v734.toNat, 512]
def k0_off15 (k0_t1 : Fin k0_t1_loop.trips) : Fin 4 → Nat :=
  let c4_233 : Index := 4#32
  let c0_i32_26 : BitVec 32 := 0#32
  let c1_i32 : BitVec 32 := 1#32
  let arg16 : BitVec 32 := Scf.iv c0_i32_26 c1_i32 k0_t1
  let v750 : Index := Scalar.indexCast arg16
  let c0_234 : Index := 0#32
  let c0_235 : Index := 0#32
  ![4, v750.toNat, 0, 0]
def k0_off16 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v841 : Index := Scalar.indexCast v288
  let c640_248 : Index := 640#32
  ![v841.toNat, 640]
def k0_off17 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v843 : Index := Scalar.indexCast v292
  let c640_249 : Index := 640#32
  ![v843.toNat, 640]
def k0_off18 (k0_t1 : Fin k0_t1_loop.trips) : Fin 4 → Nat :=
  let c5_255 : Index := 5#32
  let c0_i32_26 : BitVec 32 := 0#32
  let c1_i32 : BitVec 32 := 1#32
  let arg16 : BitVec 32 := Scf.iv c0_i32_26 c1_i32 k0_t1
  let v859 : Index := Scalar.indexCast arg16
  let c0_256 : Index := 0#32
  let c0_257 : Index := 0#32
  ![5, v859.toNat, 0, 0]
def k0_off19 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v950 : Index := Scalar.indexCast v288
  let c768_270 : Index := 768#32
  ![v950.toNat, 768]
def k0_off20 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v952 : Index := Scalar.indexCast v292
  let c768_271 : Index := 768#32
  ![v952.toNat, 768]
def k0_off21 (k0_t1 : Fin k0_t1_loop.trips) : Fin 4 → Nat :=
  let c6_277 : Index := 6#32
  let c0_i32_26 : BitVec 32 := 0#32
  let c1_i32 : BitVec 32 := 1#32
  let arg16 : BitVec 32 := Scf.iv c0_i32_26 c1_i32 k0_t1
  let v968 : Index := Scalar.indexCast arg16
  let c0_278 : Index := 0#32
  let c0_279 : Index := 0#32
  ![6, v968.toNat, 0, 0]
def k0_off22 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c16_i32 : BitVec 32 := 16#32
  let v287 : BitVec 32 := Scalar.muli arg16 c16_i32
  let v288 : BitVec 32 := v287
  let v1059 : Index := Scalar.indexCast v288
  let c896_292 : Index := 896#32
  ![v1059.toNat, 896]
def k0_off23 (k0_t1 : Fin k0_t1_loop.trips) : Fin 2 → Nat :=
  let c0_i32_26 : BitVec 32 := 0#32
  let c1_i32 : BitVec 32 := 1#32
  let arg16 : BitVec 32 := Scf.iv c0_i32_26 c1_i32 k0_t1
  let c1_i32_133 : BitVec 32 := 1#32
  let v289 : BitVec 32 := Scalar.subi arg16 c1_i32_133
  let c0_i32_134 : BitVec 32 := 0#32
  let v290 : BitVec 32 := Scalar.maxsi v289 c0_i32_134
  let c16_i32_135 : BitVec 32 := 16#32
  let v291 : BitVec 32 := Scalar.muli v290 c16_i32_135
  let v292 : BitVec 32 := v291
  let v1061 : Index := Scalar.indexCast v292
  let c896_293 : Index := 896#32
  ![v1061.toNat, 896]
def k0_off24 (k0_t1 : Fin k0_t1_loop.trips) : Fin 4 → Nat :=
  let c7_299 : Index := 7#32
  let c0_i32_26 : BitVec 32 := 0#32
  let c1_i32 : BitVec 32 := 1#32
  let arg16 : BitVec 32 := Scf.iv c0_i32_26 c1_i32 k0_t1
  let v1077 : Index := Scalar.indexCast arg16
  let c0_300 : Index := 0#32
  let c0_301 : Index := 0#32
  ![7, v1077.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelSbf.lean ====
abbrev S8320x11264 : Shape := ⟨2, ![8320, 11264]⟩
abbrev S8320x1024 : Shape := ⟨2, ![8320, 1024]⟩
abbrev S8x8320x128 : Shape := ⟨3, ![8, 8320, 128]⟩
abbrev S4x65 : Shape := ⟨2, ![4, 65]⟩
abbrev S128x256 : Shape := ⟨2, ![128, 256]⟩
abbrev S8320x256 : Shape := ⟨2, ![8320, 256]⟩
abbrev S2x128x128 : Shape := ⟨3, ![2, 128, 128]⟩
abbrev S128x128 : Shape := ⟨2, ![128, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S1x128x128 : Shape := ⟨3, ![1, 128, 128]⟩
abbrev S384x128 : Shape := ⟨2, ![384, 128]⟩
abbrev S128x384 : Shape := ⟨2, ![128, 384]⟩
abbrev S128 : Shape := ⟨1, ![128]⟩
abbrev S1x1 : Shape := ⟨2, ![1, 1]⟩

abbrev nBuf : Space → Nat
  | .hbm => 4
  | .vmem => 8
  | .smem => 1
  | _ => 0

abbrev bufTy : (tb : Table) → Fin (tcTables nBuf tb) → BufTy
  | .hbm, ⟨0, _⟩ => ⟨S8320x11264, .bf16⟩
  | .hbm, ⟨1, _⟩ => ⟨S8320x1024, .bf16⟩
  | .hbm, ⟨2, _⟩ => ⟨S8x8320x128, .f32⟩
  | .hbm, ⟨3, _⟩ => ⟨S4x65, .f32⟩
  | .local _ .vmem, ⟨0, _⟩ => ⟨S128x256, .bf16⟩
  | .local _ .vmem, ⟨1, _⟩ => ⟨S128x256, .bf16⟩
  | .local _ .vmem, ⟨2, _⟩ => ⟨S8320x256, .bf16⟩
  | .local _ .vmem, ⟨3, _⟩ => ⟨S8320x256, .bf16⟩
  | .local _ .vmem, ⟨4, _⟩ => ⟨S128x256, .bf16⟩
  | .local _ .vmem, ⟨5, _⟩ => ⟨S128x256, .bf16⟩
  | .local _ .vmem, ⟨6, _⟩ => ⟨S2x128x128, .f32⟩
  | .local _ .vmem, ⟨7, _⟩ => ⟨S2x128x128, .f32⟩
  | .local _ .smem, ⟨0, _⟩ => ⟨S4x65, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 65], ![false, false]⟩

def k0_mult1 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c0_i32_10 : BitVec 32 := 0#32
  let v27 : BitVec 32 := Scalar.addi v20 c0_i32_10
  let c0_i32_11 : BitVec 32 := 0#32
  let v28 : BitVec 32 := Scalar.maxsi v27 c0_i32_11
  let c128_i32 : BitVec 32 := 128#32
  let v29 : BitVec 32 := Scalar.muli v28 c128_i32
  v29

def k0_off1 (i : grid0.Coords) (arg8 : BitVec 32) (c0_i32_10 : BitVec 32) : Fin 2 → Nat :=
  let arg1 : BitVec 32 := BitVec.ofNat 32 (i 1).val
  let v19 : BitVec 32 := Scalar.subi arg1 arg8
  let c2_i32 : BitVec 32 := 2#32
  let v20 : BitVec 32 := Scalar.subi v19 c2_i32
  let v27 : BitVec 32 := Scalar.addi v20 c0_i32_10
  let c0_i32_11 : BitVec 32 := 0#32
  let v28 : BitVec 32 := Scalar.maxsi v27 c0_i32_11
  let c128_i32 : BitVec 32 := 128#32
  let v29 : BitVec 32 := Scalar.muli v28 c128_i32
  let v30 : BitVec 32 := v29
  let v31 : Index := Scalar.indexCast v30
  let c0_12 : Index := 0#32
  ![v31.toNat, 0]
def k0_mult2 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c1_i32 : BitVec 32 := 1#32
  let v33 : BitVec 32 := Scalar.addi v20 c1_i32
  let c0_i32_13 : BitVec 32 := 0#32
  let v34 : BitVec 32 := Scalar.maxsi v33 c0_i32_13
  let c128_i32_14 : BitVec 32 := 128#32
  let v35 : BitVec 32 := Scalar.muli v34 c128_i32_14
  v35
def k0_mult3 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c2_i32_16 : BitVec 32 := 2#32
  let v39 : BitVec 32 := Scalar.addi v20 c2_i32_16
  let c0_i32_17 : BitVec 32 := 0#32
  let v40 : BitVec 32 := Scalar.maxsi v39 c0_i32_17
  let c128_i32_18 : BitVec 32 := 128#32
  let v41 : BitVec 32 := Scalar.muli v40 c128_i32_18
  v41
def k0_mult4 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c0_i32_34 : BitVec 32 := 0#32
  let v110 : BitVec 32 := Scalar.addi v20 c0_i32_34
  let c0_i32_35 : BitVec 32 := 0#32
  let v111 : BitVec 32 := Scalar.maxsi v110 c0_i32_35
  let c128_i32_36 : BitVec 32 := 128#32
  let v112 : BitVec 32 := Scalar.muli v111 c128_i32_36
  v112
def k0_mult5 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c1_i32_38 : BitVec 32 := 1#32
  let v116 : BitVec 32 := Scalar.addi v20 c1_i32_38
  let c0_i32_39 : BitVec 32 := 0#32
  let v117 : BitVec 32 := Scalar.maxsi v116 c0_i32_39
  let c128_i32_40 : BitVec 32 := 128#32
  let v118 : BitVec 32 := Scalar.muli v117 c128_i32_40
  v118
def k0_mult6 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c2_i32_42 : BitVec 32 := 2#32
  let v122 : BitVec 32 := Scalar.addi v20 c2_i32_42
  let c0_i32_43 : BitVec 32 := 0#32
  let v123 : BitVec 32 := Scalar.maxsi v122 c0_i32_43
  let c128_i32_44 : BitVec 32 := 128#32
  let v124 : BitVec 32 := Scalar.muli v123 c128_i32_44
  v124
def k0_mult7 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c0_i32_51 : BitVec 32 := 0#32
  let v138 : BitVec 32 := Scalar.addi v20 c0_i32_51
  let c0_i32_52 : BitVec 32 := 0#32
  let v139 : BitVec 32 := Scalar.maxsi v138 c0_i32_52
  let c128_i32_53 : BitVec 32 := 128#32
  let v140 : BitVec 32 := Scalar.muli v139 c128_i32_53
  v140
def k0_off2 (i : grid0.Coords) (arg8 : BitVec 32) (c0_i32_51 : BitVec 32) : Fin 2 → Nat :=
  let arg1 : BitVec 32 := BitVec.ofNat 32 (i 1).val
  let v19 : BitVec 32 := Scalar.subi arg1 arg8
  let c2_i32 : BitVec 32 := 2#32
  let v20 : BitVec 32 := Scalar.subi v19 c2_i32
  let v138 : BitVec 32 := Scalar.addi v20 c0_i32_51
  let c0_i32_52 : BitVec 32 := 0#32
  let v139 : BitVec 32 := Scalar.maxsi v138 c0_i32_52
  let c128_i32_53 : BitVec 32 := 128#32
  let v140 : BitVec 32 := Scalar.muli v139 c128_i32_53
  let v141 : BitVec 32 := v140
  let v142 : Index := Scalar.indexCast v141
  let c128_54 : Index := 128#32
  ![v142.toNat, 128]
def k0_mult8 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c1_i32_55 : BitVec 32 := 1#32
  let v144 : BitVec 32 := Scalar.addi v20 c1_i32_55
  let c0_i32_56 : BitVec 32 := 0#32
  let v145 : BitVec 32 := Scalar.maxsi v144 c0_i32_56
  let c128_i32_57 : BitVec 32 := 128#32
  let v146 : BitVec 32 := Scalar.muli v145 c128_i32_57
  v146
def k0_mult9 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c2_i32_59 : BitVec 32 := 2#32
  let v150 : BitVec 32 := Scalar.addi v20 c2_i32_59
  let c0_i32_60 : BitVec 32 := 0#32
  let v151 : BitVec 32 := Scalar.maxsi v150 c0_i32_60
  let c128_i32_61 : BitVec 32 := 128#32
  let v152 : BitVec 32 := Scalar.muli v151 c128_i32_61
  v152
def k0_mult10 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c0_i32_78 : BitVec 32 := 0#32
  let v221 : BitVec 32 := Scalar.addi v20 c0_i32_78
  let c0_i32_79 : BitVec 32 := 0#32
  let v222 : BitVec 32 := Scalar.maxsi v221 c0_i32_79
  let c128_i32_80 : BitVec 32 := 128#32
  let v223 : BitVec 32 := Scalar.muli v222 c128_i32_80
  v223
def k0_mult11 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c1_i32_82 : BitVec 32 := 1#32
  let v227 : BitVec 32 := Scalar.addi v20 c1_i32_82
  let c0_i32_83 : BitVec 32 := 0#32
  let v228 : BitVec 32 := Scalar.maxsi v227 c0_i32_83
  let c128_i32_84 : BitVec 32 := 128#32
  let v229 : BitVec 32 := Scalar.muli v228 c128_i32_84
  v229
def k0_mult12 (i : grid0.Coords) (arg8 : BitVec 32) : BitVec 32 :=
  let arg1 : BitVec 32 := BitVec.ofNat 32 (i 1).val
  let v19 : BitVec 32 := Scalar.subi arg1 arg8
  let c2_i32 : BitVec 32 := 2#32
  let v20 : BitVec 32 := Scalar.subi v19 c2_i32
  let c2_i32_86 : BitVec 32 := 2#32
  let v233 : BitVec 32 := Scalar.addi v20 c2_i32_86
  let c0_i32_87 : BitVec 32 := 0#32
  let v234 : BitVec 32 := Scalar.maxsi v233 c0_i32_87
  let c128_i32_88 : BitVec 32 := 128#32
  let v235 : BitVec 32 := Scalar.muli v234 c128_i32_88
  v235

def k0_chk1 (i : grid0.Coords) (arg8 : BitVec 32) : Prop :=
  (128 ∣ (k0_mult1 i arg8).toNat) ∧
  (∀ (r : Fin 3), ∀ a, (k0_off1 i arg8 (BitVec.ofNat 32 r.val)) a + S128x128.size a ≤ S8320x256.size a) ∧
  (128 ∣ (k0_mult2 i arg8).toNat) ∧
  (128 ∣ (k0_mult3 i arg8).toNat) ∧
  (128 ∣ (k0_mult4 i arg8).toNat) ∧
  (128 ∣ (k0_mult5 i arg8).toNat) ∧
  (128 ∣ (k0_mult6 i arg8).toNat) ∧
  (128 ∣ (k0_mult7 i arg8).toNat) ∧
  (∀ (r : Fin 3), ∀ a, (k0_off2 i arg8 (BitVec.ofNat 32 r.val)) a + S128x128.size a ≤ S8320x256.size a) ∧
  (128 ∣ (k0_mult8 i arg8).toNat) ∧
  (128 ∣ (k0_mult9 i arg8).toNat) ∧
  (128 ∣ (k0_mult10 i arg8).toNat) ∧
  (128 ∣ (k0_mult11 i arg8).toNat) ∧
  (128 ∣ (k0_mult12 i arg8).toNat)
theorem k0_mult1_dvd : ∀ (i : grid0.Coords) (arg8 : BitVec 32) (k0_hw1 : k0_chk1 i arg8), 128 ∣ (k0_mult1 i arg8).toNat := fun i arg8 k0_hw1 => k0_hw1.1
theorem k0_off1_inb : ∀ (i : grid0.Coords) (arg8 : BitVec 32) (k0_hw1 : k0_chk1 i arg8), ∀ (r : Fin 3), ∀ a, (k0_off1 i arg8 (BitVec.ofNat 32 r.val)) a + S128x128.size a ≤ S8320x256.size a := fun i arg8 k0_hw1 r => k0_hw1.2.1 r
theorem k0_mult2_dvd : ∀ (i : grid0.Coords) (arg8 : BitVec 32) (k0_hw1 : k0_chk1 i arg8), 128 ∣ (k0_mult2 i arg8).toNat := fun i arg8 k0_hw1 => k0_hw1.2.2.1
theorem k0_mult3_dvd : ∀ (i : grid0.Coords) (arg8 : BitVec 32) (k0_hw1 : k0_chk1 i arg8), 128 ∣ (k0_mult3 i arg8).toNat := fun i arg8 k0_hw1 => k0_hw1.2.2.2.1
theorem k0_mult4_dvd : ∀ (i : grid0.Coords) (arg8 : BitVec 32) (k0_hw1 : k0_chk1 i arg8), 128 ∣ (k0_mult4 i arg8).toNat := fun i arg8 k0_hw1 => k0_hw1.2.2.2.2.1
theorem k0_mult5_dvd : ∀ (i : grid0.Coords) (arg8 : BitVec 32) (k0_hw1 : k0_chk1 i arg8), 128 ∣ (k0_mult5 i arg8).toNat := fun i arg8 k0_hw1 => k0_hw1.2.2.2.2.2.1
theorem k0_mult6_dvd : ∀ (i : grid0.Coords) (arg8 : BitVec 32) (k0_hw1 : k0_chk1 i arg8), 128 ∣ (k0_mult6 i arg8).toNat := fun i arg8 k0_hw1 => k0_hw1.2.2.2.2.2.2.1
theorem k0_mult7_dvd : ∀ (i : grid0.Coords) (arg8 : BitVec 32) (k0_hw1 : k0_chk1 i arg8), 128 ∣ (k0_mult7 i arg8).toNat := fun i arg8 k0_hw1 => k0_hw1.2.2.2.2.2.2.2.1
theorem k0_off2_inb : ∀ (i : grid0.Coords) (arg8 : BitVec 32) (k0_hw1 : k0_chk1 i arg8), ∀ (r : Fin 3), ∀ a, (k0_off2 i arg8 (BitVec.ofNat 32 r.val)) a + S128x128.size a ≤ S8320x256.size a := fun i arg8 k0_hw1 r => k0_hw1.2.2.2.2.2.2.2.2.1 r
theorem k0_mult8_dvd : ∀ (i : grid0.Coords) (arg8 : BitVec 32) (k0_hw1 : k0_chk1 i arg8), 128 ∣ (k0_mult8 i arg8).toNat := fun i arg8 k0_hw1 => k0_hw1.2.2.2.2.2.2.2.2.2.1
theorem k0_mult9_dvd : ∀ (i : grid0.Coords) (arg8 : BitVec 32) (k0_hw1 : k0_chk1 i arg8), 128 ∣ (k0_mult9 i arg8).toNat := fun i arg8 k0_hw1 => k0_hw1.2.2.2.2.2.2.2.2.2.2.1
theorem k0_mult10_dvd : ∀ (i : grid0.Coords) (arg8 : BitVec 32) (k0_hw1 : k0_chk1 i arg8), 128 ∣ (k0_mult10 i arg8).toNat := fun i arg8 k0_hw1 => k0_hw1.2.2.2.2.2.2.2.2.2.2.2.1
theorem k0_mult11_dvd : ∀ (i : grid0.Coords) (arg8 : BitVec 32) (k0_hw1 : k0_chk1 i arg8), 128 ∣ (k0_mult11 i arg8).toNat := fun i arg8 k0_hw1 => k0_hw1.2.2.2.2.2.2.2.2.2.2.2.2.1
theorem k0_mult12_dvd : ∀ (i : grid0.Coords) (arg8 : BitVec 32) (k0_hw1 : k0_chk1 i arg8), 128 ∣ (k0_mult12 i arg8).toNat := fun i arg8 k0_hw1 => k0_hw1.2.2.2.2.2.2.2.2.2.2.2.2.2

def k0_off3 (i : grid0.Coords) : Fin 2 → Nat :=
  let arg0 : BitVec 32 := BitVec.ofNat 32 (i 0).val
  let v16 : Index := Scalar.indexCast arg0
  let arg1 : BitVec 32 := BitVec.ofNat 32 (i 1).val
  let v17 : Index := Scalar.indexCast arg1
  ![v16.toNat, v17.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8320x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8320x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x65 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelSbfIdeal.lean ====
variable {F : FTy → Type} [FloatOps F] [Named F]
def κ : String → Option EReal := fun
  | "dead" => some ⊥
  | _ => none
-- ==== ReferenceSbfIdeal.lean ====
abbrev S8320x11264 : Shape := ⟨2, ![8320, 11264]⟩
abbrev S8320x1024 : Shape := ⟨2, ![8320, 1024]⟩
abbrev S1x8320x8x128 : Shape := ⟨4, ![1, 8320, 8, 128]⟩
abbrev S8320 : Shape := ⟨1, ![8320]⟩
abbrev S_ : Shape := ⟨0, ![]⟩
abbrev S1x8x8320x8320 : Shape := ⟨4, ![1, 8, 8320, 8320]⟩
abbrev S1x8320 : Shape := ⟨2, ![1, 8320]⟩
abbrev S8320x1 : Shape := ⟨2, ![8320, 1]⟩
abbrev S8320x8320 : Shape := ⟨2, ![8320, 8320]⟩
abbrev S1x8x128x8320 : Shape := ⟨4, ![1, 8, 128, 8320]⟩
abbrev S8320x8x128 : Shape := ⟨3, ![8320, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S8320x1024, .bf16⟩
  | .hbm, ⟨2, _⟩ => ⟨S8320x1024, .f32⟩
  | .hbm, ⟨3, _⟩ => ⟨S1x8320x8x128, .f32⟩
  | .hbm, ⟨4, _⟩ => ⟨S8320x1024, .bf16⟩
  | .hbm, ⟨5, _⟩ => ⟨S8320x1024, .f32⟩
  | .hbm, ⟨6, _⟩ => ⟨S1x8320x8x128, .f32⟩
  | .hbm, ⟨7, _⟩ => ⟨S8320x1024, .bf16⟩
  | .hbm, ⟨8, _⟩ => ⟨S8320x1024, .f32⟩
  | .hbm, ⟨9, _⟩ => ⟨S1x8320x8x128, .f32⟩
  | .hbm, ⟨10, _⟩ => ⟨S8320, .i32⟩
  | .hbm, ⟨11, _⟩ => ⟨S_, .i32⟩
  | .hbm, ⟨12, _⟩ => ⟨S8320, .i32⟩
  | .hbm, ⟨13, _⟩ => ⟨S8320, .i1⟩
  | .hbm, ⟨14, _⟩ => ⟨S8320, .i32⟩
  | .hbm, ⟨15, _⟩ => ⟨S1x8x8320x8320, .f32⟩
  | .hbm, ⟨16, _⟩ => ⟨S_, .f32⟩
  | .hbm, ⟨17, _⟩ => ⟨S1x8x8320x8320, .f32⟩
  | .hbm, ⟨18, _⟩ => ⟨S1x8x8320x8320, .f32⟩
  | .hbm, ⟨19, _⟩ => ⟨S1x8320, .i32⟩
  | .hbm, ⟨20, _⟩ => ⟨S8320x1, .i32⟩
  | .hbm, ⟨21, _⟩ => ⟨S8320x8320, .i32⟩
  | .hbm, ⟨22, _⟩ => ⟨S8320x8320, .i32⟩
  | .hbm, ⟨23, _⟩ => ⟨S8320x8320, .i1⟩
  | .hbm, ⟨24, _⟩ => ⟨S1x8320, .i1⟩
  | .hbm, ⟨25, _⟩ => ⟨S8320x8320, .i1⟩
  | .hbm, ⟨26, _⟩ => ⟨S8320x8320, .i1⟩
  | .hbm, ⟨27, _⟩ => ⟨S1x8x8320x8320, .f32⟩
  | .hbm, ⟨28, _⟩ => ⟨S_, .f32⟩
  | .hbm, ⟨29, _⟩ => ⟨S1x8x8320x8320, .f32⟩
  | .hbm, ⟨30, _⟩ => ⟨S1x8x8320x8320, .f32⟩
  | .hbm, ⟨31, _⟩ => ⟨S1x8x8320x8320, .f32⟩
  | .hbm, ⟨32, _⟩ => ⟨S1x8x8320x8320, .f32⟩
  | .hbm, ⟨33, _⟩ => ⟨S1x8x8320x8320, .i1⟩
  | .hbm, ⟨34, _⟩ => ⟨S1x8x8320x8320, .f32⟩
  | .hbm, ⟨35, _⟩ => ⟨S1x8x8320x8320, .f32⟩
  | .hbm, ⟨36, _⟩ => ⟨S1x8x8320x8320, .f32⟩
  | .hbm, ⟨37, _⟩ => ⟨S1x8x8320x8320, .f32⟩
  | .hbm, ⟨38, _⟩ => ⟨S1x8x8320x8320, .f32⟩
  | .hbm, ⟨39, _⟩ => ⟨S1x8x8320x8320, .f32⟩
  | .hbm, ⟨40, _⟩ => ⟨S1x8x8320x8320, .f32⟩
  | .hbm, ⟨41, _⟩ => ⟨S1x8x8320x8320, .f32⟩
  | .hbm, ⟨42, _⟩ => ⟨S1x8x8320x8320, .f32⟩
  | .hbm, ⟨43, _⟩ => ⟨S1x8x8320x8320, .f32⟩
  | .hbm, ⟨44, _⟩ => ⟨S1x8x8320x8320, .f32⟩
  | .hbm, ⟨45, _⟩ => ⟨S_, .f32⟩
  | .hbm, ⟨46, _⟩ => ⟨S1x8x8320x8320, .f32⟩
  | .hbm, ⟨47, _⟩ => ⟨S1x8x8320x8320, .f32⟩
  | .hbm, ⟨48, _⟩ => ⟨S1x8x8320x8320, .f32⟩
  | .hbm, ⟨49, _⟩ => ⟨S1x8x8320x8320, .f32⟩
  | .hbm, ⟨50, _⟩ => ⟨S1x8x8320x8320, .i1⟩
  | .hbm, ⟨51, _⟩ => ⟨S1x8x8320x8320, .f32⟩
  | .hbm, ⟨52, _⟩ => ⟨S1x8x8320x8320, .f32⟩
  | .hbm, ⟨53, _⟩ => ⟨S1x8x8320x8320, .f32⟩
  | .hbm, ⟨54, _⟩ => ⟨S1x8x8320x8320, .f32⟩
  | .hbm, ⟨55, _⟩ => ⟨S1x8x8320x8320, .f32⟩
  | .hbm, ⟨56, _⟩ => ⟨S1x8x8320x8320, .f32⟩
  | .hbm, ⟨57, _⟩ => ⟨S1x8x8320x8320, .f32⟩
  | .hbm, ⟨58, _⟩ => ⟨S1x8x8320x8320, .f32⟩
  | .hbm, ⟨59, _⟩ => ⟨S1x8x8320x8320, .f32⟩
  | .hbm, ⟨60, _⟩ => ⟨S_, .f32⟩
  | .hbm, ⟨61, _⟩ => ⟨S_, .f32⟩
  | .hbm, ⟨62, _⟩ => ⟨S1x8x8320x8320, .i1⟩
  | .hbm, ⟨63, _⟩ => ⟨S1x8x8320x8320, .f32⟩
  | .hbm, ⟨64, _⟩ => ⟨S1x8x8320x8320, .f32⟩
  | .hbm, ⟨65, _⟩ => ⟨S1x8x8320x8320, .f32⟩
  | .hbm, ⟨66, _⟩ => ⟨S_, .f32⟩
  | .hbm, ⟨67, _⟩ => ⟨S_, .f32⟩
  | .hbm, ⟨68, _⟩ => ⟨S1x8x8320x8320, .f32⟩
  | .hbm, ⟨69, _⟩ => ⟨S1x8x8320x8320, .f32⟩
  | .hbm, ⟨70, _⟩ => ⟨S1x8x8320x8320, .f32⟩
  | .hbm, ⟨71, _⟩ => ⟨S1x8x8320x8320, .f32⟩
  | .hbm, ⟨72, _⟩ => ⟨S1x8x8320x8320, .f32⟩
  | .hbm, ⟨73, _⟩ => ⟨S_, .f32⟩
  | .hbm, ⟨74, _⟩ => ⟨S_, .f32⟩
  | .hbm, ⟨75, _⟩ => ⟨S1x8x8320x8320, .i1⟩
  | .hbm, ⟨76, _⟩ => ⟨S1x8x8320x8320, .f32⟩
  | .hbm, ⟨77, _⟩ => ⟨S1x8x8320x8320, .f32⟩
  | .hbm, ⟨78, _⟩ => ⟨S1x8x128x8320, .f32⟩
  | .hbm, ⟨79, _⟩ => ⟨S1x8320x8x128, .f32⟩
  | .hbm, ⟨80, _⟩ => ⟨S8320x8x128, .f32⟩
  | .hbm, ⟨81, _⟩ => ⟨S8320x1024, .f32⟩
  | .hbm, ⟨82, _⟩ => ⟨S8320x1024, .bf16⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v24 : Ref sig .tc := ⟨.hbm, 42, rfl⟩
abbrev main_v25 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v26 : Ref sig .tc := ⟨.hbm, 59, rfl⟩
abbrev main_cst_0 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v27 : Ref sig .tc := ⟨.hbm, 64, rfl⟩
abbrev main_v28 : Ref sig .tc := ⟨.hbm, 65, rfl⟩
abbrev main_call4_call0_cst : Ref sig .tc := ⟨.hbm, 66, rfl⟩
abbrev main_call4_call0_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_1 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]
-- ==== KernelSbb.lean ====
abbrev S8320x11264 : Shape := ⟨2, ![8320, 11264]⟩
abbrev S8320x1024 : Shape := ⟨2, ![8320, 1024]⟩
abbrev S8x8320x128 : Shape := ⟨3, ![8, 8320, 128]⟩
abbrev S4x65 : Shape := ⟨2, ![4, 65]⟩
abbrev S128x256 : Shape := ⟨2, ![128, 256]⟩
abbrev S8320x256 : Shape := ⟨2, ![8320, 256]⟩
abbrev S2x128x128 : Shape := ⟨3, ![2, 128, 128]⟩
abbrev S1x1 : Shape := ⟨2, ![1, 1]⟩
abbrev S128x128 : Shape := ⟨2, ![128, 128]⟩
abbrev S1x128x1 : Shape := ⟨3, ![1, 128, 1]⟩
abbrev S128x1 : Shape := ⟨2, ![128, 1]⟩
abbrev S384x128 : Shape := ⟨2, ![384, 128]⟩
abbrev S128x384 : Shape := ⟨2, ![128, 384]⟩
abbrev S128 : Shape := ⟨1, ![128]⟩

abbrev nBuf : Space → Nat
  | .hbm => 7
  | .vmem => 16
  | .smem => 1
  | _ => 0

abbrev bufTy : (tb : Table) → Fin (tcTables nBuf tb) → BufTy
  | .hbm, ⟨0, _⟩ => ⟨S8320x11264, .bf16⟩
  | .hbm, ⟨1, _⟩ => ⟨S8320x1024, .f32⟩
  | .hbm, ⟨2, _⟩ => ⟨S8x8320x128, .f32⟩
  | .hbm, ⟨3, _⟩ => ⟨S4x65, .f32⟩
  | .hbm, ⟨4, _⟩ => ⟨S8320x1024, .bf16⟩
  | .hbm, ⟨5, _⟩ => ⟨S8320x1024, .bf16⟩
  | .hbm, ⟨6, _⟩ => ⟨S8320x1024, .bf16⟩
  | .local _ .vmem, ⟨0, _⟩ => ⟨S128x256, .bf16⟩
  | .local _ .vmem, ⟨1, _⟩ => ⟨S128x256, .bf16⟩
  | .local _ .vmem, ⟨2, _⟩ => ⟨S8320x256, .bf16⟩
  | .local _ .vmem, ⟨3, _⟩ => ⟨S8320x256, .bf16⟩
  | .local _ .vmem, ⟨4, _⟩ => ⟨S128x256, .f32⟩
  | .local _ .vmem, ⟨5, _⟩ => ⟨S128x256, .f32⟩
  | .local _ .vmem, ⟨6, _⟩ => ⟨S2x128x128, .f32⟩
  | .local _ .vmem, ⟨7, _⟩ => ⟨S2x128x128, .f32⟩
  | .local _ .vmem, ⟨8, _⟩ => ⟨S128x256, .bf16⟩
  | .local _ .vmem, ⟨9, _⟩ => ⟨S128x256, .bf16⟩
  | .local _ .vmem, ⟨10, _⟩ => ⟨S8320x256, .bf16⟩
  | .local _ .vmem, ⟨11, _⟩ => ⟨S8320x256, .bf16⟩
  | .local _ .vmem, ⟨12, _⟩ => ⟨S8320x256, .bf16⟩
  | .local _ .vmem, ⟨13, _⟩ => ⟨S8320x256, .bf16⟩
  | .local _ .vmem, ⟨14, _⟩ => ⟨S8320x256, .f32⟩
  | .local _ .vmem, ⟨15, _⟩ => ⟨S8320x256, .f32⟩
  | .local _ .smem, ⟨0, _⟩ => ⟨S4x65, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 65], ![false, false]⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k0_t1_loop (v6 : BitVec 32) : Scf.Loop 32 :=
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_16 : BitVec 32 := 1#32
  ⟨c0_i32_14, v50, c1_i32_16⟩

def k0_mult1 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_27 : BitVec 32 := 0#32
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  v67
def k0_off2 (i : grid0.Coords) (v6 : BitVec 32) (k0_t1 : Fin (k0_t1_loop v6).trips) (c0_i32_27 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  let v68 : BitVec 32 := v67
  let v69 : Index := Scalar.indexCast v68
  let c0_29 : Index := 0#32
  ![v69.toNat, 0]
def k0_mult2 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_30 : BitVec 32 := 1#32
  let v71 : BitVec 32 := Scalar.addi v61 c1_i32_30
  let c0_i32_31 : BitVec 32 := 0#32
  let v72 : BitVec 32 := Scalar.maxsi v71 c0_i32_31
  let c128_i32_32 : BitVec 32 := 128#32
  let v73 : BitVec 32 := Scalar.muli v72 c128_i32_32
  v73
def k0_mult3 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32 : BitVec 32 := 2#32
  let v77 : BitVec 32 := Scalar.addi v61 c2_i32
  let c0_i32_34 : BitVec 32 := 0#32
  let v78 : BitVec 32 := Scalar.maxsi v77 c0_i32_34
  let c128_i32_35 : BitVec 32 := 128#32
  let v79 : BitVec 32 := Scalar.muli v78 c128_i32_35
  v79
def k0_mult4 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_37 : BitVec 32 := 0#32
  let v84 : BitVec 32 := Scalar.addi v61 c0_i32_37
  let c0_i32_38 : BitVec 32 := 0#32
  let v85 : BitVec 32 := Scalar.maxsi v84 c0_i32_38
  let c128_i32_39 : BitVec 32 := 128#32
  let v86 : BitVec 32 := Scalar.muli v85 c128_i32_39
  v86
def k0_mult5 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_41 : BitVec 32 := 1#32
  let v90 : BitVec 32 := Scalar.addi v61 c1_i32_41
  let c0_i32_42 : BitVec 32 := 0#32
  let v91 : BitVec 32 := Scalar.maxsi v90 c0_i32_42
  let c128_i32_43 : BitVec 32 := 128#32
  let v92 : BitVec 32 := Scalar.muli v91 c128_i32_43
  v92
def k0_mult6 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_45 : BitVec 32 := 2#32
  let v96 : BitVec 32 := Scalar.addi v61 c2_i32_45
  let c0_i32_46 : BitVec 32 := 0#32
  let v97 : BitVec 32 := Scalar.maxsi v96 c0_i32_46
  let c128_i32_47 : BitVec 32 := 128#32
  let v98 : BitVec 32 := Scalar.muli v97 c128_i32_47
  v98
def k0_mult7 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_76 : BitVec 32 := 0#32
  let v218 : BitVec 32 := Scalar.addi v61 c0_i32_76
  let c0_i32_77 : BitVec 32 := 0#32
  let v219 : BitVec 32 := Scalar.maxsi v218 c0_i32_77
  let c128_i32_78 : BitVec 32 := 128#32
  let v220 : BitVec 32 := Scalar.muli v219 c128_i32_78
  v220
def k0_mult8 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_83 : BitVec 32 := 1#32
  let v238 : BitVec 32 := Scalar.addi v61 c1_i32_83
  let c0_i32_84 : BitVec 32 := 0#32
  let v239 : BitVec 32 := Scalar.maxsi v238 c0_i32_84
  let c128_i32_85 : BitVec 32 := 128#32
  let v240 : BitVec 32 := Scalar.muli v239 c128_i32_85
  v240
def k0_mult9 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_90 : BitVec 32 := 2#32
  let v258 : BitVec 32 := Scalar.addi v61 c2_i32_90
  let c0_i32_91 : BitVec 32 := 0#32
  let v259 : BitVec 32 := Scalar.maxsi v258 c0_i32_91
  let c128_i32_92 : BitVec 32 := 128#32
  let v260 : BitVec 32 := Scalar.muli v259 c128_i32_92
  v260
def k0_mult10 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_101 : BitVec 32 := 0#32
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  v284
def k0_off3 (i : grid0.Coords) (v6 : BitVec 32) (k0_t1 : Fin (k0_t1_loop v6).trips) (c0_i32_101 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  let v285 : BitVec 32 := v284
  let v286 : Index := Scalar.indexCast v285
  let c128_104 : Index := 128#32
  ![v286.toNat, 128]
def k0_mult11 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_105 : BitVec 32 := 1#32
  let v288 : BitVec 32 := Scalar.addi v61 c1_i32_105
  let c0_i32_106 : BitVec 32 := 0#32
  let v289 : BitVec 32 := Scalar.maxsi v288 c0_i32_106
  let c128_i32_107 : BitVec 32 := 128#32
  let v290 : BitVec 32 := Scalar.muli v289 c128_i32_107
  v290
def k0_mult12 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_109 : BitVec 32 := 2#32
  let v294 : BitVec 32 := Scalar.addi v61 c2_i32_109
  let c0_i32_110 : BitVec 32 := 0#32
  let v295 : BitVec 32 := Scalar.maxsi v294 c0_i32_110
  let c128_i32_111 : BitVec 32 := 128#32
  let v296 : BitVec 32 := Scalar.muli v295 c128_i32_111
  v296
def k0_mult13 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_113 : BitVec 32 := 0#32
  let v301 : BitVec 32 := Scalar.addi v61 c0_i32_113
  let c0_i32_114 : BitVec 32 := 0#32
  let v302 : BitVec 32 := Scalar.maxsi v301 c0_i32_114
  let c128_i32_115 : BitVec 32 := 128#32
  let v303 : BitVec 32 := Scalar.muli v302 c128_i32_115
  v303
def k0_mult14 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_117 : BitVec 32 := 1#32
  let v307 : BitVec 32 := Scalar.addi v61 c1_i32_117
  let c0_i32_118 : BitVec 32 := 0#32
  let v308 : BitVec 32 := Scalar.maxsi v307 c0_i32_118
  let c128_i32_119 : BitVec 32 := 128#32
  let v309 : BitVec 32 := Scalar.muli v308 c128_i32_119
  v309
def k0_mult15 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_121 : BitVec 32 := 2#32
  let v313 : BitVec 32 := Scalar.addi v61 c2_i32_121
  let c0_i32_122 : BitVec 32 := 0#32
  let v314 : BitVec 32 := Scalar.maxsi v313 c0_i32_122
  let c128_i32_123 : BitVec 32 := 128#32
  let v315 : BitVec 32 := Scalar.muli v314 c128_i32_123
  v315
def k0_mult16 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_153 : BitVec 32 := 0#32
  let v435 : BitVec 32 := Scalar.addi v61 c0_i32_153
  let c0_i32_154 : BitVec 32 := 0#32
  let v436 : BitVec 32 := Scalar.maxsi v435 c0_i32_154
  let c128_i32_155 : BitVec 32 := 128#32
  let v437 : BitVec 32 := Scalar.muli v436 c128_i32_155
  v437
def k0_mult17 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_160 : BitVec 32 := 1#32
  let v455 : BitVec 32 := Scalar.addi v61 c1_i32_160
  let c0_i32_161 : BitVec 32 := 0#32
  let v456 : BitVec 32 := Scalar.maxsi v455 c0_i32_161
  let c128_i32_162 : BitVec 32 := 128#32
  let v457 : BitVec 32 := Scalar.muli v456 c128_i32_162
  v457
def k0_mult18 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_167 : BitVec 32 := 2#32
  let v475 : BitVec 32 := Scalar.addi v61 c2_i32_167
  let c0_i32_168 : BitVec 32 := 0#32
  let v476 : BitVec 32 := Scalar.maxsi v475 c0_i32_168
  let c128_i32_169 : BitVec 32 := 128#32
  let v477 : BitVec 32 := Scalar.muli v476 c128_i32_169
  v477
@[reducible] def k0_t2_loop (v6 : BitVec 32) : Scf.Loop 32 :=
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let v47 : BitVec 32 := Scalar.addi c0_i32_14 v46
  let c1_i32_17 : BitVec 32 := 1#32
  ⟨v50, v47, c1_i32_17⟩
def k0_mult19 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_27 : BitVec 32 := 0#32
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  v67
def k0_off4 (i : grid0.Coords) (v6 : BitVec 32) (k0_t2 : Fin (k0_t2_loop v6).trips) (c0_i32_27 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  let v68 : BitVec 32 := v67
  let v69 : Index := Scalar.indexCast v68
  let c0_29 : Index := 0#32
  ![v69.toNat, 0]
def k0_mult20 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_30 : BitVec 32 := 1#32
  let v71 : BitVec 32 := Scalar.addi v61 c1_i32_30
  let c0_i32_31 : BitVec 32 := 0#32
  let v72 : BitVec 32 := Scalar.maxsi v71 c0_i32_31
  let c128_i32_32 : BitVec 32 := 128#32
  let v73 : BitVec 32 := Scalar.muli v72 c128_i32_32
  v73
def k0_mult21 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32 : BitVec 32 := 2#32
  let v77 : BitVec 32 := Scalar.addi v61 c2_i32
  let c0_i32_34 : BitVec 32 := 0#32
  let v78 : BitVec 32 := Scalar.maxsi v77 c0_i32_34
  let c128_i32_35 : BitVec 32 := 128#32
  let v79 : BitVec 32 := Scalar.muli v78 c128_i32_35
  v79
def k0_mult22 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_37 : BitVec 32 := 0#32
  let v84 : BitVec 32 := Scalar.addi v61 c0_i32_37
  let c0_i32_38 : BitVec 32 := 0#32
  let v85 : BitVec 32 := Scalar.maxsi v84 c0_i32_38
  let c128_i32_39 : BitVec 32 := 128#32
  let v86 : BitVec 32 := Scalar.muli v85 c128_i32_39
  v86
def k0_mult23 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_41 : BitVec 32 := 1#32
  let v90 : BitVec 32 := Scalar.addi v61 c1_i32_41
  let c0_i32_42 : BitVec 32 := 0#32
  let v91 : BitVec 32 := Scalar.maxsi v90 c0_i32_42
  let c128_i32_43 : BitVec 32 := 128#32
  let v92 : BitVec 32 := Scalar.muli v91 c128_i32_43
  v92
def k0_mult24 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_45 : BitVec 32 := 2#32
  let v96 : BitVec 32 := Scalar.addi v61 c2_i32_45
  let c0_i32_46 : BitVec 32 := 0#32
  let v97 : BitVec 32 := Scalar.maxsi v96 c0_i32_46
  let c128_i32_47 : BitVec 32 := 128#32
  let v98 : BitVec 32 := Scalar.muli v97 c128_i32_47
  v98
def k0_mult25 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_76 : BitVec 32 := 0#32
  let v218 : BitVec 32 := Scalar.addi v61 c0_i32_76
  let c0_i32_77 : BitVec 32 := 0#32
  let v219 : BitVec 32 := Scalar.maxsi v218 c0_i32_77
  let c128_i32_78 : BitVec 32 := 128#32
  let v220 : BitVec 32 := Scalar.muli v219 c128_i32_78
  v220
def k0_mult26 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_83 : BitVec 32 := 1#32
  let v238 : BitVec 32 := Scalar.addi v61 c1_i32_83
  let c0_i32_84 : BitVec 32 := 0#32
  let v239 : BitVec 32 := Scalar.maxsi v238 c0_i32_84
  let c128_i32_85 : BitVec 32 := 128#32
  let v240 : BitVec 32 := Scalar.muli v239 c128_i32_85
  v240
def k0_mult27 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_90 : BitVec 32 := 2#32
  let v258 : BitVec 32 := Scalar.addi v61 c2_i32_90
  let c0_i32_91 : BitVec 32 := 0#32
  let v259 : BitVec 32 := Scalar.maxsi v258 c0_i32_91
  let c128_i32_92 : BitVec 32 := 128#32
  let v260 : BitVec 32 := Scalar.muli v259 c128_i32_92
  v260
def k0_mult28 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_101 : BitVec 32 := 0#32
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  v284
def k0_off5 (i : grid0.Coords) (v6 : BitVec 32) (k0_t2 : Fin (k0_t2_loop v6).trips) (c0_i32_101 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  let v285 : BitVec 32 := v284
  let v286 : Index := Scalar.indexCast v285
  let c128_104 : Index := 128#32
  ![v286.toNat, 128]
def k0_mult29 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_105 : BitVec 32 := 1#32
  let v288 : BitVec 32 := Scalar.addi v61 c1_i32_105
  let c0_i32_106 : BitVec 32 := 0#32
  let v289 : BitVec 32 := Scalar.maxsi v288 c0_i32_106
  let c128_i32_107 : BitVec 32 := 128#32
  let v290 : BitVec 32 := Scalar.muli v289 c128_i32_107
  v290
def k0_mult30 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_109 : BitVec 32 := 2#32
  let v294 : BitVec 32 := Scalar.addi v61 c2_i32_109
  let c0_i32_110 : BitVec 32 := 0#32
  let v295 : BitVec 32 := Scalar.maxsi v294 c0_i32_110
  let c128_i32_111 : BitVec 32 := 128#32
  let v296 : BitVec 32 := Scalar.muli v295 c128_i32_111
  v296
def k0_mult31 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_113 : BitVec 32 := 0#32
  let v301 : BitVec 32 := Scalar.addi v61 c0_i32_113
  let c0_i32_114 : BitVec 32 := 0#32
  let v302 : BitVec 32 := Scalar.maxsi v301 c0_i32_114
  let c128_i32_115 : BitVec 32 := 128#32
  let v303 : BitVec 32 := Scalar.muli v302 c128_i32_115
  v303
def k0_mult32 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_117 : BitVec 32 := 1#32
  let v307 : BitVec 32 := Scalar.addi v61 c1_i32_117
  let c0_i32_118 : BitVec 32 := 0#32
  let v308 : BitVec 32 := Scalar.maxsi v307 c0_i32_118
  let c128_i32_119 : BitVec 32 := 128#32
  let v309 : BitVec 32 := Scalar.muli v308 c128_i32_119
  v309
def k0_mult33 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_121 : BitVec 32 := 2#32
  let v313 : BitVec 32 := Scalar.addi v61 c2_i32_121
  let c0_i32_122 : BitVec 32 := 0#32
  let v314 : BitVec 32 := Scalar.maxsi v313 c0_i32_122
  let c128_i32_123 : BitVec 32 := 128#32
  let v315 : BitVec 32 := Scalar.muli v314 c128_i32_123
  v315
def k0_mult34 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_153 : BitVec 32 := 0#32
  let v435 : BitVec 32 := Scalar.addi v61 c0_i32_153
  let c0_i32_154 : BitVec 32 := 0#32
  let v436 : BitVec 32 := Scalar.maxsi v435 c0_i32_154
  let c128_i32_155 : BitVec 32 := 128#32
  let v437 : BitVec 32 := Scalar.muli v436 c128_i32_155
  v437
def k0_mult35 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_160 : BitVec 32 := 1#32
  let v455 : BitVec 32 := Scalar.addi v61 c1_i32_160
  let c0_i32_161 : BitVec 32 := 0#32
  let v456 : BitVec 32 := Scalar.maxsi v455 c0_i32_161
  let c128_i32_162 : BitVec 32 := 128#32
  let v457 : BitVec 32 := Scalar.muli v456 c128_i32_162
  v457
def k0_mult36 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_167 : BitVec 32 := 2#32
  let v475 : BitVec 32 := Scalar.addi v61 c2_i32_167
  let c0_i32_168 : BitVec 32 := 0#32
  let v476 : BitVec 32 := Scalar.maxsi v475 c0_i32_168
  let c128_i32_169 : BitVec 32 := 128#32
  let v477 : BitVec 32 := Scalar.muli v476 c128_i32_169
  v477

def k0_chk1_0 (i : grid0.Coords) (v6 : BitVec 32) : Prop :=
  ((k0_t1_loop v6).OK) ∧
  (∀ k0_t1 : Fin (k0_t1_loop v6).trips, 128 ∣ (k0_mult1 i v6 k0_t1).toNat) ∧
  (∀ k0_t1 : Fin (k0_t1_loop v6).trips, ∀ (r : Fin 3), ∀ a, (k0_off2 i v6 k0_t1 (BitVec.ofNat 32 r.val)) a + S128x128.size a ≤ S8320x256.size a) ∧
  (∀ k0_t1 : Fin (k0_t1_loop v6).trips, 128 ∣ (k0_mult2 i v6 k0_t1).toNat) ∧
  (∀ k0_t1 : Fin (k0_t1_loop v6).trips, 128 ∣ (k0_mult3 i v6 k0_t1).toNat) ∧
  (∀ k0_t1 : Fin (k0_t1_loop v6).trips, 128 ∣ (k0_mult4 i v6 k0_t1).toNat) ∧
  (∀ k0_t1 : Fin (k0_t1_loop v6).trips, 128 ∣ (k0_mult5 i v6 k0_t1).toNat) ∧
  (∀ k0_t1 : Fin (k0_t1_loop v6).trips, 128 ∣ (k0_mult6 i v6 k0_t1).toNat) ∧
  (∀ k0_t1 : Fin (k0_t1_loop v6).trips, 128 ∣ (k0_mult7 i v6 k0_t1).toNat) ∧
  (∀ k0_t1 : Fin (k0_t1_loop v6).trips, 128 ∣ (k0_mult8 i v6 k0_t1).toNat) ∧
  (∀ k0_t1 : Fin (k0_t1_loop v6).trips, 128 ∣ (k0_mult9 i v6 k0_t1).toNat) ∧
  (∀ k0_t1 : Fin (k0_t1_loop v6).trips, 128 ∣ (k0_mult10 i v6 k0_t1).toNat) ∧
  (∀ k0_t1 : Fin (k0_t1_loop v6).trips, ∀ (r : Fin 3), ∀ a, (k0_off3 i v6 k0_t1 (BitVec.ofNat 32 r.val)) a + S128x128.size a ≤ S8320x256.size a) ∧
  (∀ k0_t1 : Fin (k0_t1_loop v6).trips, 128 ∣ (k0_mult11 i v6 k0_t1).toNat) ∧
  (∀ k0_t1 : Fin (k0_t1_loop v6).trips, 128 ∣ (k0_mult12 i v6 k0_t1).toNat) ∧
  (∀ k0_t1 : Fin (k0_t1_loop v6).trips, 128 ∣ (k0_mult13 i v6 k0_t1).toNat) ∧
  (∀ k0_t1 : Fin (k0_t1_loop v6).trips, 128 ∣ (k0_mult14 i v6 k0_t1).toNat) ∧
  (∀ k0_t1 : Fin (k0_t1_loop v6).trips, 128 ∣ (k0_mult15 i v6 k0_t1).toNat) ∧
  (∀ k0_t1 : Fin (k0_t1_loop v6).trips, 128 ∣ (k0_mult16 i v6 k0_t1).toNat) ∧
  (∀ k0_t1 : Fin (k0_t1_loop v6).trips, 128 ∣ (k0_mult17 i v6 k0_t1).toNat) ∧
  (∀ k0_t1 : Fin (k0_t1_loop v6).trips, 128 ∣ (k0_mult18 i v6 k0_t1).toNat) ∧
  ((k0_t2_loop v6).OK) ∧
  (∀ k0_t2 : Fin (k0_t2_loop v6).trips, 128 ∣ (k0_mult19 i v6 k0_t2).toNat) ∧
  (∀ k0_t2 : Fin (k0_t2_loop v6).trips, ∀ (r : Fin 3), ∀ a, (k0_off4 i v6 k0_t2 (BitVec.ofNat 32 r.val)) a + S128x128.size a ≤ S8320x256.size a) ∧
  (∀ k0_t2 : Fin (k0_t2_loop v6).trips, 128 ∣ (k0_mult20 i v6 k0_t2).toNat) ∧
  (∀ k0_t2 : Fin (k0_t2_loop v6).trips, 128 ∣ (k0_mult21 i v6 k0_t2).toNat) ∧
  (∀ k0_t2 : Fin (k0_t2_loop v6).trips, 128 ∣ (k0_mult22 i v6 k0_t2).toNat) ∧
  (∀ k0_t2 : Fin (k0_t2_loop v6).trips, 128 ∣ (k0_mult23 i v6 k0_t2).toNat) ∧
  (∀ k0_t2 : Fin (k0_t2_loop v6).trips, 128 ∣ (k0_mult24 i v6 k0_t2).toNat) ∧
  (∀ k0_t2 : Fin (k0_t2_loop v6).trips, 128 ∣ (k0_mult25 i v6 k0_t2).toNat) ∧
  (∀ k0_t2 : Fin (k0_t2_loop v6).trips, 128 ∣ (k0_mult26 i v6 k0_t2).toNat) ∧
  (∀ k0_t2 : Fin (k0_t2_loop v6).trips, 128 ∣ (k0_mult27 i v6 k0_t2).toNat)
def k0_chk1_1 (i : grid0.Coords) (v6 : BitVec 32) : Prop :=
  (∀ k0_t2 : Fin (k0_t2_loop v6).trips, 128 ∣ (k0_mult28 i v6 k0_t2).toNat) ∧
  (∀ k0_t2 : Fin (k0_t2_loop v6).trips, ∀ (r : Fin 3), ∀ a, (k0_off5 i v6 k0_t2 (BitVec.ofNat 32 r.val)) a + S128x128.size a ≤ S8320x256.size a) ∧
  (∀ k0_t2 : Fin (k0_t2_loop v6).trips, 128 ∣ (k0_mult29 i v6 k0_t2).toNat) ∧
  (∀ k0_t2 : Fin (k0_t2_loop v6).trips, 128 ∣ (k0_mult30 i v6 k0_t2).toNat) ∧
  (∀ k0_t2 : Fin (k0_t2_loop v6).trips, 128 ∣ (k0_mult31 i v6 k0_t2).toNat) ∧
  (∀ k0_t2 : Fin (k0_t2_loop v6).trips, 128 ∣ (k0_mult32 i v6 k0_t2).toNat) ∧
  (∀ k0_t2 : Fin (k0_t2_loop v6).trips, 128 ∣ (k0_mult33 i v6 k0_t2).toNat) ∧
  (∀ k0_t2 : Fin (k0_t2_loop v6).trips, 128 ∣ (k0_mult34 i v6 k0_t2).toNat) ∧
  (∀ k0_t2 : Fin (k0_t2_loop v6).trips, 128 ∣ (k0_mult35 i v6 k0_t2).toNat) ∧
  (∀ k0_t2 : Fin (k0_t2_loop v6).trips, 128 ∣ (k0_mult36 i v6 k0_t2).toNat)
def k0_chk1 (i : grid0.Coords) (v6 : BitVec 32) : Prop :=
  k0_chk1_0 i v6 ∧
  k0_chk1_1 i v6
theorem k0_t1_ok : ∀ (i : grid0.Coords) (v6 : BitVec 32) (k0_hw1 : k0_chk1 i v6), (k0_t1_loop v6).OK := fun i v6 k0_hw1 => k0_hw1.1.1
theorem k0_mult1_dvd : ∀ (i : grid0.Coords) (v6 : BitVec 32) (k0_hw1 : k0_chk1 i v6) (k0_t1 : Fin (k0_t1_loop v6).trips), 128 ∣ (k0_mult1 i v6 k0_t1).toNat := fun i v6 k0_hw1 k0_t1 => k0_hw1.1.2.1 k0_t1
theorem k0_off2_inb : ∀ (i : grid0.Coords) (v6 : BitVec 32) (k0_hw1 : k0_chk1 i v6) (k0_t1 : Fin (k0_t1_loop v6).trips), ∀ (r : Fin 3), ∀ a, (k0_off2 i v6 k0_t1 (BitVec.ofNat 32 r.val)) a + S128x128.size a ≤ S8320x256.size a := fun i v6 k0_hw1 k0_t1 r => k0_hw1.1.2.2.1 k0_t1 r
theorem k0_mult2_dvd : ∀ (i : grid0.Coords) (v6 : BitVec 32) (k0_hw1 : k0_chk1 i v6) (k0_t1 : Fin (k0_t1_loop v6).trips), 128 ∣ (k0_mult2 i v6 k0_t1).toNat := fun i v6 k0_hw1 k0_t1 => k0_hw1.1.2.2.2.1 k0_t1
theorem k0_mult3_dvd : ∀ (i : grid0.Coords) (v6 : BitVec 32) (k0_hw1 : k0_chk1 i v6) (k0_t1 : Fin (k0_t1_loop v6).trips), 128 ∣ (k0_mult3 i v6 k0_t1).toNat := fun i v6 k0_hw1 k0_t1 => k0_hw1.1.2.2.2.2.1 k0_t1
theorem k0_mult4_dvd : ∀ (i : grid0.Coords) (v6 : BitVec 32) (k0_hw1 : k0_chk1 i v6) (k0_t1 : Fin (k0_t1_loop v6).trips), 128 ∣ (k0_mult4 i v6 k0_t1).toNat := fun i v6 k0_hw1 k0_t1 => k0_hw1.1.2.2.2.2.2.1 k0_t1
theorem k0_mult5_dvd : ∀ (i : grid0.Coords) (v6 : BitVec 32) (k0_hw1 : k0_chk1 i v6) (k0_t1 : Fin (k0_t1_loop v6).trips), 128 ∣ (k0_mult5 i v6 k0_t1).toNat := fun i v6 k0_hw1 k0_t1 => k0_hw1.1.2.2.2.2.2.2.1 k0_t1
theorem k0_mult6_dvd : ∀ (i : grid0.Coords) (v6 : BitVec 32) (k0_hw1 : k0_chk1 i v6) (k0_t1 : Fin (k0_t1_loop v6).trips), 128 ∣ (k0_mult6 i v6 k0_t1).toNat := fun i v6 k0_hw1 k0_t1 => k0_hw1.1.2.2.2.2.2.2.2.1 k0_t1
theorem k0_mult7_dvd : ∀ (i : grid0.Coords) (v6 : BitVec 32) (k0_hw1 : k0_chk1 i v6) (k0_t1 : Fin (k0_t1_loop v6).trips), 128 ∣ (k0_mult7 i v6 k0_t1).toNat := fun i v6 k0_hw1 k0_t1 => k0_hw1.1.2.2.2.2.2.2.2.2.1 k0_t1
theorem k0_mult8_dvd : ∀ (i : grid0.Coords) (v6 : BitVec 32) (k0_hw1 : k0_chk1 i v6) (k0_t1 : Fin (k0_t1_loop v6).trips), 128 ∣ (k0_mult8 i v6 k0_t1).toNat := fun i v6 k0_hw1 k0_t1 => k0_hw1.1.2.2.2.2.2.2.2.2.2.1 k0_t1
theorem k0_mult9_dvd : ∀ (i : grid0.Coords) (v6 : BitVec 32) (k0_hw1 : k0_chk1 i v6) (k0_t1 : Fin (k0_t1_loop v6).trips), 128 ∣ (k0_mult9 i v6 k0_t1).toNat := fun i v6 k0_hw1 k0_t1 => k0_hw1.1.2.2.2.2.2.2.2.2.2.2.1 k0_t1
theorem k0_mult10_dvd : ∀ (i : grid0.Coords) (v6 : BitVec 32) (k0_hw1 : k0_chk1 i v6) (k0_t1 : Fin (k0_t1_loop v6).trips), 128 ∣ (k0_mult10 i v6 k0_t1).toNat := fun i v6 k0_hw1 k0_t1 => k0_hw1.1.2.2.2.2.2.2.2.2.2.2.2.1 k0_t1
theorem k0_off3_inb : ∀ (i : grid0.Coords) (v6 : BitVec 32) (k0_hw1 : k0_chk1 i v6) (k0_t1 : Fin (k0_t1_loop v6).trips), ∀ (r : Fin 3), ∀ a, (k0_off3 i v6 k0_t1 (BitVec.ofNat 32 r.val)) a + S128x128.size a ≤ S8320x256.size a := fun i v6 k0_hw1 k0_t1 r => k0_hw1.1.2.2.2.2.2.2.2.2.2.2.2.2.1 k0_t1 r
theorem k0_mult11_dvd : ∀ (i : grid0.Coords) (v6 : BitVec 32) (k0_hw1 : k0_chk1 i v6) (k0_t1 : Fin (k0_t1_loop v6).trips), 128 ∣ (k0_mult11 i v6 k0_t1).toNat := fun i v6 k0_hw1 k0_t1 => k0_hw1.1.2.2.2.2.2.2.2.2.2.2.2.2.2.1 k0_t1
theorem k0_mult12_dvd : ∀ (i : grid0.Coords) (v6 : BitVec 32) (k0_hw1 : k0_chk1 i v6) (k0_t1 : Fin (k0_t1_loop v6).trips), 128 ∣ (k0_mult12 i v6 k0_t1).toNat := fun i v6 k0_hw1 k0_t1 => k0_hw1.1.2.2.2.2.2.2.2.2.2.2.2.2.2.2.1 k0_t1
theorem k0_mult13_dvd : ∀ (i : grid0.Coords) (v6 : BitVec 32) (k0_hw1 : k0_chk1 i v6) (k0_t1 : Fin (k0_t1_loop v6).trips), 128 ∣ (k0_mult13 i v6 k0_t1).toNat := fun i v6 k0_hw1 k0_t1 => k0_hw1.1.2.2.2.2.2.2.2.2.2.2.2.2.2.2.2.1 k0_t1
theorem k0_mult14_dvd : ∀ (i : grid0.Coords) (v6 : BitVec 32) (k0_hw1 : k0_chk1 i v6) (k0_t1 : Fin (k0_t1_loop v6).trips), 128 ∣ (k0_mult14 i v6 k0_t1).toNat := fun i v6 k0_hw1 k0_t1 => k0_hw1.1.2.2.2.2.2.2.2.2.2.2.2.2.2.2.2.2.1 k0_t1
theorem k0_mult15_dvd : ∀ (i : grid0.Coords) (v6 : BitVec 32) (k0_hw1 : k0_chk1 i v6) (k0_t1 : Fin (k0_t1_loop v6).trips), 128 ∣ (k0_mult15 i v6 k0_t1).toNat := fun i v6 k0_hw1 k0_t1 => k0_hw1.1.2.2.2.2.2.2.2.2.2.2.2.2.2.2.2.2.2.1 k0_t1
theorem k0_mult16_dvd : ∀ (i : grid0.Coords) (v6 : BitVec 32) (k0_hw1 : k0_chk1 i v6) (k0_t1 : Fin (k0_t1_loop v6).trips), 128 ∣ (k0_mult16 i v6 k0_t1).toNat := fun i v6 k0_hw1 k0_t1 => k0_hw1.1.2.2.2.2.2.2.2.2.2.2.2.2.2.2.2.2.2.2.1 k0_t1
theorem k0_mult17_dvd : ∀ (i : grid0.Coords) (v6 : BitVec 32) (k0_hw1 : k0_chk1 i v6) (k0_t1 : Fin (k0_t1_loop v6).trips), 128 ∣ (k0_mult17 i v6 k0_t1).toNat := fun i v6 k0_hw1 k0_t1 => k0_hw1.1.2.2.2.2.2.2.2.2.2.2.2.2.2.2.2.2.2.2.2.1 k0_t1
theorem k0_mult18_dvd : ∀ (i : grid0.Coords) (v6 : BitVec 32) (k0_hw1 : k0_chk1 i v6) (k0_t1 : Fin (k0_t1_loop v6).trips), 128 ∣ (k0_mult18 i v6 k0_t1).toNat := fun i v6 k0_hw1 k0_t1 => k0_hw1.1.2.2.2.2.2.2.2.2.2.2.2.2.2.2.2.2.2.2.2.2.1 k0_t1
theorem k0_t2_ok : ∀ (i : grid0.Coords) (v6 : BitVec 32) (k0_hw1 : k0_chk1 i v6), (k0_t2_loop v6).OK := fun i v6 k0_hw1 => k0_hw1.1.2.2.2.2.2.2.2.2.2.2.2.2.2.2.2.2.2.2.2.2.2.1
theorem k0_mult19_dvd : ∀ (i : grid0.Coords) (v6 : BitVec 32) (k0_hw1 : k0_chk1 i v6) (k0_t2 : Fin (k0_t2_loop v6).trips), 128 ∣ (k0_mult19 i v6 k0_t2).toNat := fun i v6 k0_hw1 k0_t2 => k0_hw1.1.2.2.2.2.2.2.2.2.2.2.2.2.2.2.2.2.2.2.2.2.2.2.1 k0_t2
theorem k0_off4_inb : ∀ (i : grid0.Coords) (v6 : BitVec 32) (k0_hw1 : k0_chk1 i v6) (k0_t2 : Fin (k0_t2_loop v6).trips), ∀ (r : Fin 3), ∀ a, (k0_off4 i v6 k0_t2 (BitVec.ofNat 32 r.val)) a + S128x128.size a ≤ S8320x256.size a := fun i v6 k0_hw1 k0_t2 r => k0_hw1.1.2.2.2.2.2.2.2.2.2.2.2.2.2.2.2.2.2.2.2.2.2.2.2.1 k0_t2 r
theorem k0_mult20_dvd : ∀ (i : grid0.Coords) (v6 : BitVec 32) (k0_hw1 : k0_chk1 i v6) (k0_t2 : Fin (k0_t2_loop v6).trips), 128 ∣ (k0_mult20 i v6 k0_t2).toNat := fun i v6 k0_hw1 k0_t2 => k0_hw1.1.2.2.2.2.2.2.2.2.2.2.2.2.2.2.2.2.2.2.2.2.2.2.2.2.1 k0_t2
theorem k0_mult21_dvd : ∀ (i : grid0.Coords) (v6 : BitVec 32) (k0_hw1 : k0_chk1 i v6) (k0_t2 : Fin (k0_t2_loop v6).trips), 128 ∣ (k0_mult21 i v6 k0_t2).toNat := fun i v6 k0_hw1 k0_t2 => k0_hw1.1.2.2.2.2.2.2.2.2.2.2.2.2.2.2.2.2.2.2.2.2.2.2.2.2.2.1 k0_t2
theorem k0_mult22_dvd : ∀ (i : grid0.Coords) (v6 : BitVec 32) (k0_hw1 : k0_chk1 i v6) (k0_t2 : Fin (k0_t2_loop v6).trips), 128 ∣ (k0_mult22 i v6 k0_t2).toNat := fun i v6 k0_hw1 k0_t2 => k0_hw1.1.2.2.2.2.2.2.2.2.2.2.2.2.2.2.2.2.2.2.2.2.2.2.2.2.2.2.1 k0_t2
theorem k0_mult23_dvd : ∀ (i : grid0.Coords) (v6 : BitVec 32) (k0_hw1 : k0_chk1 i v6) (k0_t2 : Fin (k0_t2_loop v6).trips), 128 ∣ (k0_mult23 i v6 k0_t2).toNat := fun i v6 k0_hw1 k0_t2 => k0_hw1.1.2.2.2.2.2.2.2.2.2.2.2.2.2.2.2.2.2.2.2.2.2.2.2.2.2.2.2.1 k0_t2
theorem k0_mult24_dvd : ∀ (i : grid0.Coords) (v6 : BitVec 32) (k0_hw1 : k0_chk1 i v6) (k0_t2 : Fin (k0_t2_loop v6).trips), 128 ∣ (k0_mult24 i v6 k0_t2).toNat := fun i v6 k0_hw1 k0_t2 => k0_hw1.1.2.2.2.2.2.2.2.2.2.2.2.2.2.2.2.2.2.2.2.2.2.2.2.2.2.2.2.2.1 k0_t2
theorem k0_mult25_dvd : ∀ (i : grid0.Coords) (v6 : BitVec 32) (k0_hw1 : k0_chk1 i v6) (k0_t2 : Fin (k0_t2_loop v6).trips), 128 ∣ (k0_mult25 i v6 k0_t2).toNat := fun i v6 k0_hw1 k0_t2 => k0_hw1.1.2.2.2.2.2.2.2.2.2.2.2.2.2.2.2.2.2.2.2.2.2.2.2.2.2.2.2.2.2.1 k0_t2
theorem k0_mult26_dvd : ∀ (i : grid0.Coords) (v6 : BitVec 32) (k0_hw1 : k0_chk1 i v6) (k0_t2 : Fin (k0_t2_loop v6).trips), 128 ∣ (k0_mult26 i v6 k0_t2).toNat := fun i v6 k0_hw1 k0_t2 => k0_hw1.1.2.2.2.2.2.2.2.2.2.2.2.2.2.2.2.2.2.2.2.2.2.2.2.2.2.2.2.2.2.2.1 k0_t2
theorem k0_mult27_dvd : ∀ (i : grid0.Coords) (v6 : BitVec 32) (k0_hw1 : k0_chk1 i v6) (k0_t2 : Fin (k0_t2_loop v6).trips), 128 ∣ (k0_mult27 i v6 k0_t2).toNat := fun i v6 k0_hw1 k0_t2 => k0_hw1.1.2.2.2.2.2.2.2.2.2.2.2.2.2.2.2.2.2.2.2.2.2.2.2.2.2.2.2.2.2.2.2 k0_t2
theorem k0_mult28_dvd : ∀ (i : grid0.Coords) (v6 : BitVec 32) (k0_hw1 : k0_chk1 i v6) (k0_t2 : Fin (k0_t2_loop v6).trips), 128 ∣ (k0_mult28 i v6 k0_t2).toNat := fun i v6 k0_hw1 k0_t2 => k0_hw1.2.1 k0_t2
theorem k0_off5_inb : ∀ (i : grid0.Coords) (v6 : BitVec 32) (k0_hw1 : k0_chk1 i v6) (k0_t2 : Fin (k0_t2_loop v6).trips), ∀ (r : Fin 3), ∀ a, (k0_off5 i v6 k0_t2 (BitVec.ofNat 32 r.val)) a + S128x128.size a ≤ S8320x256.size a := fun i v6 k0_hw1 k0_t2 r => k0_hw1.2.2.1 k0_t2 r
theorem k0_mult29_dvd : ∀ (i : grid0.Coords) (v6 : BitVec 32) (k0_hw1 : k0_chk1 i v6) (k0_t2 : Fin (k0_t2_loop v6).trips), 128 ∣ (k0_mult29 i v6 k0_t2).toNat := fun i v6 k0_hw1 k0_t2 => k0_hw1.2.2.2.1 k0_t2
theorem k0_mult30_dvd : ∀ (i : grid0.Coords) (v6 : BitVec 32) (k0_hw1 : k0_chk1 i v6) (k0_t2 : Fin (k0_t2_loop v6).trips), 128 ∣ (k0_mult30 i v6 k0_t2).toNat := fun i v6 k0_hw1 k0_t2 => k0_hw1.2.2.2.2.1 k0_t2
theorem k0_mult31_dvd : ∀ (i : grid0.Coords) (v6 : BitVec 32) (k0_hw1 : k0_chk1 i v6) (k0_t2 : Fin (k0_t2_loop v6).trips), 128 ∣ (k0_mult31 i v6 k0_t2).toNat := fun i v6 k0_hw1 k0_t2 => k0_hw1.2.2.2.2.2.1 k0_t2
theorem k0_mult32_dvd : ∀ (i : grid0.Coords) (v6 : BitVec 32) (k0_hw1 : k0_chk1 i v6) (k0_t2 : Fin (k0_t2_loop v6).trips), 128 ∣ (k0_mult32 i v6 k0_t2).toNat := fun i v6 k0_hw1 k0_t2 => k0_hw1.2.2.2.2.2.2.1 k0_t2
theorem k0_mult33_dvd : ∀ (i : grid0.Coords) (v6 : BitVec 32) (k0_hw1 : k0_chk1 i v6) (k0_t2 : Fin (k0_t2_loop v6).trips), 128 ∣ (k0_mult33 i v6 k0_t2).toNat := fun i v6 k0_hw1 k0_t2 => k0_hw1.2.2.2.2.2.2.2.1 k0_t2
theorem k0_mult34_dvd : ∀ (i : grid0.Coords) (v6 : BitVec 32) (k0_hw1 : k0_chk1 i v6) (k0_t2 : Fin (k0_t2_loop v6).trips), 128 ∣ (k0_mult34 i v6 k0_t2).toNat := fun i v6 k0_hw1 k0_t2 => k0_hw1.2.2.2.2.2.2.2.2.1 k0_t2
theorem k0_mult35_dvd : ∀ (i : grid0.Coords) (v6 : BitVec 32) (k0_hw1 : k0_chk1 i v6) (k0_t2 : Fin (k0_t2_loop v6).trips), 128 ∣ (k0_mult35 i v6 k0_t2).toNat := fun i v6 k0_hw1 k0_t2 => k0_hw1.2.2.2.2.2.2.2.2.2.1 k0_t2
theorem k0_mult36_dvd : ∀ (i : grid0.Coords) (v6 : BitVec 32) (k0_hw1 : k0_chk1 i v6) (k0_t2 : Fin (k0_t2_loop v6).trips), 128 ∣ (k0_mult36 i v6 k0_t2).toNat := fun i v6 k0_hw1 k0_t2 => k0_hw1.2.2.2.2.2.2.2.2.2.2 k0_t2

def k0_cond2 (i : grid0.Coords) : BitVec 1 :=
  let arg1 : BitVec 32 := BitVec.ofNat 32 (i 1).val
  let c64_i32 : BitVec 32 := 64#32
  let v57 : BitVec 1 := Scalar.cmpi .eq arg1 c64_i32
  let v58 : BitVec 32 := Scalar.extui v57
  let c0_i32_21 : BitVec 32 := 0#32
  let v59 : BitVec 1 := Scalar.cmpi .ne v58 c0_i32_21
  v59

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8320x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8320x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x65 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8320x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8320x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelRes.lean ====
abbrev S1x8320x2048 : Shape := ⟨3, ![1, 8320, 2048]⟩
abbrev S1x2048x2048 : Shape := ⟨3, ![1, 2048, 2048]⟩
abbrev S1x2048 : Shape := ⟨2, ![1, 2048]⟩
abbrev S8320x2048 : Shape := ⟨2, ![8320, 2048]⟩
abbrev S2048x2048 : Shape := ⟨2, ![2048, 2048]⟩
abbrev S320x2048 : Shape := ⟨2, ![320, 2048]⟩
abbrev S320 : Shape := ⟨1, ![320]⟩
abbrev S320x1 : Shape := ⟨2, ![320, 1]⟩

abbrev nBuf : Space → Nat
  | .hbm => 13
  | .vmem => 13
  | .smem => 0
  | _ => 0

abbrev bufTy : (tb : Table) → Fin (tcTables nBuf tb) → BufTy
  | .hbm, ⟨0, _⟩ => ⟨S1x8320x2048, .f32⟩
  | .hbm, ⟨1, _⟩ => ⟨S1x2048x2048, .f32⟩
  | .hbm, ⟨2, _⟩ => ⟨S1x8320x2048, .f32⟩
  | .hbm, ⟨3, _⟩ => ⟨S1x2048, .f32⟩
  | .hbm, ⟨4, _⟩ => ⟨S1x2048, .f32⟩
  | .hbm, ⟨5, _⟩ => ⟨S8320x2048, .f32⟩
  | .hbm, ⟨6, _⟩ => ⟨S8320x2048, .bf16⟩
  | .hbm, ⟨7, _⟩ => ⟨S2048x2048, .f32⟩
  | .hbm, ⟨8, _⟩ => ⟨S2048x2048, .bf16⟩
  | .hbm, ⟨9, _⟩ => ⟨S8320x2048, .f32⟩
  | .hbm, ⟨10, _⟩ => ⟨S8320x2048, .f32⟩
  | .hbm, ⟨11, _⟩ => ⟨S8320x2048, .f32⟩
  | .hbm, ⟨12, _⟩ => ⟨S8320x2048, .bf16⟩
  | .local _ .vmem, ⟨0, _⟩ => ⟨S320x2048, .bf16⟩
  | .local _ .vmem, ⟨1, _⟩ => ⟨S320x2048, .bf16⟩
  | .local _ .vmem, ⟨2, _⟩ => ⟨S2048x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .f32⟩
  | .local _ .vmem, ⟨10, _⟩ => ⟨S320x2048, .f32⟩
  | .local _ .vmem, ⟨11, _⟩ => ⟨S320x2048, .bf16⟩
  | .local _ .vmem, ⟨12, _⟩ => ⟨S320x2048, .bf16⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceResIdeal.lean ====
abbrev S1x8320x2048 : Shape := ⟨3, ![1, 8320, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S1x8320 : Shape := ⟨2, ![1, 8320]⟩
abbrev S1x8320x1 : Shape := ⟨3, ![1, 8320, 1]⟩
abbrev S1x1x2048 : Shape := ⟨3, ![1, 1, 2048]⟩
abbrev S8320x2048 : Shape := ⟨2, ![8320, 2048]⟩

abbrev nBuf : Space → Nat
  | .hbm => 46
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x2048x2048, .f32⟩
  | .hbm, ⟨2, _⟩ => ⟨S1x8320x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S2048x2048, .f32⟩
  | .hbm, ⟨9, _⟩ => ⟨S1x8320x2048, .f32⟩
  | .hbm, ⟨10, _⟩ => ⟨S1x8320x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S1x8320, .f32⟩
  | .hbm, ⟨15, _⟩ => ⟨S1x8320x1, .f32⟩
  | .hbm, ⟨16, _⟩ => ⟨S_, .f32⟩
  | .hbm, ⟨17, _⟩ => ⟨S1x8320x1, .f32⟩
  | .hbm, ⟨18, _⟩ => ⟨S1x8320x1, .f32⟩
  | .hbm, ⟨19, _⟩ => ⟨S1x8320x2048, .f32⟩
  | .hbm, ⟨20, _⟩ => ⟨S1x8320x2048, .f32⟩
  | .hbm, ⟨21, _⟩ => ⟨S1x8320x2048, .f32⟩
  | .hbm, ⟨22, _⟩ => ⟨S_, .f32⟩
  | .hbm, ⟨23, _⟩ => ⟨S1x8320, .f32⟩
  | .hbm, ⟨24, _⟩ => ⟨S1x8320x1, .f32⟩
  | .hbm, ⟨25, _⟩ => ⟨S_, .f32⟩
  | .hbm, ⟨26, _⟩ => ⟨S1x8320x1, .f32⟩
  | .hbm, ⟨27, _⟩ => ⟨S1x8320x1, .f32⟩
  | .hbm, ⟨28, _⟩ => ⟨S1x8320x2048, .f32⟩
  | .hbm, ⟨29, _⟩ => ⟨S1x8320x2048, .f32⟩
  | .hbm, ⟨30, _⟩ => ⟨S_, .f32⟩
  | .hbm, ⟨31, _⟩ => ⟨S1x8320x1, .f32⟩
  | .hbm, ⟨32, _⟩ => ⟨S1x8320x1, .f32⟩
  | .hbm, ⟨33, _⟩ => ⟨S1x8320x1, .f32⟩
  | .hbm, ⟨34, _⟩ => ⟨S1x8320x2048, .f32⟩
  | .hbm, ⟨35, _⟩ => ⟨S1x8320x2048, .f32⟩
  | .hbm, ⟨36, _⟩ => ⟨S1x1x2048, .f32⟩
  | .hbm, ⟨37, _⟩ => ⟨S1x8320x2048, .f32⟩
  | .hbm, ⟨38, _⟩ => ⟨S1x8320x2048, .f32⟩
  | .hbm, ⟨39, _⟩ => ⟨S1x1x2048, .f32⟩
  | .hbm, ⟨40, _⟩ => ⟨S1x8320x2048, .f32⟩
  | .hbm, ⟨41, _⟩ => ⟨S1x8320x2048, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S8320x2048, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelDwn.lean ====
abbrev S1x8320x5632 : Shape := ⟨3, ![1, 8320, 5632]⟩
abbrev S1x5632x2048 : Shape := ⟨3, ![1, 5632, 2048]⟩
abbrev S1x8320x2048 : Shape := ⟨3, ![1, 8320, 2048]⟩
abbrev S1x2048 : Shape := ⟨2, ![1, 2048]⟩
abbrev S8320x5632 : Shape := ⟨2, ![8320, 5632]⟩
abbrev S8320x8x704 : Shape := ⟨3, ![8320, 8, 704]⟩
abbrev S8x8320x704 : Shape := ⟨3, ![8, 8320, 704]⟩
abbrev S5632x2048 : Shape := ⟨2, ![5632, 2048]⟩
abbrev S8x704x2048 : Shape := ⟨3, ![8, 704, 2048]⟩
abbrev S8320x2048 : Shape := ⟨2, ![8320, 2048]⟩
abbrev S8x320x704 : Shape := ⟨3, ![8, 320, 704]⟩
abbrev S320x2048 : Shape := ⟨2, ![320, 2048]⟩
abbrev S1x320x704 : Shape := ⟨3, ![1, 320, 704]⟩
abbrev S320x704 : Shape := ⟨2, ![320, 704]⟩
abbrev S1x704x2048 : Shape := ⟨3, ![1, 704, 2048]⟩
abbrev S704x2048 : Shape := ⟨2, ![704, 2048]⟩
abbrev S320 : Shape := ⟨1, ![320]⟩
abbrev S320x1 : Shape := ⟨2, ![320, 1]⟩

abbrev nBuf : Space → Nat
  | .hbm => 16
  | .vmem => 13
  | .smem => 0
  | _ => 0

abbrev bufTy : (tb : Table) → Fin (tcTables nBuf tb) → BufTy
  | .hbm, ⟨0, _⟩ => ⟨S1x8320x5632, .f32⟩
  | .hbm, ⟨1, _⟩ => ⟨S1x5632x2048, .f32⟩
  | .hbm, ⟨2, _⟩ => ⟨S1x8320x2048, .f32⟩
  | .hbm, ⟨3, _⟩ => ⟨S1x2048, .f32⟩
  | .hbm, ⟨4, _⟩ => ⟨S1x2048, .f32⟩
  | .hbm, ⟨5, _⟩ => ⟨S8320x5632, .f32⟩
  | .hbm, ⟨6, _⟩ => ⟨S8320x5632, .bf16⟩
  | .hbm, ⟨7, _⟩ => ⟨S8320x8x704, .bf16⟩
  | .hbm, ⟨8, _⟩ => ⟨S8x8320x704, .bf16⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S8320x2048, .f32⟩
  | .hbm, ⟨13, _⟩ => ⟨S8320x2048, .f32⟩
  | .hbm, ⟨14, _⟩ => ⟨S8320x2048, .f32⟩
  | .hbm, ⟨15, _⟩ => ⟨S8320x2048, .bf16⟩
  | .local _ .vmem, ⟨0, _⟩ => ⟨S8x320x704, .bf16⟩
  | .local _ .vmem, ⟨1, _⟩ => ⟨S8x320x704, .bf16⟩
  | .local _ .vmem, ⟨2, _⟩ => ⟨S8x704x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .f32⟩
  | .local _ .vmem, ⟨10, _⟩ => ⟨S320x2048, .f32⟩
  | .local _ .vmem, ⟨11, _⟩ => ⟨S320x2048, .bf16⟩
  | .local _ .vmem, ⟨12, _⟩ => ⟨S320x2048, .bf16⟩
  | _, _ => ⟨S1x8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![26, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x320x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceDwnIdeal.lean ====
abbrev S1x8320x5632 : Shape := ⟨3, ![1, 8320, 5632]⟩
abbrev S1x5632x2048 : Shape := ⟨3, ![1, 5632, 2048]⟩
abbrev S1x8320x2048 : Shape := ⟨3, ![1, 8320, 2048]⟩
abbrev S1x2048 : Shape := ⟨2, ![1, 2048]⟩
abbrev S_ : Shape := ⟨0, ![]⟩
abbrev S5632x2048 : Shape := ⟨2, ![5632, 2048]⟩
abbrev S2048 : Shape := ⟨1, ![2048]⟩
abbrev S1x8320 : Shape := ⟨2, ![1, 8320]⟩
abbrev S1x8320x1 : Shape := ⟨3, ![1, 8320, 1]⟩
abbrev S1x1x2048 : Shape := ⟨3, ![1, 1, 2048]⟩
abbrev S8320x2048 : Shape := ⟨2, ![8320, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1x8320x5632, .f32⟩
  | .hbm, ⟨1, _⟩ => ⟨S1x5632x2048, .f32⟩
  | .hbm, ⟨2, _⟩ => ⟨S1x8320x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S5632x2048, .f32⟩
  | .hbm, ⟨9, _⟩ => ⟨S1x8320x2048, .f32⟩
  | .hbm, ⟨10, _⟩ => ⟨S_, .f32⟩
  | .hbm, ⟨11, _⟩ => ⟨S1x8320x2048, .f32⟩
  | .hbm, ⟨12, _⟩ => ⟨S1x8320x2048, .f32⟩
  | .hbm, ⟨13, _⟩ => ⟨S1x8320x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S1x8320, .f32⟩
  | .hbm, ⟨18, _⟩ => ⟨S1x8320x1, .f32⟩
  | .hbm, ⟨19, _⟩ => ⟨S_, .f32⟩
  | .hbm, ⟨20, _⟩ => ⟨S1x8320x1, .f32⟩
  | .hbm, ⟨21, _⟩ => ⟨S1x8320x1, .f32⟩
  | .hbm, ⟨22, _⟩ => ⟨S1x8320x2048, .f32⟩
  | .hbm, ⟨23, _⟩ => ⟨S1x8320x2048, .f32⟩
  | .hbm, ⟨24, _⟩ => ⟨S1x8320x2048, .f32⟩
  | .hbm, ⟨25, _⟩ => ⟨S_, .f32⟩
  | .hbm, ⟨26, _⟩ => ⟨S1x8320, .f32⟩
  | .hbm, ⟨27, _⟩ => ⟨S1x8320x1, .f32⟩
  | .hbm, ⟨28, _⟩ => ⟨S_, .f32⟩
  | .hbm, ⟨29, _⟩ => ⟨S1x8320x1, .f32⟩
  | .hbm, ⟨30, _⟩ => ⟨S1x8320x1, .f32⟩
  | .hbm, ⟨31, _⟩ => ⟨S1x8320x2048, .f32⟩
  | .hbm, ⟨32, _⟩ => ⟨S1x8320x2048, .f32⟩
  | .hbm, ⟨33, _⟩ => ⟨S_, .f32⟩
  | .hbm, ⟨34, _⟩ => ⟨S1x8320x1, .f32⟩
  | .hbm, ⟨35, _⟩ => ⟨S1x8320x1, .f32⟩
  | .hbm, ⟨36, _⟩ => ⟨S1x8320x1, .f32⟩
  | .hbm, ⟨37, _⟩ => ⟨S1x8320x2048, .f32⟩
  | .hbm, ⟨38, _⟩ => ⟨S1x8320x2048, .f32⟩
  | .hbm, ⟨39, _⟩ => ⟨S1x1x2048, .f32⟩
  | .hbm, ⟨40, _⟩ => ⟨S1x8320x2048, .f32⟩
  | .hbm, ⟨41, _⟩ => ⟨S1x8320x2048, .f32⟩
  | .hbm, ⟨42, _⟩ => ⟨S1x1x2048, .f32⟩
  | .hbm, ⟨43, _⟩ => ⟨S1x8320x2048, .f32⟩
  | .hbm, ⟨44, _⟩ => ⟨S1x8320x2048, .f32⟩
  | .hbm, ⟨45, _⟩ => ⟨S8320x2048, .f32⟩
  | .hbm, ⟨46, _⟩ => ⟨S8320x2048, .f32⟩
  | .hbm, ⟨47, _⟩ => ⟨S8320x2048, .f32⟩
  | .hbm, ⟨48, _⟩ => ⟨S8320x2048, .bf16⟩
  | _, _ => ⟨S1x8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== KernelInp.lean ====
abbrev S1x8320x2048 : Shape := ⟨3, ![1, 8320, 2048]⟩
abbrev S1x2048x11264 : Shape := ⟨3, ![1, 2048, 11264]⟩
abbrev S8320x2048 : Shape := ⟨2, ![8320, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8320x11264 : Shape := ⟨2, ![8320, 11264]⟩
abbrev S640x2048 : Shape := ⟨2, ![640, 2048]⟩
abbrev S1x2048x1408 : Shape := ⟨3, ![1, 2048, 1408]⟩
abbrev S640x1408 : Shape := ⟨2, ![640, 1408]⟩
abbrev S2048x1408 : Shape := ⟨2, ![2048, 1408]⟩

abbrev nBuf : Space → Nat
  | .hbm => 10
  | .vmem => 8
  | .smem => 0
  | _ => 0

abbrev bufTy : (tb : Table) → Fin (tcTables nBuf tb) → BufTy
  | .hbm, ⟨0, _⟩ => ⟨S1x8320x2048, .f32⟩
  | .hbm, ⟨1, _⟩ => ⟨S1x2048x11264, .f32⟩
  | .hbm, ⟨2, _⟩ => ⟨S8320x2048, .f32⟩
  | .hbm, ⟨3, _⟩ => ⟨S8320x2048, .bf16⟩
  | .hbm, ⟨4, _⟩ => ⟨S2048x11264, .f32⟩
  | .hbm, ⟨5, _⟩ => ⟨S2048x11264, .bf16⟩
  | .hbm, ⟨6, _⟩ => ⟨S2048x8x1408, .bf16⟩
  | .hbm, ⟨7, _⟩ => ⟨S8x2048x1408, .bf16⟩
  | .hbm, ⟨8, _⟩ => ⟨S8320x11264, .f32⟩
  | .hbm, ⟨9, _⟩ => ⟨S8320x11264, .bf16⟩
  | .local _ .vmem, ⟨0, _⟩ => ⟨S640x2048, .bf16⟩
  | .local _ .vmem, ⟨1, _⟩ => ⟨S640x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S640x1408, .f32⟩
  | .local _ .vmem, ⟨5, _⟩ => ⟨S640x1408, .f32⟩
  | .local _ .vmem, ⟨6, _⟩ => ⟨S640x1408, .bf16⟩
  | .local _ .vmem, ⟨7, _⟩ => ⟨S640x1408, .bf16⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInpIdeal.lean ====
abbrev S1x8320x2048 : Shape := ⟨3, ![1, 8320, 2048]⟩
abbrev S1x2048x11264 : Shape := ⟨3, ![1, 2048, 11264]⟩
abbrev S2048x11264 : Shape := ⟨2, ![2048, 11264]⟩
abbrev S1x8320x11264 : Shape := ⟨3, ![1, 8320, 11264]⟩
abbrev S8320x11264 : Shape := ⟨2, ![8320, 11264]⟩

abbrev nBuf : Space → Nat
  | .hbm => 6
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x2048x11264, .f32⟩
  | .hbm, ⟨2, _⟩ => ⟨S2048x11264, .f32⟩
  | .hbm, ⟨3, _⟩ => ⟨S1x8320x11264, .f32⟩
  | .hbm, ⟨4, _⟩ => ⟨S8320x11264, .f32⟩
  | .hbm, ⟨5, _⟩ => ⟨S8320x11264, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGin.lean ====
abbrev S1x2048x11264 : Shape := ⟨3, ![1, 2048, 11264]⟩
abbrev S1x8320x11264 : Shape := ⟨3, ![1, 8320, 11264]⟩
abbrev S1x8320x2048 : Shape := ⟨3, ![1, 8320, 2048]⟩
abbrev S8320x11264 : Shape := ⟨2, ![8320, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8320x2048 : Shape := ⟨2, ![8320, 2048]⟩
abbrev S640x2816 : Shape := ⟨2, ![640, 2816]⟩
abbrev S2x2048x1408 : Shape := ⟨3, ![2, 2048, 1408]⟩
abbrev S640x2048 : Shape := ⟨2, ![640, 2048]⟩
abbrev S640x1408 : Shape := ⟨2, ![640, 1408]⟩
abbrev S1x2048x1408 : Shape := ⟨3, ![1, 2048, 1408]⟩
abbrev S2048x1408 : Shape := ⟨2, ![2048, 1408]⟩

abbrev nBuf : Space → Nat
  | .hbm => 11
  | .vmem => 9
  | .smem => 0
  | _ => 0

abbrev bufTy : (tb : Table) → Fin (tcTables nBuf tb) → BufTy
  | .hbm, ⟨0, _⟩ => ⟨S1x2048x11264, .f32⟩
  | .hbm, ⟨1, _⟩ => ⟨S1x8320x11264, .f32⟩
  | .hbm, ⟨2, _⟩ => ⟨S1x8320x2048, .f32⟩
  | .hbm, ⟨3, _⟩ => ⟨S8320x11264, .f32⟩
  | .hbm, ⟨4, _⟩ => ⟨S8320x11264, .bf16⟩
  | .hbm, ⟨5, _⟩ => ⟨S2048x11264, .f32⟩
  | .hbm, ⟨6, _⟩ => ⟨S2048x11264, .bf16⟩
  | .hbm, ⟨7, _⟩ => ⟨S2048x8x1408, .bf16⟩
  | .hbm, ⟨8, _⟩ => ⟨S8x2048x1408, .bf16⟩
  | .hbm, ⟨9, _⟩ => ⟨S8320x2048, .f32⟩
  | .hbm, ⟨10, _⟩ => ⟨S8320x2048, .f32⟩
  | .local _ .vmem, ⟨0, _⟩ => ⟨S640x2816, .bf16⟩
  | .local _ .vmem, ⟨1, _⟩ => ⟨S640x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | _, _ => ⟨S1x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceGinIdeal.lean ====
abbrev S1x2048x11264 : Shape := ⟨3, ![1, 2048, 11264]⟩
abbrev S1x8320x11264 : Shape := ⟨3, ![1, 8320, 11264]⟩
abbrev S1x8320x2048 : Shape := ⟨3, ![1, 8320, 2048]⟩
abbrev S_ : Shape := ⟨0, ![]⟩
abbrev S2048x11264 : Shape := ⟨2, ![2048, 11264]⟩
abbrev S8320x2048 : Shape := ⟨2, ![8320, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1x2048x11264, .f32⟩
  | .hbm, ⟨1, _⟩ => ⟨S1x8320x11264, .f32⟩
  | .hbm, ⟨2, _⟩ => ⟨S1x8320x2048, .f32⟩
  | .hbm, ⟨3, _⟩ => ⟨S_, .f32⟩
  | .hbm, ⟨4, _⟩ => ⟨S1x8320x2048, .f32⟩
  | .hbm, ⟨5, _⟩ => ⟨S_, .f32⟩
  | .hbm, ⟨6, _⟩ => ⟨S1x8320x2048, .f32⟩
  | .hbm, ⟨7, _⟩ => ⟨S1x8320x2048, .f32⟩
  | .hbm, ⟨8, _⟩ => ⟨S2048x11264, .f32⟩
  | .hbm, ⟨9, _⟩ => ⟨S1x8320x11264, .f32⟩
  | .hbm, ⟨10, _⟩ => ⟨S1x8320x2048, .f32⟩
  | .hbm, ⟨11, _⟩ => ⟨S_, .f32⟩
  | .hbm, ⟨12, _⟩ => ⟨S1x8320x2048, .f32⟩
  | .hbm, ⟨13, _⟩ => ⟨S1x8320x2048, .f32⟩
  | .hbm, ⟨14, _⟩ => ⟨S1x8320x2048, .f32⟩
  | .hbm, ⟨15, _⟩ => ⟨S8320x2048, .f32⟩
  | _, _ => ⟨S1x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelGiw.lean ====
abbrev S1x1024x2048 : Shape := ⟨3, ![1, 1024, 2048]⟩
abbrev S1x8320x2048 : Shape := ⟨3, ![1, 8320, 2048]⟩
abbrev S8320x2048 : Shape := ⟨2, ![8320, 2048]⟩
abbrev S1024x2048 : Shape := ⟨2, ![1024, 2048]⟩
abbrev S8320x1024 : Shape := ⟨2, ![8320, 1024]⟩
abbrev S640x2048 : Shape := ⟨2, ![640, 2048]⟩
abbrev S640x1024 : Shape := ⟨2, ![640, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x1024x2048, .f32⟩
  | .hbm, ⟨1, _⟩ => ⟨S1x8320x2048, .f32⟩
  | .hbm, ⟨2, _⟩ => ⟨S8320x2048, .f32⟩
  | .hbm, ⟨3, _⟩ => ⟨S8320x2048, .bf16⟩
  | .hbm, ⟨4, _⟩ => ⟨S1024x2048, .f32⟩
  | .hbm, ⟨5, _⟩ => ⟨S1024x2048, .bf16⟩
  | .hbm, ⟨6, _⟩ => ⟨S8320x1024, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S640x1024, .f32⟩
  | .local _ .vmem, ⟨4, _⟩ => ⟨S640x1024, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGiwIdeal.lean ====
abbrev S1x1024x2048 : Shape := ⟨3, ![1, 1024, 2048]⟩
abbrev S1x8320x2048 : Shape := ⟨3, ![1, 8320, 2048]⟩
abbrev S_ : Shape := ⟨0, ![]⟩
abbrev S1x8320x1024 : Shape := ⟨3, ![1, 8320, 1024]⟩
abbrev S1024x2048 : Shape := ⟨2, ![1024, 2048]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x8320x2048, .f32⟩
  | .hbm, ⟨2, _⟩ => ⟨S_, .f32⟩
  | .hbm, ⟨3, _⟩ => ⟨S1x8320x1024, .f32⟩
  | .hbm, ⟨4, _⟩ => ⟨S1024x2048, .f32⟩
  | .hbm, ⟨5, _⟩ => ⟨S1x8320x2048, .f32⟩
  | .hbm, ⟨6, _⟩ => ⟨S1x8320x1024, .f32⟩
  | .hbm, ⟨7, _⟩ => ⟨S8320x1024, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFdh.lean ====
abbrev S1x2048x5632 : Shape := ⟨3, ![1, 2048, 5632]⟩
abbrev S1x8320x5632 : Shape := ⟨3, ![1, 8320, 5632]⟩
abbrev S1x8320x2048 : Shape := ⟨3, ![1, 8320, 2048]⟩
abbrev S8320x5632 : Shape := ⟨2, ![8320, 5632]⟩
abbrev S8320x8x704 : Shape := ⟨3, ![8320, 8, 704]⟩
abbrev S8x8320x704 : Shape := ⟨3, ![8, 8320, 704]⟩
abbrev S2048x5632 : Shape := ⟨2, ![2048, 5632]⟩
abbrev S2048x8x704 : Shape := ⟨3, ![2048, 8, 704]⟩
abbrev S8x2048x704 : Shape := ⟨3, ![8, 2048, 704]⟩
abbrev S8320x2048 : Shape := ⟨2, ![8320, 2048]⟩
abbrev S2x640x704 : Shape := ⟨3, ![2, 640, 704]⟩
abbrev S2x2048x704 : Shape := ⟨3, ![2, 2048, 704]⟩
abbrev S640x2048 : Shape := ⟨2, ![640, 2048]⟩
abbrev S1x640x704 : Shape := ⟨3, ![1, 640, 704]⟩
abbrev S640x704 : Shape := ⟨2, ![640, 704]⟩
abbrev S1x2048x704 : Shape := ⟨3, ![1, 2048, 704]⟩
abbrev S2048x704 : Shape := ⟨2, ![2048, 704]⟩

abbrev nBuf : Space → Nat
  | .hbm => 23
  | .vmem => 13
  | .smem => 0
  | _ => 0

abbrev bufTy : (tb : Table) → Fin (tcTables nBuf tb) → BufTy
  | .hbm, ⟨0, _⟩ => ⟨S1x2048x5632, .f32⟩
  | .hbm, ⟨1, _⟩ => ⟨S1x2048x5632, .f32⟩
  | .hbm, ⟨2, _⟩ => ⟨S1x8320x5632, .f32⟩
  | .hbm, ⟨3, _⟩ => ⟨S1x8320x5632, .f32⟩
  | .hbm, ⟨4, _⟩ => ⟨S1x8320x2048, .f32⟩
  | .hbm, ⟨5, _⟩ => ⟨S8320x5632, .f32⟩
  | .hbm, ⟨6, _⟩ => ⟨S8320x5632, .bf16⟩
  | .hbm, ⟨7, _⟩ => ⟨S8320x8x704, .bf16⟩
  | .hbm, ⟨8, _⟩ => ⟨S8x8320x704, .bf16⟩
  | .hbm, ⟨9, _⟩ => ⟨S8320x5632, .f32⟩
  | .hbm, ⟨10, _⟩ => ⟨S8320x5632, .bf16⟩
  | .hbm, ⟨11, _⟩ => ⟨S8320x8x704, .bf16⟩
  | .hbm, ⟨12, _⟩ => ⟨S8x8320x704, .bf16⟩
  | .hbm, ⟨13, _⟩ => ⟨S2048x5632, .f32⟩
  | .hbm, ⟨14, _⟩ => ⟨S2048x5632, .bf16⟩
  | .hbm, ⟨15, _⟩ => ⟨S2048x8x704, .bf16⟩
  | .hbm, ⟨16, _⟩ => ⟨S8x2048x704, .bf16⟩
  | .hbm, ⟨17, _⟩ => ⟨S2048x5632, .f32⟩
  | .hbm, ⟨18, _⟩ => ⟨S2048x5632, .bf16⟩
  | .hbm, ⟨19, _⟩ => ⟨S2048x8x704, .bf16⟩
  | .hbm, ⟨20, _⟩ => ⟨S8x2048x704, .bf16⟩
  | .hbm, ⟨21, _⟩ => ⟨S8320x2048, .f32⟩
  | .hbm, ⟨22, _⟩ => ⟨S8320x2048, .f32⟩
  | .local _ .vmem, ⟨0, _⟩ => ⟨S2x640x704, .bf16⟩
  | .local _ .vmem, ⟨1, _⟩ => ⟨S2x640x704, .bf16⟩
  | .local _ .vmem, ⟨2, _⟩ => ⟨S2x2048x704, .bf16⟩
  | .local _ .vmem, ⟨3, _⟩ => ⟨S2x2048x704, .bf16⟩
  | .local _ .vmem, ⟨4, _⟩ => ⟨S2x640x704, .bf16⟩
  | .local _ .vmem, ⟨5, _⟩ => ⟨S2x640x704, .bf16⟩
  | .local _ .vmem, ⟨6, _⟩ => ⟨S2x2048x704, .bf16⟩
  | .local _ .vmem, ⟨7, _⟩ => ⟨S2x2048x704, .bf16⟩
  | .local _ .vmem, ⟨8, _⟩ => ⟨S640x2048, .f32⟩
  | .local _ .vmem, ⟨9, _⟩ => ⟨S640x2048, .f32⟩
  | .local _ .vmem, ⟨10, _⟩ => ⟨S640x2048, .f32⟩
  | .local _ .vmem, ⟨11, _⟩ => ⟨S640x2048, .f32⟩
  | .local _ .vmem, ⟨12, _⟩ => ⟨S640x2048, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_34 : BitVec 32 := 0#32
  let v37 : BitVec 1 := Scalar.cmpi .ne v36 c0_i32_34
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFdhIdeal.lean ====
abbrev S1x2048x5632 : Shape := ⟨3, ![1, 2048, 5632]⟩
abbrev S1x8320x5632 : Shape := ⟨3, ![1, 8320, 5632]⟩
abbrev S1x8320x2048 : Shape := ⟨3, ![1, 8320, 2048]⟩
abbrev S_ : Shape := ⟨0, ![]⟩
abbrev S2048x5632 : Shape := ⟨2, ![2048, 5632]⟩
abbrev S8320x2048 : Shape := ⟨2, ![8320, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x2048x5632, .f32⟩
  | .hbm, ⟨2, _⟩ => ⟨S1x8320x5632, .f32⟩
  | .hbm, ⟨3, _⟩ => ⟨S1x8320x5632, .f32⟩
  | .hbm, ⟨4, _⟩ => ⟨S1x8320x2048, .f32⟩
  | .hbm, ⟨5, _⟩ => ⟨S_, .f32⟩
  | .hbm, ⟨6, _⟩ => ⟨S1x8320x2048, .f32⟩
  | .hbm, ⟨7, _⟩ => ⟨S_, .f32⟩
  | .hbm, ⟨8, _⟩ => ⟨S1x8320x2048, .f32⟩
  | .hbm, ⟨9, _⟩ => ⟨S1x8320x2048, .f32⟩
  | .hbm, ⟨10, _⟩ => ⟨S2048x5632, .f32⟩
  | .hbm, ⟨11, _⟩ => ⟨S1x8320x5632, .f32⟩
  | .hbm, ⟨12, _⟩ => ⟨S2048x5632, .f32⟩
  | .hbm, ⟨13, _⟩ => ⟨S1x8320x5632, .f32⟩
  | .hbm, ⟨14, _⟩ => ⟨S1x8320x2048, .f32⟩
  | .hbm, ⟨15, _⟩ => ⟨S1x8320x2048, .f32⟩
  | .hbm, ⟨16, _⟩ => ⟨S1x8320x2048, .f32⟩
  | .hbm, ⟨17, _⟩ => ⟨S_, .f32⟩
  | .hbm, ⟨18, _⟩ => ⟨S1x8320x2048, .f32⟩
  | .hbm, ⟨19, _⟩ => ⟨S1x8320x2048, .f32⟩
  | .hbm, ⟨20, _⟩ => ⟨S1x8320x2048, .f32⟩
  | .hbm, ⟨21, _⟩ => ⟨S8320x2048, .f32⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== KernelGw.lean ====
abbrev S1x8320x2048 : Shape := ⟨3, ![1, 8320, 2048]⟩
abbrev S1x8320x11264 : Shape := ⟨3, ![1, 8320, 11264]⟩
abbrev S8320x2048 : Shape := ⟨2, ![8320, 2048]⟩
abbrev S8320x11264 : Shape := ⟨2, ![8320, 11264]⟩
abbrev S8x2048x1408 : Shape := ⟨3, ![8, 2048, 1408]⟩
abbrev S1664x2048 : Shape := ⟨2, ![1664, 2048]⟩
abbrev S1664x1408 : Shape := ⟨2, ![1664, 1408]⟩
abbrev S1x2048x1408 : Shape := ⟨3, ![1, 2048, 1408]⟩
abbrev S2048x1408 : Shape := ⟨2, ![2048, 1408]⟩

abbrev nBuf : Space → Nat
  | .hbm => 7
  | .vmem => 7
  | .smem => 0
  | _ => 0

abbrev bufTy : (tb : Table) → Fin (tcTables nBuf tb) → BufTy
  | .hbm, ⟨0, _⟩ => ⟨S1x8320x2048, .f32⟩
  | .hbm, ⟨1, _⟩ => ⟨S1x8320x11264, .f32⟩
  | .hbm, ⟨2, _⟩ => ⟨S8320x2048, .f32⟩
  | .hbm, ⟨3, _⟩ => ⟨S8320x2048, .bf16⟩
  | .hbm, ⟨4, _⟩ => ⟨S8320x11264, .f32⟩
  | .hbm, ⟨5, _⟩ => ⟨S8320x11264, .bf16⟩
  | .hbm, ⟨6, _⟩ => ⟨S8x2048x1408, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1408, .bf16⟩
  | .local _ .vmem, ⟨3, _⟩ => ⟨S1664x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGwIdeal.lean ====
abbrev S1x8320x2048 : Shape := ⟨3, ![1, 8320, 2048]⟩
abbrev S1x8320x11264 : Shape := ⟨3, ![1, 8320, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x8320x11264, .f32⟩
  | .hbm, ⟨2, _⟩ => ⟨S_, .f32⟩
  | .hbm, ⟨3, _⟩ => ⟨S2048x11264, .f32⟩
  | .hbm, ⟨4, _⟩ => ⟨S1x8320x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGwr.lean ====
abbrev S1x8320x2048 : Shape := ⟨3, ![1, 8320, 2048]⟩
abbrev S8320x2048 : Shape := ⟨2, ![8320, 2048]⟩
abbrev S8x256x2048 : Shape := ⟨3, ![8, 256, 2048]⟩
abbrev S1664x256 : Shape := ⟨2, ![1664, 256]⟩
abbrev S1664x2048 : Shape := ⟨2, ![1664, 2048]⟩
abbrev S1x256x2048 : Shape := ⟨3, ![1, 256, 2048]⟩
abbrev S256x2048 : Shape := ⟨2, ![256, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x8320x2048, .f32⟩
  | .hbm, ⟨1, _⟩ => ⟨S1x8320x2048, .f32⟩
  | .hbm, ⟨2, _⟩ => ⟨S8320x2048, .f32⟩
  | .hbm, ⟨3, _⟩ => ⟨S8320x2048, .bf16⟩
  | .hbm, ⟨4, _⟩ => ⟨S8320x2048, .f32⟩
  | .hbm, ⟨5, _⟩ => ⟨S8320x2048, .bf16⟩
  | .hbm, ⟨6, _⟩ => ⟨S8x256x2048, .bf16⟩
  | .local _ .vmem, ⟨0, _⟩ => ⟨S1664x256, .bf16⟩
  | .local _ .vmem, ⟨1, _⟩ => ⟨S1664x256, .bf16⟩
  | .local _ .vmem, ⟨2, _⟩ => ⟨S1664x2048, .bf16⟩
  | .local _ .vmem, ⟨3, _⟩ => ⟨S1664x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S1x8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceGwrIdeal.lean ====
abbrev S1x8320x2048 : Shape := ⟨3, ![1, 8320, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x8320x2048, .f32⟩
  | .hbm, ⟨1, _⟩ => ⟨S1x8320x2048, .f32⟩
  | .hbm, ⟨2, _⟩ => ⟨S_, .f32⟩
  | .hbm, ⟨3, _⟩ => ⟨S2048x2048, .f32⟩
  | .hbm, ⟨4, _⟩ => ⟨S1x8320x2048, .f32⟩
  | .hbm, ⟨5, _⟩ => ⟨S2048x2048, .f32⟩
  | .hbm, ⟨6, _⟩ => ⟨S2048x2048, .f32⟩
  | .hbm, ⟨7, _⟩ => ⟨S8x256x2048, .f32⟩
  | .hbm, ⟨8, _⟩ => ⟨S8x256x2048, .bf16⟩
  | _, _ => ⟨S1x8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFdw.lean ====
abbrev S1x8320x5632 : Shape := ⟨3, ![1, 8320, 5632]⟩
abbrev S1x8320x2048 : Shape := ⟨3, ![1, 8320, 2048]⟩
abbrev S8320x5632 : Shape := ⟨2, ![8320, 5632]⟩
abbrev S8320x8x704 : Shape := ⟨3, ![8320, 8, 704]⟩
abbrev S8x8320x704 : Shape := ⟨3, ![8, 8320, 704]⟩
abbrev S8320x2048 : Shape := ⟨2, ![8320, 2048]⟩
abbrev S8x704x2048 : Shape := ⟨3, ![8, 704, 2048]⟩
abbrev S1x1664x704 : Shape := ⟨3, ![1, 1664, 704]⟩
abbrev S1664x2048 : Shape := ⟨2, ![1664, 2048]⟩
abbrev S1x704x2048 : Shape := ⟨3, ![1, 704, 2048]⟩
abbrev S704x2048 : Shape := ⟨2, ![704, 2048]⟩
abbrev S1664x704 : Shape := ⟨2, ![1664, 704]⟩

abbrev nBuf : Space → Nat
  | .hbm => 9
  | .vmem => 7
  | .smem => 0
  | _ => 0

abbrev bufTy : (tb : Table) → Fin (tcTables nBuf tb) → BufTy
  | .hbm, ⟨0, _⟩ => ⟨S1x8320x5632, .f32⟩
  | .hbm, ⟨1, _⟩ => ⟨S1x8320x2048, .f32⟩
  | .hbm, ⟨2, _⟩ => ⟨S8320x5632, .f32⟩
  | .hbm, ⟨3, _⟩ => ⟨S8320x5632, .bf16⟩
  | .hbm, ⟨4, _⟩ => ⟨S8320x8x704, .bf16⟩
  | .hbm, ⟨5, _⟩ => ⟨S8x8320x704, .bf16⟩
  | .hbm, ⟨6, _⟩ => ⟨S8320x2048, .f32⟩
  | .hbm, ⟨7, _⟩ => ⟨S8320x2048, .bf16⟩
  | .hbm, ⟨8, _⟩ => ⟨S8x704x2048, .bf16⟩
  | .local _ .vmem, ⟨0, _⟩ => ⟨S1x1664x704, .bf16⟩
  | .local _ .vmem, ⟨1, _⟩ => ⟨S1x1664x704, .bf16⟩
  | .local _ .vmem, ⟨2, _⟩ => ⟨S1664x2048, .bf16⟩
  | .local _ .vmem, ⟨3, _⟩ => ⟨S1664x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S1x8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1664x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceFdwIdeal.lean ====
abbrev S1x8320x5632 : Shape := ⟨3, ![1, 8320, 5632]⟩
abbrev S1x8320x2048 : Shape := ⟨3, ![1, 8320, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x8320x5632, .f32⟩
  | .hbm, ⟨1, _⟩ => ⟨S1x8320x2048, .f32⟩
  | .hbm, ⟨2, _⟩ => ⟨S_, .f32⟩
  | .hbm, ⟨3, _⟩ => ⟨S5632x2048, .f32⟩
  | .hbm, ⟨4, _⟩ => ⟨S1x8320x2048, .f32⟩
  | .hbm, ⟨5, _⟩ => ⟨S2048x5632, .f32⟩
  | .hbm, ⟨6, _⟩ => ⟨S5632x2048, .f32⟩
  | .hbm, ⟨7, _⟩ => ⟨S8x704x2048, .f32⟩
  | .hbm, ⟨8, _⟩ => ⟨S8x704x2048, .bf16⟩
  | _, _ => ⟨S1x8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdam.lean ====
abbrev S2048x1408 : Shape := ⟨2, ![2048, 1408]⟩
abbrev S8x2048x1408 : Shape := ⟨3, ![8, 2048, 1408]⟩
abbrev S256x1408 : Shape := ⟨2, ![256, 1408]⟩
abbrev S8x256x1408 : Shape := ⟨3, ![8, 256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S8x2048x1408, .bf16⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S8x256x1408, .bf16⟩
  | .local _ .vmem, ⟨7, _⟩ => ⟨S8x256x1408, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S2048x1408 : Shape := ⟨2, ![2048, 1408]⟩
abbrev S8x2048x1408 : Shape := ⟨3, ![8, 2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S8x2048x1408, .bf16⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Scalars.lean ====
/- The extended reals at real arguments: the lemmas with which a term read at an index is carried from `EReal` to `ℝ`,
   where the algebra is done. -/
module

public import Idealize.ShloMosaic.Lib.Pointwise

@[expose] public section

noncomputable section

namespace Cert.Scalars

open Idealize.ShloMosaic

/-- The single precision pattern of infinity. -/
theorem ofBits_top : Ideal.ofBits .f32 0x7F800000#32 = ⊤ := by simp [Ideal.ofBits, Ideal.ieee]

/-- The single precision pattern of minus infinity. -/
theorem ofBits_bot : Ideal.ofBits .f32 0xFF800000#32 = ⊥ := by simp [Ideal.ofBits, Ideal.ieee]

/-- A number whose absolute value is below infinity is a real. -/
theorem real_of_abs_lt {y : Ideal .f32} (h : BitVec.ofBool (decide (FloatOps.absf y < Ideal.ofBits .f32 0x7F800000#32)) = 1#1) :
    ∃ r : ℝ, y = (r : EReal) := by
  rw [ofBits_top, Ideal.absf_def] at h
  have h2 : max y (-y) < ⊤ := by
    by_contra hn
    rw [decide_eq_false hn] at h
    exact absurd h (by decide)
  induction y using EReal.rec with
  | bot => simp at h2
  | top => simp at h2
  | coe r => exact ⟨r, rfl⟩

/-- An array whose absolute values are below infinity, the comparison being all ones, is an array of reals. -/
theorem reals_of_abs_lt {s : Shape} {x : FVec Ideal s .f32}
    (h : ∀ j, BitVec.ofBool (decide (FloatOps.absf (x j) < Ideal.ofBits .f32 0x7F800000#32)) = 1#1) :
    ∃ r : s.Idx → ℝ, x = fun j => (r j : EReal) :=
  ⟨fun j => (real_of_abs_lt (h j)).choose, funext fun j => (real_of_abs_lt (h j)).choose_spec⟩

/-- A finite sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero is the real quotient. -/
theorem div_real {y : ℝ} (h : y ≠ 0) (x : ℝ) : Ideal.div (x : EReal) (y : EReal) = ((x / y : ℝ) : EReal) := by
  rw [Ideal.div_coe h, ← EReal.coe_mul]
  congr 1
  field_simp

/-- The maximum of two reals. -/
theorem max_coe (a b : ℝ) : max (a : EReal) (b : EReal) = ((max a b : ℝ) : EReal) :=
  (EReal.coe_strictMono.monotone.map_max).symm

/-- The maximum of finitely many reals, one at least, over minus infinity is a real. -/
theorem fold_max_real {ι : Type} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s ha _ ih =>
    obtain ⟨r, hr⟩ := ih
    refine ⟨max (f a) r, ?_⟩
    rw [Finset.fold_cons, hr]
    exact (EReal.coe_strictMono.monotone.map_max).symm

end Cert.Scalars

end
-- ==== Proof.Lb.lean ====
/- The lower bound's logits gradient: the kernel's rows and the derivative of the softmax read at an index. -/
module

public import proofs.«01_k».proof.Defs
public import proofs.«01_k».proof.Proof.Gen.KernelLb.Frame
public import proofs.«01_k».proof.Proof.Gen.KernelLbIdeal.Value
public import proofs.«01_k».proof.Proof.Gen.ReferenceLbIdeal.Run
public import proofs.«01_k».proof.Proof.Scalars

@[expose] public section

noncomputable section

namespace Cert.Proof

open Idealize.ShloMosaic Idealize.SL.Sem Cert.Scalars

/-- The two-row sum from below, read at row 0 and at row 1: each row plus the rows after it. -/
theorem rev_cumsum_apply (z : FVec Ideal ReferenceLbIdeal.S2x1024 .f32) (v : FVec Ideal ReferenceLbIdeal.S_ .f32) (h hu) (l : Fin 1024) :
    Host.reduceWindowAdd (t := ReferenceLbIdeal.S2x1024) ![2, 1] ![1, 1] ![0, 0] ![1, 0] z v h hu (ix2 0 l)
      = v (Shape.Idx.first hu) + z (ix2 0 l) + z (ix2 1 l)
    ∧ Host.reduceWindowAdd (t := ReferenceLbIdeal.S2x1024) ![2, 1] ![1, 1] ![0, 0] ![1, 0] z v h hu (ix2 1 l)
      = v (Shape.Idx.first hu) + z (ix2 1 l) + v (Shape.Idx.first hu) := by
  have hw0 : (⟨2, ![2, 1]⟩ : Shape).rowMajor.symm ⟨0, by decide⟩ = (ix2 0 0 : (⟨2, ![2, 1]⟩ : Shape).Idx) := by decide
  have hw1 : (⟨2, ![2, 1]⟩ : Shape).rowMajor.symm ⟨1, by decide⟩ = (ix2 1 0 : (⟨2, ![2, 1]⟩ : Shape).Idx) := by decide
  have hf : List.finRange (⟨2, ![2, 1]⟩ : Shape).numel = [⟨0, by decide⟩, ⟨1, by decide⟩] := by decide
  constructor <;>
  · simp only [Host.reduceWindowAdd, Ideal.hostReduceWindowAdd_def, Ideal.hostReduceWindowAdd, Host.reduceWindow]
    rw [hf]
    simp only [List.foldl_cons, List.foldl_nil, hw0, hw1]
    simp [Fin.forall_fin_two]
    congr 2 <;> (try apply congrArg z) <;>
    · funext a
      refine Fin.ext ?_
      fin_cases a <;> simp
/-- The kernel's result at row 0: its first store's payload. -/
theorem kernel_lb_row0 (x : FVec Ideal KernelLbIdeal.S2x1024 .f32) (d : FVec Ideal KernelLbIdeal.S1x1024 .f32) (l : Fin 1024) :
    KernelLbIdeal.Value.G2 (F := Ideal) x d (ix2 0 l) = KernelLbIdeal.Gen.k0_pay1 (F := Ideal) x d (ix2 0 l) := by
  have e : (ix2 0 l : KernelLbIdeal.S2x1024.Idx) = KernelLbIdeal.Gen.r0_2.emb (ix2 0 l : KernelLbIdeal.S1x1024.Idx) := by
    funext a; refine Fin.ext ?_
    match a with
    | ⟨0, _⟩ => show 0 = 0 + 1 * 0; rfl
    | ⟨1, _⟩ => show l.val = 0 + 1 * l.val; omega
  refine (View.canon_cons_of_not_mem _ _ ?_).trans ?_
  · rw [Rect.mem_set_unit]
    intro h
    exact absurd (h 0).1 (by show ¬ (1 ≤ 0); omega)
  · rw [e]
    exact View.canon_cons_emb _ _ _ _

/-- The kernel's result at row 1: its second store's payload. -/
theorem kernel_lb_row1 (x : FVec Ideal KernelLbIdeal.S2x1024 .f32) (d : FVec Ideal KernelLbIdeal.S1x1024 .f32) (l : Fin 1024) :
    KernelLbIdeal.Value.G2 (F := Ideal) x d (ix2 1 l) = KernelLbIdeal.Gen.k0_pay2 (F := Ideal) x d (ix2 0 l) := by
  have e : (ix2 1 l : KernelLbIdeal.S2x1024.Idx) = KernelLbIdeal.Gen.r0_3.emb (ix2 0 l : KernelLbIdeal.S1x1024.Idx) := by
    funext a; refine Fin.ext ?_
    match a with
    | ⟨0, _⟩ => show 1 = 1 + 1 * 0; rfl
    | ⟨1, _⟩ => show l.val = 0 + 1 * l.val; omega
  rw [e]
  exact View.canon_cons_emb _ _ _ _

/-- Row 0 over the extended reals, at a real cotangent `d`, logits `a` and `b` and shift `M`: the derivative of the
    softmax as the reference has it, against the kernel's product with its own shift. -/
theorem softmax_grad_row0 (d a b M : ℝ) :
    (Ideal.div (d : EReal) (Ideal.exp (a - max ⊥ (M : EReal)) + Ideal.exp (b - max ⊥ (M : EReal))) +
        ∑ _x : Fin 1,
          -(d * Ideal.div 1 ((Ideal.exp (a - max ⊥ (M : EReal)) + Ideal.exp (b - max ⊥ (M : EReal))) *
                (Ideal.exp (a - max ⊥ (M : EReal)) + Ideal.exp (b - max ⊥ (M : EReal)))) * Ideal.exp (a - max ⊥ (M : EReal)) +
              0 * Ideal.div 1 ((Ideal.exp (a - max ⊥ (M : EReal)) + Ideal.exp (b - max ⊥ (M : EReal))) *
                (Ideal.exp (a - max ⊥ (M : EReal)) + Ideal.exp (b - max ⊥ (M : EReal)))) * Ideal.exp (b - max ⊥ (M : EReal)))) *
      Ideal.exp (a - max ⊥ (M : EReal))
    = d * Ideal.div (Ideal.exp (a - max (a : EReal) b)) (Ideal.exp (a - max (a : EReal) b) + Ideal.exp (b - max (a : EReal) b)) *
      (1 - Ideal.div (Ideal.exp (a - max (a : EReal) b)) (Ideal.exp (a - max (a : EReal) b) + Ideal.exp (b - max (a : EReal) b))) := by
  have h1 (N : ℝ) : Real.exp (a - N) + Real.exp (b - N) ≠ 0 := by positivity
  have h2 : (Real.exp (a - M) + Real.exp (b - M)) * (Real.exp (a - M) + Real.exp (b - M)) ≠ 0 := by positivity
  simp only [max_bot_left, Finset.sum_const, Finset.card_univ, Fintype.card_fin, one_smul, max_coe, ← EReal.coe_one,
    ← EReal.coe_zero, ← EReal.coe_sub, Ideal.exp_coe, ← EReal.coe_add, ← EReal.coe_mul, ← EReal.coe_neg, div_real (h1 _), div_real h2]
  rw [EReal.coe_eq_coe_iff]
  generalize max a b = N
  simp only [Real.exp_sub]
  have := Real.exp_pos a; have := Real.exp_pos b; have := Real.exp_pos M; have := Real.exp_pos N
  field_simp
  ring

/-- Row 1 likewise. -/
theorem softmax_grad_row1 (d a b M : ℝ) :
    (Ideal.div (0 : EReal) (Ideal.exp (a - max ⊥ (M : EReal)) + Ideal.exp (b - max ⊥ (M : EReal))) +
        ∑ _x : Fin 1,
          -(d * Ideal.div 1 ((Ideal.exp (a - max ⊥ (M : EReal)) + Ideal.exp (b - max ⊥ (M : EReal))) *
                (Ideal.exp (a - max ⊥ (M : EReal)) + Ideal.exp (b - max ⊥ (M : EReal)))) * Ideal.exp (a - max ⊥ (M : EReal)) +
              0 * Ideal.div 1 ((Ideal.exp (a - max ⊥ (M : EReal)) + Ideal.exp (b - max ⊥ (M : EReal))) *
                (Ideal.exp (a - max ⊥ (M : EReal)) + Ideal.exp (b - max ⊥ (M : EReal)))) * Ideal.exp (b - max ⊥ (M : EReal)))) *
      Ideal.exp (b - max ⊥ (M : EReal))
    = 0 - d * Ideal.div (Ideal.exp (a - max (a : EReal) b)) (Ideal.exp (a - max (a : EReal) b) + Ideal.exp (b - max (a : EReal) b)) *
      (1 - Ideal.div (Ideal.exp (a - max (a : EReal) b)) (Ideal.exp (a - max (a : EReal) b) + Ideal.exp (b - max (a : EReal) b))) := by
  have h1 (N : ℝ) : Real.exp (a - N) + Real.exp (b - N) ≠ 0 := by positivity
  have h2 : (Real.exp (a - M) + Real.exp (b - M)) * (Real.exp (a - M) + Real.exp (b - M)) ≠ 0 := by positivity
  simp only [max_bot_left, Finset.sum_const, Finset.card_univ, Fintype.card_fin, one_smul, max_coe, ← EReal.coe_one,
    ← EReal.coe_zero, ← EReal.coe_sub, Ideal.exp_coe, ← EReal.coe_add, ← EReal.coe_mul, ← EReal.coe_neg, div_real (h1 _), div_real h2]
  rw [EReal.coe_eq_coe_iff]
  generalize max a b = N
  simp only [Real.exp_sub]
  have := Real.exp_pos a; have := Real.exp_pos b; have := Real.exp_pos M; have := Real.exp_pos N
  field_simp
  ring

set_option maxHeartbeats 1000000 in
/-- The gradient of the forget gates' lower bound: the kernel's two rows are the reference's, at finite arguments. -/
theorem algebraic_lb [hPre : Cert.Pre_finite_lb.Facts] : algebraic_KernelLbIdeal_ReferenceLbIdeal_pre_finite_lb := by
  intro m ρ m' ρ' hpre hagree
  refine ⟨_, Cert.KernelLbIdeal.Value.run (F := Ideal) m ρ, ?_⟩
  refine (θ_run Cert.ReferenceLbIdeal.defs _ _).mono (fun _ h c => ⟨?_, (h c).2⟩) (Cert.ReferenceLbIdeal.Value.run (F := Ideal) m' ρ')
  rw [(h c).1]
  simp only [hagree c]
  obtain ⟨h0, h1⟩ := hpre c
  generalize m ((c.tc : Thread Cert.KernelLbIdeal.nD Cert.KernelLbIdeal.τ).loc Cert.KernelLbIdeal.main_arg0) = x at *
  generalize m ((c.tc : Thread Cert.KernelLbIdeal.nD Cert.KernelLbIdeal.τ).loc Cert.KernelLbIdeal.main_arg1) = d at *
  change FVec Ideal ReferenceLbIdeal.S2x1024 .f32 at x
  change FVec Ideal ReferenceLbIdeal.S1x1024 .f32 at d
  have hx : ∀ j, ∃ r : ℝ, x j = (r : EReal) := fun j => real_of_abs_lt (by
    have := congrFun h0 j
    simp only [Cert.Pre_finite_lb.fn] at this
    pointwise at this
    exact this)
  have hd : ∀ j, ∃ r : ℝ, d j = (r : EReal) := fun j => real_of_abs_lt (by
    have := congrFun h1 j
    simp only [Cert.Pre_finite_lb.fn] at this
    pointwise at this
    exact this)
  clear h0 h1 h hpre
  choose xr hx using hx
  choose dr hd using hd
  obtain rfl : x = fun j => (xr j : EReal) := funext hx
  obtain rfl : d = fun j => (dr j : EReal) := funext hd
  funext j
  change Cert.KernelLbIdeal.S2x1024.Idx at j
  obtain ⟨r, l, rfl⟩ : ∃ (r : Fin 2) (l : Fin 1024), j = ix2 r l := ⟨j 0, j 1, by funext a; fin_cases a <;> rfl⟩
  pointwise
  generalize hM : Finset.fold max (Ideal.ofBits .f32 0xFF800000#32) _ _ = M
  obtain ⟨M, rfl⟩ : ∃ r : ℝ, M = (r : EReal) := by
    rw [← hM, ofBits_bot]
    refine fold_max_real _ ⟨ix2 0 l, ?_⟩ _
    simp only [Finset.mem_filter, Finset.mem_univ, true_and]
    exact (Shape.ReducesTo.fiber_r2_a0 _ _ _).2 ⟨0, rfl⟩
  simp only [ofBits_bot, Fin.sum_univ_two, (rev_cumsum_apply _ _ _ _ l).1, (rev_cumsum_apply _ _ _ _ l).2]
  fin_cases r
  · simp only [Fin.zero_eta, (rev_cumsum_apply _ _ _ _ l).1, kernel_lb_row0]
    unfold_payloads
    pointwise
    exact softmax_grad_row0 _ _ _ _
  · simp only [Fin.mk_one, (rev_cumsum_apply _ _ _ _ l).2, kernel_lb_row1]
    unfold_payloads
    pointwise
    exact softmax_grad_row1 _ _ _ _

end Cert.Proof

end
-- ==== Proof.Reals.lean ====
/- Arrays of reals: the operations of a program, ideally, at arrays all of whose elements are reals. A composed term of
   such arrays is rewritten from the inside out to one array of reals, and the algebra is done there. -/
module

public import proofs.«01_k».proof.Proof.Scalars
public import Idealize.ShloMosaic.Lib.Pointwise

@[expose] public section

noncomputable section

namespace Cert.Reals

open Idealize.ShloMosaic Cert.Scalars

/-- An array of reals as an array of the ideal floats of a format. -/
def up {s : Shape} {φ : FTy} (x : s.Idx → ℝ) : FVec Ideal s φ := fun j => ((x j : ℝ) : EReal)

/-- … in single precision. -/
abbrev up32 {s : Shape} (x : s.Idx → ℝ) : FVec Ideal s .f32 := up x
/-- … in half precision. -/
abbrev up16 {s : Shape} (x : s.Idx → ℝ) : FVec Ideal s .bf16 := up x

/-- An array whose absolute values are below infinity is one of reals. -/
theorem up_of_abs_lt {s : Shape} {x : FVec Ideal s .f32}
    (h : ∀ j, BitVec.ofBool (decide (FloatOps.absf (x j) < Ideal.ofBits .f32 0x7F800000#32)) = 1#1) : ∃ r, x = up32 r :=
  reals_of_abs_lt h

section Elementwise
variable {s t u : Shape} {φ ψ : FTy} (a b : s.Idx → ℝ)

/-- An element of an array of reals. -/
theorem up_apply (j : s.Idx) : (up a : FVec Ideal s φ) j = ((a j : ℝ) : EReal) := rfl
/-- The same numbers read in another format. -/
theorem fun_up : (fun j => ((a j : ℝ) : EReal)) = (up a : FVec Ideal s φ) := rfl

/-- The sum of an array of reals is taken real by real. -/
theorem up_add : addf (up a : FVec Ideal s φ) (up b) = up (fun j => a j + b j) := by
  funext j; exact (EReal.coe_add _ _).symm
/-- The difference of an array of reals is taken real by real. -/
theorem up_sub : subf (up a : FVec Ideal s φ) (up b) = up (fun j => a j - b j) := by
  funext j; exact (EReal.coe_sub _ _).symm
/-- The product of an array of reals is taken real by real. -/
theorem up_mul : mulf (up a : FVec Ideal s φ) (up b) = up (fun j => a j * b j) := by
  funext j; exact (EReal.coe_mul _ _).symm
/-- The negative, on the host, of an array of reals is taken real by real. -/
theorem up_host_neg : Host.negf (up a : FVec Ideal s φ) = up (fun j => -a j) := by
  funext j; exact (EReal.coe_neg _).symm
/-- The negative of an array of reals is taken real by real. -/
theorem up_neg : negf (up a : FVec Ideal s φ) = up (fun j => -a j) := by
  funext j; exact (EReal.coe_neg _).symm
/-- The narrowing cast of an array of reals is taken real by real. -/
theorem up_trunc (h : ψ.bits < φ.bits) : truncf ψ (up a : FVec Ideal s φ) h = (up a : FVec Ideal s ψ) := rfl
/-- The widening cast of an array of reals is taken real by real. -/
theorem up_ext (h : φ.bits < ψ.bits) : extf ψ (up a : FVec Ideal s φ) h = (up a : FVec Ideal s ψ) := rfl
/-- The cast of an array of reals is taken real by real. -/
theorem up_convert : Host.convertf ψ (up a : FVec Ideal s φ) = (up a : FVec Ideal s ψ) := rfl

/-- A quotient of arrays of reals whose denominator vanishes nowhere. -/
theorem up_host_div (h : ∀ j, b j ≠ 0) : Host.divf (up a : FVec Ideal s φ) (up b) = up (fun j => a j / b j) := by
  funext j; exact div_real (h j) _
/-- The quotient of an array of reals is taken real by real. -/
theorem up_div (h : ∀ j, b j ≠ 0) : divf (up a : FVec Ideal s φ) (up b) = up (fun j => a j / b j) := by
  funext j; exact div_real (h j) _
/-- The same with a constant denominator. -/
theorem up_host_div_const {c : ℝ} (h : c ≠ 0) : Host.divf (up a : FVec Ideal s φ) (up fun _ => c) = up (fun j => a j / c) :=
  up_host_div _ _ fun _ => h
/-- The quotient by a constant of an array of reals is taken real by real. -/
theorem up_div_const {c : ℝ} (h : c ≠ 0) : divf (up a : FVec Ideal s φ) (up fun _ => c) = up (fun j => a j / c) :=
  up_div _ _ fun _ => h

/-- One over the square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']
/-- The inverse root, on the host, of an array of reals is taken real by real. -/
theorem up_host_rsqrt (h : ∀ j, 0 < a j) : Host.rsqrt (up a : FVec Ideal s φ) = up (fun j => (Real.sqrt (a j))⁻¹) := by
  funext j; exact rsqrt_real (h j)
/-- The inverse root of an array of reals is taken real by real. -/
theorem up_rsqrt (h : ∀ j, 0 < a j) : rsqrt (up a : FVec Ideal s φ) = up (fun j => (Real.sqrt (a j))⁻¹) := by
  funext j; exact rsqrt_real (h j)

/-- The exponential of an array of reals is taken real by real. -/
theorem up_exp : exp (up a : FVec Ideal s φ) = up (fun j => Real.exp (a j)) := by
  funext j; exact Ideal.exp_coe (a j)
/-- The exponential, on the host, of an array of reals is taken real by real. -/
theorem up_host_exp : Host.exp (up a : FVec Ideal s φ) = up (fun j => Real.exp (a j)) := by
  funext j; exact Ideal.exp_coe (a j)

/-- A product of reals from a zero accumulator, and one with none. -/
theorem dot_coe {ι : Type} [Fintype ι] (f g : ι → ℝ) : ((0 : ℝ) : EReal) + ∑ k, (f k : EReal) * (g k : EReal) = ((∑ k, f k * g k : ℝ) : EReal) := by
  rw [EReal.coe_zero, zero_add]
  exact (Finset.sum_congr rfl fun k _ => (EReal.coe_mul _ _).symm).trans (sum_coe _ _)
/-- A sum of products of reals is the real sum. -/
theorem host_dot_coe {ι : Type} [Fintype ι] (f g : ι → ℝ) : ∑ k, (f k : EReal) * (g k : EReal) = ((∑ k, f k * g k : ℝ) : EReal) := by
  exact (Finset.sum_congr rfl fun k _ => (EReal.coe_mul _ _).symm).trans (sum_coe _ _)

/-- A constant array, given the real its pattern names. -/
theorem up_constant {p : BitVec φ.bits} {r : ℝ} (h : (Ideal.ofBits φ p : EReal) = (r : EReal)) :
    (constant s φ p : FVec Ideal s φ) = up (fun _ => r) := by
  funext j; exact h

/-- The spreading of an array of reals is taken real by real. -/
theorem up_bcastIn (dims : Fin s.rank → Fin t.rank) (h : s.BroadcastsInDim t dims) :
    broadcastInDim t dims h (up a : FVec Ideal s φ) = (up (broadcastInDim t dims h a) : FVec Ideal t φ) := rfl
/-- A constant spread over an array is that constant. -/
theorem bcastIn_const (dims : Fin s.rank → Fin t.rank) (h : s.BroadcastsInDim t dims) (r : ℝ) :
    broadcastInDim t dims h (fun _ => r) = fun _ => r := rfl
/-- The reshape of an array of reals is taken real by real. -/
theorem up_shapeCast (h : s.ShapeCasts t) :
    shapeCast t (up a : FVec Ideal s φ) h = (up (shapeCast t a h) : FVec Ideal t φ) := rfl
/-- The spreading of an array of reals is taken real by real. -/
theorem up_bcastTo (h : s.Broadcasts t) :
    broadcastTo t (up a : FVec Ideal s φ) h = (up (broadcastTo t a h) : FVec Ideal t φ) := rfl
/-- A slice of an array of reals, and one padded with a real. -/
theorem up_slice (off : Fin s.rank → Nat) (h : s.Slices off t) :
    extractStridedSlice t off (up a : FVec Ideal s φ) h = (up (extractStridedSlice t off a h) : FVec Ideal t φ) := rfl
/-- The padding of an array of reals is taken real by real. -/
theorem up_pad (lo hi interior : Fin s.rank → Nat) (z : u.Idx → ℝ) (h : s.Pads lo hi interior t) (hu : 0 < u.numel) :
    pad t lo hi interior (up a : FVec Ideal s φ) (up z : FVec Ideal u φ) h hu = (up (pad t lo hi interior a z h hu) : FVec Ideal t φ) := by
  funext j
  rw [up_apply, pad_apply, pad_apply]
  split <;> rfl
/-- A scalar spread over an array. -/
theorem up_bcast (r : ℝ) : (broadcast s ((r : EReal) : Ideal φ) : FVec Ideal s φ) = up (fun _ => r) := rfl

/-- A sum over axes, from zero, on the host. -/
theorem up_host_sum {axes : List (Fin s.rank)} (z : u.Idx → ℝ) (hz : ∀ j, z j = 0) (h : s.ReducesTo axes t) (hu : 0 < u.numel) :
    Host.reduceAdd (up a : FVec Ideal s φ) (up z : FVec Ideal u φ) h hu
      = up (fun j => ∑ i ∈ Finset.univ.filter (fun i => h.drop i = j), a i) := by
  funext j
  show ((z _ : ℝ) : EReal) + _ = _
  rw [hz, EReal.coe_zero, zero_add]
  exact sum_coe _ _
/-- A sum over axes on the vector unit. -/
theorem up_sum {axes : List (Fin s.rank)} (h : s.Reduces axes t) (hφ : FKind.Formats .f32) (hacc : 0x00000000#32 = 0x00000000#32) :
    multiReduction (φ := .f32) .add axes t (up a) 0x00000000#32 h hφ hacc
      = up (fun j => ∑ i ∈ Finset.univ.filter (fun i => h.drop i = j), a i) := by
  funext j
  refine (multiReduction_add_apply _ _ h hφ hacc j).trans ?_
  rw [Ideal.reduceAdd_def]
  exact sum_coe _ _

end Elementwise

section Literals

/-- The weight of the residual's input, as rounded. -/
def alpha : ℝ := 9975792 / 8388608
/-- The variance's shift, as rounded. -/
def eps : ℝ := 10995116 / 1099511627776

/-- The offset is positive. -/
theorem eps_pos : 0 < eps := by unfold eps; norm_num

/-- The word read as a number: 0. -/
theorem bits_zero : Ideal.ofBits .f32 0x00000000#32 = ((0 : ℝ) : EReal) := by
  simp [Ideal.ofBits, Ideal.ieee, -EReal.coe_mul]
/-- The word read as a number: 1. -/
theorem bits_one : Ideal.ofBits .f32 0x3F800000#32 = ((1 : ℝ) : EReal) := by
  simp [Ideal.ofBits, Ideal.ieee, -EReal.coe_mul]; norm_num
/-- The word read as a number: 2. -/
theorem bits_two : Ideal.ofBits .f32 0x40000000#32 = ((2 : ℝ) : EReal) := by
  simp [Ideal.ofBits, Ideal.ieee, -EReal.coe_mul]; norm_num
/-- The word read as a number: 1/2. -/
theorem bits_half : Ideal.ofBits .f32 0x3F000000#32 = ((1 / 2 : ℝ) : EReal) := by
  simp [Ideal.ofBits, Ideal.ieee, -EReal.coe_mul]; norm_num
/-- The word read as a number: -1/2. -/
theorem bits_neg_half : Ideal.ofBits .f32 0xBF000000#32 = ((-1 / 2 : ℝ) : EReal) := by
  simp [Ideal.ofBits, Ideal.ieee, -EReal.coe_mul]; norm_num
/-- The word read as a number: 2048. -/
theorem bits_2048 : Ideal.ofBits .f32 0x45000000#32 = ((2048 : ℝ) : EReal) := by
  simp [Ideal.ofBits, Ideal.ieee, -EReal.coe_mul]; norm_num
/-- The word read as a number: the offset. -/
theorem bits_eps : Ideal.ofBits .f32 0x3727C5AC#32 = ((eps : ℝ) : EReal) := by
  unfold eps; simp [Ideal.ofBits, Ideal.ieee, -EReal.coe_mul]; norm_num
/-- The word read as a number: the residual's scale. -/
theorem bits_alpha : Ideal.ofBits .f32 0x3F9837F0#32 = ((alpha : ℝ) : EReal) := by
  unfold alpha; simp [Ideal.ofBits, Ideal.ieee, -EReal.coe_mul]; norm_num

end Literals

section UnitAxes
variable {n : Nat} {t : Shape} {M : Type*} [AddCommMonoid M]

/-- An array reduced over its outer axes keeps one axis. -/
theorem rank_outer (h : (⟨3, ![1, n, 1]⟩ : Shape).ReducesTo [0, 2] t) : t.rank = 1 := h.1
/-- So that axis has a number. -/
theorem lt_outer (h : (⟨3, ![1, n, 1]⟩ : Shape).ReducesTo [0, 2] t) : 0 < t.rank := rank_outer h ▸ (by decide)
/-- It has the size of the middle axis. -/
theorem size_outer (h : (⟨3, ![1, n, 1]⟩ : Shape).ReducesTo [0, 2] t) : t.size ⟨0, lt_outer h⟩ = n := h.2 ⟨0, lt_outer h⟩

/-- A sum over the first and the last of three axes, both of size one. -/
@[pointwise] theorem sum_fiber_outer (h : (⟨3, ![1, n, 1]⟩ : Shape).ReducesTo [0, 2] t) (j : t.Idx) (v : (⟨3, ![1, n, 1]⟩ : Shape).Idx → M) :
    ∑ i ∈ Finset.univ.filter (fun i => h.drop i = j), v i
      = v (ix3 0 ⟨(j ⟨0, lt_outer h⟩).val, Shape.coordLt (j ⟨0, lt_outer h⟩) (size_outer h)⟩ 0) := by
  refine (Finset.sum_filter_eq_sum_of_fiber _ (fun _ : Unit => ix3 0 ⟨(j ⟨0, lt_outer h⟩).val, Shape.coordLt (j ⟨0, lt_outer h⟩) (size_outer h)⟩ 0) (fun _ _ _ => rfl) (fun i => ?_) v).trans (by simp)
  constructor
  · intro e
    refine ⟨(), funext fun a => Fin.ext ?_⟩
    match a with
    | ⟨0, _⟩ => exact (Nat.lt_one_iff.mp (i 0).isLt).symm
    | ⟨1, _⟩ => exact (congrArg Fin.val (congrFun e ⟨0, lt_outer h⟩)).symm
    | ⟨2, _⟩ => exact (Nat.lt_one_iff.mp (i 2).isLt).symm
  · rintro ⟨_, rfl⟩
    funext b
    apply Fin.ext
    match b with
    | ⟨0, _⟩ => rfl
    | ⟨_ + 1, hb⟩ => exact absurd hb (by have : t.rank = 1 := h.1; omega)

/-- An array reduced over its first two axes keeps one axis. -/
theorem rank_front (h : (⟨3, ![1, 1, n]⟩ : Shape).ReducesTo [0, 1] t) : t.rank = 1 := h.1
/-- So that axis has a number. -/
theorem lt_front (h : (⟨3, ![1, 1, n]⟩ : Shape).ReducesTo [0, 1] t) : 0 < t.rank := rank_front h ▸ (by decide)
/-- It has the size of the last axis. -/
theorem size_front (h : (⟨3, ![1, 1, n]⟩ : Shape).ReducesTo [0, 1] t) : t.size ⟨0, lt_front h⟩ = n := h.2 ⟨0, lt_front h⟩

/-- A sum over the first two of three axes, both of size one. -/
@[pointwise] theorem sum_fiber_front (h : (⟨3, ![1, 1, n]⟩ : Shape).ReducesTo [0, 1] t) (j : t.Idx) (v : (⟨3, ![1, 1, n]⟩ : Shape).Idx → M) :
    ∑ i ∈ Finset.univ.filter (fun i => h.drop i = j), v i
      = v (ix3 0 0 ⟨(j ⟨0, lt_front h⟩).val, Shape.coordLt (j ⟨0, lt_front h⟩) (size_front h)⟩) := by
  refine (Finset.sum_filter_eq_sum_of_fiber _ (fun _ : Unit => ix3 0 0 ⟨(j ⟨0, lt_front h⟩).val, Shape.coordLt (j ⟨0, lt_front h⟩) (size_front h)⟩) (fun _ _ _ => rfl) (fun i => ?_) v).trans (by simp)
  constructor
  · intro e
    refine ⟨(), funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, lt_front h⟩)).symm
  · rintro ⟨_, rfl⟩
    funext b
    apply Fin.ext
    match b with
    | ⟨0, _⟩ => rfl
    | ⟨_ + 1, hb⟩ => exact absurd hb (by have : t.rank = 1 := h.1; omega)

end UnitAxes

end Cert.Reals

end
-- ==== Proof.LayerNorm.lean ====
/- The gradient of a layer norm over 2048 numbers, in the reals: the kernel's form and the form the chain rule gives. -/
module

public import Idealize.ShloMosaic.Lib.Pointwise

@[expose] public section

noncomputable section

namespace Cert.LayerNorm

open Idealize.ShloMosaic

/-- Row `r` of a tile. -/
def row {n : Nat} (x : (⟨2, ![n, 2048]⟩ : Shape).Idx → ℝ) (r : Fin n) : Fin 2048 → ℝ := fun k => x (ix2 r k)

/-- The mean of 2048 numbers. -/
def mean (x : Fin 2048 → ℝ) : ℝ := (∑ k, x k) / 2048

/-- Their variance, shifted. -/
def spread (e : ℝ) (x : Fin 2048 → ℝ) : ℝ := (∑ k, (x k - mean x) * (x k - mean x)) / 2048 + e

/-- One over the standard deviation. -/
def rstd (e : ℝ) (x : Fin 2048 → ℝ) : ℝ := (Real.sqrt (spread e x))⁻¹

/-- The gradient of the normalised numbers' product with `d`, as the kernel writes it. -/
def grad (e : ℝ) (x d : Fin 2048 → ℝ) (l : Fin 2048) : ℝ :=
  rstd e x * (d l - (∑ k, d k) / 2048 - (x l - mean x) * rstd e x * ((∑ k, d k * ((x k - mean x) * rstd e x)) / 2048))

/-- The variance with its offset is positive. -/
theorem spread_pos {e : ℝ} (he : 0 < e) (x : Fin 2048 → ℝ) : 0 < spread e x := by
  unfold spread
  have : 0 ≤ ∑ k, (x k - mean x) * (x k - mean x) := Finset.sum_nonneg fun k _ => mul_self_nonneg _
  positivity

/-- The numbers less their mean sum to zero. -/
theorem sum_centred (x : Fin 2048 → ℝ) : ∑ k, (x k - mean x) = 0 := by
  rw [Finset.sum_sub_distrib]
  simp [mean]
  ring

/-- The square of the inverse deviation is the inverse of the variance. -/
theorem rstd_sq {e : ℝ} (he : 0 < e) (x : Fin 2048 → ℝ) : rstd e x * rstd e x = 1 / spread e x := by
  unfold rstd
  rw [← mul_inv, Real.mul_self_sqrt (spread_pos he x).le, one_div]

/-- The chain rule's form: through the product, through the variance and through the mean. -/
theorem grad_chain {e : ℝ} (he : 0 < e) (x d : Fin 2048 → ℝ) (l : Fin 2048) :
    d l * rstd e x
      + (∑ k, (x k - mean x) * d k) * (-1 / 2 * (rstd e x / spread e x)) / 2048 * (2 * (x l - mean x))
      + (∑ k, -(d k * rstd e x)
          + ∑ k, -((∑ k, (x k - mean x) * d k) * (-1 / 2 * (rstd e x / spread e x)) / 2048 * (2 * (x k - mean x)))) / 2048
      = grad e x d l := by
  have hz : ∀ P : ℝ, ∑ k, -(P * (2 * (x k - mean x))) = 0 := fun P => by
    have : ∀ k, -(P * (2 * (x k - mean x))) = (-2 * P) * (x k - mean x) := fun k => by ring
    simp only [this]
    rw [← Finset.mul_sum, sum_centred, mul_zero]
  have hd : ∑ k, d k * ((x k - mean x) * rstd e x) = (∑ k, (x k - mean x) * d k) * rstd e x := by
    rw [Finset.sum_mul]
    exact Finset.sum_congr rfl fun k _ => by ring
  have hs : rstd e x / spread e x = rstd e x * (rstd e x * rstd e x) := by
    rw [rstd_sq he]; ring
  rw [hz, hs, Finset.sum_neg_distrib, ← Finset.sum_mul]
  unfold grad
  rw [hd]
  ring

end Cert.LayerNorm

end
-- ==== Proof.Ln2.lean ====
/- The gradient of a layer norm with its residual sum, at finite arguments: what the call computes, and that the
   derivative of the norm's forward lines is the same. -/
module

public import proofs.«01_k».proof.Defs
public import proofs.«01_k».proof.Proof.Gen.KernelLn2.Frame
public import proofs.«01_k».proof.Proof.Gen.KernelLn2Ideal.Value
public import proofs.«01_k».proof.Proof.Gen.ReferenceLn2Ideal.Run
public import proofs.«01_k».proof.Proof.Reals
public import proofs.«01_k».proof.Proof.LayerNorm
public import Idealize.ShloMosaic.Lib.Pipeline.ValueKit

@[expose] public section

noncomputable section

namespace Cert.Proof.Ln2

open Idealize.ShloMosaic Idealize.SL.Sem Idealize.ShloMosaic.TcCoe Cert.Scalars Cert.Reals Cert.LayerNorm
open Cert.KernelLn2Ideal Cert.KernelLn2Ideal.Gen

section
variable (x d : S320x2048.Idx → ℝ) (g : S1x2048.Idx → ℝ)

/-- Value 6 of the body, at blocks of reals. -/
theorem pay6_up : k0_pay6 (F := Ideal) (up32 x) = up32 fun j => x j - mean (row x (j 0)) := by
  unfold k0_pay6
  simp only [Scalar.ofBits, Ideal.ofBits_def, bits_2048, up_bcast, up_shapeCast, up_sum, up_div_const _ (show (2048:ℝ) ≠ 0 by norm_num), up_bcastTo, up_sub]
  refine congrArg up (funext fun j => ?_)
  obtain ⟨r, l, rfl⟩ : ∃ r l, j = ix2 r l := ⟨j 0, j 1, by funext a; fin_cases a <;> rfl⟩
  pointwise
  rfl

/-- Value 7 of the body, at blocks of reals. -/
theorem pay7_up : k0_pay7 (F := Ideal) (up32 x) = up32 fun j => rstd eps (row x (j 0)) := by
  unfold k0_pay7
  simp only [pay6_up, Scalar.ofBits, Ideal.ofBits_def, bits_2048, bits_eps, up_bcast, up_shapeCast, up_sum, up_div_const _ (show (2048:ℝ) ≠ 0 by norm_num), up_bcastTo, up_sub, up_add, up_mul]
  have e : ∀ j : S320x1.Idx, (shapeCast S320x1 (fun j : S320.Idx => ∑ i with reduces_S320x2048_S320.drop i = j, (x i - mean (row x (i 0))) * (x i - mean (row x (i 0)))) shapeCasts_S320_S320x1 j / 2048 + eps) = spread eps (row x (j 0)) := by
    intro j
    obtain ⟨r, l, rfl⟩ : ∃ r l, j = ix2 r l := ⟨j 0, j 1, by funext a; fin_cases a <;> rfl⟩
    pointwise
    rfl
  simp only [e]
  rw [up_rsqrt _ fun j => spread_pos eps_pos _]
  rfl

/-- Value 8 of the body, at blocks of reals. -/
theorem pay8_up : k0_pay8 (F := Ideal) (up32 x) = up32 fun j => (x j - mean (row x (j 0))) * rstd eps (row x (j 0)) := by
  unfold k0_pay8
  simp only [pay6_up, pay7_up, up_bcastTo, up_mul]
  refine congrArg up (funext fun j => ?_)
  obtain ⟨r, l, rfl⟩ : ∃ r l, j = ix2 r l := ⟨j 0, j 1, by funext a; fin_cases a <;> rfl⟩
  pointwise

/-- Value 1 of the body, at blocks of reals. -/
theorem pay1_up : k0_pay1 (F := Ideal) (up32 x) (Scalar.ofBits .f32 0x3F800000#32) = up x := by
  unfold k0_pay1
  simp only [Scalar.ofBits, Ideal.ofBits_def, bits_one, up_bcast, up_mul, up_trunc, one_mul]

/-- Value 2 of the body, at one place. -/
theorem pay2_at (j : S1x2048.Idx) : k0_pay2 (F := Ideal) j = 0 := by
  unfold k0_pay2
  pointwise

/-- Value 3 of the body, at one place. -/
theorem pay3_at (j : S1x2048.Idx) : k0_pay3 (F := Ideal) j = 0 := by
  unfold k0_pay3
  pointwise

/-- Value 4 of the body, at one place. -/
theorem pay4_at (w : FVec Ideal S1x2048 .f32) (j : S1x2048.Idx) :
    k0_pay4 (F := Ideal) (up32 x) (up32 d) w j = w j + ((∑ q : Fin 320, d (ix2 q (j 1)) * x (ix2 q (j 1)) : ℝ) : EReal) := by
  obtain ⟨l, rfl⟩ : ∃ l, j = ix2 0 l := ⟨j 1, by funext a; fin_cases a; exact Fin.ext (Nat.lt_one_iff.mp (j 0).isLt); rfl⟩
  unfold k0_pay4
  simp only [up_mul, up_sum, up_shapeCast]
  pointwise
  simp only [up_apply]
  pointwise

/-- Value 5 of the body, at one place. -/
theorem pay5_at (w : FVec Ideal S1x2048 .f32) (j : S1x2048.Idx) :
    k0_pay5 (F := Ideal) (up32 d) w j = w j + ((∑ q : Fin 320, d (ix2 q (j 1)) : ℝ) : EReal) := by
  obtain ⟨l, rfl⟩ : ∃ l, j = ix2 0 l := ⟨j 1, by funext a; fin_cases a; exact Fin.ext (Nat.lt_one_iff.mp (j 0).isLt); rfl⟩
  unfold k0_pay5
  simp only [up_sum, up_shapeCast]
  pointwise
  simp only [up_apply]
  pointwise

/-- Value 9 of the body, at blocks of reals. -/
theorem pay9_up : k0_pay9 (F := Ideal) (up32 d) = up32 d := by
  unfold k0_pay9
  pointwise

/-- Value 10 of the body, at blocks of reals. -/
theorem pay10_up : k0_pay10 (F := Ideal) (up32 x) (up32 g) (up32 d)
    = up32 fun j => grad eps (row x (j 0)) (fun k => d (ix2 (j 0) k) * g (ix2 0 k)) (j 1) := by
  unfold k0_pay10
  simp only [pay7_up, pay8_up, pay9_up, Scalar.ofBits, Ideal.ofBits_def, bits_2048, up_bcast, up_shapeCast, up_sum, up_div_const _ (show (2048:ℝ) ≠ 0 by norm_num), up_bcastTo, up_sub, up_mul]
  refine congrArg up (funext fun j => ?_)
  obtain ⟨r, l, rfl⟩ : ∃ r l, j = ix2 r l := ⟨j 0, j 1, by funext a; fin_cases a <;> rfl⟩
  pointwise
  rfl
end

section
variable (m : (ℓ : Loc nD τ sig) → Buf (Elt Ideal) ℓ) (c : Dev nD) (h mix ct : S1x8320x2048.Idx → ℝ) (g : S1x2048.Idx → ℝ)
variable (hh : m ((c : Thread nD τ).loc main_arg0) = up32 h) (hm : m ((c : Thread nD τ).loc main_arg1) = up32 mix)
variable (hg : m ((c : Thread nD τ).loc main_arg2) = up32 g) (hc : m ((c : Thread nD τ).loc main_arg4) = up32 ct)

/-- The residual's row. -/
def resid (h mix : S1x8320x2048.Idx → ℝ) (r : Fin 8320) : Fin 2048 → ℝ := fun k => alpha * h (ix3 0 r k) + mix (ix3 0 r k)

include hh hm in
/-- The summed rows as the call finds them in its array. -/
theorem entry_r : V m c (Pipeline.arrRef spec0 0) = up32 fun j : S8320x2048.Idx => resid h mix (j 0) (j 1) := by
  entry_read
  rw [show m (c, Proc.tc.devRef main_arg0) = up32 h from hh, show m (c, Proc.tc.devRef main_arg1) = up32 mix from hm,
    up_constant bits_alpha, up_bcastIn, bcastIn_const, up_mul, up_add]
  refine congrArg up32 (funext fun (j : S8320x2048.Idx) => ?_)
  obtain ⟨r, l, rfl⟩ : ∃ r l, j = ix2 r l := ⟨j 0, j 1, by funext a; fin_cases a <;> rfl⟩
  pointwise
  rfl

include hc in
/-- The cotangent as the call finds them in its array. -/
theorem entry_d : V m c (Pipeline.arrRef spec0 2) = up32 fun j : S8320x2048.Idx => ct (ix3 0 (j 0) (j 1)) := by
  entry_read
  rw [show m (c, Proc.tc.devRef main_arg4) = up32 ct from hc]
  refine congrArg up32 (funext fun (j : S8320x2048.Idx) => ?_)
  obtain ⟨r, l, rfl⟩ : ∃ r l, j = ix2 r l := ⟨j 0, j 1, by funext a; fin_cases a <;> rfl⟩
  pointwise

/-- Row `p` of tile `t`. -/
def at_ (t : Fin cfg0.N) (p : Fin 320) : Fin 8320 := ⟨t.val * 320 + p.val, by have : t.val < 26 := t.isLt; omega⟩

/-- Where a place of window 0's block lies in its array. -/
theorem emb_0 (t : Fin cfg0.N) (p : Fin 320) (l : Fin 2048) :
    (win0_0.blk t).view.emb (ix2 p l : S320x2048.Idx) = (ix2 (at_ t p) l : S8320x2048.Idx) := by
  have e : ∀ t : Fin cfg0.N, win0_0.index t = ![t.val, 0] := (by decide +kernel : ∀ t : Fin grid0.N, _)
  blk_ext [e t, at_]

/-- Where a place of window 2's block lies in its array. -/
theorem emb_2 (t : Fin cfg0.N) (p : Fin 320) (l : Fin 2048) :
    (win0_2.blk t).view.emb (ix2 p l : S320x2048.Idx) = (ix2 (at_ t p) l : S8320x2048.Idx) := by
  have e : ∀ t : Fin cfg0.N, win0_2.index t = ![t.val, 0] := (by decide +kernel : ∀ t : Fin grid0.N, _)
  blk_ext [e t, at_]

/-- Where a place of window 3's block lies in its array. -/
theorem emb_3 (t : Fin cfg0.N) (p : Fin 320) (l : Fin 2048) :
    (win0_3.blk t).view.emb (ix2 p l : S320x2048.Idx) = (ix2 (at_ t p) l : S8320x2048.Idx) := by
  have e : ∀ t : Fin cfg0.N, win0_3.index t = ![t.val, 0] := (by decide +kernel : ∀ t : Fin grid0.N, _)
  blk_ext [e t, at_]

/-- Where a place of window 4's block lies in its array. -/
theorem emb_4 (t : Fin cfg0.N) (p : Fin 320) (l : Fin 2048) :
    (win0_4.blk t).view.emb (ix2 p l : S320x2048.Idx) = (ix2 (at_ t p) l : S8320x2048.Idx) := by
  have e : ∀ t : Fin cfg0.N, win0_4.index t = ![t.val, 0] := (by decide +kernel : ∀ t : Fin grid0.N, _)
  blk_ext [e t, at_]

/-- Where a place of window 1's block lies in its array. -/
theorem emb_1 (t : Fin cfg0.N) (l : Fin 2048) : (win0_1.blk t).view.emb (ix2 0 l : S1x2048.Idx) = (ix2 0 l : S1x2048.Idx) := by
  have e : ∀ t : Fin cfg0.N, win0_1.index t = ![0, 0] := (by decide +kernel : ∀ t : Fin grid0.N, _)
  blk_ext [e t]

include hh hm in
/-- A point's block of the summed rows. -/
theorem blk_r (t : Fin cfg0.N) : iblk m c 0 t = up32 fun j : S320x2048.Idx => resid h mix (at_ t (j 0)) (j 1) := by
  unfold iblk
  rw [entry_r m c h mix hh hm]
  funext j
  change S320x2048.Idx at j
  obtain ⟨p, l, rfl⟩ : ∃ p l, j = ix2 p l := ⟨j 0, j 1, by funext a; fin_cases a <;> rfl⟩
  exact congrArg (up32 fun j : S8320x2048.Idx => resid h mix (j 0) (j 1)) (emb_0 t p l)

include hc in
/-- A point's block of the cotangent. -/
theorem blk_d (t : Fin cfg0.N) : iblk m c 2 t = up32 fun j : S320x2048.Idx => ct (ix3 0 (at_ t (j 0)) (j 1)) := by
  unfold iblk
  rw [entry_d m c ct hc]
  funext j
  change S320x2048.Idx at j
  obtain ⟨p, l, rfl⟩ : ∃ p l, j = ix2 p l := ⟨j 0, j 1, by funext a; fin_cases a <;> rfl⟩
  exact congrArg (up32 fun j : S8320x2048.Idx => ct (ix3 0 (j 0) (j 1))) (emb_2 t p l)

include hg in
/-- A point's block of the gain. -/
theorem blk_g (t : Fin cfg0.N) : iblk m c 1 t = up32 g := by
  unfold iblk
  rw [show V m c (Pipeline.arrRef spec0 1) = up32 g from hg]
  funext j
  change S1x2048.Idx at j
  obtain ⟨l, rfl⟩ : ∃ l, j = ix2 0 l := ⟨j 1, by funext a; fin_cases a; exact Fin.ext (Nat.lt_one_iff.mp (j 0).isLt); rfl⟩
  exact congrArg (up32 g) (emb_1 t l)

/-- The block of `dr` after a point. -/
theorem out_dr (t : Fin cfg0.N) : (outsAt0 m c t.val t.isLt).1 = k0_pay10 (iblk m c 0 t) (iblk m c 1 t) (iblk m c 2 t)
    ∧ (outsAt0 m c t.val t.isLt).2.1 = k0_pay1 (k0_pay10 (iblk m c 0 t) (iblk m c 1 t) (iblk m c 2 t)) (Scalar.ofBits .f32 0x3F800000#32) := by
  by_cases h0 : t.val % 26 = 0
  · rw [outsAt0_A m c t h0]
    constructor <;> frame_out
  · rw [outsAt0_B m c t h0]
    constructor <;> frame_out

/-- The gradient at the residual. -/
def dres (h mix ct : S1x8320x2048.Idx → ℝ) (g : S1x2048.Idx → ℝ) (j : S8320x2048.Idx) : ℝ :=
  grad eps (resid h mix (j 0)) (fun k => ct (ix3 0 (j 0) k) * g (ix2 0 k)) (j 1)

include hh hm hg hc in
/-- The residual's gradient, at one row of the tile. -/
theorem pay_dr (t : Fin cfg0.N) : k0_pay10 (iblk m c 0 t) (iblk m c 1 t) (iblk m c 2 t)
    = up32 fun j => dres h mix ct g (ix2 (at_ t (j 0)) (j 1)) := by
  rw [blk_r m c h mix hh hm, blk_g m c g hg, blk_d m c ct hc, pay10_up]
  rfl

include hh hm hg hc in
/-- The whole array `dr` after the last point. -/
theorem arr_dr : (dats m 0 c).arrAt 3 cfg0.N = up32 (dres h mix ct g) := by
  refine (dats m 0 c).arrAt_eq_of_covers 3 _ (by decide +kernel) fun t hf y => ?_
  change S320x2048.Idx at y
  obtain ⟨p, l, rfl⟩ : ∃ p l, y = ix2 p l := ⟨y 0, y 1, by funext a; fin_cases a <;> rfl⟩
  rw [after0_3, (out_dr m c t).1, pay_dr m c h mix ct g hh hm hg hc t]
  exact congrArg (up32 (dres h mix ct g)) (emb_3 t p l).symm

include hh hm hg hc in
/-- The whole array `drb` after the last point. -/
theorem arr_drb : (dats m 0 c).arrAt 4 cfg0.N = up (φ := .bf16) (dres h mix ct g) := by
  refine (dats m 0 c).arrAt_eq_of_covers 4 _ (by decide +kernel) fun t hf y => ?_
  change S320x2048.Idx at y
  obtain ⟨p, l, rfl⟩ : ∃ p l, y = ix2 p l := ⟨y 0, y 1, by funext a; fin_cases a <;> rfl⟩
  rw [after0_4, (out_dr m c t).2, pay_dr m c h mix ct g hh hm hg hc t, pay1_up]
  exact congrArg (up (φ := .bf16) (dres h mix ct g)) (emb_4 t p l).symm

/-- The normalised residual. -/
def xhat (h mix : S1x8320x2048.Idx → ℝ) (r : Fin 8320) (l : Fin 2048) : ℝ :=
  (resid h mix r l - mean (resid h mix r)) * rstd eps (resid h mix r)

include hh hm hc in
/-- The block of `dg` after a point. -/
theorem out_dg (t : Fin cfg0.N) (ht : t.val + 1 = cfg0.N) (i : S1x2048.Idx) : (outsAt0 m c t.val t.isLt).2.2.1 i
    = 0 + ∑ p : Fin cfg0.N, ((∑ q : Fin 320, ct (ix3 0 (at_ p q) (i 1)) * xhat h mix (at_ p q) (i 1) : ℝ) : EReal) := by
  refine Pipeline.eq_sum_fin_of_reset_step_apply_last (fun n h => (outsAt0 m c n h).2.2.1) 26 (fun _ => 0)
    (fun p j => ((∑ q : Fin 320, ct (ix3 0 (at_ p q) (j 1)) * xhat h mix (at_ p q) (j 1) : ℝ) : EReal))
    (fun t h0 j => ?_) (fun t h0 j => ?_) (le_of_eq N_0) t ht i
  · rw [outsAt0_A m c t h0]
    frame_out
    rw [blk_r m c h mix hh hm, blk_d m c ct hc, pay8_up, pay9_up, pay4_at, pay2_at]
    rfl
  · rw [outsAt0_B m c t h0]
    frame_out
    rw [blk_r m c h mix hh hm, blk_d m c ct hc, pay8_up, pay9_up, pay4_at]
    rfl

include hc in
/-- The block of `db` after a point. -/
theorem out_db (t : Fin cfg0.N) (ht : t.val + 1 = cfg0.N) (i : S1x2048.Idx) : (outsAt0 m c t.val t.isLt).2.2.2 i
    = 0 + ∑ p : Fin cfg0.N, ((∑ q : Fin 320, ct (ix3 0 (at_ p q) (i 1)) : ℝ) : EReal) := by
  refine Pipeline.eq_sum_fin_of_reset_step_apply_last (fun n h => (outsAt0 m c n h).2.2.2) 26 (fun _ => 0)
    (fun p j => ((∑ q : Fin 320, ct (ix3 0 (at_ p q) (j 1)) : ℝ) : EReal))
    (fun t h0 j => ?_) (fun t h0 j => ?_) (le_of_eq N_0) t ht i
  · rw [outsAt0_A m c t h0]
    frame_out
    rw [blk_d m c ct hc, pay9_up, pay5_at, pay3_at]
    rfl
  · rw [outsAt0_B m c t h0]
    frame_out
    rw [blk_d m c ct hc, pay9_up, pay5_at]
    rfl

/-- A sum over the tiles and their rows is the sum over the rows. -/
theorem sum_tiles (f : Fin 8320 → ℝ) :
    (0 + ∑ p : Fin cfg0.N, ((∑ q : Fin 320, f (at_ p q) : ℝ) : EReal) : EReal) = ((∑ r, f r : ℝ) : EReal) := by
  rw [zero_add, sum_coe]
  exact congrArg _ (Fin.sum_mul_add_congr (S := 26) (n := 320) (f := f) fun s k hl => rfl)

include hh hm hc in
/-- The whole array `dg` after the last point. -/
theorem arr_dg : (dats m 0 c).arrAt 5 cfg0.N = up32 fun j : S1x2048.Idx => ∑ r, ct (ix3 0 r (j 1)) * xhat h mix r (j 1) := by
  refine Pipeline.Dat.arrAt_eq_of_after_last _ 5 ⟨25, by decide⟩ (by decide +kernel) _ fun j => ?_
  rw [after0_5]
  exact (out_dg m c h mix ct hh hm hc ⟨25, by decide⟩ rfl j).trans (sum_tiles fun r => ct (ix3 0 r (j 1)) * xhat h mix r (j 1))

include hc in
/-- The whole array `db` after the last point. -/
theorem arr_db : (dats m 0 c).arrAt 6 cfg0.N = up32 fun j : S1x2048.Idx => ∑ r, ct (ix3 0 r (j 1)) := by
  refine Pipeline.Dat.arrAt_eq_of_after_last _ 6 ⟨25, by decide⟩ (by decide +kernel) _ fun j => ?_
  rw [after0_6]
  exact (out_db m c ct hc ⟨25, by decide⟩ rfl j).trans (sum_tiles fun r => ct (ix3 0 r (j 1)))
end

/-- A mean of squares, shifted, is positive. -/
theorem shifted_pos (x : S1x8320x2048.Idx → ℝ) (j : ReferenceLn2Ideal.S1x8320x1.Idx) :
    0 < broadcastInDim ReferenceLn2Ideal.S1x8320x1 ![0, 1] ReferenceLn2Ideal.Gen.bcast_S1x8320_S1x8320x1_0_1
      (fun j => ∑ i with ReferenceLn2Ideal.Gen.reducesTo_S1x8320x2048_S1x8320_d2.drop i = j, x i * x i) j / 2048 + eps :=
  add_pos_of_nonneg_of_pos (div_nonneg (Finset.sum_nonneg fun i _ => mul_self_nonneg (x i)) (by norm_num)) eps_pos

section
variable (m : (ℓ : Loc ReferenceLn2Ideal.nD ReferenceLn2Ideal.τ ReferenceLn2Ideal.sig) → Buf (Elt Ideal) ℓ) (c : Dev nD)
  (h mix ct : S1x8320x2048.Idx → ℝ) (g : S1x2048.Idx → ℝ)

set_option maxRecDepth 65536 in
set_option maxHeartbeats 4000000 in
/-- The derivative at the residual, as the chain rule writes it. -/
theorem ref_dr (hh : m ((c : Thread nD τ).loc ReferenceLn2Ideal.main_arg0) = up32 h)
    (hm : m ((c : Thread nD τ).loc ReferenceLn2Ideal.main_arg1) = up32 mix)
    (hg : m ((c : Thread nD τ).loc ReferenceLn2Ideal.main_arg2) = up32 g)
    (hc : m ((c : Thread nD τ).loc ReferenceLn2Ideal.main_arg4) = up32 ct) :
    ReferenceLn2Ideal.Value.res_main_v72 m c = up32 (dres h mix ct g) := by
  unfold ReferenceLn2Ideal.Value.res_main_v72
  rw [hh, hm, hg, hc]
  have n2048 : (2048 : ℝ) ≠ 0 := by norm_num
  change (shapeCast S8320x2048 _ _ : FVec Ideal S8320x2048 .f32) = _
  simp only [up_constant bits_zero, up_constant bits_2048, up_constant bits_eps, up_constant bits_alpha, up_constant bits_neg_half,
    up_constant bits_two, bcastIn_const, up_bcastIn, up_shapeCast, up_add, up_sub, up_mul, up_host_neg, up_host_sum _ _ (fun _ => rfl),
    up_host_div_const _ n2048]
  rw [up_host_rsqrt _ (shifted_pos _), up_host_div _ _ fun j => (shifted_pos _ j).ne']
  simp only [bcastIn_const, up_bcastIn, up_shapeCast, up_add, up_sub, up_mul, up_host_neg, up_host_sum _ _ (fun _ => rfl),
    up_host_div_const _ n2048]
  refine congrArg up32 (funext fun j => ?_)
  obtain ⟨r, l, rfl⟩ : ∃ r l, j = ix2 r l := ⟨j 0, j 1, by funext a; fin_cases a <;> rfl⟩
  pointwise
  exact grad_chain eps_pos (resid h mix r) (fun k => ct (ix3 0 r k) * g (ix2 0 k)) l
end

set_option maxRecDepth 65536 in
set_option maxHeartbeats 4000000 in
/-- The layer norm's gradient: each result of the call is the reference's, at finite arguments. -/
theorem algebraic_ln2 [hPre : Cert.Pre_finite_ln2.Facts] : algebraic_KernelLn2Ideal_ReferenceLn2Ideal_pre_finite_ln2 := by
  intro m ρ m' ρ' hpre hagree
  refine ⟨_, _, _, _, KernelLn2Ideal.Value.run_blocks (F := Ideal) m ρ, ?_⟩
  refine (θ_run ReferenceLn2Ideal.defs _ _).mono (fun _ run c => ?_) (ReferenceLn2Ideal.Value.run (F := Ideal) m' ρ')
  obtain ⟨e0, e1, e2, e3, e4⟩ := hagree c
  obtain ⟨p0, p1, p2, p4⟩ := hpre c
  obtain ⟨h, hh⟩ := up_of_abs_lt (x := m ((c : Thread nD τ).loc main_arg0)) fun j => by
    have := congrFun p0 j; simp only [Cert.Pre_finite_ln2.fn] at this; pointwise at this; exact this
  obtain ⟨mix, hm⟩ := up_of_abs_lt (x := m ((c : Thread nD τ).loc main_arg1)) fun j => by
    have := congrFun p1 j; simp only [Cert.Pre_finite_ln2.fn] at this; pointwise at this; exact this
  obtain ⟨g, hg⟩ := up_of_abs_lt (x := m ((c : Thread nD τ).loc main_arg2)) fun j => by
    have := congrFun p2 j; simp only [Cert.Pre_finite_ln2.fn] at this; pointwise at this; exact this
  obtain ⟨ct, hc⟩ := up_of_abs_lt (x := m ((c : Thread nD τ).loc main_arg4)) fun j => by
    have := congrFun p4 j; simp only [Cert.Pre_finite_ln2.fn] at this; pointwise at this; exact this
  refine ⟨(run c).1.trans ?_, (run c).2.1.trans ?_, (run c).2.2.1.trans ?_, (run c).2.2.2.1.trans ?_, (run c).2.2.2.2⟩
  · rw [arr_dr m c h mix ct g hh hm hg hc]
    exact ref_dr m' c h mix ct g (e0.trans hh) (e1.trans hm) (e2.trans hg) (e4.trans hc)
  · rw [arr_drb m c h mix ct g hh hm hg hc]
    have e : ReferenceLn2Ideal.Value.res_main_v74 m' c
        = truncf (F := Ideal) .bf16 (ReferenceLn2Ideal.Value.res_main_v72 m' c : FVec Ideal S8320x2048 .f32) (by decide : FTy.bf16.bits < FTy.f32.bits) := by
      unfold ReferenceLn2Ideal.Value.res_main_v74 ReferenceLn2Ideal.Value.res_main_v72
      rfl
    rw [e, ref_dr m' c h mix ct g (e0.trans hh) (e1.trans hm) (e2.trans hg) (e4.trans hc)]
    rfl
  · rw [arr_dg m c h mix ct hh hm hc, e0.trans hh, e1.trans hm, e4.trans hc]
    have n2048 : (2048 : ℝ) ≠ 0 := by norm_num
    simp only [up_constant bits_zero, up_constant bits_2048, up_constant bits_eps, up_constant bits_alpha, bcastIn_const, up_bcastIn,
      up_shapeCast, up_add, up_sub, up_mul, up_host_neg, up_host_sum _ _ (fun _ => rfl), up_host_div_const _ n2048]
    rw [up_host_rsqrt _ (shifted_pos _)]
    simp only [bcastIn_const, up_bcastIn, up_shapeCast, up_add, up_sub, up_mul, up_host_sum _ _ (fun _ => rfl)]
    refine congrArg up32 (funext fun (j : S1x2048.Idx) => ?_)
    obtain ⟨l, rfl⟩ : ∃ l, j = ix2 0 l := ⟨j 1, by funext a; fin_cases a; exact Fin.ext (Nat.lt_one_iff.mp (j 0).isLt); rfl⟩
    pointwise
    exact Finset.sum_congr rfl fun r _ => mul_comm _ _
  · have e : ∀ (u : S1x8320x2048.Idx → ℝ) (l : Fin 2048),
        (∑ i with ReferenceLn2Ideal.Gen.reducesTo_S1x8320x2048_S1x2048_d1.drop i = ix2 0 l, u i) = ∑ r, u (ix3 0 r l) := by
      intro u l
      pointwise
    rw [arr_db m c ct hc, e4.trans hc]
    simp only [up_constant bits_zero, up_bcastIn, up_shapeCast, up_host_sum _ _ (fun _ => rfl)]
    refine congrArg up32 (funext fun (j : S1x2048.Idx) => ?_)
    obtain ⟨l, rfl⟩ : ∃ l, j = ix2 0 l := ⟨j 1, by funext a; fin_cases a; exact Fin.ext (Nat.lt_one_iff.mp (j 0).isLt); rfl⟩
    pointwise
    exact e ct l

end Cert.Proof.Ln2

end
-- ==== Proof.Ln3.lean ====
/- The third layer norm's backward call with the loss: its blocks and arrays in the reals, and its equality with the reference. -/
module

public import proofs.«01_k».proof.Defs
public import proofs.«01_k».proof.Proof.Gen.KernelLn3.Frame
public import proofs.«01_k».proof.Proof.Gen.KernelLn3Ideal.Value
public import proofs.«01_k».proof.Proof.Gen.ReferenceLn3Ideal.Run
public import proofs.«01_k».proof.Proof.Reals
public import proofs.«01_k».proof.Proof.LayerNorm
public import Idealize.ShloMosaic.Lib.Pipeline.ValueKit

@[expose] public section

noncomputable section

namespace Cert.Proof.Ln3

open Idealize.ShloMosaic Idealize.SL.Sem Idealize.ShloMosaic.TcCoe Cert.Scalars Cert.Reals Cert.LayerNorm
open Cert.KernelLn3Ideal Cert.KernelLn3Ideal.Gen

section
variable (x d t : S128x2048.Idx → ℝ) (g b : S1x2048.Idx → ℝ)

/-- Value 3 of the body, at blocks of reals. -/
theorem pay3_up : k0_pay3 (F := Ideal) (up32 x) = up32 fun j => x j - mean (row x (j 0)) := by
  unfold k0_pay3
  simp only [Scalar.ofBits, Ideal.ofBits_def, bits_2048, up_bcast, up_shapeCast, up_sum, up_div_const _ (show (2048:ℝ) ≠ 0 by norm_num), up_bcastTo, up_sub]
  refine congrArg up (funext fun j => ?_)
  obtain ⟨r, l, rfl⟩ : ∃ r l, j = ix2 r l := ⟨j 0, j 1, by funext a; fin_cases a <;> rfl⟩
  pointwise
  rfl

/-- Value 4 of the body, at blocks of reals. -/
theorem pay4_up : k0_pay4 (F := Ideal) (up32 x) = up32 fun j => rstd eps (row x (j 0)) := by
  unfold k0_pay4
  simp only [pay3_up, Scalar.ofBits, Ideal.ofBits_def, bits_2048, bits_eps, up_bcast, up_shapeCast, up_sum, up_div_const _ (show (2048:ℝ) ≠ 0 by norm_num), up_bcastTo, up_sub, up_add, up_mul]
  have e : ∀ j : S128x1.Idx, (shapeCast S128x1 (fun j : S128.Idx => ∑ i with reduces_S128x2048_S128.drop i = j, (x i - mean (row x (i 0))) * (x i - mean (row x (i 0)))) shapeCasts_S128_S128x1 j / 2048 + eps) = spread eps (row x (j 0)) := by
    intro j
    obtain ⟨r, l, rfl⟩ : ∃ r l, j = ix2 r l := ⟨j 0, j 1, by funext a; fin_cases a <;> rfl⟩
    pointwise
    rfl
  simp only [e]
  rw [up_rsqrt _ fun j => spread_pos eps_pos _]
  rfl

/-- Value 5 of the body, at blocks of reals. -/
theorem pay5_up : k0_pay5 (F := Ideal) (up32 x) = up32 fun j => (x j - mean (row x (j 0))) * rstd eps (row x (j 0)) := by
  unfold k0_pay5
  simp only [pay3_up, pay4_up, up_bcastTo, up_mul]
  refine congrArg up (funext fun j => ?_)
  obtain ⟨r, l, rfl⟩ : ∃ r l, j = ix2 r l := ⟨j 0, j 1, by funext a; fin_cases a <;> rfl⟩
  pointwise

/-- The error of a tile: the norm's value less the target. -/
def tileErr (j : S128x2048.Idx) : ℝ :=
  (x j - mean (row x (j 0))) * rstd eps (row x (j 0)) * g (ix2 0 (j 1)) + b (ix2 0 (j 1)) - t j

/-- Value 6 of the body, at blocks of reals. -/
theorem pay6_up : k0_pay6 (F := Ideal) (up32 x) (up32 g) (up32 b) (up32 t) = up32 (tileErr x t g b) := by
  unfold k0_pay6
  simp only [pay5_up, up_bcastTo, up_mul, up_shapeCast, up_add, up_sub]
  refine congrArg up (funext fun j => ?_)
  obtain ⟨r, l, rfl⟩ : ∃ r l, j = ix2 r l := ⟨j 0, j 1, by funext a; fin_cases a <;> rfl⟩
  pointwise
  rfl

/-- Whether a tile's rows count: all but the first tile's. -/
def on (n : Fin cfg0.N) : ℝ := if n.val = 0 then 0 else 1

/-- Value 7 of the body, as a formula. -/
theorem pay7_eq (n : Fin cfg0.N) : k0_pay7 (F := Ideal) (grid0.coords n) = ((on n : ℝ) : EReal) := by
  have e : ∀ n : Fin cfg0.N, (Scalar.extui (Scalar.cmpi .sge (BitVec.ofNat 32 ((grid0.coords n) 0).val) 1#32) : BitVec 32)
      = if n.val = 0 then 0#32 else 1#32 := (by decide +kernel : ∀ n : Fin grid0.N, _)
  unfold k0_pay7 on
  show FloatOps.sitofp (F := Ideal) .f32 (Scalar.extui (Scalar.cmpi .sge (BitVec.ofNat 32 ((grid0.coords n) 0).val) 1#32) : BitVec 32) = _
  rw [e n]
  split
  · show (((0#32 : BitVec 32).toInt : ℝ) : EReal) = _
    norm_num
  · show (((1#32 : BitVec 32).toInt : ℝ) : EReal) = _
    norm_num

/-- Value 8 of the body, at blocks of reals. -/
theorem pay8_up (n : Fin cfg0.N) : k0_pay8 (F := Ideal) (grid0.coords n) (up32 x) (up32 g) (up32 b) (up32 t)
    = up32 fun j => tileErr x t g b j * (on n / 2048) := by
  unfold k0_pay8
  have e : Scalar.divf (F := Ideal) (φ := .f32) ((on n : ℝ) : EReal) ((2048 : ℝ) : EReal) = ((on n / 2048 : ℝ) : EReal) :=
    div_real (by norm_num) _
  simp only [pay6_up, pay7_eq, Scalar.ofBits, Ideal.ofBits_def, bits_2048, e, up_bcast, up_mul]

/-- Value 9 of the body, at blocks of reals. -/
theorem pay9_up (n : Fin cfg0.N) : k0_pay9 (F := Ideal) (grid0.coords n) (up32 x) (up32 g) (up32 b) (up32 t)
    = up32 fun _ => 1 / 2 * on n * ∑ p : Fin 128, ∑ k : Fin 2048, tileErr x t g b (ix2 p k) * tileErr x t g b (ix2 p k) := by
  unfold k0_pay9
  have e : Scalar.mulf (F := Ideal) (φ := .f32) ((1 / 2 : ℝ) : EReal) ((on n : ℝ) : EReal) = ((1 / 2 * on n : ℝ) : EReal) :=
    (EReal.coe_mul _ _).symm
  simp only [pay6_up, pay7_eq, Scalar.ofBits, Ideal.ofBits_def, bits_half, e, up_bcast, up_shapeCast, up_sum, up_mul]
  refine congrArg up (funext fun j => ?_)
  obtain rfl : j = ix2 0 0 := by funext a; fin_cases a <;> exact Fin.ext (Nat.lt_one_iff.mp (j _).isLt)
  pointwise

/-- Value 10 of the body, at blocks of reals. -/
theorem pay10_up (u : S1x1.Idx → ℝ) : k0_pay10 (F := Ideal) (up32 u) = up32 fun j => u j / 2048 := by
  unfold k0_pay10
  simp only [Scalar.ofBits, Ideal.ofBits_def, bits_2048, up_bcast, up_div_const _ (show (2048:ℝ) ≠ 0 by norm_num)]

/-- Value 11 of the body, at blocks of reals. -/
theorem pay11_up : k0_pay11 (F := Ideal) (k0_pay4 (up32 x)) (k0_pay5 (up32 x)) (up32 g) (up32 d)
    = up32 fun j => grad eps (row x (j 0)) (fun k => d (ix2 (j 0) k) * g (ix2 0 k)) (j 1) := by
  unfold k0_pay11
  simp only [pay4_up, pay5_up, Scalar.ofBits, Ideal.ofBits_def, bits_2048, up_bcast, up_shapeCast, up_sum, up_div_const _ (show (2048:ℝ) ≠ 0 by norm_num), up_bcastTo, up_sub, up_mul]
  refine congrArg up (funext fun j => ?_)
  obtain ⟨r, l, rfl⟩ : ∃ r l, j = ix2 r l := ⟨j 0, j 1, by funext a; fin_cases a <;> rfl⟩
  pointwise
  rfl

/-- Value 12 of the body, at blocks of reals. -/
theorem pay12_up : k0_pay12 (F := Ideal) (k0_pay4 (up32 x)) (k0_pay5 (up32 x)) (up32 g) (up32 d)
    = up fun j => 1 / 2 * grad eps (row x (j 0)) (fun k => d (ix2 (j 0) k) * g (ix2 0 k)) (j 1) := by
  unfold k0_pay12
  simp only [pay11_up, Scalar.ofBits, Ideal.ofBits_def, bits_half, up_bcast, up_mul, up_trunc]

/-- Value 13 of the body, at one place. -/
theorem pay13_at (j : S1x2048.Idx) : k0_pay13 (F := Ideal) j = 0 := by
  unfold k0_pay13
  pointwise

/-- Value 14 of the body, at one place. -/
theorem pay14_at (j : S1x2048.Idx) : k0_pay14 (F := Ideal) j = 0 := by
  unfold k0_pay14
  pointwise

/-- Value 15 of the body, at one place. -/
theorem pay15_at (j : S1x128.Idx) : k0_pay15 (F := Ideal) j = 0 := by
  unfold k0_pay15
  pointwise

/-- Value 16 of the body, at one place. -/
theorem pay16_at (w : FVec Ideal S1x2048 .f32) (j : S1x2048.Idx) :
    k0_pay16 (F := Ideal) (up32 x) (up32 d) w j = w j + ((∑ q : Fin 128, d (ix2 q (j 1)) * x (ix2 q (j 1)) : ℝ) : EReal) := by
  obtain ⟨l, rfl⟩ : ∃ l, j = ix2 0 l := ⟨j 1, by funext a; fin_cases a; exact Fin.ext (Nat.lt_one_iff.mp (j 0).isLt); rfl⟩
  unfold k0_pay16
  simp only [up_mul, up_sum, up_shapeCast]
  pointwise
  simp only [up_apply]
  pointwise

/-- Value 1 of the body, at one place. -/
theorem pay1_at (w : FVec Ideal S1x2048 .f32) (j : S1x2048.Idx) :
    k0_pay1 (F := Ideal) (up32 d) (k0_pay17 w) j = w j + ((∑ q : Fin 128, d (ix2 q (j 1)) : ℝ) : EReal) := by
  obtain ⟨l, rfl⟩ : ∃ l, j = ix2 0 l := ⟨j 1, by funext a; fin_cases a; exact Fin.ext (Nat.lt_one_iff.mp (j 0).isLt); rfl⟩
  unfold k0_pay1 k0_pay17
  simp only [up_sum, up_shapeCast]
  pointwise
  simp only [up_apply]
  pointwise

/-- Value 2 of the body, at one place. -/
theorem pay2_at (u : ℝ) (w : FVec Ideal S1x128 .f32) (j : S1x128.Idx) :
    k0_pay2 (F := Ideal) (up32 fun _ => u) w j = w j + ((u : ℝ) : EReal) := by
  obtain ⟨l, rfl⟩ : ∃ l, j = ix2 0 l := ⟨j 1, by funext a; fin_cases a; exact Fin.ext (Nat.lt_one_iff.mp (j 0).isLt); rfl⟩
  unfold k0_pay2
  pointwise
  rfl
end

section
variable (m : (ℓ : Loc nD τ sig) → Buf (Elt Ideal) ℓ) (c : Dev nD) (h mix : S1x8320x2048.Idx → ℝ) (ct : S1x8192x2048.Idx → ℝ) (g b : S1x2048.Idx → ℝ)
variable (hh : m ((c : Thread nD τ).loc main_arg0) = up32 h) (hm : m ((c : Thread nD τ).loc main_arg1) = up32 mix)
variable (hb : m ((c : Thread nD τ).loc main_arg3) = up32 b)
variable (hg : m ((c : Thread nD τ).loc main_arg2) = up32 g) (hc : m ((c : Thread nD τ).loc main_arg4) = up32 ct)

/-- The residual's row. -/
def resid (h mix : S1x8320x2048.Idx → ℝ) (r : Fin 8320) : Fin 2048 → ℝ := fun k => alpha * h (ix3 0 r k) + 1 / 2 * mix (ix3 0 r k)

include hh hm in
/-- The summed rows as the call finds them in its array. -/
theorem entry_r : V m c (Pipeline.arrRef spec0 0) = up32 fun j : S8320x2048.Idx => resid h mix (j 0) (j 1) := by
  entry_read
  rw [show m (c, Proc.tc.devRef main_arg0) = up32 h from hh, show m (c, Proc.tc.devRef main_arg1) = up32 mix from hm,
    up_constant bits_alpha, up_constant bits_half]
  simp only [up_bcastIn, bcastIn_const, up_mul, up_add]
  refine congrArg up32 (funext fun (j : S8320x2048.Idx) => ?_)
  obtain ⟨r, l, rfl⟩ : ∃ r l, j = ix2 r l := ⟨j 0, j 1, by funext a; fin_cases a <;> rfl⟩
  pointwise
  rfl

include hc in
/-- The cotangent as the call finds them in its array. -/
theorem entry_d : V m c (Pipeline.arrRef spec0 3) = up32 fun j : S8192x2048.Idx => ct (ix3 0 (j 0) (j 1)) := by
  entry_read
  rw [show m (c, Proc.tc.devRef main_arg4) = up32 ct from hc]
  refine congrArg up32 (funext fun (j : S8192x2048.Idx) => ?_)
  obtain ⟨r, l, rfl⟩ : ∃ r l, j = ix2 r l := ⟨j 0, j 1, by funext a; fin_cases a <;> rfl⟩
  pointwise

/-- Row `p` of tile `t`. -/
def at_ (t : Fin cfg0.N) (p : Fin 128) : Fin 8320 := ⟨t.val * 128 + p.val, by have : t.val < 65 := t.isLt; omega⟩

/-- Row `p` of tile `t`'s target: the tiles' targets start one tile later. -/
def tat (t : Fin cfg0.N) (p : Fin 128) : Fin 8192 := ⟨(t.val - 1) * 128 + p.val, by have : t.val < 65 := t.isLt; omega⟩

/-- Where a place of window 0's block lies in its array. -/
theorem emb_0 (t : Fin cfg0.N) (p : Fin 128) (l : Fin 2048) :
    (win0_0.blk t).view.emb (ix2 p l : S128x2048.Idx) = (ix2 (at_ t p) l : S8320x2048.Idx) := by
  have e : ∀ t : Fin cfg0.N, win0_0.index t = ![t.val, 0] := (by decide +kernel : ∀ t : Fin grid0.N, _)
  blk_ext [e t, at_]

/-- Where a place of window 3's block lies in its array. -/
theorem emb_3 (t : Fin cfg0.N) (p : Fin 128) (l : Fin 2048) :
    (win0_3.blk t).view.emb (ix2 p l : S128x2048.Idx) = (ix2 (tat t p) l : S8192x2048.Idx) := by
  have e : ∀ t : Fin cfg0.N, win0_3.index t = ![t.val - 1, 0] := (by decide +kernel : ∀ t : Fin grid0.N, _)
  blk_ext [e t, tat]

/-- Where a place of window 4's block lies in its array. -/
theorem emb_4 (t : Fin cfg0.N) (p : Fin 128) (l : Fin 2048) :
    (win0_4.blk t).view.emb (ix2 p l : S128x2048.Idx) = (ix2 (at_ t p) l : S8320x2048.Idx) := by
  have e : ∀ t : Fin cfg0.N, win0_4.index t = ![t.val, 0] := (by decide +kernel : ∀ t : Fin grid0.N, _)
  blk_ext [e t, at_]

/-- Where a place of window 5's block lies in its array. -/
theorem emb_5 (t : Fin cfg0.N) (p : Fin 128) (l : Fin 2048) :
    (win0_5.blk t).view.emb (ix2 p l : S128x2048.Idx) = (ix2 (at_ t p) l : S8320x2048.Idx) := by
  have e : ∀ t : Fin cfg0.N, win0_5.index t = ![t.val, 0] := (by decide +kernel : ∀ t : Fin grid0.N, _)
  blk_ext [e t, at_]

/-- Where a place of window 1's block lies in its array. -/
theorem emb_1 (t : Fin cfg0.N) (l : Fin 2048) : (win0_1.blk t).view.emb (ix2 0 l : S1x2048.Idx) = (ix2 0 l : S1x2048.Idx) := by
  have e : ∀ t : Fin cfg0.N, win0_1.index t = ![0, 0] := (by decide +kernel : ∀ t : Fin grid0.N, _)
  blk_ext [e t]

/-- Where a place of window 2's block lies in its array. -/
theorem emb_2 (t : Fin cfg0.N) (l : Fin 2048) : (win0_2.blk t).view.emb (ix2 0 l : S1x2048.Idx) = (ix2 0 l : S1x2048.Idx) := by
  have e : ∀ t : Fin cfg0.N, win0_2.index t = ![0, 0] := (by decide +kernel : ∀ t : Fin grid0.N, _)
  blk_ext [e t]

include hh hm in
/-- A point's block of the summed rows. -/
theorem blk_r (t : Fin cfg0.N) : iblk m c 0 t = up32 fun j : S128x2048.Idx => resid h mix (at_ t (j 0)) (j 1) := by
  unfold iblk
  rw [entry_r m c h mix hh hm]
  funext j
  change S128x2048.Idx at j
  obtain ⟨p, l, rfl⟩ : ∃ p l, j = ix2 p l := ⟨j 0, j 1, by funext a; fin_cases a <;> rfl⟩
  exact congrArg (up32 fun j : S8320x2048.Idx => resid h mix (j 0) (j 1)) (emb_0 t p l)

include hc in
/-- A point's block of the cotangent. -/
theorem blk_d (t : Fin cfg0.N) : iblk m c 3 t = up32 fun j : S128x2048.Idx => ct (ix3 0 (tat t (j 0)) (j 1)) := by
  unfold iblk
  rw [entry_d m c ct hc]
  funext j
  change S128x2048.Idx at j
  obtain ⟨p, l, rfl⟩ : ∃ p l, j = ix2 p l := ⟨j 0, j 1, by funext a; fin_cases a <;> rfl⟩
  exact congrArg (up32 fun j : S8192x2048.Idx => ct (ix3 0 (j 0) (j 1))) (emb_3 t p l)

include hg in
/-- A point's block of the gain. -/
theorem blk_g (t : Fin cfg0.N) : iblk m c 1 t = up32 g := by
  unfold iblk
  rw [show V m c (Pipeline.arrRef spec0 1) = up32 g from hg]
  funext j
  change S1x2048.Idx at j
  obtain ⟨l, rfl⟩ : ∃ l, j = ix2 0 l := ⟨j 1, by funext a; fin_cases a; exact Fin.ext (Nat.lt_one_iff.mp (j 0).isLt); rfl⟩
  exact congrArg (up32 g) (emb_1 t l)

include hb in
/-- A point's block of the bias. -/
theorem blk_b (t : Fin cfg0.N) : iblk m c 2 t = up32 b := by
  unfold iblk
  rw [show V m c (Pipeline.arrRef spec0 2) = up32 b from hb]
  funext j
  change S1x2048.Idx at j
  obtain ⟨l, rfl⟩ : ∃ l, j = ix2 0 l := ⟨j 1, by funext a; fin_cases a; exact Fin.ext (Nat.lt_one_iff.mp (j 0).isLt); rfl⟩
  exact congrArg (up32 b) (emb_2 t l)

/-- The block of `dr` after a point. -/
theorem out_dr (t : Fin cfg0.N) :
    (outsAt0 m c t.val t.isLt).1 = k0_pay11 (k0_pay4 (iblk m c 0 t)) (k0_pay5 (iblk m c 0 t)) (iblk m c 1 t)
        (k0_pay8 (grid0.coords t) (iblk m c 0 t) (iblk m c 1 t) (iblk m c 2 t) (iblk m c 3 t))
    ∧ (outsAt0 m c t.val t.isLt).2.1 = k0_pay12 (k0_pay4 (iblk m c 0 t)) (k0_pay5 (iblk m c 0 t)) (iblk m c 1 t)
        (k0_pay8 (grid0.coords t) (iblk m c 0 t) (iblk m c 1 t) (iblk m c 2 t) (iblk m c 3 t)) := by
  by_cases h0 : t.val % 65 = 0
  · rw [outsAt0_A m c t h0]
    constructor <;> frame_out
  · rw [outsAt0_B m c t h0]
    constructor <;> frame_out

/-- The normalised residual. -/
def xhat (h mix : S1x8320x2048.Idx → ℝ) (r : Fin 8320) (l : Fin 2048) : ℝ :=
  (resid h mix r l - mean (resid h mix r)) * rstd eps (resid h mix r)

/-- The first 128 rows have no target. -/
def live (r : Fin 8320) : ℝ := if r.val < 128 then 0 else 1

/-- The target's row for a row of the residual. -/
def trow (r : Fin 8320) : Fin 8192 := ⟨(r.val / 128 - 1) * 128 + r.val % 128, by have := r.isLt; omega⟩

/-- The error: the norm's value less the target. -/
def err (h mix : S1x8320x2048.Idx → ℝ) (ct : S1x8192x2048.Idx → ℝ) (g b : S1x2048.Idx → ℝ) (r : Fin 8320) (l : Fin 2048) : ℝ :=
  xhat h mix r l * g (ix2 0 l) + b (ix2 0 l) - ct (ix3 0 (trow r) l)

/-- The loss's derivative at the norm's value. -/
def dy (h mix : S1x8320x2048.Idx → ℝ) (ct : S1x8192x2048.Idx → ℝ) (g b : S1x2048.Idx → ℝ) (r : Fin 8320) (l : Fin 2048) : ℝ :=
  err h mix ct g b r l * (live r / 2048)

/-- The gradient at the residual. -/
def dres (h mix : S1x8320x2048.Idx → ℝ) (ct : S1x8192x2048.Idx → ℝ) (g b : S1x2048.Idx → ℝ) (j : S8320x2048.Idx) : ℝ :=
  grad eps (resid h mix (j 0)) (fun k => dy h mix ct g b (j 0) k * g (ix2 0 k)) (j 1)

/-- Whether the tile counts in the loss. -/
theorem live_at (t : Fin cfg0.N) (p : Fin 128) : live (at_ t p) = on t := by
  unfold live on at_
  by_cases h : t.val = 0
  · rw [if_pos h, if_pos (by simp only; omega)]
  · rw [if_neg h, if_neg (by simp only; omega)]

/-- The row of targets that belongs to a row of the tile. -/
theorem trow_at (t : Fin cfg0.N) (p : Fin 128) : trow (at_ t p) = tat t p := by
  unfold trow at_ tat
  apply Fin.ext
  simp only
  have := p.isLt
  have e1 : (t.val * 128 + p.val) / 128 = t.val := by omega
  have e2 : (t.val * 128 + p.val) % 128 = p.val := by omega
  rw [e1, e2]

/-- A tile's error is the error at the tile's rows. -/
theorem tileErr_at (t : Fin cfg0.N) : tileErr (fun j => resid h mix (at_ t (j 0)) (j 1)) (fun j => ct (ix3 0 (tat t (j 0)) (j 1))) g b
    = fun j => err h mix ct g b (at_ t (j 0)) (j 1) := by
  funext j
  obtain ⟨p, l, rfl⟩ : ∃ p l, j = ix2 p l := ⟨j 0, j 1, by funext a; fin_cases a <;> rfl⟩
  show _ = err h mix ct g b (at_ t p) l
  unfold err
  rw [trow_at]
  rfl

include hh hm hg hb hc in
/-- The loss's derivative, at one row of the tile. -/
theorem pay_dy (t : Fin cfg0.N) : k0_pay8 (grid0.coords t) (iblk m c 0 t) (iblk m c 1 t) (iblk m c 2 t) (iblk m c 3 t)
    = up32 fun j => dy h mix ct g b (at_ t (j 0)) (j 1) := by
  rw [blk_r m c h mix hh hm, blk_g m c g hg, blk_b m c b hb, blk_d m c ct hc, pay8_up, tileErr_at]
  refine congrArg up32 (funext fun j => ?_)
  obtain ⟨p, l, rfl⟩ : ∃ p l, j = ix2 p l := ⟨j 0, j 1, by funext a; fin_cases a <;> rfl⟩
  show err h mix ct g b (at_ t p) l * (on t / 2048) = dy h mix ct g b (at_ t p) l
  rw [← live_at t p]
  rfl

include hh hm hg hb hc in
/-- The residual's gradient, at one row of the tile. -/
theorem pay_dr (t : Fin cfg0.N) : k0_pay11 (k0_pay4 (iblk m c 0 t)) (k0_pay5 (iblk m c 0 t)) (iblk m c 1 t)
        (k0_pay8 (grid0.coords t) (iblk m c 0 t) (iblk m c 1 t) (iblk m c 2 t) (iblk m c 3 t))
    = up32 fun j => dres h mix ct g b (ix2 (at_ t (j 0)) (j 1)) := by
  rw [pay_dy m c h mix ct g b hh hm hb hg hc t, blk_r m c h mix hh hm, blk_g m c g hg, pay11_up]
  rfl

include hh hm hg hb hc in
/-- The same, scaled and cast. -/
theorem pay_drb (t : Fin cfg0.N) : k0_pay12 (k0_pay4 (iblk m c 0 t)) (k0_pay5 (iblk m c 0 t)) (iblk m c 1 t)
        (k0_pay8 (grid0.coords t) (iblk m c 0 t) (iblk m c 1 t) (iblk m c 2 t) (iblk m c 3 t))
    = up fun j => 1 / 2 * dres h mix ct g b (ix2 (at_ t (j 0)) (j 1)) := by
  rw [pay_dy m c h mix ct g b hh hm hb hg hc t, blk_r m c h mix hh hm, blk_g m c g hg, pay12_up]
  rfl

include hh hm hg hb hc in
/-- The whole array `dr` after the last point. -/
theorem arr_dr : (dats m 0 c).arrAt 4 cfg0.N = up32 (dres h mix ct g b) := by
  refine (dats m 0 c).arrAt_eq_of_covers 4 _ (by decide +kernel) fun t hf y => ?_
  change S128x2048.Idx at y
  obtain ⟨p, l, rfl⟩ : ∃ p l, y = ix2 p l := ⟨y 0, y 1, by funext a; fin_cases a <;> rfl⟩
  rw [after0_4, (out_dr m c t).1, pay_dr m c h mix ct g b hh hm hb hg hc t]
  exact congrArg (up32 (dres h mix ct g b)) (emb_4 t p l).symm

include hh hm hg hb hc in
/-- The whole array `drb` after the last point. -/
theorem arr_drb : (dats m 0 c).arrAt 5 cfg0.N = up (φ := .bf16) fun j => 1 / 2 * dres h mix ct g b j := by
  refine (dats m 0 c).arrAt_eq_of_covers 5 _ (by decide +kernel) fun t hf y => ?_
  change S128x2048.Idx at y
  obtain ⟨p, l, rfl⟩ : ∃ p l, y = ix2 p l := ⟨y 0, y 1, by funext a; fin_cases a <;> rfl⟩
  rw [after0_5, (out_dr m c t).2, pay_drb m c h mix ct g b hh hm hb hg hc t]
  exact congrArg (up (φ := .bf16) fun j => 1 / 2 * dres h mix ct g b j) (emb_5 t p l).symm

include hh hm hg hb hc in
/-- The block of `dg` after a point. -/
theorem out_dg (t : Fin cfg0.N) (ht : t.val + 1 = cfg0.N) (i : S1x2048.Idx) : (outsAt0 m c t.val t.isLt).2.2.1 i
    = 0 + ∑ p : Fin cfg0.N, ((∑ q : Fin 128, dy h mix ct g b (at_ p q) (i 1) * xhat h mix (at_ p q) (i 1) : ℝ) : EReal) := by
  refine Pipeline.eq_sum_fin_of_reset_step_apply_last (fun n h => (outsAt0 m c n h).2.2.1) 65 (fun _ => 0)
    (fun p j => ((∑ q : Fin 128, dy h mix ct g b (at_ p q) (j 1) * xhat h mix (at_ p q) (j 1) : ℝ) : EReal))
    (fun t h0 j => ?_) (fun t h0 j => ?_) (le_of_eq N_0) t ht i
  · rw [outsAt0_A m c t h0]
    frame_out
    rw [pay_dy m c h mix ct g b hh hm hb hg hc t, blk_r m c h mix hh hm, pay5_up, pay16_at, pay13_at]
    rfl
  · rw [outsAt0_B m c t h0]
    frame_out
    rw [pay_dy m c h mix ct g b hh hm hb hg hc t, blk_r m c h mix hh hm, pay5_up, pay16_at]
    rfl

include hh hm hg hb hc in
/-- The block of `db` after a point. -/
theorem out_db (t : Fin cfg0.N) (ht : t.val + 1 = cfg0.N) (i : S1x2048.Idx) : (outsAt0 m c t.val t.isLt).2.2.2.1 i
    = 0 + ∑ p : Fin cfg0.N, ((∑ q : Fin 128, dy h mix ct g b (at_ p q) (i 1) : ℝ) : EReal) := by
  refine Pipeline.eq_sum_fin_of_reset_step_apply_last (fun n h => (outsAt0 m c n h).2.2.2.1) 65 (fun _ => 0)
    (fun p j => ((∑ q : Fin 128, dy h mix ct g b (at_ p q) (j 1) : ℝ) : EReal))
    (fun t h0 j => ?_) (fun t h0 j => ?_) (le_of_eq N_0) t ht i
  · rw [outsAt0_A m c t h0]
    frame_out
    rw [pay_dy m c h mix ct g b hh hm hb hg hc t, pay1_at, pay14_at]
    rfl
  · rw [outsAt0_B m c t h0]
    frame_out
    rw [pay_dy m c h mix ct g b hh hm hb hg hc t, pay1_at]
    rfl

/-- A row's part of the loss. -/
def part (h mix : S1x8320x2048.Idx → ℝ) (ct : S1x8192x2048.Idx → ℝ) (g b : S1x2048.Idx → ℝ) (r : Fin 8320) : ℝ :=
  1 / 2 * live r * (∑ k, err h mix ct g b r k * err h mix ct g b r k) / 2048

include hh hm hg hb hc in
/-- The tile's part of the loss. -/
theorem pay_loss (t : Fin cfg0.N) : k0_pay10 (k0_pay9 (grid0.coords t) (iblk m c 0 t) (iblk m c 1 t) (iblk m c 2 t) (iblk m c 3 t))
    = up32 fun _ => ∑ p : Fin 128, part h mix ct g b (at_ t p) := by
  rw [blk_r m c h mix hh hm, blk_g m c g hg, blk_b m c b hb, blk_d m c ct hc, pay9_up, tileErr_at, pay10_up]
  refine congrArg up32 (funext fun j => ?_)
  unfold part
  simp only [live_at]
  rw [Finset.mul_sum, Finset.sum_div]
  rfl

include hh hm hg hb hc in
/-- The block of `loss` after a point. -/
theorem out_loss (t : Fin cfg0.N) (ht : t.val + 1 = cfg0.N) (i : S1x128.Idx) : (outsAt0 m c t.val t.isLt).2.2.2.2 i
    = 0 + ∑ p : Fin cfg0.N, ((∑ q : Fin 128, part h mix ct g b (at_ p q) : ℝ) : EReal) := by
  refine Pipeline.eq_sum_fin_of_reset_step_apply_last (fun n h => (outsAt0 m c n h).2.2.2.2) 65 (fun _ => 0)
    (fun p j => ((∑ q : Fin 128, part h mix ct g b (at_ p q) : ℝ) : EReal))
    (fun t h0 j => ?_) (fun t h0 j => ?_) (le_of_eq N_0) t ht i
  · rw [outsAt0_A m c t h0]
    frame_out
    rw [pay_loss m c h mix ct g b hh hm hb hg hc t, pay2_at, pay15_at]
  · rw [outsAt0_B m c t h0]
    frame_out
    rw [pay_loss m c h mix ct g b hh hm hb hg hc t, pay2_at]

/-- A sum over the rows, tile after tile. -/
theorem sum_tiles (f : Fin 8320 → ℝ) :
    (0 + ∑ p : Fin cfg0.N, ((∑ q : Fin 128, f (at_ p q) : ℝ) : EReal) : EReal) = ((∑ r, f r : ℝ) : EReal) := by
  rw [zero_add, sum_coe]
  exact congrArg _ (Fin.sum_mul_add_congr (S := 65) (n := 128) (f := f) fun s k hl => rfl)

include hh hm hg hb hc in
/-- The whole array `dg` after the last point. -/
theorem arr_dg : (dats m 0 c).arrAt 6 cfg0.N = up32 fun j : S1x2048.Idx => ∑ r, dy h mix ct g b r (j 1) * xhat h mix r (j 1) := by
  refine Pipeline.Dat.arrAt_eq_of_after_last _ 6 ⟨64, by decide⟩ (by decide +kernel) _ fun j => ?_
  rw [after0_6]
  exact (out_dg m c h mix ct g b hh hm hb hg hc ⟨64, by decide⟩ rfl j).trans (sum_tiles fun r => dy h mix ct g b r (j 1) * xhat h mix r (j 1))

include hh hm hg hb hc in
/-- The whole array `db` after the last point. -/
theorem arr_db : (dats m 0 c).arrAt 7 cfg0.N = up32 fun j : S1x2048.Idx => ∑ r, dy h mix ct g b r (j 1) := by
  refine Pipeline.Dat.arrAt_eq_of_after_last _ 7 ⟨64, by decide⟩ (by decide +kernel) _ fun j => ?_
  rw [after0_7]
  exact (out_db m c h mix ct g b hh hm hb hg hc ⟨64, by decide⟩ rfl j).trans (sum_tiles fun r => dy h mix ct g b r (j 1))

include hh hm hg hb hc in
/-- The whole array `loss` after the last point. -/
theorem arr_loss : (dats m 0 c).arrAt 8 cfg0.N = up32 fun _ : S1x128.Idx => ∑ r, part h mix ct g b r := by
  refine Pipeline.Dat.arrAt_eq_of_after_last _ 8 ⟨64, by decide⟩ (by decide +kernel) _ fun j => ?_
  rw [after0_8]
  exact (out_loss m c h mix ct g b hh hm hb hg hc ⟨64, by decide⟩ rfl j).trans (sum_tiles fun r => part h mix ct g b r)
end

/-- The rows with a target: the last 8192. -/
def late (s : Fin 8192) : Fin 8320 := ⟨128 + s.val, by have := s.isLt; omega⟩

/-- A tile after the leading block counts. -/
theorem live_late (s : Fin 8192) : live (late s) = 1 := if_neg (by unfold late; simp only; omega)

/-- Its targets start one block earlier. -/
theorem trow_late (s : Fin 8192) : trow (late s) = s := by
  unfold trow late
  apply Fin.ext
  simp only
  omega

section
variable (h mix : S1x8320x2048.Idx → ℝ) (ct : S1x8192x2048.Idx → ℝ) (g b : S1x2048.Idx → ℝ)

/-- A sum over the rows with a target is the sum over all rows of what vanishes on the others. -/
theorem sum_late (f : Fin 8320 → ℝ) (hf : ∀ r : Fin 8320, r.val < 128 → f r = 0) : ∑ r, f r = ∑ s, f (late s) := by
  refine (Fin.sum_univ_add (a := 128) (b := 8192) f).trans ?_
  rw [Finset.sum_eq_zero fun r _ => hf _ r.isLt, zero_add]
  rfl

/-- The derivative of the reference's error, padded with zeros in front, is the derivative at the norm's value. -/
theorem pad_dy (u : S1x8192x2048.Idx → ℝ) (hp : S1x8192x2048.Pads ![0, 128, 0] ![0, 0, 0] ![0, 0, 0] S1x8320x2048)
    (hz : 0 < ReferenceLn3Ideal.S_.numel)
    (hu : ∀ s k, u (ix3 0 s k) = 1 / 2 * 1 / 2048 * (2 * err h mix ct g b (late s) k)) :
    pad S1x8320x2048 ![0, 128, 0] ![0, 0, 0] ![0, 0, 0] u (fun _ : ReferenceLn3Ideal.S_.Idx => (0 : ℝ)) hp hz
      = fun j => dy h mix ct g b (j 1) (j 2) := by
  funext j
  obtain ⟨o, r, k, rfl⟩ : ∃ o r k, j = ix3 o r k := ⟨j 0, j 1, j 2, by funext a; fin_cases a <;> rfl⟩
  obtain rfl : o = 0 := Fin.ext (Nat.lt_one_iff.mp o.isLt)
  rw [pad_apply]
  show _ = dy h mix ct g b r k
  unfold dy live
  by_cases hr : r.val < 128
  · rw [dif_neg (fun hin => absurd (hin 1).1 (by show ¬ 128 ≤ r.val; omega)), if_pos hr]
    ring
  · have hs : r = late ⟨r.val - 128, by have := r.isLt; omega⟩ := Fin.ext (by unfold late; simp only; omega)
    rw [dif_pos fun a => ?_, if_neg hr]
    · refine (congrArg u ?_).trans ((hu ⟨r.val - 128, by have := r.isLt; omega⟩ k).trans ?_)
      · funext a
        fin_cases a
        · exact Subsingleton.elim (α := Fin 1) _ _
        · exact Fin.ext (Nat.div_one _)
        · exact Fin.ext (Nat.div_one _)
      · rw [← hs]
        ring
    · have := r.isLt
      fin_cases a
      · exact ⟨Nat.zero_le _, rfl, by show (0 - 0) / 1 < 1; norm_num⟩
      · exact ⟨by show 128 ≤ r.val; omega, Nat.mod_one _, by show (r.val - 128) / 1 < 8192; omega⟩
      · exact ⟨Nat.zero_le _, Nat.mod_one _, by show (k.val - 0) / 1 < 2048; have := k.isLt; omega⟩
end

/-- A mean of squares, shifted, is positive. -/
theorem shifted_pos (x : S1x8320x2048.Idx → ℝ) (j : ReferenceLn3Ideal.S1x8320x1.Idx) :
    0 < broadcastInDim ReferenceLn3Ideal.S1x8320x1 ![0, 1] ReferenceLn3Ideal.Gen.bcast_S1x8320_S1x8320x1_0_1
      (fun j => ∑ i with ReferenceLn3Ideal.Gen.reducesTo_S1x8320x2048_S1x8320_d2.drop i = j, x i * x i) j / 2048 + eps :=
  add_pos_of_nonneg_of_pos (div_nonneg (Finset.sum_nonneg fun i _ => mul_self_nonneg (x i)) (by norm_num)) eps_pos

section
variable (m : (ℓ : Loc ReferenceLn3Ideal.nD ReferenceLn3Ideal.τ ReferenceLn3Ideal.sig) → Buf (Elt Ideal) ℓ) (c : Dev nD)
  (h mix : S1x8320x2048.Idx → ℝ) (ct : S1x8192x2048.Idx → ℝ) (g b : S1x2048.Idx → ℝ)
variable (hh : m ((c : Thread nD τ).loc ReferenceLn3Ideal.main_arg0) = up32 h)
  (hm : m ((c : Thread nD τ).loc ReferenceLn3Ideal.main_arg1) = up32 mix)
  (hg : m ((c : Thread nD τ).loc ReferenceLn3Ideal.main_arg2) = up32 g)
  (hb : m ((c : Thread nD τ).loc ReferenceLn3Ideal.main_arg3) = up32 b)
  (hc : m ((c : Thread nD τ).loc ReferenceLn3Ideal.main_arg4) = up32 ct)

include hh hm hg hb hc in
set_option maxRecDepth 65536 in
set_option maxHeartbeats 4000000 in
/-- The derivative at the residual, as the chain rule writes it. -/
theorem ref_dr : ReferenceLn3Ideal.Value.res_main_v90 m c = up32 (dres h mix ct g b) := by
  unfold ReferenceLn3Ideal.Value.res_main_v90
  rw [hh, hm, hg, hb, hc]
  have n2048 : (2048 : ℝ) ≠ 0 := by norm_num
  change (shapeCast S8320x2048 _ _ : FVec Ideal S8320x2048 .f32) = _
  simp only [up_constant bits_zero, up_constant bits_2048, up_constant bits_eps, up_constant bits_alpha, up_constant bits_neg_half,
    up_constant bits_half, up_constant bits_one, up_constant bits_two, bcastIn_const, up_bcastIn, up_shapeCast, up_add, up_sub, up_mul,
    up_host_neg, up_host_sum _ _ (fun _ => rfl), up_host_div_const _ n2048, up_slice]
  rw [up_host_rsqrt _ (shifted_pos _), up_host_div _ _ fun j => (shifted_pos _ j).ne']
  simp only [bcastIn_const, up_bcastIn, up_shapeCast, up_add, up_sub, up_mul, up_host_neg, up_host_sum _ _ (fun _ => rfl),
    up_host_div_const _ n2048, up_slice, up_pad]
  rw [pad_dy h mix ct g b]
  · refine congrArg up32 (funext fun j => ?_)
    obtain ⟨r, l, rfl⟩ : ∃ r l, j = ix2 r l := ⟨j 0, j 1, by funext a; fin_cases a <;> rfl⟩
    pointwise
    exact grad_chain eps_pos (resid h mix r) (fun k => dy h mix ct g b r k * g (ix2 0 k)) l
  · intro s k
    pointwise
    unfold err
    rw [trow_late]
    rfl

include hh hm hg hb hc in
set_option maxRecDepth 65536 in
set_option maxHeartbeats 4000000 in
/-- The scale's gradient. -/
theorem ref_dg : ReferenceLn3Ideal.Value.res_main_v89 m c = up32 fun j : S1x2048.Idx => ∑ r, dy h mix ct g b r (j 1) * xhat h mix r (j 1) := by
  unfold ReferenceLn3Ideal.Value.res_main_v89
  rw [hh, hm, hg, hb, hc]
  have n2048 : (2048 : ℝ) ≠ 0 := by norm_num
  change (broadcastInDim S1x2048 _ _ _ : FVec Ideal S1x2048 .f32) = _
  simp only [up_constant bits_zero, up_constant bits_2048, up_constant bits_eps, up_constant bits_alpha,
    up_constant bits_half, up_constant bits_one, up_constant bits_two, bcastIn_const, up_bcastIn, up_shapeCast, up_add, up_sub, up_mul,
    up_host_sum _ _ (fun _ => rfl), up_host_div_const _ n2048, up_slice]
  rw [up_host_rsqrt _ (shifted_pos _)]
  simp only [bcastIn_const, up_bcastIn, up_shapeCast, up_add, up_sub, up_mul, up_host_sum _ _ (fun _ => rfl), up_slice, up_pad]
  rw [pad_dy h mix ct g b]
  · refine congrArg up32 (funext fun j => ?_)
    obtain ⟨l, rfl⟩ : ∃ l, j = ix2 0 l := ⟨j 1, by funext a; fin_cases a; exact Fin.ext (Nat.lt_one_iff.mp (j 0).isLt); rfl⟩
    pointwise
    exact Finset.sum_congr rfl fun r _ => mul_comm _ _
  · intro s k
    pointwise
    unfold err
    rw [trow_late]
    rfl

include hh hm hg hb hc in
set_option maxRecDepth 65536 in
set_option maxHeartbeats 4000000 in
/-- The shift's gradient. -/
theorem ref_db : ReferenceLn3Ideal.Value.res_main_v88 m c = up32 fun j : S1x2048.Idx => ∑ r, dy h mix ct g b r (j 1) := by
  unfold ReferenceLn3Ideal.Value.res_main_v88
  rw [hh, hm, hg, hb, hc]
  have n2048 : (2048 : ℝ) ≠ 0 := by norm_num
  change (broadcastInDim S1x2048 _ _ _ : FVec Ideal S1x2048 .f32) = _
  simp only [up_constant bits_zero, up_constant bits_2048, up_constant bits_eps, up_constant bits_alpha,
    up_constant bits_half, up_constant bits_one, up_constant bits_two, bcastIn_const, up_bcastIn, up_shapeCast, up_add, up_sub, up_mul,
    up_host_sum _ _ (fun _ => rfl), up_host_div_const _ n2048, up_slice]
  rw [up_host_rsqrt _ (shifted_pos _)]
  simp only [bcastIn_const, up_bcastIn, up_shapeCast, up_add, up_sub, up_mul, up_host_sum _ _ (fun _ => rfl), up_slice, up_pad]
  rw [pad_dy h mix ct g b]
  · refine congrArg up32 (funext fun j => ?_)
    obtain ⟨l, rfl⟩ : ∃ l, j = ix2 0 l := ⟨j 1, by funext a; fin_cases a; exact Fin.ext (Nat.lt_one_iff.mp (j 0).isLt); rfl⟩
    pointwise
  · intro s k
    pointwise
    unfold err
    rw [trow_late]
    rfl

/-- A row's part of the loss, at a row with a target. -/
theorem part_late (s : Fin 8192) : part h mix ct g b (late s)
    = 1 / 2 * ((∑ k, err h mix ct g b (late s) k * err h mix ct g b (late s) k) / 2048) := by
  unfold part
  rw [live_late]
  ring

include hh hm hg hb hc in
set_option maxRecDepth 65536 in
set_option maxHeartbeats 4000000 in
/-- The loss. -/
theorem ref_loss : ReferenceLn3Ideal.Value.res_main_v95 m c = up32 fun _ : S1x128.Idx => ∑ r, part h mix ct g b r := by
  unfold ReferenceLn3Ideal.Value.res_main_v95
  rw [hh, hm, hg, hb, hc]
  have n2048 : (2048 : ℝ) ≠ 0 := by norm_num
  change (broadcastInDim S1x128 _ _ _ : FVec Ideal S1x128 .f32) = _
  simp only [up_constant bits_zero, up_constant bits_2048, up_constant bits_eps, up_constant bits_alpha,
    up_constant bits_half, up_constant bits_one, up_constant bits_two, bcastIn_const, up_bcastIn, up_shapeCast, up_add, up_sub, up_mul,
    up_host_sum _ _ (fun _ => rfl), up_host_div_const _ n2048, up_slice]
  rw [up_host_rsqrt _ (shifted_pos _)]
  simp only [bcastIn_const, up_bcastIn, up_shapeCast, up_add, up_sub, up_mul, up_host_sum _ _ (fun _ => rfl), up_host_div_const _ n2048, up_slice]
  refine congrArg up32 (funext fun j => ?_)
  rw [sum_late _ fun r hr => by unfold part live; rw [if_pos hr]; ring]
  simp only [part_late]
  rw [← Finset.mul_sum]
  pointwise
  refine congrArg (fun z : ℝ => 1 / 2 * z) ((Fin.sum_univ_one _).trans (Finset.sum_congr rfl fun s _ =>
    congrArg (fun z : ℝ => z / 2048) (Finset.sum_congr rfl fun k _ => ?_)))
  unfold err
  rw [trow_late]
  rfl
end

set_option maxRecDepth 65536 in
set_option maxHeartbeats 4000000 in
/-- The kernel's five results are the reference's. -/
theorem algebraic_ln3 [hPre : Cert.Pre_finite_ln3.Facts] : algebraic_KernelLn3Ideal_ReferenceLn3Ideal_pre_finite_ln3 := by
  intro m ρ m' ρ' hpre hagree
  refine ⟨_, _, _, _, _, KernelLn3Ideal.Value.run_blocks (F := Ideal) m ρ, ?_⟩
  refine (θ_run ReferenceLn3Ideal.defs _ _).mono (fun _ run c => ?_) (ReferenceLn3Ideal.Value.run (F := Ideal) m' ρ')
  obtain ⟨e0, e1, e2, e3, e4⟩ := hagree c
  obtain ⟨p0, p1, p2, p3, p4⟩ := hpre c
  obtain ⟨h, hh⟩ := up_of_abs_lt (x := m ((c : Thread nD τ).loc main_arg0)) fun j => by
    have := congrFun p0 j; simp only [Cert.Pre_finite_ln3.fn] at this; pointwise at this; exact this
  obtain ⟨mix, hm⟩ := up_of_abs_lt (x := m ((c : Thread nD τ).loc main_arg1)) fun j => by
    have := congrFun p1 j; simp only [Cert.Pre_finite_ln3.fn] at this; pointwise at this; exact this
  obtain ⟨g, hg⟩ := up_of_abs_lt (x := m ((c : Thread nD τ).loc main_arg2)) fun j => by
    have := congrFun p2 j; simp only [Cert.Pre_finite_ln3.fn] at this; pointwise at this; exact this
  obtain ⟨b, hb⟩ := up_of_abs_lt (x := m ((c : Thread nD τ).loc main_arg3)) fun j => by
    have := congrFun p3 j; simp only [Cert.Pre_finite_ln3.fn] at this; pointwise at this; exact this
  obtain ⟨ct, hc⟩ := up_of_abs_lt (x := m ((c : Thread nD τ).loc main_arg4)) fun j => by
    have := congrFun p4 j; simp only [Cert.Pre_finite_ln3.fn] at this; pointwise at this; exact this
  refine ⟨(run c).1.trans ?_, (run c).2.1.trans ?_, (run c).2.2.1.trans ?_, (run c).2.2.2.1.trans ?_, (run c).2.2.2.2.1.trans ?_,
    (run c).2.2.2.2.2⟩
  · rw [arr_dr m c h mix ct g b hh hm hb hg hc]
    exact ref_dr m' c h mix ct g b (e0.trans hh) (e1.trans hm) (e2.trans hg) (e3.trans hb) (e4.trans hc)
  · rw [arr_drb m c h mix ct g b hh hm hb hg hc]
    have e : ReferenceLn3Ideal.Value.res_main_v94 m' c
        = truncf (F := Ideal) .bf16 (mulf (broadcastInDim S8320x2048 ![] (by decide) (constant ReferenceLn3Ideal.S_ .f32 0x3F000000#32))
            (ReferenceLn3Ideal.Value.res_main_v90 m' c : FVec Ideal S8320x2048 .f32)) (by decide : FTy.bf16.bits < FTy.f32.bits) := by
      unfold ReferenceLn3Ideal.Value.res_main_v94 ReferenceLn3Ideal.Value.res_main_v90
      rfl
    rw [e, ref_dr m' c h mix ct g b (e0.trans hh) (e1.trans hm) (e2.trans hg) (e3.trans hb) (e4.trans hc), up_constant bits_half,
      up_bcastIn, bcastIn_const, up_mul, up_trunc]
  · rw [arr_dg m c h mix ct g b hh hm hb hg hc]
    exact ref_dg m' c h mix ct g b (e0.trans hh) (e1.trans hm) (e2.trans hg) (e3.trans hb) (e4.trans hc)
  · rw [arr_db m c h mix ct g b hh hm hb hg hc]
    exact ref_db m' c h mix ct g b (e0.trans hh) (e1.trans hm) (e2.trans hg) (e3.trans hb) (e4.trans hc)
  · rw [arr_loss m c h mix ct g b hh hm hb hg hc]
    exact ref_loss m' c h mix ct g b (e0.trans hh) (e1.trans hm) (e2.trans hg) (e3.trans hb) (e4.trans hc)

end Cert.Proof.Ln3

end
-- ==== Proof.Ffn.lean ====
/- The gated unit of the feed-forward layer with its gradient: the two regions' arrays in the reals, and their equality with the reference. -/
module

public import proofs.«01_k».proof.Defs
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Reals
public import Idealize.ShloMosaic.Lib.Pipeline.ValueKit

@[expose] public section

noncomputable section

namespace Cert.Proof.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Scalars Cert.Reals
open Cert.KernelFfnIdeal Cert.KernelFfnIdeal.Gen

local notation "𝕄" => MT nD τ sig Unit (Elt Ideal) ℕ (UR sig nD τ) ℕ

/-! ## The payloads -/

/-- The logistic function. -/
def logistic (x : ℝ) : ℝ := 1 / (1 + Real.exp (-x))

/-- One plus an exponential is positive. -/
theorem one_add_exp_pos (x : ℝ) : (1 + Real.exp (-x)) ≠ 0 := (add_pos one_pos (Real.exp_pos _)).ne'

section
variable (x : S640x2048.Idx → ℝ) (g u : S1x2048x704.Idx → ℝ)

/-- A row of the activations times a block's column. -/
def dotUp (x : S640x2048.Idx → ℝ) (g : S1x2048x704.Idx → ℝ) (j : S640x704.Idx) : ℝ := ∑ k : Fin 2048, x (ix2 (j 0) k) * g (ix3 0 k (j 1))

/-- Value 2 of the body, at blocks of reals. -/
theorem pay2_up : k0_pay2 (F := Ideal) (up16 x) (up16 g) = up32 (dotUp x g) := by
  unfold k0_pay2
  rw [up_constant bits_zero, up_shapeCast, up_shapeCast]
  funext j
  obtain ⟨r, l, rfl⟩ : ∃ r l, j = ix2 r l := ⟨j 0, j 1, by funext a; fin_cases a <;> rfl⟩
  pointwise
  simp only [up_apply]
  pointwise
  exact dot_coe _ _

/-- Value 3 of the body, at blocks of reals. -/
theorem pay3_up : k0_pay3 (F := Ideal) (up16 x) (up16 u) = up32 (dotUp x u) := pay2_up x u

/-- Value 4 of the body, at blocks of reals. -/
theorem pay4_up : k0_pay4 (F := Ideal) (up16 x) (up16 g) = up32 fun j => logistic (dotUp x g j) := by
  unfold k0_pay4
  simp only [pay2_up, Scalar.ofBits, Ideal.ofBits_def, bits_zero, bits_one, up_bcast, up_sub, zero_sub, up_exp, up_add]
  rw [up_div _ _ fun j => one_add_exp_pos _]
  rfl

/-- Value 5 of the body, at blocks of reals. -/
theorem pay5_up : k0_pay5 (F := Ideal) (up16 x) (up16 g) = up32 fun j => dotUp x g j * logistic (dotUp x g j) := by
  unfold k0_pay5
  rw [pay2_up, pay4_up, up_mul]

/-- Value 6 of the body, at blocks of reals. -/
theorem pay6_up : k0_pay6 (F := Ideal) (up16 x) (up16 g) (up16 x) (up16 u) = up32 fun j =>
    dotUp x u (ix2 (j 1) (j 2)) * logistic (dotUp x g (ix2 (j 1) (j 2))) * (1 + dotUp x g (ix2 (j 1) (j 2)) * (1 - logistic (dotUp x g (ix2 (j 1) (j 2))))) := by
  unfold k0_pay6
  simp only [pay2_up, pay3_up, pay4_up, Scalar.ofBits, Ideal.ofBits_def, bits_one, up_bcast, up_sub, up_mul, up_add, up_shapeCast]
  refine congrArg up (funext fun j => ?_)
  obtain ⟨z, r, l, rfl⟩ : ∃ z r l, j = ix3 z r l := ⟨j 0, j 1, j 2, by funext a; fin_cases a <;> rfl⟩
  pointwise

/-- Value 7 of the body, at blocks of reals. -/
theorem pay7_up : k0_pay7 (F := Ideal) (up16 x) (up16 g) = up32 fun j =>
    dotUp x g (ix2 (j 1) (j 2)) * logistic (dotUp x g (ix2 (j 1) (j 2))) := by
  unfold k0_pay7
  rw [pay5_up, up_shapeCast]
  refine congrArg up (funext fun j => ?_)
  obtain ⟨z, r, l, rfl⟩ : ∃ z r l, j = ix3 z r l := ⟨j 0, j 1, j 2, by funext a; fin_cases a <;> rfl⟩
  pointwise

/-- Value 8 of the body, at blocks of reals. -/
theorem pay8_up : k0_pay1 (k0_pay8 (F := Ideal) (up16 x) (up16 g) (up16 x) (up16 u)) = up16 fun j =>
    dotUp x g (ix2 (j 1) (j 2)) * logistic (dotUp x g (ix2 (j 1) (j 2))) * dotUp x u (ix2 (j 1) (j 2)) := by
  unfold k0_pay1 k0_pay8
  simp only [pay5_up, pay3_up, up_mul, up_trunc, up_shapeCast]
  refine congrArg up (funext fun j => ?_)
  obtain ⟨z, r, l, rfl⟩ : ∃ z r l, j = ix3 z r l := ⟨j 0, j 1, j 2, by funext a; fin_cases a <;> rfl⟩
  pointwise

end

section
variable (x : S640x2048.Idx → ℝ) (w : S1x704x2048.Idx → ℝ) (a : S1x640x704.Idx → ℝ)

/-- A row of the cotangent times a block's row. -/
def dotDown (x : S640x2048.Idx → ℝ) (w : S1x704x2048.Idx → ℝ) (j : S640x704.Idx) : ℝ := ∑ k : Fin 2048, x (ix2 (j 0) k) * w (ix3 0 (j 1) k)

/-- Value 4 of the body, at blocks of reals. -/
theorem ds_pay4_up : k1_pay4 (F := Ideal) (up16 x) (up16 w) = up32 (dotDown x w) := by
  unfold k1_pay4 k1_pay3
  rw [up_constant bits_zero, up_shapeCast, up_shapeCast]
  funext j
  obtain ⟨r, l, rfl⟩ : ∃ r l, j = ix2 r l := ⟨j 0, j 1, by funext a; fin_cases a <;> rfl⟩
  pointwise
  simp only [up_apply]
  pointwise
  exact dot_coe _ _

/-- Value 5 of the body, at blocks of reals. -/
theorem ds_pay5_up : k1_pay5 (F := Ideal) (up16 x) (up16 w) (up32 a) = up16 fun j => dotDown x w (ix2 (j 1) (j 2)) * a (ix3 0 (j 1) (j 2)) := by
  unfold k1_pay5
  simp only [ds_pay4_up, up_shapeCast, up_mul, up_trunc]
  refine congrArg up (funext fun j => ?_)
  obtain ⟨z, r, l, rfl⟩ : ∃ z r l, j = ix3 z r l := ⟨j 0, j 1, j 2, by funext a; fin_cases a <;> rfl⟩
  pointwise

/-- Value 6 of the body, at blocks of reals. -/
theorem ds_pay6_up : k1_pay6 (F := Ideal) (up16 x) (up16 w) (up32 a) = up16 fun j => dotDown x w (ix2 (j 1) (j 2)) * a (ix3 0 (j 1) (j 2)) :=
  ds_pay5_up x w a

/-- Value 8 of the body, at blocks of reals. -/
theorem ds_pay8_up : k1_pay1 (k1_pay8 (F := Ideal) (up16 x) (up16 w) (up32 a)) = up16 fun j => dotDown x w (ix2 (j 1) (j 2)) * a (ix3 0 (j 1) (j 2)) :=
  ds_pay5_up x w a

/-- Value 2 of the body, at blocks of reals. -/
theorem ds_pay2_up : k1_pay2 (k1_pay7 (F := Ideal) (up16 x) (up16 w)) (up32 a) = up16 fun j => dotDown x w (ix2 (j 1) (j 2)) * a (ix3 0 (j 1) (j 2)) :=
  ds_pay5_up x w a

end

/-! ## The run -/

variable (m : (ℓ : Loc nD τ KernelFfnIdeal.sig) → Buf (Elt Ideal) ℓ) (ρ : Dev nD → PrngReg)

-- the launch theorem's implicit arguments are found by unfolding plain definitions
set_option backward.isDefEq.respectTransparency.types false in
/-- The program's run: every unscoped buffer ends at the last boundary's contents. -/
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c => h c)

/-! ## The arrays of the regions -/

variable (c : Dev nD)
variable (h ct : S1x8320x2048.Idx → ℝ) (wg wu : S1x2048x5632.Idx → ℝ) (wd : S1x5632x2048.Idx → ℝ)
variable (hh : m ((c : Thread nD τ).loc main_arg0) = up32 h) (hg : m ((c : Thread nD τ).loc main_arg1) = up32 wg)
variable (hu : m ((c : Thread nD τ).loc main_arg2) = up32 wu) (hd : m ((c : Thread nD τ).loc main_arg3) = up32 wd)
variable (hc : m ((c : Thread nD τ).loc main_arg4) = up32 ct)

/-- Column `f` of block `n` of the hidden width. -/
def col (n : Fin 8) (f : Fin 704) : Fin 5632 := ⟨n.val * 704 + f.val, by have := n.isLt; have := f.isLt; omega⟩

include hh in
/-- The rows of h as the call finds them in its array. -/
theorem entry_h : W1 m ρ c (Proc.devRef .tc main_v4) = up16 fun j : S8320x2048.Idx => h (ix3 0 (j 0) (j 1)) := by
  show StableHlo.after hostOps0 (W0 m ρ c) (Proc.devRef .tc main_v4) = _
  entry_read
  rw [show W0 m ρ c (Proc.tc.devRef main_arg0) = up32 h from hh]
  refine congrArg up (funext fun (j : S8320x2048.Idx) => ?_)
  obtain ⟨r, l, rfl⟩ : ∃ r l, j = ix2 r l := ⟨j 0, j 1, by funext a; fin_cases a <;> rfl⟩
  pointwise

include hg in
/-- The gate weights as the call finds them in its array. -/
theorem entry_g : W1 m ρ c (Proc.devRef .tc main_v8) = up16 fun j : S8x2048x704.Idx => wg (ix3 0 (j 1) (col (j 0) (j 2))) := by
  show StableHlo.after hostOps0 (W0 m ρ c) (Proc.devRef .tc main_v8) = _
  entry_read
  rw [show W0 m ρ c (Proc.tc.devRef main_arg1) = up32 wg from hg]
  refine congrArg up (funext fun (j : S8x2048x704.Idx) => ?_)
  obtain ⟨n, r, l, rfl⟩ : ∃ n r l, j = ix3 n r l := ⟨j 0, j 1, j 2, by funext a; fin_cases a <;> rfl⟩
  pointwise
  rfl

include hu in
/-- The up weights as the call finds them in its array. -/
theorem entry_u : W1 m ρ c (Proc.devRef .tc main_v12) = up16 fun j : S8x2048x704.Idx => wu (ix3 0 (j 1) (col (j 0) (j 2))) := by
  show StableHlo.after hostOps0 (W0 m ρ c) (Proc.devRef .tc main_v12) = _
  entry_read
  rw [show W0 m ρ c (Proc.tc.devRef main_arg2) = up32 wu from hu]
  refine congrArg up (funext fun (j : S8x2048x704.Idx) => ?_)
  obtain ⟨n, r, l, rfl⟩ : ∃ n r l, j = ix3 n r l := ⟨j 0, j 1, j 2, by funext a; fin_cases a <;> rfl⟩
  pointwise
  rfl

include hd in
/-- The down weights as the call finds them in its array. -/
theorem entry_d : W1 m ρ c (Proc.devRef .tc main_v2) = up16 fun j : S8x704x2048.Idx => wd (ix3 0 (col (j 0) (j 1)) (j 2)) := by
  show StableHlo.after hostOps0 (W0 m ρ c) (Proc.devRef .tc main_v2) = _
  entry_read
  rw [show W0 m ρ c (Proc.tc.devRef main_arg3) = up32 wd from hd]
  refine congrArg up (funext fun (j : S8x704x2048.Idx) => ?_)
  obtain ⟨n, r, l, rfl⟩ : ∃ n r l, j = ix3 n r l := ⟨j 0, j 1, j 2, by funext a; fin_cases a <;> rfl⟩
  pointwise
  rfl

include hc in
/-- The cotangent as the call finds them in its array. -/
theorem entry_c : W3 m ρ c (Proc.devRef .tc main_v15) = up16 fun j : S8320x2048.Idx => ct (ix3 0 (j 0) (j 1)) := by
  show StableHlo.after hostOps1 (W2 m ρ c) (Proc.devRef .tc main_v15) = _
  entry_read
  rw [show W2 m ρ c (Proc.tc.devRef main_arg4) = up32 ct from (W2_args m ρ c main_arg4 (by decide)).trans hc]
  refine congrArg up (funext fun (j : S8320x2048.Idx) => ?_)
  obtain ⟨r, l, rfl⟩ : ∃ r l, j = ix2 r l := ⟨j 0, j 1, by funext a; fin_cases a <;> rfl⟩
  pointwise

/-- Row `p` of the tile of region 0's point `t`, and its block of columns. -/
def row0 (t : Fin cfg0.N) (p : Fin 640) : Fin 8320 := ⟨t.val / 8 * 640 + p.val, by have : t.val < 104 := t.isLt; omega⟩
/-- The block of columns of a point of the first call. -/
def blk0 (t : Fin cfg0.N) : Fin 8 := ⟨t.val % 8, by omega⟩

/-- Where a place of window 0's block lies in its array. -/
theorem emb0_0 (t : Fin cfg0.N) (p : Fin 640) (l : Fin 2048) :
    (win0_0.blk t).view.emb (ix2 p l : S640x2048.Idx) = (ix2 (row0 t p) l : S8320x2048.Idx) := by
  have e : ∀ t : Fin cfg0.N, win0_0.index t = ![t.val / 8, 0] := (by decide +kernel : ∀ t : Fin grid0.N, _)
  blk_ext [e t, row0]

/-- Where a place of window 1's block lies in its array. -/
theorem emb0_1 (t : Fin cfg0.N) (z : Fin 1) (k : Fin 2048) (l : Fin 704) :
    (win0_1.blk t).view.emb (ix3 z k l : S1x2048x704.Idx) = (ix3 (blk0 t) k l : S8x2048x704.Idx) := by
  have e : ∀ t : Fin cfg0.N, win0_1.index t = ![t.val % 8, 0, 0] := (by decide +kernel : ∀ t : Fin grid0.N, _)
  blk_ext [e t, blk0]

/-- Where a place of window 3's block lies in its array. -/
theorem emb0_3 (t : Fin cfg0.N) (z : Fin 1) (p : Fin 640) (l : Fin 704) :
    (win0_3.blk t).view.emb (ix3 z p l : S1x640x704.Idx) = (ix3 (blk0 t) (row0 t p) l : S8x8320x704.Idx) := by
  have e : ∀ t : Fin cfg0.N, win0_3.index t = ![t.val % 8, t.val / 8, 0] := (by decide +kernel : ∀ t : Fin grid0.N, _)
  blk_ext [e t, blk0, row0]

/-- What the layer saves, at row `i` and column `f` of block `n`: the product with the gate's columns, and with the other columns. -/
def pre (w : S1x2048x5632.Idx → ℝ) (h : S1x8320x2048.Idx → ℝ) (n : Fin 8) (i : Fin 8320) (f : Fin 704) : ℝ :=
  ∑ k : Fin 2048, h (ix3 0 i k) * w (ix3 0 k (col n f))

/-- The cotangent at the gated product. -/
def down (wd : S1x5632x2048.Idx → ℝ) (ct : S1x8320x2048.Idx → ℝ) (n : Fin 8) (i : Fin 8320) (f : Fin 704) : ℝ :=
  ∑ k : Fin 2048, ct (ix3 0 i k) * wd (ix3 0 (col n f) k)

/-- The saved factor of the gate's gradient. -/
def saveA (h : S1x8320x2048.Idx → ℝ) (wg wu : S1x2048x5632.Idx → ℝ) (j : S8x8320x704.Idx) : ℝ :=
  pre wu h (j 0) (j 1) (j 2) * logistic (pre wg h (j 0) (j 1) (j 2))
    * (1 + pre wg h (j 0) (j 1) (j 2) * (1 - logistic (pre wg h (j 0) (j 1) (j 2))))

/-- The saved factor of the other gradient. -/
def saveB (h : S1x8320x2048.Idx → ℝ) (wg : S1x2048x5632.Idx → ℝ) (j : S8x8320x704.Idx) : ℝ :=
  pre wg h (j 0) (j 1) (j 2) * logistic (pre wg h (j 0) (j 1) (j 2))

include hh in
/-- A point's block of the rows of h. -/
theorem blk_h (t : Fin cfg0.N) : iblk0 (V1 m ρ) c 0 t = up16 fun j : S640x2048.Idx => h (ix3 0 (row0 t (j 0)) (j 1)) := by
  unfold iblk0
  rw [show V1 m ρ c (Pipeline.arrRef spec0 0) = up16 fun j : S8320x2048.Idx => h (ix3 0 (j 0) (j 1)) from entry_h m ρ c h hh]
  funext j
  change S640x2048.Idx at j
  obtain ⟨p, l, rfl⟩ : ∃ p l, j = ix2 p l := ⟨j 0, j 1, by funext a; fin_cases a <;> rfl⟩
  exact congrArg (up16 fun j : S8320x2048.Idx => h (ix3 0 (j 0) (j 1))) (emb0_0 t p l)

include hg in
/-- A point's block of the gate weights. -/
theorem blk_g (t : Fin cfg0.N) : iblk0 (V1 m ρ) c 1 t = up16 fun j : S1x2048x704.Idx => wg (ix3 0 (j 1) (col (blk0 t) (j 2))) := by
  unfold iblk0
  rw [show V1 m ρ c (Pipeline.arrRef spec0 1) = up16 fun j : S8x2048x704.Idx => wg (ix3 0 (j 1) (col (j 0) (j 2))) from entry_g m ρ c wg hg]
  funext j
  change S1x2048x704.Idx at j
  obtain ⟨z, p, l, rfl⟩ : ∃ z p l, j = ix3 z p l := ⟨j 0, j 1, j 2, by funext a; fin_cases a <;> rfl⟩
  exact congrArg (up16 fun j : S8x2048x704.Idx => wg (ix3 0 (j 1) (col (j 0) (j 2)))) (emb0_1 t z p l)

include hu in
/-- A point's block of the up weights. -/
theorem blk_u (t : Fin cfg0.N) : iblk0 (V1 m ρ) c 2 t = up16 fun j : S1x2048x704.Idx => wu (ix3 0 (j 1) (col (blk0 t) (j 2))) := by
  unfold iblk0
  rw [show V1 m ρ c (Pipeline.arrRef spec0 2) = up16 fun j : S8x2048x704.Idx => wu (ix3 0 (j 1) (col (j 0) (j 2))) from entry_u m ρ c wu hu]
  funext j
  change S1x2048x704.Idx at j
  obtain ⟨z, p, l, rfl⟩ : ∃ z p l, j = ix3 z p l := ⟨j 0, j 1, j 2, by funext a; fin_cases a <;> rfl⟩
  exact congrArg (up16 fun j : S8x2048x704.Idx => wu (ix3 0 (j 1) (col (j 0) (j 2)))) (emb0_1 t z p l)

include hh hg hu in
/-- The whole array `saveA` after the last point. -/
theorem arr_saveA : (dat0 (V1 m ρ) c).arrAt 3 cfg0.N = up32 (saveA h wg wu) := by
  refine (dat0 (V1 m ρ) c).arrAt_eq_of_covers 3 _ (by decide +kernel) fun t hf y => ?_
  change S1x640x704.Idx at y
  obtain ⟨z, p, l, rfl⟩ : ∃ z p l, y = ix3 z p l := ⟨y 0, y 1, y 2, by funext a; fin_cases a <;> rfl⟩
  rw [after0_3]
  unfold out0_3
  frame_out
  rw [blk_h m ρ c h hh, blk_g m ρ c wg hg, blk_u m ρ c wu hu, pay6_up]
  exact congrArg (up32 (saveA h wg wu)) (emb0_3 t z p l).symm

include hh hg in
/-- The whole array `saveB` after the last point. -/
theorem arr_saveB : (dat0 (V1 m ρ) c).arrAt 4 cfg0.N = up32 (saveB h wg) := by
  refine (dat0 (V1 m ρ) c).arrAt_eq_of_covers 4 _ (by decide +kernel) fun t hf y => ?_
  change S1x640x704.Idx at y
  obtain ⟨z, p, l, rfl⟩ : ∃ z p l, y = ix3 z p l := ⟨y 0, y 1, y 2, by funext a; fin_cases a <;> rfl⟩
  rw [after0_4]
  unfold out0_4
  frame_out
  rw [blk_h m ρ c h hh, blk_g m ρ c wg hg, pay7_up]
  exact congrArg (up32 (saveB h wg)) (emb0_3 t z p l).symm

include hh hg hu in
/-- The whole array `s` after the last point. -/
theorem arr_s : (dat0 (V1 m ρ) c).arrAt 5 cfg0.N = up16 fun j : S8x8320x704.Idx => saveB h wg j * pre wu h (j 0) (j 1) (j 2) := by
  refine (dat0 (V1 m ρ) c).arrAt_eq_of_covers 5 _ (by decide +kernel) fun t hf y => ?_
  change S1x640x704.Idx at y
  obtain ⟨z, p, l, rfl⟩ : ∃ z p l, y = ix3 z p l := ⟨y 0, y 1, y 2, by funext a; fin_cases a <;> rfl⟩
  rw [after0_5]
  unfold out0_5
  frame_out
  rw [blk_h m ρ c h hh, blk_g m ρ c wg hg, blk_u m ρ c wu hu, pay8_up]
  exact congrArg (up16 fun j : S8x8320x704.Idx => saveB h wg j * pre wu h (j 0) (j 1) (j 2)) (emb0_3 t z p l).symm

/-- Row `p` of the tile of region 1's point `t`, and its block `q` of columns of the two it takes. -/
def row1 (t : Fin cfg1.N) (p : Fin 640) : Fin 8320 := ⟨t.val / 4 * 640 + p.val, by have : t.val < 52 := t.isLt; omega⟩
/-- The pair of blocks of columns of a point of the second call. -/
def blk1 (t : Fin cfg1.N) (q : Fin 2) : Fin 8 := ⟨t.val % 4 * 2 + q.val, by omega⟩

/-- Where a place of window 0's block lies in its array. -/
theorem emb1_0 (t : Fin cfg1.N) (p : Fin 640) (l : Fin 2048) :
    (win1_0.blk t).view.emb (ix2 p l : S640x2048.Idx) = (ix2 (row1 t p) l : S8320x2048.Idx) := by
  have e : ∀ t : Fin cfg1.N, win1_0.index t = ![t.val / 4, 0] := (by decide +kernel : ∀ t : Fin grid1.N, _)
  blk_ext [e t, row1]

/-- Where a place of window 1's block lies in its array. -/
theorem emb1_1 (t : Fin cfg1.N) (q : Fin 2) (k : Fin 704) (l : Fin 2048) :
    (win1_1.blk t).view.emb (ix3 q k l : S2x704x2048.Idx) = (ix3 (blk1 t q) k l : S8x704x2048.Idx) := by
  have e : ∀ t : Fin cfg1.N, win1_1.index t = ![t.val % 4, 0, 0] := (by decide +kernel : ∀ t : Fin grid1.N, _)
  blk_ext [e t, blk1]

/-- Where a place of window 2's block lies in its array. -/
theorem emb1_2 (t : Fin cfg1.N) (q : Fin 2) (p : Fin 640) (l : Fin 704) :
    (win1_2.blk t).view.emb (ix3 q p l : S2x640x704.Idx) = (ix3 (blk1 t q) (row1 t p) l : S8x8320x704.Idx) := by
  have e : ∀ t : Fin cfg1.N, win1_2.index t = ![t.val % 4, t.val / 4, 0] := (by decide +kernel : ∀ t : Fin grid1.N, _)
  blk_ext [e t, blk1, row1]

/-- An argument that neither call writes is at the second as at the first. -/
theorem V3_arg (b : Ref KernelFfnIdeal.sig .tc) (h1 : b ∉ hostOps1_W) (h0 : ∀ w : Fin cfg0.W, Pipeline.arrRef spec0 w ≠ b) : V3 m ρ c b = V1 m ρ c b :=
  (W3_of m ρ c b h1).trans (W2_of_ne m ρ c b h0)

include hc in
/-- A point's block of the cotangent. -/
theorem blk_c (t : Fin cfg1.N) : iblk1 (V3 m ρ) c 0 t = up16 fun j : S640x2048.Idx => ct (ix3 0 (row1 t (j 0)) (j 1)) := by
  unfold iblk1
  rw [show V3 m ρ c (Pipeline.arrRef spec1 0) = up16 fun j : S8320x2048.Idx => ct (ix3 0 (j 0) (j 1)) from entry_c m ρ c ct hc]
  funext j
  change S640x2048.Idx at j
  obtain ⟨p, l, rfl⟩ : ∃ p l, j = ix2 p l := ⟨j 0, j 1, by funext a; fin_cases a <;> rfl⟩
  exact congrArg (up16 fun j : S8320x2048.Idx => ct (ix3 0 (j 0) (j 1))) (emb1_0 t p l)

/-- The down projection by blocks of its columns, as region 1 reads it. -/
def wdB (wd : S1x5632x2048.Idx → ℝ) : S8x704x2048.Idx → ℝ := fun j => wd (ix3 0 (col (j 0) (j 1)) (j 2))

include hd in
/-- The down weights, at the second call as the second call finds them in its array. -/
theorem entry_d3 : W3 m ρ c (Proc.devRef .tc main_v2) = up16 (wdB wd) :=
  (W3_of m ρ c main_v2 (by decide)).trans ((W2_of_ne m ρ c main_v2 (by decide +kernel)).trans (entry_d m ρ c wd hd))

include hd in
/-- A point's block of the down weights. -/
theorem blk_d (t : Fin cfg1.N) : iblk1 (V3 m ρ) c 1 t = up16 fun j : S2x704x2048.Idx => wdB wd (ix3 (blk1 t (j 0)) (j 1) (j 2)) := by
  unfold iblk1
  rw [show V3 m ρ c (Pipeline.arrRef spec1 1) = up16 (wdB wd) from entry_d3 m ρ c wd hd]
  funext j
  change S2x704x2048.Idx at j
  obtain ⟨z, p, l, rfl⟩ : ∃ z p l, j = ix3 z p l := ⟨j 0, j 1, j 2, by funext a; fin_cases a <;> rfl⟩
  exact congrArg (up16 (wdB wd)) (emb1_1 t z p l)

include hh hg hu in
/-- A point's block of the first saved factor. -/
theorem blk_sa (t : Fin cfg1.N) : iblk1 (V3 m ρ) c 2 t = up32 fun j : S2x640x704.Idx => saveA h wg wu (ix3 (blk1 t (j 0)) (row1 t (j 1)) (j 2)) := by
  unfold iblk1
  rw [show V3 m ρ c (Pipeline.arrRef spec1 2) = up32 (saveA h wg wu)
    from (W3_of m ρ c main_v13_0 (by decide)).trans ((W2_arr m ρ c 3).trans (arr_saveA m ρ c h wg wu hh hg hu))]
  funext j
  change S2x640x704.Idx at j
  obtain ⟨z, p, l, rfl⟩ : ∃ z p l, j = ix3 z p l := ⟨j 0, j 1, j 2, by funext a; fin_cases a <;> rfl⟩
  exact congrArg (up32 (saveA h wg wu)) (emb1_2 t z p l)

include hh hg in
/-- A point's block of the second saved factor. -/
theorem blk_sb (t : Fin cfg1.N) : iblk1 (V3 m ρ) c 3 t = up32 fun j : S2x640x704.Idx => saveB h wg (ix3 (blk1 t (j 0)) (row1 t (j 1)) (j 2)) := by
  unfold iblk1
  rw [show V3 m ρ c (Pipeline.arrRef spec1 3) = up32 (saveB h wg)
    from (W3_of m ρ c main_v13_1 (by decide)).trans ((W2_arr m ρ c 4).trans (arr_saveB m ρ c h wg hh hg))]
  funext j
  change S2x640x704.Idx at j
  obtain ⟨z, p, l, rfl⟩ : ∃ z p l, j = ix3 z p l := ⟨j 0, j 1, j 2, by funext a; fin_cases a <;> rfl⟩
  exact congrArg (up32 (saveB h wg)) (emb1_2 t z p l)

/-- Where half 0 of the pair of blocks lies. -/
theorem emb_p0 (p : Fin 640) (l : Fin 704) : r1_2.emb (ix3 0 p l : S1x640x704.Idx) = (ix3 0 p l : S2x640x704.Idx) := by
  funext a
  refine Fin.ext ?_
  rw [ValueKit.rect_emb_unit_val]
  fin_cases a <;> simp [ix3]

/-- Where half 1 of the pair of blocks lies. -/
theorem emb_p1 (p : Fin 640) (l : Fin 704) : r1_4.emb (ix3 0 p l : S1x640x704.Idx) = (ix3 1 p l : S2x640x704.Idx) := by
  funext a
  refine Fin.ext ?_
  rw [ValueKit.rect_emb_unit_val]
  fin_cases a <;> simp [ix3]

/-- Where half 0 of the pair of blocks lies. -/
theorem emb_w0 (p : Fin 704) (l : Fin 2048) : r1_1.emb (ix3 0 p l : S1x704x2048.Idx) = (ix3 0 p l : S2x704x2048.Idx) := by
  funext a
  refine Fin.ext ?_
  rw [ValueKit.rect_emb_unit_val]
  fin_cases a <;> simp [ix3]

/-- Where half 1 of the pair of blocks lies. -/
theorem emb_w1 (p : Fin 704) (l : Fin 2048) : r1_3.emb (ix3 0 p l : S1x704x2048.Idx) = (ix3 1 p l : S2x704x2048.Idx) := by
  funext a
  refine Fin.ext ?_
  rw [ValueKit.rect_emb_unit_val]
  fin_cases a <;> simp [ix3]

/-- Half 0 of the pair of blocks, read. -/
theorem ld_w0 (x : S2x704x2048.Idx → ℝ) :
    View.ld (Val := Elt Ideal) (e' := .bf16) (up16 x) r1_1 = (up16 fun j : S1x704x2048.Idx => x (ix3 0 (j 1) (j 2))) := by
  funext j
  obtain ⟨z, p, l, rfl⟩ : ∃ z p l, j = (ix3 z p l : S1x704x2048.Idx) := ⟨j 0, j 1, j 2, by funext a; fin_cases a <;> rfl⟩
  rw [Subsingleton.elim (α := Fin 1) z 0]
  exact congrArg (up16 x) (emb_w0 p l)

/-- Half 1 of the pair of blocks, read. -/
theorem ld_w1 (x : S2x704x2048.Idx → ℝ) :
    View.ld (Val := Elt Ideal) (e' := .bf16) (up16 x) r1_3 = (up16 fun j : S1x704x2048.Idx => x (ix3 1 (j 1) (j 2))) := by
  funext j
  obtain ⟨z, p, l, rfl⟩ : ∃ z p l, j = (ix3 z p l : S1x704x2048.Idx) := ⟨j 0, j 1, j 2, by funext a; fin_cases a <;> rfl⟩
  rw [Subsingleton.elim (α := Fin 1) z 0]
  exact congrArg (up16 x) (emb_w1 p l)

/-- Half 0 of the pair of blocks, read. -/
theorem ld_p0 (x : S2x640x704.Idx → ℝ) :
    View.ld (Val := Elt Ideal) (e' := .f32) (up32 x) r1_2 = (up32 fun j : S1x640x704.Idx => x (ix3 0 (j 1) (j 2))) := by
  funext j
  obtain ⟨z, p, l, rfl⟩ : ∃ z p l, j = (ix3 z p l : S1x640x704.Idx) := ⟨j 0, j 1, j 2, by funext a; fin_cases a <;> rfl⟩
  rw [Subsingleton.elim (α := Fin 1) z 0]
  exact congrArg (up32 x) (emb_p0 p l)

/-- Half 1 of the pair of blocks, read. -/
theorem ld_p1 (x : S2x640x704.Idx → ℝ) :
    View.ld (Val := Elt Ideal) (e' := .f32) (up32 x) r1_4 = (up32 fun j : S1x640x704.Idx => x (ix3 1 (j 1) (j 2))) := by
  funext j
  obtain ⟨z, p, l, rfl⟩ : ∃ z p l, j = (ix3 z p l : S1x640x704.Idx) := ⟨j 0, j 1, j 2, by funext a; fin_cases a <;> rfl⟩
  rw [Subsingleton.elim (α := Fin 1) z 0]
  exact congrArg (up32 x) (emb_p1 p l)

/-- Two blocks stored one after the other make up one array. -/
theorem canon_two (P Q : FVec Ideal S1x640x704 .bf16) (G : S2x640x704.Idx → ℝ)
    (hP : ∀ p l, P (ix3 0 p l) = up16 G (ix3 1 p l)) (hQ : ∀ p l, Q (ix3 0 p l) = up16 G (ix3 0 p l)) (z : Fin 2) (p : Fin 640) (l : Fin 704) :
    View.canon (Val := Elt Ideal) (s := S2x640x704) (e := .bf16) [⟨r1_4, P⟩, ⟨r1_2, Q⟩] (ix3 z p l) = up16 G (ix3 z p l) := by
  refine View.canon_apply_of_pieces (Val := Elt Ideal) (S := S2x640x704) (e := .bf16) (up16 G) _ (fun q hq x => ?_) _ ?_
  · simp only [List.mem_cons, List.not_mem_nil, or_false] at hq
    rcases hq with rfl | rfl
    · obtain ⟨z, p, l, rfl⟩ : ∃ z p l, x = (ix3 z p l : S1x640x704.Idx) := ⟨x 0, x 1, x 2, by funext a; fin_cases a <;> rfl⟩
      rw [Subsingleton.elim (α := Fin 1) z 0]
      exact (hP p l).trans (congrArg (up16 G) (emb_p1 p l).symm)
    · obtain ⟨z, p, l, rfl⟩ : ∃ z p l, x = (ix3 z p l : S1x640x704.Idx) := ⟨x 0, x 1, x 2, by funext a; fin_cases a <;> rfl⟩
      rw [Subsingleton.elim (α := Fin 1) z 0]
      exact (hQ p l).trans (congrArg (up16 G) (emb_p0 p l).symm)
  · fin_cases z
    · exact ⟨_, List.mem_cons_of_mem _ (List.mem_singleton.mpr rfl), (emb_p0 p l) ▸ r1_2.idx_mem (ix3 0 p l : S1x640x704.Idx)⟩
    · exact ⟨_, List.mem_cons_self .., (emb_p1 p l) ▸ r1_4.idx_mem (ix3 0 p l : S1x640x704.Idx)⟩

/-- The gradient at the gate's pre-activation. -/
def gradA (h : S1x8320x2048.Idx → ℝ) (wg wu : S1x2048x5632.Idx → ℝ) (wd : S1x5632x2048.Idx → ℝ) (ct : S1x8320x2048.Idx → ℝ) (j : S8x8320x704.Idx) : ℝ := down wd ct (j 0) (j 1) (j 2) * saveA h wg wu j

/-- The gradient at the other factor. -/
def gradB (h : S1x8320x2048.Idx → ℝ) (wg : S1x2048x5632.Idx → ℝ) (wd : S1x5632x2048.Idx → ℝ) (ct : S1x8320x2048.Idx → ℝ) (j : S8x8320x704.Idx) : ℝ := down wd ct (j 0) (j 1) (j 2) * saveB h wg j

/-- The two blocks region 1 stores of one gradient. -/
theorem canon_da (x : S640x2048.Idx → ℝ) (w : S2x704x2048.Idx → ℝ) (a : S2x640x704.Idx → ℝ) (z : Fin 2) (p : Fin 640) (l : Fin 704) :
    View.canon (Val := Elt Ideal) (s := S2x640x704) (e := .bf16) [⟨r1_4, k1_pay1 (k1_pay8 (F := Ideal) (up16 x) (View.ld (Val := Elt Ideal) (e' := .bf16) (up16 w) r1_3) (View.ld (Val := Elt Ideal) (e' := .f32) (up32 a) r1_4))⟩,
      ⟨r1_2, k1_pay5 (F := Ideal) (up16 x) (View.ld (Val := Elt Ideal) (e' := .bf16) (up16 w) r1_1) (View.ld (Val := Elt Ideal) (e' := .f32) (up32 a) r1_2)⟩] (ix3 z p l)
      = up16 (fun j : S2x640x704.Idx => dotDown x (fun i : S1x704x2048.Idx => w (ix3 (j 0) (i 1) (i 2))) (ix2 (j 1) (j 2)) * a j) (ix3 z p l) := by
  refine canon_two _ _ _ (fun p l => ?_) (fun p l => ?_) z p l
  · rw [ld_w1, ld_p1, ds_pay8_up]
    rfl
  · rw [ld_w0, ld_p0, ds_pay5_up]
    rfl

/-- The two blocks region 1 stores of one gradient. -/
theorem canon_db (x : S640x2048.Idx → ℝ) (w : S2x704x2048.Idx → ℝ) (a : S2x640x704.Idx → ℝ) (z : Fin 2) (p : Fin 640) (l : Fin 704) :
    View.canon (Val := Elt Ideal) (s := S2x640x704) (e := .bf16) [⟨r1_4, k1_pay2 (k1_pay7 (F := Ideal) (up16 x) (View.ld (Val := Elt Ideal) (e' := .bf16) (up16 w) r1_3)) (View.ld (Val := Elt Ideal) (e' := .f32) (up32 a) r1_4)⟩,
      ⟨r1_2, k1_pay6 (F := Ideal) (up16 x) (View.ld (Val := Elt Ideal) (e' := .bf16) (up16 w) r1_1) (View.ld (Val := Elt Ideal) (e' := .f32) (up32 a) r1_2)⟩] (ix3 z p l)
      = up16 (fun j : S2x640x704.Idx => dotDown x (fun i : S1x704x2048.Idx => w (ix3 (j 0) (i 1) (i 2))) (ix2 (j 1) (j 2)) * a j) (ix3 z p l) := by
  refine canon_two _ _ _ (fun p l => ?_) (fun p l => ?_) z p l
  · rw [ld_w1, ld_p1, ds_pay2_up]
    rfl
  · rw [ld_w0, ld_p0, ds_pay6_up]
    rfl

/-- A block's product is the product with that block of the weights. -/
theorem dot_block (n : Fin 8) (r : Fin 640 → Fin 8320) (p : Fin 640) (l : Fin 704) :
    dotDown (fun j : S640x2048.Idx => ct (ix3 0 (r (j 0)) (j 1))) (fun j : S1x704x2048.Idx => wdB wd (ix3 n (j 1) (j 2))) (ix2 p l)
      = down wd ct n (r p) l := by
  unfold dotDown down wdB
  pointwise

include hh hg hu hc hd in
set_option maxHeartbeats 2000000 in
/-- The whole array `da` after the last point. -/
theorem arr_da : (dat1 (V3 m ρ) c).arrAt 4 cfg1.N = up16 (gradA h wg wu wd ct) := by
  refine (dat1 (V3 m ρ) c).arrAt_eq_of_covers 4 _ (by decide +kernel) fun t hf y => ?_
  change S2x640x704.Idx at y
  obtain ⟨z, p, l, rfl⟩ : ∃ z p l, y = ix3 z p l := ⟨y 0, y 1, y 2, by funext a; fin_cases a <;> rfl⟩
  rw [after1_4]
  unfold out1_4
  frame_out
  rw [blk_c m ρ c ct hc, blk_d m ρ c wd hd, blk_sa m ρ c h wg wu hh hg hu]
  refine Eq.trans ?_ (congrArg (up16 (gradA h wg wu wd ct)) (emb1_2 t z p l).symm)
  refine (canon_da _ _ _ z p l).trans ?_
  exact congrArg (fun d : ℝ => ((d * saveA h wg wu (ix3 (blk1 t z) (row1 t p) l) : ℝ) : EReal)) (dot_block ct wd (blk1 t z) (row1 t) p l)

include hh hg hc hd in
set_option maxHeartbeats 2000000 in
/-- The whole array `db` after the last point. -/
theorem arr_db : (dat1 (V3 m ρ) c).arrAt 5 cfg1.N = up16 (gradB h wg wd ct) := by
  refine (dat1 (V3 m ρ) c).arrAt_eq_of_covers 5 _ (by decide +kernel) fun t hf y => ?_
  change S2x640x704.Idx at y
  obtain ⟨z, p, l, rfl⟩ : ∃ z p l, y = ix3 z p l := ⟨y 0, y 1, y 2, by funext a; fin_cases a <;> rfl⟩
  rw [after1_5]
  unfold out1_5
  frame_out
  rw [blk_c m ρ c ct hc, blk_d m ρ c wd hd, blk_sb m ρ c h wg hh hg]
  refine Eq.trans ?_ (congrArg (up16 (gradB h wg wd ct)) (emb1_2 t z p l).symm)
  refine (canon_db _ _ _ z p l).trans ?_
  exact congrArg (fun d : ℝ => ((d * saveB h wg (ix3 (blk1 t z) (row1 t p) l) : ℝ) : EReal)) (dot_block ct wd (blk1 t z) (row1 t) p l)

/-! ## The reference -/

/-- The pre-activation of the reference, by rows and all columns. -/
def preR (w : S1x2048x5632.Idx → ℝ) (h : S1x8320x2048.Idx → ℝ) (j : ReferenceFfnIdeal.S1x8320x5632.Idx) : ℝ :=
  ∑ k : Fin 2048, h (ix3 0 (j 1) k) * w (ix3 0 k (j 2))

/-- The reference's cotangent at the gated product. -/
def downR (wd : S1x5632x2048.Idx → ℝ) (ct : S1x8320x2048.Idx → ℝ) (j : ReferenceFfnIdeal.S1x8320x5632.Idx) : ℝ :=
  ∑ k : Fin 2048, ct (ix3 0 (j 1) k) * wd (ix3 0 (j 2) k)

/-- The reference's product with the up or gate weights. -/
theorem ref_pre (w : S1x2048x5632.Idx → ℝ) (h : S1x8320x2048.Idx → ℝ) :
    (Host.dotGeneral (F := Ideal) ReferenceFfnIdeal.dot_S1x8320x2048_S2048x5632_S1x8320x5632_2_0_01_1_n_n none (up32 h) (shapeCast ReferenceFfnIdeal.S2048x5632 (up32 w) ReferenceFfnIdeal.Facts₀.shapeCasts_S1x2048x5632_S2048x5632)
      : FVec Ideal ReferenceFfnIdeal.S1x8320x5632 .f32) = up32 (preR w h) := by
  rw [up_shapeCast]
  funext j
  obtain ⟨z, r, l, rfl⟩ : ∃ z r l, j = (ix3 z r l : ReferenceFfnIdeal.S1x8320x5632.Idx) := ⟨j 0, j 1, j 2, by funext a; fin_cases a <;> rfl⟩
  rw [Subsingleton.elim (α := Fin 1) z 0]
  pointwise
  simp only [up_apply]
  pointwise
  exact host_dot_coe _ _

/-- The reference's product with the down weights. -/
theorem ref_down (wd : S1x5632x2048.Idx → ℝ) (ct : S1x8320x2048.Idx → ℝ) :
    (Host.dotGeneral (F := Ideal) ReferenceFfnIdeal.dot_S1x8320x2048_S5632x2048_S1x8320x5632_2_1_01_0_n_n none (up32 ct) (shapeCast ReferenceFfnIdeal.S5632x2048 (up32 wd) ReferenceFfnIdeal.Facts₀.shapeCasts_S1x5632x2048_S5632x2048)
      : FVec Ideal ReferenceFfnIdeal.S1x8320x5632 .f32) = up32 (downR wd ct) := by
  rw [up_shapeCast]
  funext j
  obtain ⟨z, r, l, rfl⟩ : ∃ z r l, j = (ix3 z r l : ReferenceFfnIdeal.S1x8320x5632.Idx) := ⟨j 0, j 1, j 2, by funext a; fin_cases a <;> rfl⟩
  rw [Subsingleton.elim (α := Fin 1) z 0]
  pointwise
  simp only [up_apply]
  pointwise
  exact host_dot_coe _ _

/-- Rows and all columns, cut into eight blocks of columns, the block first. -/
theorem ref_blocks (x : ReferenceFfnIdeal.S1x8320x5632.Idx → ℝ) :
    (transpose S8x8320x704 [1, 0, 2] (shapeCast ReferenceFfnIdeal.S8320x8x704 (truncf .bf16 (shapeCast ReferenceFfnIdeal.S8320x5632 (up32 x) ReferenceFfnIdeal.Facts₀.shapeCasts_S1x8320x5632_S8320x5632) ReferenceFfnIdeal.Facts₀.bitsLt_bf16_f32)
      ReferenceFfnIdeal.Facts₀.shapeCasts_S8320x5632_S8320x8x704) ReferenceFfnIdeal.Facts₀.transposes_S8320x8x704_S8x8320x704_1_0_2 : FVec Ideal S8x8320x704 .bf16)
      = up16 fun j : S8x8320x704.Idx => x (ix3 0 (j 1) (col (j 0) (j 2))) := by
  rw [up_shapeCast, up_trunc, up_shapeCast]
  funext j
  obtain ⟨n, r, l, rfl⟩ : ∃ n r l, j = (ix3 n r l : S8x8320x704.Idx) := ⟨j 0, j 1, j 2, by funext a; fin_cases a <;> rfl⟩
  pointwise
  simp only [up_apply]
  pointwise
  rfl

/-- A column of the whole array is a column of its block. -/
theorem eq_da (h : S1x8320x2048.Idx → ℝ) (wg wu : S1x2048x5632.Idx → ℝ) (wd : S1x5632x2048.Idx → ℝ) (ct : S1x8320x2048.Idx → ℝ) (n : Fin 8) (r : Fin 8320) (f : Fin 704) :
    downR wd ct (ix3 0 r (col n f)) = down wd ct n r f ∧ preR wg h (ix3 0 r (col n f)) = pre wg h n r f := ⟨rfl, rfl⟩

set_option maxRecDepth 65536 in
set_option maxHeartbeats 4000000 in
/-- The two programs leave the same three arrays at arguments that are all real numbers. -/
theorem algebraic_ffn [hPre : Cert.Pre_finite_ffn.Facts] : algebraic_KernelFfnIdeal_ReferenceFfnIdeal_pre_finite_ffn := by
  intro m ρ m' ρ' hpre hagree
  refine ⟨fun c => W4 m ρ c main_v16_0, fun c => W4 m ρ c main_v16_1, fun c => W4 m ρ c main_v13_2,
    (θ_run (defs (F := Ideal)) _ _).mono (fun _ hr c => ⟨hr c _ (mem_uc main_v16_0 (by decide)), hr c _ (mem_uc main_v16_1 (by decide)),
      hr c _ (mem_uc main_v13_2 (by decide)), (hr c _ (mem_uc main_arg0 (by decide))).trans (W4_main_arg0 m ρ c),
      (hr c _ (mem_uc main_arg1 (by decide))).trans (W4_main_arg1 m ρ c), (hr c _ (mem_uc main_arg2 (by decide))).trans (W4_main_arg2 m ρ c),
      (hr c _ (mem_uc main_arg3 (by decide))).trans (W4_main_arg3 m ρ c), (hr c _ (mem_uc main_arg4 (by decide))).trans (W4_main_arg4 m ρ c)⟩)
      (run_all m ρ), ?_⟩
  refine (θ_run ReferenceFfnIdeal.defs _ _).mono (fun _ run c => ?_) (ReferenceFfnIdeal.Value.run (F := Ideal) m' ρ')
  obtain ⟨e0, e1, e2, e3, e4⟩ := hagree c
  obtain ⟨p0, p1, p2, p3, p4⟩ := hpre c
  obtain ⟨h, hh⟩ := up_of_abs_lt (x := m ((c : Thread nD τ).loc main_arg0)) fun j => by
    have := congrFun p0 j; simp only [Cert.Pre_finite_ffn.fn] at this; pointwise at this; exact this
  obtain ⟨wg, hg⟩ := up_of_abs_lt (x := m ((c : Thread nD τ).loc main_arg1)) fun j => by
    have := congrFun p1 j; simp only [Cert.Pre_finite_ffn.fn] at this; pointwise at this; exact this
  obtain ⟨wu, hu⟩ := up_of_abs_lt (x := m ((c : Thread nD τ).loc main_arg2)) fun j => by
    have := congrFun p2 j; simp only [Cert.Pre_finite_ffn.fn] at this; pointwise at this; exact this
  obtain ⟨wd, hd⟩ := up_of_abs_lt (x := m ((c : Thread nD τ).loc main_arg3)) fun j => by
    have := congrFun p3 j; simp only [Cert.Pre_finite_ffn.fn] at this; pointwise at this; exact this
  obtain ⟨ct, hc⟩ := up_of_abs_lt (x := m ((c : Thread nD τ).loc main_arg4)) fun j => by
    have := congrFun p4 j; simp only [Cert.Pre_finite_ffn.fn] at this; pointwise at this; exact this
  refine ⟨(run c).1.trans ?_, (run c).2.1.trans ?_, (run c).2.2.1.trans ?_, (run c).2.2.2⟩
  · have hk : W4 m ρ c main_v16_0 = up16 (gradA h wg wu wd ct) := (W4_arr m ρ c 4).trans (arr_da (m := m) (ρ := ρ) (c := c) (h := h) (wg := wg) (wu := wu) (wd := wd) (ct := ct) (hh := hh) (hg := hg) (hu := hu) (hd := hd) (hc := hc))
    refine Eq.trans ?_ hk.symm
    rw [e0.trans hh, e1.trans hg, e2.trans hu, e3.trans hd, e4.trans hc]
    simp only [ref_pre, ref_down, up_constant bits_one, up_bcastIn, bcastIn_const, up_host_neg, up_host_exp, up_add]
    rw [up_host_div _ _ fun j => one_add_exp_pos _]
    simp only [up_mul, up_sub, up_add]
    rw [ref_blocks]
    refine congrArg up16 (funext fun j => ?_)
    obtain ⟨n, r, l, rfl⟩ : ∃ n r l, j = (ix3 n r l : S8x8320x704.Idx) := ⟨j 0, j 1, j 2, by funext a; fin_cases a <;> rfl⟩
    pointwise
    rw [(eq_da h wg wu wd ct n r l).1, (eq_da h wg wu wd ct n r l).2, (eq_da h wu wu wd ct n r l).2]
    unfold gradA saveA logistic
    pointwise
    ring
  · have hk : W4 m ρ c main_v16_1 = up16 (gradB h wg wd ct) := (W4_arr m ρ c 5).trans (arr_db (m := m) (ρ := ρ) (c := c) (h := h) (wg := wg) (wd := wd) (ct := ct) (hh := hh) (hg := hg) (hd := hd) (hc := hc))
    refine Eq.trans ?_ hk.symm
    rw [e0.trans hh, e1.trans hg, e3.trans hd, e4.trans hc]
    simp only [ref_pre, ref_down, up_constant bits_one, up_bcastIn, bcastIn_const, up_host_neg, up_host_exp, up_add]
    rw [up_host_div _ _ fun j => one_add_exp_pos _]
    simp only [up_mul, up_sub, up_add]
    rw [ref_blocks]
    refine congrArg up16 (funext fun j => ?_)
    obtain ⟨n, r, l, rfl⟩ : ∃ n r l, j = (ix3 n r l : S8x8320x704.Idx) := ⟨j 0, j 1, j 2, by funext a; fin_cases a <;> rfl⟩
    pointwise
    rw [(eq_da h wg wu wd ct n r l).1, (eq_da h wg wu wd ct n r l).2]
    unfold gradB saveB logistic
    pointwise
    ring
  · have hk : W4 m ρ c main_v13_2 = up16 fun j : S8x8320x704.Idx => saveB h wg j * pre wu h (j 0) (j 1) (j 2) :=
      (W4_of_ne m ρ c main_v13_2 (by decide +kernel)).trans ((W3_of m ρ c main_v13_2 (by decide)).trans ((W2_arr m ρ c 5).trans (arr_s m ρ c h wg wu hh hg hu)))
    refine Eq.trans ?_ hk.symm
    rw [e0.trans hh, e1.trans hg, e2.trans hu]
    simp only [ref_pre, up_constant bits_one, up_bcastIn, bcastIn_const, up_host_neg, up_host_exp, up_add]
    rw [up_host_div _ _ fun j => one_add_exp_pos _]
    simp only [up_mul, up_sub, up_add]
    rw [ref_blocks]
    refine congrArg up16 (funext fun j => ?_)
    obtain ⟨n, r, l, rfl⟩ : ∃ n r l, j = (ix3 n r l : S8x8320x704.Idx) := ⟨j 0, j 1, j 2, by funext a; fin_cases a <;> rfl⟩
    pointwise
    rw [(eq_da h wg wu wd ct n r l).2, (eq_da h wu wu wd ct n r l).2]
    unfold saveB logistic
    pointwise

end Cert.Proof.Ffn

end
-- ==== Proof.Merge.lean ====
/- The gated merge of the mixer's two branches with its gradient: the two regions' arrays over the extended reals, and their equality with the reference. -/
module

public import proofs.«01_k».proof.Defs
public import proofs.«01_k».proof.Proof.Gen.KernelMergeIdeal.Frame
public import proofs.«01_k».proof.Proof.Gen.ReferenceMergeIdeal.Run
public import proofs.«01_k».proof.Proof.Reals
public import Idealize.ShloMosaic.Lib.Pipeline.ValueKit

@[expose] public section

noncomputable section

namespace Cert.Proof.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Scalars Cert.Reals
open Cert.KernelMergeIdeal Cert.KernelMergeIdeal.Gen

local notation "𝕄" => MT nD τ sig Unit (Elt Ideal) ℕ (UR sig nD τ) ℕ

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The logistic function on the extended reals. -/
def sg (x : EReal) : EReal := Ideal.div 1 (1 + Ideal.exp (-x))

/-- What is left of the logistic function. -/
def co (x : EReal) : EReal := 1 - sg x

/-! ## The payloads -/

section
variable (x : S640x1024.Idx → EReal) (w : S1024x512.Idx → EReal) (z u : S640x512.Idx → EReal) (b : S1x512.Idx → EReal)
  (y : S640x2048.Idx → EReal) (v : S512x2048.Idx → EReal)

/-- A tile of a branch's projection. -/
def dotP (j : S640x512.Idx) : EReal := ∑ k : Fin 1024, x (ix2 (j 0) k) * w (ix2 k (j 1))
/-- A tile of the cotangent at the merged array. -/
def dotY (j : S640x512.Idx) : EReal := ∑ k : Fin 2048, y (ix2 (j 0) k) * v (ix2 (j 1) k)

/-- Value 2 of the body, as a formula. -/
theorem pay2_eq : k0_pay2 (F := Ideal) (e16 x) (e16 w) = e32 (dotP x w) := by
  unfold k0_pay2
  funext j
  obtain ⟨r, l, rfl⟩ : ∃ r l, j = ix2 r l := ⟨j 0, j 1, by funext a; fin_cases a <;> rfl⟩
  pointwise
  rfl

/-- Value 3 of the body, as a formula. -/
theorem pay3_eq : k0_pay3 (F := Ideal) (e16 x) (e16 w) = e32 (dotP x w) := pay2_eq x w

/-- Value 1 of the body, as a formula. -/
theorem pay1k_eq : k1_pay1 (F := Ideal) (e16 y) (e16 v) = e32 (dotY y v) := by
  unfold k1_pay1
  funext j
  obtain ⟨r, l, rfl⟩ : ∃ r l, j = ix2 r l := ⟨j 0, j 1, by funext a; fin_cases a <;> rfl⟩
  pointwise
  rfl

/-- Value 4 of the body, as a formula. -/
theorem pay4_eq : k0_pay4 (F := Ideal) (e32 z) (e32 b) = e32 fun j => sg (z j + b (ix2 0 (j 1))) := by
  unfold k0_pay4
  funext j
  obtain ⟨r, l, rfl⟩ : ∃ r l, j = ix2 r l := ⟨j 0, j 1, by funext a; fin_cases a <;> rfl⟩
  pointwise
  rw [zero_sub]
  rfl

/-- Value 1 of the body, as a formula. -/
theorem pay1_eq (u' s : S640x512.Idx → EReal) : k0_pay1 (F := Ideal) (e32 u) (e32 u') (e32 s) (k0_pay5 (e32 z) (e32 b)) k0_pay6
    = e16 fun j => s j * u j + sg (z j + b (ix2 0 (j 1))) * u' j := by
  unfold k0_pay1 k0_pay5 k0_pay6
  funext j
  obtain ⟨r, l, rfl⟩ : ∃ r l, j = ix2 r l := ⟨j 0, j 1, by funext a; fin_cases a <;> rfl⟩
  pointwise
  rw [zero_sub]
  rfl

/-- Value 6 of the body, as a formula. -/
theorem pay6_eq (d s : S640x512.Idx → EReal) : k1_pay6 (F := Ideal) (e32 d) (e32 s) (e32 u) = e32 fun j => d j * u j * s j * (1 - s j) := by
  unfold k1_pay6
  funext j
  obtain ⟨r, l, rfl⟩ : ∃ r l, j = ix2 r l := ⟨j 0, j 1, by funext a; fin_cases a <;> rfl⟩
  pointwise

/-- Value 2 of the body, as a formula. -/
theorem pay2k_eq : k1_pay2 (F := Ideal) (e32 z) (e32 b) = e32 fun j => sg (z j + b (ix2 0 (j 1))) := by
  unfold k1_pay2
  funext j
  obtain ⟨r, l, rfl⟩ : ∃ r l, j = ix2 r l := ⟨j 0, j 1, by funext a; fin_cases a <;> rfl⟩
  pointwise
  rw [zero_sub]
  rfl

/-- Value 3 of the body, as a formula. -/
theorem pay3k_eq : k1_pay3 (F := Ideal) (e32 z) (e32 b) = e32 fun j => sg (z j + b (ix2 0 (j 1))) := pay2k_eq z b

/-- Value 4 of the body, as a formula. -/
theorem pay4k_eq : k1_pay4 (F := Ideal) (e16 y) (e16 v) (e32 z) (e32 b) = e16 fun j => dotY y v j * sg (z j + b (ix2 0 (j 1))) := by
  unfold k1_pay4
  rw [pay1k_eq, pay2k_eq]
  funext j
  obtain ⟨r, l, rfl⟩ : ∃ r l, j = ix2 r l := ⟨j 0, j 1, by funext a; fin_cases a <;> rfl⟩
  pointwise

/-- Value 5 of the body, as a formula. -/
theorem pay5k_eq : k1_pay5 (F := Ideal) (e16 y) (e16 v) (e32 z) (e32 b) = e16 fun j => dotY y v j * sg (z j + b (ix2 0 (j 1))) := pay4k_eq z b y v

/-- Value 8 of the body, as a formula. -/
theorem pay8k_eq (d s : S640x512.Idx → EReal) : k1_pay8 (F := Ideal) (e32 d) (e32 s) (e32 u) = e16 fun j => d j * u j * s j * (1 - s j) := by
  unfold k1_pay8
  rw [pay6_eq]
  funext j
  obtain ⟨r, l, rfl⟩ : ∃ r l, j = ix2 r l := ⟨j 0, j 1, by funext a; fin_cases a <;> rfl⟩
  pointwise

/-- Value 9 of the body, as a formula. -/
theorem pay9k_eq (d s : S640x512.Idx → EReal) : k1_pay9 (F := Ideal) (e32 d) (e32 s) (e32 u) = e16 fun j => d j * u j * s j * (1 - s j) := pay8k_eq u d s

/-- Value 10 of the body, as a formula. -/
theorem pay10_eq : k1_pay10 (F := Ideal) = e32 fun _ => 0 := by
  unfold k1_pay10
  funext j
  obtain ⟨l, rfl⟩ : ∃ l, j = ix2 0 l := ⟨j 1, by funext a; fin_cases a; exact Fin.ext (Nat.lt_one_iff.mp (j 0).isLt); rfl⟩
  pointwise

/-- Value 11 of the body, as a formula. -/
theorem pay11_eq : k1_pay11 (F := Ideal) = e32 fun _ => 0 := pay10_eq

/-- Value 12 of the body, as a formula. -/
theorem pay12_eq (d s : S640x512.Idx → EReal) : k1_pay12 (F := Ideal) (e32 d) (e32 s) (e32 u) (e32 b)
    = e32 fun j => b j + ∑ q : Fin 640, (d (ix2 q (j 1)) * u (ix2 q (j 1)) * s (ix2 q (j 1)) * (1 - s (ix2 q (j 1)))) := by
  unfold k1_pay12
  rw [pay6_eq]
  funext j
  obtain ⟨l, rfl⟩ : ∃ l, j = ix2 0 l := ⟨j 1, by funext a; fin_cases a; exact Fin.ext (Nat.lt_one_iff.mp (j 0).isLt); rfl⟩
  pointwise
  rfl

/-- Value 13 of the body, as a formula. -/
theorem pay13_eq (d s : S640x512.Idx → EReal) : k1_pay13 (F := Ideal) (e32 d) (e32 s) (e32 u) (e32 b)
    = e32 fun j => b j + ∑ q : Fin 640, (d (ix2 q (j 1)) * u (ix2 q (j 1)) * s (ix2 q (j 1)) * (1 - s (ix2 q (j 1)))) := pay12_eq u b d s

end

section
variable (m : (ℓ : Loc nD τ sig) → Buf (Elt Ideal) ℓ) (ρ : Dev nD → PrngReg)

-- the launch theorem's implicit arguments are found by unfolding plain definitions
set_option backward.isDefEq.respectTransparency.types false in
/-- The program's run: every unscoped buffer ends at the last boundary's contents. -/
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ c => h c)

end

section
variable (m : (ℓ : Loc nD τ sig) → Buf (Elt Ideal) ℓ) (ρ : Dev nD → PrngReg) (c : Dev nD)
  (oh os : S1x8320x1024.Idx → EReal) (ph ps : S1x1024x2048.Idx → EReal) (pr : S1x8320x11264.Idx → EReal) (bg : S1x4096.Idx → EReal)
  (wo : S1x2048x2048.Idx → EReal) (ct : S1x8320x2048.Idx → EReal)
  (hoh : m ((c : Thread nD τ).loc main_arg0) = e32 oh) (hos : m ((c : Thread nD τ).loc main_arg1) = e32 os)
  (hph : m ((c : Thread nD τ).loc main_arg2) = e32 ph) (hps : m ((c : Thread nD τ).loc main_arg3) = e32 ps)
  (hpr : m ((c : Thread nD τ).loc main_arg4) = e32 pr) (hbg : m ((c : Thread nD τ).loc main_arg5) = e32 bg)
  (hwo : m ((c : Thread nD τ).loc main_arg6) = e32 wo) (hct : m ((c : Thread nD τ).loc main_arg7) = e32 ct)

/-! ## What the regions find -/

include hoh in
/-- The recurrence's output as the call finds them in its array. -/
theorem entry_oh : W1 m ρ c (Proc.devRef .tc main_v1) = e16 fun j : S8320x1024.Idx => oh (ix3 0 (j 0) (j 1)) := by
  show StableHlo.after hostOps0 (W0 m ρ c) (Proc.devRef .tc main_v1) = _
  entry_read
  rw [show W0 m ρ c (Proc.tc.devRef main_arg0) = e32 oh from hoh]
  refine (funext fun (j : S8320x1024.Idx) => ?_)
  obtain ⟨r, l, rfl⟩ : ∃ r l, j = ix2 r l := ⟨j 0, j 1, by funext a; fin_cases a <;> rfl⟩
  pointwise
  rfl

include hos in
/-- The attention's output as the call finds them in its array. -/
theorem entry_os : W1 m ρ c (Proc.devRef .tc main_v3) = e16 fun j : S8320x1024.Idx => os (ix3 0 (j 0) (j 1)) := by
  show StableHlo.after hostOps0 (W0 m ρ c) (Proc.devRef .tc main_v3) = _
  entry_read
  rw [show W0 m ρ c (Proc.tc.devRef main_arg1) = e32 os from hos]
  refine (funext fun (j : S8320x1024.Idx) => ?_)
  obtain ⟨r, l, rfl⟩ : ∃ r l, j = ix2 r l := ⟨j 0, j 1, by funext a; fin_cases a <;> rfl⟩
  pointwise
  rfl

include hph in
/-- The recurrence's projection as the call finds them in its array. -/
theorem entry_ph : W1 m ρ c (Proc.devRef .tc main_v5) = e16 fun j : S1024x2048.Idx => ph (ix3 0 (j 0) (j 1)) := by
  show StableHlo.after hostOps0 (W0 m ρ c) (Proc.devRef .tc main_v5) = _
  entry_read
  rw [show W0 m ρ c (Proc.tc.devRef main_arg2) = e32 ph from hph]
  refine (funext fun (j : S1024x2048.Idx) => ?_)
  obtain ⟨r, l, rfl⟩ : ∃ r l, j = ix2 r l := ⟨j 0, j 1, by funext a; fin_cases a <;> rfl⟩
  pointwise
  rfl

include hps in
/-- The attention's projection as the call finds them in its array. -/
theorem entry_ps : W1 m ρ c (Proc.devRef .tc main_v7) = e16 fun j : S1024x2048.Idx => ps (ix3 0 (j 0) (j 1)) := by
  show StableHlo.after hostOps0 (W0 m ρ c) (Proc.devRef .tc main_v7) = _
  entry_read
  rw [show W0 m ρ c (Proc.tc.devRef main_arg3) = e32 ps from hps]
  refine (funext fun (j : S1024x2048.Idx) => ?_)
  obtain ⟨r, l, rfl⟩ : ∃ r l, j = ix2 r l := ⟨j 0, j 1, by funext a; fin_cases a <;> rfl⟩
  pointwise
  rfl

include hpr in
/-- The gate columns as the call finds them in its array. -/
theorem entry_pr : W1 m ρ c (Proc.devRef .tc main_v8) = e32 fun j : S8320x11264.Idx => pr (ix3 0 (j 0) (j 1)) := by
  show StableHlo.after hostOps0 (W0 m ρ c) (Proc.devRef .tc main_v8) = _
  entry_read
  rw [show W0 m ρ c (Proc.tc.devRef main_arg4) = e32 pr from hpr]
  refine (funext fun (j : S8320x11264.Idx) => ?_)
  obtain ⟨r, l, rfl⟩ : ∃ r l, j = ix2 r l := ⟨j 0, j 1, by funext a; fin_cases a <;> rfl⟩
  pointwise
  rfl

include hbg in
/-- The gate bias as the call finds them in its array. -/
theorem entry_bg : W1 m ρ c (Proc.devRef .tc main_arg5) = e32 bg := (W1_args m ρ c main_arg5 (by decide)).trans hbg

/-- Row tile `i` of thirteen and column tile `n` of four. -/
def row0 (t : Fin cfg0.N) (p : Fin 640) : Fin 8320 := ⟨t.val / 4 * 640 + p.val, by have : t.val < 52 := t.isLt; omega⟩
/-- The column tile of a point of region 0. -/
def ct0 (t : Fin cfg0.N) : Fin 4 := ⟨t.val % 4, Nat.mod_lt _ (by decide)⟩
/-- A column of a tile. -/
def col (n : Fin 4) (l : Fin 512) : Fin 2048 := ⟨n.val * 512 + l.val, by have := n.isLt; have := l.isLt; omega⟩
/-- The first branch's gate, among the projection's columns and among the bias's. -/
def gateA (l : Fin 2048) : Fin 11264 := ⟨7168 + l.val, by have := l.isLt; omega⟩
/-- The second branch's gate. -/
def gateB (l : Fin 2048) : Fin 11264 := ⟨9216 + l.val, by have := l.isLt; omega⟩
/-- The first branch's half of the bias. -/
def biasA (l : Fin 2048) : Fin 4096 := ⟨l.val, by have := l.isLt; omega⟩
/-- The second branch's half of the bias. -/
def biasB (l : Fin 2048) : Fin 4096 := ⟨2048 + l.val, by have := l.isLt; omega⟩

/-- Where a place of window 0's block lies in its array. -/
theorem emb0_0 (t : Fin cfg0.N) (p : Fin 640) (l : Fin 1024) : (win0_0.blk t).view.emb (ix2 p l : S640x1024.Idx) = (ix2 (row0 t p) l : S8320x1024.Idx) := by
  have e : ∀ t : Fin cfg0.N, win0_0.index t = ![t.val / 4, 0] := (by decide +kernel : ∀ t : Fin grid0.N, _)
  blk_ext [e t, row0]
/-- Where a place of window 2's block lies in its array. -/
theorem emb0_2 (t : Fin cfg0.N) (p : Fin 640) (l : Fin 1024) : (win0_2.blk t).view.emb (ix2 p l : S640x1024.Idx) = (ix2 (row0 t p) l : S8320x1024.Idx) := by
  have e : ∀ t : Fin cfg0.N, win0_2.index t = ![t.val / 4, 0] := (by decide +kernel : ∀ t : Fin grid0.N, _)
  blk_ext [e t, row0]
/-- Where a place of window 1's block lies in its array. -/
theorem emb0_1 (t : Fin cfg0.N) (p : Fin 1024) (l : Fin 512) : (win0_1.blk t).view.emb (ix2 p l : S1024x512.Idx) = (ix2 p (col (ct0 t) l) : S1024x2048.Idx) := by
  have e : ∀ t : Fin cfg0.N, win0_1.index t = ![0, t.val % 4] := (by decide +kernel : ∀ t : Fin grid0.N, _)
  blk_ext [e t, col, ct0]
/-- Where a place of window 3's block lies in its array. -/
theorem emb0_3 (t : Fin cfg0.N) (p : Fin 1024) (l : Fin 512) : (win0_3.blk t).view.emb (ix2 p l : S1024x512.Idx) = (ix2 p (col (ct0 t) l) : S1024x2048.Idx) := by
  have e : ∀ t : Fin cfg0.N, win0_3.index t = ![0, t.val % 4] := (by decide +kernel : ∀ t : Fin grid0.N, _)
  blk_ext [e t, col, ct0]
/-- Where a place of window 4's block lies in its array. -/
theorem emb0_4 (t : Fin cfg0.N) (p : Fin 640) (l : Fin 512) : (win0_4.blk t).view.emb (ix2 p l : S640x512.Idx) = (ix2 (row0 t p) (gateA (col (ct0 t) l)) : S8320x11264.Idx) := by
  have e : ∀ t : Fin cfg0.N, win0_4.index t = ![t.val / 4, 14 + t.val % 4] := (by decide +kernel : ∀ t : Fin grid0.N, _)
  blk_ext [e t, row0, col, ct0, gateA]
/-- Where a place of window 5's block lies in its array. -/
theorem emb0_5 (t : Fin cfg0.N) (p : Fin 640) (l : Fin 512) : (win0_5.blk t).view.emb (ix2 p l : S640x512.Idx) = (ix2 (row0 t p) (gateB (col (ct0 t) l)) : S8320x11264.Idx) := by
  have e : ∀ t : Fin cfg0.N, win0_5.index t = ![t.val / 4, 18 + t.val % 4] := (by decide +kernel : ∀ t : Fin grid0.N, _)
  blk_ext [e t, row0, col, ct0, gateB]
/-- Where a place of window 6's block lies in its array. -/
theorem emb0_6 (t : Fin cfg0.N) (l : Fin 512) : (win0_6.blk t).view.emb (ix2 0 l : S1x512.Idx) = (ix2 0 (biasA (col (ct0 t) l)) : S1x4096.Idx) := by
  have e : ∀ t : Fin cfg0.N, win0_6.index t = ![0, t.val % 4] := (by decide +kernel : ∀ t : Fin grid0.N, _)
  blk_ext [e t, col, ct0, biasA]
/-- Where a place of window 7's block lies in its array. -/
theorem emb0_7 (t : Fin cfg0.N) (l : Fin 512) : (win0_7.blk t).view.emb (ix2 0 l : S1x512.Idx) = (ix2 0 (biasB (col (ct0 t) l)) : S1x4096.Idx) := by
  have e : ∀ t : Fin cfg0.N, win0_7.index t = ![0, 4 + t.val % 4] := (by decide +kernel : ∀ t : Fin grid0.N, _)
  blk_ext [e t, col, ct0, biasB]
/-- Where a place of window 8's block lies in its array. -/
theorem emb0_8 (t : Fin cfg0.N) (p : Fin 640) (l : Fin 512) : (win0_8.blk t).view.emb (ix2 p l : S640x512.Idx) = (ix2 (row0 t p) (col (ct0 t) l) : S8320x2048.Idx) := by
  have e : ∀ t : Fin cfg0.N, win0_8.index t = ![t.val / 4, t.val % 4] := (by decide +kernel : ∀ t : Fin grid0.N, _)
  blk_ext [e t, row0, col, ct0]
/-- Where a place of window 9's block lies in its array. -/
theorem emb0_9 (t : Fin cfg0.N) (p : Fin 640) (l : Fin 512) : (win0_9.blk t).view.emb (ix2 p l : S640x512.Idx) = (ix2 (row0 t p) (col (ct0 t) l) : S8320x2048.Idx) := by
  have e : ∀ t : Fin cfg0.N, win0_9.index t = ![t.val / 4, t.val % 4] := (by decide +kernel : ∀ t : Fin grid0.N, _)
  blk_ext [e t, row0, col, ct0]
/-- Where a place of window 10's block lies in its array. -/
theorem emb0_10 (t : Fin cfg0.N) (p : Fin 640) (l : Fin 512) : (win0_10.blk t).view.emb (ix2 p l : S640x512.Idx) = (ix2 (row0 t p) (col (ct0 t) l) : S8320x2048.Idx) := by
  have e : ∀ t : Fin cfg0.N, win0_10.index t = ![t.val / 4, t.val % 4] := (by decide +kernel : ∀ t : Fin grid0.N, _)
  blk_ext [e t, row0, col, ct0]

include hbg in
/-- The gate bias as the call finds them in its array. -/
theorem entry_bg0 : W1 m ρ c (Proc.devRef .tc main_arg5) = e32 fun j : S1x4096.Idx => bg (ix2 0 (j 1)) := by
  rw [entry_bg m ρ c bg hbg]
  refine (funext fun (j : S1x4096.Idx) => ?_)
  obtain ⟨l, rfl⟩ : ∃ l, j = ix2 0 l := ⟨j 1, by funext a; fin_cases a; exact Fin.ext (Nat.lt_one_iff.mp (j 0).isLt); rfl⟩
  rfl

include hoh in
/-- A point's block of the recurrence's output. -/
theorem blk0_oh (t : Fin cfg0.N) : iblk0 (V1 m ρ) c 0 t = e16 fun j : S640x1024.Idx => oh (ix3 0 (row0 t (j 0)) (j 1)) := by
  unfold iblk0
  rw [show V1 m ρ c (Pipeline.arrRef spec0 0) = e16 fun j : S8320x1024.Idx => oh (ix3 0 (j 0) (j 1)) from entry_oh m ρ c oh hoh]
  funext j
  change S640x1024.Idx at j
  obtain ⟨p, l, rfl⟩ : ∃ p l, j = ix2 p l := ⟨j 0, j 1, by funext a; fin_cases a <;> rfl⟩
  exact congrArg (e16 fun j : S8320x1024.Idx => oh (ix3 0 (j 0) (j 1))) (emb0_0 t p l)

include hos in
/-- A point's block of the attention's output. -/
theorem blk0_os (t : Fin cfg0.N) : iblk0 (V1 m ρ) c 2 t = e16 fun j : S640x1024.Idx => os (ix3 0 (row0 t (j 0)) (j 1)) := by
  unfold iblk0
  rw [show V1 m ρ c (Pipeline.arrRef spec0 2) = e16 fun j : S8320x1024.Idx => os (ix3 0 (j 0) (j 1)) from entry_os m ρ c os hos]
  funext j
  change S640x1024.Idx at j
  obtain ⟨p, l, rfl⟩ : ∃ p l, j = ix2 p l := ⟨j 0, j 1, by funext a; fin_cases a <;> rfl⟩
  exact congrArg (e16 fun j : S8320x1024.Idx => os (ix3 0 (j 0) (j 1))) (emb0_2 t p l)

include hph in
/-- A point's block of the recurrence's projection. -/
theorem blk0_ph (t : Fin cfg0.N) : iblk0 (V1 m ρ) c 1 t = e16 fun j : S1024x512.Idx => ph (ix3 0 (j 0) (col (ct0 t) (j 1))) := by
  unfold iblk0
  rw [show V1 m ρ c (Pipeline.arrRef spec0 1) = e16 fun j : S1024x2048.Idx => ph (ix3 0 (j 0) (j 1)) from entry_ph m ρ c ph hph]
  funext j
  change S1024x512.Idx at j
  obtain ⟨p, l, rfl⟩ : ∃ p l, j = ix2 p l := ⟨j 0, j 1, by funext a; fin_cases a <;> rfl⟩
  exact congrArg (e16 fun j : S1024x2048.Idx => ph (ix3 0 (j 0) (j 1))) (emb0_1 t p l)

include hps in
/-- A point's block of the attention's projection. -/
theorem blk0_ps (t : Fin cfg0.N) : iblk0 (V1 m ρ) c 3 t = e16 fun j : S1024x512.Idx => ps (ix3 0 (j 0) (col (ct0 t) (j 1))) := by
  unfold iblk0
  rw [show V1 m ρ c (Pipeline.arrRef spec0 3) = e16 fun j : S1024x2048.Idx => ps (ix3 0 (j 0) (j 1)) from entry_ps m ρ c ps hps]
  funext j
  change S1024x512.Idx at j
  obtain ⟨p, l, rfl⟩ : ∃ p l, j = ix2 p l := ⟨j 0, j 1, by funext a; fin_cases a <;> rfl⟩
  exact congrArg (e16 fun j : S1024x2048.Idx => ps (ix3 0 (j 0) (j 1))) (emb0_3 t p l)

include hpr in
/-- A point's block of the first gate columns. -/
theorem blk0_za (t : Fin cfg0.N) : iblk0 (V1 m ρ) c 4 t = e32 fun j : S640x512.Idx => pr (ix3 0 (row0 t (j 0)) (gateA (col (ct0 t) (j 1)))) := by
  unfold iblk0
  rw [show V1 m ρ c (Pipeline.arrRef spec0 4) = e32 fun j : S8320x11264.Idx => pr (ix3 0 (j 0) (j 1)) from entry_pr m ρ c pr hpr]
  funext j
  change S640x512.Idx at j
  obtain ⟨p, l, rfl⟩ : ∃ p l, j = ix2 p l := ⟨j 0, j 1, by funext a; fin_cases a <;> rfl⟩
  exact congrArg (e32 fun j : S8320x11264.Idx => pr (ix3 0 (j 0) (j 1))) (emb0_4 t p l)

include hpr in
/-- A point's block of the second gate columns. -/
theorem blk0_zb (t : Fin cfg0.N) : iblk0 (V1 m ρ) c 5 t = e32 fun j : S640x512.Idx => pr (ix3 0 (row0 t (j 0)) (gateB (col (ct0 t) (j 1)))) := by
  unfold iblk0
  rw [show V1 m ρ c (Pipeline.arrRef spec0 5) = e32 fun j : S8320x11264.Idx => pr (ix3 0 (j 0) (j 1)) from entry_pr m ρ c pr hpr]
  funext j
  change S640x512.Idx at j
  obtain ⟨p, l, rfl⟩ : ∃ p l, j = ix2 p l := ⟨j 0, j 1, by funext a; fin_cases a <;> rfl⟩
  exact congrArg (e32 fun j : S8320x11264.Idx => pr (ix3 0 (j 0) (j 1))) (emb0_5 t p l)

include hbg in
/-- A point's block of the first half of the gate bias. -/
theorem blk0_ba (t : Fin cfg0.N) : iblk0 (V1 m ρ) c 6 t = e32 fun j : S1x512.Idx => bg (ix2 0 (biasA (col (ct0 t) (j 1)))) := by
  unfold iblk0
  rw [show V1 m ρ c (Pipeline.arrRef spec0 6) = e32 fun j : S1x4096.Idx => bg (ix2 0 (j 1)) from entry_bg0 m ρ c bg hbg]
  funext j
  change S1x512.Idx at j
  obtain ⟨l, rfl⟩ : ∃ l, j = ix2 0 l := ⟨j 1, by funext a; fin_cases a; exact Fin.ext (Nat.lt_one_iff.mp (j 0).isLt); rfl⟩
  exact congrArg (e32 fun j : S1x4096.Idx => bg (ix2 0 (j 1))) (emb0_6 t l)

include hbg in
/-- A point's block of the second half of the gate bias. -/
theorem blk0_bb (t : Fin cfg0.N) : iblk0 (V1 m ρ) c 7 t = e32 fun j : S1x512.Idx => bg (ix2 0 (biasB (col (ct0 t) (j 1)))) := by
  unfold iblk0
  rw [show V1 m ρ c (Pipeline.arrRef spec0 7) = e32 fun j : S1x4096.Idx => bg (ix2 0 (j 1)) from entry_bg0 m ρ c bg hbg]
  funext j
  change S1x512.Idx at j
  obtain ⟨l, rfl⟩ : ∃ l, j = ix2 0 l := ⟨j 1, by funext a; fin_cases a; exact Fin.ext (Nat.lt_one_iff.mp (j 0).isLt); rfl⟩
  exact congrArg (e32 fun j : S1x4096.Idx => bg (ix2 0 (j 1))) (emb0_7 t l)

/-- A branch's projection. -/
def prj (x : S1x8320x1024.Idx → EReal) (w : S1x1024x2048.Idx → EReal) (j : S8320x2048.Idx) : EReal :=
  ∑ k : Fin 1024, x (ix3 0 (j 0) k) * w (ix3 0 k (j 1))
/-- The first branch's gate. -/
def gA (j : S8320x2048.Idx) : EReal := sg (pr (ix3 0 (j 0) (gateA (j 1))) + bg (ix2 0 (biasA (j 1))))
/-- The second branch's gate. -/
def gB (j : S8320x2048.Idx) : EReal := sg (pr (ix3 0 (j 0) (gateB (j 1))) + bg (ix2 0 (biasB (j 1))))
/-- The merged array. -/
def mix (j : S8320x2048.Idx) : EReal := gA pr bg j * prj oh ph j + gB pr bg j * prj os ps j
/-- The cotangent at the merged array. -/
def dY (j : S8320x2048.Idx) : EReal := ∑ k : Fin 2048, ct (ix3 0 (j 0) k) * wo (ix3 0 (j 1) k)

include hoh hph in
set_option maxHeartbeats 2000000 in
/-- The whole array `u` after the last point. -/
theorem arr_u : (dat0 (V1 m ρ) c).arrAt 8 cfg0.N = e32 (prj oh ph) := by
  refine (dat0 (V1 m ρ) c).arrAt_eq_of_covers 8 _ (by decide +kernel) fun t hf y => ?_
  change S640x512.Idx at y
  obtain ⟨p, l, rfl⟩ : ∃ p l, y = ix2 p l := ⟨y 0, y 1, by funext a; fin_cases a <;> rfl⟩
  rw [after0_8]
  unfold out0_8 k0_pay7
  frame_out
  rw [blk0_oh m ρ c oh hoh, blk0_ph m ρ c ph hph, pay2_eq]
  exact congrArg (e32 (prj oh ph)) (emb0_8 t p l).symm

include hos hps in
set_option maxHeartbeats 2000000 in
/-- The whole array `v` after the last point. -/
theorem arr_v : (dat0 (V1 m ρ) c).arrAt 9 cfg0.N = e32 (prj os ps) := by
  refine (dat0 (V1 m ρ) c).arrAt_eq_of_covers 9 _ (by decide +kernel) fun t hf y => ?_
  change S640x512.Idx at y
  obtain ⟨p, l, rfl⟩ : ∃ p l, y = ix2 p l := ⟨y 0, y 1, by funext a; fin_cases a <;> rfl⟩
  rw [after0_9]
  unfold out0_9 k0_pay8
  frame_out
  rw [blk0_os m ρ c os hos, blk0_ps m ρ c ps hps, pay3_eq]
  exact congrArg (e32 (prj os ps)) (emb0_9 t p l).symm

include hoh hos hph hps hpr hbg in
set_option maxHeartbeats 2000000 in
/-- The whole array `y` after the last point. -/
theorem arr_y : (dat0 (V1 m ρ) c).arrAt 10 cfg0.N = e16 (mix oh os ph ps pr bg) := by
  refine (dat0 (V1 m ρ) c).arrAt_eq_of_covers 10 _ (by decide +kernel) fun t hf y => ?_
  change S640x512.Idx at y
  obtain ⟨p, l, rfl⟩ : ∃ p l, y = ix2 p l := ⟨y 0, y 1, by funext a; fin_cases a <;> rfl⟩
  rw [after0_10]
  unfold out0_10 k0_pay7 k0_pay8
  frame_out
  rw [blk0_oh m ρ c oh hoh, blk0_ph m ρ c ph hph, blk0_os m ρ c os hos, blk0_ps m ρ c ps hps, blk0_za m ρ c pr hpr, blk0_zb m ρ c pr hpr,
    blk0_ba m ρ c bg hbg, blk0_bb m ρ c bg hbg, pay2_eq, pay3_eq, pay4_eq, pay1_eq]
  exact congrArg (e16 (mix oh os ph ps pr bg)) (emb0_10 t p l).symm

/-! ## The second region -/

include hct in
/-- The cotangent as the second call finds them in its array. -/
theorem entry1_ct : W3 m ρ c (Proc.devRef .tc main_v11) = e16 fun j : S8320x2048.Idx => ct (ix3 0 (j 0) (j 1)) := by
  show StableHlo.after hostOps1 (W2 m ρ c) (Proc.devRef .tc main_v11) = _
  entry_read
  rw [show W2 m ρ c (Proc.tc.devRef main_arg7) = e32 ct from (W2_args m ρ c main_arg7 (by decide)).trans hct]
  refine (funext fun (j : S8320x2048.Idx) => ?_)
  obtain ⟨r, l, rfl⟩ : ∃ r l, j = ix2 r l := ⟨j 0, j 1, by funext a; fin_cases a <;> rfl⟩
  pointwise
  rfl

include hwo in
/-- The output weights as the second call finds them in its array. -/
theorem entry1_wo : W3 m ρ c (Proc.devRef .tc main_v13) = e16 fun j : S2048x2048.Idx => wo (ix3 0 (j 0) (j 1)) := by
  show StableHlo.after hostOps1 (W2 m ρ c) (Proc.devRef .tc main_v13) = _
  entry_read
  rw [show W2 m ρ c (Proc.tc.devRef main_arg6) = e32 wo from (W2_args m ρ c main_arg6 (by decide)).trans hwo]
  refine (funext fun (j : S2048x2048.Idx) => ?_)
  obtain ⟨r, l, rfl⟩ : ∃ r l, j = ix2 r l := ⟨j 0, j 1, by funext a; fin_cases a <;> rfl⟩
  pointwise
  rfl

include hpr in
/-- The gate columns as the second call finds them in its array. -/
theorem entry1_pr : W3 m ρ c (Proc.devRef .tc main_v14) = e32 fun j : S8320x11264.Idx => pr (ix3 0 (j 0) (j 1)) := by
  show StableHlo.after hostOps1 (W2 m ρ c) (Proc.devRef .tc main_v14) = _
  entry_read
  rw [show W2 m ρ c (Proc.tc.devRef main_arg4) = e32 pr from (W2_args m ρ c main_arg4 (by decide)).trans hpr]
  refine (funext fun (j : S8320x11264.Idx) => ?_)
  obtain ⟨r, l, rfl⟩ : ∃ r l, j = ix2 r l := ⟨j 0, j 1, by funext a; fin_cases a <;> rfl⟩
  pointwise
  rfl

include hbg in
/-- The gate bias as the second call finds them in its array. -/
theorem entry1_bg : W3 m ρ c (Proc.devRef .tc main_arg5) = e32 fun j : S1x4096.Idx => bg (ix2 0 (j 1)) := by
  rw [show W3 m ρ c (Proc.devRef .tc main_arg5) = e32 bg from (W3_args m ρ c main_arg5 (by decide)).trans hbg]
  refine (funext fun (j : S1x4096.Idx) => ?_)
  obtain ⟨l, rfl⟩ : ∃ l, j = ix2 0 l := ⟨j 1, by funext a; fin_cases a; exact Fin.ext (Nat.lt_one_iff.mp (j 0).isLt); rfl⟩
  rfl

include hoh hph in
/-- The recurrence's projected rows as the second call finds them in its array. -/
theorem entry1_u : W3 m ρ c (Proc.devRef .tc main_v9_0) = e32 (prj oh ph) :=
  (W3_of m ρ c main_v9_0 (by decide)).trans ((W2_arr m ρ c 8).trans (arr_u m ρ c oh ph hoh hph))

include hos hps in
/-- The attention's projected rows as the second call finds them in its array. -/
theorem entry1_v : W3 m ρ c (Proc.devRef .tc main_v9_1) = e32 (prj os ps) :=
  (W3_of m ρ c main_v9_1 (by decide)).trans ((W2_arr m ρ c 9).trans (arr_v m ρ c os ps hos hps))

/-- Row `p` of the row tile of region 1's point `t`: the rows run fastest. -/
def row1 (t : Fin cfg1.N) (p : Fin 640) : Fin 8320 := ⟨t.val % 13 * 640 + p.val, by omega⟩
/-- The column tile of a point of region 1. -/
def ct1 (t : Fin cfg1.N) : Fin 4 := ⟨t.val / 13, by have : t.val < 52 := t.isLt; omega⟩

/-- Where a place of window 0's block lies in its array. -/
theorem emb1_0 (t : Fin cfg1.N) (p : Fin 640) (l : Fin 2048) : (win1_0.blk t).view.emb (ix2 p l : S640x2048.Idx) = (ix2 (row1 t p) l : S8320x2048.Idx) := by
  have e : ∀ t : Fin cfg1.N, win1_0.index t = ![t.val % 13, 0] := (by decide +kernel : ∀ t : Fin grid1.N, _)
  blk_ext [e t, row1]

/-- Where a place of window 1's block lies in its array. -/
theorem emb1_1 (t : Fin cfg1.N) (p : Fin 512) (l : Fin 2048) : (win1_1.blk t).view.emb (ix2 p l : S512x2048.Idx) = (ix2 (col (ct1 t) p) l : S2048x2048.Idx) := by
  have e : ∀ t : Fin cfg1.N, win1_1.index t = ![t.val / 13, 0] := (by decide +kernel : ∀ t : Fin grid1.N, _)
  blk_ext [e t, col, ct1]

/-- Where a place of window 2's block lies in its array. -/
theorem emb1_2 (t : Fin cfg1.N) (p : Fin 640) (l : Fin 512) : (win1_2.blk t).view.emb (ix2 p l : S640x512.Idx) = (ix2 (row1 t p) (gateA (col (ct1 t) l)) : S8320x11264.Idx) := by
  have e : ∀ t : Fin cfg1.N, win1_2.index t = ![t.val % 13, 14 + t.val / 13] := (by decide +kernel : ∀ t : Fin grid1.N, _)
  blk_ext [e t, row1, col, ct1, gateA]

/-- Where a place of window 3's block lies in its array. -/
theorem emb1_3 (t : Fin cfg1.N) (p : Fin 640) (l : Fin 512) : (win1_3.blk t).view.emb (ix2 p l : S640x512.Idx) = (ix2 (row1 t p) (gateB (col (ct1 t) l)) : S8320x11264.Idx) := by
  have e : ∀ t : Fin cfg1.N, win1_3.index t = ![t.val % 13, 18 + t.val / 13] := (by decide +kernel : ∀ t : Fin grid1.N, _)
  blk_ext [e t, row1, col, ct1, gateB]

/-- Where a place of window 4's block lies in its array. -/
theorem emb1_4 (t : Fin cfg1.N) (l : Fin 512) : (win1_4.blk t).view.emb (ix2 0 l : S1x512.Idx) = (ix2 0 (biasA (col (ct1 t) l)) : S1x4096.Idx) := by
  have e : ∀ t : Fin cfg1.N, win1_4.index t = ![0, t.val / 13] := (by decide +kernel : ∀ t : Fin grid1.N, _)
  blk_ext [e t, col, ct1, biasA]

/-- Where a place of window 5's block lies in its array. -/
theorem emb1_5 (t : Fin cfg1.N) (l : Fin 512) : (win1_5.blk t).view.emb (ix2 0 l : S1x512.Idx) = (ix2 0 (biasB (col (ct1 t) l)) : S1x4096.Idx) := by
  have e : ∀ t : Fin cfg1.N, win1_5.index t = ![0, 4 + t.val / 13] := (by decide +kernel : ∀ t : Fin grid1.N, _)
  blk_ext [e t, col, ct1, biasB]

/-- Where a place of window 6's block lies in its array. -/
theorem emb1_6 (t : Fin cfg1.N) (p : Fin 640) (l : Fin 512) : (win1_6.blk t).view.emb (ix2 p l : S640x512.Idx) = (ix2 (row1 t p) (col (ct1 t) l) : S8320x2048.Idx) := by
  have e : ∀ t : Fin cfg1.N, win1_6.index t = ![t.val % 13, t.val / 13] := (by decide +kernel : ∀ t : Fin grid1.N, _)
  blk_ext [e t, row1, col, ct1]

/-- Where a place of window 7's block lies in its array. -/
theorem emb1_7 (t : Fin cfg1.N) (p : Fin 640) (l : Fin 512) : (win1_7.blk t).view.emb (ix2 p l : S640x512.Idx) = (ix2 (row1 t p) (col (ct1 t) l) : S8320x2048.Idx) := by
  have e : ∀ t : Fin cfg1.N, win1_7.index t = ![t.val % 13, t.val / 13] := (by decide +kernel : ∀ t : Fin grid1.N, _)
  blk_ext [e t, row1, col, ct1]

/-- Where a place of window 8's block lies in its array. -/
theorem emb1_8 (t : Fin cfg1.N) (p : Fin 640) (l : Fin 512) : (win1_8.blk t).view.emb (ix2 p l : S640x512.Idx) = (ix2 (row1 t p) (col (ct1 t) l) : S8320x2048.Idx) := by
  have e : ∀ t : Fin cfg1.N, win1_8.index t = ![t.val % 13, t.val / 13] := (by decide +kernel : ∀ t : Fin grid1.N, _)
  blk_ext [e t, row1, col, ct1]

/-- Where a place of window 9's block lies in its array. -/
theorem emb1_9 (t : Fin cfg1.N) (p : Fin 640) (l : Fin 512) : (win1_9.blk t).view.emb (ix2 p l : S640x512.Idx) = (ix2 (row1 t p) (col (ct1 t) l) : S8320x2048.Idx) := by
  have e : ∀ t : Fin cfg1.N, win1_9.index t = ![t.val % 13, t.val / 13] := (by decide +kernel : ∀ t : Fin grid1.N, _)
  blk_ext [e t, row1, col, ct1]

/-- Where a place of window 10's block lies in its array. -/
theorem emb1_10 (t : Fin cfg1.N) (p : Fin 640) (l : Fin 512) : (win1_10.blk t).view.emb (ix2 p l : S640x512.Idx) = (ix2 (row1 t p) (col (ct1 t) l) : S8320x2048.Idx) := by
  have e : ∀ t : Fin cfg1.N, win1_10.index t = ![t.val % 13, t.val / 13] := (by decide +kernel : ∀ t : Fin grid1.N, _)
  blk_ext [e t, row1, col, ct1]

/-- Where a place of window 11's block lies in its array. -/
theorem emb1_11 (t : Fin cfg1.N) (p : Fin 640) (l : Fin 512) : (win1_11.blk t).view.emb (ix2 p l : S640x512.Idx) = (ix2 (row1 t p) (col (ct1 t) l) : S8320x2048.Idx) := by
  have e : ∀ t : Fin cfg1.N, win1_11.index t = ![t.val % 13, t.val / 13] := (by decide +kernel : ∀ t : Fin grid1.N, _)
  blk_ext [e t, row1, col, ct1]

/-- Where a place of window 12's block lies in its array. -/
theorem emb1_12 (t : Fin cfg1.N) (l : Fin 512) : (win1_12.blk t).view.emb (ix2 0 l : S1x512.Idx) = (ix2 0 (col (ct1 t) l) : S1x2048.Idx) := by
  have e : ∀ t : Fin cfg1.N, win1_12.index t = ![0, t.val / 13] := (by decide +kernel : ∀ t : Fin grid1.N, _)
  blk_ext [e t, col, ct1]

/-- Where a place of window 13's block lies in its array. -/
theorem emb1_13 (t : Fin cfg1.N) (l : Fin 512) : (win1_13.blk t).view.emb (ix2 0 l : S1x512.Idx) = (ix2 0 (col (ct1 t) l) : S1x2048.Idx) := by
  have e : ∀ t : Fin cfg1.N, win1_13.index t = ![0, t.val / 13] := (by decide +kernel : ∀ t : Fin grid1.N, _)
  blk_ext [e t, col, ct1]

include hct in
/-- A point's block of the cotangent. -/
theorem blk1_ct (t : Fin cfg1.N) : iblk1 (V3 m ρ) c 0 t = e16 fun j : S640x2048.Idx => ct (ix3 0 (row1 t (j 0)) (j 1)) := by
  unfold iblk1
  rw [show V3 m ρ c (Pipeline.arrRef spec1 0) = e16 fun j : S8320x2048.Idx => ct (ix3 0 (j 0) (j 1)) from entry1_ct m ρ c ct hct]
  funext j
  change S640x2048.Idx at j
  obtain ⟨p, l, rfl⟩ : ∃ p l, j = ix2 p l := ⟨j 0, j 1, by funext a; fin_cases a <;> rfl⟩
  exact congrArg (e16 fun j : S8320x2048.Idx => ct (ix3 0 (j 0) (j 1))) (emb1_0 t p l)

include hwo in
/-- A point's block of the output weights. -/
theorem blk1_wo (t : Fin cfg1.N) : iblk1 (V3 m ρ) c 1 t = e16 fun j : S512x2048.Idx => wo (ix3 0 (col (ct1 t) (j 0)) (j 1)) := by
  unfold iblk1
  rw [show V3 m ρ c (Pipeline.arrRef spec1 1) = e16 fun j : S2048x2048.Idx => wo (ix3 0 (j 0) (j 1)) from entry1_wo m ρ c wo hwo]
  funext j
  change S512x2048.Idx at j
  obtain ⟨p, l, rfl⟩ : ∃ p l, j = ix2 p l := ⟨j 0, j 1, by funext a; fin_cases a <;> rfl⟩
  exact congrArg (e16 fun j : S2048x2048.Idx => wo (ix3 0 (j 0) (j 1))) (emb1_1 t p l)

include hpr in
/-- A point's block of the first gate columns. -/
theorem blk1_za (t : Fin cfg1.N) : iblk1 (V3 m ρ) c 2 t = e32 fun j : S640x512.Idx => pr (ix3 0 (row1 t (j 0)) (gateA (col (ct1 t) (j 1)))) := by
  unfold iblk1
  rw [show V3 m ρ c (Pipeline.arrRef spec1 2) = e32 fun j : S8320x11264.Idx => pr (ix3 0 (j 0) (j 1)) from entry1_pr m ρ c pr hpr]
  funext j
  change S640x512.Idx at j
  obtain ⟨p, l, rfl⟩ : ∃ p l, j = ix2 p l := ⟨j 0, j 1, by funext a; fin_cases a <;> rfl⟩
  exact congrArg (e32 fun j : S8320x11264.Idx => pr (ix3 0 (j 0) (j 1))) (emb1_2 t p l)

include hpr in
/-- A point's block of the second gate columns. -/
theorem blk1_zb (t : Fin cfg1.N) : iblk1 (V3 m ρ) c 3 t = e32 fun j : S640x512.Idx => pr (ix3 0 (row1 t (j 0)) (gateB (col (ct1 t) (j 1)))) := by
  unfold iblk1
  rw [show V3 m ρ c (Pipeline.arrRef spec1 3) = e32 fun j : S8320x11264.Idx => pr (ix3 0 (j 0) (j 1)) from entry1_pr m ρ c pr hpr]
  funext j
  change S640x512.Idx at j
  obtain ⟨p, l, rfl⟩ : ∃ p l, j = ix2 p l := ⟨j 0, j 1, by funext a; fin_cases a <;> rfl⟩
  exact congrArg (e32 fun j : S8320x11264.Idx => pr (ix3 0 (j 0) (j 1))) (emb1_3 t p l)

include hbg in
/-- A point's block of the first half of the gate bias. -/
theorem blk1_ba (t : Fin cfg1.N) : iblk1 (V3 m ρ) c 4 t = e32 fun j : S1x512.Idx => bg (ix2 0 (biasA (col (ct1 t) (j 1)))) := by
  unfold iblk1
  rw [show V3 m ρ c (Pipeline.arrRef spec1 4) = e32 fun j : S1x4096.Idx => bg (ix2 0 (j 1)) from entry1_bg m ρ c bg hbg]
  funext j
  change S1x512.Idx at j
  obtain ⟨l, rfl⟩ : ∃ l, j = ix2 0 l := ⟨j 1, by funext a; fin_cases a; exact Fin.ext (Nat.lt_one_iff.mp (j 0).isLt); rfl⟩
  exact congrArg (e32 fun j : S1x4096.Idx => bg (ix2 0 (j 1))) (emb1_4 t l)

include hbg in
/-- A point's block of the second half of the gate bias. -/
theorem blk1_bb (t : Fin cfg1.N) : iblk1 (V3 m ρ) c 5 t = e32 fun j : S1x512.Idx => bg (ix2 0 (biasB (col (ct1 t) (j 1)))) := by
  unfold iblk1
  rw [show V3 m ρ c (Pipeline.arrRef spec1 5) = e32 fun j : S1x4096.Idx => bg (ix2 0 (j 1)) from entry1_bg m ρ c bg hbg]
  funext j
  change S1x512.Idx at j
  obtain ⟨l, rfl⟩ : ∃ l, j = ix2 0 l := ⟨j 1, by funext a; fin_cases a; exact Fin.ext (Nat.lt_one_iff.mp (j 0).isLt); rfl⟩
  exact congrArg (e32 fun j : S1x4096.Idx => bg (ix2 0 (j 1))) (emb1_5 t l)

include hoh hph in
/-- A point's block of the recurrence's projected rows. -/
theorem blk1_u (t : Fin cfg1.N) : iblk1 (V3 m ρ) c 6 t = e32 fun j : S640x512.Idx => prj oh ph (ix2 (row1 t (j 0)) (col (ct1 t) (j 1))) := by
  unfold iblk1
  rw [show V3 m ρ c (Pipeline.arrRef spec1 6) = e32 (prj oh ph) from entry1_u m ρ c oh ph hoh hph]
  funext j
  change S640x512.Idx at j
  obtain ⟨p, l, rfl⟩ : ∃ p l, j = ix2 p l := ⟨j 0, j 1, by funext a; fin_cases a <;> rfl⟩
  exact congrArg (e32 (prj oh ph)) (emb1_6 t p l)

include hos hps in
/-- A point's block of the attention's projected rows. -/
theorem blk1_v (t : Fin cfg1.N) : iblk1 (V3 m ρ) c 7 t = e32 fun j : S640x512.Idx => prj os ps (ix2 (row1 t (j 0)) (col (ct1 t) (j 1))) := by
  unfold iblk1
  rw [show V3 m ρ c (Pipeline.arrRef spec1 7) = e32 (prj os ps) from entry1_v m ρ c os ps hos hps]
  funext j
  change S640x512.Idx at j
  obtain ⟨p, l, rfl⟩ : ∃ p l, j = ix2 p l := ⟨j 0, j 1, by funext a; fin_cases a <;> rfl⟩
  exact congrArg (e32 (prj os ps)) (emb1_7 t p l)

/-- The gradient before the first gate, and before the second. -/
def dzA (j : S8320x2048.Idx) : EReal := dY wo ct j * prj oh ph j * gA pr bg j * (1 - gA pr bg j)
/-- The gradient before the second gate. -/
def dzB (j : S8320x2048.Idx) : EReal := dY wo ct j * prj os ps j * gB pr bg j * (1 - gB pr bg j)

/-- The cotangent's tile at a point. -/
theorem dot_tile (t : Fin cfg1.N) (p : Fin 640) (l : Fin 512) :
    dotY (fun j : S640x2048.Idx => ct (ix3 0 (row1 t (j 0)) (j 1))) (fun j : S512x2048.Idx => wo (ix3 0 (col (ct1 t) (j 0)) (j 1))) (ix2 p l)
      = dY wo ct (ix2 (row1 t p) (col (ct1 t) l)) := rfl

set_option maxHeartbeats 2000000 in
/-- What the point writes to the four tiles. -/
theorem outs1 (t : Fin cfg1.N) : (outsAt1 (V3 m ρ) c t.val t.isLt).1 = k1_pay4 (iblk1 (V3 m ρ) c 0 t) (iblk1 (V3 m ρ) c 1 t) (iblk1 (V3 m ρ) c 2 t) (iblk1 (V3 m ρ) c 4 t)
    ∧ (outsAt1 (V3 m ρ) c t.val t.isLt).2.1 = k1_pay5 (iblk1 (V3 m ρ) c 0 t) (iblk1 (V3 m ρ) c 1 t) (iblk1 (V3 m ρ) c 3 t) (iblk1 (V3 m ρ) c 5 t)
    ∧ (outsAt1 (V3 m ρ) c t.val t.isLt).2.2.1 = k1_pay8 (k1_pay1 (iblk1 (V3 m ρ) c 0 t) (iblk1 (V3 m ρ) c 1 t)) (k1_pay2 (iblk1 (V3 m ρ) c 2 t) (iblk1 (V3 m ρ) c 4 t)) (iblk1 (V3 m ρ) c 6 t)
    ∧ (outsAt1 (V3 m ρ) c t.val t.isLt).2.2.2.1 = k1_pay9 (k1_pay1 (iblk1 (V3 m ρ) c 0 t) (iblk1 (V3 m ρ) c 1 t)) (k1_pay3 (iblk1 (V3 m ρ) c 3 t) (iblk1 (V3 m ρ) c 5 t)) (iblk1 (V3 m ρ) c 7 t) := by
  by_cases h0 : t.val % 13 = 0
  · rw [outsAt1_A (V3 m ρ) c t h0]
    refine ⟨?_, ?_, ?_, ?_⟩ <;> frame_out
  · rw [outsAt1_B (V3 m ρ) c t h0]
    refine ⟨?_, ?_, ?_, ?_⟩ <;> frame_out

include hct hwo hpr hbg in
set_option maxHeartbeats 2000000 in
/-- The whole array `du` after the last point. -/
theorem arr_du : (dat1 (V3 m ρ) c).arrAt 8 cfg1.N = e16 (fun j => dY wo ct j * gA pr bg j) := by
  refine (dat1 (V3 m ρ) c).arrAt_eq_of_covers 8 _ (by decide +kernel) fun t hf y => ?_
  change S640x512.Idx at y
  obtain ⟨p, l, rfl⟩ : ∃ p l, y = ix2 p l := ⟨y 0, y 1, by funext a; fin_cases a <;> rfl⟩
  rw [after1_8, (outs1 m ρ c t).1, blk1_ct m ρ c ct hct, blk1_wo m ρ c wo hwo, blk1_za m ρ c pr hpr, blk1_ba m ρ c bg hbg, pay4k_eq]
  exact congrArg (e16 (fun j => dY wo ct j * gA pr bg j)) (emb1_8 t p l).symm

include hct hwo hpr hbg in
set_option maxHeartbeats 2000000 in
/-- The whole array `dv` after the last point. -/
theorem arr_dv : (dat1 (V3 m ρ) c).arrAt 9 cfg1.N = e16 (fun j => dY wo ct j * gB pr bg j) := by
  refine (dat1 (V3 m ρ) c).arrAt_eq_of_covers 9 _ (by decide +kernel) fun t hf y => ?_
  change S640x512.Idx at y
  obtain ⟨p, l, rfl⟩ : ∃ p l, y = ix2 p l := ⟨y 0, y 1, by funext a; fin_cases a <;> rfl⟩
  rw [after1_9, (outs1 m ρ c t).2.1, blk1_ct m ρ c ct hct, blk1_wo m ρ c wo hwo, blk1_zb m ρ c pr hpr, blk1_bb m ρ c bg hbg, pay5k_eq]
  exact congrArg (e16 (fun j => dY wo ct j * gB pr bg j)) (emb1_9 t p l).symm

include hct hwo hpr hbg hoh hph in
set_option maxHeartbeats 2000000 in
/-- The whole array `dza` after the last point. -/
theorem arr_dza : (dat1 (V3 m ρ) c).arrAt 10 cfg1.N = e16 (dzA oh ph pr bg wo ct) := by
  refine (dat1 (V3 m ρ) c).arrAt_eq_of_covers 10 _ (by decide +kernel) fun t hf y => ?_
  change S640x512.Idx at y
  obtain ⟨p, l, rfl⟩ : ∃ p l, y = ix2 p l := ⟨y 0, y 1, by funext a; fin_cases a <;> rfl⟩
  rw [after1_10, (outs1 m ρ c t).2.2.1, blk1_ct m ρ c ct hct, blk1_wo m ρ c wo hwo, blk1_za m ρ c pr hpr, blk1_ba m ρ c bg hbg, blk1_u m ρ c oh ph hoh hph, pay1k_eq, pay2k_eq, pay8k_eq]
  exact congrArg (e16 (dzA oh ph pr bg wo ct)) (emb1_10 t p l).symm

include hct hwo hpr hbg hos hps in
set_option maxHeartbeats 2000000 in
/-- The whole array `dzb` after the last point. -/
theorem arr_dzb : (dat1 (V3 m ρ) c).arrAt 11 cfg1.N = e16 (dzB os ps pr bg wo ct) := by
  refine (dat1 (V3 m ρ) c).arrAt_eq_of_covers 11 _ (by decide +kernel) fun t hf y => ?_
  change S640x512.Idx at y
  obtain ⟨p, l, rfl⟩ : ∃ p l, y = ix2 p l := ⟨y 0, y 1, by funext a; fin_cases a <;> rfl⟩
  rw [after1_11, (outs1 m ρ c t).2.2.2, blk1_ct m ρ c ct hct, blk1_wo m ρ c wo hwo, blk1_zb m ρ c pr hpr, blk1_bb m ρ c bg hbg, blk1_v m ρ c os ps hos hps, pay1k_eq, pay3k_eq, pay9k_eq]
  exact congrArg (e16 (dzB os ps pr bg wo ct)) (emb1_11 t p l).symm

/-- The row tiles run through the rows. -/
theorem sum_rows (f : Fin 8320 → EReal) (t : Fin cfg1.N) :
    ∑ s : Fin 13, ∑ q : Fin 640, f (row1 ⟨13 * (t.val / 13) + s.val, by have : t.val < 52 := t.isLt; show _ < 52; omega⟩ q) = ∑ r, f r := by
  refine Fin.sum_mul_add_congr (M := EReal) (S := 13) (n := 640) (f := f) fun s k hl => congrArg f (Fin.ext ?_)
  show (13 * (t.val / 13) + s.val) % 13 * 640 + k.val = s.val * 640 + k.val
  have := s.isLt
  omega

include hct hwo hpr hbg hoh hph in
set_option maxHeartbeats 2000000 in
/-- After the last row tile of a column tile: the sum over the rows' tiles. -/
theorem out_dba (t : Fin cfg1.N) (hr : t.val % 13 = 12) (i : S1x512.Idx) : (outsAt1 (V3 m ρ) c t.val t.isLt).2.2.2.2.1 i
    = 0 + ∑ s : Fin 13, ∑ q : Fin 640, dzA oh ph pr bg wo ct (ix2 (row1 ⟨13 * (t.val / 13) + s.val, by have : t.val < 52 := t.isLt; show _ < 52; omega⟩ q) (col (ct1 t) (i 1))) := by
  refine (Pipeline.eq_sum_fin_of_reset_step_apply_of_flush (fun n h => (outsAt1 (V3 m ρ) c n h).2.2.2.2.1) 13 (fun _ => 0)
    (fun p j => ∑ q : Fin 640, dzA oh ph pr bg wo ct (ix2 (row1 p q) (col (ct1 p) (j 1))))
    (fun t h0 j => ?_) (fun t h0 j => ?_) t hr i).trans ?_
  · rw [outsAt1_A (V3 m ρ) c t h0]
    frame_out
    rw [blk1_ct m ρ c ct hct, blk1_wo m ρ c wo hwo, blk1_za m ρ c pr hpr, blk1_ba m ρ c bg hbg, blk1_u m ρ c oh ph hoh hph, pay1k_eq, pay2k_eq, pay12_eq, pay10_eq]
    rfl
  · rw [outsAt1_B (V3 m ρ) c t h0]
    frame_out
    rw [blk1_ct m ρ c ct hct, blk1_wo m ρ c wo hwo, blk1_za m ρ c pr hpr, blk1_ba m ρ c bg hbg, blk1_u m ρ c oh ph hoh hph, pay1k_eq, pay2k_eq, pay12_eq]
    rfl
  · refine congrArg (0 + ·) (Finset.sum_congr rfl fun s _ => Finset.sum_congr rfl fun q _ => congrArg _ (congrArg (ix2 _) (congrArg (col · _) (Fin.ext ?_))))
    show (13 * (t.val / 13) + s.val) / 13 = t.val / 13
    omega

include hct hwo hpr hbg hoh hph in
set_option maxHeartbeats 2000000 in
/-- The whole array `dba` after the last point. -/
theorem arr_dba : (dat1 (V3 m ρ) c).arrAt 12 cfg1.N = e32 fun j : S1x2048.Idx => ∑ r : Fin 8320, dzA oh ph pr bg wo ct (ix2 r (j 1)) := by
  refine (dat1 (V3 m ρ) c).arrAt_eq_of_covers 12 _ (by decide +kernel) fun t hf y => ?_
  change S1x512.Idx at y
  obtain ⟨l, rfl⟩ : ∃ l, y = ix2 0 l := ⟨y 1, by funext a; fin_cases a; exact Fin.ext (Nat.lt_one_iff.mp (y 0).isLt); rfl⟩
  have hr : t.val % 13 = 12 := (by decide +kernel : ∀ t : Fin grid1.N, (cfg1.win 12).flush t → t.val % 13 = 12) t hf
  rw [after1_12]
  refine (out_dba m ρ c oh ph pr bg wo ct hoh hph hpr hbg hwo hct t hr _).trans (Eq.trans ?_ (congrArg (e32 fun j : S1x2048.Idx => ∑ r : Fin 8320, dzA oh ph pr bg wo ct (ix2 r (j 1))) (emb1_12 t l).symm))
  rw [zero_add]
  exact sum_rows (fun r => dzA oh ph pr bg wo ct (ix2 r (col (ct1 t) l))) t

include hct hwo hpr hbg hos hps in
set_option maxHeartbeats 2000000 in
/-- After the last row tile of a column tile: the sum over the rows' tiles. -/
theorem out_dbb (t : Fin cfg1.N) (hr : t.val % 13 = 12) (i : S1x512.Idx) : (outsAt1 (V3 m ρ) c t.val t.isLt).2.2.2.2.2 i
    = 0 + ∑ s : Fin 13, ∑ q : Fin 640, dzB os ps pr bg wo ct (ix2 (row1 ⟨13 * (t.val / 13) + s.val, by have : t.val < 52 := t.isLt; show _ < 52; omega⟩ q) (col (ct1 t) (i 1))) := by
  refine (Pipeline.eq_sum_fin_of_reset_step_apply_of_flush (fun n h => (outsAt1 (V3 m ρ) c n h).2.2.2.2.2) 13 (fun _ => 0)
    (fun p j => ∑ q : Fin 640, dzB os ps pr bg wo ct (ix2 (row1 p q) (col (ct1 p) (j 1))))
    (fun t h0 j => ?_) (fun t h0 j => ?_) t hr i).trans ?_
  · rw [outsAt1_A (V3 m ρ) c t h0]
    frame_out
    rw [blk1_ct m ρ c ct hct, blk1_wo m ρ c wo hwo, blk1_zb m ρ c pr hpr, blk1_bb m ρ c bg hbg, blk1_v m ρ c os ps hos hps, pay1k_eq, pay3k_eq, pay13_eq, pay11_eq]
    rfl
  · rw [outsAt1_B (V3 m ρ) c t h0]
    frame_out
    rw [blk1_ct m ρ c ct hct, blk1_wo m ρ c wo hwo, blk1_zb m ρ c pr hpr, blk1_bb m ρ c bg hbg, blk1_v m ρ c os ps hos hps, pay1k_eq, pay3k_eq, pay13_eq]
    rfl
  · refine congrArg (0 + ·) (Finset.sum_congr rfl fun s _ => Finset.sum_congr rfl fun q _ => congrArg _ (congrArg (ix2 _) (congrArg (col · _) (Fin.ext ?_))))
    show (13 * (t.val / 13) + s.val) / 13 = t.val / 13
    omega

include hct hwo hpr hbg hos hps in
set_option maxHeartbeats 2000000 in
/-- The whole array `dbb` after the last point. -/
theorem arr_dbb : (dat1 (V3 m ρ) c).arrAt 13 cfg1.N = e32 fun j : S1x2048.Idx => ∑ r : Fin 8320, dzB os ps pr bg wo ct (ix2 r (j 1)) := by
  refine (dat1 (V3 m ρ) c).arrAt_eq_of_covers 13 _ (by decide +kernel) fun t hf y => ?_
  change S1x512.Idx at y
  obtain ⟨l, rfl⟩ : ∃ l, y = ix2 0 l := ⟨y 1, by funext a; fin_cases a; exact Fin.ext (Nat.lt_one_iff.mp (y 0).isLt); rfl⟩
  have hr : t.val % 13 = 12 := (by decide +kernel : ∀ t : Fin grid1.N, (cfg1.win 13).flush t → t.val % 13 = 12) t hf
  rw [after1_13]
  refine (out_dbb m ρ c os ps pr bg wo ct hos hps hpr hbg hwo hct t hr _).trans (Eq.trans ?_ (congrArg (e32 fun j : S1x2048.Idx => ∑ r : Fin 8320, dzB os ps pr bg wo ct (ix2 r (j 1))) (emb1_13 t l).symm))
  rw [zero_add]
  exact sum_rows (fun r => dzB os ps pr bg wo ct (ix2 r (col (ct1 t) l))) t

end

end Cert.Proof.Merge

end
-- ==== Proof.MergeRef.lean ====
/- The gated merge: the reference's lines over the extended reals, and their equality with the two regions' arrays. -/
module

public import proofs.«01_k».proof.Proof.Gen.KernelMerge.Frame
public import proofs.«01_k».proof.Proof.Merge

@[expose] public section

noncomputable section

namespace Cert.Proof.Merge

open Idealize.ShloMosaic Idealize.ShloMosaic.TcCoe Idealize.ShloMosaic.Tactic
open Cert.Scalars Cert.Reals

section
open ReferenceMergeIdeal ReferenceMergeIdeal.Gen
variable (oh os : S1x8320x1024.Idx → EReal) (ph ps : S1x1024x2048.Idx → EReal) (pr : S1x8320x11264.Idx → EReal) (bg : S1x4096.Idx → EReal)
  (wo : S1x2048x2048.Idx → EReal) (ct : S1x8320x2048.Idx → EReal)

/-- A gate's column among the projection's. -/
def gcol (l : Fin 4096) : Fin 11264 := ⟨7168 + l.val, by have := l.isLt; omega⟩
/-- Both gates in one array. -/
def gate (j : S1x8320x4096.Idx) : EReal := sg (pr (ix3 0 (j 1) (gcol (j 2))) + bg (ix2 0 (j 2)))

/-- The reference's gates. -/
theorem ref_gate : (Host.divf (broadcastInDim S1x8320x4096 ![] bcast_S_S1x8320x4096 (constant S_ .f32 0x3F800000#32)) (addf (broadcastInDim S1x8320x4096 ![] bcast_S_S1x8320x4096 (constant S_ .f32 0x3F800000#32)) (Host.exp (Host.negf (addf (extractStridedSlice S1x8320x4096 ![0, 0, 7168] (e32 pr) slices_S1x8320x11264_S1x8320x4096_0_0_7168) (broadcastInDim S1x8320x4096 ![0, 1, 2] bcast_S1x1x4096_S1x8320x4096_0_1_2 (broadcastInDim S1x1x4096 ![2] bcast_S4096_S1x1x4096_2 (shapeCast _ (e32 bg) shapeCasts_S1x4096_S4096))))))))
    = e32 (gate pr bg) := by
  funext j
  obtain ⟨z, r, l, rfl⟩ : ∃ z r l, j = (ix3 z r l : S1x8320x4096.Idx) := ⟨j 0, j 1, j 2, by funext a; fin_cases a <;> rfl⟩
  pointwise
  rfl

/-- The reference's projection of a branch. -/
theorem ref_prj : Host.dotGeneral dot_S1x8320x1024_S1024x2048_S1x8320x2048_2_0_01_1_n_n none (e32 oh) (shapeCast _ (e32 ph) shapeCasts_S1x1024x2048_S1024x2048)
    = e32 fun j : S1x8320x2048.Idx => prj oh ph (ix2 (j 1) (j 2)) := by
  funext j
  obtain ⟨z, r, l, rfl⟩ : ∃ z r l, j = (ix3 z r l : S1x8320x2048.Idx) := ⟨j 0, j 1, j 2, by funext a; fin_cases a <;> rfl⟩
  obtain rfl : z = 0 := Subsingleton.elim _ _
  pointwise
  rfl

/-- The reference's cotangent at the merged array. -/
theorem ref_dy : Host.dotGeneral dot_S1x8320x2048_S2048x2048_S1x8320x2048_2_1_01_0_n_n none (e32 ct) (shapeCast _ (e32 wo) shapeCasts_S1x2048x2048_S2048x2048)
    = e32 fun j : S1x8320x2048.Idx => dY wo ct (ix2 (j 1) (j 2)) := by
  funext j
  obtain ⟨z, r, l, rfl⟩ : ∃ z r l, j = (ix3 z r l : S1x8320x2048.Idx) := ⟨j 0, j 1, j 2, by funext a; fin_cases a <;> rfl⟩
  obtain rfl : z = 0 := Subsingleton.elim _ _
  pointwise
  rfl

/-- The gradient before both gates in one array. -/
def dz (j : S1x8320x4096.Idx) : EReal :=
  if h : (j 2).val < 2048 then dzA oh ph pr bg wo ct (ix2 (j 1) ⟨(j 2).val, h⟩) else dzB os ps pr bg wo ct (ix2 (j 1) ⟨(j 2).val - 2048, by have : (j 2).val < 4096 := (j 2).isLt; omega⟩)

/-- The reference's derivative of the gates, both halves side by side. -/
theorem ref_dz : mulf (concatenate S1x8320x4096 2 [⟨S1x8320x2048, (mulf (e32 fun j : S1x8320x2048.Idx => dY wo ct (ix2 (j 1) (j 2))) (e32 fun j : S1x8320x2048.Idx => prj oh ph (ix2 (j 1) (j 2))))⟩,
      ⟨S1x8320x2048, (mulf (e32 fun j : S1x8320x2048.Idx => dY wo ct (ix2 (j 1) (j 2))) (e32 fun j : S1x8320x2048.Idx => prj os ps (ix2 (j 1) (j 2))))⟩] concatenates_S1x8320x2048_S1x8320x2048_S1x8320x4096_d2)
      (mulf (e32 (gate pr bg)) (subf (broadcastInDim S1x8320x4096 ![] bcast_S_S1x8320x4096 (constant S_ .f32 0x3F800000#32)) (e32 (gate pr bg))))
    = e32 (dz oh os ph ps pr bg wo ct) := by
  funext j
  obtain ⟨z, r, l, rfl⟩ : ∃ z r l, j = (ix3 z r l : S1x8320x4096.Idx) := ⟨j 0, j 1, j 2, by funext a; fin_cases a <;> rfl⟩
  obtain rfl : z = 0 := Subsingleton.elim _ _
  pointwise
  by_cases h : l.val < 2048
  · rw [dif_pos h]
    refine Eq.trans ?_ (dif_pos (show ((ix3 0 r l : S1x8320x4096.Idx) 2).val < 2048 from h)).symm
    exact (mul_assoc (G := EReal) _ _ _).symm
  · rw [dif_neg h]
    refine Eq.trans ?_ (dif_neg (show ¬((ix3 0 r l : S1x8320x4096.Idx) 2).val < 2048 from h)).symm
    have e : gate pr bg (ix3 0 r l) = gB pr bg (ix2 r ⟨l.val - 2048, by omega⟩) := by
      unfold gate gB
      have e1 : gcol l = gateB ⟨l.val - 2048, by omega⟩ := Fin.ext (by show 7168 + l.val = 9216 + (l.val - 2048); omega)
      have e2 : l = biasB ⟨l.val - 2048, by omega⟩ := Fin.ext (by show l.val = 2048 + (l.val - 2048); omega)
      exact congrArg sg (congrArg₂ (· + ·) (congrArg pr (congrArg (ix3 0 r) e1)) (congrArg bg (congrArg (ix2 0) e2)))
    show _ * (gate pr bg (ix3 0 r l) * (1 - gate pr bg (ix3 0 r l))) = _
    rw [e]
    exact (mul_assoc (G := EReal) _ _ _).symm

/-- Summing over two axes of one entry takes that entry. -/
theorem sum_unit (x : S1x1x4096.Idx → EReal) (l : Fin 4096) : Ideal.hostReduceAdd reducesTo_S1x1x4096_S4096_d0_1 x 0 (ix1 l) = x (ix3 0 0 l) := by
  have hd : ∀ k : Fin 4096, (reducesTo_S1x1x4096_S4096_d0_1).drop (ix3 0 0 k : S1x1x4096.Idx) = (ix1 k : S4096.Idx) := fun k => by
    funext a
    fin_cases a
    rfl
  unfold Ideal.hostReduceAdd
  rw [zero_add]
  refine (Finset.sum_congr (s₂ := {(ix3 0 0 l : S1x1x4096.Idx)}) ?_ fun _ _ => rfl).trans (Finset.sum_singleton _ _)
  ext i
  obtain ⟨a, b, k, rfl⟩ : ∃ a b k, i = (ix3 a b k : S1x1x4096.Idx) := ⟨i 0, i 1, i 2, by funext a; fin_cases a <;> rfl⟩
  obtain rfl : a = 0 := Subsingleton.elim _ _
  obtain rfl : b = 0 := Subsingleton.elim _ _
  rw [Finset.mem_filter, Finset.mem_singleton, hd]
  exact ⟨fun h => congrArg (ix3 0 0) (congrFun h.2 0), fun h => ⟨Finset.mem_univ _, congrArg ix1 (congrFun h 2)⟩⟩

/-- The first half of the gates, and the second. -/
theorem gate_lo (r : Fin 8320) (l : Fin 2048) : gate pr bg (ix3 0 r ⟨l.val, by have := l.isLt; omega⟩) = gA pr bg (ix2 r l) := rfl
/-- A gate in the second half of the columns. -/
theorem gate_hi (r : Fin 8320) (l : Fin 2048) (h : 2048 + l.val < 4096) : gate pr bg (ix3 0 r ⟨2048 + l.val, h⟩) = gB pr bg (ix2 r l) := by
  unfold gate gB
  have e1 : gcol ⟨2048 + l.val, h⟩ = gateB l := Fin.ext (by show 7168 + (2048 + l.val) = 9216 + l.val; omega)
  exact congrArg sg (congrArg₂ (· + ·) (congrArg pr (congrArg (ix3 0 r) e1)) rfl)
/-- A column in the first half. -/
theorem dz_if_lo (r : Fin 8320) (l : Fin 4096) (h : l.val < 2048) : dz oh os ph ps pr bg wo ct (ix3 0 r l) = dzA oh ph pr bg wo ct (ix2 r ⟨l.val, h⟩) :=
  dif_pos (show ((ix3 0 r l : S1x8320x4096.Idx) 2).val < 2048 from h)
/-- A column in the second half. -/
theorem dz_if_hi (r : Fin 8320) (l : Fin 4096) (h : ¬l.val < 2048) :
    dz oh os ph ps pr bg wo ct (ix3 0 r l) = dzB os ps pr bg wo ct (ix2 r ⟨l.val - 2048, by have := l.isLt; omega⟩) :=
  dif_neg (show ¬((ix3 0 r l : S1x8320x4096.Idx) 2).val < 2048 from h)
/-- A column of the first half, by its number there. -/
theorem dz_lo (r : Fin 8320) (l : Fin 2048) (h : l.val < 4096) : dz oh os ph ps pr bg wo ct (ix3 0 r ⟨l.val, h⟩) = dzA oh ph pr bg wo ct (ix2 r l) :=
  dz_if_lo oh os ph ps pr bg wo ct r ⟨l.val, h⟩ l.isLt
/-- A column of the second half, by its number there. -/
theorem dz_hi (r : Fin 8320) (l : Fin 2048) (h : 2048 + l.val < 4096) : dz oh os ph ps pr bg wo ct (ix3 0 r ⟨2048 + l.val, h⟩) = dzB os ps pr bg wo ct (ix2 r l) :=
  (dz_if_hi oh os ph ps pr bg wo ct r ⟨2048 + l.val, h⟩ (by show ¬(2048 + l.val < 2048); omega)).trans
    (congrArg (dzB os ps pr bg wo ct) (congrArg (ix2 r) (Fin.ext (by show 2048 + l.val - 2048 = l.val; omega))))

end

section
open KernelMergeIdeal KernelMergeIdeal.Gen

set_option maxRecDepth 65536 in
set_option maxHeartbeats 4000000 in
/-- The two programs leave the same six arrays at every argument. -/
theorem algebraic_merge : algebraic_KernelMergeIdeal_ReferenceMergeIdeal := by
  intro m ρ m' ρ' _ hagree
  refine ⟨fun c => W5 m ρ c main_v9_2, fun c => W5 m ρ c main_v15_0, fun c => W5 m ρ c main_v15_1, fun c => W5 m ρ c main_v15_2,
    fun c => W5 m ρ c main_v15_3, fun c => W5 m ρ c main_v16,
    (θ_run (defs (F := Ideal)) _ _).mono (fun _ hr c => ⟨hr c _ (mem_uc main_v9_2 (by decide)), hr c _ (mem_uc main_v15_0 (by decide)),
      hr c _ (mem_uc main_v15_1 (by decide)), hr c _ (mem_uc main_v15_2 (by decide)), hr c _ (mem_uc main_v15_3 (by decide)),
      hr c _ (mem_uc main_v16 (by decide)), (hr c _ (mem_uc main_arg0 (by decide))).trans (W5_main_arg0 m ρ c),
      (hr c _ (mem_uc main_arg1 (by decide))).trans (W5_main_arg1 m ρ c),
      (hr c _ (mem_uc main_arg2 (by decide))).trans (W5_main_arg2 m ρ c),
      (hr c _ (mem_uc main_arg3 (by decide))).trans (W5_main_arg3 m ρ c),
      (hr c _ (mem_uc main_arg4 (by decide))).trans (W5_main_arg4 m ρ c),
      (hr c _ (mem_uc main_arg5 (by decide))).trans (W5_main_arg5 m ρ c),
      (hr c _ (mem_uc main_arg6 (by decide))).trans (W5_main_arg6 m ρ c),
      (hr c _ (mem_uc main_arg7 (by decide))).trans (W5_main_arg7 m ρ c)⟩)
      (run_all m ρ), ?_⟩
  refine (θ_run ReferenceMergeIdeal.defs _ _).mono (fun _ run c => ?_) (ReferenceMergeIdeal.Value.run (F := Ideal) m' ρ')
  obtain ⟨e0, e1, e2, e3, e4, e5, e6, e7⟩ := hagree c
  obtain ⟨oh, hoh⟩ : ∃ x : S1x8320x1024.Idx → EReal, m ((c : Thread nD τ).loc main_arg0) = e32 x := ⟨m ((c : Thread nD τ).loc main_arg0), rfl⟩
  obtain ⟨os, hos⟩ : ∃ x : S1x8320x1024.Idx → EReal, m ((c : Thread nD τ).loc main_arg1) = e32 x := ⟨m ((c : Thread nD τ).loc main_arg1), rfl⟩
  obtain ⟨ph, hph⟩ : ∃ x : S1x1024x2048.Idx → EReal, m ((c : Thread nD τ).loc main_arg2) = e32 x := ⟨m ((c : Thread nD τ).loc main_arg2), rfl⟩
  obtain ⟨ps, hps⟩ : ∃ x : S1x1024x2048.Idx → EReal, m ((c : Thread nD τ).loc main_arg3) = e32 x := ⟨m ((c : Thread nD τ).loc main_arg3), rfl⟩
  obtain ⟨pr, hpr⟩ : ∃ x : S1x8320x11264.Idx → EReal, m ((c : Thread nD τ).loc main_arg4) = e32 x := ⟨m ((c : Thread nD τ).loc main_arg4), rfl⟩
  obtain ⟨bg, hbg⟩ : ∃ x : S1x4096.Idx → EReal, m ((c : Thread nD τ).loc main_arg5) = e32 x := ⟨m ((c : Thread nD τ).loc main_arg5), rfl⟩
  obtain ⟨wo, hwo⟩ : ∃ x : S1x2048x2048.Idx → EReal, m ((c : Thread nD τ).loc main_arg6) = e32 x := ⟨m ((c : Thread nD τ).loc main_arg6), rfl⟩
  obtain ⟨ct, hct⟩ : ∃ x : S1x8320x2048.Idx → EReal, m ((c : Thread nD τ).loc main_arg7) = e32 x := ⟨m ((c : Thread nD τ).loc main_arg7), rfl⟩
  refine ⟨(run c).1.trans ?_, (run c).2.1.trans ?_, (run c).2.2.1.trans ?_, (run c).2.2.2.1.trans ?_, (run c).2.2.2.2.1.trans ?_, (run c).2.2.2.2.2.1.trans ?_, (run c).2.2.2.2.2.2⟩
  · have hk : W5 m ρ c main_v9_2 = e16 (mix oh os ph ps pr bg) := (W5_of m ρ c main_v9_2 (by decide)).trans ((W4_of_ne m ρ c main_v9_2 (by decide +kernel)).trans ((W3_of m ρ c main_v9_2 (by decide)).trans ((W2_arr m ρ c 10).trans (arr_y m ρ c (oh := oh) (os := os) (ph := ph) (ps := ps) (pr := pr) (bg := bg) (hoh := hoh) (hos := hos) (hph := hph) (hps := hps) (hpr := hpr) (hbg := hbg)))))
    refine Eq.trans ?_ hk.symm
    rw [e0.trans hoh, e1.trans hos, e2.trans hph, e3.trans hps, e4.trans hpr, e5.trans hbg]
    rw [ref_gate, ref_prj, ref_prj]
    refine congrArg e16 (funext fun j => ?_)
    obtain ⟨r, l, rfl⟩ : ∃ r l, j = (ix2 r l : S8320x2048.Idx) := ⟨j 0, j 1, by funext a; fin_cases a <;> rfl⟩
    pointwise
    exact congrArg (fun x => gA pr bg (ix2 r l) * prj oh ph (ix2 r l) + x * prj os ps (ix2 r l)) (gate_hi pr bg r l (by have := l.isLt; omega))
  · have hk : W5 m ρ c main_v15_0 = e16 (fun j => dY wo ct j * gA pr bg j) := (W5_of m ρ c main_v15_0 (by decide)).trans ((W4_arr m ρ c 8).trans (arr_du (m := m) (ρ := ρ) (c := c) (pr := pr) (bg := bg) (wo := wo) (ct := ct) (hpr := hpr) (hbg := hbg) (hwo := hwo) (hct := hct)))
    refine Eq.trans ?_ hk.symm
    rw [e4.trans hpr, e5.trans hbg, e6.trans hwo, e7.trans hct]
    rw [ref_gate, ref_dy]
    refine congrArg e16 (funext fun j => ?_)
    obtain ⟨r, l, rfl⟩ : ∃ r l, j = (ix2 r l : S8320x2048.Idx) := ⟨j 0, j 1, by funext a; fin_cases a <;> rfl⟩
    pointwise
    exact mul_comm (G := EReal) _ _
  · have hk : W5 m ρ c main_v15_1 = e16 (fun j => dY wo ct j * gB pr bg j) := (W5_of m ρ c main_v15_1 (by decide)).trans ((W4_arr m ρ c 9).trans (arr_dv (m := m) (ρ := ρ) (c := c) (pr := pr) (bg := bg) (wo := wo) (ct := ct) (hpr := hpr) (hbg := hbg) (hwo := hwo) (hct := hct)))
    refine Eq.trans ?_ hk.symm
    rw [e4.trans hpr, e5.trans hbg, e6.trans hwo, e7.trans hct]
    rw [ref_gate, ref_dy]
    refine congrArg e16 (funext fun j => ?_)
    obtain ⟨r, l, rfl⟩ : ∃ r l, j = (ix2 r l : S8320x2048.Idx) := ⟨j 0, j 1, by funext a; fin_cases a <;> rfl⟩
    pointwise
    exact (congrArg (· * dY wo ct (ix2 r l)) (gate_hi pr bg r l (by have := l.isLt; omega))).trans (mul_comm (G := EReal) _ _)
  · have hk : W5 m ρ c main_v15_2 = e16 (dzA oh ph pr bg wo ct) := (W5_of m ρ c main_v15_2 (by decide)).trans ((W4_arr m ρ c 10).trans (arr_dza (m := m) (ρ := ρ) (c := c) (oh := oh) (ph := ph) (pr := pr) (bg := bg) (wo := wo) (ct := ct) (hoh := hoh) (hph := hph) (hpr := hpr) (hbg := hbg) (hwo := hwo) (hct := hct)))
    refine Eq.trans ?_ hk.symm
    rw [e0.trans hoh, e1.trans hos, e2.trans hph, e3.trans hps, e4.trans hpr, e5.trans hbg, e6.trans hwo, e7.trans hct]
    rw [ref_gate, ref_dy, ref_prj, ref_prj, ref_dz]
    refine congrArg e16 (funext fun j => ?_)
    obtain ⟨r, l, rfl⟩ : ∃ r l, j = (ix2 r l : S8320x2048.Idx) := ⟨j 0, j 1, by funext a; fin_cases a <;> rfl⟩
    pointwise
    exact dz_lo oh os ph ps pr bg wo ct r l _
  · have hk : W5 m ρ c main_v15_3 = e16 (dzB os ps pr bg wo ct) := (W5_of m ρ c main_v15_3 (by decide)).trans ((W4_arr m ρ c 11).trans (arr_dzb (m := m) (ρ := ρ) (c := c) (os := os) (ps := ps) (pr := pr) (bg := bg) (wo := wo) (ct := ct) (hos := hos) (hps := hps) (hpr := hpr) (hbg := hbg) (hwo := hwo) (hct := hct)))
    refine Eq.trans ?_ hk.symm
    rw [e0.trans hoh, e1.trans hos, e2.trans hph, e3.trans hps, e4.trans hpr, e5.trans hbg, e6.trans hwo, e7.trans hct]
    rw [ref_gate, ref_dy, ref_prj, ref_prj, ref_dz]
    refine congrArg e16 (funext fun j => ?_)
    obtain ⟨r, l, rfl⟩ : ∃ r l, j = (ix2 r l : S8320x2048.Idx) := ⟨j 0, j 1, by funext a; fin_cases a <;> rfl⟩
    pointwise
    exact dz_hi oh os ph ps pr bg wo ct r l _
  · have hk : W5 m ρ c main_v16 = e32 fun j : S1x4096.Idx => ∑ r : Fin 8320, dz oh os ph ps pr bg wo ct (ix3 0 r (j 1)) := by
      show StableHlo.after hostOps2 (W4 m ρ c) (Proc.devRef .tc main_v16) = _
      entry_read
      rw [show W4 m ρ c (Proc.tc.devRef main_v15_4) = e32 fun j : S1x2048.Idx => ∑ r : Fin 8320, dzA oh ph pr bg wo ct (ix2 r (j 1)) from ((W4_arr m ρ c 12).trans (arr_dba (m := m) (ρ := ρ) (c := c) (oh := oh) (ph := ph) (pr := pr) (bg := bg) (wo := wo) (ct := ct) (hoh := hoh) (hph := hph) (hpr := hpr) (hbg := hbg) (hwo := hwo) (hct := hct))),
        show W4 m ρ c (Proc.tc.devRef main_v15_5) = e32 fun j : S1x2048.Idx => ∑ r : Fin 8320, dzB os ps pr bg wo ct (ix2 r (j 1)) from ((W4_arr m ρ c 13).trans (arr_dbb (m := m) (ρ := ρ) (c := c) (os := os) (ps := ps) (pr := pr) (bg := bg) (wo := wo) (ct := ct) (hos := hos) (hps := hps) (hpr := hpr) (hbg := hbg) (hwo := hwo) (hct := hct)))]
      refine (funext fun (j : S1x4096.Idx) => ?_)
      obtain ⟨l, rfl⟩ : ∃ l, j = ix2 0 l := ⟨j 1, by funext a; fin_cases a; exact Fin.ext (Nat.lt_one_iff.mp (j 0).isLt); rfl⟩
      pointwise
      by_cases h : l.val < 2048
      · rw [dif_pos h]
        exact Finset.sum_congr rfl fun r _ => (dz_if_lo oh os ph ps pr bg wo ct r l h).symm
      · rw [dif_neg h]
        exact Finset.sum_congr rfl fun r _ => (dz_if_hi oh os ph ps pr bg wo ct r l h).symm
    refine Eq.trans ?_ hk.symm
    rw [e0.trans hoh, e1.trans hos, e2.trans hph, e3.trans hps, e4.trans hpr, e5.trans hbg, e6.trans hwo, e7.trans hct]
    rw [ref_gate, ref_dy, ref_prj, ref_prj, ref_dz]
    refine congrArg e32 (funext fun j => ?_)
    obtain ⟨l, rfl⟩ : ∃ l, j = (ix2 0 l : S1x4096.Idx) := ⟨j 1, by funext a; fin_cases a; exact Fin.ext (Nat.lt_one_iff.mp (j 0).isLt); rfl⟩
    pointwise
    rw [sum_unit]
    pointwise
end

end Cert.Proof.Merge

end
-- ==== Proof.HgrnBwd.lean ====
/- The frame of the version's recurrence over the time steps, backward: it ends, leaves its arguments alone and its semaphores at zero. Nothing is said of what it
   computes: its results and its scratch are held at some contents. -/
module

public import proofs.«01_k».proof.Defs
public import proofs.«01_k».proof.Proof.Gen.KernelHgbIdeal.Frame
public import proofs.«01_k».proof.Proof.Gen.KernelHgbIdeal.Skeleton
public import proofs.«01_k».proof.Proof.Gen.KernelHgbIdeal.Loops
public import Idealize.ShloMosaic.Lib.Pipeline.FrameBody
public import proofs.«01_k».proof.Proof.Gen.KernelHgb
public import Idealize.ShloMosaic.Lib.Claim
public import Idealize.ShloMosaic.Lib.Tactic

@[expose] public section

set_option maxRecDepth 16384

noncomputable section

namespace Cert.Proof.HgrnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelHgbIdeal Cert.KernelHgbIdeal.Gen

variable {F : FTy → Type} [FloatOps F]

local notation "𝕄" => MT nD τ sig Unit (Elt F) ℕ (UR sig nD τ) ℕ

/-- Some contents of a memref, owned. -/
abbrev some_ (c : Dev nD) {s : Shape} {e : EltTy} (M : Memref sig .tc .vmem s e) : sProp 𝕄 := iprop(∃ d, owns (c : Thread nD τ) M fullShare d)

/-- The first point of the grid, as the body asks it. -/
abbrev first (i : grid0.Coords) : Prop := (Scalar.cmpi .ne (Scalar.extui (Scalar.cmpi .eq (BitVec.ofNat 32 (i 1).val) 0#32)) 0#32) = 1#1

/- The staging buffer of each window at a point. -/
abbrev st_0 (t : Fin cfg0.N) : Memref sig .tc .vmem S128x1024 .f32 := win0_0.stage (cfg0.slots t 0)
/-- Window 1's buffer at a point. -/
abbrev st_1 (t : Fin cfg0.N) : Memref sig .tc .vmem S128x1024 .f32 := win0_1.stage (cfg0.slots t 1)
/-- Window 2's buffer at a point. -/
abbrev st_2 (t : Fin cfg0.N) : Memref sig .tc .vmem S128x1024 .f32 := win0_2.stage (cfg0.slots t 2)
/-- Window 3's buffer at a point. -/
abbrev st_3 (t : Fin cfg0.N) : Memref sig .tc .vmem S128x1024 .f32 := win0_3.stage (cfg0.slots t 3)
/-- Window 4's buffer at a point. -/
abbrev st_4 (t : Fin cfg0.N) : Memref sig .tc .vmem S2x1024 .f32 := win0_4.stage (cfg0.slots t 4)
/-- Window 5's buffer at a point. -/
abbrev st_5 (t : Fin cfg0.N) : Memref sig .tc .vmem S1x1024 .f32 := win0_5.stage (cfg0.slots t 5)
/-- Window 6's buffer at a point. -/
abbrev st_6 (t : Fin cfg0.N) : Memref sig .tc .vmem S128x1024 .f32 := win0_6.stage (cfg0.slots t 6)
/-- Window 7's buffer at a point. -/
abbrev st_7 (t : Fin cfg0.N) : Memref sig .tc .vmem S128x1024 .f32 := win0_7.stage (cfg0.slots t 7)
/-- Window 8's buffer at a point. -/
abbrev st_8 (t : Fin cfg0.N) : Memref sig .tc .vmem S8x8x128x128 .bf16 := win0_8.stage (cfg0.slots t 8)
/-- Window 9's buffer at a point. -/
abbrev st_9 (t : Fin cfg0.N) : Memref sig .tc .vmem S8x1x128x128 .bf16 := win0_9.stage (cfg0.slots t 9)
/-- Window 10's buffer at a point. -/
abbrev st_10 (t : Fin cfg0.N) : Memref sig .tc .vmem S128x1024 .bf16 := win0_10.stage (cfg0.slots t 10)
/-- Window 11's buffer at a point. -/
abbrev st_11 (t : Fin cfg0.N) : Memref sig .tc .vmem S128x1024 .bf16 := win0_11.stage (cfg0.slots t 11)
/-- Window 12's buffer at a point. -/
abbrev st_12 (t : Fin cfg0.N) : Memref sig .tc .vmem S128x1024 .bf16 := win0_12.stage (cfg0.slots t 12)
/-- Window 13's buffer at a point. -/
abbrev st_13 (t : Fin cfg0.N) : Memref sig .tc .vmem S128x1024 .bf16 := win0_13.stage (cfg0.slots t 13)
/-- Window 14's buffer at a point. -/
abbrev st_14 (t : Fin cfg0.N) : Memref sig .tc .vmem S1x1024 .f32 := win0_14.stage (cfg0.slots t 14)
/-- Window 15's buffer at a point. -/
abbrev st_15 (t : Fin cfg0.N) : Memref sig .tc .vmem S1x1024 .f32 := win0_15.stage (cfg0.slots t 15)
section
variable (c : Dev nD) (i : grid0.Coords)
variable (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole)
variable (arg5 : Memref sig .tc .vmem S128x1024 .f32) (harg5 : arg5.IsWhole) (arg6 : Memref sig .tc .vmem S2x1024 .f32) (harg6 : arg6.IsWhole) (arg7 : Memref sig .tc .vmem S1x1024 .f32) (harg7 : arg7.IsWhole)
variable (arg8 : Memref sig .tc .vmem S128x1024 .f32) (harg8 : arg8.IsWhole) (arg9 : Memref sig .tc .vmem S128x1024 .f32) (harg9 : arg9.IsWhole) (arg10 : Memref sig .tc .vmem S8x8x128x128 .bf16) (harg10 : arg10.IsWhole)
variable (arg11 : Memref sig .tc .vmem S8x1x128x128 .bf16) (harg11 : arg11.IsWhole) (arg12 : Memref sig .tc .vmem S128x1024 .bf16) (harg12 : arg12.IsWhole) (arg13 : Memref sig .tc .vmem S128x1024 .bf16) (harg13 : arg13.IsWhole)
variable (arg14 : Memref sig .tc .vmem S128x1024 .bf16) (harg14 : arg14.IsWhole) (arg15 : Memref sig .tc .vmem S128x1024 .bf16) (harg15 : arg15.IsWhole) (arg16 : Memref sig .tc .vmem S1x1024 .f32) (harg16 : arg16.IsWhole)
variable (arg17 : Memref sig .tc .vmem S1x1024 .f32) (harg17 : arg17.IsWhole) (arg18 : Memref sig .tc .vmem S8x128x128 .f32) (harg18 : arg18.IsWhole) (arg19 : Memref sig .tc .vmem S128x1024 .f32) (harg19 : arg19.IsWhole)
variable (arg20 : Memref sig .tc .vmem S128x1024 .f32) (harg20 : arg20.IsWhole) (arg21 : Memref sig .tc .vmem S128x1024 .f32) (harg21 : arg21.IsWhole) (arg22 : Memref sig .tc .vmem S128x1024 .f32) (harg22 : arg22.IsWhole)
variable (arg23 : Memref sig .tc .vmem S128x1024 .f32) (harg23 : arg23.IsWhole) (arg24 : Memref sig .tc .vmem S128x1024 .f32) (harg24 : arg24.IsWhole) (arg25 : Memref sig .tc .vmem S128x1024 .f32) (harg25 : arg25.IsWhole)
variable (arg26 : Memref sig .tc .vmem S128x1024 .f32) (harg26 : arg26.IsWhole) (arg27 : Memref sig .tc .vmem S128x1024 .f32) (harg27 : arg27.IsWhole)
variable (x0 : Vec F S128x1024 .f32) (x1 : Vec F S128x1024 .f32) (x2 : Vec F S128x1024 .f32) (x3 : Vec F S128x1024 .f32)
variable (x4 : Vec F S2x1024 .f32) (x5 : Vec F S1x1024 .f32) (x6 : Vec F S128x1024 .f32) (x7 : Vec F S128x1024 .f32)
variable (x8 : Vec F S8x8x128x128 .bf16) (x9 : Vec F S8x1x128x128 .bf16)

/-- What a run of the body holds: the inputs' buffers at their contents, the rest at some. -/
def held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ some_ c arg12 ∗ some_ c arg13 ∗ some_ c arg14 ∗ some_ c arg15 ∗ some_ c arg16 ∗ some_ c arg17
    ∗ some_ c arg18 ∗ some_ c arg19 ∗ some_ c arg20 ∗ some_ c arg21 ∗ some_ c arg22 ∗ some_ c arg23 ∗ some_ c arg24 ∗ some_ c arg25 ∗ some_ c arg26
    ∗ some_ c arg27)

set_option maxHeartbeats 4000000 in
/-- The body runs from that to that. -/
theorem run_body (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27 x0
      x1 x2 x3 x4 x5 x6 x7 x8 x9
      ∗ (held c arg2 arg3 arg4 arg5 arg6 arg7 arg8 arg9 arg10 arg11 arg12 arg13 arg14 arg15 arg16 arg17 arg18 arg19 arg20 arg21 arg22 arg23 arg24 arg25 arg26 arg27 x0
      x1 x2 x3 x4 x5 x6 x7 x8 x9 -∗ K ⟨⟩))
      ⊢ wp frame (wpE (defs₀ (F := F)) Variants.none c none) E (cc0_hgrn_bwd i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 arg23 harg23 arg24 harg24
        arg25 harg25 arg26 harg26 arg27 harg27) K := by
  simp only [cc0_hgrn_bwd_eq_skeleton]; unfold cc0_hgrn_bwd_skel
  simp only [k0_part29_eq_skeleton, k0_part30_eq_skeleton, k0_part31_eq_skeleton, k0_part32_eq_skeleton, k0_part33_eq_skeleton, k0_part34_eq_skeleton
    , k0_part35_eq_skeleton, k0_part36_eq_skeleton, k0_part37_eq_skeleton, k0_part38_eq_skeleton, k0_part39_eq_skeleton]
  unfold held some_ owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩
    , ⟨%f8, %hf8, H8⟩, ⟨%f9, %hf9, H9⟩, ⟨%d0, %g0, -, G0⟩, ⟨%d1, %g1, -, G1⟩, ⟨%d2, %g2, -, G2⟩, ⟨%d3, %g3, -, G3⟩, ⟨%d4, %g4, -, G4⟩, ⟨%d5, %g5, -, G5⟩
    , ⟨%d6, %g6, -, G6⟩, ⟨%d7, %g7, -, G7⟩, ⟨%d8, %g8, -, G8⟩, ⟨%d9, %g9, -, G9⟩, ⟨%d10, %g10, -, G10⟩, ⟨%d11, %g11, -, G11⟩, ⟨%d12, %g12, -, G12⟩
    , ⟨%d13, %g13, -, G13⟩, ⟨%d14, %g14, -, G14⟩, ⟨%d15, %g15, -, G15⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  by_cases hc0 : first i <;>
  (sl_exec (disch := first | sl_exact hc0)
   sl_step
   iapply Hk
   isplitl [H0]
   · iexists _; isplitr; swap; · iexact H0
     ipureintro; exact harg2.read_unread _
   isplitl [H1]
   · iexists _; isplitr; swap; · iexact H1
     ipureintro; exact harg3.read_unread _
   isplitl [H2]
   · iexists _; isplitr; swap; · iexact H2
     ipureintro; exact harg4.read_unread _
   isplitl [H3]
   · iexists _; isplitr; swap; · iexact H3
     ipureintro; exact harg5.read_unread _
   isplitl [H4]
   · iexists _; isplitr; swap; · iexact H4
     ipureintro; exact harg6.read_unread _
   isplitl [H5]
   · iexists _; isplitr; swap; · iexact H5
     ipureintro; exact harg7.read_unread _
   isplitl [H6]
   · iexists _; isplitr; swap; · iexact H6
     ipureintro; exact harg8.read_unread _
   isplitl [H7]
   · iexists _; isplitr; swap; · iexact H7
     ipureintro; exact harg9.read_unread _
   isplitl [H8]
   · iexists _; isplitr; swap; · iexact H8
     ipureintro; exact harg10.read_unread _
   isplitl [H9]
   · iexists _; isplitr; swap; · iexact H9
     ipureintro; exact harg11.read_unread _
   isplitl [G0]
   · iexists _, _; isplitr; swap; · iexact G0
     ipureintro; rfl
   isplitl [G1]
   · iexists _, _; isplitr; swap; · iexact G1
     ipureintro; rfl
   isplitl [G2]
   · iexists _, _; isplitr; swap; · iexact G2
     ipureintro; rfl
   isplitl [G3]
   · iexists _, _; isplitr; swap; · iexact G3
     ipureintro; rfl
   isplitl [G4]
   · iexists _, _; isplitr; swap; · iexact G4
     ipureintro; rfl
   isplitl [G5]
   · iexists _, _; isplitr; swap; · iexact G5
     ipureintro; rfl
   isplitl [G6]
   · iexists _, _; isplitr; swap; · iexact G6
     ipureintro; rfl
   isplitl [G7]
   · iexists _, _; isplitr; swap; · iexact G7
     ipureintro; rfl
   isplitl [G8]
   · iexists _, _; isplitr; swap; · iexact G8
     ipureintro; rfl
   isplitl [G9]
   · iexists _, _; isplitr; swap; · iexact G9
     ipureintro; rfl
   isplitl [G10]
   · iexists _, _; isplitr; swap; · iexact G10
     ipureintro; rfl
   isplitl [G11]
   · iexists _, _; isplitr; swap; · iexact G11
     ipureintro; rfl
   isplitl [G12]
   · iexists _, _; isplitr; swap; · iexact G12
     ipureintro; rfl
   isplitl [G13]
   · iexists _, _; isplitr; swap; · iexact G13
     ipureintro; rfl
   isplitl [G14]
   · iexists _, _; isplitr; swap; · iexact G14
     ipureintro; rfl
   iexists _, _; isplitr; swap; · iexact G15
   ipureintro; rfl)
end

variable (m : (ℓ : Loc nD τ sig) → Buf (Elt F) ℓ) (ρ : Dev nD → PrngReg)

/-- The results: nothing is named of them. -/
def free : Fin 16 → Bool := fun w => decide (10 ≤ w.val)

/-- The proof data of the pipeline: each input's buffer at its block, the results unnamed, the scratch at some contents throughout. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The arrays at the call's start. -/
theorem A_eq (c : Dev nD) (w : Fin cfg0.W) : (dat m 0 c).A w = V m c (Pipeline.arrRef spec0 w) := by dsimp only [dat]

/-- Window 0's buffer after a point. -/
theorem after_0 (c : Dev nD) (t : Fin cfg0.N) : (dat m 0 c).after 0 t = iblk m c 0 t := by dsimp only [dat]
/-- Window 1's buffer after a point. -/
theorem after_1 (c : Dev nD) (t : Fin cfg0.N) : (dat m 0 c).after 1 t = iblk m c 1 t := by dsimp only [dat]
/-- Window 2's buffer after a point. -/
theorem after_2 (c : Dev nD) (t : Fin cfg0.N) : (dat m 0 c).after 2 t = iblk m c 2 t := by dsimp only [dat]
/-- Window 3's buffer after a point. -/
theorem after_3 (c : Dev nD) (t : Fin cfg0.N) : (dat m 0 c).after 3 t = iblk m c 3 t := by dsimp only [dat]
/-- Window 4's buffer after a point. -/
theorem after_4 (c : Dev nD) (t : Fin cfg0.N) : (dat m 0 c).after 4 t = iblk m c 4 t := by dsimp only [dat]
/-- Window 5's buffer after a point. -/
theorem after_5 (c : Dev nD) (t : Fin cfg0.N) : (dat m 0 c).after 5 t = iblk m c 5 t := by dsimp only [dat]
/-- Window 6's buffer after a point. -/
theorem after_6 (c : Dev nD) (t : Fin cfg0.N) : (dat m 0 c).after 6 t = iblk m c 6 t := by dsimp only [dat]
/-- Window 7's buffer after a point. -/
theorem after_7 (c : Dev nD) (t : Fin cfg0.N) : (dat m 0 c).after 7 t = iblk m c 7 t := by dsimp only [dat]
/-- Window 8's buffer after a point. -/
theorem after_8 (c : Dev nD) (t : Fin cfg0.N) : (dat m 0 c).after 8 t = iblk m c 8 t := by dsimp only [dat]
/-- Window 9's buffer after a point. -/
theorem after_9 (c : Dev nD) (t : Fin cfg0.N) : (dat m 0 c).after 9 t = iblk m c 9 t := by dsimp only [dat]

/- An input's buffer holds its block at every point. -/
theorem before_0 (c : Dev nD) (t : Fin cfg0.N) (d) : (dat m 0 c).before 0 t d = iblk m c 0 t := before0_0_of m (dat m 0 c) (A_eq m c 0) (after_0 m c) t d
/-- Window 1's buffer before a point: its block. -/
theorem before_1 (c : Dev nD) (t : Fin cfg0.N) (d) : (dat m 0 c).before 1 t d = iblk m c 1 t := before0_1_of m (dat m 0 c) (A_eq m c 1) (after_1 m c) t d
/-- Window 2's buffer before a point: its block. -/
theorem before_2 (c : Dev nD) (t : Fin cfg0.N) (d) : (dat m 0 c).before 2 t d = iblk m c 2 t := before0_2_of m (dat m 0 c) (A_eq m c 2) (after_2 m c) t d
/-- Window 3's buffer before a point: its block. -/
theorem before_3 (c : Dev nD) (t : Fin cfg0.N) (d) : (dat m 0 c).before 3 t d = iblk m c 3 t := before0_3_of m (dat m 0 c) (A_eq m c 3) (after_3 m c) t d
/-- Window 4's buffer before a point: its block. -/
theorem before_4 (c : Dev nD) (t : Fin cfg0.N) (d) : (dat m 0 c).before 4 t d = iblk m c 4 t := before0_4_of m (dat m 0 c) (A_eq m c 4) (after_4 m c) t d
/-- Window 5's buffer before a point: its block. -/
theorem before_5 (c : Dev nD) (t : Fin cfg0.N) (d) : (dat m 0 c).before 5 t d = iblk m c 5 t := before0_5_of m (dat m 0 c) (A_eq m c 5) (after_5 m c) t d
/-- Window 6's buffer before a point: its block. -/
theorem before_6 (c : Dev nD) (t : Fin cfg0.N) (d) : (dat m 0 c).before 6 t d = iblk m c 6 t := before0_6_of m (dat m 0 c) (A_eq m c 6) (after_6 m c) t d
/-- Window 7's buffer before a point: its block. -/
theorem before_7 (c : Dev nD) (t : Fin cfg0.N) (d) : (dat m 0 c).before 7 t d = iblk m c 7 t := before0_7_of m (dat m 0 c) (A_eq m c 7) (after_7 m c) t d
/-- Window 8's buffer before a point: its block. -/
theorem before_8 (c : Dev nD) (t : Fin cfg0.N) (d) : (dat m 0 c).before 8 t d = iblk m c 8 t := before0_8_of m (dat m 0 c) (A_eq m c 8) (after_8 m c) t d
/-- Window 9's buffer before a point: its block. -/
theorem before_9 (c : Dev nD) (t : Fin cfg0.N) (d) : (dat m 0 c).before 9 t d = iblk m c 9 t := before0_9_of m (dat m 0 c) (A_eq m c 9) (after_9 m c) t d

/-- The pipeline's invariant: the scratch at some contents, and the generator's register. -/
theorem scratch_eq (c : Dev nD) :
    (Pipeline.ΦA spec0 c : sProp 𝕄) = iprop(iprop(some_ c (Memref.whole cc0_scratch0) ∗ some_ c (Memref.whole cc0_scratch1) ∗ some_ c (Memref.whole cc0_scratch2) ∗ some_ c (Memref.whole cc0_scratch3)
      ∗ some_ c (Memref.whole cc0_scratch4) ∗ some_ c (Memref.whole cc0_scratch5) ∗ some_ c (Memref.whole cc0_scratch6)
      ∗ some_ c (Memref.whole cc0_scratch7) ∗ some_ c (Memref.whole cc0_scratch8) ∗ some_ c (Memref.whole cc0_scratch9)) ∗ (∃ r, prngReg c r)) := by
  unfold Pipeline.ΦA; rw [scopedRest0_eq]; simp only [some_, owns_whole]

set_option maxHeartbeats 4000000 in
/-- The body at a point of the grid. -/
theorem body_at (c : Dev nD) (t : Fin cfg0.N) :
    iprop((dat m 0 c).Φ t.castSucc ∗ (dat m 0 c).owesAt () t.castSucc
      ∗ (∃ d, owns (c : Thread nD τ) (st_0 t) fullShare ((dat m 0 c).before 0 t d))
      ∗ (∃ d, owns (c : Thread nD τ) (st_1 t) fullShare ((dat m 0 c).before 1 t d))
      ∗ (∃ d, owns (c : Thread nD τ) (st_2 t) fullShare ((dat m 0 c).before 2 t d))
      ∗ (∃ d, owns (c : Thread nD τ) (st_3 t) fullShare ((dat m 0 c).before 3 t d))
      ∗ (∃ d, owns (c : Thread nD τ) (st_4 t) fullShare ((dat m 0 c).before 4 t d))
      ∗ (∃ d, owns (c : Thread nD τ) (st_5 t) fullShare ((dat m 0 c).before 5 t d))
      ∗ (∃ d, owns (c : Thread nD τ) (st_6 t) fullShare ((dat m 0 c).before 6 t d))
      ∗ (∃ d, owns (c : Thread nD τ) (st_7 t) fullShare ((dat m 0 c).before 7 t d))
      ∗ (∃ d, owns (c : Thread nD τ) (st_8 t) fullShare ((dat m 0 c).before 8 t d))
      ∗ (∃ d, owns (c : Thread nD τ) (st_9 t) fullShare ((dat m 0 c).before 9 t d)) ∗ some_ c (st_10 t) ∗ some_ c (st_11 t) ∗ some_ c (st_12 t)
      ∗ some_ c (st_13 t) ∗ some_ c (st_14 t) ∗ some_ c (st_15 t))
    ⊢ wp frame (wpE (defs₀ (F := F)) Variants.none c none) Set.univ (bodyAt0 t) fun _ =>
      iprop((dat m 0 c).Φ t.succ ∗ (dat m 0 c).owesAt () t.succ
      ∗ owns (c : Thread nD τ) (st_0 t) fullShare ((dat m 0 c).after 0 t) ∗ owns (c : Thread nD τ) (st_1 t) fullShare ((dat m 0 c).after 1 t)
      ∗ owns (c : Thread nD τ) (st_2 t) fullShare ((dat m 0 c).after 2 t) ∗ owns (c : Thread nD τ) (st_3 t) fullShare ((dat m 0 c).after 3 t)
      ∗ owns (c : Thread nD τ) (st_4 t) fullShare ((dat m 0 c).after 4 t) ∗ owns (c : Thread nD τ) (st_5 t) fullShare ((dat m 0 c).after 5 t)
      ∗ owns (c : Thread nD τ) (st_6 t) fullShare ((dat m 0 c).after 6 t) ∗ owns (c : Thread nD τ) (st_7 t) fullShare ((dat m 0 c).after 7 t)
      ∗ owns (c : Thread nD τ) (st_8 t) fullShare ((dat m 0 c).after 8 t) ∗ owns (c : Thread nD τ) (st_9 t) fullShare ((dat m 0 c).after 9 t)
      ∗ some_ c (st_10 t) ∗ some_ c (st_11 t) ∗ some_ c (st_12 t) ∗ some_ c (st_13 t) ∗ some_ c (st_14 t) ∗ some_ c (st_15 t)) := by
  unfold bodyAt0
  simp only [before_0, before_1, before_2, before_3, before_4, before_5, before_6, before_7, before_8, before_9, after_0, after_1, after_2, after_3, after_4
    , after_5, after_6, after_7, after_8, after_9]
  rw [show (dat m 0 c).owesAt () t.succ = (dat m 0 c).owesAt () t.castSucc from rfl,
    show (dat m 0 c).Φ t.succ = Pipeline.ΦA spec0 c from rfl, show (dat m 0 c).Φ t.castSucc = Pipeline.ΦA spec0 c from rfl, scratch_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, G0, G1, G2, G3, G4, G5⟩
  iapply (run_body c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  unfold held
  isplitl [H0 H1 H2 H3 H4 H5 H6 H7 H8 H9 G0 G1 G2 G3 G4 G5 S0 S1 S2 S3 S4 S5 S6 S7 S8 S9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [G0]; · iexact G0
    isplitl [G1]; · iexact G1
    isplitl [G2]; · iexact G2
    isplitl [G3]; · iexact G3
    isplitl [G4]; · iexact G4
    isplitl [G5]; · iexact G5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro ⟨H0, H1, H2, H3, H4, H5, H6, H7, H8, H9, G0, G1, G2, G3, G4, G5, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  isplitl [G2]; · iexact G2
  isplitl [G3]; · iexact G3
  isplitl [G4]; · iexact G4
  iexact G5

/-- What the pipeline asks of the body, at every point. -/
theorem obligation (c : Dev nD) : BodyObligation (dat (F := F) m 0 c) (defs₀ (F := F)) Variants.none () Set.univ free := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The launch: the inputs' arrays end as they began, every semaphore at zero. -/
theorem run_main : θ_run defs (onTc (τ := τ) (main (F := F))) (s₀ m ρ) fun r =>
    (Pipeline.RDat.FramePost (cfgs 0) (fun c => (dat m 0 c).toRForget free) (V m)) r ∧ r.2.sem = fun _ => 0 :=
  Pipeline.θ_run_frame_track_forget_shared (Q' := _) cfgs (dat m) (0 : Fin 1) launch₀0 defs₀ Variants.none free m ρ main
    (hbody := fun c => (obligation m c).loose) (hq := fun _ _ _ => rfl) (howed := fun _ _ => rfl) (V := V m)
    (hmain := hmain m Variants.none) (hA := A_eq m) (hin := fun _ => .rfl) (hout := fun _ => .rfl)

/-- The frame, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 3 rfl).trans ((A_eq m c 3).trans (V_main_arg0 m c)),
      (Pipeline.RDat.FramePost.arr_in h.1 c 4 rfl).trans ((A_eq m c 4).trans (V_main_arg1 m c)),
      (Pipeline.RDat.FramePost.arr_in h.1 c 5 rfl).trans ((A_eq m c 5).trans (V_main_arg2 m c)),
      (Pipeline.RDat.FramePost.arr_in h.1 c 6 rfl).trans ((A_eq m c 6).trans (V_main_arg3 m c)),
      (Pipeline.RDat.FramePost.arr_in h.1 c 7 rfl).trans ((A_eq m c 7).trans (V_main_arg4 m c)),
      (Pipeline.RDat.FramePost.arr_in h.1 c 9 rfl).trans ((A_eq m c 9).trans (V_main_arg5 m c))⟩, h.2⟩) (run_main m ρ)

set_option maxHeartbeats 2000000 in
set_option maxRecDepth 65536 in
/-- The kernel and its idealization are one program where neither rewrites anything. -/
theorem same (m : (ℓ : Loc Cert.KernelHgb.nD Cert.KernelHgb.τ Cert.KernelHgb.sig) → Buf (Elt Bits) ℓ) (ρ : Dev Cert.KernelHgb.nD → PrngReg) :
    θ_run (Cert.KernelHgb.defs (F := Bits)) (onTc (τ := Cert.KernelHgb.τ) (Cert.KernelHgb.main (F := Bits))) ⟨m, fun _ => 0, ρ⟩
      = θ_run (defs (F := Bits)) (onTc (τ := τ) (main (F := Bits))) ⟨m, fun _ => 0, ρ⟩ := by
  sl_kernel_rfl

/-- The frame of the kernel as it runs, on machine words. -/
theorem frame_bits : quiescent_KernelHgb := fun m ρ _ => by rw [same]; exact frame (F := Bits) m ρ

/-- The frame of its idealization. -/
theorem frame_ideal : quiescent_KernelHgbIdeal := fun m ρ _ => frame (F := Ideal) m ρ

end Cert.Proof.HgrnBwd

end
-- ==== Proof.HgrnFwd.lean ====
/- The frame of the version's recurrence over the time steps, forward: it ends, leaves its arguments alone and its semaphores at zero. Nothing is said of what it
   computes: its results and its scratch are held at some contents. -/
module

public import proofs.«01_k».proof.Defs
public import proofs.«01_k».proof.Proof.Gen.KernelHgfIdeal.Frame
public import proofs.«01_k».proof.Proof.Gen.KernelHgfIdeal.Skeleton
public import proofs.«01_k».proof.Proof.Gen.KernelHgfIdeal.Loops
public import Idealize.ShloMosaic.Lib.Pipeline.FrameBody
public import proofs.«01_k».proof.Proof.Gen.KernelHgf
public import Idealize.ShloMosaic.Lib.Claim
public import Idealize.ShloMosaic.Lib.Tactic

@[expose] public section

set_option maxRecDepth 16384

noncomputable section

namespace Cert.Proof.HgrnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelHgfIdeal Cert.KernelHgfIdeal.Gen

variable {F : FTy → Type} [FloatOps F]

local notation "𝕄" => MT nD τ sig Unit (Elt F) ℕ (UR sig nD τ) ℕ

/-- Some contents of a memref, owned. -/
abbrev some_ (c : Dev nD) {s : Shape} {e : EltTy} (M : Memref sig .tc .vmem s e) : sProp 𝕄 := iprop(∃ d, owns (c : Thread nD τ) M fullShare d)

/-- The first point of the grid, as the body asks it. -/
abbrev first (i : grid0.Coords) : Prop := (Scalar.cmpi .ne (Scalar.extui (Scalar.cmpi .eq (BitVec.ofNat 32 (i 1).val) 0#32)) 0#32) = 1#1

/- The staging buffer of each window at a point. -/
abbrev st_0 (t : Fin cfg0.N) : Memref sig .tc .vmem S128x1024 .f32 := win0_0.stage (cfg0.slots t 0)
/-- Window 1's buffer at a point. -/
abbrev st_1 (t : Fin cfg0.N) : Memref sig .tc .vmem S128x1024 .f32 := win0_1.stage (cfg0.slots t 1)
/-- Window 2's buffer at a point. -/
abbrev st_2 (t : Fin cfg0.N) : Memref sig .tc .vmem S128x1024 .f32 := win0_2.stage (cfg0.slots t 2)
/-- Window 3's buffer at a point. -/
abbrev st_3 (t : Fin cfg0.N) : Memref sig .tc .vmem S128x1024 .f32 := win0_3.stage (cfg0.slots t 3)
/-- Window 4's buffer at a point. -/
abbrev st_4 (t : Fin cfg0.N) : Memref sig .tc .vmem S2x1024 .f32 := win0_4.stage (cfg0.slots t 4)
/-- Window 5's buffer at a point. -/
abbrev st_5 (t : Fin cfg0.N) : Memref sig .tc .vmem S1x1024 .f32 := win0_5.stage (cfg0.slots t 5)
/-- Window 6's buffer at a point. -/
abbrev st_6 (t : Fin cfg0.N) : Memref sig .tc .vmem S128x1024 .f32 := win0_6.stage (cfg0.slots t 6)
/-- Window 7's buffer at a point. -/
abbrev st_7 (t : Fin cfg0.N) : Memref sig .tc .vmem S128x1024 .bf16 := win0_7.stage (cfg0.slots t 7)
/-- Window 8's buffer at a point. -/
abbrev st_8 (t : Fin cfg0.N) : Memref sig .tc .vmem S8x8x128x128 .bf16 := win0_8.stage (cfg0.slots t 8)
section
variable (c : Dev nD) (i : grid0.Coords)
variable (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole)
variable (arg5 : Memref sig .tc .vmem S128x1024 .f32) (harg5 : arg5.IsWhole) (arg6 : Memref sig .tc .vmem S2x1024 .f32) (harg6 : arg6.IsWhole) (arg7 : Memref sig .tc .vmem S1x1024 .f32) (harg7 : arg7.IsWhole)
variable (arg8 : Memref sig .tc .vmem S128x1024 .f32) (harg8 : arg8.IsWhole) (arg9 : Memref sig .tc .vmem S128x1024 .bf16) (harg9 : arg9.IsWhole) (arg10 : Memref sig .tc .vmem S8x8x128x128 .bf16) (harg10 : arg10.IsWhole)
variable (arg11 : Memref sig .tc .vmem S8x128x128 .f32) (harg11 : arg11.IsWhole) (arg12 : Memref sig .tc .vmem S128x1024 .f32) (harg12 : arg12.IsWhole) (arg13 : Memref sig .tc .vmem S128x1024 .f32) (harg13 : arg13.IsWhole)
variable (arg14 : Memref sig .tc .vmem S128x1024 .f32) (harg14 : arg14.IsWhole) (arg15 : Memref sig .tc .vmem S128x1024 .f32) (harg15 : arg15.IsWhole)
variable (x0 : Vec F S128x1024 .f32) (x1 : Vec F S128x1024 .f32) (x2 : Vec F S128x1024 .f32) (x3 : Vec F S128x1024 .f32)
variable (x4 : Vec F S2x1024 .f32) (x5 : Vec F S1x1024 .f32)

/-- What a run of the body holds: the inputs' buffers at their contents, the rest at some. -/
def held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5 ∗ some_ c arg8
    ∗ some_ c arg9 ∗ some_ c arg10 ∗ some_ c arg11 ∗ some_ c arg12 ∗ some_ c arg13 ∗ some_ c arg14 ∗ some_ c arg15)

set_option maxHeartbeats 4000000 in
/-- The body runs from that to that. -/
theorem run_body (E : Set ℕ) (K : PUnit → sProp 𝕄) :
    iprop(held c arg2 arg3 arg4 arg5 arg6 arg7 arg8 arg9 arg10 arg11 arg12 arg13 arg14 arg15 x0 x1 x2 x3 x4 x5
      ∗ (held c arg2 arg3 arg4 arg5 arg6 arg7 arg8 arg9 arg10 arg11 arg12 arg13 arg14 arg15 x0 x1 x2 x3 x4 x5 -∗ K ⟨⟩))
      ⊢ wp frame (wpE (defs₀ (F := F)) Variants.none c none) E (cc0_hgrn_fwd i arg2 harg2 arg3 harg3 arg4 harg4 arg5 harg5 arg6 harg6 arg7 harg7 arg8 harg8 arg9 harg9 arg10 harg10 arg11 harg11 arg12 harg12 arg13 harg13
        arg14 harg14 arg15 harg15) K := by
  simp only [cc0_hgrn_fwd_eq_skeleton]; unfold cc0_hgrn_fwd_skel
  simp only [k0_part19_eq_skeleton, k0_part20_eq_skeleton, k0_part21_eq_skeleton, k0_part22_eq_skeleton, k0_part23_eq_skeleton, k0_part24_eq_skeleton
    , k0_part25_eq_skeleton]
  unfold held some_ owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, G0⟩, ⟨%d1, %g1, -, G1⟩
    , ⟨%d2, %g2, -, G2⟩, ⟨%d3, %g3, -, G3⟩, ⟨%d4, %g4, -, G4⟩, ⟨%d5, %g5, -, G5⟩, ⟨%d6, %g6, -, G6⟩, ⟨%d7, %g7, -, G7⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  by_cases hc0 : first i <;>
  (sl_exec (disch := first | sl_exact hc0)
   sl_step
   iapply Hk
   isplitl [H0]
   · iexists _; isplitr; swap; · iexact H0
     ipureintro; exact harg2.read_unread _
   isplitl [H1]
   · iexists _; isplitr; swap; · iexact H1
     ipureintro; exact harg3.read_unread _
   isplitl [H2]
   · iexists _; isplitr; swap; · iexact H2
     ipureintro; exact harg4.read_unread _
   isplitl [H3]
   · iexists _; isplitr; swap; · iexact H3
     ipureintro; exact harg5.read_unread _
   isplitl [H4]
   · iexists _; isplitr; swap; · iexact H4
     ipureintro; exact harg6.read_unread _
   isplitl [H5]
   · iexists _; isplitr; swap; · iexact H5
     ipureintro; exact harg7.read_unread _
   isplitl [G0]
   · iexists _, _; isplitr; swap; · iexact G0
     ipureintro; rfl
   isplitl [G1]
   · iexists _, _; isplitr; swap; · iexact G1
     ipureintro; rfl
   isplitl [G2]
   · iexists _, _; isplitr; swap; · iexact G2
     ipureintro; rfl
   isplitl [G3]
   · iexists _, _; isplitr; swap; · iexact G3
     ipureintro; rfl
   isplitl [G4]
   · iexists _, _; isplitr; swap; · iexact G4
     ipureintro; rfl
   isplitl [G5]
   · iexists _, _; isplitr; swap; · iexact G5
     ipureintro; rfl
   isplitl [G6]
   · iexists _, _; isplitr; swap; · iexact G6
     ipureintro; rfl
   iexists _, _; isplitr; swap; · iexact G7
   ipureintro; rfl)
end

variable (m : (ℓ : Loc nD τ sig) → Buf (Elt F) ℓ) (ρ : Dev nD → PrngReg)

/-- The results: nothing is named of them. -/
def free : Fin 9 → Bool := fun w => decide (6 ≤ w.val)

/-- The proof data of the pipeline: each input's buffer at its block, the results unnamed, the scratch at some contents throughout. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨_ + 9, h⟩ => absurd h (Nat.not_lt.2 (Nat.le_add_left _ _))
  Φ _ := Pipeline.ΦA spec0 c
  q w := Pipeline.shareOf spec0 w
  owed _ := 0

/-- The arrays at the call's start. -/
theorem A_eq (c : Dev nD) (w : Fin cfg0.W) : (dat m 0 c).A w = V m c (Pipeline.arrRef spec0 w) := by dsimp only [dat]

/-- Window 0's buffer after a point. -/
theorem after_0 (c : Dev nD) (t : Fin cfg0.N) : (dat m 0 c).after 0 t = iblk m c 0 t := by dsimp only [dat]
/-- Window 1's buffer after a point. -/
theorem after_1 (c : Dev nD) (t : Fin cfg0.N) : (dat m 0 c).after 1 t = iblk m c 1 t := by dsimp only [dat]
/-- Window 2's buffer after a point. -/
theorem after_2 (c : Dev nD) (t : Fin cfg0.N) : (dat m 0 c).after 2 t = iblk m c 2 t := by dsimp only [dat]
/-- Window 3's buffer after a point. -/
theorem after_3 (c : Dev nD) (t : Fin cfg0.N) : (dat m 0 c).after 3 t = iblk m c 3 t := by dsimp only [dat]
/-- Window 4's buffer after a point. -/
theorem after_4 (c : Dev nD) (t : Fin cfg0.N) : (dat m 0 c).after 4 t = iblk m c 4 t := by dsimp only [dat]
/-- Window 5's buffer after a point. -/
theorem after_5 (c : Dev nD) (t : Fin cfg0.N) : (dat m 0 c).after 5 t = iblk m c 5 t := by dsimp only [dat]

/- An input's buffer holds its block at every point. -/
theorem before_0 (c : Dev nD) (t : Fin cfg0.N) (d) : (dat m 0 c).before 0 t d = iblk m c 0 t := before0_0_of m (dat m 0 c) (A_eq m c 0) (after_0 m c) t d
/-- Window 1's buffer before a point: its block. -/
theorem before_1 (c : Dev nD) (t : Fin cfg0.N) (d) : (dat m 0 c).before 1 t d = iblk m c 1 t := before0_1_of m (dat m 0 c) (A_eq m c 1) (after_1 m c) t d
/-- Window 2's buffer before a point: its block. -/
theorem before_2 (c : Dev nD) (t : Fin cfg0.N) (d) : (dat m 0 c).before 2 t d = iblk m c 2 t := before0_2_of m (dat m 0 c) (A_eq m c 2) (after_2 m c) t d
/-- Window 3's buffer before a point: its block. -/
theorem before_3 (c : Dev nD) (t : Fin cfg0.N) (d) : (dat m 0 c).before 3 t d = iblk m c 3 t := before0_3_of m (dat m 0 c) (A_eq m c 3) (after_3 m c) t d
/-- Window 4's buffer before a point: its block. -/
theorem before_4 (c : Dev nD) (t : Fin cfg0.N) (d) : (dat m 0 c).before 4 t d = iblk m c 4 t := before0_4_of m (dat m 0 c) (A_eq m c 4) (after_4 m c) t d
/-- Window 5's buffer before a point: its block. -/
theorem before_5 (c : Dev nD) (t : Fin cfg0.N) (d) : (dat m 0 c).before 5 t d = iblk m c 5 t := before0_5_of m (dat m 0 c) (A_eq m c 5) (after_5 m c) t d

/-- The pipeline's invariant: the scratch at some contents, and the generator's register. -/
theorem scratch_eq (c : Dev nD) :
    (Pipeline.ΦA spec0 c : sProp 𝕄) = iprop(iprop(some_ c (Memref.whole cc0_scratch0) ∗ some_ c (Memref.whole cc0_scratch1) ∗ some_ c (Memref.whole cc0_scratch2) ∗ some_ c (Memref.whole cc0_scratch3)
      ∗ some_ c (Memref.whole cc0_scratch4)) ∗ (∃ r, prngReg c r)) := by
  unfold Pipeline.ΦA; rw [scopedRest0_eq]; simp only [some_, owns_whole]

set_option maxHeartbeats 4000000 in
/-- The body at a point of the grid. -/
theorem body_at (c : Dev nD) (t : Fin cfg0.N) :
    iprop((dat m 0 c).Φ t.castSucc ∗ (dat m 0 c).owesAt () t.castSucc
      ∗ (∃ d, owns (c : Thread nD τ) (st_0 t) fullShare ((dat m 0 c).before 0 t d))
      ∗ (∃ d, owns (c : Thread nD τ) (st_1 t) fullShare ((dat m 0 c).before 1 t d))
      ∗ (∃ d, owns (c : Thread nD τ) (st_2 t) fullShare ((dat m 0 c).before 2 t d))
      ∗ (∃ d, owns (c : Thread nD τ) (st_3 t) fullShare ((dat m 0 c).before 3 t d))
      ∗ (∃ d, owns (c : Thread nD τ) (st_4 t) fullShare ((dat m 0 c).before 4 t d))
      ∗ (∃ d, owns (c : Thread nD τ) (st_5 t) fullShare ((dat m 0 c).before 5 t d)) ∗ some_ c (st_6 t) ∗ some_ c (st_7 t) ∗ some_ c (st_8 t))
    ⊢ wp frame (wpE (defs₀ (F := F)) Variants.none c none) Set.univ (bodyAt0 t) fun _ =>
      iprop((dat m 0 c).Φ t.succ ∗ (dat m 0 c).owesAt () t.succ
      ∗ owns (c : Thread nD τ) (st_0 t) fullShare ((dat m 0 c).after 0 t) ∗ owns (c : Thread nD τ) (st_1 t) fullShare ((dat m 0 c).after 1 t)
      ∗ owns (c : Thread nD τ) (st_2 t) fullShare ((dat m 0 c).after 2 t) ∗ owns (c : Thread nD τ) (st_3 t) fullShare ((dat m 0 c).after 3 t)
      ∗ owns (c : Thread nD τ) (st_4 t) fullShare ((dat m 0 c).after 4 t) ∗ owns (c : Thread nD τ) (st_5 t) fullShare ((dat m 0 c).after 5 t)
      ∗ some_ c (st_6 t) ∗ some_ c (st_7 t) ∗ some_ c (st_8 t)) := by
  unfold bodyAt0
  simp only [before_0, before_1, before_2, before_3, before_4, before_5, after_0, after_1, after_2, after_3, after_4, after_5]
  rw [show (dat m 0 c).owesAt () t.succ = (dat m 0 c).owesAt () t.castSucc from rfl,
    show (dat m 0 c).Φ t.succ = Pipeline.ΦA spec0 c from rfl, show (dat m 0 c).Φ t.castSucc = Pipeline.ΦA spec0 c from rfl, scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, G0, G1, G2⟩
  iapply (run_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  unfold held
  isplitl [H0 H1 H2 H3 H4 H5 G0 G1 G2 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [S0]; · iexact S0
    isplitl [S1]; · iexact S1
    isplitl [S2]; · iexact S2
    isplitl [S3]; · iexact S3
    iexact S4
  iintro ⟨H0, H1, H2, H3, H4, H5, G0, G1, G2, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  iexact G2

/-- What the pipeline asks of the body, at every point. -/
theorem obligation (c : Dev nD) : BodyObligation (dat (F := F) m 0 c) (defs₀ (F := F)) Variants.none () Set.univ free := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The launch: the inputs' arrays end as they began, every semaphore at zero. -/
theorem run_main : θ_run defs (onTc (τ := τ) (main (F := F))) (s₀ m ρ) fun r =>
    (Pipeline.RDat.FramePost (cfgs 0) (fun c => (dat m 0 c).toRForget free) (V m)) r ∧ r.2.sem = fun _ => 0 :=
  Pipeline.θ_run_frame_track_forget_shared (Q' := _) cfgs (dat m) (0 : Fin 1) launch₀0 defs₀ Variants.none free m ρ main
    (hbody := fun c => (obligation m c).loose) (hq := fun _ _ _ => rfl) (howed := fun _ _ => rfl) (V := V m)
    (hmain := hmain m Variants.none) (hA := A_eq m) (hin := fun _ => .rfl) (hout := fun _ => .rfl)

/-- The frame, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 3 rfl).trans ((A_eq m c 3).trans (V_main_arg0 m c)),
      (Pipeline.RDat.FramePost.arr_in h.1 c 4 rfl).trans ((A_eq m c 4).trans (V_main_arg1 m c)),
      (Pipeline.RDat.FramePost.arr_in h.1 c 5 rfl).trans ((A_eq m c 5).trans (V_main_arg2 m c))⟩, h.2⟩) (run_main m ρ)

set_option maxHeartbeats 2000000 in
set_option maxRecDepth 65536 in
/-- The kernel and its idealization are one program where neither rewrites anything. -/
theorem same (m : (ℓ : Loc Cert.KernelHgf.nD Cert.KernelHgf.τ Cert.KernelHgf.sig) → Buf (Elt Bits) ℓ) (ρ : Dev Cert.KernelHgf.nD → PrngReg) :
    θ_run (Cert.KernelHgf.defs (F := Bits)) (onTc (τ := Cert.KernelHgf.τ) (Cert.KernelHgf.main (F := Bits))) ⟨m, fun _ => 0, ρ⟩
      = θ_run (defs (F := Bits)) (onTc (τ := τ) (main (F := Bits))) ⟨m, fun _ => 0, ρ⟩ := by
  sl_kernel_rfl

/-- The frame of the kernel as it runs, on machine words. -/
theorem frame_bits : quiescent_KernelHgf := fun m ρ _ => by rw [same]; exact frame (F := Bits) m ρ

/-- The frame of its idealization. -/
theorem frame_ideal : quiescent_KernelHgfIdeal := fun m ρ _ => frame (F := Ideal) m ρ

end Cert.Proof.HgrnFwd

end
-- ==== Proof.SbFwd.lean ====
/- The run of the version's attention, forward: it ends, leaves its arguments alone and its semaphores at zero, and its first result is what its
   loop over the blocks of keys leaves at each grid point. The loop stops early where the weights have died out, and after 22 rounds at most. Its
   other results, the rounds' starts and their number, are held at some contents. -/
module

public import proofs.«01_k».proof.Defs
public import proofs.«01_k».proof.Proof.Gen.KernelSbfIdeal.Launch
public import proofs.«01_k».proof.Proof.Gen.KernelSbfIdeal.Points
public import proofs.«01_k».proof.Proof.Gen.KernelSbfIdeal.Skeleton
public import Idealize.ShloMosaic.Lib.Pipeline.FrameBody
public import Idealize.ShloMosaic.Lib.Ring
public import Idealize.ShloMosaic.Lib.WritesUnit
public import Idealize.ShloMosaic.Lib.WordCmp
public import Idealize.ShloMosaic.Lib.Claim
public import Idealize.ShloMosaic.Lib.Tactic

@[expose] public section

set_option maxRecDepth 16384

noncomputable section

namespace Cert.Proof.SbFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelSbfIdeal Cert.KernelSbfIdeal.Gen

variable {F : FTy → Type} [FloatOps F] [Named F]

local notation "𝕄" => MT nD τ sig Unit (Elt F) ℕ (UR sig nD τ) ℕ

/-- Some contents of a memref, owned. -/
abbrev some_ (c : Dev nD) {k : Space} {s : Shape} {e : EltTy} (M : Memref sig .tc k s e) : sProp 𝕄 := iprop(∃ d, owns (c : Thread nD τ) M fullShare d)

/-- The rounds of the loop are counted down by a number. -/
abbrev count : Variants := Variants.nat

/-! ## The loop -/

/-- A round's blocks of keys lie in the arrays, where the loop's test has passed. -/
theorem chk_of_le : ∀ (t : Fin grid0.N) (j : Fin 22), 3 * j.val ≤ (grid0.coords t 1).val → k0_chk1 (grid0.coords t) (BitVec.ofNat 32 (3 * j.val)) :=
  by decide +kernel

/-- The test passes only while the counter has not left the rows' own block behind. -/
theorem le_of_test (n : Fin 65) (j : Fin 23) (b : BitVec 1)
    (h : Scalar.andi (Scalar.cmpi .sle (BitVec.ofNat 32 (3 * j.val)) (BitVec.ofNat 32 n.val)) b = 1#1) : 3 * j.val ≤ n.val := by
  revert h b j n; decide +kernel

/-- A round's counter is three more than the last's. -/
theorem next : ∀ j : Fin 22, Scalar.addi (BitVec.ofNat 32 (3 * j.val)) 3#32 = BitVec.ofNat 32 (3 * (j.val + 1)) := by decide +kernel

section
variable (c : Dev nD) (t : Fin grid0.N)
variable (arg2 : Memref sig .tc .vmem S128x256 .bf16) (harg2 : arg2.IsWhole) (arg3 : Memref sig .tc .vmem S8320x256 .bf16) (harg3 : arg3.IsWhole)
variable (arg4 : Memref sig .tc .vmem S8320x256 .bf16) (harg4 : arg4.IsWhole) (arg6 : Memref sig .tc .vmem S2x128x128 .f32) (harg6 : arg6.IsWhole)
variable (x0 : Vec F S128x256 .bf16) (x1 x2 : Vec F S8320x256 .bf16)

/-- What a round holds: the inputs' buffers at their contents, the starts' at some. -/
def held : sProp 𝕄 :=
  iprop(owns (c : Thread nD τ) arg2 fullShare x0 ∗ owns (c : Thread nD τ) arg3 fullShare x1 ∗ owns (c : Thread nD τ) arg4 fullShare x2 ∗ some_ c arg6)

/-- What the loop carries. -/
abbrev Carried (F : FTy → Type) : Type := BitVec 32 × FVec F S128x128 .f32 × FVec F S128x128 .f32 × FVec F S128x1 .f32 × FVec F S128x1 .f32

/-- A block of 128 rows and a head's 128 columns of an array of two heads. -/
def cell (x : Vec F S8320x256 .bf16) (off : Fin 2 → ℕ) (h : ∀ a, off a + S128x128.size a ≤ S8320x256.size a) : Vec F S128x128 .bf16 :=
  View.ld x (Rect.unit (s := S8320x256) off S128x128.size h)

/-- The rows' two heads. -/
def headA : Vec F S128x128 .bf16 := View.ld x0 (Rect.unit (s := S128x256) ![0, 0] S128x128.size inb_S128x256_S128x128_0_0)
/-- The second. -/
def headB : Vec F S128x128 .bf16 := View.ld x0 (Rect.unit (s := S128x256) ![0, 128] S128x128.size inb_S128x256_S128x128_0_128)

/-- The row block's number. -/
abbrev rowW : BitVec 32 := BitVec.ofNat 32 (grid0.coords t 1).val
/-- The window's first block's number, as a word. -/
abbrev leftW (w : BitVec 32) : BitVec 32 := Scalar.subi (Scalar.subi (rowW t) w) 2#32

/-- A head's new sums after a round. -/
def newAcc (w : BitVec 32) (q k₀ k₁ k₂ v₀ v₁ v₂ : Vec F S128x128 .bf16) (a : FVec F S128x128 .f32) (r : FVec F S128x1 .f32) : FVec F S128x128 .f32 :=
  k0_pay26 a (k0_pay16 (rowW t) (leftW t w))
    (k0_pay24 k0_pay1 (rowW t) (leftW t w) (k0_pay13 q k₀ k₁ k₂) (k0_pay14 q k₀ k₁ k₂)) (k0_pay25 r) v₀ v₁ v₂

/-- A head's new running sum of logarithms after a round. -/
def newRun (w : BitVec 32) (q k₀ k₁ k₂ : Vec F S128x128 .bf16) (r : FVec F S128x1 .f32) : FVec F S128x1 .f32 :=
  k0_pay27 r (k0_pay23 (rowW t) (leftW t w) (k0_pay13 q k₀ k₁ k₂) (k0_pay14 q k₀ k₁ k₂))

/-- The second head's sums are taken as the first's. -/
theorem newAcc_second (w : BitVec 32) (q k₀ k₁ k₂ v₀ v₁ v₂ : Vec F S128x128 .bf16) (a : FVec F S128x128 .f32) (r : FVec F S128x1 .f32) :
    k0_pay10 a (k0_pay41 k0_pay1 r (k0_pay30 q k₀ k₁ k₂) (k0_pay31 (rowW t) (leftW t w)) (k0_pay32 q k₀ k₁ k₂) k0_pay33) v₀ v₁ v₂
      = newAcc t w q k₀ k₁ k₂ v₀ v₁ v₂ a r := rfl

/-- So are its logarithms'. -/
theorem newRun_second (w : BitVec 32) (q k₀ k₁ k₂ : Vec F S128x128 .bf16) (r : FVec F S128x1 .f32) :
    k0_pay11 r (k0_pay40 (k0_pay31 (rowW t) (leftW t w)) (k0_pay32 q k₀ k₁ k₂) k0_pay33) = newRun t w q k₀ k₁ k₂ r := rfl

/-- A round of the loop: both heads' new sums, over the window's three blocks. -/
def round (s : Carried F) (h : k0_chk1 (grid0.coords t) s.1) : Carried F :=
  let k (x : Vec F S8320x256 .bf16) (u : Fin 3) := cell x (k0_off1 (grid0.coords t) s.1 (BitVec.ofNat 32 u.val)) (k0_off1_inb (grid0.coords t) s.1 h u)
  let l (x : Vec F S8320x256 .bf16) (u : Fin 3) := cell x (k0_off2 (grid0.coords t) s.1 (BitVec.ofNat 32 u.val)) (k0_off2_inb (grid0.coords t) s.1 h u)
  (Scalar.addi s.1 3#32,
    newAcc t s.1 (headA x0) (k x1 0) (k x1 1) (k x1 2) (k x2 0) (k x2 1) (k x2 2) s.2.1 s.2.2.2.1,
    newAcc t s.1 (headB x0) (l x1 0) (l x1 1) (l x1 2) (l x2 0) (l x2 1) (l x2 2) s.2.2.1 s.2.2.2.2,
    newRun t s.1 (headA x0) (k x1 0) (k x1 1) (k x1 2) s.2.2.2.1,
    newRun t s.1 (headB x0) (l x1 0) (l x1 1) (l x1 2) s.2.2.2.2)

variable {arg3} in
/-- A load from a whole array of two heads is the array's block. -/
theorem cell_eq (x : Vec F S8320x256 .bf16) (off : Fin 2 → ℕ) (h : ∀ a, off a + S128x128.size a ≤ S8320x256.size a) :
    View.readAt (Elt F) arg3.view (Rect.unit (s := S8320x256) off S128x128.size h).toLoadRect (harg3.unread x) = cell x off h :=
  funext fun y => congrFun (harg3.read_unread x) _

variable {arg2} in
/-- So are the loads of the rows' heads. -/
theorem headA_eq : View.readAt (Elt F) arg2.view (Rect.unit (s := S128x256) ![0, 0] S128x128.size inb_S128x256_S128x128_0_0).toLoadRect (harg2.unread x0) = headA x0 :=
  funext fun y => congrFun (harg2.read_unread x0) _

variable {arg2} in
/-- The second. -/
theorem headB_eq : View.readAt (Elt F) arg2.view (Rect.unit (s := S128x256) ![0, 128] S128x128.size inb_S128x256_S128x128_0_128).toLoadRect (harg2.unread x0) = headB x0 :=
  funext fun y => congrFun (harg2.read_unread x0) _

/-- The loop's test. -/
def goes (s : Carried F) : BitVec 1 :=
  Scalar.andi (Scalar.cmpi .sle s.1 (rowW t)) (Scalar.cmpf .ogt (k0_pay9 s.2.2.2.1 s.2.2.2.2) (Named.named (F := F) κ "dead" 0xC2D00000#32))

/-- What the loop ends with, with `n` rounds left at most. -/
def ends : ℕ → Carried F → Carried F
  | 0, s => s
  | n + 1, s => if goes t s = 1#1 then (if h : k0_chk1 (grid0.coords t) s.1 then ends n (round t x0 x1 x2 s h) else s) else s

/-- The loop, as its callers know it: it gives back what it holds, and the sums. -/
def spec (n : ℕ) (s : Carried F) : sWPT 𝕄 (Carried F) := do
  sWPT.consume (held c arg2 arg3 arg4 arg6 x0 x1 x2)
  sWPT.produce (held c arg2 arg3 arg4 arg6 x0 x1 x2)
  pure (ends t x0 x1 x2 n s)

/-- The same, written out. -/
theorem spec_apply (n : ℕ) (s : Carried F) (K : Carried F → sProp 𝕄) :
    spec c t arg2 arg3 arg4 arg6 x0 x1 x2 n s K
      = iprop(held c arg2 arg3 arg4 arg6 x0 x1 x2 ∗ (held c arg2 arg3 arg4 arg6 x0 x1 x2 -∗ K (ends t x0 x1 x2 n s))) := rfl

set_option maxHeartbeats 8000000 in
/-- The loop entered at round `j` with `k` rounds left at most. -/
theorem spec_le (E : Set ℕ) :
    ∀ k j, j + k = 22 → ∀ (w : BitVec 32), w = BitVec.ofNat 32 (3 * j) → ∀ (a b : FVec F S128x128 .f32) (r s : FVec F S128x1 .f32) (K : Carried F → sProp 𝕄), spec c t arg2 arg3 arg4 arg6 x0 x1 x2 k (w, a, b, r, s) K
      ⊢ wp frame (wpE (defs₀ (F := F)) count (c : Thread nD τ) (some k)) E
          (defs₀ (F := F) .tc 1 ⟨grid0.coords t, arg6, harg6, arg2, harg2, arg3, harg3, k0_pay1, arg4, harg4, w, a, b, r, s⟩) K := by
  intro k
  induction k with
  | zero =>
    intro j hj w hw a b r s K
    subst hw
    obtain rfl : j = 22 := by omega
    rw [spec_apply]
    show _ ⊢ wp frame (wpE (defs₀ (F := F)) count (c : Thread nD τ) (some 0)) E
      (cc0_while1 (grid0.coords t) arg6 harg6 arg2 harg2 arg3 harg3 k0_pay1 arg4 harg4 (BitVec.ofNat 32 (3 * 22)) a b r s) K
    simp only [cc0_while1_eq_skeleton]; unfold cc0_while1_skel
    by_cases h : Scalar.andi (Scalar.cmpi .sle (BitVec.ofNat 32 (3 * 22)) (BitVec.ofNat 32 (grid0.coords t 1).val))
        (Scalar.cmpf .ogt (k0_pay9 r s) (Named.named (F := F) κ "dead" 0xC2D00000#32)) = 1#1
    · exact absurd (le_of_test (grid0.coords t 1) 22 _ h) (by have := (grid0.coords t 1).isLt; show ¬ 66 ≤ _; intro h'; exact absurd (lt_of_le_of_lt h' this) (by decide))
    · rw [show ends t x0 x1 x2 0 (BitVec.ofNat 32 (3 * 22), a, b, r, s) = (BitVec.ofNat 32 (3 * 22), a, b, r, s) from rfl]
      simp only [h, ↓reduceIte, Prog.pure_eq_ret]
      iintro ⟨H, Hk⟩
      rw [wp_ret]; imodintro
      iapply Hk; iexact H
  | succ k ih =>
    intro j hj w hw a b r s K
    subst hw
    rw [spec_apply]
    show _ ⊢ wp frame (wpE (defs₀ (F := F)) count (c : Thread nD τ) (some (k + 1))) E
      (cc0_while1 (grid0.coords t) arg6 harg6 arg2 harg2 arg3 harg3 k0_pay1 arg4 harg4 (BitVec.ofNat 32 (3 * j)) a b r s) K
    simp only [cc0_while1_eq_skeleton]; unfold cc0_while1_skel
    by_cases h : Scalar.andi (Scalar.cmpi .sle (BitVec.ofNat 32 (3 * j)) (BitVec.ofNat 32 (grid0.coords t 1).val))
        (Scalar.cmpf .ogt (k0_pay9 r s) (Named.named (F := F) κ "dead" 0xC2D00000#32)) = 1#1
    · have hc := chk_of_le t ⟨j, by omega⟩ (le_of_test (grid0.coords t 1) ⟨j, by omega⟩ _ h)
      let kA (u : Fin 3) := View.readAt (Elt F) arg3.view (Rect.unit (s := S8320x256) (k0_off1 (grid0.coords t) (BitVec.ofNat 32 (3 * j)) (BitVec.ofNat 32 u.val)) S128x128.size (k0_off1_inb (grid0.coords t) _ hc u)).toLoadRect (harg3.unread x1)
      let kB (u : Fin 3) := View.readAt (Elt F) arg3.view (Rect.unit (s := S8320x256) (k0_off2 (grid0.coords t) (BitVec.ofNat 32 (3 * j)) (BitVec.ofNat 32 u.val)) S128x128.size (k0_off2_inb (grid0.coords t) _ hc u)).toLoadRect (harg3.unread x1)
      let vA (u : Fin 3) := View.readAt (Elt F) arg4.view (Rect.unit (s := S8320x256) (k0_off1 (grid0.coords t) (BitVec.ofNat 32 (3 * j)) (BitVec.ofNat 32 u.val)) S128x128.size (k0_off1_inb (grid0.coords t) _ hc u)).toLoadRect (harg4.unread x2)
      let vB (u : Fin 3) := View.readAt (Elt F) arg4.view (Rect.unit (s := S8320x256) (k0_off2 (grid0.coords t) (BitVec.ofNat 32 (3 * j)) (BitVec.ofNat 32 u.val)) S128x128.size (k0_off2_inb (grid0.coords t) _ hc u)).toLoadRect (harg4.unread x2)
      let qA := View.readAt (Elt F) arg2.view (Rect.unit (s := S128x256) ![0, 0] S128x128.size inb_S128x256_S128x128_0_0).toLoadRect (harg2.unread x0)
      let qB := View.readAt (Elt F) arg2.view (Rect.unit (s := S128x256) ![0, 128] S128x128.size inb_S128x256_S128x128_0_128).toLoadRect (harg2.unread x0)
      have e : round t x0 x1 x2 (BitVec.ofNat 32 (3 * j), a, b, r, s) hc = (Scalar.addi (BitVec.ofNat 32 (3 * j)) 3#32,
          newAcc t (BitVec.ofNat 32 (3 * j)) qA (kA 0) (kA 1) (kA 2) (vA 0) (vA 1) (vA 2) a r,
          newAcc t (BitVec.ofNat 32 (3 * j)) qB (kB 0) (kB 1) (kB 2) (vB 0) (vB 1) (vB 2) b s,
          newRun t (BitVec.ofNat 32 (3 * j)) qA (kA 0) (kA 1) (kA 2) r, newRun t (BitVec.ofNat 32 (3 * j)) qB (kB 0) (kB 1) (kB 2) s) := by
        have hkA : ∀ u, kA u = cell x1 (k0_off1 (grid0.coords t) (BitVec.ofNat 32 (3 * j)) (BitVec.ofNat 32 u.val)) (k0_off1_inb (grid0.coords t) _ hc u) := fun u => cell_eq harg3 x1 _ _
        have hkB : ∀ u, kB u = cell x1 (k0_off2 (grid0.coords t) (BitVec.ofNat 32 (3 * j)) (BitVec.ofNat 32 u.val)) (k0_off2_inb (grid0.coords t) _ hc u) := fun u => cell_eq harg3 x1 _ _
        have hvA : ∀ u, vA u = cell x2 (k0_off1 (grid0.coords t) (BitVec.ofNat 32 (3 * j)) (BitVec.ofNat 32 u.val)) (k0_off1_inb (grid0.coords t) _ hc u) := fun u => cell_eq harg4 x2 _ _
        have hvB : ∀ u, vB u = cell x2 (k0_off2 (grid0.coords t) (BitVec.ofNat 32 (3 * j)) (BitVec.ofNat 32 u.val)) (k0_off2_inb (grid0.coords t) _ hc u) := fun u => cell_eq harg4 x2 _ _
        have hqA : qA = headA x0 := headA_eq harg2 x0
        have hqB : qB = headB x0 := headB_eq harg2 x0
        rw [hkA 0, hkA 1, hkA 2, hkB 0, hkB 1, hkB 2, hvA 0, hvA 1, hvA 2, hvB 0, hvB 1, hvB 2, hqA, hqB]; rfl
      rw [show ends t x0 x1 x2 (k + 1) (BitVec.ofNat 32 (3 * j), a, b, r, s) = ends t x0 x1 x2 k (round t x0 x1 x2 (BitVec.ofNat 32 (3 * j), a, b, r, s) hc) from (if_pos h).trans (dif_pos hc), e]
      simp only [h, ↓reduceIte, k0_part1_eq_skeleton, k0_part2_eq_skeleton, k0_part3_eq_skeleton, k0_part4_eq_skeleton, k0_part5_eq_skeleton]
      unfold held some_ owns
      iintro ⟨⟨⟨%f0, %hf0, H0⟩, ⟨%f1, %hf1, H1⟩, ⟨%f2, %hf2, H2⟩, ⟨%d0, %g0, -, G0⟩⟩, Hk⟩
      obtain rfl := harg2.eq_unread hf0; obtain rfl := harg3.eq_unread hf1; obtain rfl := harg4.eq_unread hf2
      unfold k0_part1_skel k0_part2_skel k0_part3_skel k0_part4_skel k0_part5_skel
      sl_exec (disch := first | sl_exact hc)
      have ih' := ih (j + 1) (by omega) _ (next ⟨j, by omega⟩)
        (newAcc t (BitVec.ofNat 32 (3 * j)) qA (kA 0) (kA 1) (kA 2) (vA 0) (vA 1) (vA 2) a r)
        (newAcc t (BitVec.ofNat 32 (3 * j)) qB (kB 0) (kB 1) (kB 2) (vB 0) (vB 1) (vB 2) b s)
        (newRun t (BitVec.ofNat 32 (3 * j)) qA (kA 0) (kA 1) (kA 2) r) (newRun t (BitVec.ofNat 32 (3 * j)) qB (kB 0) (kB 1) (kB 2) s)
      iapply (wp_call_spec count (c : Thread nD τ) (some (k + 1)) E (spec c t arg2 arg3 arg4 arg6 x0 x1 x2 k _) k
        (fun u hu => by cases hu; exact Nat.lt_succ_self k) ih')
      rw [spec_apply]; unfold held some_ owns
      isplitl [H0 H1 H2 G0]
      · isplitl [H0]
        · iexists _; isplitr; swap; · iexact H0
          ipureintro; exact harg2.read_unread _
        isplitl [H1]
        · iexists _; isplitr; swap; · iexact H1
          ipureintro; exact harg3.read_unread _
        isplitl [H2]
        · iexists _; isplitr; swap; · iexact H2
          ipureintro; exact harg4.read_unread _
        iexists _, _; isplitr; swap; · iexact G0
        ipureintro; rfl
      iintro H
      rw [wp_ret]; imodintro
      iapply Hk; iexact H
    · rw [show ends t x0 x1 x2 (k + 1) (BitVec.ofNat 32 (3 * j), a, b, r, s) = (BitVec.ofNat 32 (3 * j), a, b, r, s) from if_neg h]
      simp only [h, ↓reduceIte, Prog.pure_eq_ret]
      iintro ⟨H, Hk⟩
      rw [wp_ret]; imodintro
      iapply Hk; iexact H

/-! ## The body -/

variable (arg5 : Memref sig .tc .vmem S128x256 .bf16) (harg5 : arg5.IsWhole) (arg7 : Memref sig .tc .smem S4x65 .f32) (harg7 : arg7.IsWhole)

/-- Two heads side by side. -/
def put (u v : Vec F S128x128 .bf16) : Vec F S128x256 .bf16 := fun y =>
  if h : (y 1).val < 128 then u (fun a => match a with | ⟨0, _⟩ => y 0 | ⟨1, _⟩ => ⟨(y 1).val, h⟩)
  else v (fun a => match a with | ⟨0, _⟩ => y 0 | ⟨1, _⟩ => ⟨(y 1).val - 128, by have h2 : (y 1).val < 256 := (y 1).isLt; show _ < 128; omega⟩)

/-- Stores of the two heads leave them side by side. -/
theorem read_put (M : View sig .tc .vmem S128x256 .bf16) (f : M.ty.Contents (Elt F)) (u v : Vec F S128x128 .bf16) :
    M.read (Elt F) (M.writes (Elt F) f [⟨Rect.unit (s := S128x256) ![0, 128] S128x128.size inb_S128x256_S128x128_0_128, v⟩,
      ⟨Rect.unit (s := S128x256) ![0, 0] S128x128.size inb_S128x256_S128x128_0_0, u⟩]) = put u v := by
  funext y
  unfold put
  split
  · rename_i h
    refine (View.read_writes_cons_unit_of_not_mem M f _ _ _ y rfl 1 (.inl h)).trans
      (View.read_writes_cons_unit_of_mem M f _ u [] y _ rfl fun a => ?_)
    refine Fin.cases ?_ (fun i => Fin.cases ?_ (fun j => j.elim0) i) a
    · exact (Nat.zero_add _).symm
    · exact (Nat.zero_add _).symm
  · rename_i h
    refine View.read_writes_cons_unit_of_mem M f _ v _ y _ rfl fun a => ?_
    refine Fin.cases ?_ (fun i => Fin.cases ?_ (fun j => j.elim0) i) a
    · exact (Nat.zero_add _).symm
    · show (y 1).val = 128 + ((y 1).val - 128); omega

/-- What the loop starts from. -/
def start : Carried F := (0#32, k0_pay2, k0_pay3, k0_pay4, k0_pay5)

/-- What the body leaves of the two heads' sums. -/
def out : Vec F S128x256 .bf16 :=
  put (k0_pay6 (ends t x0 x1 x2 22 start).2.1) (k0_pay7 (ends t x0 x1 x2 22 start).2.2.1)

set_option maxHeartbeats 4000000 in
/-- The body runs the loop, stores the two heads' sums and the rounds' number. -/
theorem run_body (E : Set ℕ) (K : PUnit → sProp 𝕄) :
    iprop((held c arg2 arg3 arg4 arg6 x0 x1 x2 ∗ some_ c arg5 ∗ some_ c arg7)
      ∗ ((held c arg2 arg3 arg4 arg6 x0 x1 x2 ∗ owns (c : Thread nD τ) arg5 fullShare (out t x0 x1 x2) ∗ some_ c arg7) -∗ K ⟨⟩))
      ⊢ wp frame (wpE (defs₀ (F := F)) count (c : Thread nD τ) none) E
          (cc0_sb_fwd (grid0.coords t) arg2 harg2 arg3 harg3 arg4 harg4 arg5 harg5 arg6 harg6 arg7 harg7) K := by
  simp only [cc0_sb_fwd_eq_skeleton]; unfold cc0_sb_fwd_skel
  simp only [Prog.lift, Prog.bind_op, Prog.bind_ret, Prog.pure_eq_ret]
  iintro ⟨⟨H, G0, G1⟩, Hk⟩
  iapply (wp_call_spec count (c : Thread nD τ) none E (spec c t arg2 arg3 arg4 arg6 x0 x1 x2 22 _) 22 (fun u hu => nomatch hu)
    (spec_le c t arg2 harg2 arg3 harg3 arg4 harg4 arg6 harg6 x0 x1 x2 E 22 0 rfl _ rfl _ _ _ _))
  rw [spec_apply]
  isplitl [H]; · iexact H
  iintro H
  unfold some_ owns
  icases G0 with ⟨%d0, %g0, -, G0⟩
  icases G1 with ⟨%d1, %g1, -, G1⟩
  sl_exec
  sl_step
  iapply Hk
  isplitl [H]; · iexact H
  isplitl [G0]
  · iexists _; isplitr; swap; · iexact G0
    ipureintro
    exact read_put _ _ _ _
  iexists _, _; isplitr; swap; · iexact G1
  ipureintro; rfl
end

/-! ## The launch -/

variable (m : (ℓ : Loc nD τ sig) → Buf (Elt F) ℓ) (ρ : Dev nD → PrngReg)

/-- An array as the region finds it: as it was given. -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array, at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The results of which nothing is named: the starts and the rounds' numbers. -/
def free : Fin 6 → Bool := fun w => decide (4 ≤ w.val)

/-- The proof data of the pipeline: each input's buffer at its block, the results unnamed. -/
def dat (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out t (iblk m c 0 t) (iblk m c 1 t) (iblk m c 2 t)
    | ⟨4, h⟩ => Pipeline.Dat.unnamed (cfg := (cfg0 (F := F))) ⟨4, h⟩ t
    | ⟨5, h⟩ => Pipeline.Dat.unnamed (cfg := (cfg0 (F := F))) ⟨5, h⟩ t
    | ⟨_ + 6, h⟩ => absurd h (Nat.not_lt.2 (Nat.le_add_left _ _))
  Φ _ := Pipeline.ΦA spec0 c
  q w := Pipeline.shareOf spec0 w
  owed _ := 0

/-- The arrays are as given. -/
theorem A_eq (c : Dev nD) (w : Fin (cfg0 (F := F)).W) : (dat m 0 c).A w = V m c (Pipeline.arrRef spec0 w) := by dsimp only [dat]

/-- The rows' buffer is left at its block. -/
theorem after_0 (c : Dev nD) (t : Fin (cfg0 (F := F)).N) : (dat m 0 c).after 0 t = iblk m c 0 t := rfl
/-- The keys' buffer is left at its block. -/
theorem after_1 (c : Dev nD) (t : Fin (cfg0 (F := F)).N) : (dat m 0 c).after 1 t = iblk m c 1 t := rfl
/-- The values' buffer is left at its block. -/
theorem after_2 (c : Dev nD) (t : Fin (cfg0 (F := F)).N) : (dat m 0 c).after 2 t = iblk m c 2 t := rfl

/-- The sums' buffer is left at the sums. -/
theorem after_3 (c : Dev nD) (t : Fin (cfg0 (F := F)).N) : (dat m 0 c).after 3 t = out t (iblk m c 0 t) (iblk m c 1 t) (iblk m c 2 t) := rfl

/-- The rows' buffer holds its block at every point. -/
theorem before_0 (c : Dev nD) (t : Fin (cfg0 (F := F)).N) (d) : (dat m 0 c).before 0 t d = iblk m c 0 t :=
  ((dat m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The keys' buffer holds its block at every point. -/
theorem before_1 (c : Dev nD) (t : Fin (cfg0 (F := F)).N) (d) : (dat m 0 c).before 1 t d = iblk m c 1 t :=
  ((dat m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The values' buffer holds its block at every point. -/
theorem before_2 (c : Dev nD) (t : Fin (cfg0 (F := F)).N) (d) : (dat m 0 c).before 2 t d = iblk m c 2 t :=
  ((dat m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The buffer of the rows' block. -/
abbrev st_0 (t : Fin (cfg0 (F := F)).N) : Memref sig .tc .vmem S128x256 .bf16 := win0_0.stage ((cfg0 (F := F)).slots t 0)
/-- The buffer of the keys. -/
abbrev st_1 (t : Fin (cfg0 (F := F)).N) : Memref sig .tc .vmem S8320x256 .bf16 := win0_1.stage ((cfg0 (F := F)).slots t 1)
/-- The buffer of the values. -/
abbrev st_2 (t : Fin (cfg0 (F := F)).N) : Memref sig .tc .vmem S8320x256 .bf16 := win0_2.stage ((cfg0 (F := F)).slots t 2)
/-- The buffer of the sums. -/
abbrev st_3 (t : Fin (cfg0 (F := F)).N) : Memref sig .tc .vmem S128x256 .bf16 := win0_3.stage ((cfg0 (F := F)).slots t 3)
/-- The buffer of the starts. -/
abbrev st_4 (t : Fin (cfg0 (F := F)).N) : Memref sig .tc .vmem S2x128x128 .f32 := win0_4.stage ((cfg0 (F := F)).slots t 4)
/-- The buffer of the rounds' numbers. -/
abbrev st_5 (t : Fin (cfg0 (F := F)).N) : Memref sig .tc .smem S4x65 .f32 := win0_5.stage ((cfg0 (F := F)).slots t 5)

set_option maxHeartbeats 4000000 in
/-- The body at a point of the grid. -/
theorem body_at (c : Dev nD) (t : Fin (cfg0 (F := F)).N) :
    iprop((dat m 0 c).Φ t.castSucc ∗ (dat m 0 c).owesAt () t.castSucc
      ∗ (∃ d, owns (c : Thread nD τ) (st_0 t) fullShare ((dat m 0 c).before 0 t d))
      ∗ (∃ d, owns (c : Thread nD τ) (st_1 t) fullShare ((dat m 0 c).before 1 t d))
      ∗ (∃ d, owns (c : Thread nD τ) (st_2 t) fullShare ((dat m 0 c).before 2 t d)) ∗ (∃ d, owns (c : Thread nD τ) (st_3 t) fullShare ((dat m 0 c).before 3 t d)) ∗ some_ c (st_4 t) ∗ some_ c (st_5 t))
    ⊢ wp frame (wpE (defs₀ (F := F)) count c none) Set.univ (bodyAt0 t) fun _ =>
      iprop((dat m 0 c).Φ t.succ ∗ (dat m 0 c).owesAt () t.succ
      ∗ owns (c : Thread nD τ) (st_0 t) fullShare ((dat m 0 c).after 0 t) ∗ owns (c : Thread nD τ) (st_1 t) fullShare ((dat m 0 c).after 1 t)
      ∗ owns (c : Thread nD τ) (st_2 t) fullShare ((dat m 0 c).after 2 t) ∗ owns (c : Thread nD τ) (st_3 t) fullShare ((dat m 0 c).after 3 t) ∗ some_ c (st_4 t) ∗ some_ c (st_5 t)) := by
  unfold bodyAt0
  simp only [before_0, before_1, before_2, after_0, after_1, after_2, after_3]
  rw [show (dat m 0 c).owesAt () t.succ = (dat m 0 c).owesAt () t.castSucc from rfl,
    show (dat m 0 c).Φ t.succ = (dat m 0 c).Φ t.castSucc from rfl]
  iintro ⟨HΦ, Ho, ⟨%d0, H0⟩, ⟨%d1, H1⟩, ⟨%d2, H2⟩, ⟨%d3, G0⟩, G1, G2⟩
  iapply (run_body c t _ _ _ _ _ _ _ _ (iblk m c 0 t) (iblk m c 1 t) (iblk m c 2 t) _ _ _ _ Set.univ _)
  unfold held
  isplitl [H0 H1 H2 G0 G1 G2]
  · isplitl [H0 H1 H2 G1]
    · isplitl [H0]; · iexact H0
      isplitl [H1]; · iexact H1
      isplitl [H2]; · iexact H2
      iexact G1
    isplitl [G0]; · iexists _; iexact G0
    iexact G2
  iintro ⟨⟨H0, H1, H2, G1⟩, G0, G2⟩
  isplitl [HΦ]; · iexact HΦ
  isplitl [Ho]; · iexact Ho
  isplitl [H0]; · iexact H0
  isplitl [H1]; · iexact H1
  isplitl [H2]; · iexact H2
  isplitl [G0]; · iexact G0
  isplitl [G1]; · iexact G1
  iexact G2

/-- What the pipeline asks of the body, at every point. -/
theorem obligation (c : Dev nD) : BodyObligation (dat (F := F) m 0 c) (defs₀ (F := F)) count () Set.univ free := fun t => by
  rw [bigSep_W0, bigSep_W0, show defs₀ (F := F) .tc (cfg0 (F := F)).body ((cfg0 (F := F)).bodyArgs t ((cfg0 (F := F)).slots t)) = bodyAt0 t by unfold defs₀; rw [Defs.onTc_tc]]
  exact triple_restated (body_at m c t) rfl .rfl fun _ => .rfl

set_option backward.isDefEq.respectTransparency.types false in
/-- The launch: the inputs' array ends as it began, every semaphore at zero. -/
theorem run_main : θ_run defs (onTc (τ := τ) (main (F := F))) (s₀ m ρ) fun r =>
    (Pipeline.RDat.FramePost (cfgs 0) (fun c => (dat m 0 c).toRForget free) (V m)) r ∧ r.2.sem = fun _ => 0 :=
  Pipeline.θ_run_frame_track_forget_shared (Q' := _) cfgs (dat m) (0 : Fin 1) launch₀0 defs₀ count free m ρ main
    (hbody := fun c => (obligation m c).loose) (hq := fun _ _ _ => rfl) (howed := fun _ _ => rfl) (V := V m)
    (hmain := hmain m count) (hA := A_eq m) (hin := fun _ => .rfl) (hout := fun _ => .rfl)

/-- What the results' array ends at; the argument's ends as it began. -/
theorem run_value : θ_run defs (onTc (τ := τ) (main (F := F))) ⟨m, fun _ => 0, ρ⟩ (fun r => ∀ c : Dev nD,
      r.2.mem ((c.tc : Thread nD τ).loc main_v0_0) = (dat m 0 c).arrAt 3 (cfg0 (F := F)).N
      ∧ r.2.mem ((c.tc : Thread nD τ).loc main_arg0) = m ((c.tc : Thread nD τ).loc main_arg0)) :=
  (θ_run defs _ _).mono (fun _ h c => ⟨((dat m 0 c).toRForget_arrAt_iff (fgt := free) (w := 3) rfl _ _).mp ((h.1 c).1 3),
    (Pipeline.RDat.FramePost.arr_in h.1 c 0 rfl).trans (A_eq m c 0)⟩) (run_main m ρ)

/-- The frame, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 0 rfl).trans (A_eq m c 0), h.2⟩) (run_main m ρ)

/-- The frame of the idealization. -/
theorem frame_ideal : quiescent_KernelSbfIdeal := fun m ρ _ => frame (F := Ideal) m ρ

end Cert.Proof.SbFwd

end
-- ==== Proof.SbRound.lean ====
/- A round of the version's attention, over the real numbers. -/
module

public import proofs.«01_k».proof.Proof.SbFwd
public import proofs.«01_k».proof.Proof.Reals
public import Idealize.ShloMosaic.Lib.Pipeline.ValueKit

@[expose] public section

noncomputable section

namespace Cert.Proof.SbRound

open Idealize.ShloMosaic Idealize.SL.Sem Idealize.ShloMosaic.TcCoe Cert.Scalars Cert.Reals
open Cert.KernelSbfIdeal Cert.KernelSbfIdeal.Gen

/-! ## Sums over stretches of positions -/

/-- The sum of a function over a stretch of positions. -/
def S (g : ℤ → ℝ) (a b : ℤ) : ℝ := ∑ p ∈ Finset.Ico a b, g p

/-- Two stretches, one after the other. -/
theorem S_add (g : ℤ → ℝ) {a b c : ℤ} (h : a ≤ b) (h' : b ≤ c) : S g a b + S g b c = S g a c := by
  unfold S
  rw [← Finset.Ico_union_Ico_eq_Ico h h', Finset.sum_union (Finset.Ico_disjoint_Ico_consecutive a b c)]

/-- A stretch of positions, as offsets from its start. -/
theorem sum_fin (g : ℤ → ℝ) (a : ℤ) (n : ℕ) : ∑ v : Fin n, g (a + v.val) = S g a (a + n) := by
  induction n with
  | zero => simp [S]
  | succ n ih =>
    rw [Fin.sum_univ_castSucc]
    have h1 : S g (a + n) (a + (n + 1 : ℕ)) = g (a + n) := by
      unfold S
      rw [show Finset.Ico (a + n) (a + (n + 1 : ℕ)) = {a + (n : ℤ)} by ext x; simp only [Finset.mem_Ico, Finset.mem_singleton]; omega]
      exact Finset.sum_singleton _ _
    rw [← S_add g (b := a + n) (by omega) (by omega), h1]
    exact congrArg₂ (· + ·) ih rfl

/-- The offsets after one of them. -/
theorem sum_after (g : ℤ → ℝ) (a : ℤ) (n : ℕ) (v : Fin n) :
    ∑ x : Fin n, g (a + x.val) * (if v < x then 1 else 0) = S g (a + v.val + 1) (a + n) := by
  have h : ∀ x : Fin n, g (a + x.val) * (if v < x then 1 else 0) = (fun p => if a + v.val < p then g p else 0) (a + x.val) := fun x => by
    by_cases hx : v < x
    · have hx' : v.val < x.val := hx
      simp only [hx, ↓reduceIte, mul_one]; rw [if_pos (by omega)]
    · have hx' : ¬ v.val < x.val := hx
      simp only [hx, ↓reduceIte, mul_zero]; rw [if_neg (by omega)]
  rw [Finset.sum_congr rfl fun x _ => h x, sum_fin (fun p => if a + v.val < p then g p else 0)]
  unfold S
  rw [← Finset.sum_filter]
  refine Finset.sum_congr ?_ fun _ _ => rfl
  ext p; simp only [Finset.mem_filter, Finset.mem_Ico]; omega

/-! ## The numbers of a round -/

/-- The scores' scale. -/
def sc : ℝ := 11863283 / 134217728
/-- It is the constant of the program. -/
theorem bits_sc : Ideal.ofBits .f32 0x3DB504F3#32 = ((sc : ℝ) : EReal) := by
  unfold sc; simp [Ideal.ofBits, Ideal.ieee, -EReal.coe_mul]; norm_num

/-- The logarithm of the logistic function. -/
def lb (z : ℝ) : ℝ := min z 0 - Real.log (1 + Real.exp (-|z|))

section
variable (r : Fin 128) (z : Fin 384 → ℝ) (x y : FVec Ideal S128x384 .f32) (a b : BitVec 32)
variable (hx : ∀ c, x (ix2 r c) = ((z c : ℝ) : EReal)) (hy : ∀ c, y (ix2 r c) = ((1 + Real.exp (-|z c|) : ℝ) : EReal))

include hx hy in
/-- The logarithms of the logistic function. -/
theorem lb_at (c : Fin 384) : k0_pay15 x y (ix2 r c) = ((lb (z c) : ℝ) : EReal) := by
  unfold k0_pay15
  pointwise
  rw [hx, hy, Ideal.log_coe, if_neg (not_le.mpr (by positivity))]
  unfold lb
  rw [EReal.coe_sub, (EReal.coe_strictMono.monotone.map_min (a := z c) (b := 0)), EReal.coe_zero]

variable (base : ℤ) (g : ℤ → ℝ)
variable (hg : ∀ c : Fin 384, g (base + c.val) = if k0_pay16 a b (ix2 r c) = 1#1 then lb (z c) - z c else 0)

include hx hy hg in
/-- What a key leaves, where it is seen. -/
theorem masked_at (c : Fin 384) : k0_pay17 a b x y (ix2 r c) = ((g (base + c.val) : ℝ) : EReal) := by
  unfold k0_pay17
  pointwise
  rw [lb_at r z x y hx hy, hx]
  rw [hg]
  by_cases hm : k0_pay16 a b (ix2 r c) = 1#1
  · rw [if_pos hm, hm]; exact (EReal.coe_sub _ _).symm
  · rw [if_neg hm]; exact if_neg hm

/-- A sum over a block of a round. -/
theorem sum_block {f : Fin 128 → EReal} {p : ℤ} (h : ∀ v, f v = ((g (p + v.val) : ℝ) : EReal)) : ∑ v, f v = ((S g p (p + 128) : ℝ) : EReal) := by
  rw [Finset.sum_congr rfl fun v _ => h v]
  exact (sum_coe _ _).trans (congrArg _ (sum_fin g p 128))

include hx hy hg in
/-- The same of the first block. -/
theorem p18_at (v : Fin 128) : k0_pay18 a b x y (ix2 r v) = ((g (base + v.val) : ℝ) : EReal) := by
  unfold k0_pay18
  pointwise
  exact masked_at r z x y a b hx hy base g hg ⟨v.val, by omega⟩

include hx hy hg in
/-- The second. -/
theorem p19_at (v : Fin 128) : k0_pay19 a b x y (ix2 r v) = ((g (base + 128 + v.val) : ℝ) : EReal) := by
  unfold k0_pay19
  pointwise
  refine (masked_at r z x y a b hx hy base g hg ⟨128 + v.val, by omega⟩).trans (congrArg (fun p => ((g p : ℝ) : EReal)) ?_)
  push_cast; ring

include hx hy hg in
/-- The third. -/
theorem p20_at (v : Fin 128) : k0_pay20 a b x y (ix2 r v) = ((g (base + 256 + v.val) : ℝ) : EReal) := by
  unfold k0_pay20
  pointwise
  refine (masked_at r z x y a b hx hy base g hg ⟨256 + v.val, by omega⟩).trans (congrArg (fun p => ((g p : ℝ) : EReal)) ?_)
  push_cast; ring

include hx hy hg in
/-- The second block's sum. -/
theorem p21_at : k0_pay21 a b x y (ix2 r 0) = ((S g (base + 128) (base + 256) : ℝ) : EReal) := by
  unfold k0_pay21
  pointwise
  refine (sum_block g (p := base + 128) (p19_at r z x y a b hx hy base g hg)).trans ?_
  rw [show base + 128 + 128 = base + 256 by ring]

include hx hy hg in
/-- The third block's sum. -/
theorem p22_at : k0_pay22 a b x y (ix2 r 0) = ((S g (base + 256) (base + 384) : ℝ) : EReal) := by
  unfold k0_pay22
  pointwise
  refine (sum_block g (p := base + 256) (p20_at r z x y a b hx hy base g hg)).trans ?_
  rw [show base + 256 + 128 = base + 384 by ring]

include hx hy hg in
/-- The logarithms of a round, summed. -/
theorem p23_at : k0_pay23 a b x y (ix2 r 0) = ((S g base (base + 384) : ℝ) : EReal) := by
  have h1 : ∑ v, k0_pay18 a b x y (ix2 r v) = ((S g base (base + 128) : ℝ) : EReal) := sum_block g (p18_at r z x y a b hx hy base g hg)
  have h2 := p21_at r z x y a b hx hy base g hg
  have h3 := p22_at r z x y a b hx hy base g hg
  unfold k0_pay23
  rw [← S_add g (a := base) (b := base + 256) (c := base + 384) (by omega) (by omega), ← S_add g (a := base) (b := base + 128) (c := base + 256) (by omega) (by omega),
    EReal.coe_add, EReal.coe_add, ← h1, ← h2, ← h3]
  pointwise

/-- A block's product with the triangle, in its two parts. -/
theorem tri_sum {f t : Fin 128 → EReal} {p : ℤ} (v : Fin 128) (h : ∀ v, f v = ((g (p + v.val) : ℝ) : EReal))
    (ht : ∀ x, t x = ((if v < x then 1 else 0 : ℝ) : EReal)) :
    ∑ x, f x * t x + ∑ x, (f x - f x) * t x = ((S g (p + v.val + 1) (p + 128) : ℝ) : EReal) := by
  have h1 : ∑ x, f x * t x = ((S g (p + v.val + 1) (p + 128) : ℝ) : EReal) := by
    rw [Finset.sum_congr rfl fun x _ => by rw [h x, ht x]]
    exact (host_dot_coe _ _).trans (congrArg _ (sum_after g p 128 v))
  have h2 : ∑ x, (f x - f x) * t x = 0 := Finset.sum_eq_zero fun x _ => by
    rw [h x, ← EReal.coe_sub, sub_self, EReal.coe_zero, zero_mul]
  rw [h1, h2, add_zero]

variable (t : FVec Ideal S128x128 .bf16) (ht : ∀ u v, t (ix2 u v) = ((if v < u then 1 else 0 : ℝ) : EReal))

include hx hy hg ht in
/-- The logarithm of a weight of a round, without what later rounds' keys leave. -/
theorem p24_at (c : Fin 384) : k0_pay24 t a b x y (ix2 r c) = ((lb (z c) + S g (base + c.val + 1) (base + 384) : ℝ) : EReal) := by
  have h0 := p18_at r z x y a b hx hy base g hg
  have h1 := p19_at r z x y a b hx hy base g hg
  have h2 := p20_at r z x y a b hx hy base g hg
  have h3 := p21_at r z x y a b hx hy base g hg
  have h4 := p22_at r z x y a b hx hy base g hg
  have h5 := lb_at r z x y hx hy c
  rw [EReal.coe_add, ← h5]
  have hc := c.isLt
  unfold k0_pay24
  pointwise
  refine congrArg (k0_pay15 x y (ix2 r c) + ·) ?_
  simp only [show ¬ (256 + r.val < 128) by omega, show ¬ (256 + r.val - 128 < 128) by omega, dite_false, show 256 + r.val - 128 - 128 = r.val by omega, Fin.eta]
  by_cases hA : c.val < 128
  · rw [dif_pos hA, tri_sum g (p := base) ⟨c.val, hA⟩ h0 (fun u => ht u _), h3, h4, ← EReal.coe_add, ← EReal.coe_add, S_add g (by omega) (by omega), S_add g (by push_cast; omega) (by omega)]
  rw [dif_neg hA]
  by_cases hB : c.val - 128 < 128
  · rw [dif_pos hB, tri_sum g (p := base + 128) ⟨c.val - 128, hB⟩ h1 (fun u => ht u _), h4, ← EReal.coe_add, show base + 128 + 128 = base + 256 by ring, S_add g (by push_cast; omega) (by omega)]
    congr 3; push_cast; omega
  · rw [dif_neg hB, tri_sum g (p := base + 256) ⟨c.val - 128 - 128, by omega⟩ h2 (fun u => ht u _), show base + 256 + 128 = base + 384 by ring]
    congr 3; push_cast; omega
end

/-- Three blocks, one under the other. -/
def cat3 (k₀ k₁ k₂ : S128x128.Idx → ℝ) (c : Fin 384) (d : Fin 128) : ℝ :=
  if h : c.val < 128 then k₀ (ix2 ⟨c.val, h⟩ d) else if h' : c.val - 128 < 128 then k₁ (ix2 ⟨c.val - 128, h'⟩ d)
  else k₂ (ix2 ⟨c.val - 128 - 128, by omega⟩ d)

/-- The scores. -/
theorem z_at (q k₀ k₁ k₂ : S128x128.Idx → ℝ) (r : Fin 128) (c : Fin 384) :
    k0_pay13 (F := Ideal) (up16 q) (up16 k₀) (up16 k₁) (up16 k₂) (ix2 r c) = (((∑ d, q (ix2 r d) * cat3 k₀ k₁ k₂ c d) * sc : ℝ) : EReal) := by
  unfold k0_pay13
  pointwise
  refine (congrArg₂ (· * ·) ((Finset.sum_congr rfl fun x _ => ?_).trans (host_dot_coe (fun d => q (ix2 r d)) (cat3 k₀ k₁ k₂ c))) bits_sc).trans (EReal.coe_mul _ _).symm
  exact congrArg _ (by unfold cat3; split_ifs <;> rfl)

/-- The denominators of the logistic function. -/
theorem den_at (q k₀ k₁ k₂ : S128x128.Idx → ℝ) (r : Fin 128) (c : Fin 384) :
    k0_pay14 (F := Ideal) (up16 q) (up16 k₀) (up16 k₁) (up16 k₂) (ix2 r c)
      = ((1 + Real.exp (-|(∑ d, q (ix2 r d) * cat3 k₀ k₁ k₂ c d) * sc|) : ℝ) : EReal) := by
  unfold k0_pay14
  pointwise
  rw [z_at, Ideal.absf_def, ← EReal.coe_neg, ← EReal.coe_strictMono.monotone.map_max, zero_sub, ← EReal.coe_neg, Ideal.exp_coe, EReal.coe_add, EReal.coe_one]
  rfl

/-- The triangle: one under the diagonal. -/
theorem tri_at (r v : Fin 128) : k0_pay1 (F := Ideal) (ix2 r v) = ((if v < r then 1 else 0 : ℝ) : EReal) := by
  unfold k0_pay1
  pointwise
  have h : IntOp.cmpi CmpIPredicate.sgt (BitVec.ofNat 32 r.val) (BitVec.ofNat 32 v.val) = BitVec.ofBool (decide (v < r)) := by
    revert r v; decide +kernel
  rw [h]
  by_cases hv : v < r
  · rw [if_pos hv, decide_eq_true hv]
    show (((1#32 : BitVec 32).toInt : ℝ) : EReal) = _
    norm_num
  · rw [if_neg hv, decide_eq_false hv]
    show (((0#32 : BitVec 32).toInt : ℝ) : EReal) = _
    norm_num

/-- Two bits, both set. -/
theorem ofBool_and_one {p q : Prop} [Decidable p] [Decidable q] : (BitVec.ofBool (decide p) &&& BitVec.ofBool (decide q) = 1#1) = (q ∧ p) := by
  by_cases hp : p <;> by_cases hq : q <;> simp [hp, hq]

/-- The mask of a round, as positions. -/
theorem mask_at (i : Fin 65) (n : Fin 22) (r : Fin 128) (c : Fin 384) :
    k0_pay16 (BitVec.ofNat 32 i.val) (Scalar.subi (Scalar.subi (BitVec.ofNat 32 i.val) (BitVec.ofNat 32 (3 * n.val))) 2#32) (ix2 r c) = 1#1
      ↔ (112 ≤ 128 * ((i.val : ℤ) - 3 * n.val - 2) + c.val ∧ 128 * ((i.val : ℤ) - 3 * n.val - 2) + c.val < 128 * i.val + r.val) := by
  unfold k0_pay16
  pointwise
  have e1 : IntOp.addi (Scalar.muli (Scalar.subi (Scalar.subi (BitVec.ofNat 32 i.val) (BitVec.ofNat 32 (3 * n.val))) 2#32) 128#32) (BitVec.ofNat 32 c.val)
      = BitVec.ofInt 32 (128 * ((i.val : ℤ) - 3 * n.val - 2) + c.val) := by
    show (BitVec.ofNat 32 i.val - BitVec.ofNat 32 (3 * n.val) - 2#32) * 128#32 + BitVec.ofNat 32 c.val = _
    rw [show (128 * ((i.val : ℤ) - 3 * n.val - 2) + c.val : ℤ) = ((i.val : ℤ) + -((3 * n.val : ℕ) : ℤ) + -((2 : ℕ) : ℤ)) * ((128 : ℕ) : ℤ) + (c.val : ℤ) by push_cast; ring]
    rw [BitVec.ofInt_add, BitVec.ofInt_mul, BitVec.ofInt_add, BitVec.ofInt_add, BitVec.ofInt_neg, BitVec.ofInt_neg]
    simp only [BitVec.ofInt_natCast, BitVec.sub_eq_add_neg]
  have e2 : IntOp.addi (Scalar.muli (BitVec.ofNat 32 i.val) 128#32) (BitVec.ofNat 32 r.val) = BitVec.ofInt 32 (128 * i.val + r.val) := by
    show BitVec.ofNat 32 i.val * 128#32 + BitVec.ofNat 32 r.val = _
    rw [show (128 * (i.val : ℤ) + r.val : ℤ) = (i.val : ℤ) * ((128 : ℕ) : ℤ) + (r.val : ℤ) by push_cast; ring, BitVec.ofInt_add, BitVec.ofInt_mul]
    simp only [BitVec.ofInt_natCast]
  rw [e1, e2]
  have hi := i.isLt; have hn := n.isLt; have hr := r.isLt; have hc := c.isLt
  have t1 := BitVec.toInt_ofInt_eq_self (w := 32) (by decide) (n := 128 * ((i.val : ℤ) - 3 * n.val - 2) + c.val) (by omega) (by omega)
  have t2 := BitVec.toInt_ofInt_eq_self (w := 32) (by decide) (n := 128 * (i.val : ℤ) + r.val) (by omega) (by omega)
  show BitVec.ofBool (BitVec.slt _ _) &&& BitVec.ofBool (BitVec.sle _ _) = 1#1 ↔ _
  unfold BitVec.slt BitVec.sle
  rw [t1, t2, show (112#32 : BitVec 32).toInt = 112 by decide, ofBool_and_one]

/-- The running sums are above minus infinity. -/
theorem m_at (x y : FVec Ideal S128x1 .f32) (h : ∃ v : ℝ, x (ix2 0 0) = (v : EReal)) : ⊥ < k0_pay9 x y := by
  unfold k0_pay9
  pointwise
  obtain ⟨v, hv⟩ := h
  refine lt_of_lt_of_le (EReal.bot_lt_coe v) (le_max_of_le_left ?_)
  rw [← hv]
  rw [Finset.le_fold_max]
  right
  exact ⟨(0, 0), Finset.mem_univ _, le_rfl⟩

/-- What a head has after a round, a row's part. -/
theorem newRun_at (t : Fin grid0.N) (w : BitVec 32) (q k₀ k₁ k₂ : S128x128.Idx → ℝ) (r : Fin 128) (base : ℤ) (g : ℤ → ℝ) (R : S128x1.Idx → ℝ)
    (hg : ∀ c : Fin 384, g (base + c.val) = if k0_pay16 (SbFwd.rowW t) (SbFwd.leftW t w) (ix2 r c) = 1#1
      then lb ((∑ d, q (ix2 r d) * cat3 k₀ k₁ k₂ c d) * sc) - (∑ d, q (ix2 r d) * cat3 k₀ k₁ k₂ c d) * sc else 0) :
    SbFwd.newRun (F := Ideal) t w (up16 q) (up16 k₀) (up16 k₁) (up16 k₂) (up32 R) (ix2 r 0) = ((R (ix2 r 0) + S g base (base + 384) : ℝ) : EReal) := by
  have h := p23_at r _ _ _ _ _ (z_at q k₀ k₁ k₂ r) (den_at q k₀ k₁ k₂ r) base g hg
  unfold SbFwd.newRun k0_pay27
  rw [EReal.coe_add, ← h]
  pointwise
  rfl

/-- A round's weight of one key. -/
def wt (t : Fin grid0.N) (w : BitVec 32) (q k₀ k₁ k₂ : S128x128.Idx → ℝ) (r : Fin 128) (base : ℤ) (g : ℤ → ℝ) (R : S128x1.Idx → ℝ) (c : Fin 384) : ℝ :=
  if k0_pay16 (SbFwd.rowW t) (SbFwd.leftW t w) (ix2 r c) = 1#1
    then Real.exp (lb ((∑ d, q (ix2 r d) * cat3 k₀ k₁ k₂ c d) * sc) + S g (base + c.val + 1) (base + 384) + R (ix2 r 0)) else 0

/-- The sums of a head after a round, a row's part. -/
theorem newAcc_at (t : Fin grid0.N) (w : BitVec 32) (q k₀ k₁ k₂ v₀ v₁ v₂ : S128x128.Idx → ℝ) (r l : Fin 128) (base : ℤ) (g : ℤ → ℝ) (A : S128x128.Idx → ℝ) (R : S128x1.Idx → ℝ)
    (hg : ∀ c : Fin 384, g (base + c.val) = if k0_pay16 (SbFwd.rowW t) (SbFwd.leftW t w) (ix2 r c) = 1#1
      then lb ((∑ d, q (ix2 r d) * cat3 k₀ k₁ k₂ c d) * sc) - (∑ d, q (ix2 r d) * cat3 k₀ k₁ k₂ c d) * sc else 0) :
    SbFwd.newAcc (F := Ideal) t w (up16 q) (up16 k₀) (up16 k₁) (up16 k₂) (up16 v₀) (up16 v₁) (up16 v₂) (up32 A) (up32 R) (ix2 r l)
      = ((A (ix2 r l) + ∑ c, wt t w q k₀ k₁ k₂ r base g R c * cat3 v₀ v₁ v₂ c l : ℝ) : EReal) := by
  have h := p24_at r _ _ _ _ _ (z_at q k₀ k₁ k₂ r) (den_at q k₀ k₁ k₂ r) base g hg _ tri_at
  unfold SbFwd.newAcc k0_pay26 k0_pay25
  rw [EReal.coe_add, ← host_dot_coe]
  pointwise
  refine congrArg _ (Finset.sum_congr rfl fun c _ => ?_)
  have hv : (if h : c.val < 128 then (up16 v₀ : FVec Ideal S128x128 .bf16) (ix2 ⟨c.val, h⟩ l) else if h' : c.val - 128 < 128 then up16 v₁ (ix2 ⟨c.val - 128, h'⟩ l)
      else up16 v₂ (ix2 ⟨c.val - 128 - 128, by omega⟩ l)) = ((cat3 v₀ v₁ v₂ c l : ℝ) : EReal) := by
    unfold cat3; split_ifs <;> rfl
  rw [h c, hv]
  unfold wt
  by_cases hm : k0_pay16 (SbFwd.rowW t) (SbFwd.leftW t w) (ix2 r c) = 1#1
  · rw [if_pos hm, hm, ← Ideal.exp_coe, EReal.coe_add]
    rfl
  · rw [if_neg hm, EReal.coe_zero, zero_mul]
    exact if_neg hm

end Cert.Proof.SbRound

end
-- ==== Proof.SbRows.lean ====
/- The version's attention, forward: what its loop ends with, over the real numbers. -/
module

public import proofs.«01_k».proof.Proof.SbRound

@[expose] public section

noncomputable section

namespace Cert.Proof.SbRows

open Idealize.ShloMosaic Idealize.SL.Sem Idealize.ShloMosaic.TcCoe Cert.Scalars Cert.Reals
open Cert.KernelSbfIdeal Cert.KernelSbfIdeal.Gen
open Cert.Proof.SbRound

/-- Column `d` of head `b` of the two. -/
def colB (b : Fin 2) (d : Fin 128) : Fin 256 := ⟨b.val * 128 + d.val, by omega⟩

/-- A position as a row of the keys. -/
def clip (p : ℤ) : Fin 8320 := ⟨min p.toNat 8319, by omega⟩

section
variable (Q : S128x256.Idx → ℝ) (K V : S8320x256.Idx → ℝ) (i : ℤ) (b : Fin 2) (r l : Fin 128)

/-- The keys a row sees. -/
abbrev seen (p : ℤ) : Prop := 112 ≤ p ∧ p < 128 * i + r.val
/-- A row's score of a key. -/
def zf (p : ℤ) : ℝ := (∑ d, Q (ix2 r (colB b d)) * K (ix2 (clip p) (colB b d))) * sc
/-- What a key leaves to those before it, as a logarithm. -/
def gf (p : ℤ) : ℝ := if seen i r p then lb (zf Q K b r p) - zf Q K b r p else 0
/-- A key's weight. -/
def wf (p : ℤ) : ℝ := if seen i r p then Real.exp (lb (zf Q K b r p) + S (gf Q K i b r) (p + 1) (128 * (i + 1))) else 0
/-- A key's share of the row's sum. -/
def sf (p : ℤ) : ℝ := wf Q K i b r p * V (ix2 (clip p) (colB b l))

/-- A head's running sums after `n` rounds. -/
def runR (n : ℕ) : S128x1.Idx → ℝ := fun j => S (gf Q K i b (j 0)) (128 * (i - 3 * n + 1)) (128 * (i + 1))
/-- A head's sums after `n` rounds. -/
def accR (n : ℕ) : S128x128.Idx → ℝ := fun j => S (sf Q K V i b (j 0) (j 1)) (128 * (i - 3 * n + 1)) (128 * (i + 1))
end

section
variable (t : Fin grid0.N) (Q : S128x256.Idx → ℝ) (K V : S8320x256.Idx → ℝ) (b : Fin 2)

/-- The row block's number. -/
abbrev iz : ℤ := ((grid0.coords t 1).val : ℤ)

/-- A round of a head, over the reals. -/
theorem head_step (n : Fin 22) (q k₀ k₁ k₂ v₀ v₁ v₂ : S128x128.Idx → ℝ)
    (hq : ∀ r d, q (ix2 r d) = Q (ix2 r (colB b d)))
    (hk : ∀ (c : Fin 384) d, 0 ≤ 128 * (iz t - 3 * n.val - 2) + c.val → cat3 k₀ k₁ k₂ c d = K (ix2 (clip (128 * (iz t - 3 * n.val - 2) + c.val)) (colB b d)))
    (hv : ∀ (c : Fin 384) d, 0 ≤ 128 * (iz t - 3 * n.val - 2) + c.val → cat3 v₀ v₁ v₂ c d = V (ix2 (clip (128 * (iz t - 3 * n.val - 2) + c.val)) (colB b d))) :
    SbFwd.newAcc (F := Ideal) t (BitVec.ofNat 32 (3 * n.val)) (up16 q) (up16 k₀) (up16 k₁) (up16 k₂) (up16 v₀) (up16 v₁) (up16 v₂) (up32 (accR Q K V (iz t) b n)) (up32 (runR Q K (iz t) b n))
        = up32 (accR Q K V (iz t) b (n + 1))
      ∧ SbFwd.newRun (F := Ideal) t (BitVec.ofNat 32 (3 * n.val)) (up16 q) (up16 k₀) (up16 k₁) (up16 k₂) (up32 (runR Q K (iz t) b n)) = up32 (runR Q K (iz t) b (n + 1)) := by
  have hn := n.isLt
  have hi : (grid0.coords t 1).val < 65 := (grid0.coords t 1).isLt
  have hm : ∀ (r : Fin 128) (c : Fin 384), k0_pay16 (SbFwd.rowW t) (SbFwd.leftW t (BitVec.ofNat 32 (3 * n.val))) (ix2 r c) = 1#1
      ↔ seen (iz t) r (128 * (iz t - 3 * n.val - 2) + c.val) := fun r c => mask_at ⟨(grid0.coords t 1).val, hi⟩ n r c
  have hz : ∀ (r : Fin 128) (c : Fin 384), seen (iz t) r (128 * (iz t - 3 * n.val - 2) + c.val) →
      (∑ d, q (ix2 r d) * cat3 k₀ k₁ k₂ c d) * sc = zf Q K b r (128 * (iz t - 3 * n.val - 2) + c.val) := fun r c h => by
    unfold zf
    refine congrArg (· * sc) (Finset.sum_congr rfl fun d _ => ?_)
    rw [hq, hk c d (by have := h.1; omega)]
  have hg : ∀ (r : Fin 128) (c : Fin 384), gf Q K (iz t) b r (128 * (iz t - 3 * n.val - 2) + c.val)
      = if k0_pay16 (SbFwd.rowW t) (SbFwd.leftW t (BitVec.ofNat 32 (3 * n.val))) (ix2 r c) = 1#1
        then lb ((∑ d, q (ix2 r d) * cat3 k₀ k₁ k₂ c d) * sc) - (∑ d, q (ix2 r d) * cat3 k₀ k₁ k₂ c d) * sc else 0 := fun r c => by
    unfold gf
    by_cases h : seen (iz t) r (128 * (iz t - 3 * n.val - 2) + c.val)
    · rw [if_pos h, if_pos ((hm r c).mpr h), hz r c h]
    · rw [if_neg h, if_neg fun h' => h ((hm r c).mp h')]
  have e1 : 128 * (iz t - 3 * (n.val : ℤ) + 1) = 128 * (iz t - 3 * n.val - 2) + 384 := by ring
  have e2 : 128 * (iz t - 3 * ((n.val + 1 : ℕ) : ℤ) + 1) = 128 * (iz t - 3 * n.val - 2) := by push_cast; ring
  constructor
  · funext j
    obtain ⟨r, l, rfl⟩ : ∃ r l, j = ix2 r l := ⟨j 0, j 1, by funext a; fin_cases a <;> rfl⟩
    rw [newAcc_at t _ q k₀ k₁ k₂ v₀ v₁ v₂ r l _ _ _ _ (hg r)]
    refine congrArg (fun x : ℝ => (x : EReal)) ?_
    have hw : ∀ c : Fin 384, wt t (BitVec.ofNat 32 (3 * n.val)) q k₀ k₁ k₂ r (128 * (iz t - 3 * n.val - 2)) (gf Q K (iz t) b r) (runR Q K (iz t) b n) c * cat3 v₀ v₁ v₂ c l
        = sf Q K V (iz t) b r l (128 * (iz t - 3 * n.val - 2) + c.val) := fun c => by
      have hc := c.isLt
      unfold wt sf wf
      by_cases h : seen (iz t) r (128 * (iz t - 3 * n.val - 2) + c.val)
      · rw [if_pos h, if_pos ((hm r c).mpr h), hz r c h, hv c l (by have := h.1; omega)]
        show Real.exp (_ + _ + S (gf Q K (iz t) b r) (128 * (iz t - 3 * (n.val : ℤ) + 1)) (128 * (iz t + 1))) * _ = _
        rw [e1, add_assoc, S_add _ (by omega) (by omega)]
      · rw [if_neg h, if_neg fun h' => h ((hm r c).mp h'), zero_mul, zero_mul]
    rw [Finset.sum_congr rfl fun c _ => hw c, sum_fin]
    show S (sf Q K V (iz t) b r l) (128 * (iz t - 3 * (n.val : ℤ) + 1)) (128 * (iz t + 1)) + _ = S (sf Q K V (iz t) b r l) (128 * (iz t - 3 * ((n.val + 1 : ℕ) : ℤ) + 1)) (128 * (iz t + 1))
    rw [e1, e2, add_comm]
    exact S_add _ (by omega) (by omega)
  · funext j
    obtain ⟨r, l, rfl⟩ : ∃ r l, j = ix2 r l := ⟨j 0, j 1, by funext a; fin_cases a <;> rfl⟩
    obtain rfl : l = 0 := Subsingleton.elim _ _
    rw [newRun_at t _ q k₀ k₁ k₂ r _ _ _ (hg r)]
    refine congrArg (fun x : ℝ => (x : EReal)) ?_
    show S (gf Q K (iz t) b r) (128 * (iz t - 3 * (n.val : ℤ) + 1)) (128 * (iz t + 1)) + _ = S (gf Q K (iz t) b r) (128 * (iz t - 3 * ((n.val + 1 : ℕ) : ℤ) + 1)) (128 * (iz t + 1))
    rw [e1, e2, add_comm]
    exact S_add _ (by omega) (by omega)

/-- Where a round's blocks start. -/
theorem off1_eq : ∀ (t : Fin grid0.N) (n : Fin 22) (u : Fin 3), 3 * n.val + 2 ≤ (grid0.coords t 1).val + u.val →
    k0_off1 (grid0.coords t) (BitVec.ofNat 32 (3 * n.val)) (BitVec.ofNat 32 u.val) = ![128 * ((grid0.coords t 1).val + u.val - (3 * n.val + 2)), 0] := by
  decide +kernel
/-- The second head's. -/
theorem off2_eq : ∀ (t : Fin grid0.N) (n : Fin 22) (u : Fin 3), 3 * n.val + 2 ≤ (grid0.coords t 1).val + u.val →
    k0_off2 (grid0.coords t) (BitVec.ofNat 32 (3 * n.val)) (BitVec.ofNat 32 u.val) = ![128 * ((grid0.coords t 1).val + u.val - (3 * n.val + 2)), 128] := by
  decide +kernel

/-- A block of the keys, over the reals. -/
def cellR (K : S8320x256.Idx → ℝ) (off : Fin 2 → ℕ) (h : ∀ a, off a + S128x128.size a ≤ S8320x256.size a) : S128x128.Idx → ℝ :=
  fun j => K ((Rect.unit (s := S8320x256) off S128x128.size h).emb j)

/-- It is what a load of it reads. -/
theorem cell_up (off : Fin 2 → ℕ) (h : ∀ a, off a + S128x128.size a ≤ S8320x256.size a) : SbFwd.cell (F := Ideal) (up16 K) off h = up16 (cellR K off h) := rfl

/-- A block's element. -/
theorem cellR_at {off : Fin 2 → ℕ} {o p : ℕ} (e : off = ![o, p]) (h : ∀ a, off a + S128x128.size a ≤ S8320x256.size a) (r d : Fin 128) (R : Fin 8320) (D : Fin 256)
    (hR : R.val = o + r.val) (hD : D.val = p + d.val) : cellR K off h (ix2 r d) = K (ix2 R D) := by
  subst e
  refine congrArg K (funext fun a => Fin.ext ?_)
  match a with
  | ⟨0, _⟩ => show o + 1 * r.val = R.val; omega
  | ⟨1, _⟩ => show p + 1 * d.val = D.val; omega

/-- The three blocks of a round, as positions. -/
theorem cat_eq (n : Fin 22) (o : Fin 3 → Fin 2 → ℕ) (h : ∀ u a, o u a + S128x128.size a ≤ S8320x256.size a)
    (ho : ∀ u : Fin 3, 3 * n.val + 2 ≤ (grid0.coords t 1).val + u.val → o u = ![128 * ((grid0.coords t 1).val + u.val - (3 * n.val + 2)), b.val * 128])
    (c : Fin 384) (d : Fin 128) (hc : 0 ≤ 128 * (iz t - 3 * n.val - 2) + c.val) :
    cat3 (cellR K (o 0) (h 0)) (cellR K (o 1) (h 1)) (cellR K (o 2) (h 2)) c d = K (ix2 (clip (128 * (iz t - 3 * n.val - 2) + c.val)) (colB b d)) := by
  have hn := n.isLt
  have hi : (grid0.coords t 1).val < 65 := (grid0.coords t 1).isLt
  have hc' := c.isLt
  unfold iz at hc ⊢
  unfold cat3
  split_ifs with hA hB
  · refine cellR_at K (ho 0 (by show _ ≤ _ + 0; omega)) _ _ d _ _ ?_ rfl
    show min (Int.toNat _) 8319 = 128 * (_ + 0 - _) + c.val
    omega
  · refine cellR_at K (ho 1 (by show _ ≤ _ + 1; omega)) _ _ d _ _ ?_ rfl
    show min (Int.toNat _) 8319 = 128 * (_ + 1 - _) + (c.val - 128)
    omega
  · refine cellR_at K (ho 2 (by show _ ≤ _ + 2; omega)) _ _ d _ _ ?_ rfl
    show min (Int.toNat _) 8319 = 128 * (_ + 2 - _) + (c.val - 128 - 128)
    omega

/-- What the loop carries after `n` rounds. -/
def stateAt (n : ℕ) : SbFwd.Carried Ideal :=
  (BitVec.ofNat 32 (3 * n), up32 (accR Q K V (iz t) 0 n), up32 (accR Q K V (iz t) 1 n), up32 (runR Q K (iz t) 0 n), up32 (runR Q K (iz t) 1 n))

/-- A round takes it on. -/
theorem round_eq (n : Fin 22) (h : k0_chk1 (grid0.coords t) (stateAt t Q K V n).1) :
    SbFwd.round t (up16 Q) (up16 K) (up16 V) (stateAt t Q K V n) h = stateAt t Q K V (n + 1) := by
  have hA := head_step t Q K V 0 n (fun j => Q ((Rect.unit (s := S128x256) ![0, 0] S128x128.size inb_S128x256_S128x128_0_0).emb j)) _ _ _ _ _ _
    (fun r d => congrArg Q (funext fun a => Fin.ext (match a with
      | ⟨0, _⟩ => by show 0 + 1 * r.val = r.val; omega
      | ⟨1, _⟩ => by show 0 + 1 * d.val = 0 * 128 + d.val; omega)))
    (cat_eq t K 0 n (fun u => k0_off1 (grid0.coords t) (BitVec.ofNat 32 (3 * n.val)) (BitVec.ofNat 32 u.val)) (fun u => k0_off1_inb (grid0.coords t) _ h u) (fun u hu => off1_eq t n u hu))
    (cat_eq t V 0 n (fun u => k0_off1 (grid0.coords t) (BitVec.ofNat 32 (3 * n.val)) (BitVec.ofNat 32 u.val)) (fun u => k0_off1_inb (grid0.coords t) _ h u) (fun u hu => off1_eq t n u hu))
  have hB := head_step t Q K V 1 n (fun j => Q ((Rect.unit (s := S128x256) ![0, 128] S128x128.size inb_S128x256_S128x128_0_128).emb j)) _ _ _ _ _ _
    (fun r d => congrArg Q (funext fun a => Fin.ext (match a with
      | ⟨0, _⟩ => by show 0 + 1 * r.val = r.val; omega
      | ⟨1, _⟩ => by show 128 + 1 * d.val = 1 * 128 + d.val; omega)))
    (cat_eq t K 1 n (fun u => k0_off2 (grid0.coords t) (BitVec.ofNat 32 (3 * n.val)) (BitVec.ofNat 32 u.val)) (fun u => k0_off2_inb (grid0.coords t) _ h u) (fun u hu => off2_eq t n u hu))
    (cat_eq t V 1 n (fun u => k0_off2 (grid0.coords t) (BitVec.ofNat 32 (3 * n.val)) (BitVec.ofNat 32 u.val)) (fun u => k0_off2_inb (grid0.coords t) _ h u) (fun u hu => off2_eq t n u hu))
  refine Prod.ext (SbFwd.next n) (Prod.ext hA.1 (Prod.ext hB.1 (Prod.ext hA.2 hB.2)))

/-- The counter's half of the test passes while keys are left. -/
theorem test_of_le : ∀ (n : Fin 65) (j : Fin 23), 3 * j.val ≤ n.val →
    Scalar.andi (Scalar.cmpi .sle (BitVec.ofNat 32 (3 * j.val)) (BitVec.ofNat 32 n.val)) 1#1 = 1#1 := by decide +kernel

/-- Its other half passes at any number above minus infinity. -/
theorem above (x : Ideal .f32) (h : (⊥ : EReal) < x) : Scalar.cmpf .ogt x (Named.named (F := Ideal) κ "dead" 0xC2D00000#32) = 1#1 := by
  rw [show Named.named (F := Ideal) κ "dead" (φ := .f32) 0xC2D00000#32 = (⊥ : EReal) from IdealRules.named_const.ideal_named_scalar _ _ _ _ rfl]
  exact (congrArg BitVec.ofBool (decide_eq_true h)).trans rfl

/-- The loop goes on while keys are left: nothing stops it early over the reals. -/
theorem goes_iff (n : Fin 23) : SbFwd.goes t (stateAt t Q K V n) = 1#1 ↔ 3 * n.val ≤ (grid0.coords t 1).val := by
  constructor
  · exact fun h => SbFwd.le_of_test (grid0.coords t 1) n _ h
  · intro h
    unfold SbFwd.goes
    rw [above _ (m_at (stateAt t Q K V n).2.2.2.1 (stateAt t Q K V n).2.2.2.2 ⟨_, rfl⟩)]
    exact test_of_le (grid0.coords t 1) n h

/-- What the loop ends with. -/
theorem ends_eq : ∀ k n, n + k = 22 → n ≤ (grid0.coords t 1).val / 3 + 1 →
    SbFwd.ends t (up16 Q) (up16 K) (up16 V) k (stateAt t Q K V n) = stateAt t Q K V ((grid0.coords t 1).val / 3 + 1)
  | 0, n, h, h' => by
    have hi : (grid0.coords t 1).val < 65 := (grid0.coords t 1).isLt
    obtain rfl : n = (grid0.coords t 1).val / 3 + 1 := by omega
    rfl
  | k + 1, n, h, h' => by
    have hi : (grid0.coords t 1).val < 65 := (grid0.coords t 1).isLt
    have hg := goes_iff t Q K V ⟨n, by omega⟩
    by_cases hn : 3 * n ≤ (grid0.coords t 1).val
    · have hc := SbFwd.chk_of_le t ⟨n, by omega⟩ hn
      refine ((if_pos (hg.mpr hn)).trans (dif_pos hc)).trans ?_
      rw [round_eq t Q K V ⟨n, by omega⟩ hc]
      exact ends_eq k (n + 1) (by omega) (by omega)
    · obtain rfl : n = (grid0.coords t 1).val / 3 + 1 := by omega
      exact if_neg fun h' => hn (hg.mp h')

/-- The loop starts from nothing. -/
theorem start_eq : SbFwd.start = stateAt t Q K V 0 := by
  have hS : ∀ g : ℤ → ℝ, S g (128 * (iz t - 3 * ((0 : ℕ) : ℤ) + 1)) (128 * (iz t + 1)) = 0 := fun g => by
    rw [show 128 * (iz t - 3 * ((0 : ℕ) : ℤ) + 1) = 128 * (iz t + 1) by push_cast; ring]; simp [S]
  refine Prod.ext rfl (Prod.ext ?_ (Prod.ext ?_ (Prod.ext ?_ ?_)))
  all_goals
    funext j
    refine Eq.trans ?_ (congrArg (fun x : ℝ => (x : EReal)) (hS _).symm)
    exact bits_zero

/-- The two heads' sums, as the body leaves them. -/
theorem out_eq : SbFwd.out (F := Ideal) t (up16 Q) (up16 K) (up16 V)
    = SbFwd.put (up16 (accR Q K V (iz t) 0 ((grid0.coords t 1).val / 3 + 1))) (up16 (accR Q K V (iz t) 1 ((grid0.coords t 1).val / 3 + 1))) := by
  unfold SbFwd.out
  rw [start_eq t Q K V, ends_eq t Q K V 22 0 rfl (by omega)]
  rfl
end

end Cert.Proof.SbRows

end
-- ==== Proof.SbRef.lean ====
/- The version's attention, forward: the reference, over the real numbers. -/
module

public import proofs.«01_k».proof.Proof.SbRows
public import proofs.«01_k».proof.Proof.Gen.ReferenceSbfIdeal.Run
public import proofs.«01_k».proof.Defs

@[expose] public section

noncomputable section

namespace Cert.Proof.SbRef

open Idealize.ShloMosaic Idealize.SL.Sem Idealize.ShloMosaic.TcCoe Cert.Scalars Cert.Reals
open Cert.ReferenceSbfIdeal Cert.ReferenceSbfIdeal.Gen

/-- A sum from the left. -/
theorem foldl_add {α M : Type} [AddCommMonoid M] (g : α → M) : ∀ (l : List α) (v : M), l.foldl (fun r n => r + g n) v = v + (l.map g).sum
  | [], v => by simp
  | a :: l, v => by rw [List.foldl_cons, foldl_add g l, List.map_cons, List.sum_cons, add_assoc]

/-- The shape of one number for each pair of rows, in each head. -/
abbrev sq (B N : ℕ) : Shape := ⟨4, ![1, B, N, N]⟩
/-- The shape of a window along the last axis. -/
abbrev wn (N : ℕ) : Shape := ⟨4, ![1, 1, 1, N]⟩

/-- A window's element, by its place along the last axis. -/
def along (N : ℕ) : (wn N).Idx ≃ Fin N where
  toFun i := i 3
  invFun k := ix4 (0 : Fin 1) (0 : Fin 1) (0 : Fin 1) k
  left_inv i := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
  right_inv _ := rfl

/-- The last axis, turned round. -/
theorem rev_at {α : Type} {B N : ℕ} (x : (sq B N).Idx → α) (b : Fin B) (t s : Fin N) :
    Host.reverse (s := sq B N) [3] x (ix4 (0 : Fin 1) b t s) = x (ix4 (0 : Fin 1) b t s.rev) :=
  congrArg x (funext fun a => match a with
    | ⟨0, _⟩ => rfl
    | ⟨1, _⟩ => rfl
    | ⟨2, _⟩ => rfl
    | ⟨3, _⟩ => rfl)

/-- The sums from each position to the last. -/
theorem suffix_at {B N M : ℕ} (hM : M + 1 = N) (x : (sq B N).Idx → EReal) (v : (⟨0, ![]⟩ : Shape).Idx → EReal) (hv : ∀ i, v i = 0)
    (h : (sq B N).ReduceWindows (![1, 1, 1, N] : Fin 4 → ℕ) ![1, 1, 1, 1] ![0, 0, 0, M] ![0, 0, 0, 0] (sq B N)) (hu : 0 < (⟨0, ![]⟩ : Shape).numel)
    (b : Fin B) (t s : Fin N) :
    Host.reverse (s := sq B N) [3] (Host.reduceWindowAdd (F := Ideal) (φ := .f32) ![1, 1, 1, N] ![1, 1, 1, 1] ![0, 0, 0, M] ![0, 0, 0, 0] (Host.reverse (s := sq B N) [3] x) v h hu) (ix4 (0 : Fin 1) b t s)
      = ∑ j : Fin N, if s ≤ j then x (ix4 (0 : Fin 1) b t j) else 0 := by
  have hs := s.isLt
  rw [rev_at]
  unfold Host.reduceWindowAdd
  rw [Ideal.hostReduceWindowAdd_def]
  unfold Ideal.hostReduceWindowAdd Host.reduceWindow
  dsimp only
  rw [foldl_add, hv, zero_add, ← Fin.sum_univ_def]
  refine (Fintype.sum_equiv ((wn N).rowMajor.symm.trans (along N)) _
    (fun k : Fin N => if s ≤ k then x (ix4 (0 : Fin 1) b t ⟨M + s.val - k.val - (if s ≤ k then 0 else M + s.val - k.val), by have := k.isLt; split_ifs with h' <;> omega⟩) else 0) fun n => ?_).trans ?_
  · have key : ∀ (i : (wn N).Idx) (dec : Decidable (∀ a : Fin 4, (![0, 0, 0, M] : Fin 4 → ℕ) a ≤ ((ix4 (0 : Fin 1) b t s.rev : (sq B N).Idx) a).val * (![1, 1, 1, 1] : Fin 4 → ℕ) a + (i a).val
          ∧ ((ix4 (0 : Fin 1) b t s.rev : (sq B N).Idx) a).val * (![1, 1, 1, 1] : Fin 4 → ℕ) a + (i a).val - (![0, 0, 0, M] : Fin 4 → ℕ) a < (sq B N).size a)),
        (@dite EReal _ dec (fun hin => Host.reverse (s := sq B N) [3] x (fun a => ⟨((ix4 (0 : Fin 1) b t s.rev : (sq B N).Idx) a).val * (![1, 1, 1, 1] : Fin 4 → ℕ) a + (i a).val - (![0, 0, 0, M] : Fin 4 → ℕ) a, (hin a).2⟩)) (fun _ => 0))
        = if s ≤ i 3 then x (ix4 (0 : Fin 1) b t ⟨M + s.val - (i 3).val - (if s ≤ i 3 then 0 else M + s.val - (i 3).val), by have : (i 3).val < N := (i 3).isLt; split_ifs with h' <;> omega⟩) else 0 := ?_
    · exact key ((wn N).rowMajor.symm n) _
    intro i _
    have h0 : (i 0).val = 0 := Nat.lt_one_iff.mp (i 0).isLt
    have h1 : (i 1).val = 0 := Nat.lt_one_iff.mp (i 1).isLt
    have h2 : (i 2).val = 0 := Nat.lt_one_iff.mp (i 2).isLt
    have h3 : (i 3).val < N := (i 3).isLt
    have hrev : s.rev.val = N - (s.val + 1) := rfl
    by_cases hc : s ≤ i 3
    · have hc' : s.val ≤ (i 3).val := hc
      rw [if_pos hc, dif_pos (fun a => by
        match a with
        | ⟨0, _⟩ => show 0 ≤ 0 * 1 + (i 0).val ∧ 0 * 1 + (i 0).val - 0 < 1; omega
        | ⟨1, _⟩ => show 0 ≤ b.val * 1 + (i 1).val ∧ b.val * 1 + (i 1).val - 0 < B; have := b.isLt; omega
        | ⟨2, _⟩ => show 0 ≤ t.val * 1 + (i 2).val ∧ t.val * 1 + (i 2).val - 0 < N; have := t.isLt; omega
        | ⟨3, _⟩ => show M ≤ s.rev.val * 1 + (i 3).val ∧ s.rev.val * 1 + (i 3).val - M < N; omega)]
      refine congrArg x (funext fun a => Fin.ext ?_)
      match a with
      | ⟨0, _⟩ => show 0 * 1 + (i 0).val - 0 = 0; omega
      | ⟨1, _⟩ => show b.val * 1 + (i 1).val - 0 = b.val; omega
      | ⟨2, _⟩ => show t.val * 1 + (i 2).val - 0 = t.val; omega
      | ⟨3, _⟩ =>
        show N - ((s.rev.val * 1 + (i 3).val - M) + 1) = M + s.val - (i 3).val - (if s ≤ i 3 then 0 else M + s.val - (i 3).val)
        rw [if_pos hc]
        omega
    · have hc' : ¬ s.val ≤ (i 3).val := hc
      rw [if_neg hc, dif_neg fun hin => ?_]
      have := (hin 3).1
      change M ≤ s.rev.val * 1 + (i 3).val at this
      omega
  · refine Fintype.sum_equiv ⟨fun k => if h : s ≤ k then ⟨M + s.val - k.val, by have : s.val ≤ k.val := h; omega⟩ else k,
      fun k => if h : s ≤ k then ⟨M + s.val - k.val, by have : s.val ≤ k.val := h; omega⟩ else k, ?_, ?_⟩ _ _ fun k => ?_
    · intro k
      have hk := k.isLt
      by_cases hc : s ≤ k
      · have hc' : s.val ≤ k.val := hc
        have hd : s ≤ (⟨M + s.val - k.val, by omega⟩ : Fin N) := by show s.val ≤ M + s.val - k.val; omega
        dsimp only
        rw [dif_pos hc, dif_pos hd]
        exact Fin.ext (by show M + s.val - (M + s.val - k.val) = k.val; omega)
      · dsimp only
        rw [dif_neg hc, dif_neg hc]
    · intro k
      have hk := k.isLt
      by_cases hc : s ≤ k
      · have hc' : s.val ≤ k.val := hc
        have hd : s ≤ (⟨M + s.val - k.val, by omega⟩ : Fin N) := by show s.val ≤ M + s.val - k.val; omega
        dsimp only
        rw [dif_pos hc, dif_pos hd]
        exact Fin.ext (by show M + s.val - (M + s.val - k.val) = k.val; omega)
      · dsimp only
        rw [dif_neg hc, dif_neg hc]
    · have hk := k.isLt
      by_cases hc : s ≤ k
      · have hc' : s.val ≤ k.val := hc
        have hd : s ≤ (⟨M + s.val - k.val, by omega⟩ : Fin N) := by show s.val ≤ M + s.val - k.val; omega
        have e : (if h : s ≤ k then (⟨M + s.val - k.val, by have : s.val ≤ k.val := h; omega⟩ : Fin N) else k) = ⟨M + s.val - k.val, by omega⟩ := dif_pos hc
        show _ = if s ≤ (if h : s ≤ k then (⟨M + s.val - k.val, by have : s.val ≤ k.val := h; omega⟩ : Fin N) else k) then x (ix4 0 b t (if h : s ≤ k then (⟨M + s.val - k.val, by have : s.val ≤ k.val := h; omega⟩ : Fin N) else k)) else 0
        rw [e, if_pos hc, if_pos hd]
        exact congrArg (fun q => x (ix4 0 b t q)) (Fin.ext (by show M + s.val - k.val - (if s ≤ k then 0 else _) = M + s.val - k.val; rw [if_pos hc]; omega))
      · have e : (if h : s ≤ k then (⟨M + s.val - k.val, by have : s.val ≤ k.val := h; omega⟩ : Fin N) else k) = k := dif_neg hc
        show _ = if s ≤ (if h : s ≤ k then (⟨M + s.val - k.val, by have : s.val ≤ k.val := h; omega⟩ : Fin N) else k) then x (ix4 0 b t (if h : s ≤ k then (⟨M + s.val - k.val, by have : s.val ≤ k.val := h; omega⟩ : Fin N) else k)) else 0
        rw [e, if_neg hc, if_neg hc]

/-- Zero, in every place. -/
def zeros : FVec Ideal S1x8x8320x8320 .f32 := broadcastInDim S1x8x8320x8320 ![] bcast_S_S1x8x8320x8320 (constant S_ .f32 0x00000000#32)
/-- The logarithm of the logistic function, as the reference's library writes it. -/
def lsig (z : FVec Ideal S1x8x8320x8320 .f32) : FVec Ideal S1x8x8320x8320 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))
/-- The keys each row sees. -/
def mask : IVec S8320x8320 1 :=
  andi (cmpi .slt (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0)))) (broadcastInDim S8320x8320 ![0, 1] bcast_S1x8320_S8320x8320_0_1 (broadcastInDim S1x8320 ![1] bcast_S8320_S1x8320_1 (cmpi .sge (iotaInDim S8320 32 0) (broadcastInDim S8320 ![] bcast_S_S8320 (constantI S_ 32 112#32)))))
/-- A table where the mask holds, zero elsewhere. -/
def masked (x : FVec Ideal S1x8x8320x8320 .f32) : FVec Ideal S1x8x8320x8320 .f32 :=
  select (broadcastInDim S1x8x8320x8320 ![2, 3] bcast_S8320x8320_S1x8x8320x8320_2_3 mask) x zeros
/-- The sums from each key to the last. -/
def suffix (x : FVec Ideal S1x8x8320x8320 .f32) : FVec Ideal S1x8x8320x8320 .f32 :=
  Host.reverse [3] (Host.reduceWindowAdd ![1, 1, 1, 8320] ![1, 1, 1, 1] ![0, 0, 0, 8319] ![0, 0, 0, 0] (Host.reverse [3] x) (broadcastInDim S_ ![] bcast_S_S_ (constant S_ .f32 0x00000000#32)) reduceWindows_S1x8x8320x8320_S1x8x8320x8320_w1s1p0_0_w1s1p0_0_w1s1p0_0_w8320s1p8319_0 h_S_)
/-- The scores. -/
def scores (p : FVec Ideal S8320x11264 .bf16) : FVec Ideal S1x8x8320x8320 .f32 :=
  mulf (Host.dotGeneral dot_S1x8320x8x128_S1x8320x8x128_S1x8x8320x8320_3_3_1_1_02_02 none (shapeCast _ (extf .f32 (extractStridedSlice S8320x1024 ![0, 4096] p slices_S8320x11264_S8320x1024_0_4096) bitsLt_bf16_f32) shapeCasts_S8320x1024_S1x8320x8x128) (shapeCast _ (extf .f32 (extractStridedSlice S8320x1024 ![0, 5120] p slices_S8320x11264_S8320x1024_0_5120) bitsLt_bf16_f32) shapeCasts_S8320x1024_S1x8320x8x128)) (broadcastInDim S1x8x8320x8320 ![] bcast_S_S1x8x8320x8320 (constant S_ .f32 0x3DB504F3#32))
/-- The weights. -/
def weights (z : FVec Ideal S1x8x8320x8320 .f32) : FVec Ideal S1x8x8320x8320 .f32 :=
  masked (Host.exp (subf (addf (lsig z) (suffix (masked (lsig (Host.negf z))))) (masked (lsig (Host.negf z)))))
/-- The weighted sums of the values. -/
def sums (p : FVec Ideal S8320x11264 .bf16) (w : FVec Ideal S1x8x8320x8320 .f32) : FVec Ideal S8320x1024 .bf16 :=
  truncf .bf16 (shapeCast S8320x1024 (shapeCast S8320x8x128 (transpose S1x8320x8x128 [0, 3, 1, 2] (Host.dotGeneral dot_S1x8320x8x128_S1x8x8320x8320_S1x8x128x8320_1_3_3_2_02_01 none (shapeCast _ (extf .f32 (extractStridedSlice S8320x1024 ![0, 6144] p slices_S8320x11264_S8320x1024_0_6144) bitsLt_bf16_f32) shapeCasts_S8320x1024_S1x8320x8x128) w) transposes_S1x8x128x8320_S1x8320x8x128_0_3_1_2) shapeCasts_S1x8320x8x128_S8320x8x128) shapeCasts_S8320x8x128_S8320x1024) bitsLt_bf16_f32

/-- The reference, by its parts. -/
theorem res_eq (m : (ℓ : Loc nD τ sig) → Buf (Elt Ideal) ℓ) (c : Dev nD) :
    Value.res_main_v39 m c = sums (m ((c.tc : Thread nD τ).loc main_arg0)) (weights (scores (m ((c.tc : Thread nD τ).loc main_arg0)))) := rfl

/-- An index, by its three free places. -/
theorem ix_eq (j : S1x8x8320x8320.Idx) : ∃ b t s, j = ix4 (0 : Fin 1) b t s :=
  ⟨j 1, j 2, j 3, by
    funext a
    match a with
    | ⟨0, _⟩ => exact Subsingleton.elim (α := Fin 1) _ _
    | ⟨1, _⟩ => rfl
    | ⟨2, _⟩ => rfl
    | ⟨3, _⟩ => rfl⟩

/-- Over the reals it is what the kernel's rounds take. -/
theorem lsig_up (z : S1x8x8320x8320.Idx → ℝ) : lsig (up32 z) = up32 fun j => SbRound.lb (z j) := by
  funext j
  unfold lsig zeros
  obtain ⟨b, t, s, rfl⟩ := ix_eq j
  pointwise
  rw [if_neg fun h => h rfl]
  show -(max (-((z (ix4 0 b t s) : ℝ) : EReal)) 0 + Ideal.log1p (Ideal.exp (-FloatOps.absf (F := Ideal) (φ := .f32) (-((z (ix4 0 b t s) : ℝ) : EReal))))) = ((SbRound.lb (z (ix4 0 b t s)) : ℝ) : EReal)
  generalize z (ix4 0 b t s) = y
  have h1 : Ideal.log1p (Ideal.exp (-FloatOps.absf (F := Ideal) (φ := .f32) (-((y : ℝ) : EReal)))) = ((Real.log (1 + Real.exp (-|y|)) : ℝ) : EReal) := by
    rw [Ideal.absf_def, neg_neg, ← EReal.coe_neg, ← EReal.coe_strictMono.monotone.map_max, ← EReal.coe_neg, Ideal.exp_coe]
    show Ideal.log (1 + _) = _
    rw [← EReal.coe_one, ← EReal.coe_add, Ideal.log_coe, if_neg (not_le.mpr (by positivity)), max_comm, abs_eq_max_neg]
  rw [h1, ← EReal.coe_neg, ← EReal.coe_zero, ← EReal.coe_strictMono.monotone.map_max, ← EReal.coe_add, ← EReal.coe_neg]
  refine congrArg (fun x : ℝ => (x : EReal)) ?_
  unfold SbRound.lb
  rcases le_total y 0 with h | h
  · rw [min_eq_left h, max_eq_left (by linarith)]; ring
  · rw [min_eq_right h, max_eq_right (by linarith)]; ring

/-- A word of a position, read back. -/
theorem toInt_small (n : ℕ) (h : n < 8320) : (BitVec.ofNat 32 n).toInt = n := by
  rw [BitVec.toInt_eq_toNat_of_lt (by rw [BitVec.toNat_ofNat]; omega), BitVec.toNat_ofNat]; omega

/-- A row sees the keys before it, from the first that is no padding. -/
theorem mask_at (t s : Fin 8320) : mask (ix2 t s) = 1#1 ↔ (112 ≤ (s.val : ℤ) ∧ (s.val : ℤ) < t.val) := by
  unfold mask
  pointwise
  show IntOp.andi (BitVec.ofBool ((BitVec.ofNat 32 s.val).slt (BitVec.ofNat 32 t.val))) (BitVec.ofBool ((112#32).sle (BitVec.ofNat 32 s.val))) = 1#1 ↔ _
  rw [BitVec.slt, BitVec.sle, toInt_small _ s.isLt, toInt_small _ t.isLt, show (112#32).toInt = 112 from rfl]
  by_cases h1 : (s.val : ℤ) < t.val <;> by_cases h2 : (112 : ℤ) ≤ s.val
  · rw [decide_eq_true h1, decide_eq_true h2]; exact ⟨fun _ => ⟨h2, h1⟩, fun _ => rfl⟩
  · rw [decide_eq_true h1, decide_eq_false h2]; exact ⟨fun h => absurd h (by decide), fun h => absurd h.1 h2⟩
  · rw [decide_eq_false h1, decide_eq_true h2]; exact ⟨fun h => absurd h (by decide), fun h => absurd h.2 h1⟩
  · rw [decide_eq_false h1, decide_eq_false h2]; exact ⟨fun h => absurd h (by decide), fun h => absurd h.2 h1⟩

/-- A masked table, over the reals. -/
theorem masked_up (x : S1x8x8320x8320.Idx → ℝ) : masked (up32 x) = up32 fun j => if 112 ≤ ((j 3).val : ℤ) ∧ ((j 3).val : ℤ) < (j 2).val then x j else 0 := by
  funext j
  unfold masked zeros
  obtain ⟨b, t, s, rfl⟩ := ix_eq j
  pointwise
  show Scalar.select (mask (ix2 t s)) _ 0 = (((if 112 ≤ (s.val : ℤ) ∧ (s.val : ℤ) < t.val then x (ix4 0 b t s) else 0 : ℝ)) : EReal)
  by_cases h : 112 ≤ (s.val : ℤ) ∧ (s.val : ℤ) < t.val
  · rw [if_pos h, (mask_at t s).mpr h]; rfl
  · rw [if_neg h]; exact if_neg fun h' => h ((mask_at t s).mp h')

/-- The sums to the last key, over the reals. -/
theorem suffix_up (x : S1x8x8320x8320.Idx → ℝ) : suffix (up32 x) = up32 fun j => ∑ k : Fin 8320, if j 3 ≤ k then x (ix4 (0 : Fin 1) (j 1) (j 2) k) else 0 := by
  funext j
  unfold suffix
  obtain ⟨b, t, s, rfl⟩ := ix_eq j
  refine (suffix_at (B := 8) (N := 8320) (M := 8319) rfl (up32 x) _ (fun i => ?_) _ _ b t s).trans ?_
  · exact bits_zero
  · refine Eq.trans (Finset.sum_congr rfl fun k _ => ?_) (sum_coe Finset.univ fun k : Fin 8320 => if s ≤ k then x (ix4 (0 : Fin 1) b t k) else 0)
    by_cases h : s ≤ k
    · rw [if_pos h, if_pos h]; rfl
    · rw [if_neg h, if_neg h]; rfl

/-- What a key leaves, where the row sees it. -/
def left (z : S1x8x8320x8320.Idx → ℝ) (j : S1x8x8320x8320.Idx) : ℝ := if 112 ≤ ((j 3).val : ℤ) ∧ ((j 3).val : ℤ) < (j 2).val then SbRound.lb (-z j) else 0

/-- The weights, over the reals. -/
theorem weights_up (z : S1x8x8320x8320.Idx → ℝ) : weights (up32 z) = up32 fun j => if 112 ≤ ((j 3).val : ℤ) ∧ ((j 3).val : ℤ) < (j 2).val
    then Real.exp (SbRound.lb (z j) + (∑ k : Fin 8320, if j 3 ≤ k then left z (ix4 (0 : Fin 1) (j 1) (j 2) k) else 0) - left z j) else 0 := by
  have hn : Host.negf (F := Ideal) (up32 z) = up32 fun j => -z j := funext fun j => (EReal.coe_neg (z j)).symm
  have hl : masked (lsig (Host.negf (up32 z))) = up32 (left z) := by rw [hn, lsig_up, masked_up]; rfl
  unfold weights
  rw [hl, suffix_up, lsig_up]
  have he : Host.exp (F := Ideal) (φ := .f32) (subf (addf (up32 fun j => SbRound.lb (z j)) (up32 fun j => ∑ k : Fin 8320, if j 3 ≤ k then left z (ix4 (0 : Fin 1) (j 1) (j 2) k) else 0)) (up32 (left z)))
      = up32 fun j => Real.exp (SbRound.lb (z j) + (∑ k : Fin 8320, if j 3 ≤ k then left z (ix4 (0 : Fin 1) (j 1) (j 2) k) else 0) - left z j) := by
    funext j
    obtain ⟨b, t, s, rfl⟩ := ix_eq j
    pointwise
    refine Eq.trans (congrArg Ideal.exp ?_) (Ideal.exp_coe _)
    rw [EReal.coe_sub, EReal.coe_add]
    rfl
  rw [he, masked_up]

section
variable (P : S8320x11264.Idx → ℝ)

/-- A head's score. -/
def zR (b : Fin 8) (t s : Fin 8320) : ℝ := (∑ d : Fin 128, P (ix2 t ⟨4096 + (b.val * 128 + d.val), by omega⟩) * P (ix2 s ⟨5120 + (b.val * 128 + d.val), by omega⟩)) * SbRound.sc

/-- The scores, over the reals. -/
theorem scores_up : scores (up16 P) = up32 fun j => zR P (j 1) (j 2) (j 3) := by
  funext j
  obtain ⟨b, t, s, rfl⟩ := ix_eq j
  unfold scores
  pointwise
  rw [SbRound.bits_sc]
  refine Eq.trans ?_ (EReal.coe_mul _ _).symm
  exact congrArg (· * _) (host_dot_coe _ _)

/-- The weighted sums, over the reals. -/
theorem sums_at (w : S1x8x8320x8320.Idx → ℝ) (T : Fin 8320) (b : Fin 8) (d : Fin 128) :
    sums (up16 P) (up32 w) (ix2 T ⟨b.val * 128 + d.val, by omega⟩) = ((∑ s : Fin 8320, w (ix4 (0 : Fin 1) b T s) * P (ix2 s ⟨6144 + (b.val * 128 + d.val), by omega⟩) : ℝ) : EReal) := by
  unfold sums
  pointwise
  refine (host_dot_coe _ _).trans (congrArg (fun x : ℝ => (x : EReal)) (Finset.sum_congr rfl fun s _ => mul_comm _ _))
end

end Cert.Proof.SbRef

end
-- ==== Proof.SbValue.lean ====
/- The version's attention, forward: the kernel's sums are the reference's. -/
module

public import proofs.«01_k».proof.Proof.SbRef

@[expose] public section

noncomputable section

namespace Cert.Proof.SbValue

open Idealize.ShloMosaic Idealize.SL.Sem Idealize.ShloMosaic.TcCoe Cert.Scalars Cert.Reals
open Cert.KernelSbfIdeal Cert.KernelSbfIdeal.Gen
open Cert.Proof.SbRound Cert.Proof.SbRows Cert.Proof.SbRef

/-- A sum over a stretch holding all that is not zero. -/
theorem S_support (g : ℤ → ℝ) {lo hi a b a' b' : ℤ} (hg : ∀ p, ¬ (lo ≤ p ∧ p < hi) → g p = 0) (ha : a ≤ lo) (ha' : a' ≤ lo) (hb : hi ≤ b) (hb' : hi ≤ b') :
    S g a b = S g a' b' := by
  have h : ∀ a b : ℤ, a ≤ lo → hi ≤ b → S g lo hi = S g a b := fun a b ha hb => by
    unfold S
    refine Finset.sum_subset (fun p hp => ?_) fun p _ hp => hg p fun h => hp (Finset.mem_Ico.mpr h)
    rw [Finset.mem_Ico] at hp ⊢
    omega
  exact (h a b ha hb).symm.trans (h a' b' ha' hb')

/-- A sum over all keys. -/
theorem sum_keys (g : ℤ → ℝ) : ∑ s : Fin 8320, g s.val = S g 0 8320 := by
  have := sum_fin g 0 8320
  simpa using this

section
variable (P : S8320x11264.Idx → ℝ) (t : Fin grid0.N)

/-- The row's place. -/
def row (r : Fin 128) : Fin 8320 := ⟨(grid0.coords t 1).val * 128 + r.val, by have : (grid0.coords t 1).val < 65 := (grid0.coords t 1).isLt; omega⟩
/-- The head's number. -/
def head (b : Fin 2) : Fin 8 := ⟨(grid0.coords t 0).val * 2 + b.val, by have : (grid0.coords t 0).val < 4 := (grid0.coords t 0).isLt; omega⟩
/-- A column of the pair of heads, in a stretch of the argument's columns. -/
def pc (o : ℕ) (ho : o ≤ 6144) (l : Fin 256) : Fin 11264 := ⟨o + ((grid0.coords t 0).val * 256 + l.val), by have : (grid0.coords t 0).val < 4 := (grid0.coords t 0).isLt; omega⟩

/-- The rows' block. -/
def qB : S128x256.Idx → ℝ := fun j => P (ix2 (row t (j 0)) (pc t 4096 (by norm_num) (j 1)))
/-- The keys. -/
def kB : S8320x256.Idx → ℝ := fun j => P (ix2 (j 0) (pc t 5120 (by norm_num) (j 1)))
/-- The values. -/
def vB : S8320x256.Idx → ℝ := fun j => P (ix2 (j 0) (pc t 6144 (by norm_num) (j 1)))

variable (b : Fin 2) (r : Fin 128)

/-- A position that is a key's is that key's row. -/
theorem clip_val (s : Fin 8320) : clip (s.val : ℤ) = s := Fin.ext (by show min (s.val : ℤ).toNat 8319 = s.val; omega)

/-- The scores agree. -/
theorem zf_eq (s : Fin 8320) : zf (qB P t) (kB P t) b r (s.val : ℤ) = zR P (head t b) (row t r) s := by
  unfold zf zR
  refine congrArg (· * sc) (Finset.sum_congr rfl fun d _ => ?_)
  rw [clip_val]
  refine congrArg₂ (· * ·) (congrArg (fun q => P (ix2 _ q)) (Fin.ext ?_)) (congrArg (fun q => P (ix2 _ q)) (Fin.ext ?_))
  · show 4096 + (_ * 256 + (b.val * 128 + d.val)) = 4096 + ((_ * 2 + b.val) * 128 + d.val); ring
  · show 5120 + (_ * 256 + (b.val * 128 + d.val)) = 5120 + ((_ * 2 + b.val) * 128 + d.val); ring

/-- The logarithms of a number and of its negative. -/
theorem lb_neg (z : ℝ) : lb (-z) = lb z - z := by
  unfold lb
  rw [abs_neg]
  rcases le_total z 0 with h | h
  · rw [min_eq_left h, min_eq_right (by linarith)]; ring
  · rw [min_eq_right h, min_eq_left (by linarith)]; ring

/-- The reference's row of scores, as a table. -/
abbrev zT : ReferenceSbfIdeal.S1x8x8320x8320.Idx → ℝ := fun j => zR P (j 1) (j 2) (j 3)

/-- What a key leaves agrees. -/
theorem gf_eq (s : Fin 8320) : gf (qB P t) (kB P t) (iz t) b r (s.val : ℤ) = left (zT P) (ix4 (0 : Fin 1) (head t b) (row t r) s) := by
  unfold gf left
  rw [zf_eq, ← lb_neg]
  have e : ((row t r).val : ℤ) = 128 * iz t + r.val := by show (((grid0.coords t 1).val * 128 + r.val : ℕ) : ℤ) = 128 * ((grid0.coords t 1).val : ℤ) + r.val; push_cast; ring
  show (if 112 ≤ (s.val : ℤ) ∧ (s.val : ℤ) < 128 * iz t + r.val then _ else _) = if 112 ≤ (s.val : ℤ) ∧ (s.val : ℤ) < ((row t r).val : ℤ) then _ else _
  rw [e]
  rfl

/-- Nothing is left by the keys a row does not see. -/
theorem gf_out (p : ℤ) (h : ¬ (112 ≤ p ∧ p < 128 * iz t + r.val)) : gf (qB P t) (kB P t) (iz t) b r p = 0 := if_neg h

/-- The sums from a key to the last agree. -/
theorem suffix_eq (s : Fin 8320) (hs : (s.val : ℤ) < 128 * iz t + r.val) :
    (∑ k : Fin 8320, if s ≤ k then left (zT P) (ix4 (0 : Fin 1) (head t b) (row t r) k) else 0)
      = gf (qB P t) (kB P t) (iz t) b r s.val + S (gf (qB P t) (kB P t) (iz t) b r) (s.val + 1) (128 * (iz t + 1)) := by
  have hr := r.isLt
  have hs' := s.isLt
  have hi : (grid0.coords t 1).val < 65 := (grid0.coords t 1).isLt
  have h1 : (∑ k : Fin 8320, if s ≤ k then left (zT P) (ix4 (0 : Fin 1) (head t b) (row t r) k) else 0)
      = S (fun p => if (s.val : ℤ) ≤ p then gf (qB P t) (kB P t) (iz t) b r p else 0) 0 8320 := by
    rw [← sum_keys]
    refine Finset.sum_congr rfl fun k _ => ?_
    rw [← gf_eq]
    exact if_congr (by rw [Fin.le_def]; omega) rfl rfl
  have h2 : S (fun p => if (s.val : ℤ) ≤ p then gf (qB P t) (kB P t) (iz t) b r p else 0) 0 8320
      = S (fun p => if (s.val : ℤ) ≤ p then gf (qB P t) (kB P t) (iz t) b r p else 0) s.val (128 * (iz t + 1)) := by
    refine S_support _ (lo := s.val) (hi := 128 * iz t + r.val) (fun p hp => ?_) (by omega) le_rfl (by unfold iz; omega) (by omega)
    by_cases h : (s.val : ℤ) ≤ p
    · exact (if_pos h).trans (gf_out P t b r p fun h' => hp ⟨h, h'.2⟩)
    · exact if_neg h
  have h3 : S (fun p => if (s.val : ℤ) ≤ p then gf (qB P t) (kB P t) (iz t) b r p else 0) s.val (128 * (iz t + 1))
      = S (gf (qB P t) (kB P t) (iz t) b r) s.val (128 * (iz t + 1)) :=
    Finset.sum_congr rfl fun p hp => if_pos (Finset.mem_Ico.mp hp).1
  have h4 : S (gf (qB P t) (kB P t) (iz t) b r) s.val (s.val + 1) = gf (qB P t) (kB P t) (iz t) b r s.val := by
    have := sum_fin (gf (qB P t) (kB P t) (iz t) b r) s.val 1
    simpa using this.symm
  rw [h1, h2, h3, ← h4]
  exact (S_add _ (by omega) (by omega)).symm

/-- A head's sums after the last round are the reference's. -/
theorem acc_eq (d : Fin 128) : accR (qB P t) (kB P t) (vB P t) (iz t) b ((grid0.coords t 1).val / 3 + 1) (ix2 r d)
    = ∑ s : Fin 8320, (if 112 ≤ (s.val : ℤ) ∧ (s.val : ℤ) < (row t r).val
        then Real.exp (lb (zR P (head t b) (row t r) s) + (∑ k : Fin 8320, if s ≤ k then left (zT P) (ix4 (0 : Fin 1) (head t b) (row t r) k) else 0)
          - left (zT P) (ix4 (0 : Fin 1) (head t b) (row t r) s)) else 0)
      * P (ix2 s ⟨6144 + ((head t b).val * 128 + d.val), by have := (head t b).isLt; omega⟩) := by
  have hr := r.isLt
  have hi : (grid0.coords t 1).val < 65 := (grid0.coords t 1).isLt
  have e : ((row t r).val : ℤ) = 128 * iz t + r.val := by show (((grid0.coords t 1).val * 128 + r.val : ℕ) : ℤ) = 128 * ((grid0.coords t 1).val : ℤ) + r.val; push_cast; ring
  have h1 : accR (qB P t) (kB P t) (vB P t) (iz t) b ((grid0.coords t 1).val / 3 + 1) (ix2 r d) = S (sf (qB P t) (kB P t) (vB P t) (iz t) b r d) 0 8320 := by
    refine S_support _ (lo := 112) (hi := 128 * iz t + r.val) (fun p hp => ?_) (by unfold iz; push_cast; omega) (by norm_num) (by omega) (by unfold iz; omega)
    show wf (qB P t) (kB P t) (iz t) b r p * _ = 0
    unfold wf
    rw [if_neg hp, zero_mul]
  rw [h1, ← sum_keys]
  refine Finset.sum_congr rfl fun s _ => ?_
  unfold sf wf
  refine congrArg₂ (· * ·) ?_ ?_
  · rw [e]
    by_cases h : 112 ≤ (s.val : ℤ) ∧ (s.val : ℤ) < 128 * iz t + r.val
    · rw [if_pos h, if_pos h, suffix_eq P t b r s h.2, ← gf_eq, zf_eq]
      refine congrArg Real.exp ?_
      ring
    · rw [if_neg h, if_neg h]
  · rw [clip_val]
    refine congrArg (fun q => P (ix2 _ q)) (Fin.ext ?_)
    show 6144 + (_ * 256 + (b.val * 128 + d.val)) = 6144 + ((_ * 2 + b.val) * 128 + d.val); ring

/-- The reference's result, over the reals. -/
def result : FVec Ideal S8320x1024 .bf16 := sums (up16 P) (weights (scores (up16 P)))

/-- A head's sums, as the result's elements. -/
theorem result_at (r d : Fin 128) : result P (ix2 (row t r) ⟨(head t b).val * 128 + d.val, by have := (head t b).isLt; omega⟩)
    = ((accR (qB P t) (kB P t) (vB P t) (iz t) b ((grid0.coords t 1).val / 3 + 1) (ix2 r d) : ℝ) : EReal) := by
  unfold result
  rw [scores_up, weights_up, sums_at, acc_eq]
  rfl
end

section
variable (m : (ℓ : Loc nD τ sig) → Buf (Elt Ideal) ℓ) (c : Dev nD) (P : S8320x11264.Idx → ℝ)
variable (hP : m ((c : Thread nD τ).loc main_arg0) = up16 P)

/-- Where a place of the rows' block lies in its array. -/
theorem emb_0 (t : Fin (cfg0 (F := Ideal)).N) (r : Fin 128) (l : Fin 256) :
    (win0_0.blk t).view.emb (ix2 r l : S128x256.Idx) = (ix2 (row t r) (pc t 4096 (by norm_num) l) : S8320x11264.Idx) := by
  have e : ∀ t : Fin grid0.N, win0_0.index t = ![(grid0.coords t 1).val, 16 + (grid0.coords t 0).val] := by decide +kernel
  blk_ext [e t, row, pc]

/-- Where a place of the keys' block lies in its array. -/
theorem emb_1 (t : Fin (cfg0 (F := Ideal)).N) (r : Fin 8320) (l : Fin 256) :
    (win0_1.blk t).view.emb (ix2 r l : S8320x256.Idx) = (ix2 r (pc t 5120 (by norm_num) l) : S8320x11264.Idx) := by
  have e : ∀ t : Fin grid0.N, win0_1.index t = ![0, 20 + (grid0.coords t 0).val] := by decide +kernel
  blk_ext [e t, pc]

/-- Where a place of the values' block lies in its array. -/
theorem emb_2 (t : Fin (cfg0 (F := Ideal)).N) (r : Fin 8320) (l : Fin 256) :
    (win0_2.blk t).view.emb (ix2 r l : S8320x256.Idx) = (ix2 r (pc t 6144 (by norm_num) l) : S8320x11264.Idx) := by
  have e : ∀ t : Fin grid0.N, win0_2.index t = ![0, 24 + (grid0.coords t 0).val] := by decide +kernel
  blk_ext [e t, pc]

/-- A column of the pair of heads, in the result. -/
def oc (t : Fin grid0.N) (l : Fin 256) : Fin 1024 := ⟨(grid0.coords t 0).val * 256 + l.val, by have : (grid0.coords t 0).val < 4 := (grid0.coords t 0).isLt; omega⟩

/-- Where a place of the result's block lies in its array. -/
theorem emb_3 (t : Fin (cfg0 (F := Ideal)).N) (r : Fin 128) (l : Fin 256) :
    (win0_3.blk t).view.emb (ix2 r l : S128x256.Idx) = (ix2 (row t r) (oc t l) : S8320x1024.Idx) := by
  have e : ∀ t : Fin grid0.N, win0_3.index t = ![(grid0.coords t 1).val, (grid0.coords t 0).val] := by decide +kernel
  blk_ext [e t, row, oc]

include hP in
/-- A point's rows. -/
theorem blk_0 (t : Fin (cfg0 (F := Ideal)).N) : SbFwd.iblk m c 0 t = up16 (qB P t) := by
  unfold SbFwd.iblk
  rw [show SbFwd.V m c (Pipeline.arrRef spec0 0) = up16 P from hP]
  funext j
  change S128x256.Idx at j
  obtain ⟨p, l, rfl⟩ : ∃ p l, j = ix2 p l := ⟨j 0, j 1, by funext a; fin_cases a <;> rfl⟩
  exact congrArg (up16 P) (emb_0 t p l)

include hP in
/-- A point's keys. -/
theorem blk_1 (t : Fin (cfg0 (F := Ideal)).N) : SbFwd.iblk m c 1 t = up16 (kB P t) := by
  unfold SbFwd.iblk
  rw [show SbFwd.V m c (Pipeline.arrRef spec0 1) = up16 P from hP]
  funext j
  change S8320x256.Idx at j
  obtain ⟨p, l, rfl⟩ : ∃ p l, j = ix2 p l := ⟨j 0, j 1, by funext a; fin_cases a <;> rfl⟩
  exact congrArg (up16 P) (emb_1 t p l)

include hP in
/-- A point's values. -/
theorem blk_2 (t : Fin (cfg0 (F := Ideal)).N) : SbFwd.iblk m c 2 t = up16 (vB P t) := by
  unfold SbFwd.iblk
  rw [show SbFwd.V m c (Pipeline.arrRef spec0 2) = up16 P from hP]
  funext j
  change S8320x256.Idx at j
  obtain ⟨p, l, rfl⟩ : ∃ p l, j = ix2 p l := ⟨j 0, j 1, by funext a; fin_cases a <;> rfl⟩
  exact congrArg (up16 P) (emb_2 t p l)

include hP in
/-- The whole result after the last point. -/
theorem arr_out : (SbFwd.dat m 0 c).arrAt 3 (cfg0 (F := Ideal)).N = result P := by
  refine (SbFwd.dat m 0 c).arrAt_eq_of_covers 3 _ (by decide +kernel) fun t hf y => ?_
  change S128x256.Idx at y
  obtain ⟨p, l, rfl⟩ : ∃ p l, y = ix2 p l := ⟨y 0, y 1, by funext a; fin_cases a <;> rfl⟩
  refine Eq.trans ?_ (congrArg (result P) (emb_3 t p l)).symm
  rw [SbFwd.after_3, blk_0 m c P hP, blk_1 m c P hP, blk_2 m c P hP, out_eq]
  unfold SbFwd.put
  have hl := l.isLt
  by_cases h : l.val < 128
  · refine (dif_pos h).trans (Eq.trans (congrArg (up16 _) (funext fun a => ?_)) ((result_at P t 0 p ⟨l.val, h⟩).symm.trans (congrArg (result P) (funext fun a => Fin.ext ?_))))
    · match a with
      | ⟨0, _⟩ => rfl
      | ⟨1, _⟩ => rfl
    · match a with
      | ⟨0, _⟩ => rfl
      | ⟨1, _⟩ => show (_ * 2 + 0) * 128 + l.val = _ * 256 + l.val; ring
  · refine (dif_neg h).trans (Eq.trans (congrArg (up16 _) (funext fun a => ?_)) ((result_at P t 1 p ⟨l.val - 128, by omega⟩).symm.trans (congrArg (result P) (funext fun a => Fin.ext ?_))))
    · match a with
      | ⟨0, _⟩ => rfl
      | ⟨1, _⟩ => rfl
    · match a with
      | ⟨0, _⟩ => rfl
      | ⟨1, _⟩ => show ((grid0.coords t 0).val * 2 + 1) * 128 + (l.val - 128) = (grid0.coords t 0).val * 256 + l.val; omega
end

set_option maxRecDepth 65536 in
set_option maxHeartbeats 4000000 in
/-- The attention's weighted sums: the call's first result is the reference's, at a finite argument. -/
theorem algebraic_sbf [hPre : Cert.Pre_finite_sbf.Facts] : algebraic_KernelSbfIdeal_ReferenceSbfIdeal_pre_finite_sbf := by
  intro m ρ m' ρ' hpre hagree
  refine ⟨_, SbFwd.run_value (F := Ideal) m ρ, ?_⟩
  refine (θ_run ReferenceSbfIdeal.defs _ _).mono (fun _ run c => ⟨(run c).1.trans ?_, (run c).2⟩) (ReferenceSbfIdeal.Value.run (F := Ideal) m' ρ')
  obtain ⟨P, hP⟩ := up_of_abs_lt (x := m ((c : Thread nD τ).loc main_arg0)) fun j => by
    have := congrFun (hpre c) j; simp only [Cert.Pre_finite_sbf.fn] at this; pointwise at this; exact this
  rw [arr_out m c P hP, SbRef.res_eq, (hagree c).trans hP]
  rfl

end Cert.Proof.SbValue

end
-- ==== Proof.SbFwdBits.lean ====
/- The frame of the version's attention, forward, on machine words: the steps of the idealization's, taken for the program as it runs. The two
   programs are alike, but each has its own record of what its loop carries, so that one's frame is not the other's. -/
module

public import proofs.«01_k».proof.Defs
public import proofs.«01_k».proof.Proof.Gen.KernelSbf.Launch
public import proofs.«01_k».proof.Proof.Gen.KernelSbf.Points
public import proofs.«01_k».proof.Proof.Gen.KernelSbf.Skeleton
public import Idealize.ShloMosaic.Lib.Pipeline.FrameBody
public import Idealize.ShloMosaic.Lib.Ring
public import Idealize.ShloMosaic.Lib.WordCmp
public import Idealize.ShloMosaic.Lib.Claim
public import Idealize.ShloMosaic.Lib.Tactic

@[expose] public section

set_option maxRecDepth 16384

noncomputable section

namespace Cert.Proof.SbFwdBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelSbf Cert.KernelSbf.Gen

variable {F : FTy → Type} [FloatOps F]

local notation "𝕄" => MT nD τ sig Unit (Elt F) ℕ (UR sig nD τ) ℕ

/-- Some contents of a memref, owned. -/
abbrev some_ (c : Dev nD) {k : Space} {s : Shape} {e : EltTy} (M : Memref sig .tc k s e) : sProp 𝕄 := iprop(∃ d, owns (c : Thread nD τ) M fullShare d)

/-- The rounds of the loop are counted down by a number. -/
abbrev count : Variants := Variants.nat

/-! ## The loop -/

/-- A round's blocks of keys lie in the arrays, where the loop's test has passed. -/
theorem chk_of_le : ∀ (t : Fin grid0.N) (j : Fin 22), 3 * j.val ≤ (grid0.coords t 1).val → k0_chk1 (grid0.coords t) (BitVec.ofNat 32 (3 * j.val)) :=
  by decide +kernel

/-- The test passes only while the counter has not left the rows' own block behind. -/
theorem le_of_test (n : Fin 65) (j : Fin 23) (b : BitVec 1)
    (h : Scalar.andi (Scalar.cmpi .sle (BitVec.ofNat 32 (3 * j.val)) (BitVec.ofNat 32 n.val)) b = 1#1) : 3 * j.val ≤ n.val := by
  revert h b j n; decide +kernel

/-- A round's counter is three more than the last's. -/
theorem next : ∀ j : Fin 22, Scalar.addi (BitVec.ofNat 32 (3 * j.val)) 3#32 = BitVec.ofNat 32 (3 * (j.val + 1)) := by decide +kernel

section
variable (c : Dev nD) (t : Fin grid0.N)
variable (arg2 : Memref sig .tc .vmem S128x256 .bf16) (harg2 : arg2.IsWhole) (arg3 : Memref sig .tc .vmem S8320x256 .bf16) (harg3 : arg3.IsWhole)
variable (arg4 : Memref sig .tc .vmem S8320x256 .bf16) (harg4 : arg4.IsWhole) (arg6 : Memref sig .tc .vmem S2x128x128 .f32) (harg6 : arg6.IsWhole)
variable (x0 : Vec F S128x256 .bf16) (x1 x2 : Vec F S8320x256 .bf16)

/-- What a round holds: the inputs' buffers at their contents, the starts' at some. -/
def held : sProp 𝕄 :=
  iprop(owns (c : Thread nD τ) arg2 fullShare x0 ∗ owns (c : Thread nD τ) arg3 fullShare x1 ∗ owns (c : Thread nD τ) arg4 fullShare x2 ∗ some_ c arg6)

/-- What the loop carries. -/
abbrev Carried (F : FTy → Type) [FloatOps F] : Type := BitVec 32 × FVec F S128x128 .f32 × FVec F S128x128 .f32 × FVec F S128x1 .f32 × FVec F S128x1 .f32

/-- The loop, as its callers know it: it gives back what it holds, and some numbers. -/
def spec : sWPT 𝕄 (Carried F) := do
  sWPT.consume (held c arg2 arg3 arg4 arg6 x0 x1 x2)
  let r ← sWPT.arbitrary
  sWPT.produce (held c arg2 arg3 arg4 arg6 x0 x1 x2)
  pure r

/-- The same, written out. -/
theorem spec_apply (K : Carried F → sProp 𝕄) :
    spec c arg2 arg3 arg4 arg6 x0 x1 x2 K
      = iprop(held c arg2 arg3 arg4 arg6 x0 x1 x2 ∗ ∀ r : Carried F, held c arg2 arg3 arg4 arg6 x0 x1 x2 -∗ K r) := rfl

set_option maxHeartbeats 8000000 in
/-- The loop entered at round `j` with `k` rounds left at most. -/
theorem spec_le (E : Set ℕ) (v5 : FVec F S128x128 .bf16) :
    ∀ k j, j + k = 22 → ∀ (w : BitVec 32), w = BitVec.ofNat 32 (3 * j) → ∀ (a b : FVec F S128x128 .f32) (r s : FVec F S128x1 .f32) (K : Carried F → sProp 𝕄), spec c arg2 arg3 arg4 arg6 x0 x1 x2 K
      ⊢ wp frame (wpE (defs₀ (F := F)) count (c : Thread nD τ) (some k)) E
          (defs₀ (F := F) .tc 1 ⟨grid0.coords t, arg6, harg6, arg2, harg2, arg3, harg3, v5, arg4, harg4, w, a, b, r, s⟩) K := by
  intro k
  induction k with
  | zero =>
    intro j hj w hw a b r s K
    subst hw
    obtain rfl : j = 22 := by omega
    rw [spec_apply]
    show _ ⊢ wp frame (wpE (defs₀ (F := F)) count (c : Thread nD τ) (some 0)) E
      (cc0_while1 (grid0.coords t) arg6 harg6 arg2 harg2 arg3 harg3 v5 arg4 harg4 (BitVec.ofNat 32 (3 * 22)) a b r s) K
    simp only [cc0_while1_eq_skeleton]; unfold cc0_while1_skel
    by_cases h : Scalar.andi (Scalar.cmpi .sle (BitVec.ofNat 32 (3 * 22)) (BitVec.ofNat 32 (grid0.coords t 1).val))
        (Scalar.cmpf .ogt (k0_pay9 r s) (Scalar.ofBits (F := F) .f32 0xC2D00000#32)) = 1#1
    · exact absurd (le_of_test (grid0.coords t 1) 22 _ h) (by have := (grid0.coords t 1).isLt; show ¬ 66 ≤ _; intro h'; exact absurd (lt_of_le_of_lt h' this) (by decide))
    · simp only [h, ↓reduceIte, Prog.pure_eq_ret]
      iintro ⟨H, Hk⟩
      rw [wp_ret]; imodintro
      iapply Hk; iexact H
  | succ k ih =>
    intro j hj w hw a b r s K
    subst hw
    rw [spec_apply]
    show _ ⊢ wp frame (wpE (defs₀ (F := F)) count (c : Thread nD τ) (some (k + 1))) E
      (cc0_while1 (grid0.coords t) arg6 harg6 arg2 harg2 arg3 harg3 v5 arg4 harg4 (BitVec.ofNat 32 (3 * j)) a b r s) K
    simp only [cc0_while1_eq_skeleton]; unfold cc0_while1_skel
    by_cases h : Scalar.andi (Scalar.cmpi .sle (BitVec.ofNat 32 (3 * j)) (BitVec.ofNat 32 (grid0.coords t 1).val))
        (Scalar.cmpf .ogt (k0_pay9 r s) (Scalar.ofBits (F := F) .f32 0xC2D00000#32)) = 1#1
    · have hc := chk_of_le t ⟨j, by omega⟩ (le_of_test (grid0.coords t 1) ⟨j, by omega⟩ _ h)
      simp only [h, ↓reduceIte, k0_part1_eq_skeleton, k0_part2_eq_skeleton, k0_part3_eq_skeleton, k0_part4_eq_skeleton, k0_part5_eq_skeleton]
      unfold held some_ owns
      iintro ⟨⟨⟨%f0, %hf0, H0⟩, ⟨%f1, %hf1, H1⟩, ⟨%f2, %hf2, H2⟩, ⟨%d0, %g0, -, G0⟩⟩, Hk⟩
      obtain rfl := harg2.eq_unread hf0; obtain rfl := harg3.eq_unread hf1; obtain rfl := harg4.eq_unread hf2
      unfold k0_part1_skel k0_part2_skel k0_part3_skel k0_part4_skel k0_part5_skel
      sl_exec (disch := first | sl_exact hc)
      iapply (wp_call_spec count (c : Thread nD τ) (some (k + 1)) E (spec c arg2 arg3 arg4 arg6 x0 x1 x2) k
        (fun u hu => by cases hu; exact Nat.lt_succ_self k) (ih (j + 1) (by omega) _ (next ⟨j, by omega⟩) _ _ _ _))
      rw [spec_apply]; unfold held some_ owns
      isplitl [H0 H1 H2 G0]
      · isplitl [H0]
        · iexists _; isplitr; swap; · iexact H0
          ipureintro; exact harg2.read_unread _
        isplitl [H1]
        · iexists _; isplitr; swap; · iexact H1
          ipureintro; exact harg3.read_unread _
        isplitl [H2]
        · iexists _; isplitr; swap; · iexact H2
          ipureintro; exact harg4.read_unread _
        iexists _, _; isplitr; swap; · iexact G0
        ipureintro; rfl
      iintro %r' H
      rw [wp_ret]; imodintro
      iapply Hk; iexact H
    · simp only [h, ↓reduceIte, Prog.pure_eq_ret]
      iintro ⟨H, Hk⟩
      rw [wp_ret]; imodintro
      iapply Hk; iexact H

/-! ## The body -/

variable (arg5 : Memref sig .tc .vmem S128x256 .bf16) (harg5 : arg5.IsWhole) (arg7 : Memref sig .tc .smem S4x65 .f32) (harg7 : arg7.IsWhole)

set_option maxHeartbeats 4000000 in
/-- The body runs the loop, stores the two heads' sums and the rounds' number. -/
theorem run_body (E : Set ℕ) (K : PUnit → sProp 𝕄) :
    iprop((held c arg2 arg3 arg4 arg6 x0 x1 x2 ∗ some_ c arg5 ∗ some_ c arg7)
      ∗ ((held c arg2 arg3 arg4 arg6 x0 x1 x2 ∗ some_ c arg5 ∗ some_ c arg7) -∗ K ⟨⟩))
      ⊢ wp frame (wpE (defs₀ (F := F)) count (c : Thread nD τ) none) E
          (cc0_sb_fwd (grid0.coords t) arg2 harg2 arg3 harg3 arg4 harg4 arg5 harg5 arg6 harg6 arg7 harg7) K := by
  simp only [cc0_sb_fwd_eq_skeleton]; unfold cc0_sb_fwd_skel
  simp only [Prog.lift, Prog.bind_op, Prog.bind_ret, Prog.pure_eq_ret]
  iintro ⟨⟨H, G0, G1⟩, Hk⟩
  iapply (wp_call_spec count (c : Thread nD τ) none E (spec c arg2 arg3 arg4 arg6 x0 x1 x2) 22 (fun u hu => nomatch hu)
    (spec_le c t arg2 harg2 arg3 harg3 arg4 harg4 arg6 harg6 x0 x1 x2 E _ 22 0 rfl _ rfl _ _ _ _))
  rw [spec_apply]
  isplitl [H]; · iexact H
  iintro %r H
  unfold some_ owns
  icases G0 with ⟨%d0, %g0, -, G0⟩
  icases G1 with ⟨%d1, %g1, -, G1⟩
  sl_exec
  sl_step
  iapply Hk
  isplitl [H]; · iexact H
  isplitl [G0]
  · iexists _, _; isplitr; swap; · iexact G0
    ipureintro; rfl
  iexists _, _; isplitr; swap; · iexact G1
  ipureintro; rfl
end

/-! ## The launch -/

variable (m : (ℓ : Loc nD τ sig) → Buf (Elt F) ℓ) (ρ : Dev nD → PrngReg)

/-- An array as the region finds it: as it was given. -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array, at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The results: nothing is named of them. -/
def free : Fin 6 → Bool := fun w => decide (3 ≤ w.val)

/-- The proof data of the pipeline: each input's buffer at its block, the results unnamed. -/
def dat (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := (cfg0 (F := F))) ⟨3, h⟩ t
    | ⟨4, h⟩ => Pipeline.Dat.unnamed (cfg := (cfg0 (F := F))) ⟨4, h⟩ t
    | ⟨5, h⟩ => Pipeline.Dat.unnamed (cfg := (cfg0 (F := F))) ⟨5, h⟩ t
    | ⟨_ + 6, h⟩ => absurd h (Nat.not_lt.2 (Nat.le_add_left _ _))
  Φ _ := Pipeline.ΦA spec0 c
  q w := Pipeline.shareOf spec0 w
  owed _ := 0

/-- The arrays are as given. -/
theorem A_eq (c : Dev nD) (w : Fin (cfg0 (F := F)).W) : (dat m 0 c).A w = V m c (Pipeline.arrRef spec0 w) := by dsimp only [dat]

/-- The rows' buffer is left at its block. -/
theorem after_0 (c : Dev nD) (t : Fin (cfg0 (F := F)).N) : (dat m 0 c).after 0 t = iblk m c 0 t := rfl
/-- The keys' buffer is left at its block. -/
theorem after_1 (c : Dev nD) (t : Fin (cfg0 (F := F)).N) : (dat m 0 c).after 1 t = iblk m c 1 t := rfl
/-- The values' buffer is left at its block. -/
theorem after_2 (c : Dev nD) (t : Fin (cfg0 (F := F)).N) : (dat m 0 c).after 2 t = iblk m c 2 t := rfl

/-- The rows' buffer holds its block at every point. -/
theorem before_0 (c : Dev nD) (t : Fin (cfg0 (F := F)).N) (d) : (dat m 0 c).before 0 t d = iblk m c 0 t :=
  ((dat m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The keys' buffer holds its block at every point. -/
theorem before_1 (c : Dev nD) (t : Fin (cfg0 (F := F)).N) (d) : (dat m 0 c).before 1 t d = iblk m c 1 t :=
  ((dat m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The values' buffer holds its block at every point. -/
theorem before_2 (c : Dev nD) (t : Fin (cfg0 (F := F)).N) (d) : (dat m 0 c).before 2 t d = iblk m c 2 t :=
  ((dat m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The buffer of the rows' block. -/
abbrev st_0 (t : Fin (cfg0 (F := F)).N) : Memref sig .tc .vmem S128x256 .bf16 := win0_0.stage ((cfg0 (F := F)).slots t 0)
/-- The buffer of the keys. -/
abbrev st_1 (t : Fin (cfg0 (F := F)).N) : Memref sig .tc .vmem S8320x256 .bf16 := win0_1.stage ((cfg0 (F := F)).slots t 1)
/-- The buffer of the values. -/
abbrev st_2 (t : Fin (cfg0 (F := F)).N) : Memref sig .tc .vmem S8320x256 .bf16 := win0_2.stage ((cfg0 (F := F)).slots t 2)
/-- The buffer of the sums. -/
abbrev st_3 (t : Fin (cfg0 (F := F)).N) : Memref sig .tc .vmem S128x256 .bf16 := win0_3.stage ((cfg0 (F := F)).slots t 3)
/-- The buffer of the starts. -/
abbrev st_4 (t : Fin (cfg0 (F := F)).N) : Memref sig .tc .vmem S2x128x128 .f32 := win0_4.stage ((cfg0 (F := F)).slots t 4)
/-- The buffer of the rounds' numbers. -/
abbrev st_5 (t : Fin (cfg0 (F := F)).N) : Memref sig .tc .smem S4x65 .f32 := win0_5.stage ((cfg0 (F := F)).slots t 5)

set_option maxHeartbeats 4000000 in
/-- The body at a point of the grid. -/
theorem body_at (c : Dev nD) (t : Fin (cfg0 (F := F)).N) :
    iprop((dat m 0 c).Φ t.castSucc ∗ (dat m 0 c).owesAt () t.castSucc
      ∗ (∃ d, owns (c : Thread nD τ) (st_0 t) fullShare ((dat m 0 c).before 0 t d))
      ∗ (∃ d, owns (c : Thread nD τ) (st_1 t) fullShare ((dat m 0 c).before 1 t d))
      ∗ (∃ d, owns (c : Thread nD τ) (st_2 t) fullShare ((dat m 0 c).before 2 t d)) ∗ some_ c (st_3 t) ∗ some_ c (st_4 t) ∗ some_ c (st_5 t))
    ⊢ wp frame (wpE (defs₀ (F := F)) count c none) Set.univ (bodyAt0 t) fun _ =>
      iprop((dat m 0 c).Φ t.succ ∗ (dat m 0 c).owesAt () t.succ
      ∗ owns (c : Thread nD τ) (st_0 t) fullShare ((dat m 0 c).after 0 t) ∗ owns (c : Thread nD τ) (st_1 t) fullShare ((dat m 0 c).after 1 t)
      ∗ owns (c : Thread nD τ) (st_2 t) fullShare ((dat m 0 c).after 2 t) ∗ some_ c (st_3 t) ∗ some_ c (st_4 t) ∗ some_ c (st_5 t)) := by
  unfold bodyAt0
  simp only [before_0, before_1, before_2, after_0, after_1, after_2]
  rw [show (dat m 0 c).owesAt () t.succ = (dat m 0 c).owesAt () t.castSucc from rfl,
    show (dat m 0 c).Φ t.succ = (dat m 0 c).Φ t.castSucc from rfl]
  iintro ⟨HΦ, Ho, ⟨%d0, H0⟩, ⟨%d1, H1⟩, ⟨%d2, H2⟩, G0, G1, G2⟩
  iapply (run_body c t _ _ _ _ _ _ _ _ (iblk m c 0 t) (iblk m c 1 t) (iblk m c 2 t) _ _ _ _ Set.univ _)
  unfold held
  isplitl [H0 H1 H2 G0 G1 G2]
  · isplitl [H0 H1 H2 G1]
    · isplitl [H0]; · iexact H0
      isplitl [H1]; · iexact H1
      isplitl [H2]; · iexact H2
      iexact G1
    isplitl [G0]; · iexact G0
    iexact G2
  iintro ⟨⟨H0, H1, H2, G1⟩, G0, G2⟩
  isplitl [HΦ]; · iexact HΦ
  isplitl [Ho]; · iexact Ho
  isplitl [H0]; · iexact H0
  isplitl [H1]; · iexact H1
  isplitl [H2]; · iexact H2
  isplitl [G0]; · iexact G0
  isplitl [G1]; · iexact G1
  iexact G2

/-- What the pipeline asks of the body, at every point. -/
theorem obligation (c : Dev nD) : BodyObligation (dat (F := F) m 0 c) (defs₀ (F := F)) count () Set.univ free := fun t => by
  rw [bigSep_W0, bigSep_W0, show defs₀ (F := F) .tc (cfg0 (F := F)).body ((cfg0 (F := F)).bodyArgs t ((cfg0 (F := F)).slots t)) = bodyAt0 t by unfold defs₀; rw [Defs.onTc_tc]]
  exact triple_restated (body_at m c t) rfl .rfl fun _ => .rfl

set_option backward.isDefEq.respectTransparency.types false in
/-- The launch: the inputs' array ends as it began, every semaphore at zero. -/
theorem run_main : θ_run defs (onTc (τ := τ) (main (F := F))) (s₀ m ρ) fun r =>
    (Pipeline.RDat.FramePost (cfgs 0) (fun c => (dat m 0 c).toRForget free) (V m)) r ∧ r.2.sem = fun _ => 0 :=
  Pipeline.θ_run_frame_track_forget_shared (Q' := _) cfgs (dat m) (0 : Fin 1) launch₀0 defs₀ count free m ρ main
    (hbody := fun c => (obligation m c).loose) (hq := fun _ _ _ => rfl) (howed := fun _ _ => rfl) (V := V m)
    (hmain := hmain m count) (hA := A_eq m) (hin := fun _ => .rfl) (hout := fun _ => .rfl)

/-- The frame, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 0 rfl).trans (A_eq m c 0), h.2⟩) (run_main m ρ)

/-- The frame of the kernel as it runs, on machine words. -/
theorem frame_bits : quiescent_KernelSbf := fun m ρ _ => frame (F := Bits) m ρ

end Cert.Proof.SbFwdBits

end
-- ==== Proof.SbBwd.lean ====
/- The frame of the version's attention, backward: it ends, leaves its arguments alone and its semaphores at zero. How many blocks of keys a row's
   loop walks is read from an argument, as a float made a word; whatever word that is, the blocks walked lie in the arrays. Nothing is said of what
   it computes: its results are held at some contents. -/
module

public import proofs.«01_k».proof.Defs
public import proofs.«01_k».proof.Proof.Gen.KernelSbbIdeal.Launch
public import proofs.«01_k».proof.Proof.Gen.KernelSbbIdeal.Points
public import proofs.«01_k».proof.Proof.Gen.KernelSbbIdeal.Skeleton
public import proofs.«01_k».proof.Proof.Gen.KernelSbbIdeal.Loops
public import proofs.«01_k».proof.Proof.Gen.KernelSbbIdeal.Frame
public import proofs.«01_k».proof.Proof.Gen.KernelSbb
public import Idealize.ShloMosaic.Lib.Pipeline.FrameBody
public import Idealize.ShloMosaic.Lib.Ring
public import Idealize.ShloMosaic.Lib.WordCmp
public import Idealize.ShloMosaic.Lib.Claim
public import Idealize.ShloMosaic.Lib.Tactic

@[expose] public section

set_option maxRecDepth 16384

noncomputable section

namespace Cert.Proof.SbBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelSbbIdeal Cert.KernelSbbIdeal.Gen

/-! ## The blocks walked lie in the arrays -/

/-- A word, read as an integer, is below two to the thirty-first. -/
theorem below (w : BitVec 32) : w.toInt < 2147483648 := by
  have := BitVec.toInt_lt (x := w)
  simpa using this

/-- A third of a word, toward zero, read as an integer. -/
theorem third (w : BitVec 32) : (Scalar.divsi w 3#32).toInt = w.toInt.tdiv 3 := by
  unfold Scalar.divsi IntOp.divsi
  rw [if_neg (by unfold IntOp.SDivCorner; rintro (h | ⟨-, h⟩) <;> exact absurd h (by decide)), BitVec.toInt_sdiv_of_ne_or_ne _ _ (Or.inr (by decide))]
  rfl

/-- A word divided by one. -/
theorem over_one (w : BitVec 32) : Scalar.divsi w 1#32 = w := by
  unfold Scalar.divsi IntOp.divsi
  rw [if_neg (by unfold IntOp.SDivCorner; rintro (h | ⟨-, h⟩) <;> exact absurd h (by decide))]
  apply BitVec.eq_of_toInt_eq
  rw [BitVec.toInt_sdiv_of_ne_or_ne _ _ (Or.inr (by decide))]
  exact Int.tdiv_one _

/-- One less than a word that is not the least. -/
theorem less_one (w : BitVec 32) (h : -2147483648 < w.toInt) : (Scalar.subi w 1#32).toInt = w.toInt - 1 := by
  unfold Scalar.subi IntOp.subi
  have := BitVec.toInt_lt (x := w)
  rw [BitVec.toInt_sub, Int.bmod_eq_of_le] <;> simp <;> omega

/-- The loop's last counter: the word's third, rounded down. -/
theorem last_eq (w : BitVec 32) : ∃ b : BitVec 1, (0 < w.toInt → b ≠ 1#1) ∧
    (k0_t1_loop w).ub = Scalar.select b (Scalar.subi (Scalar.divsi w 3#32) 1#32) (Scalar.divsi w 3#32) := by
  refine ⟨Scalar.andi (Scalar.cmpi .ne (Scalar.subi (Scalar.extui (Scalar.cmpi .sgt w 0#32)) (Scalar.extui (Scalar.cmpi .slt w 0#32)))
    (Scalar.subi (Scalar.extui (Scalar.cmpi .sgt 3#32 0#32)) (Scalar.extui (Scalar.cmpi .slt 3#32 0#32)))) (Scalar.cmpi .ne (Scalar.remsi w 3#32) 0#32), ?_, ?_⟩
  · intro h
    have h1 : Scalar.cmpi .sgt w 0#32 = 1#1 := by
      show BitVec.ofBool (decide ((0 : Int) < w.toInt)) = 1#1
      rw [decide_eq_true h]; rfl
    have h2 : Scalar.cmpi .slt w 0#32 = 0#1 := by
      show BitVec.ofBool (decide (w.toInt < (0 : Int))) = 0#1
      rw [decide_eq_false (by omega)]; rfl
    rw [h1, h2]
    generalize Scalar.cmpi .ne (Scalar.remsi w 3#32) 0#32 = r
    revert r; decide
  · show Scalar.addi 0#32 (Scalar.muli (Scalar.divsi (Scalar.subi _ 0#32) 1#32) 1#32) = _
    rw [over_one]
    unfold Scalar.addi IntOp.addi Scalar.muli IntOp.muli Scalar.subi IntOp.subi
    rw [BitVec.sub_zero, BitVec.mul_one, BitVec.zero_add]

/-- The loop ends at once, or three blocks a round are no more than the word. -/
theorem last_le (w : BitVec 32) : (k0_t1_loop w).ub.toInt ≤ 0 ∨ 3 * (k0_t1_loop w).ub.toInt ≤ w.toInt := by
  obtain ⟨b, hb, he⟩ := last_eq w
  have h3 := third w
  have hl := BitVec.le_toInt w
  have hd : w.toInt.tdiv 3 = if 0 ≤ w.toInt then w.toInt / 3 else -(-w.toInt / 3) := by
    split
    · exact Int.tdiv_eq_ediv_of_nonneg ‹_›
    · have := Int.neg_tdiv (a := w.toInt) (b := 3)
      rw [Int.tdiv_eq_ediv_of_nonneg (by omega)] at this
      omega
  rw [he]; unfold Scalar.select
  split
  · rename_i h1
    left
    have : ¬ 0 < w.toInt := fun h => hb h h1
    rw [less_one _ (by rw [h3, hd]; split <;> simp at hl <;> omega), h3, hd]; split <;> omega
  · rw [h3, hd]; split <;> omega

/-- The rounds of the loop. -/
theorem trips_eq (w : BitVec 32) : (k0_t1_loop w).trips = (k0_t1_loop w).ub.toInt.toNat := by
  show (((k0_t1_loop w).ub.toInt - 0 + 1 - 1) / 1).toNat = _
  rw [Int.ediv_one]; congr 1; omega

/-- The loop has a meaning: its counter does not wrap. -/
theorem ok_1 (w : BitVec 32) : (k0_t1_loop w).OK := by
  refine ⟨show (0 : Int) < (1#32).toInt by decide, ?_⟩
  show (0 : Int) + ((k0_t1_loop w).trips : Int) * 1 < 2 ^ 31
  have := below (k0_t1_loop w).ub
  rw [trips_eq]; omega

/-- The second loop has no rounds. -/
theorem trips_2 (w : BitVec 32) : (k0_t2_loop w).trips = 0 := by
  have h : (k0_t2_loop w).ub = (k0_t2_loop w).lb := by
    show Scalar.addi 0#32 _ = Scalar.addi 0#32 (Scalar.muli (Scalar.divsi _ 1#32) 1#32)
    rw [over_one]; unfold Scalar.muli IntOp.muli; rw [BitVec.mul_one]
  show ((((k0_t2_loop w).ub.toInt - (k0_t2_loop w).lb.toInt) + 1 - 1) / 1).toNat = 0
  rw [h, Int.ediv_one]; omega

/-- The second loop has a meaning. -/
theorem ok_2 (w : BitVec 32) : (k0_t2_loop w).OK := by
  refine ⟨show (0 : Int) < (1#32).toInt by decide, ?_⟩
  show (k0_t2_loop w).lb.toInt + ((k0_t2_loop w).trips : Int) * 1 < 2 ^ 31
  have := below (k0_t2_loop w).lb
  rw [trips_2]; omega

/-- A row's number is a multiple of the block's length. -/
theorem dvd (x : BitVec 32) : 128 ∣ (Scalar.muli x 128#32).toNat := by
  unfold Scalar.muli IntOp.muli
  rw [BitVec.toNat_mul]
  refine (Nat.dvd_mod_iff (by decide)).2 (Nat.dvd_mul_left 128 _)

/-- A block's first row, in a round: at most the last block's. -/
theorem row_le (i : grid0.Coords) (w : BitVec 32) (k : Fin (k0_t1_loop w).trips) (r : Fin 3) :
    (Scalar.muli (Scalar.maxsi (Scalar.addi (Scalar.addi (Scalar.subi (Scalar.addi (BitVec.ofNat 32 (i 1).val) 1#32) w)
      (Scalar.muli (Scf.iv 0#32 1#32 k.val) 3#32)) (BitVec.ofNat 32 r.val)) 0#32) 128#32).toNat ≤ 8192 := by
  have hi : (i 1).val < 65 := (i 1).isLt
  have hk := k.isLt
  have ht := trips_eq w
  have hl := last_le w
  have hw := BitVec.toInt_lt (x := w)
  have hr := r.isLt
  have hx : Scalar.addi (Scalar.addi (Scalar.subi (Scalar.addi (BitVec.ofNat 32 (i 1).val) 1#32) w)
      (Scalar.muli (Scf.iv 0#32 1#32 k.val) 3#32)) (BitVec.ofNat 32 r.val)
      = BitVec.ofInt 32 ((i 1).val + 1 - w.toInt + k.val * 3 + r.val) := by
    unfold Scalar.addi Scalar.subi Scalar.muli IntOp.addi IntOp.subi IntOp.muli Scf.iv
    rw [BitVec.ofInt_add, BitVec.ofInt_add, BitVec.ofInt_mul, Int.sub_eq_add_neg, BitVec.ofInt_add, BitVec.ofInt_add, BitVec.ofInt_neg, BitVec.ofInt_toInt,
      BitVec.ofInt_natCast, BitVec.ofInt_natCast, BitVec.ofInt_natCast, BitVec.mul_one, BitVec.zero_add, BitVec.sub_eq_add_neg]
    rfl
  rw [hx]
  have hv : (BitVec.ofInt 32 ((i 1).val + 1 - w.toInt + k.val * 3 + r.val)).toInt = (i 1).val + 1 - w.toInt + k.val * 3 + r.val := by
    simp at hw
    exact BitVec.toInt_ofInt_eq_self (by decide) (by simp; omega) (by simp; omega)
  have hle : (i 1).val + 1 - w.toInt + k.val * 3 + r.val ≤ 64 := by omega
  generalize BitVec.ofInt 32 ((i 1).val + 1 - w.toInt + k.val * 3 + r.val) = x at hv ⊢
  rw [← hv] at hle
  unfold Scalar.muli IntOp.muli Scalar.maxsi IntOp.maxsi
  rw [BitVec.toNat_mul]
  refine (Nat.mod_le _ _).trans ?_
  show _ * 128 ≤ 8192
  split
  · rename_i h
    have h0 : (0 : Int) < x.toInt := of_decide_eq_true h
    have := BitVec.toInt_eq_toNat_cond x
    have hx2 := x.isLt
    split at this <;> omega
  · show 0 * 128 ≤ 8192; decide

/-- The rectangles read and written lie in the arrays. -/
theorem off_2 (i : grid0.Coords) (w : BitVec 32) (k : Fin (k0_t1_loop w).trips) (r : Fin 3) (a) :
    (k0_off2 i w k (BitVec.ofNat 32 r.val)) a + S128x128.size a ≤ S8320x256.size a := by
  have := row_le i w k r
  match a with
  | ⟨0, _⟩ => show _ + 128 ≤ 8320; exact Nat.add_le_add_right this 128
  | ⟨1, _⟩ => show 0 + 128 ≤ 256; decide

/-- So do the other head's. -/
theorem off_3 (i : grid0.Coords) (w : BitVec 32) (k : Fin (k0_t1_loop w).trips) (r : Fin 3) (a) :
    (k0_off3 i w k (BitVec.ofNat 32 r.val)) a + S128x128.size a ≤ S8320x256.size a := by
  have := row_le i w k r
  match a with
  | ⟨0, _⟩ => show _ + 128 ≤ 8320; exact Nat.add_le_add_right this 128
  | ⟨1, _⟩ => show 128 + 128 ≤ 256; decide

/-- The second loop has no round. -/
theorem no_round {w : BitVec 32} (k : Fin (k0_t2_loop w).trips) : ¬ k.val < (k0_t2_loop w).trips := by
  have := trips_2 w; omega

/-- The body's side condition holds, whatever the word. -/
theorem chk (i : grid0.Coords) (w : BitVec 32) : k0_chk1 i w :=
  ⟨⟨ok_1 w, fun _ => dvd _, off_2 i w, fun _ => dvd _, fun _ => dvd _, fun _ => dvd _, fun _ => dvd _, fun _ => dvd _, fun _ => dvd _, fun _ => dvd _, fun _ => dvd _, fun _ => dvd _, off_3 i w, fun _ => dvd _, fun _ => dvd _, fun _ => dvd _, fun _ => dvd _, fun _ => dvd _, fun _ => dvd _, fun _ => dvd _, fun _ => dvd _, ok_2 w, fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k)⟩, ⟨fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k), fun k => absurd k.isLt (no_round k)⟩⟩

variable {F : FTy → Type} [FloatOps F]

local notation "𝕄" => MT nD τ sig Unit (Elt F) ℕ (UR sig nD τ) ℕ

/-- Some contents of a memref, owned. -/
abbrev some_ (c : Dev nD) {k : Space} {s : Shape} {e : EltTy} (M : Memref sig .tc k s e) : sProp 𝕄 := iprop(∃ d, owns (c : Thread nD τ) M fullShare d)

/-! ## The body -/

/-- The first block of rows. -/
abbrev first (i : grid0.Coords) : Prop := (Scalar.cmpi .ne (Scalar.extui (Scalar.cmpi .eq (BitVec.ofNat 32 (i 1).val) 0#32)) 0#32) = 1#1

section
variable (c : Dev nD) (i : grid0.Coords)
variable (arg2 : Memref sig .tc .vmem S128x256 .bf16) (harg2 : arg2.IsWhole)
variable (arg3 : Memref sig .tc .vmem S8320x256 .bf16) (harg3 : arg3.IsWhole)
variable (arg4 : Memref sig .tc .vmem S8320x256 .bf16) (harg4 : arg4.IsWhole)
variable (arg5 : Memref sig .tc .vmem S128x256 .f32) (harg5 : arg5.IsWhole)
variable (arg6 : Memref sig .tc .vmem S2x128x128 .f32) (harg6 : arg6.IsWhole)
variable (arg7 : Memref sig .tc .smem S4x65 .f32) (harg7 : arg7.IsWhole)
variable (arg8 : Memref sig .tc .vmem S128x256 .bf16) (harg8 : arg8.IsWhole)
variable (arg9 : Memref sig .tc .vmem S8320x256 .bf16) (harg9 : arg9.IsWhole)
variable (arg10 : Memref sig .tc .vmem S8320x256 .bf16) (harg10 : arg10.IsWhole)
variable (arg11 : Memref sig .tc .vmem S8320x256 .f32) (harg11 : arg11.IsWhole)
variable (arg12 : Memref sig .tc .vmem S8320x256 .f32) (harg12 : arg12.IsWhole)
variable (x0 : Vec F S128x256 .bf16) (x1 : Vec F S8320x256 .bf16) (x2 : Vec F S8320x256 .bf16) (x3 : Vec F S128x256 .f32) (x4 : Vec F S2x128x128 .f32) (x5 : Vec F S4x65 .f32)

/-- What a run of the body holds: the inputs' buffers at their contents, the rest at some. -/
def held : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ some_ c arg8
    ∗ some_ c arg9
    ∗ some_ c arg10
    ∗ some_ c arg11
    ∗ some_ c arg12)

set_option maxHeartbeats 16000000 in
/-- The body runs from that to that. -/
theorem run_body (E : Set ℕ) (K : PUnit → sProp 𝕄) :
    iprop(held c arg2 arg3 arg4 arg5 arg6 arg7 arg8 arg9 arg10 arg11 arg12 x0 x1 x2 x3 x4 x5 ∗ (held c arg2 arg3 arg4 arg5 arg6 arg7 arg8 arg9 arg10 arg11 arg12 x0 x1 x2 x3 x4 x5 -∗ K ⟨⟩))
      ⊢ wp frame (wpE (defs₀ (F := F)) Variants.none c Option.none) E (cc0_sb_bwd i arg2 harg2 arg3 harg3 arg4 harg4 arg5 harg5 arg6 harg6 arg7 harg7 arg8 harg8 arg9 harg9 arg10 harg10 arg11 harg11 arg12 harg12) K := by
  simp only [cc0_sb_bwd_eq_skeleton]; unfold cc0_sb_bwd_skel
  simp only [k0_part21_eq_skeleton]
  unfold held some_ owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, G0⟩, ⟨%d1, %g1, -, G1⟩, ⟨%d2, %g2, -, G2⟩, ⟨%d3, %g3, -, G3⟩, ⟨%d4, %g4, -, G4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  by_cases hc0 : first i <;> by_cases hc1 : k0_cond2 i = 1#1 <;>
  (sl_exec (disch := first | sl_exact hc0 | sl_exact hc1 | exact chk _ _)
   sl_step
   iapply Hk
   isplitl [H0]
   · iexists _; isplitr; swap; · iexact H0
     ipureintro; exact harg2.read_unread _
   isplitl [H1]
   · iexists _; isplitr; swap; · iexact H1
     ipureintro; exact harg3.read_unread _
   isplitl [H2]
   · iexists _; isplitr; swap; · iexact H2
     ipureintro; exact harg4.read_unread _
   isplitl [H3]
   · iexists _; isplitr; swap; · iexact H3
     ipureintro; exact harg5.read_unread _
   isplitl [H4]
   · iexists _; isplitr; swap; · iexact H4
     ipureintro; exact harg6.read_unread _
   isplitl [H5]
   · iexists _; isplitr; swap; · iexact H5
     ipureintro; exact harg7.read_unread _
   isplitl [G0]
   · iexists _, _; isplitr; swap; · iexact G0
     ipureintro; rfl
   isplitl [G1]
   · iexists _, _; isplitr; swap; · iexact G1
     ipureintro; rfl
   isplitl [G2]
   · iexists _, _; isplitr; swap; · iexact G2
     ipureintro; rfl
   isplitl [G3]
   · iexists _, _; isplitr; swap; · iexact G3
     ipureintro; rfl
   iexists _, _; isplitr; swap; · iexact G4
   ipureintro; rfl)
end

/-! ## The launch -/

variable (m : (ℓ : Loc nD τ sig) → Buf (Elt F) ℓ) (ρ : Dev nD → PrngReg)

/-- The results: nothing is named of them. -/
def free : Fin 9 → Bool := fun w => decide (6 ≤ w.val)

/-- The proof data of the pipeline: each input's buffer at its block, the results unnamed, the sums at some contents throughout. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨_ + 9, h⟩ => absurd h (Nat.not_lt.2 (Nat.le_add_left _ _))
  Φ _ := Pipeline.ΦA spec0 c
  q w := Pipeline.shareOf spec0 w
  owed _ := 0

/-- The arrays are as given. -/
theorem A_eq (c : Dev nD) (w : Fin cfg0.W) : (dat m 0 c).A w = V m c (Pipeline.arrRef spec0 w) := by dsimp only [dat]

/-- The rows' buffer is left at its block. -/
theorem after_0 (c : Dev nD) (t : Fin cfg0.N) : (dat m 0 c).after 0 t = iblk m c 0 t := by dsimp only [dat]
/-- The keys' buffer is left at its block. -/
theorem after_1 (c : Dev nD) (t : Fin cfg0.N) : (dat m 0 c).after 1 t = iblk m c 1 t := by dsimp only [dat]
/-- The values' buffer is left at its block. -/
theorem after_2 (c : Dev nD) (t : Fin cfg0.N) : (dat m 0 c).after 2 t = iblk m c 2 t := by dsimp only [dat]
/-- The rows' cotangents' buffer is left at its block. -/
theorem after_3 (c : Dev nD) (t : Fin cfg0.N) : (dat m 0 c).after 3 t = iblk m c 3 t := by dsimp only [dat]
/-- The starts' buffer is left at its block. -/
theorem after_4 (c : Dev nD) (t : Fin cfg0.N) : (dat m 0 c).after 4 t = iblk m c 4 t := by dsimp only [dat]
/-- The rounds' numbers' buffer is left at its block. -/
theorem after_5 (c : Dev nD) (t : Fin cfg0.N) : (dat m 0 c).after 5 t = iblk m c 5 t := by dsimp only [dat]
/-- The rows' buffer holds its block at every point. -/
theorem before_0 (c : Dev nD) (t : Fin cfg0.N) (d) : (dat m 0 c).before 0 t d = iblk m c 0 t := before0_0_of m (dat m 0 c) (A_eq m c 0) (after_0 m c) t d
/-- The keys' buffer holds its block at every point. -/
theorem before_1 (c : Dev nD) (t : Fin cfg0.N) (d) : (dat m 0 c).before 1 t d = iblk m c 1 t := before0_1_of m (dat m 0 c) (A_eq m c 1) (after_1 m c) t d
/-- The values' buffer holds its block at every point. -/
theorem before_2 (c : Dev nD) (t : Fin cfg0.N) (d) : (dat m 0 c).before 2 t d = iblk m c 2 t := before0_2_of m (dat m 0 c) (A_eq m c 2) (after_2 m c) t d
/-- The rows' cotangents' buffer holds its block at every point. -/
theorem before_3 (c : Dev nD) (t : Fin cfg0.N) (d) : (dat m 0 c).before 3 t d = iblk m c 3 t := before0_3_of m (dat m 0 c) (A_eq m c 3) (after_3 m c) t d
/-- The starts' buffer holds its block at every point. -/
theorem before_4 (c : Dev nD) (t : Fin cfg0.N) (d) : (dat m 0 c).before 4 t d = iblk m c 4 t := before0_4_of m (dat m 0 c) (A_eq m c 4) (after_4 m c) t d
/-- The rounds' numbers' buffer holds its block at every point. -/
theorem before_5 (c : Dev nD) (t : Fin cfg0.N) (d) : (dat m 0 c).before 5 t d = iblk m c 5 t := before0_5_of m (dat m 0 c) (A_eq m c 5) (after_5 m c) t d
/-- The buffer of window 0. -/
abbrev st_0 (t : Fin cfg0.N) : Memref sig .tc .vmem S128x256 .bf16 := win0_0.stage (cfg0.slots t 0)
/-- The buffer of window 1. -/
abbrev st_1 (t : Fin cfg0.N) : Memref sig .tc .vmem S8320x256 .bf16 := win0_1.stage (cfg0.slots t 1)
/-- The buffer of window 2. -/
abbrev st_2 (t : Fin cfg0.N) : Memref sig .tc .vmem S8320x256 .bf16 := win0_2.stage (cfg0.slots t 2)
/-- The buffer of window 3. -/
abbrev st_3 (t : Fin cfg0.N) : Memref sig .tc .vmem S128x256 .f32 := win0_3.stage (cfg0.slots t 3)
/-- The buffer of window 4. -/
abbrev st_4 (t : Fin cfg0.N) : Memref sig .tc .vmem S2x128x128 .f32 := win0_4.stage (cfg0.slots t 4)
/-- The buffer of window 5. -/
abbrev st_5 (t : Fin cfg0.N) : Memref sig .tc .smem S4x65 .f32 := win0_5.stage (cfg0.slots t 5)
/-- The buffer of window 6. -/
abbrev st_6 (t : Fin cfg0.N) : Memref sig .tc .vmem S128x256 .bf16 := win0_6.stage (cfg0.slots t 6)
/-- The buffer of window 7. -/
abbrev st_7 (t : Fin cfg0.N) : Memref sig .tc .vmem S8320x256 .bf16 := win0_7.stage (cfg0.slots t 7)
/-- The buffer of window 8. -/
abbrev st_8 (t : Fin cfg0.N) : Memref sig .tc .vmem S8320x256 .bf16 := win0_8.stage (cfg0.slots t 8)

/-- The pipeline's invariant: the sums at some contents, and the generator's register. -/
theorem scratch_eq (c : Dev nD) :
    (Pipeline.ΦA spec0 c : sProp 𝕄) = iprop(iprop(some_ c (Memref.whole cc0_scratch0) ∗ some_ c (Memref.whole cc0_scratch1)) ∗ (∃ r, prngReg c r)) := by
  unfold Pipeline.ΦA; rw [scopedRest0_eq]; simp only [some_, owns_whole]

set_option maxHeartbeats 4000000 in
/-- The body at a point of the grid. -/
theorem body_at (c : Dev nD) (t : Fin cfg0.N) :
    iprop((dat m 0 c).Φ t.castSucc ∗ (dat m 0 c).owesAt () t.castSucc
      ∗ (∃ d, owns (c : Thread nD τ) (st_0 t) fullShare ((dat m 0 c).before 0 t d))
      ∗ (∃ d, owns (c : Thread nD τ) (st_1 t) fullShare ((dat m 0 c).before 1 t d))
      ∗ (∃ d, owns (c : Thread nD τ) (st_2 t) fullShare ((dat m 0 c).before 2 t d))
      ∗ (∃ d, owns (c : Thread nD τ) (st_3 t) fullShare ((dat m 0 c).before 3 t d))
      ∗ (∃ d, owns (c : Thread nD τ) (st_4 t) fullShare ((dat m 0 c).before 4 t d))
      ∗ (∃ d, owns (c : Thread nD τ) (st_5 t) fullShare ((dat m 0 c).before 5 t d))
      ∗ some_ c (st_6 t) ∗ some_ c (st_7 t) ∗ some_ c (st_8 t))
    ⊢ wp frame (wpE (defs₀ (F := F)) Variants.none c Option.none) Set.univ (bodyAt0 t) fun _ =>
      iprop((dat m 0 c).Φ t.succ ∗ (dat m 0 c).owesAt () t.succ
      ∗ owns (c : Thread nD τ) (st_0 t) fullShare ((dat m 0 c).after 0 t)
      ∗ owns (c : Thread nD τ) (st_1 t) fullShare ((dat m 0 c).after 1 t)
      ∗ owns (c : Thread nD τ) (st_2 t) fullShare ((dat m 0 c).after 2 t)
      ∗ owns (c : Thread nD τ) (st_3 t) fullShare ((dat m 0 c).after 3 t)
      ∗ owns (c : Thread nD τ) (st_4 t) fullShare ((dat m 0 c).after 4 t)
      ∗ owns (c : Thread nD τ) (st_5 t) fullShare ((dat m 0 c).after 5 t)
      ∗ some_ c (st_6 t) ∗ some_ c (st_7 t) ∗ some_ c (st_8 t)) := by
  unfold bodyAt0
  simp only [before_0, before_1, before_2, before_3, before_4, before_5, after_0, after_1, after_2, after_3, after_4, after_5]
  rw [show (dat m 0 c).owesAt () t.succ = (dat m 0 c).owesAt () t.castSucc from rfl,
    show (dat m 0 c).Φ t.succ = Pipeline.ΦA spec0 c from rfl, show (dat m 0 c).Φ t.castSucc = Pipeline.ΦA spec0 c from rfl, scratch_eq]
  iintro ⟨⟨⟨S0, S1⟩, Hg⟩, Ho, ⟨%d0, H0⟩, ⟨%d1, H1⟩, ⟨%d2, H2⟩, ⟨%d3, H3⟩, ⟨%d4, H4⟩, ⟨%d5, H5⟩, G0, G1, G2⟩
  iapply (run_body c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  unfold held
  isplitl [H0 H1 H2 H3 H4 H5 G0 G1 G2 S0 S1]
  · isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [S0]; · iexact S0
    iexact S1
  iintro ⟨H0, H1, H2, H3, H4, H5, G0, G1, G2, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  iexact G2

/-- What the pipeline asks of the body, at every point. -/
theorem obligation (c : Dev nD) : BodyObligation (dat (F := F) m 0 c) (defs₀ (F := F)) Variants.none () Set.univ free := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The launch: the inputs' arrays end as they began, every semaphore at zero. -/
theorem run_main : θ_run defs (onTc (τ := τ) (main (F := F))) (s₀ m ρ) fun r =>
    (Pipeline.RDat.FramePost (cfgs 0) (fun c => (dat m 0 c).toRForget free) (V m)) r ∧ r.2.sem = fun _ => 0 :=
  Pipeline.θ_run_frame_track_forget_shared (Q' := _) cfgs (dat m) (0 : Fin 1) launch₀0 defs₀ Variants.none free m ρ main
    (hbody := fun c => (obligation m c).loose) (hq := fun _ _ _ => rfl) (howed := fun _ _ => rfl) (V := V m)
    (hmain := hmain m Variants.none) (hA := A_eq m) (hin := fun _ => .rfl) (hout := fun _ => .rfl)

/-- The frame, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 3 rfl).trans (A_eq m c 3), (Pipeline.RDat.FramePost.arr_in h.1 c 4 rfl).trans (A_eq m c 4),
      (Pipeline.RDat.FramePost.arr_in h.1 c 5 rfl).trans (A_eq m c 5)⟩, h.2⟩) (run_main m ρ)

set_option maxHeartbeats 2000000 in
set_option maxRecDepth 65536 in
/-- The kernel and its idealization are one program where neither rewrites anything. -/
theorem same (m : (ℓ : Loc Cert.KernelSbb.nD Cert.KernelSbb.τ Cert.KernelSbb.sig) → Buf (Elt Bits) ℓ) (ρ : Dev Cert.KernelSbb.nD → PrngReg) :
    θ_run (Cert.KernelSbb.defs (F := Bits)) (onTc (τ := Cert.KernelSbb.τ) (Cert.KernelSbb.main (F := Bits))) ⟨m, fun _ => 0, ρ⟩
      = θ_run (defs (F := Bits)) (onTc (τ := τ) (main (F := Bits))) ⟨m, fun _ => 0, ρ⟩ := by
  sl_kernel_rfl

/-- The frame of the kernel as it runs, on machine words. -/
theorem frame_bits : quiescent_KernelSbb := fun m ρ _ => by rw [same]; exact frame (F := Bits) m ρ

/-- The frame of its idealization. -/
theorem frame_ideal : quiescent_KernelSbbIdeal := fun m ρ _ => frame (F := Ideal) m ρ

end Cert.Proof.SbBwd

end
-- ==== Proof.Res.lean ====
/- The mixer's output product with the residual sum and the second layer norm, over the extended reals. -/
module

public import proofs.«01_k».proof.Defs
public import proofs.«01_k».proof.Proof.Gen.KernelRes.Frame
public import proofs.«01_k».proof.Proof.Gen.KernelResIdeal.Value
public import proofs.«01_k».proof.Proof.Gen.ReferenceResIdeal.Run
public import proofs.«01_k».proof.Proof.Scalars
public import Idealize.ShloMosaic.Lib.Pipeline.ValueKit

@[expose] public section

noncomputable section

namespace Cert.Proof.Res

open Idealize.ShloMosaic Idealize.SL.Sem Idealize.ShloMosaic.TcCoe Cert.Scalars
open Cert.KernelResIdeal Cert.KernelResIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The mean of 2048 extended reals. -/
def mean (x : Fin 2048 → EReal) : EReal := Ideal.div (∑ k, x k) (Ideal.ofBits .f32 0x45000000#32)
/-- One over their standard deviation, shifted. -/
def rstd (x : Fin 2048 → EReal) : EReal :=
  Ideal.rsqrt (Ideal.div (∑ k, (x k - mean x) * (x k - mean x)) (Ideal.ofBits .f32 0x45000000#32) + Ideal.ofBits .f32 0x3727C5AC#32)
/-- The layer norm of 2048 numbers. -/
def norm (x g b : Fin 2048 → EReal) (l : Fin 2048) : EReal := (x l - mean x) * rstd x * g l + b l

section
variable (y : S320x2048.Idx → EReal) (w : S2048x2048.Idx → EReal) (h : S320x2048.Idx → EReal) (g b : S1x2048.Idx → EReal)

/-- A row of a tile of the residual sum. -/
def tile (r : Fin 320) (l : Fin 2048) : EReal :=
  Ideal.ofBits .f32 0x3F9837F0#32 * h (ix2 r l) + ∑ k : Fin 2048, y (ix2 r k) * w (ix2 k l)

/-- The residual sum's tile. -/
theorem pay2_eq : k0_pay2 (F := Ideal) (e16 y) (e16 w) (e32 h) = e32 fun j => tile y w h (j 0) (j 1) := by
  unfold k0_pay2
  funext j
  obtain ⟨r, l, rfl⟩ : ∃ r l, j = ix2 r l := ⟨j 0, j 1, by funext a; fin_cases a <;> rfl⟩
  pointwise
  rfl

/-- The layer norm's tile. -/
theorem pay3_eq : k0_pay3 (F := Ideal) (e16 y) (e16 w) (e32 h) (e32 g) (e32 b)
    = e32 fun j => norm (tile y w h (j 0)) (fun k => g (ix2 0 k)) (fun k => b (ix2 0 k)) (j 1) := by
  unfold k0_pay3
  rw [pay2_eq]
  funext j
  obtain ⟨r, l, rfl⟩ : ∃ r l, j = ix2 r l := ⟨j 0, j 1, by funext a; fin_cases a <;> rfl⟩
  pointwise
  rfl
end

section
variable (m : (ℓ : Loc nD τ sig) → Buf (Elt Ideal) ℓ) (c : Dev nD) (y : S1x8320x2048.Idx → EReal) (w : S1x2048x2048.Idx → EReal)
  (h : S1x8320x2048.Idx → EReal) (g b : S1x2048.Idx → EReal)
variable (hy : m ((c : Thread nD τ).loc main_arg0) = e32 y) (hw : m ((c : Thread nD τ).loc main_arg1) = e32 w)
variable (hh : m ((c : Thread nD τ).loc main_arg2) = e32 h) (hg : m ((c : Thread nD τ).loc main_arg3) = e32 g)
  (hb : m ((c : Thread nD τ).loc main_arg4) = e32 b)

/-- A row of the residual sum. -/
def resid (r : Fin 8320) (l : Fin 2048) : EReal :=
  Ideal.ofBits .f32 0x3F9837F0#32 * h (ix3 0 r l) + ∑ k : Fin 2048, y (ix3 0 r k) * w (ix3 0 k l)

include hy in
/-- The merged rows as the call finds them in its array. -/
theorem entry_y : V m c (Pipeline.arrRef spec0 0) = e16 fun j : S8320x2048.Idx => y (ix3 0 (j 0) (j 1)) := by
  entry_read
  rw [show m (c, Proc.tc.devRef main_arg0) = e32 y from hy]
  refine (funext fun (j : S8320x2048.Idx) => ?_)
  obtain ⟨r, l, rfl⟩ : ∃ r l, j = ix2 r l := ⟨j 0, j 1, by funext a; fin_cases a <;> rfl⟩
  pointwise
  rfl

include hw in
/-- The output weights as the call finds them in its array. -/
theorem entry_w : V m c (Pipeline.arrRef spec0 1) = e16 fun j : S2048x2048.Idx => w (ix3 0 (j 0) (j 1)) := by
  entry_read
  rw [show m (c, Proc.tc.devRef main_arg1) = e32 w from hw]
  refine (funext fun (j : S2048x2048.Idx) => ?_)
  obtain ⟨r, l, rfl⟩ : ∃ r l, j = ix2 r l := ⟨j 0, j 1, by funext a; fin_cases a <;> rfl⟩
  pointwise
  rfl

include hh in
/-- The residual rows as the call finds them in its array. -/
theorem entry_h : V m c (Pipeline.arrRef spec0 2) = e32 fun j : S8320x2048.Idx => h (ix3 0 (j 0) (j 1)) := by
  entry_read
  rw [show m (c, Proc.tc.devRef main_arg2) = e32 h from hh]
  refine (funext fun (j : S8320x2048.Idx) => ?_)
  obtain ⟨r, l, rfl⟩ : ∃ r l, j = ix2 r l := ⟨j 0, j 1, by funext a; fin_cases a <;> rfl⟩
  pointwise
  rfl

/-- Row `p` of tile `t`. -/
def at_ (t : Fin cfg0.N) (p : Fin 320) : Fin 8320 := ⟨t.val * 320 + p.val, by have : t.val < 26 := t.isLt; omega⟩

/-- Where a place of window 0's block lies in its array. -/
theorem emb_0 (t : Fin cfg0.N) (p : Fin 320) (l : Fin 2048) :
    (win0_0.blk t).view.emb (ix2 p l : S320x2048.Idx) = (ix2 (at_ t p) l : S8320x2048.Idx) := by
  have e : ∀ t : Fin cfg0.N, win0_0.index t = ![t.val, 0] := (by decide +kernel : ∀ t : Fin grid0.N, _)
  blk_ext [e t, at_]

/-- Where a place of window 2's block lies in its array. -/
theorem emb_2 (t : Fin cfg0.N) (p : Fin 320) (l : Fin 2048) :
    (win0_2.blk t).view.emb (ix2 p l : S320x2048.Idx) = (ix2 (at_ t p) l : S8320x2048.Idx) := by
  have e : ∀ t : Fin cfg0.N, win0_2.index t = ![t.val, 0] := (by decide +kernel : ∀ t : Fin grid0.N, _)
  blk_ext [e t, at_]

/-- Where a place of window 5's block lies in its array. -/
theorem emb_5 (t : Fin cfg0.N) (p : Fin 320) (l : Fin 2048) :
    (win0_5.blk t).view.emb (ix2 p l : S320x2048.Idx) = (ix2 (at_ t p) l : S8320x2048.Idx) := by
  have e : ∀ t : Fin cfg0.N, win0_5.index t = ![t.val, 0] := (by decide +kernel : ∀ t : Fin grid0.N, _)
  blk_ext [e t, at_]

/-- Where a place of window 6's block lies in its array. -/
theorem emb_6 (t : Fin cfg0.N) (p : Fin 320) (l : Fin 2048) :
    (win0_6.blk t).view.emb (ix2 p l : S320x2048.Idx) = (ix2 (at_ t p) l : S8320x2048.Idx) := by
  have e : ∀ t : Fin cfg0.N, win0_6.index t = ![t.val, 0] := (by decide +kernel : ∀ t : Fin grid0.N, _)
  blk_ext [e t, at_]

/-- Where a place of window 7's block lies in its array. -/
theorem emb_7 (t : Fin cfg0.N) (p : Fin 320) (l : Fin 2048) :
    (win0_7.blk t).view.emb (ix2 p l : S320x2048.Idx) = (ix2 (at_ t p) l : S8320x2048.Idx) := by
  have e : ∀ t : Fin cfg0.N, win0_7.index t = ![t.val, 0] := (by decide +kernel : ∀ t : Fin grid0.N, _)
  blk_ext [e t, at_]

/-- Where a place of window 1's block lies in its array. -/
theorem emb_1 (t : Fin cfg0.N) (k l : Fin 2048) : (win0_1.blk t).view.emb (ix2 k l : S2048x2048.Idx) = (ix2 k l : S2048x2048.Idx) := by
  have e : ∀ t : Fin cfg0.N, win0_1.index t = ![0, 0] := (by decide +kernel : ∀ t : Fin grid0.N, _)
  blk_ext [e t]

/-- Where a place of window 3's block lies in its array. -/
theorem emb_3 (t : Fin cfg0.N) (l : Fin 2048) : (win0_3.blk t).view.emb (ix2 0 l : S1x2048.Idx) = (ix2 0 l : S1x2048.Idx) := by
  have e : ∀ t : Fin cfg0.N, win0_3.index t = ![0, 0] := (by decide +kernel : ∀ t : Fin grid0.N, _)
  blk_ext [e t]

/-- Where a place of window 4's block lies in its array. -/
theorem emb_4 (t : Fin cfg0.N) (l : Fin 2048) : (win0_4.blk t).view.emb (ix2 0 l : S1x2048.Idx) = (ix2 0 l : S1x2048.Idx) := by
  have e : ∀ t : Fin cfg0.N, win0_4.index t = ![0, 0] := (by decide +kernel : ∀ t : Fin grid0.N, _)
  blk_ext [e t]

include hy in
/-- A point's block of the merged rows. -/
theorem blk_y (t : Fin cfg0.N) : iblk m c 0 t = e16 fun j : S320x2048.Idx => y (ix3 0 (at_ t (j 0)) (j 1)) := by
  unfold iblk
  rw [entry_y m c y hy]
  funext j
  change S320x2048.Idx at j
  obtain ⟨p, l, rfl⟩ : ∃ p l, j = ix2 p l := ⟨j 0, j 1, by funext a; fin_cases a <;> rfl⟩
  exact congrArg (e16 fun j : S8320x2048.Idx => y (ix3 0 (j 0) (j 1))) (emb_0 t p l)

include hw in
/-- A point's block of the output weights. -/
theorem blk_w (t : Fin cfg0.N) : iblk m c 1 t = e16 fun j : S2048x2048.Idx => w (ix3 0 (j 0) (j 1)) := by
  unfold iblk
  rw [entry_w m c w hw]
  funext j
  change S2048x2048.Idx at j
  obtain ⟨p, l, rfl⟩ : ∃ p l, j = ix2 p l := ⟨j 0, j 1, by funext a; fin_cases a <;> rfl⟩
  exact congrArg (e16 fun j : S2048x2048.Idx => w (ix3 0 (j 0) (j 1))) (emb_1 t p l)

include hh in
/-- A point's block of the residual rows. -/
theorem blk_h (t : Fin cfg0.N) : iblk m c 2 t = e32 fun j : S320x2048.Idx => h (ix3 0 (at_ t (j 0)) (j 1)) := by
  unfold iblk
  rw [entry_h m c h hh]
  funext j
  change S320x2048.Idx at j
  obtain ⟨p, l, rfl⟩ : ∃ p l, j = ix2 p l := ⟨j 0, j 1, by funext a; fin_cases a <;> rfl⟩
  exact congrArg (e32 fun j : S8320x2048.Idx => h (ix3 0 (j 0) (j 1))) (emb_2 t p l)

include hg in
/-- A point's block of the gain. -/
theorem blk_g (t : Fin cfg0.N) : iblk m c 3 t = e32 g := by
  unfold iblk
  rw [show V m c (Pipeline.arrRef spec0 3) = e32 g from hg]
  funext j
  change S1x2048.Idx at j
  obtain ⟨l, rfl⟩ : ∃ l, j = ix2 0 l := ⟨j 1, by funext a; fin_cases a; exact Fin.ext (Nat.lt_one_iff.mp (j 0).isLt); rfl⟩
  exact congrArg (e32 g) (emb_3 t l)

include hb in
/-- A point's block of the bias. -/
theorem blk_b (t : Fin cfg0.N) : iblk m c 4 t = e32 b := by
  unfold iblk
  rw [show V m c (Pipeline.arrRef spec0 4) = e32 b from hb]
  funext j
  change S1x2048.Idx at j
  obtain ⟨l, rfl⟩ : ∃ l, j = ix2 0 l := ⟨j 1, by funext a; fin_cases a; exact Fin.ext (Nat.lt_one_iff.mp (j 0).isLt); rfl⟩
  exact congrArg (e32 b) (emb_4 t l)

include hy hw hh in
/-- The residual sum, whole. -/
theorem arr_r : (dats m 0 c).arrAt 5 cfg0.N = e32 fun j : S8320x2048.Idx => resid y w h (j 0) (j 1) := by
  refine (dats m 0 c).arrAt_eq_of_covers 5 _ (by decide +kernel) fun t hf j => ?_
  change S320x2048.Idx at j
  obtain ⟨p, l, rfl⟩ : ∃ p l, j = ix2 p l := ⟨j 0, j 1, by funext a; fin_cases a <;> rfl⟩
  rw [after0_5]
  unfold out0_5
  frame_out
  rw [blk_y m c y hy t, blk_w m c w hw t, blk_h m c h hh t, pay2_eq]
  exact congrArg (e32 fun j : S8320x2048.Idx => resid y w h (j 0) (j 1)) (emb_5 t p l).symm

/-- A row of the second layer norm. -/
def out (r : Fin 8320) (l : Fin 2048) : EReal := norm (resid y w h r) (fun k => g (ix2 0 k)) (fun k => b (ix2 0 k)) l

set_option maxHeartbeats 2000000 in
include hy hw hh hg hb in
/-- The layer norm, whole. -/
theorem arr_h : (dats m 0 c).arrAt 6 cfg0.N = e32 fun j : S8320x2048.Idx => out y w h g b (j 0) (j 1) := by
  refine (dats m 0 c).arrAt_eq_of_covers 6 _ (by decide +kernel) fun t hf j => ?_
  change S320x2048.Idx at j
  obtain ⟨p, l, rfl⟩ : ∃ p l, j = ix2 p l := ⟨j 0, j 1, by funext a; fin_cases a <;> rfl⟩
  rw [after0_6]
  unfold out0_6 k0_pay4
  frame_out
  rw [blk_y m c y hy t, blk_w m c w hw t, blk_h m c h hh t, blk_g m c g hg t, blk_b m c b hb t, pay3_eq]
  show out y w h g b (at_ t p) l = _
  exact congrArg (e32 fun j : S8320x2048.Idx => out y w h g b (j 0) (j 1)) (emb_6 t p l).symm

set_option maxHeartbeats 2000000 in
include hy hw hh hg hb in
/-- The same in the narrow format. -/
theorem arr_hb : (dats m 0 c).arrAt 7 cfg0.N = e16 fun j : S8320x2048.Idx => out y w h g b (j 0) (j 1) := by
  refine (dats m 0 c).arrAt_eq_of_covers 7 _ (by decide +kernel) fun t hf j => ?_
  change S320x2048.Idx at j
  obtain ⟨p, l, rfl⟩ : ∃ p l, j = ix2 p l := ⟨j 0, j 1, by funext a; fin_cases a <;> rfl⟩
  rw [after0_7]
  unfold out0_7 k0_pay4
  frame_out
  rw [blk_y m c y hy t, blk_w m c w hw t, blk_h m c h hh t, blk_g m c g hg t, blk_b m c b hb t, pay3_eq]
  show out y w h g b (at_ t p) l = _
  exact congrArg (e16 fun j : S8320x2048.Idx => out y w h g b (j 0) (j 1)) (emb_7 t p l).symm
end

section
variable (y : S1x8320x2048.Idx → EReal) (w : S1x2048x2048.Idx → EReal) (h : S1x8320x2048.Idx → EReal) (g b : S1x2048.Idx → EReal)

/-- The reference's residual sum. -/
theorem ref_r : addf (mulf (broadcastInDim ReferenceResIdeal.S1x8320x2048 ![] ReferenceResIdeal.Gen.bcast_S_S1x8320x2048 (constant (F := Ideal) ReferenceResIdeal.S_ .f32 0x3F9837F0#32)) (e32 h))
      (Host.dotGeneral ReferenceResIdeal.dot_S1x8320x2048_S2048x2048_S1x8320x2048_2_0_01_1_n_n none (e32 y) (shapeCast _ (e32 w) ReferenceResIdeal.Gen.shapeCasts_S1x2048x2048_S2048x2048))
    = e32 fun j : ReferenceResIdeal.S1x8320x2048.Idx => resid y w h (j 1) (j 2) := by
  funext j
  obtain ⟨z, r, l, rfl⟩ : ∃ z r l, j = (ix3 z r l : ReferenceResIdeal.S1x8320x2048.Idx) := ⟨j 0, j 1, j 2, by funext a; fin_cases a <;> rfl⟩
  obtain rfl : z = 0 := Subsingleton.elim _ _
  pointwise
  rfl
end

set_option maxRecDepth 65536 in
set_option maxHeartbeats 4000000 in
/-- The two programs leave the same three arrays at every argument. -/
theorem algebraic_res : algebraic_KernelResIdeal_ReferenceResIdeal := by
  intro m ρ m' ρ' _ hagree
  refine ⟨_, _, _, KernelResIdeal.Value.run_blocks (F := Ideal) m ρ, ?_⟩
  refine (θ_run ReferenceResIdeal.defs _ _).mono (fun _ run c => ?_) (ReferenceResIdeal.Value.run (F := Ideal) m' ρ')
  obtain ⟨e0, e1, e2, e3, e4⟩ := hagree c
  obtain ⟨y, hy⟩ : ∃ x : S1x8320x2048.Idx → EReal, m ((c : Thread nD τ).loc main_arg0) = e32 x := ⟨m ((c : Thread nD τ).loc main_arg0), rfl⟩
  obtain ⟨w, hw⟩ : ∃ x : S1x2048x2048.Idx → EReal, m ((c : Thread nD τ).loc main_arg1) = e32 x := ⟨m ((c : Thread nD τ).loc main_arg1), rfl⟩
  obtain ⟨h, hh⟩ : ∃ x : S1x8320x2048.Idx → EReal, m ((c : Thread nD τ).loc main_arg2) = e32 x := ⟨m ((c : Thread nD τ).loc main_arg2), rfl⟩
  obtain ⟨g, hg⟩ : ∃ x : S1x2048.Idx → EReal, m ((c : Thread nD τ).loc main_arg3) = e32 x := ⟨m ((c : Thread nD τ).loc main_arg3), rfl⟩
  obtain ⟨b, hb⟩ : ∃ x : S1x2048.Idx → EReal, m ((c : Thread nD τ).loc main_arg4) = e32 x := ⟨m ((c : Thread nD τ).loc main_arg4), rfl⟩
  refine ⟨(run c).1.trans ?_, (run c).2.1.trans ?_, (run c).2.2.1.trans ?_, (run c).2.2.2⟩
  · refine Eq.trans ?_ (arr_r m c y w h hy hw hh).symm
    rw [e0.trans hy, e1.trans hw, e2.trans hh, ref_r]
    refine congrArg e32 (funext fun j => ?_)
    obtain ⟨r, l, rfl⟩ : ∃ r l, j = (ix2 r l : S8320x2048.Idx) := ⟨j 0, j 1, by funext a; fin_cases a <;> rfl⟩
    pointwise
    rfl
  · refine Eq.trans ?_ (arr_h m c y w h g b hy hw hh hg hb).symm
    unfold ReferenceResIdeal.Value.res_main_v32
    rw [e0.trans hy, e1.trans hw, e2.trans hh, e3.trans hg, e4.trans hb, ref_r]
    refine congrArg e32 (funext fun j => ?_)
    obtain ⟨r, l, rfl⟩ : ∃ r l, j = (ix2 r l : S8320x2048.Idx) := ⟨j 0, j 1, by funext a; fin_cases a <;> rfl⟩
    pointwise
    rfl
  · refine Eq.trans ?_ (arr_hb m c y w h g b hy hw hh hg hb).symm
    unfold ReferenceResIdeal.Value.res_main_v34
    rw [e0.trans hy, e1.trans hw, e2.trans hh, e3.trans hg, e4.trans hb, ref_r]
    refine congrArg e16 (funext fun j => ?_)
    obtain ⟨r, l, rfl⟩ : ∃ r l, j = (ix2 r l : S8320x2048.Idx) := ⟨j 0, j 1, by funext a; fin_cases a <;> rfl⟩
    pointwise
    rfl

end Cert.Proof.Res

end
-- ==== Proof.Dwn.lean ====
/- A feed-forward layer's last product, in its eight blocks of columns, with the residual sum and the layer norm after it, over the extended reals. -/
module

public import proofs.«01_k».proof.Defs
public import proofs.«01_k».proof.Proof.Gen.KernelDwn.Frame
public import proofs.«01_k».proof.Proof.Gen.KernelDwnIdeal.Value
public import proofs.«01_k».proof.Proof.Gen.ReferenceDwnIdeal.Run
public import proofs.«01_k».proof.Proof.Scalars
public import Idealize.ShloMosaic.Lib.Pipeline.ValueKit

@[expose] public section

noncomputable section

namespace Cert.Proof.Dwn

open Idealize.ShloMosaic Idealize.SL.Sem Idealize.ShloMosaic.TcCoe Cert.Scalars
open Cert.KernelDwnIdeal Cert.KernelDwnIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The mean of 2048 extended reals. -/
def mean (x : Fin 2048 → EReal) : EReal := Ideal.div (∑ k, x k) (Ideal.ofBits .f32 0x45000000#32)
/-- One over their standard deviation, shifted. -/
def rstd (x : Fin 2048 → EReal) : EReal :=
  Ideal.rsqrt (Ideal.div (∑ k, (x k - mean x) * (x k - mean x)) (Ideal.ofBits .f32 0x45000000#32) + Ideal.ofBits .f32 0x3727C5AC#32)
/-- The layer norm of 2048 numbers. -/
def norm (x g b : Fin 2048 → EReal) (l : Fin 2048) : EReal := (x l - mean x) * rstd x * g l + b l

/-- Column `q` of block `n` of the eight. -/
def col (n : Fin 8) (q : Fin 704) : Fin 5632 := ⟨n.val * 704 + q.val, by omega⟩

/-- A block of the activations' columns. -/
def cutY (x : S8x320x704.Idx → EReal) (n : Fin 8) : S1x320x704.Idx → EReal := fun j => x (ix3 n (j 1) (j 2))
/-- A block of the weights' rows. -/
def cutW (x : S8x704x2048.Idx → EReal) (n : Fin 8) : S1x704x2048.Idx → EReal := fun j => x (ix3 n (j 1) (j 2))

/-- What the body reads of the activations for one block. -/
theorem ld_y (x : S8x320x704.Idx → EReal) (n : Fin 8) (h) :
    (View.ld (e16 x : Vec Ideal S8x320x704 .bf16) (Rect.unit (s := S8x320x704) ![n.val, 0, 0] S1x320x704.size h) : Vec Ideal S1x320x704 .bf16) = e16 (cutY x n) := by
  funext j
  refine congrArg x (funext fun a => Fin.ext ?_)
  have h0 : (j 0).val < 1 := (j 0).isLt
  match a with
  | ⟨0, _⟩ => show n.val + 1 * (j 0).val = n.val; omega
  | ⟨1, _⟩ => show 0 + 1 * (j 1).val = (j 1).val; omega
  | ⟨2, _⟩ => show 0 + 1 * (j 2).val = (j 2).val; omega

/-- What the body reads of the weights for one block. -/
theorem ld_w (x : S8x704x2048.Idx → EReal) (n : Fin 8) (h) :
    (View.ld (e16 x : Vec Ideal S8x704x2048 .bf16) (Rect.unit (s := S8x704x2048) ![n.val, 0, 0] S1x704x2048.size h) : Vec Ideal S1x704x2048 .bf16) = e16 (cutW x n) := by
  funext j
  refine congrArg x (funext fun a => Fin.ext ?_)
  have h0 : (j 0).val < 1 := (j 0).isLt
  match a with
  | ⟨0, _⟩ => show n.val + 1 * (j 0).val = n.val; omega
  | ⟨1, _⟩ => show 0 + 1 * (j 1).val = (j 1).val; omega
  | ⟨2, _⟩ => show 0 + 1 * (j 2).val = (j 2).val; omega

/-- The residual rows are read whole. -/
theorem ld_h (x : S320x2048.Idx → EReal) : (View.ld (e32 x : Vec Ideal S320x2048 .f32) r0_16 : Vec Ideal S320x2048 .f32) = e32 x := by
  funext j
  refine congrArg x (funext fun a => Fin.ext ?_)
  match a with
  | ⟨0, _⟩ => show 0 + 1 * (j 0).val = (j 0).val; omega
  | ⟨1, _⟩ => show 0 + 1 * (j 1).val = (j 1).val; omega

/-- One block's product. -/
def dot (x : S1x320x704.Idx → EReal) (u : S1x704x2048.Idx → EReal) (p : Fin 320) (l : Fin 2048) : EReal :=
  ∑ q : Fin 704, x (ix3 0 p q) * u (ix3 0 q l)

/-- The first four blocks' products, one added to the next. -/
theorem pay3_at (x : Fin 8 → S1x320x704.Idx → EReal) (u : Fin 8 → S1x704x2048.Idx → EReal) (p : Fin 320) (l : Fin 2048) :
    k0_pay3 (F := Ideal) (e16 (x 0)) (e16 (u 0)) (e16 (x 1)) (e16 (u 1)) (e16 (x 2)) (e16 (u 2)) (e16 (x 3)) (e16 (u 3)) (ix2 p l)
      = dot (x 0) (u 0) p l + dot (x 1) (u 1) p l + dot (x 2) (u 2) p l + dot (x 3) (u 3) p l := by
  unfold k0_pay3
  pointwise
  rfl

/-- The other four, and the residual rows. -/
theorem pay5_at (a h : S320x2048.Idx → EReal) (x : Fin 8 → S1x320x704.Idx → EReal) (u : Fin 8 → S1x704x2048.Idx → EReal) (p : Fin 320) (l : Fin 2048) :
    k0_pay5 (F := Ideal) (e32 a) (k0_pay4 (F := Ideal) (e16 (x 4))) (e16 (u 4)) (e16 (x 5)) (e16 (u 5)) (e16 (x 6)) (e16 (u 6)) (e16 (x 7)) (e16 (u 7)) (e32 h) (ix2 p l)
      = Ideal.ofBits .f32 0x3F9837F0#32 * h (ix2 p l) + Ideal.ofBits .f32 0x3F000000#32
        * (a (ix2 p l) + dot (x 4) (u 4) p l + dot (x 5) (u 5) p l + dot (x 6) (u 6) p l + dot (x 7) (u 7) p l) := by
  unfold k0_pay5 k0_pay4
  pointwise
  rfl

section
variable (y : S8x320x704.Idx → EReal) (w : S8x704x2048.Idx → EReal) (h : S320x2048.Idx → EReal) (g b : S1x2048.Idx → EReal)

/-- A row of a tile of the residual sum. -/
def tile (r : Fin 320) (l : Fin 2048) : EReal :=
  Ideal.ofBits .f32 0x3F9837F0#32 * h (ix2 r l) + Ideal.ofBits .f32 0x3F000000#32 * ∑ n : Fin 8, dot (cutY y n) (cutW w n) r l

/-- The residual sum's tile from the blocks read. -/
theorem pay5_eq {a0 a1 a2 a3 a4 a5 a6 a7 : Vec Ideal S1x320x704 .bf16} {u0 u1 u2 u3 u4 u5 u6 u7 : Vec Ideal S1x704x2048 .bf16} {h' : Vec Ideal S320x2048 .f32}
    (ha0 : a0 = e16 (cutY y 0)) (hu0 : u0 = e16 (cutW w 0)) (ha1 : a1 = e16 (cutY y 1)) (hu1 : u1 = e16 (cutW w 1)) (ha2 : a2 = e16 (cutY y 2)) (hu2 : u2 = e16 (cutW w 2)) (ha3 : a3 = e16 (cutY y 3)) (hu3 : u3 = e16 (cutW w 3))
    (ha4 : a4 = e16 (cutY y 4)) (hu4 : u4 = e16 (cutW w 4)) (ha5 : a5 = e16 (cutY y 5)) (hu5 : u5 = e16 (cutW w 5)) (ha6 : a6 = e16 (cutY y 6)) (hu6 : u6 = e16 (cutW w 6)) (ha7 : a7 = e16 (cutY y 7)) (hu7 : u7 = e16 (cutW w 7)) (hh : h' = e32 h) :
    k0_pay5 (F := Ideal) (k0_pay3 (F := Ideal) a0 u0 a1 u1 a2 u2 a3 u3) (k0_pay4 (F := Ideal) a4) u4 a5 u5 a6 u6 a7 u7 h'
      = e32 fun j => tile y w h (j 0) (j 1) := by
  subst ha0 hu0 ha1 hu1 ha2 hu2 ha3 hu3 ha4 hu4 ha5 hu5 ha6 hu6 ha7 hu7 hh
  funext j
  obtain ⟨r, l, rfl⟩ : ∃ r l, j = ix2 r l := ⟨j 0, j 1, by funext a; fin_cases a <;> rfl⟩
  refine (pay5_at _ h' (cutY y) (cutW w) r l).trans ?_
  refine congrArg (fun z => Ideal.ofBits .f32 0x3F9837F0#32 * h' (ix2 r l) + Ideal.ofBits .f32 0x3F000000#32 * z) ?_
  rw [Fin.sum_univ_eight]
  exact congrArg (fun z => z + dot (cutY y 4) (cutW w 4) r l + dot (cutY y 5) (cutW w 5) r l + dot (cutY y 6) (cutW w 6) r l
    + dot (cutY y 7) (cutW w 7) r l) (pay3_at (cutY y) (cutW w) r l)

/-- The residual sum's tile. -/
theorem pay6_eq : k0_pay6 (F := Ideal) (e16 y) (e16 w) (e32 h) (e32 g) (e32 b) = e32 fun j => tile y w h (j 0) (j 1) := by
  unfold k0_pay6
  exact pay5_eq y w h (ld_y y 0 _) (ld_w w 0 _) (ld_y y 1 _) (ld_w w 1 _) (ld_y y 2 _) (ld_w w 2 _) (ld_y y 3 _) (ld_w w 3 _) (ld_y y 4 _) (ld_w w 4 _) (ld_y y 5 _) (ld_w w 5 _) (ld_y y 6 _) (ld_w w 6 _) (ld_y y 7 _) (ld_w w 7 _) (ld_h h)

/-- The layer norm's tile. -/
theorem pay1_eq (v : S320x2048.Idx → EReal) : k0_pay1 (F := Ideal) (e32 v) (e32 g) (e32 b)
    = e32 fun j => norm (fun k => v (ix2 (j 0) k)) (fun k => g (ix2 0 k)) (fun k => b (ix2 0 k)) (j 1) := by
  unfold k0_pay1
  funext j
  obtain ⟨r, l, rfl⟩ : ∃ r l, j = ix2 r l := ⟨j 0, j 1, by funext a; fin_cases a <;> rfl⟩
  pointwise
  rfl
end

section
variable (m : (ℓ : Loc nD τ sig) → Buf (Elt Ideal) ℓ) (c : Dev nD) (y : S1x8320x5632.Idx → EReal) (w : S1x5632x2048.Idx → EReal)
  (h : S1x8320x2048.Idx → EReal) (g b : S1x2048.Idx → EReal)
variable (hy : m ((c : Thread nD τ).loc main_arg0) = e32 y) (hw : m ((c : Thread nD τ).loc main_arg1) = e32 w)
variable (hh : m ((c : Thread nD τ).loc main_arg2) = e32 h) (hg : m ((c : Thread nD τ).loc main_arg3) = e32 g)
  (hb : m ((c : Thread nD τ).loc main_arg4) = e32 b)

/-- A row of the residual sum. -/
def resid (r : Fin 8320) (l : Fin 2048) : EReal :=
  Ideal.ofBits .f32 0x3F9837F0#32 * h (ix3 0 r l) + Ideal.ofBits .f32 0x3F000000#32 * ∑ k : Fin 5632, y (ix3 0 r k) * w (ix3 0 k l)

include hy in
/-- The activations as the call finds them in its array. -/
theorem entry_y : V m c (Pipeline.arrRef spec0 0) = e16 fun j : S8x8320x704.Idx => y (ix3 0 (j 1) (col (j 0) (j 2))) := by
  entry_read
  rw [show m (c, Proc.tc.devRef main_arg0) = e32 y from hy]
  refine (funext fun (j : S8x8320x704.Idx) => ?_)
  obtain ⟨n, k, l, rfl⟩ : ∃ n k l, j = ix3 n k l := ⟨j 0, j 1, j 2, by funext a; fin_cases a <;> rfl⟩
  pointwise
  rfl

include hw in
/-- The weights as the call finds them in its array. -/
theorem entry_w : V m c (Pipeline.arrRef spec0 1) = e16 fun j : S8x704x2048.Idx => w (ix3 0 (col (j 0) (j 1)) (j 2)) := by
  entry_read
  rw [show m (c, Proc.tc.devRef main_arg1) = e32 w from hw]
  refine (funext fun (j : S8x704x2048.Idx) => ?_)
  obtain ⟨n, k, l, rfl⟩ : ∃ n k l, j = ix3 n k l := ⟨j 0, j 1, j 2, by funext a; fin_cases a <;> rfl⟩
  pointwise
  rfl

include hh in
/-- The residual rows as the call finds them in its array. -/
theorem entry_h : V m c (Pipeline.arrRef spec0 2) = e32 fun j : S8320x2048.Idx => h (ix3 0 (j 0) (j 1)) := by
  entry_read
  rw [show m (c, Proc.tc.devRef main_arg2) = e32 h from hh]
  refine (funext fun (j : S8320x2048.Idx) => ?_)
  obtain ⟨r, l, rfl⟩ : ∃ r l, j = ix2 r l := ⟨j 0, j 1, by funext a; fin_cases a <;> rfl⟩
  pointwise
  rfl

/-- Row `p` of tile `t`. -/
def at_ (t : Fin cfg0.N) (p : Fin 320) : Fin 8320 := ⟨t.val * 320 + p.val, by have : t.val < 26 := t.isLt; omega⟩

/-- Where a place of window 0's block lies in its array. -/
theorem emb_0 (t : Fin cfg0.N) (n : Fin 8) (p : Fin 320) (l : Fin 704) :
    (win0_0.blk t).view.emb (ix3 n p l : S8x320x704.Idx) = (ix3 n (at_ t p) l : S8x8320x704.Idx) := by
  have e : ∀ t : Fin cfg0.N, win0_0.index t = ![0, t.val, 0] := (by decide +kernel : ∀ t : Fin grid0.N, _)
  blk_ext [e t, at_]

/-- Where a place of window 2's block lies in its array. -/
theorem emb_2 (t : Fin cfg0.N) (p : Fin 320) (l : Fin 2048) :
    (win0_2.blk t).view.emb (ix2 p l : S320x2048.Idx) = (ix2 (at_ t p) l : S8320x2048.Idx) := by
  have e : ∀ t : Fin cfg0.N, win0_2.index t = ![t.val, 0] := (by decide +kernel : ∀ t : Fin grid0.N, _)
  blk_ext [e t, at_]

/-- Where a place of window 5's block lies in its array. -/
theorem emb_5 (t : Fin cfg0.N) (p : Fin 320) (l : Fin 2048) :
    (win0_5.blk t).view.emb (ix2 p l : S320x2048.Idx) = (ix2 (at_ t p) l : S8320x2048.Idx) := by
  have e : ∀ t : Fin cfg0.N, win0_5.index t = ![t.val, 0] := (by decide +kernel : ∀ t : Fin grid0.N, _)
  blk_ext [e t, at_]

/-- Where a place of window 6's block lies in its array. -/
theorem emb_6 (t : Fin cfg0.N) (p : Fin 320) (l : Fin 2048) :
    (win0_6.blk t).view.emb (ix2 p l : S320x2048.Idx) = (ix2 (at_ t p) l : S8320x2048.Idx) := by
  have e : ∀ t : Fin cfg0.N, win0_6.index t = ![t.val, 0] := (by decide +kernel : ∀ t : Fin grid0.N, _)
  blk_ext [e t, at_]

/-- Where a place of window 7's block lies in its array. -/
theorem emb_7 (t : Fin cfg0.N) (p : Fin 320) (l : Fin 2048) :
    (win0_7.blk t).view.emb (ix2 p l : S320x2048.Idx) = (ix2 (at_ t p) l : S8320x2048.Idx) := by
  have e : ∀ t : Fin cfg0.N, win0_7.index t = ![t.val, 0] := (by decide +kernel : ∀ t : Fin grid0.N, _)
  blk_ext [e t, at_]

/-- Where a place of window 1's block lies in its array. -/
theorem emb_1 (t : Fin cfg0.N) (n : Fin 8) (k : Fin 704) (l : Fin 2048) : (win0_1.blk t).view.emb (ix3 n k l : S8x704x2048.Idx) = (ix3 n k l : S8x704x2048.Idx) := by
  have e : ∀ t : Fin cfg0.N, win0_1.index t = ![0, 0, 0] := (by decide +kernel : ∀ t : Fin grid0.N, _)
  blk_ext [e t]

/-- Where a place of window 3's block lies in its array. -/
theorem emb_3 (t : Fin cfg0.N) (l : Fin 2048) : (win0_3.blk t).view.emb (ix2 0 l : S1x2048.Idx) = (ix2 0 l : S1x2048.Idx) := by
  have e : ∀ t : Fin cfg0.N, win0_3.index t = ![0, 0] := (by decide +kernel : ∀ t : Fin grid0.N, _)
  blk_ext [e t]

/-- Where a place of window 4's block lies in its array. -/
theorem emb_4 (t : Fin cfg0.N) (l : Fin 2048) : (win0_4.blk t).view.emb (ix2 0 l : S1x2048.Idx) = (ix2 0 l : S1x2048.Idx) := by
  have e : ∀ t : Fin cfg0.N, win0_4.index t = ![0, 0] := (by decide +kernel : ∀ t : Fin grid0.N, _)
  blk_ext [e t]

include hy in
/-- A point's block of the activations. -/
theorem blk_y (t : Fin cfg0.N) : iblk m c 0 t = e16 fun j : S8x320x704.Idx => y (ix3 0 (at_ t (j 1)) (col (j 0) (j 2))) := by
  unfold iblk
  rw [entry_y m c y hy]
  funext j
  change S8x320x704.Idx at j
  obtain ⟨n, p, l, rfl⟩ : ∃ n p l, j = ix3 n p l := ⟨j 0, j 1, j 2, by funext a; fin_cases a <;> rfl⟩
  exact congrArg (e16 fun j : S8x8320x704.Idx => y (ix3 0 (j 1) (col (j 0) (j 2)))) (emb_0 t n p l)

include hw in
/-- A point's block of the weights. -/
theorem blk_w (t : Fin cfg0.N) : iblk m c 1 t = e16 fun j : S8x704x2048.Idx => w (ix3 0 (col (j 0) (j 1)) (j 2)) := by
  unfold iblk
  rw [entry_w m c w hw]
  funext j
  change S8x704x2048.Idx at j
  obtain ⟨n, p, l, rfl⟩ : ∃ n p l, j = ix3 n p l := ⟨j 0, j 1, j 2, by funext a; fin_cases a <;> rfl⟩
  exact congrArg (e16 fun j : S8x704x2048.Idx => w (ix3 0 (col (j 0) (j 1)) (j 2))) (emb_1 t n p l)

include hh in
/-- A point's block of the residual rows. -/
theorem blk_h (t : Fin cfg0.N) : iblk m c 2 t = e32 fun j : S320x2048.Idx => h (ix3 0 (at_ t (j 0)) (j 1)) := by
  unfold iblk
  rw [entry_h m c h hh]
  funext j
  change S320x2048.Idx at j
  obtain ⟨p, l, rfl⟩ : ∃ p l, j = ix2 p l := ⟨j 0, j 1, by funext a; fin_cases a <;> rfl⟩
  exact congrArg (e32 fun j : S8320x2048.Idx => h (ix3 0 (j 0) (j 1))) (emb_2 t p l)

include hg in
/-- A point's block of the gain. -/
theorem blk_g (t : Fin cfg0.N) : iblk m c 3 t = e32 g := by
  unfold iblk
  rw [show V m c (Pipeline.arrRef spec0 3) = e32 g from hg]
  funext j
  change S1x2048.Idx at j
  obtain ⟨l, rfl⟩ : ∃ l, j = ix2 0 l := ⟨j 1, by funext a; fin_cases a; exact Fin.ext (Nat.lt_one_iff.mp (j 0).isLt); rfl⟩
  exact congrArg (e32 g) (emb_3 t l)

include hb in
/-- A point's block of the bias. -/
theorem blk_b (t : Fin cfg0.N) : iblk m c 4 t = e32 b := by
  unfold iblk
  rw [show V m c (Pipeline.arrRef spec0 4) = e32 b from hb]
  funext j
  change S1x2048.Idx at j
  obtain ⟨l, rfl⟩ : ∃ l, j = ix2 0 l := ⟨j 1, by funext a; fin_cases a; exact Fin.ext (Nat.lt_one_iff.mp (j 0).isLt); rfl⟩
  exact congrArg (e32 b) (emb_4 t l)

/-- The eight blocks' products are the product over all columns. -/
theorem tile_eq (t : Fin cfg0.N) (p : Fin 320) (l : Fin 2048) :
    tile (fun j : S8x320x704.Idx => y (ix3 0 (at_ t (j 1)) (col (j 0) (j 2)))) (fun j : S8x704x2048.Idx => w (ix3 0 (col (j 0) (j 1)) (j 2))) (fun j : S320x2048.Idx => h (ix3 0 (at_ t (j 0)) (j 1))) p l
      = resid y w h (at_ t p) l :=
  congrArg (fun z => Ideal.ofBits .f32 0x3F9837F0#32 * h (ix3 0 (at_ t p) l) + Ideal.ofBits .f32 0x3F000000#32 * z)
    (Fin.sum_mul_add_congr (M := EReal) (S := 8) (n := 704) (f := fun k : Fin 5632 => y (ix3 0 (at_ t p) k) * w (ix3 0 k l)) fun _ _ _ => rfl)

include hy hw hh hg hb in
/-- The residual sum, whole. -/
theorem arr_r : (dats m 0 c).arrAt 5 cfg0.N = e32 fun j : S8320x2048.Idx => resid y w h (j 0) (j 1) := by
  refine (dats m 0 c).arrAt_eq_of_covers 5 _ (by decide +kernel) fun t hf j => ?_
  change S320x2048.Idx at j
  obtain ⟨p, l, rfl⟩ : ∃ p l, j = ix2 p l := ⟨j 0, j 1, by funext a; fin_cases a <;> rfl⟩
  rw [after0_5]
  unfold out0_5
  frame_out
  rw [blk_y m c y hy t, blk_w m c w hw t, blk_h m c h hh t, blk_g m c g hg t, blk_b m c b hb t, pay6_eq]
  refine (tile_eq y w h t p l).trans ?_
  exact congrArg (e32 fun j : S8320x2048.Idx => resid y w h (j 0) (j 1)) (emb_5 t p l).symm

/-- A row of the layer norm. -/
def out (r : Fin 8320) (l : Fin 2048) : EReal := norm (resid y w h r) (fun k => g (ix2 0 k)) (fun k => b (ix2 0 k)) l

set_option maxHeartbeats 2000000 in
include hy hw hh hg hb in
/-- The layer norm, whole. -/
theorem arr_h : (dats m 0 c).arrAt 6 cfg0.N = e32 fun j : S8320x2048.Idx => out y w h g b (j 0) (j 1) := by
  refine (dats m 0 c).arrAt_eq_of_covers 6 _ (by decide +kernel) fun t hf j => ?_
  change S320x2048.Idx at j
  obtain ⟨p, l, rfl⟩ : ∃ p l, j = ix2 p l := ⟨j 0, j 1, by funext a; fin_cases a <;> rfl⟩
  rw [after0_6]
  unfold out0_6
  frame_out
  rw [blk_y m c y hy t, blk_w m c w hw t, blk_h m c h hh t, blk_g m c g hg t, blk_b m c b hb t, pay6_eq, pay1_eq]
  refine (congrArg (fun x => norm x (fun k => g (ix2 0 k)) (fun k => b (ix2 0 k)) l) (funext fun k => tile_eq y w h t p k)).trans ?_
  exact congrArg (e32 fun j : S8320x2048.Idx => out y w h g b (j 0) (j 1)) (emb_6 t p l).symm

set_option maxHeartbeats 2000000 in
include hy hw hh hg hb in
/-- The same in the narrow format. -/
theorem arr_hb : (dats m 0 c).arrAt 7 cfg0.N = e16 fun j : S8320x2048.Idx => out y w h g b (j 0) (j 1) := by
  refine (dats m 0 c).arrAt_eq_of_covers 7 _ (by decide +kernel) fun t hf j => ?_
  change S320x2048.Idx at j
  obtain ⟨p, l, rfl⟩ : ∃ p l, j = ix2 p l := ⟨j 0, j 1, by funext a; fin_cases a <;> rfl⟩
  rw [after0_7]
  unfold out0_7 k0_pay2
  frame_out
  rw [blk_y m c y hy t, blk_w m c w hw t, blk_h m c h hh t, blk_g m c g hg t, blk_b m c b hb t, pay6_eq, pay1_eq]
  refine (congrArg (fun x => norm x (fun k => g (ix2 0 k)) (fun k => b (ix2 0 k)) l) (funext fun k => tile_eq y w h t p k)).trans ?_
  exact congrArg (e16 fun j : S8320x2048.Idx => out y w h g b (j 0) (j 1)) (emb_7 t p l).symm
end

section
variable (y : S1x8320x5632.Idx → EReal) (w : S1x5632x2048.Idx → EReal) (h : S1x8320x2048.Idx → EReal) (g b : S1x2048.Idx → EReal)

/-- The reference's residual sum. -/
theorem ref_r : addf (mulf (broadcastInDim ReferenceDwnIdeal.S1x8320x2048 ![] ReferenceDwnIdeal.Gen.bcast_S_S1x8320x2048 (constant (F := Ideal) ReferenceDwnIdeal.S_ .f32 0x3F9837F0#32)) (e32 h))
      (mulf (broadcastInDim ReferenceDwnIdeal.S1x8320x2048 ![] ReferenceDwnIdeal.Gen.bcast_S_S1x8320x2048 (constant (F := Ideal) ReferenceDwnIdeal.S_ .f32 0x3F000000#32))
        (Host.dotGeneral ReferenceDwnIdeal.dot_S1x8320x5632_S5632x2048_S1x8320x2048_2_0_01_1_n_n none (e32 y) (shapeCast _ (e32 w) ReferenceDwnIdeal.Gen.shapeCasts_S1x5632x2048_S5632x2048)))
    = e32 fun j : ReferenceDwnIdeal.S1x8320x2048.Idx => resid y w h (j 1) (j 2) := by
  funext j
  obtain ⟨z, r, l, rfl⟩ : ∃ z r l, j = (ix3 z r l : ReferenceDwnIdeal.S1x8320x2048.Idx) := ⟨j 0, j 1, j 2, by funext a; fin_cases a <;> rfl⟩
  obtain rfl : z = 0 := Subsingleton.elim _ _
  pointwise
  rfl
end

set_option maxRecDepth 65536 in
set_option maxHeartbeats 4000000 in
/-- The two programs leave the same three arrays at every argument. -/
theorem algebraic_dwn : algebraic_KernelDwnIdeal_ReferenceDwnIdeal := by
  intro m ρ m' ρ' _ hagree
  refine ⟨_, _, _, KernelDwnIdeal.Value.run_blocks (F := Ideal) m ρ, ?_⟩
  refine (θ_run ReferenceDwnIdeal.defs _ _).mono (fun _ run c => ?_) (ReferenceDwnIdeal.Value.run (F := Ideal) m' ρ')
  obtain ⟨e0, e1, e2, e3, e4⟩ := hagree c
  obtain ⟨y, hy⟩ : ∃ x : S1x8320x5632.Idx → EReal, m ((c : Thread nD τ).loc main_arg0) = e32 x := ⟨m ((c : Thread nD τ).loc main_arg0), rfl⟩
  obtain ⟨w, hw⟩ : ∃ x : S1x5632x2048.Idx → EReal, m ((c : Thread nD τ).loc main_arg1) = e32 x := ⟨m ((c : Thread nD τ).loc main_arg1), rfl⟩
  obtain ⟨h, hh⟩ : ∃ x : S1x8320x2048.Idx → EReal, m ((c : Thread nD τ).loc main_arg2) = e32 x := ⟨m ((c : Thread nD τ).loc main_arg2), rfl⟩
  obtain ⟨g, hg⟩ : ∃ x : S1x2048.Idx → EReal, m ((c : Thread nD τ).loc main_arg3) = e32 x := ⟨m ((c : Thread nD τ).loc main_arg3), rfl⟩
  obtain ⟨b, hb⟩ : ∃ x : S1x2048.Idx → EReal, m ((c : Thread nD τ).loc main_arg4) = e32 x := ⟨m ((c : Thread nD τ).loc main_arg4), rfl⟩
  refine ⟨(run c).1.trans ?_, (run c).2.1.trans ?_, (run c).2.2.1.trans ?_, (run c).2.2.2⟩
  · refine Eq.trans ?_ (arr_r m c y w h g b hy hw hh hg hb).symm
    rw [e0.trans hy, e1.trans hw, e2.trans hh, ref_r]
    refine congrArg e32 (funext fun j => ?_)
    obtain ⟨r, l, rfl⟩ : ∃ r l, j = (ix2 r l : S8320x2048.Idx) := ⟨j 0, j 1, by funext a; fin_cases a <;> rfl⟩
    pointwise
    rfl
  · refine Eq.trans ?_ (arr_h m c y w h g b hy hw hh hg hb).symm
    unfold ReferenceDwnIdeal.Value.res_main_v34
    rw [e0.trans hy, e1.trans hw, e2.trans hh, e3.trans hg, e4.trans hb, ref_r]
    refine congrArg e32 (funext fun j => ?_)
    obtain ⟨r, l, rfl⟩ : ∃ r l, j = (ix2 r l : S8320x2048.Idx) := ⟨j 0, j 1, by funext a; fin_cases a <;> rfl⟩
    pointwise
    rfl
  · refine Eq.trans ?_ (arr_hb m c y w h g b hy hw hh hg hb).symm
    unfold ReferenceDwnIdeal.Value.res_main_v36
    rw [e0.trans hy, e1.trans hw, e2.trans hh, e3.trans hg, e4.trans hb, ref_r]
    refine congrArg e16 (funext fun j => ?_)
    obtain ⟨r, l, rfl⟩ : ∃ r l, j = (ix2 r l : S8320x2048.Idx) := ⟨j 0, j 1, by funext a; fin_cases a <;> rfl⟩
    pointwise
    rfl

end Cert.Proof.Dwn

end
-- ==== Proof.Inp.lean ====
/- The mixer's input projection in both formats, over the extended reals. -/
module

public import proofs.«01_k».proof.Defs
public import proofs.«01_k».proof.Proof.Gen.KernelInp.Frame
public import proofs.«01_k».proof.Proof.Gen.KernelInpIdeal.Value
public import proofs.«01_k».proof.Proof.Gen.ReferenceInpIdeal.Run
public import Idealize.ShloMosaic.Lib.Pipeline.ValueKit

@[expose] public section

noncomputable section

namespace Cert.Proof.Inp

open Idealize.ShloMosaic Idealize.SL.Sem Idealize.ShloMosaic.TcCoe
open Cert.KernelInpIdeal Cert.KernelInpIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- A tile's product. -/
theorem pay1_at (x : S640x2048.Idx → EReal) (w : S1x2048x1408.Idx → EReal) (p : Fin 640) (l : Fin 1408) :
    k0_pay1 (F := Ideal) (e16 x) (e16 w) (ix2 p l) = ∑ k : Fin 2048, x (ix2 p k) * w (ix3 0 k l) := by
  unfold k0_pay1
  pointwise

/-- The same product in the narrow format. -/
theorem pay2_at (x : S640x2048.Idx → EReal) (w : S1x2048x1408.Idx → EReal) (p : Fin 640) (l : Fin 1408) :
    k0_pay2 (F := Ideal) (e16 x) (e16 w) (ix2 p l) = ∑ k : Fin 2048, x (ix2 p k) * w (ix3 0 k l) :=
  pay1_at x w p l

section
variable (m : (ℓ : Loc nD τ sig) → Buf (Elt Ideal) ℓ) (c : Dev nD) (h : S1x8320x2048.Idx → EReal) (w : S1x2048x11264.Idx → EReal)
variable (hh : m ((c : Thread nD τ).loc main_arg0) = e32 h) (hw : m ((c : Thread nD τ).loc main_arg1) = e32 w)

/-- The row tile of a grid point. -/
def rt (t : Fin cfg0.N) : Fin 13 := ⟨t.val / 8, by have : t.val < 104 := t.isLt; omega⟩
/-- The column tile of a grid point. -/
def ct (t : Fin cfg0.N) : Fin 8 := ⟨t.val % 8, Nat.mod_lt _ (by decide)⟩
/-- Row `p` of row tile `s`. -/
def row (s : Fin 13) (p : Fin 640) : Fin 8320 := ⟨s.val * 640 + p.val, by omega⟩
/-- Column `l` of column tile `n`. -/
def col (n : Fin 8) (l : Fin 1408) : Fin 11264 := ⟨n.val * 1408 + l.val, by omega⟩

include hh in
/-- The rows the region reads are the input's. -/
theorem entry_h : V m c (Pipeline.arrRef spec0 0) = e16 fun j : S8320x2048.Idx => h (ix3 0 (j 0) (j 1)) := by
  entry_read
  rw [show m (c, Proc.tc.devRef main_arg0) = e32 h from hh]
  refine (funext fun (j : S8320x2048.Idx) => ?_)
  obtain ⟨r, l, rfl⟩ : ∃ r l, j = ix2 r l := ⟨j 0, j 1, by funext a; fin_cases a <;> rfl⟩
  pointwise
  rfl

include hw in
/-- The region reads the weight's column tiles one after the other. -/
theorem entry_w : V m c (Pipeline.arrRef spec0 1) = e16 fun j : S8x2048x1408.Idx => w (ix3 0 (j 1) (col (j 0) (j 2))) := by
  entry_read
  rw [show m (c, Proc.tc.devRef main_arg1) = e32 w from hw]
  refine (funext fun (j : S8x2048x1408.Idx) => ?_)
  obtain ⟨n, k, l, rfl⟩ : ∃ n k l, j = ix3 n k l := ⟨j 0, j 1, j 2, by funext a; fin_cases a <;> rfl⟩
  pointwise
  rfl

/-- Where a row tile of the input lies. -/
theorem emb_0 (t : Fin cfg0.N) (p : Fin 640) (l : Fin 2048) :
    (win0_0.blk t).view.emb (ix2 p l : S640x2048.Idx) = (ix2 (row (rt t) p) l : S8320x2048.Idx) := by
  have e : ∀ t : Fin cfg0.N, win0_0.index t = ![t.val / 8, 0] := (by decide +kernel : ∀ t : Fin grid0.N, _)
  blk_ext [e t, row, rt]

/-- Where a column tile of the weight lies. -/
theorem emb_1 (t : Fin cfg0.N) (k : Fin 2048) (l : Fin 1408) :
    (win0_1.blk t).view.emb (ix3 0 k l : S1x2048x1408.Idx) = (ix3 (ct t) k l : S8x2048x1408.Idx) := by
  have e : ∀ t : Fin cfg0.N, win0_1.index t = ![t.val % 8, 0, 0] := (by decide +kernel : ∀ t : Fin grid0.N, _)
  blk_ext [e t, ct]

/-- Where a tile of the projection lies. -/
theorem emb_2 (t : Fin cfg0.N) (p : Fin 640) (l : Fin 1408) :
    (win0_2.blk t).view.emb (ix2 p l : S640x1408.Idx) = (ix2 (row (rt t) p) (col (ct t) l) : S8320x11264.Idx) := by
  have e : ∀ t : Fin cfg0.N, win0_2.index t = ![t.val / 8, t.val % 8] := (by decide +kernel : ∀ t : Fin grid0.N, _)
  blk_ext [e t, row, rt, col, ct]

/-- Where a tile of the narrow copy lies. -/
theorem emb_3 (t : Fin cfg0.N) (p : Fin 640) (l : Fin 1408) :
    (win0_3.blk t).view.emb (ix2 p l : S640x1408.Idx) = (ix2 (row (rt t) p) (col (ct t) l) : S8320x11264.Idx) := by
  have e : ∀ t : Fin cfg0.N, win0_3.index t = ![t.val / 8, t.val % 8] := (by decide +kernel : ∀ t : Fin grid0.N, _)
  blk_ext [e t, row, rt, col, ct]

include hh in
/-- A row tile of the input. -/
theorem blk_h (t : Fin cfg0.N) : iblk m c 0 t = e16 fun j : S640x2048.Idx => h (ix3 0 (row (rt t) (j 0)) (j 1)) := by
  unfold iblk
  rw [entry_h m c h hh]
  funext j
  change S640x2048.Idx at j
  obtain ⟨p, l, rfl⟩ : ∃ p l, j = ix2 p l := ⟨j 0, j 1, by funext a; fin_cases a <;> rfl⟩
  exact congrArg (e16 fun j : S8320x2048.Idx => h (ix3 0 (j 0) (j 1))) (emb_0 t p l)

include hw in
/-- A column tile of the weight. -/
theorem blk_w (t : Fin cfg0.N) : iblk m c 1 t = e16 fun j : S1x2048x1408.Idx => w (ix3 0 (j 1) (col (ct t) (j 2))) := by
  unfold iblk
  rw [entry_w m c w hw]
  funext j
  change S1x2048x1408.Idx at j
  obtain ⟨z, k, l, rfl⟩ : ∃ z k l, j = ix3 z k l := ⟨j 0, j 1, j 2, by funext a; fin_cases a <;> rfl⟩
  obtain rfl : z = 0 := Subsingleton.elim _ _
  exact congrArg (e16 fun j : S8x2048x1408.Idx => w (ix3 0 (j 1) (col (j 0) (j 2)))) (emb_1 t k l)

/-- An entry of the projection. -/
def out (r : Fin 8320) (l : Fin 11264) : EReal := ∑ k : Fin 2048, h (ix3 0 r k) * w (ix3 0 k l)

include hh hw in
/-- The projection, whole. -/
theorem arr_out : (dats m 0 c).arrAt 2 cfg0.N = e32 fun j : S8320x11264.Idx => out h w (j 0) (j 1) := by
  refine (dats m 0 c).arrAt_eq_of_covers 2 _ (by decide +kernel) fun t hf j => ?_
  change S640x1408.Idx at j
  obtain ⟨p, l, rfl⟩ : ∃ p l, j = ix2 p l := ⟨j 0, j 1, by funext a; fin_cases a <;> rfl⟩
  rw [after0_2]
  unfold out0_2
  frame_out
  rw [blk_h m c h hh t, blk_w m c w hw t]
  refine (pay1_at _ _ p l).trans ?_
  show (e32 fun j : S8320x11264.Idx => out h w (j 0) (j 1)) (ix2 (row (rt t) p) (col (ct t) l) : S8320x11264.Idx) = _
  exact congrArg (e32 fun j : S8320x11264.Idx => out h w (j 0) (j 1)) (emb_2 t p l).symm

include hh hw in
/-- The narrow copy, whole. -/
theorem arr_copy : (dats m 0 c).arrAt 3 cfg0.N = e16 fun j : S8320x11264.Idx => out h w (j 0) (j 1) := by
  refine (dats m 0 c).arrAt_eq_of_covers 3 _ (by decide +kernel) fun t hf j => ?_
  change S640x1408.Idx at j
  obtain ⟨p, l, rfl⟩ : ∃ p l, j = ix2 p l := ⟨j 0, j 1, by funext a; fin_cases a <;> rfl⟩
  rw [after0_3]
  unfold out0_3
  frame_out
  rw [blk_h m c h hh t, blk_w m c w hw t]
  refine (pay2_at _ _ p l).trans ?_
  show (e16 fun j : S8320x11264.Idx => out h w (j 0) (j 1)) (ix2 (row (rt t) p) (col (ct t) l) : S8320x11264.Idx) = _
  exact congrArg (e16 fun j : S8320x11264.Idx => out h w (j 0) (j 1)) (emb_3 t p l).symm
end

/-- The reference's projection. -/
theorem ref_out (h : S1x8320x2048.Idx → EReal) (w : S1x2048x11264.Idx → EReal) :
    Host.dotGeneral (F := Ideal) ReferenceInpIdeal.dot_S1x8320x2048_S2048x11264_S1x8320x11264_2_0_01_1_n_n none (e32 h) (shapeCast _ (e32 w) ReferenceInpIdeal.Gen.shapeCasts_S1x2048x11264_S2048x11264)
    = e32 fun j : ReferenceInpIdeal.S1x8320x11264.Idx => out h w (j 1) (j 2) := by
  funext j
  obtain ⟨z, r, l, rfl⟩ : ∃ z r l, j = (ix3 z r l : ReferenceInpIdeal.S1x8320x11264.Idx) := ⟨j 0, j 1, j 2, by funext a; fin_cases a <;> rfl⟩
  obtain rfl : z = 0 := Subsingleton.elim _ _
  pointwise
  rfl

set_option maxRecDepth 65536 in
set_option maxHeartbeats 4000000 in
/-- The two programs leave the same projection and the same narrow copy at every argument. -/
theorem algebraic_inp : algebraic_KernelInpIdeal_ReferenceInpIdeal := by
  intro m ρ m' ρ' _ hagree
  refine ⟨_, _, KernelInpIdeal.Value.run_blocks (F := Ideal) m ρ, ?_⟩
  refine (θ_run ReferenceInpIdeal.defs _ _).mono (fun _ run c => ?_) (ReferenceInpIdeal.Value.run (F := Ideal) m' ρ')
  obtain ⟨e0, e1⟩ := hagree c
  obtain ⟨h, hh⟩ : ∃ x : S1x8320x2048.Idx → EReal, m ((c : Thread nD τ).loc main_arg0) = e32 x := ⟨m ((c : Thread nD τ).loc main_arg0), rfl⟩
  obtain ⟨w, hw⟩ : ∃ x : S1x2048x11264.Idx → EReal, m ((c : Thread nD τ).loc main_arg1) = e32 x := ⟨m ((c : Thread nD τ).loc main_arg1), rfl⟩
  refine ⟨(run c).1.trans ?_, (run c).2.1.trans ?_, (run c).2.2⟩
  · refine Eq.trans ?_ (arr_out m c h w hh hw).symm
    rw [e0.trans hh, e1.trans hw, ref_out]
    refine congrArg e32 (funext fun j => ?_)
    obtain ⟨r, l, rfl⟩ : ∃ r l, j = (ix2 r l : S8320x11264.Idx) := ⟨j 0, j 1, by funext a; fin_cases a <;> rfl⟩
    pointwise
    rfl
  · refine Eq.trans ?_ (arr_copy m c h w hh hw).symm
    rw [e0.trans hh, e1.trans hw, ref_out]
    refine congrArg e16 (funext fun j => ?_)
    obtain ⟨r, l, rfl⟩ : ∃ r l, j = (ix2 r l : S8320x11264.Idx) := ⟨j 0, j 1, by funext a; fin_cases a <;> rfl⟩
    pointwise
    rfl

end Cert.Proof.Inp

end
-- ==== Proof.Gin.lean ====
/- The cotangent of the mixer's input, the residual's share and the product with the weight's columns, over the extended reals. -/
module

public import proofs.«01_k».proof.Defs
public import proofs.«01_k».proof.Proof.Gen.KernelGin.Frame
public import proofs.«01_k».proof.Proof.Gen.KernelGinIdeal.Value
public import proofs.«01_k».proof.Proof.Gen.ReferenceGinIdeal.Run
public import Idealize.ShloMosaic.Lib.Pipeline.ValueKit
public import Idealize.ShloMosaic.Lib.Pipeline.ReadBack

@[expose] public section

noncomputable section

namespace Cert.Proof.Gin

open Idealize.ShloMosaic Idealize.SL.Sem Idealize.ShloMosaic.TcCoe
open Cert.KernelGinIdeal Cert.KernelGinIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The accumulator starts at zero. -/
theorem pay1_at (j : S640x2048.Idx) : k0_pay1 (F := Ideal) j = 0 := by
  unfold k0_pay1
  pointwise

/-- A step adds the products of two column tiles. -/
theorem pay2_at (a : S640x2048.Idx → EReal) (x y : S640x1408.Idx → EReal) (u v : S1x2048x1408.Idx → EReal) (p : Fin 640) (l : Fin 2048) :
    k0_pay2 (F := Ideal) (e32 a) (e16 x) (e16 u) (e16 y) (e16 v) (ix2 p l)
      = a (ix2 p l) + (∑ q : Fin 1408, x (ix2 p q) * u (ix3 0 l q) + ∑ q : Fin 1408, y (ix2 p q) * v (ix3 0 l q)) := by
  unfold k0_pay2
  pointwise

/-- The last step's store adds the residual's share to the accumulator. -/
theorem pay3_at (a r : S640x2048.Idx → EReal) (j : S640x2048.Idx) :
    k0_pay3 (F := Ideal) (e32 a) (e32 r) j = Ideal.ofBits .f32 0x3F9837F0#32 * r j + a j := by
  unfold k0_pay3
  obtain ⟨p, l, rfl⟩ : ∃ p l, j = ix2 p l := ⟨j 0, j 1, by funext a; fin_cases a <;> rfl⟩
  pointwise

section
variable (m : (ℓ : Loc nD τ sig) → Buf (Elt Ideal) ℓ) (c : Dev nD) (w : S1x2048x11264.Idx → EReal) (d : S1x8320x11264.Idx → EReal) (r : S1x8320x2048.Idx → EReal)
variable (hw : m ((c : Thread nD τ).loc main_arg0) = e32 w) (hd : m ((c : Thread nD τ).loc main_arg1) = e32 d) (hr : m ((c : Thread nD τ).loc main_arg2) = e32 r)

/-- The row tile of a grid point. -/
def rt (t : Fin cfg0.N) : Fin 13 := ⟨t.val / 4, by have : t.val < 52 := t.isLt; omega⟩
/-- The pair of column tiles of a grid point. -/
def kt (t : Fin cfg0.N) : Fin 4 := ⟨t.val % 4, Nat.mod_lt _ (by decide)⟩
/-- Row `p` of row tile `s`. -/
def row (s : Fin 13) (p : Fin 640) : Fin 8320 := ⟨s.val * 640 + p.val, by omega⟩
/-- Column `q` of column tile `n`. -/
def col (n : Fin 8) (q : Fin 1408) : Fin 11264 := ⟨n.val * 1408 + q.val, by omega⟩
/-- Column `q` of pair `s` of column tiles. -/
def wide (s : Fin 4) (q : Fin 2816) : Fin 11264 := ⟨s.val * 2816 + q.val, by omega⟩
/-- A tile of a pair of column tiles. -/
def tileOf (s : Fin 4) (e : Fin 2) : Fin 8 := ⟨s.val * 2 + e.val, by omega⟩

include hd in
/-- The rows the region reads are the cotangent's. -/
theorem entry_d : V m c (Pipeline.arrRef spec0 0) = e16 fun j : S8320x11264.Idx => d (ix3 0 (j 0) (j 1)) := by
  entry_read
  rw [show m (c, Proc.tc.devRef main_arg1) = e32 d from hd]
  refine (funext fun (j : S8320x11264.Idx) => ?_)
  obtain ⟨r, l, rfl⟩ : ∃ r l, j = ix2 r l := ⟨j 0, j 1, by funext a; fin_cases a <;> rfl⟩
  pointwise
  rfl

include hw in
/-- The region reads the weight's column tiles one after the other. -/
theorem entry_w : V m c (Pipeline.arrRef spec0 1) = e16 fun j : S8x2048x1408.Idx => w (ix3 0 (j 1) (col (j 0) (j 2))) := by
  entry_read
  rw [show m (c, Proc.tc.devRef main_arg0) = e32 w from hw]
  refine (funext fun (j : S8x2048x1408.Idx) => ?_)
  obtain ⟨n, k, l, rfl⟩ : ∃ n k l, j = ix3 n k l := ⟨j 0, j 1, j 2, by funext a; fin_cases a <;> rfl⟩
  pointwise
  rfl

include hr in
/-- The residual's cotangent as the region reads it. -/
theorem entry_r : V m c (Pipeline.arrRef spec0 2) = e32 fun j : S8320x2048.Idx => r (ix3 0 (j 0) (j 1)) := by
  entry_read
  rw [show m (c, Proc.tc.devRef main_arg2) = e32 r from hr]
  refine (funext fun (j : S8320x2048.Idx) => ?_)
  obtain ⟨r, l, rfl⟩ : ∃ r l, j = ix2 r l := ⟨j 0, j 1, by funext a; fin_cases a <;> rfl⟩
  pointwise
  rfl

/-- Where a tile of the cotangent lies. -/
theorem emb_0 (t : Fin cfg0.N) (p : Fin 640) (q : Fin 2816) :
    (win0_0.blk t).view.emb (ix2 p q : S640x2816.Idx) = (ix2 (row (rt t) p) (wide (kt t) q) : S8320x11264.Idx) := by
  have e : ∀ t : Fin cfg0.N, win0_0.index t = ![t.val / 4, t.val % 4] := (by decide +kernel : ∀ t : Fin grid0.N, _)
  blk_ext [e t, row, rt, wide, kt]

/-- Where a pair of the weight's column tiles lies. -/
theorem emb_1 (t : Fin cfg0.N) (e : Fin 2) (k : Fin 2048) (l : Fin 1408) :
    (win0_1.blk t).view.emb (ix3 e k l : S2x2048x1408.Idx) = (ix3 (tileOf (kt t) e) k l : S8x2048x1408.Idx) := by
  have e : ∀ t : Fin cfg0.N, win0_1.index t = ![t.val % 4, 0, 0] := (by decide +kernel : ∀ t : Fin grid0.N, _)
  blk_ext [e t, tileOf, kt]

/-- Where a row tile of the residual's cotangent lies. -/
theorem emb_2 (t : Fin cfg0.N) (p : Fin 640) (l : Fin 2048) :
    (win0_2.blk t).view.emb (ix2 p l : S640x2048.Idx) = (ix2 (row (rt t) p) l : S8320x2048.Idx) := by
  have e : ∀ t : Fin cfg0.N, win0_2.index t = ![t.val / 4, 0] := (by decide +kernel : ∀ t : Fin grid0.N, _)
  blk_ext [e t, row, rt]

/-- Where a row tile of the result lies. -/
theorem emb_3 (t : Fin cfg0.N) (p : Fin 640) (l : Fin 2048) :
    (win0_3.blk t).view.emb (ix2 p l : S640x2048.Idx) = (ix2 (row (rt t) p) l : S8320x2048.Idx) := by
  have e : ∀ t : Fin cfg0.N, win0_3.index t = ![t.val / 4, 0] := (by decide +kernel : ∀ t : Fin grid0.N, _)
  blk_ext [e t, row, rt]

include hd in
/-- A tile of the cotangent. -/
theorem blk_d (t : Fin cfg0.N) : iblk m c 0 t = e16 fun j : S640x2816.Idx => d (ix3 0 (row (rt t) (j 0)) (wide (kt t) (j 1))) := by
  unfold iblk
  rw [entry_d m c d hd]
  funext j
  change S640x2816.Idx at j
  obtain ⟨p, l, rfl⟩ : ∃ p l, j = ix2 p l := ⟨j 0, j 1, by funext a; fin_cases a <;> rfl⟩
  exact congrArg (e16 fun j : S8320x11264.Idx => d (ix3 0 (j 0) (j 1))) (emb_0 t p l)

include hw in
/-- A pair of the weight's column tiles. -/
theorem blk_w (t : Fin cfg0.N) : iblk m c 1 t = e16 fun j : S2x2048x1408.Idx => w (ix3 0 (j 1) (col (tileOf (kt t) (j 0)) (j 2))) := by
  unfold iblk
  rw [entry_w m c w hw]
  funext j
  change S2x2048x1408.Idx at j
  obtain ⟨z, k, l, rfl⟩ : ∃ z k l, j = ix3 z k l := ⟨j 0, j 1, j 2, by funext a; fin_cases a <;> rfl⟩
  exact congrArg (e16 fun j : S8x2048x1408.Idx => w (ix3 0 (j 1) (col (j 0) (j 2)))) (emb_1 t z k l)

include hr in
/-- A row tile of the residual's cotangent. -/
theorem blk_r (t : Fin cfg0.N) : iblk m c 2 t = e32 fun j : S640x2048.Idx => r (ix3 0 (row (rt t) (j 0)) (j 1)) := by
  unfold iblk
  rw [entry_r m c r hr]
  funext j
  change S640x2048.Idx at j
  obtain ⟨p, l, rfl⟩ : ∃ p l, j = ix2 p l := ⟨j 0, j 1, by funext a; fin_cases a <;> rfl⟩
  exact congrArg (e32 fun j : S8320x2048.Idx => r (ix3 0 (j 0) (j 1))) (emb_2 t p l)

/-- One column tile's product. -/
def part (n : Fin 8) (p : Fin 8320) (l : Fin 2048) : EReal := ∑ q : Fin 1408, d (ix3 0 p (col n q)) * w (ix3 0 l (col n q))

/-- The products of a pair of column tiles. -/
def pair (s : Fin 4) (p : Fin 8320) (l : Fin 2048) : EReal := part w d (tileOf s 0) p l + part w d (tileOf s 1) p l

/-- The first half of a tile of the cotangent. -/
def left (x : S640x2816.Idx → EReal) : FVec Ideal S640x1408 .bf16 := fun j => x ((Rect.unit (s := S640x2816) ![0, 0] S640x1408.size inb_S640x2816_S640x1408_0_0).idx j)

/-- The second half of a tile of the cotangent. -/
def right (x : S640x2816.Idx → EReal) : FVec Ideal S640x1408 .bf16 := fun j => x ((Rect.unit (s := S640x2816) ![0, 1408] S640x1408.size inb_S640x2816_S640x1408_0_1408).idx j)

/-- The first of a pair of the weight's column tiles. -/
def first (x : S2x2048x1408.Idx → EReal) : FVec Ideal S1x2048x1408 .bf16 := fun j => x ((Rect.unit (s := S2x2048x1408) ![0, 0, 0] S1x2048x1408.size inb_S2x2048x1408_S1x2048x1408_0_0_0).idx j)

/-- The second of a pair of the weight's column tiles. -/
def second (x : S2x2048x1408.Idx → EReal) : FVec Ideal S1x2048x1408 .bf16 := fun j => x ((Rect.unit (s := S2x2048x1408) ![1, 0, 0] S1x2048x1408.size inb_S2x2048x1408_S1x2048x1408_1_0_0).idx j)

/-- A step's payload at an entry: the products of the point's two column tiles added. -/
theorem step (t : Fin cfg0.N) (a : S640x2048.Idx → EReal) (p : Fin 640) (l : Fin 2048) :
    k0_pay2 (F := Ideal) (e32 a)
      (left fun j : S640x2816.Idx => d (ix3 0 (row (rt t) (j 0)) (wide (kt t) (j 1))))
      (first fun j : S2x2048x1408.Idx => w (ix3 0 (j 1) (col (tileOf (kt t) (j 0)) (j 2))))
      (right fun j : S640x2816.Idx => d (ix3 0 (row (rt t) (j 0)) (wide (kt t) (j 1))))
      (second fun j : S2x2048x1408.Idx => w (ix3 0 (j 1) (col (tileOf (kt t) (j 0)) (j 2))))
      (ix2 p l) = a (ix2 p l) + pair w d (kt t) (row (rt t) p) l := by
  refine (pay2_at _ _ _ _ _ p l).trans (congrArg (a (ix2 p l) + ·) (congrArg₂ (· + ·) ?_ ?_))
  · refine Finset.sum_congr rfl fun q _ => congrArg₂ (· * ·) (congrArg d ?_) (congrArg w ?_)
    · refine congrArg₂ (ix3 0) (congrArg (row (rt t)) (Fin.ext ?_)) (Fin.ext ?_)
      · show 0 + 1 * p.val = p.val
        omega
      · show (kt t).val * 2816 + (0 + 1 * q.val) = ((kt t).val * 2 + 0) * 1408 + q.val
        omega
    · refine congrArg₂ (ix3 0) (Fin.ext ?_) (Fin.ext ?_)
      · show 0 + 1 * l.val = l.val
        omega
      · show ((kt t).val * 2 + (0 + 1 * 0)) * 1408 + (0 + 1 * q.val) = ((kt t).val * 2 + 0) * 1408 + q.val
        omega
  · refine Finset.sum_congr rfl fun q _ => congrArg₂ (· * ·) (congrArg d ?_) (congrArg w ?_)
    · refine congrArg₂ (ix3 0) (congrArg (row (rt t)) (Fin.ext ?_)) (Fin.ext ?_)
      · show 0 + 1 * p.val = p.val
        omega
      · show (kt t).val * 2816 + (1408 + 1 * q.val) = ((kt t).val * 2 + 1) * 1408 + q.val
        omega
    · refine congrArg₂ (ix3 0) (Fin.ext ?_) (Fin.ext ?_)
      · show 0 + 1 * l.val = l.val
        omega
      · show ((kt t).val * 2 + (1 + 1 * 0)) * 1408 + (0 + 1 * q.val) = ((kt t).val * 2 + 1) * 1408 + q.val
        omega

include hw hd in
/-- After the last pair of a row tile: the sum over the pairs. -/
theorem acc_last (t : Fin cfg0.N) (ht : t.val % 4 = 3) (j : S640x2048.Idx) :
    (outsAt0 m c t.val t.isLt).2 j = 0 + ∑ s : Fin 4, pair w d s (row (rt t) (j 0)) (j 1) := by
  refine (Pipeline.eq_sum_fin_of_reset_step_apply_of_flush (fun n h => (outsAt0 m c n h).2) 4 (fun _ => 0)
    (fun t j => pair w d (kt t) (row (rt t) (j 0)) (j 1)) (fun t h0 j => ?_) (fun t h0 j => ?_) t ht j).trans ?_
  · rw [outsAt0_A m c t h0 (by omega)]
    frame_out
    rw [blk_w m c w hw, blk_d m c d hd]
    obtain ⟨p, l, rfl⟩ : ∃ p l, j = ix2 p l := ⟨j 0, j 1, by funext a; fin_cases a <;> rfl⟩
    refine (step w d t _ p l).trans ?_
    rw [pay1_at]
    rfl
  · obtain ⟨p, l, rfl⟩ : ∃ p l, j = ix2 p l := ⟨j 0, j 1, by funext a; fin_cases a <;> rfl⟩
    by_cases h1 : t.val % 4 = 3
    · rw [outsAt0_C m c t h0 h1]
      frame_out
      rw [blk_w m c w hw, blk_d m c d hd, read_unread_whole]
      exact step w d t _ p l
    · rw [outsAt0_B m c t h0 h1]
      frame_out
      rw [blk_w m c w hw, blk_d m c d hd, read_unread_whole]
      exact step w d t _ p l
  · refine congrArg (0 + ·) (Finset.sum_congr rfl fun s _ => ?_)
    have e1 : kt ⟨4 * (t.val / 4) + s.val, by have : t.val < 52 := t.isLt; show _ < 52; omega⟩ = s := Fin.ext (by show (4 * (t.val / 4) + s.val) % 4 = s.val; omega)
    have e2 : rt ⟨4 * (t.val / 4) + s.val, by have : t.val < 52 := t.isLt; show _ < 52; omega⟩ = rt t := Fin.ext (by show (4 * (t.val / 4) + s.val) / 4 = t.val / 4; omega)
    exact congrArg₂ (fun s n => pair w d s (row n (j 0)) (j 1)) e1 e2

include hr in
/-- At the last pair the output is the residual's share with the accumulator. -/
theorem out_last (t : Fin cfg0.N) (ht : t.val % 4 = 3) :
    (outsAt0 m c t.val t.isLt).1 = k0_pay3 (F := Ideal) (outsAt0 m c t.val t.isLt).2 (e32 fun j : S640x2048.Idx => r (ix3 0 (row (rt t) (j 0)) (j 1))) := by
  rw [outsAt0_C m c t (by omega) ht]
  frame_out
  rw [blk_r m c r hr]

/-- An entry of the product, all columns summed. -/
def prod (p : Fin 8320) (l : Fin 2048) : EReal := ∑ k : Fin 11264, d (ix3 0 p k) * w (ix3 0 l k)

/-- The pairs of column tiles run through the columns. -/
theorem sum_pairs (p : Fin 8320) (l : Fin 2048) : ∑ s : Fin 4, pair w d s p l = prod w d p l := by
  have h : ∑ n : Fin 8, part w d n p l = prod w d p l := by
    unfold part prod
    exact Fin.sum_mul_add_congr (M := EReal) (S := 8) (n := 1408)
      (f := fun k : Fin 11264 => d (ix3 0 p k) * w (ix3 0 l k)) fun s k hl => rfl
  refine (Finset.sum_congr rfl fun s _ => (Fin.sum_univ_two fun e => part w d (tileOf s e) p l).symm).trans (Eq.trans ?_ h)
  exact Fin.sum_mul_add_congr (M := EReal) (S := 4) (n := 2) (f := fun n : Fin 8 => part w d n p l) fun s e hl => rfl

/-- An entry of the cotangent. -/
def out (p : Fin 8320) (l : Fin 2048) : EReal := Ideal.ofBits .f32 0x3F9837F0#32 * r (ix3 0 p l) + prod w d p l

include hw hd hr in
/-- The cotangent, whole. -/
theorem arr_out : (dats m 0 c).arrAt 3 cfg0.N = e32 fun j : S8320x2048.Idx => out w d r (j 0) (j 1) := by
  refine (dats m 0 c).arrAt_eq_of_covers 3 _ (by decide +kernel) fun t hf j => ?_
  change S640x2048.Idx at j
  have ht : t.val % 4 = 3 := (by decide +kernel : ∀ t : Fin grid0.N, win0_3.flush t = true → t.val % 4 = 3) t hf
  obtain ⟨p, l, rfl⟩ : ∃ p l, j = ix2 p l := ⟨j 0, j 1, by funext a; fin_cases a <;> rfl⟩
  rw [after0_3, out_last m c r hr t ht]
  refine (pay3_at _ _ (ix2 p l)).trans ?_
  rw [acc_last m c w d hw hd t ht, zero_add]
  refine (congrArg (Ideal.ofBits .f32 0x3F9837F0#32 * r (ix3 0 (row (rt t) p) l) + ·) (sum_pairs w d (row (rt t) p) l)).trans ?_
  show (e32 fun j : S8320x2048.Idx => out w d r (j 0) (j 1)) (ix2 (row (rt t) p) l : S8320x2048.Idx) = _
  exact congrArg (e32 fun j : S8320x2048.Idx => out w d r (j 0) (j 1)) (emb_3 t p l).symm
end

/-- The reference's product. -/
theorem ref_prod (w : S1x2048x11264.Idx → EReal) (d : S1x8320x11264.Idx → EReal) :
    Host.dotGeneral (F := Ideal) ReferenceGinIdeal.dot_S1x8320x11264_S2048x11264_S1x8320x2048_2_1_01_0_n_n none (e32 d) (shapeCast _ (e32 w) ReferenceGinIdeal.Gen.shapeCasts_S1x2048x11264_S2048x11264)
    = e32 fun j : ReferenceGinIdeal.S1x8320x2048.Idx => prod w d (j 1) (j 2) := by
  funext j
  obtain ⟨z, r, l, rfl⟩ : ∃ z r l, j = (ix3 z r l : ReferenceGinIdeal.S1x8320x2048.Idx) := ⟨j 0, j 1, j 2, by funext a; fin_cases a <;> rfl⟩
  obtain rfl : z = 0 := Subsingleton.elim _ _
  pointwise
  rfl

set_option maxRecDepth 65536 in
set_option maxHeartbeats 4000000 in
/-- The two programs leave the same cotangent at every argument. -/
theorem algebraic_gin : algebraic_KernelGinIdeal_ReferenceGinIdeal := by
  intro m ρ m' ρ' _ hagree
  refine ⟨_, KernelGinIdeal.Value.run_blocks (F := Ideal) m ρ, ?_⟩
  refine (θ_run ReferenceGinIdeal.defs _ _).mono (fun _ run c => ?_) (ReferenceGinIdeal.Value.run (F := Ideal) m' ρ')
  obtain ⟨e0, e1, e2⟩ := hagree c
  obtain ⟨w, hw⟩ : ∃ x : S1x2048x11264.Idx → EReal, m ((c : Thread nD τ).loc main_arg0) = e32 x := ⟨m ((c : Thread nD τ).loc main_arg0), rfl⟩
  obtain ⟨d, hd⟩ : ∃ x : S1x8320x11264.Idx → EReal, m ((c : Thread nD τ).loc main_arg1) = e32 x := ⟨m ((c : Thread nD τ).loc main_arg1), rfl⟩
  obtain ⟨r, hr⟩ : ∃ x : S1x8320x2048.Idx → EReal, m ((c : Thread nD τ).loc main_arg2) = e32 x := ⟨m ((c : Thread nD τ).loc main_arg2), rfl⟩
  refine ⟨(run c).1.trans ?_, (run c).2⟩
  refine Eq.trans ?_ (arr_out m c w d r hw hd hr).symm
  rw [e0.trans hw, e1.trans hd, e2.trans hr, ref_prod]
  refine congrArg e32 (funext fun j => ?_)
  obtain ⟨p, l, rfl⟩ : ∃ p l, j = (ix2 p l : S8320x2048.Idx) := ⟨j 0, j 1, by funext a; fin_cases a <;> rfl⟩
  pointwise
  exact add_comm _ _

end Cert.Proof.Gin

end
-- ==== Proof.Giw.lean ====
/- The cotangent of a mixer's output projection, the product of the cotangent with the weight's rows, over the extended reals. -/
module

public import proofs.«01_k».proof.Defs
public import proofs.«01_k».proof.Proof.Gen.KernelGiw.Frame
public import proofs.«01_k».proof.Proof.Gen.KernelGiwIdeal.Value
public import proofs.«01_k».proof.Proof.Gen.ReferenceGiwIdeal.Run
public import Idealize.ShloMosaic.Lib.Pipeline.ValueKit

@[expose] public section

noncomputable section

namespace Cert.Proof.Giw

open Idealize.ShloMosaic Idealize.SL.Sem Idealize.ShloMosaic.TcCoe
open Cert.KernelGiwIdeal Cert.KernelGiwIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- A tile's product, by rows of both factors. -/
theorem pay1_at (x : S640x2048.Idx → EReal) (w : S1024x2048.Idx → EReal) (p : Fin 640) (l : Fin 1024) :
    k0_pay1 (F := Ideal) (e16 x) (e16 w) (ix2 p l) = ∑ k : Fin 2048, x (ix2 p k) * w (ix2 l k) := by
  unfold k0_pay1
  pointwise

section
variable (m : (ℓ : Loc nD τ sig) → Buf (Elt Ideal) ℓ) (c : Dev nD) (w : S1x1024x2048.Idx → EReal) (d : S1x8320x2048.Idx → EReal)
variable (hw : m ((c : Thread nD τ).loc main_arg0) = e32 w) (hd : m ((c : Thread nD τ).loc main_arg1) = e32 d)

include hd in
/-- The rows the region reads are the cotangent's. -/
theorem entry_d : V m c (Pipeline.arrRef spec0 0) = e16 fun j : S8320x2048.Idx => d (ix3 0 (j 0) (j 1)) := by
  entry_read
  rw [show m (c, Proc.tc.devRef main_arg1) = e32 d from hd]
  refine (funext fun (j : S8320x2048.Idx) => ?_)
  obtain ⟨r, l, rfl⟩ : ∃ r l, j = ix2 r l := ⟨j 0, j 1, by funext a; fin_cases a <;> rfl⟩
  pointwise
  rfl

include hw in
/-- The matrix the region reads is the weight. -/
theorem entry_w : V m c (Pipeline.arrRef spec0 1) = e16 fun j : S1024x2048.Idx => w (ix3 0 (j 0) (j 1)) := by
  entry_read
  rw [show m (c, Proc.tc.devRef main_arg0) = e32 w from hw]
  refine (funext fun (j : S1024x2048.Idx) => ?_)
  obtain ⟨r, l, rfl⟩ : ∃ r l, j = ix2 r l := ⟨j 0, j 1, by funext a; fin_cases a <;> rfl⟩
  pointwise
  rfl

/-- Row `p` of tile `t`. -/
def at_ (t : Fin cfg0.N) (p : Fin 640) : Fin 8320 := ⟨t.val * 640 + p.val, by have : t.val < 13 := t.isLt; omega⟩

/-- Where a row tile of the cotangent lies. -/
theorem emb_0 (t : Fin cfg0.N) (p : Fin 640) (l : Fin 2048) :
    (win0_0.blk t).view.emb (ix2 p l : S640x2048.Idx) = (ix2 (at_ t p) l : S8320x2048.Idx) := by
  have e : ∀ t : Fin cfg0.N, win0_0.index t = ![t.val, 0] := (by decide +kernel : ∀ t : Fin grid0.N, _)
  blk_ext [e t, at_]

/-- The weight is one block. -/
theorem emb_1 (t : Fin cfg0.N) (k : Fin 1024) (l : Fin 2048) :
    (win0_1.blk t).view.emb (ix2 k l : S1024x2048.Idx) = (ix2 k l : S1024x2048.Idx) := by
  have e : ∀ t : Fin cfg0.N, win0_1.index t = ![0, 0] := (by decide +kernel : ∀ t : Fin grid0.N, _)
  blk_ext [e t]

/-- Where a row tile of the result lies. -/
theorem emb_2 (t : Fin cfg0.N) (p : Fin 640) (l : Fin 1024) :
    (win0_2.blk t).view.emb (ix2 p l : S640x1024.Idx) = (ix2 (at_ t p) l : S8320x1024.Idx) := by
  have e : ∀ t : Fin cfg0.N, win0_2.index t = ![t.val, 0] := (by decide +kernel : ∀ t : Fin grid0.N, _)
  blk_ext [e t, at_]

include hd in
/-- A tile of the cotangent. -/
theorem blk_d (t : Fin cfg0.N) : iblk m c 0 t = e16 fun j : S640x2048.Idx => d (ix3 0 (at_ t (j 0)) (j 1)) := by
  unfold iblk
  rw [entry_d m c d hd]
  funext j
  change S640x2048.Idx at j
  obtain ⟨p, l, rfl⟩ : ∃ p l, j = ix2 p l := ⟨j 0, j 1, by funext a; fin_cases a <;> rfl⟩
  exact congrArg (e16 fun j : S8320x2048.Idx => d (ix3 0 (j 0) (j 1))) (emb_0 t p l)

include hw in
/-- The weight, at every step the same. -/
theorem blk_w (t : Fin cfg0.N) : iblk m c 1 t = e16 fun j : S1024x2048.Idx => w (ix3 0 (j 0) (j 1)) := by
  unfold iblk
  rw [entry_w m c w hw]
  funext j
  change S1024x2048.Idx at j
  obtain ⟨p, l, rfl⟩ : ∃ p l, j = ix2 p l := ⟨j 0, j 1, by funext a; fin_cases a <;> rfl⟩
  exact congrArg (e16 fun j : S1024x2048.Idx => w (ix3 0 (j 0) (j 1))) (emb_1 t p l)

/-- An entry of the product. -/
def out (r : Fin 8320) (l : Fin 1024) : EReal := ∑ k : Fin 2048, d (ix3 0 r k) * w (ix3 0 l k)

include hw hd in
/-- The product, whole. -/
theorem arr_out : (dats m 0 c).arrAt 2 cfg0.N = e32 fun j : S8320x1024.Idx => out w d (j 0) (j 1) := by
  refine (dats m 0 c).arrAt_eq_of_covers 2 _ (by decide +kernel) fun t hf j => ?_
  change S640x1024.Idx at j
  obtain ⟨p, l, rfl⟩ : ∃ p l, j = ix2 p l := ⟨j 0, j 1, by funext a; fin_cases a <;> rfl⟩
  rw [after0_2]
  unfold out0_2
  frame_out
  rw [blk_d m c d hd t, blk_w m c w hw t]
  refine (pay1_at _ _ p l).trans ?_
  show (e32 fun j : S8320x1024.Idx => out w d (j 0) (j 1)) (ix2 (at_ t p) l : S8320x1024.Idx) = _
  exact congrArg (e32 fun j : S8320x1024.Idx => out w d (j 0) (j 1)) (emb_2 t p l).symm
end

/-- The reference's product. -/
theorem ref_out (w : S1x1024x2048.Idx → EReal) (d : S1x8320x2048.Idx → EReal) :
    Host.dotGeneral (F := Ideal) ReferenceGiwIdeal.dot_S1x8320x2048_S1024x2048_S1x8320x1024_2_1_01_0_n_n none (e32 d) (shapeCast _ (e32 w) ReferenceGiwIdeal.Gen.shapeCasts_S1x1024x2048_S1024x2048)
    = e32 fun j : ReferenceGiwIdeal.S1x8320x1024.Idx => out w d (j 1) (j 2) := by
  funext j
  obtain ⟨z, r, l, rfl⟩ : ∃ z r l, j = (ix3 z r l : ReferenceGiwIdeal.S1x8320x1024.Idx) := ⟨j 0, j 1, j 2, by funext a; fin_cases a <;> rfl⟩
  obtain rfl : z = 0 := Subsingleton.elim _ _
  pointwise
  rfl

set_option maxRecDepth 65536 in
set_option maxHeartbeats 4000000 in
/-- The two programs leave the same cotangent at every argument. -/
theorem algebraic_giw : algebraic_KernelGiwIdeal_ReferenceGiwIdeal := by
  intro m ρ m' ρ' _ hagree
  refine ⟨_, KernelGiwIdeal.Value.run_blocks (F := Ideal) m ρ, ?_⟩
  refine (θ_run ReferenceGiwIdeal.defs _ _).mono (fun _ run c => ?_) (ReferenceGiwIdeal.Value.run (F := Ideal) m' ρ')
  obtain ⟨e0, e1⟩ := hagree c
  obtain ⟨w, hw⟩ : ∃ x : S1x1024x2048.Idx → EReal, m ((c : Thread nD τ).loc main_arg0) = e32 x := ⟨m ((c : Thread nD τ).loc main_arg0), rfl⟩
  obtain ⟨d, hd⟩ : ∃ x : S1x8320x2048.Idx → EReal, m ((c : Thread nD τ).loc main_arg1) = e32 x := ⟨m ((c : Thread nD τ).loc main_arg1), rfl⟩
  refine ⟨(run c).1.trans ?_, (run c).2⟩
  refine Eq.trans ?_ (arr_out m c w d hw hd).symm
  rw [e0.trans hw, e1.trans hd, ref_out]
  refine congrArg e32 (funext fun j => ?_)
  obtain ⟨r, l, rfl⟩ : ∃ r l, j = (ix2 r l : S8320x1024.Idx) := ⟨j 0, j 1, by funext a; fin_cases a <;> rfl⟩
  pointwise
  rfl

end Cert.Proof.Giw

end
-- ==== Proof.Fdh.lean ====
/- The gradient of a feed-forward layer's input, the residual's share and the products with both weights' columns, over the extended reals. -/
module

public import proofs.«01_k».proof.Defs
public import proofs.«01_k».proof.Proof.Gen.KernelFdh.Frame
public import proofs.«01_k».proof.Proof.Gen.KernelFdhIdeal.Value
public import proofs.«01_k».proof.Proof.Gen.ReferenceFdhIdeal.Run
public import Idealize.ShloMosaic.Lib.Pipeline.ValueKit
public import Idealize.ShloMosaic.Lib.Pipeline.ReadBack

@[expose] public section

noncomputable section

namespace Cert.Proof.Fdh

open Idealize.ShloMosaic Idealize.SL.Sem Idealize.ShloMosaic.TcCoe
open Cert.KernelFdhIdeal Cert.KernelFdhIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The accumulator starts at zero. -/
theorem pay3_at (j : S640x2048.Idx) : k0_pay3 (F := Ideal) j = 0 := by
  unfold k0_pay3
  pointwise

/-- One block's product. -/
def dot (x : S1x640x704.Idx → EReal) (u : S1x2048x704.Idx → EReal) (p : Fin 640) (l : Fin 2048) : EReal :=
  ∑ q : Fin 704, x (ix3 0 p q) * u (ix3 0 l q)

/-- A step adds the products of two blocks with the one weight and of two with the other. -/
theorem pay1_at (a : S640x2048.Idx → EReal) (x x' y y' : S1x640x704.Idx → EReal) (u u' v v' : S1x2048x704.Idx → EReal) (p : Fin 640) (l : Fin 2048) :
    k0_pay1 (F := Ideal) (k0_pay4 (F := Ideal) (e32 a) (e16 x) (e16 u) (e16 x') (e16 u')) (k0_pay5 (F := Ideal) (e16 y) (e16 v)) (e16 y') (e16 v') (ix2 p l)
      = a (ix2 p l) + (dot x u p l + dot x' u' p l) + (dot y v p l + dot y' v' p l) := by
  unfold k0_pay1 k0_pay4 k0_pay5
  pointwise
  rfl

/-- The last step's store adds the residual's share to the accumulator. -/
theorem pay2_at (a r : S640x2048.Idx → EReal) (j : S640x2048.Idx) :
    k0_pay2 (F := Ideal) (e32 a) (e32 r) j = Ideal.ofBits .f32 0x3F9837F0#32 * r j + a j := by
  unfold k0_pay2
  obtain ⟨p, l, rfl⟩ : ∃ p l, j = ix2 p l := ⟨j 0, j 1, by funext a; fin_cases a <;> rfl⟩
  pointwise

/-- The row tile of a grid point. -/
def rt (t : Fin cfg0.N) : Fin 13 := ⟨t.val / 4, by have : t.val < 52 := t.isLt; omega⟩
/-- The pair of column tiles of a grid point. -/
def kt (t : Fin cfg0.N) : Fin 4 := ⟨t.val % 4, Nat.mod_lt _ (by decide)⟩
/-- Row `p` of row tile `s`. -/
def row (s : Fin 13) (p : Fin 640) : Fin 8320 := ⟨s.val * 640 + p.val, by omega⟩
/-- Column `q` of column tile `n`. -/
def col (n : Fin 8) (q : Fin 704) : Fin 5632 := ⟨n.val * 704 + q.val, by omega⟩
/-- A tile of a pair of column tiles. -/
def tileOf (s : Fin 4) (e : Fin 2) : Fin 8 := ⟨s.val * 2 + e.val, by omega⟩

/-- A cotangent's columns, block after block. -/
def blocksD (d : S1x8320x5632.Idx → EReal) : S8x8320x704.Idx → EReal := fun j => d (ix3 0 (j 1) (col (j 0) (j 2)))
/-- A weight's columns, block after block. -/
def blocksW (w : S1x2048x5632.Idx → EReal) : S8x2048x704.Idx → EReal := fun j => w (ix3 0 (j 1) (col (j 0) (j 2)))
/-- The blocks of a cotangent that a grid point works on. -/
def pairD (d : S1x8320x5632.Idx → EReal) (t : Fin cfg0.N) : S2x640x704.Idx → EReal := fun j => d (ix3 0 (row (rt t) (j 1)) (col (tileOf (kt t) (j 0)) (j 2)))
/-- The blocks of a weight that a grid point works on. -/
def pairW (w : S1x2048x5632.Idx → EReal) (t : Fin cfg0.N) : S2x2048x704.Idx → EReal := fun j => w (ix3 0 (j 1) (col (tileOf (kt t) (j 0)) (j 2)))

/-- The first block of a pair of a cotangent's. -/
def firstD (x : S2x640x704.Idx → EReal) : FVec Ideal S1x640x704 .bf16 := fun j => x ((Rect.unit (s := S2x640x704) ![0, 0, 0] S1x640x704.size inb_S2x640x704_S1x640x704_0_0_0).idx j)
/-- The second. -/
def secondD (x : S2x640x704.Idx → EReal) : FVec Ideal S1x640x704 .bf16 := fun j => x ((Rect.unit (s := S2x640x704) ![1, 0, 0] S1x640x704.size inb_S2x640x704_S1x640x704_1_0_0).idx j)
/-- The first block of a pair of a weight's. -/
def firstW (x : S2x2048x704.Idx → EReal) : FVec Ideal S1x2048x704 .bf16 := fun j => x ((Rect.unit (s := S2x2048x704) ![0, 0, 0] S1x2048x704.size inb_S2x2048x704_S1x2048x704_0_0_0).idx j)
/-- The second. -/
def secondW (x : S2x2048x704.Idx → EReal) : FVec Ideal S1x2048x704 .bf16 := fun j => x ((Rect.unit (s := S2x2048x704) ![1, 0, 0] S1x2048x704.size inb_S2x2048x704_S1x2048x704_1_0_0).idx j)

/-- One column tile's product. -/
def part (w : S1x2048x5632.Idx → EReal) (d : S1x8320x5632.Idx → EReal) (n : Fin 8) (p : Fin 8320) (l : Fin 2048) : EReal :=
  ∑ q : Fin 704, d (ix3 0 p (col n q)) * w (ix3 0 l (col n q))
/-- The products of a pair of column tiles. -/
def pair (w : S1x2048x5632.Idx → EReal) (d : S1x8320x5632.Idx → EReal) (s : Fin 4) (p : Fin 8320) (l : Fin 2048) : EReal :=
  part w d (tileOf s 0) p l + part w d (tileOf s 1) p l

/-- A grid point's pair of products. -/
theorem dot_pair (w : S1x2048x5632.Idx → EReal) (d : S1x8320x5632.Idx → EReal) (t : Fin cfg0.N) (p : Fin 640) (l : Fin 2048) :
    dot (firstD (pairD d t)) (firstW (pairW w t)) p l + dot (secondD (pairD d t)) (secondW (pairW w t)) p l = pair w d (kt t) (row (rt t) p) l := by
  refine congrArg₂ (· + ·) ?_ ?_
  · refine Finset.sum_congr rfl fun q _ => congrArg₂ (· * ·) (congrArg d ?_) (congrArg w ?_)
    · refine congrArg₂ (ix3 0) (congrArg (row (rt t)) (Fin.ext ?_)) (Fin.ext ?_)
      · show 0 + 1 * p.val = p.val
        omega
      · show ((kt t).val * 2 + (0 + 1 * 0)) * 704 + (0 + 1 * q.val) = ((kt t).val * 2 + 0) * 704 + q.val
        omega
    · refine congrArg₂ (ix3 0) (Fin.ext ?_) (Fin.ext ?_)
      · show 0 + 1 * l.val = l.val
        omega
      · show ((kt t).val * 2 + (0 + 1 * 0)) * 704 + (0 + 1 * q.val) = ((kt t).val * 2 + 0) * 704 + q.val
        omega
  · refine Finset.sum_congr rfl fun q _ => congrArg₂ (· * ·) (congrArg d ?_) (congrArg w ?_)
    · refine congrArg₂ (ix3 0) (congrArg (row (rt t)) (Fin.ext ?_)) (Fin.ext ?_)
      · show 0 + 1 * p.val = p.val
        omega
      · show ((kt t).val * 2 + (1 + 1 * 0)) * 704 + (0 + 1 * q.val) = ((kt t).val * 2 + 1) * 704 + q.val
        omega
    · refine congrArg₂ (ix3 0) (Fin.ext ?_) (Fin.ext ?_)
      · show 0 + 1 * l.val = l.val
        omega
      · show ((kt t).val * 2 + (1 + 1 * 0)) * 704 + (0 + 1 * q.val) = ((kt t).val * 2 + 1) * 704 + q.val
        omega

section
variable (m : (ℓ : Loc nD τ sig) → Buf (Elt Ideal) ℓ) (c : Dev nD) (w u : S1x2048x5632.Idx → EReal) (d e : S1x8320x5632.Idx → EReal) (r : S1x8320x2048.Idx → EReal)
variable (hw : m ((c : Thread nD τ).loc main_arg0) = e32 w) (hu : m ((c : Thread nD τ).loc main_arg1) = e32 u)
variable (hd : m ((c : Thread nD τ).loc main_arg2) = e32 d) (he : m ((c : Thread nD τ).loc main_arg3) = e32 e) (hr : m ((c : Thread nD τ).loc main_arg4) = e32 r)

include hd in
/-- The blocks of the gate's cotangent that the region reads. -/
theorem entry_d : V m c (Pipeline.arrRef spec0 0) = e16 (blocksD d) := by
  entry_read
  rw [show m (c, Proc.tc.devRef main_arg2) = e32 d from hd]
  refine (funext fun (j : S8x8320x704.Idx) => ?_)
  obtain ⟨n, k, l, rfl⟩ : ∃ n k l, j = ix3 n k l := ⟨j 0, j 1, j 2, by funext a; fin_cases a <;> rfl⟩
  pointwise
  rfl

include hw in
/-- The blocks of the gate's weight that the region reads. -/
theorem entry_w : V m c (Pipeline.arrRef spec0 1) = e16 (blocksW w) := by
  entry_read
  rw [show m (c, Proc.tc.devRef main_arg0) = e32 w from hw]
  refine (funext fun (j : S8x2048x704.Idx) => ?_)
  obtain ⟨n, k, l, rfl⟩ : ∃ n k l, j = ix3 n k l := ⟨j 0, j 1, j 2, by funext a; fin_cases a <;> rfl⟩
  pointwise
  rfl

include he in
/-- The blocks of the other cotangent that the region reads. -/
theorem entry_e : V m c (Pipeline.arrRef spec0 2) = e16 (blocksD e) := by
  entry_read
  rw [show m (c, Proc.tc.devRef main_arg3) = e32 e from he]
  refine (funext fun (j : S8x8320x704.Idx) => ?_)
  obtain ⟨n, k, l, rfl⟩ : ∃ n k l, j = ix3 n k l := ⟨j 0, j 1, j 2, by funext a; fin_cases a <;> rfl⟩
  pointwise
  rfl

include hu in
/-- The blocks of the other weight that the region reads. -/
theorem entry_u : V m c (Pipeline.arrRef spec0 3) = e16 (blocksW u) := by
  entry_read
  rw [show m (c, Proc.tc.devRef main_arg1) = e32 u from hu]
  refine (funext fun (j : S8x2048x704.Idx) => ?_)
  obtain ⟨n, k, l, rfl⟩ : ∃ n k l, j = ix3 n k l := ⟨j 0, j 1, j 2, by funext a; fin_cases a <;> rfl⟩
  pointwise
  rfl

include hr in
/-- The residual's cotangent as the region reads it. -/
theorem entry_r : V m c (Pipeline.arrRef spec0 4) = e32 fun j : S8320x2048.Idx => r (ix3 0 (j 0) (j 1)) := by
  entry_read
  rw [show m (c, Proc.tc.devRef main_arg4) = e32 r from hr]
  refine (funext fun (j : S8320x2048.Idx) => ?_)
  obtain ⟨r, l, rfl⟩ : ∃ r l, j = ix2 r l := ⟨j 0, j 1, by funext a; fin_cases a <;> rfl⟩
  pointwise
  rfl

/-- Where a point's blocks of the gate's cotangent lie. -/
theorem emb_0 (t : Fin cfg0.N) (z : Fin 2) (p : Fin 640) (q : Fin 704) :
    (win0_0.blk t).view.emb (ix3 z p q : S2x640x704.Idx) = (ix3 (tileOf (kt t) z) (row (rt t) p) q : S8x8320x704.Idx) := by
  have e : ∀ t : Fin cfg0.N, win0_0.index t = ![t.val % 4, t.val / 4, 0] := (by decide +kernel : ∀ t : Fin grid0.N, _)
  blk_ext [e t, row, rt, tileOf, kt]

include hd in
/-- A point's blocks of the gate's cotangent. -/
theorem blk_d (t : Fin cfg0.N) : iblk m c 0 t = e16 (pairD d t) := by
  unfold iblk
  rw [entry_d m c d hd]
  funext j
  change S2x640x704.Idx at j
  obtain ⟨z, p, q, rfl⟩ : ∃ z p q, j = ix3 z p q := ⟨j 0, j 1, j 2, by funext a; fin_cases a <;> rfl⟩
  exact congrArg (e16 (blocksD d)) (emb_0 t z p q)

/-- Where a point's blocks of the gate's weight lie. -/
theorem emb_1 (t : Fin cfg0.N) (z : Fin 2) (p : Fin 2048) (q : Fin 704) :
    (win0_1.blk t).view.emb (ix3 z p q : S2x2048x704.Idx) = (ix3 (tileOf (kt t) z) p q : S8x2048x704.Idx) := by
  have e : ∀ t : Fin cfg0.N, win0_1.index t = ![t.val % 4, 0, 0] := (by decide +kernel : ∀ t : Fin grid0.N, _)
  blk_ext [e t, row, rt, tileOf, kt]

include hw in
/-- A point's blocks of the gate's weight. -/
theorem blk_w (t : Fin cfg0.N) : iblk m c 1 t = e16 (pairW w t) := by
  unfold iblk
  rw [entry_w m c w hw]
  funext j
  change S2x2048x704.Idx at j
  obtain ⟨z, p, q, rfl⟩ : ∃ z p q, j = ix3 z p q := ⟨j 0, j 1, j 2, by funext a; fin_cases a <;> rfl⟩
  exact congrArg (e16 (blocksW w)) (emb_1 t z p q)

/-- Where a point's blocks of the other cotangent lie. -/
theorem emb_2 (t : Fin cfg0.N) (z : Fin 2) (p : Fin 640) (q : Fin 704) :
    (win0_2.blk t).view.emb (ix3 z p q : S2x640x704.Idx) = (ix3 (tileOf (kt t) z) (row (rt t) p) q : S8x8320x704.Idx) := by
  have e : ∀ t : Fin cfg0.N, win0_2.index t = ![t.val % 4, t.val / 4, 0] := (by decide +kernel : ∀ t : Fin grid0.N, _)
  blk_ext [e t, row, rt, tileOf, kt]

include he in
/-- A point's blocks of the other cotangent. -/
theorem blk_e (t : Fin cfg0.N) : iblk m c 2 t = e16 (pairD e t) := by
  unfold iblk
  rw [entry_e m c e he]
  funext j
  change S2x640x704.Idx at j
  obtain ⟨z, p, q, rfl⟩ : ∃ z p q, j = ix3 z p q := ⟨j 0, j 1, j 2, by funext a; fin_cases a <;> rfl⟩
  exact congrArg (e16 (blocksD e)) (emb_2 t z p q)

/-- Where a point's blocks of the other weight lie. -/
theorem emb_3 (t : Fin cfg0.N) (z : Fin 2) (p : Fin 2048) (q : Fin 704) :
    (win0_3.blk t).view.emb (ix3 z p q : S2x2048x704.Idx) = (ix3 (tileOf (kt t) z) p q : S8x2048x704.Idx) := by
  have e : ∀ t : Fin cfg0.N, win0_3.index t = ![t.val % 4, 0, 0] := (by decide +kernel : ∀ t : Fin grid0.N, _)
  blk_ext [e t, row, rt, tileOf, kt]

include hu in
/-- A point's blocks of the other weight. -/
theorem blk_u (t : Fin cfg0.N) : iblk m c 3 t = e16 (pairW u t) := by
  unfold iblk
  rw [entry_u m c u hu]
  funext j
  change S2x2048x704.Idx at j
  obtain ⟨z, p, q, rfl⟩ : ∃ z p q, j = ix3 z p q := ⟨j 0, j 1, j 2, by funext a; fin_cases a <;> rfl⟩
  exact congrArg (e16 (blocksW u)) (emb_3 t z p q)

/-- Where a row tile of the residual's cotangent lies. -/
theorem emb_4 (t : Fin cfg0.N) (p : Fin 640) (l : Fin 2048) :
    (win0_4.blk t).view.emb (ix2 p l : S640x2048.Idx) = (ix2 (row (rt t) p) l : S8320x2048.Idx) := by
  have e : ∀ t : Fin cfg0.N, win0_4.index t = ![t.val / 4, 0] := (by decide +kernel : ∀ t : Fin grid0.N, _)
  blk_ext [e t, row, rt]

/-- Where a row tile of the result lies. -/
theorem emb_5 (t : Fin cfg0.N) (p : Fin 640) (l : Fin 2048) :
    (win0_5.blk t).view.emb (ix2 p l : S640x2048.Idx) = (ix2 (row (rt t) p) l : S8320x2048.Idx) := by
  have e : ∀ t : Fin cfg0.N, win0_5.index t = ![t.val / 4, 0] := (by decide +kernel : ∀ t : Fin grid0.N, _)
  blk_ext [e t, row, rt]

include hr in
/-- A row tile of the residual's cotangent. -/
theorem blk_r (t : Fin cfg0.N) : iblk m c 4 t = e32 fun j : S640x2048.Idx => r (ix3 0 (row (rt t) (j 0)) (j 1)) := by
  unfold iblk
  rw [entry_r m c r hr]
  funext j
  change S640x2048.Idx at j
  obtain ⟨p, l, rfl⟩ : ∃ p l, j = ix2 p l := ⟨j 0, j 1, by funext a; fin_cases a <;> rfl⟩
  exact congrArg (e32 fun j : S8320x2048.Idx => r (ix3 0 (j 0) (j 1))) (emb_4 t p l)

/-- What a point adds. -/
def adds (s : Fin 4) (p : Fin 8320) (l : Fin 2048) : EReal := pair w d s p l + pair u e s p l

/-- A step's payload at an entry. -/
theorem step (t : Fin cfg0.N) (a : S640x2048.Idx → EReal) (p : Fin 640) (l : Fin 2048) :
    k0_pay1 (F := Ideal) (k0_pay4 (F := Ideal) (e32 a) (firstD (pairD d t)) (firstW (pairW w t)) (secondD (pairD d t)) (secondW (pairW w t)))
      (k0_pay5 (F := Ideal) (firstD (pairD e t)) (firstW (pairW u t))) (secondD (pairD e t)) (secondW (pairW u t)) (ix2 p l)
      = a (ix2 p l) + adds w u d e (kt t) (row (rt t) p) l := by
  refine (pay1_at _ _ _ _ _ _ _ _ _ p l).trans ?_
  rw [dot_pair, dot_pair, add_assoc]
  rfl

include hw hu hd he in
/-- After the last pair of a row tile: the sum over the pairs. -/
theorem acc_last (t : Fin cfg0.N) (ht : t.val % 4 = 3) (j : S640x2048.Idx) :
    (outsAt0 m c t.val t.isLt).2 j = 0 + ∑ s : Fin 4, adds w u d e s (row (rt t) (j 0)) (j 1) := by
  refine (Pipeline.eq_sum_fin_of_reset_step_apply_of_flush (fun n h => (outsAt0 m c n h).2) 4 (fun _ => 0)
    (fun t j => adds w u d e (kt t) (row (rt t) (j 0)) (j 1)) (fun t h0 j => ?_) (fun t h0 j => ?_) t ht j).trans ?_
  · rw [outsAt0_A m c t h0 (by omega)]
    frame_out
    rw [blk_w m c w hw, blk_d m c d hd, blk_u m c u hu, blk_e m c e he]
    obtain ⟨p, l, rfl⟩ : ∃ p l, j = ix2 p l := ⟨j 0, j 1, by funext a; fin_cases a <;> rfl⟩
    refine (step w u d e t _ p l).trans ?_
    rw [pay3_at]
    rfl
  · obtain ⟨p, l, rfl⟩ : ∃ p l, j = ix2 p l := ⟨j 0, j 1, by funext a; fin_cases a <;> rfl⟩
    by_cases h1 : t.val % 4 = 3
    · rw [outsAt0_C m c t h0 h1]
      frame_out
      rw [blk_w m c w hw, blk_d m c d hd, blk_u m c u hu, blk_e m c e he, read_unread_whole]
      exact step w u d e t _ p l
    · rw [outsAt0_B m c t h0 h1]
      frame_out
      rw [blk_w m c w hw, blk_d m c d hd, blk_u m c u hu, blk_e m c e he, read_unread_whole]
      exact step w u d e t _ p l
  · refine congrArg (0 + ·) (Finset.sum_congr rfl fun s _ => ?_)
    have e1 : kt ⟨4 * (t.val / 4) + s.val, by have : t.val < 52 := t.isLt; show _ < 52; omega⟩ = s := Fin.ext (by show (4 * (t.val / 4) + s.val) % 4 = s.val; omega)
    have e2 : rt ⟨4 * (t.val / 4) + s.val, by have : t.val < 52 := t.isLt; show _ < 52; omega⟩ = rt t := Fin.ext (by show (4 * (t.val / 4) + s.val) / 4 = t.val / 4; omega)
    exact congrArg₂ (fun s n => adds w u d e s (row n (j 0)) (j 1)) e1 e2

include hr in
/-- At the last pair the output is the residual's share with the accumulator. -/
theorem out_last (t : Fin cfg0.N) (ht : t.val % 4 = 3) :
    (outsAt0 m c t.val t.isLt).1 = k0_pay2 (F := Ideal) (outsAt0 m c t.val t.isLt).2 (e32 fun j : S640x2048.Idx => r (ix3 0 (row (rt t) (j 0)) (j 1))) := by
  rw [outsAt0_C m c t (by omega) ht]
  frame_out
  rw [blk_r m c r hr]

/-- An entry of a product, all columns summed. -/
def prod (w : S1x2048x5632.Idx → EReal) (d : S1x8320x5632.Idx → EReal) (p : Fin 8320) (l : Fin 2048) : EReal := ∑ k : Fin 5632, d (ix3 0 p k) * w (ix3 0 l k)

/-- The pairs of column tiles run through the columns. -/
theorem sum_pairs (w : S1x2048x5632.Idx → EReal) (d : S1x8320x5632.Idx → EReal) (p : Fin 8320) (l : Fin 2048) : ∑ s : Fin 4, pair w d s p l = prod w d p l := by
  have h : ∑ n : Fin 8, part w d n p l = prod w d p l := by
    unfold part prod
    exact Fin.sum_mul_add_congr (M := EReal) (S := 8) (n := 704)
      (f := fun k : Fin 5632 => d (ix3 0 p k) * w (ix3 0 l k)) fun s k hl => rfl
  refine (Finset.sum_congr rfl fun s _ => (Fin.sum_univ_two fun e => part w d (tileOf s e) p l).symm).trans (Eq.trans ?_ h)
  exact Fin.sum_mul_add_congr (M := EReal) (S := 4) (n := 2) (f := fun n : Fin 8 => part w d n p l) fun s e hl => rfl

/-- An entry of the gradient. -/
def out (p : Fin 8320) (l : Fin 2048) : EReal := Ideal.ofBits .f32 0x3F9837F0#32 * r (ix3 0 p l) + (prod w d p l + prod u e p l)

include hw hu hd he hr in
/-- The gradient, whole. -/
theorem arr_out : (dats m 0 c).arrAt 5 cfg0.N = e32 fun j : S8320x2048.Idx => out w u d e r (j 0) (j 1) := by
  refine (dats m 0 c).arrAt_eq_of_covers 5 _ (by decide +kernel) fun t hf j => ?_
  change S640x2048.Idx at j
  have ht : t.val % 4 = 3 := (by decide +kernel : ∀ t : Fin grid0.N, win0_5.flush t = true → t.val % 4 = 3) t hf
  obtain ⟨p, l, rfl⟩ : ∃ p l, j = ix2 p l := ⟨j 0, j 1, by funext a; fin_cases a <;> rfl⟩
  rw [after0_5, out_last m c r hr t ht]
  refine (pay2_at _ _ (ix2 p l)).trans ?_
  rw [acc_last m c w u d e hw hu hd he t ht, zero_add]
  refine (congrArg (Ideal.ofBits .f32 0x3F9837F0#32 * r (ix3 0 (row (rt t) p) l) + ·) (Finset.sum_add_distrib.trans
    (congrArg₂ (· + ·) (sum_pairs w d (row (rt t) p) l) (sum_pairs u e (row (rt t) p) l)))).trans ?_
  exact congrArg (e32 fun j : S8320x2048.Idx => out w u d e r (j 0) (j 1)) (emb_5 t p l).symm
end

/-- The reference's product. -/
theorem ref_prod (w : S1x2048x5632.Idx → EReal) (d : S1x8320x5632.Idx → EReal) :
    Host.dotGeneral (F := Ideal) ReferenceFdhIdeal.dot_S1x8320x5632_S2048x5632_S1x8320x2048_2_1_01_0_n_n none (e32 d) (shapeCast _ (e32 w) ReferenceFdhIdeal.Gen.shapeCasts_S1x2048x5632_S2048x5632)
    = e32 fun j : ReferenceFdhIdeal.S1x8320x2048.Idx => prod w d (j 1) (j 2) := by
  funext j
  obtain ⟨z, r, l, rfl⟩ : ∃ z r l, j = (ix3 z r l : ReferenceFdhIdeal.S1x8320x2048.Idx) := ⟨j 0, j 1, j 2, by funext a; fin_cases a <;> rfl⟩
  obtain rfl : z = 0 := Subsingleton.elim _ _
  pointwise
  rfl

set_option maxRecDepth 65536 in
set_option maxHeartbeats 4000000 in
/-- The two programs leave the same gradient at every argument. -/
theorem algebraic_fdh : algebraic_KernelFdhIdeal_ReferenceFdhIdeal := by
  intro m ρ m' ρ' _ hagree
  refine ⟨_, KernelFdhIdeal.Value.run_blocks (F := Ideal) m ρ, ?_⟩
  refine (θ_run ReferenceFdhIdeal.defs _ _).mono (fun _ run c => ?_) (ReferenceFdhIdeal.Value.run (F := Ideal) m' ρ')
  obtain ⟨e0, e1, e2, e3, e4⟩ := hagree c
  obtain ⟨w, hw⟩ : ∃ x : S1x2048x5632.Idx → EReal, m ((c : Thread nD τ).loc main_arg0) = e32 x := ⟨m ((c : Thread nD τ).loc main_arg0), rfl⟩
  obtain ⟨u, hu⟩ : ∃ x : S1x2048x5632.Idx → EReal, m ((c : Thread nD τ).loc main_arg1) = e32 x := ⟨m ((c : Thread nD τ).loc main_arg1), rfl⟩
  obtain ⟨d, hd⟩ : ∃ x : S1x8320x5632.Idx → EReal, m ((c : Thread nD τ).loc main_arg2) = e32 x := ⟨m ((c : Thread nD τ).loc main_arg2), rfl⟩
  obtain ⟨e, he⟩ : ∃ x : S1x8320x5632.Idx → EReal, m ((c : Thread nD τ).loc main_arg3) = e32 x := ⟨m ((c : Thread nD τ).loc main_arg3), rfl⟩
  obtain ⟨r, hr⟩ : ∃ x : S1x8320x2048.Idx → EReal, m ((c : Thread nD τ).loc main_arg4) = e32 x := ⟨m ((c : Thread nD τ).loc main_arg4), rfl⟩
  refine ⟨(run c).1.trans ?_, (run c).2⟩
  refine Eq.trans ?_ (arr_out m c w u d e r hw hu hd he hr).symm
  rw [e0.trans hw, e1.trans hu, e2.trans hd, e3.trans he, e4.trans hr, ref_prod, ref_prod]
  refine congrArg e32 (funext fun j => ?_)
  obtain ⟨p, l, rfl⟩ : ∃ p l, j = (ix2 p l : S8320x2048.Idx) := ⟨j 0, j 1, by funext a; fin_cases a <;> rfl⟩
  pointwise
  exact (add_comm _ _).trans (congrArg (_ + ·) (add_comm _ _))

end Cert.Proof.Fdh

end
-- ==== Proof.Gw.lean ====
/- A weight's gradient, the product over the rows of the weight's input and the cotangent of its output, over the extended reals. -/
module

public import proofs.«01_k».proof.Defs
public import proofs.«01_k».proof.Proof.Gen.KernelGw.Frame
public import proofs.«01_k».proof.Proof.Gen.KernelGwIdeal.Value
public import proofs.«01_k».proof.Proof.Gen.ReferenceGwIdeal.Run
public import Idealize.ShloMosaic.Lib.Pipeline.ValueKit
public import Idealize.ShloMosaic.Lib.Pipeline.ReadBack

@[expose] public section

noncomputable section

namespace Cert.Proof.Gw

open Idealize.ShloMosaic Idealize.SL.Sem Idealize.ShloMosaic.TcCoe
open Cert.KernelGwIdeal Cert.KernelGwIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The accumulator starts at zero. -/
theorem pay1_at (j : S2048x1408.Idx) : k0_pay1 (F := Ideal) j = 0 := by
  unfold k0_pay1
  pointwise

/-- A step adds one row tile's product. -/
theorem pay2_at (a : S2048x1408.Idx → EReal) (x : S1664x2048.Idx → EReal) (d : S1664x1408.Idx → EReal) (j : S2048x1408.Idx) :
    k0_pay2 (F := Ideal) (e32 a) (e16 x) (e16 d) j = a j + ∑ q : Fin 1664, x (ix2 q (j 0)) * d (ix2 q (j 1)) := by
  unfold k0_pay2
  obtain ⟨r, l, rfl⟩ : ∃ r l, j = ix2 r l := ⟨j 0, j 1, by funext a; fin_cases a <;> rfl⟩
  pointwise

/-- The last step's store takes the accumulator as it stands. -/
theorem pay3_at (a : S2048x1408.Idx → EReal) (z : Fin 1) (r : Fin 2048) (l : Fin 1408) :
    k0_pay3 (F := Ideal) (e32 a) (ix3 z r l) = a (ix2 r l) := by
  unfold k0_pay3
  obtain rfl : z = 0 := Subsingleton.elim _ _
  pointwise

section
variable (m : (ℓ : Loc nD τ sig) → Buf (Elt Ideal) ℓ) (c : Dev nD) (h : S1x8320x2048.Idx → EReal) (d : S1x8320x11264.Idx → EReal)
variable (hh : m ((c : Thread nD τ).loc main_arg0) = e32 h) (hd : m ((c : Thread nD τ).loc main_arg1) = e32 d)

include hh in
/-- The rows of h as the call finds them in its array. -/
theorem entry_h : V m c (Pipeline.arrRef spec0 0) = e16 fun j : S8320x2048.Idx => h (ix3 0 (j 0) (j 1)) := by
  entry_read
  rw [show m (c, Proc.tc.devRef main_arg0) = e32 h from hh]
  refine (funext fun (j : S8320x2048.Idx) => ?_)
  obtain ⟨r, l, rfl⟩ : ∃ r l, j = ix2 r l := ⟨j 0, j 1, by funext a; fin_cases a <;> rfl⟩
  pointwise
  rfl

include hd in
/-- The cotangent as the call finds them in its array. -/
theorem entry_d : V m c (Pipeline.arrRef spec0 1) = e16 fun j : S8320x11264.Idx => d (ix3 0 (j 0) (j 1)) := by
  entry_read
  rw [show m (c, Proc.tc.devRef main_arg1) = e32 d from hd]
  refine (funext fun (j : S8320x11264.Idx) => ?_)
  obtain ⟨r, l, rfl⟩ : ∃ r l, j = ix2 r l := ⟨j 0, j 1, by funext a; fin_cases a <;> rfl⟩
  pointwise
  rfl

/-- The row tile of a grid point. -/
def rt (t : Fin cfg0.N) : Fin 5 := ⟨t.val % 5, Nat.mod_lt _ (by decide)⟩
/-- The column tile of a grid point. -/
def ct (t : Fin cfg0.N) : Fin 8 := ⟨t.val / 5, by have : t.val < 40 := t.isLt; omega⟩
/-- Row `p` of row tile `s`. -/
def row (s : Fin 5) (p : Fin 1664) : Fin 8320 := ⟨s.val * 1664 + p.val, by omega⟩
/-- Column `l` of column tile `n`. -/
def col (n : Fin 8) (l : Fin 1408) : Fin 11264 := ⟨n.val * 1408 + l.val, by omega⟩

/-- Where a place of window 0's block lies in its array. -/
theorem emb_0 (t : Fin cfg0.N) (p : Fin 1664) (l : Fin 2048) :
    (win0_0.blk t).view.emb (ix2 p l : S1664x2048.Idx) = (ix2 (row (rt t) p) l : S8320x2048.Idx) := by
  have e : ∀ t : Fin cfg0.N, win0_0.index t = ![t.val % 5, 0] := (by decide +kernel : ∀ t : Fin grid0.N, _)
  blk_ext [e t, row, rt]

/-- Where a place of window 1's block lies in its array. -/
theorem emb_1 (t : Fin cfg0.N) (p : Fin 1664) (l : Fin 1408) :
    (win0_1.blk t).view.emb (ix2 p l : S1664x1408.Idx) = (ix2 (row (rt t) p) (col (ct t) l) : S8320x11264.Idx) := by
  have e : ∀ t : Fin cfg0.N, win0_1.index t = ![t.val % 5, t.val / 5] := (by decide +kernel : ∀ t : Fin grid0.N, _)
  blk_ext [e t, row, rt, col, ct]

/-- Where a place of window 2's block lies in its array. -/
theorem emb_2 (t : Fin cfg0.N) (r : Fin 2048) (l : Fin 1408) :
    (win0_2.blk t).view.emb (ix3 0 r l : S1x2048x1408.Idx) = (ix3 (ct t) r l : S8x2048x1408.Idx) := by
  have e : ∀ t : Fin cfg0.N, win0_2.index t = ![t.val / 5, 0, 0] := (by decide +kernel : ∀ t : Fin grid0.N, _)
  blk_ext [e t, ct]

include hh in
/-- A point's block of the rows of h. -/
theorem blk_h (t : Fin cfg0.N) : iblk m c 0 t = e16 fun j : S1664x2048.Idx => h (ix3 0 (row (rt t) (j 0)) (j 1)) := by
  unfold iblk
  rw [entry_h m c h hh]
  funext j
  change S1664x2048.Idx at j
  obtain ⟨p, l, rfl⟩ : ∃ p l, j = ix2 p l := ⟨j 0, j 1, by funext a; fin_cases a <;> rfl⟩
  exact congrArg (e16 fun j : S8320x2048.Idx => h (ix3 0 (j 0) (j 1))) (emb_0 t p l)

include hd in
/-- A point's block of the cotangent. -/
theorem blk_d (t : Fin cfg0.N) : iblk m c 1 t = e16 fun j : S1664x1408.Idx => d (ix3 0 (row (rt t) (j 0)) (col (ct t) (j 1))) := by
  unfold iblk
  rw [entry_d m c d hd]
  funext j
  change S1664x1408.Idx at j
  obtain ⟨p, l, rfl⟩ : ∃ p l, j = ix2 p l := ⟨j 0, j 1, by funext a; fin_cases a <;> rfl⟩
  exact congrArg (e16 fun j : S8320x11264.Idx => d (ix3 0 (j 0) (j 1))) (emb_1 t p l)

/-- One row tile's product. -/
def part (s : Fin 5) (n : Fin 8) (r : Fin 2048) (l : Fin 1408) : EReal :=
  ∑ q : Fin 1664, h (ix3 0 (row s q) r) * d (ix3 0 (row s q) (col n l))

include hh hd in
/-- After the last row tile of a column tile: the sum over the row tiles. -/
theorem acc_last (t : Fin cfg0.N) (hr : t.val % 5 = 4) (j : S2048x1408.Idx) :
    (outsAt0 m c t.val t.isLt).2 j = 0 + ∑ s : Fin 5, part h d s (ct t) (j 0) (j 1) := by
  refine (Pipeline.eq_sum_fin_of_reset_step_apply_of_flush (fun n h => (outsAt0 m c n h).2) 5 (fun _ => 0)
    (fun p j => part h d (rt p) (ct p) (j 0) (j 1)) (fun t h0 j => ?_) (fun t h0 j => ?_) t hr j).trans ?_
  · rw [outsAt0_A m c t h0 (by omega)]
    frame_out
    rw [blk_h m c h hh, blk_d m c d hd]
    refine (pay2_at _ _ _ _).trans ?_
    rw [pay1_at]
    rfl
  · by_cases h1 : t.val % 5 = 4
    · rw [outsAt0_C m c t h0 h1]
      frame_out
      rw [blk_h m c h hh, blk_d m c d hd, read_unread_whole]
      exact pay2_at _ _ _ _
    · rw [outsAt0_B m c t h0 h1]
      frame_out
      rw [blk_h m c h hh, blk_d m c d hd, read_unread_whole]
      exact pay2_at _ _ _ _
  · refine congrArg (0 + ·) (Finset.sum_congr rfl fun s _ => ?_)
    have e1 : rt ⟨5 * (t.val / 5) + s.val, by have : t.val < 40 := t.isLt; show _ < 40; omega⟩ = s := Fin.ext (by show (5 * (t.val / 5) + s.val) % 5 = s.val; omega)
    have e2 : ct ⟨5 * (t.val / 5) + s.val, by have : t.val < 40 := t.isLt; show _ < 40; omega⟩ = ct t := Fin.ext (by show (5 * (t.val / 5) + s.val) / 5 = t.val / 5; omega)
    exact congrArg₂ (fun s n => part h d s n (j 0) (j 1)) e1 e2

/-- At the last row tile the output is the accumulator. -/
theorem out_last (t : Fin cfg0.N) (hr : t.val % 5 = 4) :
    (outsAt0 m c t.val t.isLt).1 = k0_pay3 (outsAt0 m c t.val t.isLt).2 := by
  rw [outsAt0_C m c t (by omega) hr]
  frame_out

/-- An entry of the gradient, all rows summed. -/
def dw (n : Fin 8) (r : Fin 2048) (l : Fin 1408) : EReal := ∑ q : Fin 8320, h (ix3 0 q r) * d (ix3 0 q (col n l))

/-- The row tiles run through the rows. -/
theorem sum_parts (n : Fin 8) (r : Fin 2048) (l : Fin 1408) : ∑ s : Fin 5, part h d s n r l = dw h d n r l := by
  unfold part dw
  exact Fin.sum_mul_add_congr (M := EReal) (S := 5) (n := 1664)
    (f := fun q : Fin 8320 => h (ix3 0 q r) * d (ix3 0 q (col n l))) fun s k hl => rfl

include hh hd in
/-- The gradient, whole. -/
theorem arr_dw : (dats m 0 c).arrAt 2 cfg0.N = e16 fun j : S8x2048x1408.Idx => dw h d (j 0) (j 1) (j 2) := by
  refine (dats m 0 c).arrAt_eq_of_covers 2 _ (by decide +kernel) fun t hf j => ?_
  change S1x2048x1408.Idx at j
  have hr : t.val % 5 = 4 := (by decide +kernel : ∀ t : Fin grid0.N, win0_2.flush t = true → t.val % 5 = 4) t hf
  obtain ⟨z, r, l, rfl⟩ : ∃ z r l, j = ix3 z r l := ⟨j 0, j 1, j 2, by funext a; fin_cases a <;> rfl⟩
  obtain rfl : z = 0 := Subsingleton.elim _ _
  rw [after0_2, out_last m c t hr]
  refine (pay3_at _ 0 r l).trans ?_
  rw [acc_last m c h d hh hd t hr, zero_add]
  refine (sum_parts h d (ct t) r l).trans ?_
  show (e16 fun j : S8x2048x1408.Idx => dw h d (j 0) (j 1) (j 2)) (ix3 (ct t) r l : S8x2048x1408.Idx) = _
  exact congrArg (e16 fun j : S8x2048x1408.Idx => dw h d (j 0) (j 1) (j 2)) (emb_2 t r l).symm
end

set_option maxRecDepth 65536 in
set_option maxHeartbeats 4000000 in
/-- The two programs leave the same gradient at every argument. -/
theorem algebraic_gw : algebraic_KernelGwIdeal_ReferenceGwIdeal := by
  intro m ρ m' ρ' _ hagree
  refine ⟨_, KernelGwIdeal.Value.run_blocks (F := Ideal) m ρ, ?_⟩
  refine (θ_run ReferenceGwIdeal.defs _ _).mono (fun _ run c => ?_) (ReferenceGwIdeal.Value.run (F := Ideal) m' ρ')
  obtain ⟨e0, e1⟩ := hagree c
  obtain ⟨h, hh⟩ : ∃ x : S1x8320x2048.Idx → EReal, m ((c : Thread nD τ).loc main_arg0) = e32 x := ⟨m ((c : Thread nD τ).loc main_arg0), rfl⟩
  obtain ⟨d, hd⟩ : ∃ x : S1x8320x11264.Idx → EReal, m ((c : Thread nD τ).loc main_arg1) = e32 x := ⟨m ((c : Thread nD τ).loc main_arg1), rfl⟩
  refine ⟨(run c).1.trans ?_, (run c).2⟩
  refine Eq.trans ?_ (arr_dw m c h d hh hd).symm
  rw [e0.trans hh, e1.trans hd]
  refine congrArg e16 (funext fun j => ?_)
  obtain ⟨n, r, l, rfl⟩ : ∃ n r l, j = (ix3 n r l : S8x2048x1408.Idx) := ⟨j 0, j 1, j 2, by funext a; fin_cases a <;> rfl⟩
  pointwise
  rw [Fin.sum_univ_one]
  exact Finset.sum_congr rfl fun q _ => EReal.mul_comm _ _

end Cert.Proof.Gw

end
-- ==== Proof.Gwr.lean ====
/- A weight's gradient shared out by its rows, the product over the rows of the weight's input and the cotangent of its output, over the extended reals. -/
module

public import proofs.«01_k».proof.Defs
public import proofs.«01_k».proof.Proof.Gen.KernelGwr.Frame
public import proofs.«01_k».proof.Proof.Gen.KernelGwrIdeal.Value
public import proofs.«01_k».proof.Proof.Gen.ReferenceGwrIdeal.Run
public import Idealize.ShloMosaic.Lib.Pipeline.ValueKit
public import Idealize.ShloMosaic.Lib.Pipeline.ReadBack

@[expose] public section

noncomputable section

namespace Cert.Proof.Gwr

open Idealize.ShloMosaic Idealize.SL.Sem Idealize.ShloMosaic.TcCoe
open Cert.KernelGwrIdeal Cert.KernelGwrIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The accumulator starts at zero. -/
theorem pay1_at (j : S256x2048.Idx) : k0_pay1 (F := Ideal) j = 0 := by
  unfold k0_pay1
  pointwise

/-- A step adds one row tile's product. -/
theorem pay2_at (a : S256x2048.Idx → EReal) (x : S1664x256.Idx → EReal) (d : S1664x2048.Idx → EReal) (j : S256x2048.Idx) :
    k0_pay2 (F := Ideal) (e32 a) (e16 x) (e16 d) j = a j + ∑ q : Fin 1664, x (ix2 q (j 0)) * d (ix2 q (j 1)) := by
  unfold k0_pay2
  obtain ⟨r, l, rfl⟩ : ∃ r l, j = ix2 r l := ⟨j 0, j 1, by funext a; fin_cases a <;> rfl⟩
  pointwise

/-- The last step's store takes the accumulator as it stands. -/
theorem pay3_at (a : S256x2048.Idx → EReal) (z : Fin 1) (r : Fin 256) (l : Fin 2048) :
    k0_pay3 (F := Ideal) (e32 a) (ix3 z r l) = a (ix2 r l) := by
  unfold k0_pay3
  obtain rfl : z = 0 := Subsingleton.elim _ _
  pointwise

section
variable (m : (ℓ : Loc nD τ sig) → Buf (Elt Ideal) ℓ) (c : Dev nD) (h : S1x8320x2048.Idx → EReal) (d : S1x8320x2048.Idx → EReal)
variable (hh : m ((c : Thread nD τ).loc main_arg0) = e32 h) (hd : m ((c : Thread nD τ).loc main_arg1) = e32 d)

include hh in
/-- The rows of h as the call finds them in its array. -/
theorem entry_h : V m c (Pipeline.arrRef spec0 0) = e16 fun j : S8320x2048.Idx => h (ix3 0 (j 0) (j 1)) := by
  entry_read
  rw [show m (c, Proc.tc.devRef main_arg0) = e32 h from hh]
  refine (funext fun (j : S8320x2048.Idx) => ?_)
  obtain ⟨r, l, rfl⟩ : ∃ r l, j = ix2 r l := ⟨j 0, j 1, by funext a; fin_cases a <;> rfl⟩
  pointwise
  rfl

include hd in
/-- The cotangent as the call finds them in its array. -/
theorem entry_d : V m c (Pipeline.arrRef spec0 1) = e16 fun j : S8320x2048.Idx => d (ix3 0 (j 0) (j 1)) := by
  entry_read
  rw [show m (c, Proc.tc.devRef main_arg1) = e32 d from hd]
  refine (funext fun (j : S8320x2048.Idx) => ?_)
  obtain ⟨r, l, rfl⟩ : ∃ r l, j = ix2 r l := ⟨j 0, j 1, by funext a; fin_cases a <;> rfl⟩
  pointwise
  rfl

/-- The row tile of a grid point. -/
def rt (t : Fin cfg0.N) : Fin 5 := ⟨t.val % 5, Nat.mod_lt _ (by decide)⟩
/-- The column tile of a grid point. -/
def ct (t : Fin cfg0.N) : Fin 8 := ⟨t.val / 5, by have : t.val < 40 := t.isLt; omega⟩
/-- Row `p` of row tile `s`. -/
def row (s : Fin 5) (p : Fin 1664) : Fin 8320 := ⟨s.val * 1664 + p.val, by omega⟩
/-- Column `l` of column tile `n`. -/
def col (n : Fin 8) (l : Fin 256) : Fin 2048 := ⟨n.val * 256 + l.val, by omega⟩

/-- Where a place of window 0's block lies in its array. -/
theorem emb_0 (t : Fin cfg0.N) (p : Fin 1664) (l : Fin 256) :
    (win0_0.blk t).view.emb (ix2 p l : S1664x256.Idx) = (ix2 (row (rt t) p) (col (ct t) l) : S8320x2048.Idx) := by
  have e : ∀ t : Fin cfg0.N, win0_0.index t = ![t.val % 5, t.val / 5] := (by decide +kernel : ∀ t : Fin grid0.N, _)
  blk_ext [e t, row, rt, col, ct]

/-- Where a place of window 1's block lies in its array. -/
theorem emb_1 (t : Fin cfg0.N) (p : Fin 1664) (l : Fin 2048) :
    (win0_1.blk t).view.emb (ix2 p l : S1664x2048.Idx) = (ix2 (row (rt t) p) l : S8320x2048.Idx) := by
  have e : ∀ t : Fin cfg0.N, win0_1.index t = ![t.val % 5, 0] := (by decide +kernel : ∀ t : Fin grid0.N, _)
  blk_ext [e t, row, rt]

/-- Where a place of window 2's block lies in its array. -/
theorem emb_2 (t : Fin cfg0.N) (r : Fin 256) (l : Fin 2048) :
    (win0_2.blk t).view.emb (ix3 0 r l : S1x256x2048.Idx) = (ix3 (ct t) r l : S8x256x2048.Idx) := by
  have e : ∀ t : Fin cfg0.N, win0_2.index t = ![t.val / 5, 0, 0] := (by decide +kernel : ∀ t : Fin grid0.N, _)
  blk_ext [e t, ct]

include hh in
/-- A point's block of the rows of h. -/
theorem blk_h (t : Fin cfg0.N) : iblk m c 0 t = e16 fun j : S1664x256.Idx => h (ix3 0 (row (rt t) (j 0)) (col (ct t) (j 1))) := by
  unfold iblk
  rw [entry_h m c h hh]
  funext j
  change S1664x256.Idx at j
  obtain ⟨p, l, rfl⟩ : ∃ p l, j = ix2 p l := ⟨j 0, j 1, by funext a; fin_cases a <;> rfl⟩
  exact congrArg (e16 fun j : S8320x2048.Idx => h (ix3 0 (j 0) (j 1))) (emb_0 t p l)

include hd in
/-- A point's block of the cotangent. -/
theorem blk_d (t : Fin cfg0.N) : iblk m c 1 t = e16 fun j : S1664x2048.Idx => d (ix3 0 (row (rt t) (j 0)) (j 1)) := by
  unfold iblk
  rw [entry_d m c d hd]
  funext j
  change S1664x2048.Idx at j
  obtain ⟨p, l, rfl⟩ : ∃ p l, j = ix2 p l := ⟨j 0, j 1, by funext a; fin_cases a <;> rfl⟩
  exact congrArg (e16 fun j : S8320x2048.Idx => d (ix3 0 (j 0) (j 1))) (emb_1 t p l)

/-- One row tile's product. -/
def part (s : Fin 5) (n : Fin 8) (r : Fin 256) (l : Fin 2048) : EReal :=
  ∑ q : Fin 1664, h (ix3 0 (row s q) (col n r)) * d (ix3 0 (row s q) l)

include hh hd in
/-- After the last row tile of a column tile: the sum over the row tiles. -/
theorem acc_last (t : Fin cfg0.N) (hr : t.val % 5 = 4) (j : S256x2048.Idx) :
    (outsAt0 m c t.val t.isLt).2 j = 0 + ∑ s : Fin 5, part h d s (ct t) (j 0) (j 1) := by
  refine (Pipeline.eq_sum_fin_of_reset_step_apply_of_flush (fun n h => (outsAt0 m c n h).2) 5 (fun _ => 0)
    (fun p j => part h d (rt p) (ct p) (j 0) (j 1)) (fun t h0 j => ?_) (fun t h0 j => ?_) t hr j).trans ?_
  · rw [outsAt0_A m c t h0 (by omega)]
    frame_out
    rw [blk_h m c h hh, blk_d m c d hd]
    refine (pay2_at _ _ _ _).trans ?_
    rw [pay1_at]
    rfl
  · by_cases h1 : t.val % 5 = 4
    · rw [outsAt0_C m c t h0 h1]
      frame_out
      rw [blk_h m c h hh, blk_d m c d hd, read_unread_whole]
      exact pay2_at _ _ _ _
    · rw [outsAt0_B m c t h0 h1]
      frame_out
      rw [blk_h m c h hh, blk_d m c d hd, read_unread_whole]
      exact pay2_at _ _ _ _
  · refine congrArg (0 + ·) (Finset.sum_congr rfl fun s _ => ?_)
    have e1 : rt ⟨5 * (t.val / 5) + s.val, by have : t.val < 40 := t.isLt; show _ < 40; omega⟩ = s := Fin.ext (by show (5 * (t.val / 5) + s.val) % 5 = s.val; omega)
    have e2 : ct ⟨5 * (t.val / 5) + s.val, by have : t.val < 40 := t.isLt; show _ < 40; omega⟩ = ct t := Fin.ext (by show (5 * (t.val / 5) + s.val) / 5 = t.val / 5; omega)
    exact congrArg₂ (fun s n => part h d s n (j 0) (j 1)) e1 e2

/-- At the last row tile the output is the accumulator. -/
theorem out_last (t : Fin cfg0.N) (hr : t.val % 5 = 4) :
    (outsAt0 m c t.val t.isLt).1 = k0_pay3 (outsAt0 m c t.val t.isLt).2 := by
  rw [outsAt0_C m c t (by omega) hr]
  frame_out

/-- An entry of the gradient, all rows summed. -/
def dw (n : Fin 8) (r : Fin 256) (l : Fin 2048) : EReal := ∑ q : Fin 8320, h (ix3 0 q (col n r)) * d (ix3 0 q l)

/-- The row tiles run through the rows. -/
theorem sum_parts (n : Fin 8) (r : Fin 256) (l : Fin 2048) : ∑ s : Fin 5, part h d s n r l = dw h d n r l := by
  unfold part dw
  exact Fin.sum_mul_add_congr (M := EReal) (S := 5) (n := 1664)
    (f := fun q : Fin 8320 => h (ix3 0 q (col n r)) * d (ix3 0 q l)) fun s k hl => rfl

include hh hd in
/-- The gradient, whole. -/
theorem arr_dw : (dats m 0 c).arrAt 2 cfg0.N = e16 fun j : S8x256x2048.Idx => dw h d (j 0) (j 1) (j 2) := by
  refine (dats m 0 c).arrAt_eq_of_covers 2 _ (by decide +kernel) fun t hf j => ?_
  change S1x256x2048.Idx at j
  have hr : t.val % 5 = 4 := (by decide +kernel : ∀ t : Fin grid0.N, win0_2.flush t = true → t.val % 5 = 4) t hf
  obtain ⟨z, r, l, rfl⟩ : ∃ z r l, j = ix3 z r l := ⟨j 0, j 1, j 2, by funext a; fin_cases a <;> rfl⟩
  obtain rfl : z = 0 := Subsingleton.elim _ _
  rw [after0_2, out_last m c t hr]
  refine (pay3_at _ 0 r l).trans ?_
  rw [acc_last m c h d hh hd t hr, zero_add]
  refine (sum_parts h d (ct t) r l).trans ?_
  show (e16 fun j : S8x256x2048.Idx => dw h d (j 0) (j 1) (j 2)) (ix3 (ct t) r l : S8x256x2048.Idx) = _
  exact congrArg (e16 fun j : S8x256x2048.Idx => dw h d (j 0) (j 1) (j 2)) (emb_2 t r l).symm
end

set_option maxRecDepth 65536 in
set_option maxHeartbeats 4000000 in
/-- The two programs leave the same gradient at every argument. -/
theorem algebraic_gwr : algebraic_KernelGwrIdeal_ReferenceGwrIdeal := by
  intro m ρ m' ρ' _ hagree
  refine ⟨_, KernelGwrIdeal.Value.run_blocks (F := Ideal) m ρ, ?_⟩
  refine (θ_run ReferenceGwrIdeal.defs _ _).mono (fun _ run c => ?_) (ReferenceGwrIdeal.Value.run (F := Ideal) m' ρ')
  obtain ⟨e0, e1⟩ := hagree c
  obtain ⟨h, hh⟩ : ∃ x : S1x8320x2048.Idx → EReal, m ((c : Thread nD τ).loc main_arg0) = e32 x := ⟨m ((c : Thread nD τ).loc main_arg0), rfl⟩
  obtain ⟨d, hd⟩ : ∃ x : S1x8320x2048.Idx → EReal, m ((c : Thread nD τ).loc main_arg1) = e32 x := ⟨m ((c : Thread nD τ).loc main_arg1), rfl⟩
  refine ⟨(run c).1.trans ?_, (run c).2⟩
  refine Eq.trans ?_ (arr_dw m c h d hh hd).symm
  rw [e0.trans hh, e1.trans hd]
  refine congrArg e16 (funext fun j => ?_)
  obtain ⟨n, r, l, rfl⟩ : ∃ n r l, j = (ix3 n r l : S8x256x2048.Idx) := ⟨j 0, j 1, j 2, by funext a; fin_cases a <;> rfl⟩
  pointwise
  rw [Fin.sum_univ_one]
  exact Finset.sum_congr rfl fun q _ => EReal.mul_comm _ _

end Cert.Proof.Gwr

end
-- ==== Proof.Fdw.lean ====
/- The gradient of a feed-forward layer's last weight, in blocks of rows, over the extended reals. -/
module

public import proofs.«01_k».proof.Defs
public import proofs.«01_k».proof.Proof.Gen.KernelFdw.Frame
public import proofs.«01_k».proof.Proof.Gen.KernelFdwIdeal.Value
public import proofs.«01_k».proof.Proof.Gen.ReferenceFdwIdeal.Run
public import Idealize.ShloMosaic.Lib.Pipeline.ValueKit
public import Idealize.ShloMosaic.Lib.Pipeline.ReadBack

@[expose] public section

noncomputable section

namespace Cert.Proof.Fdw

open Idealize.ShloMosaic Idealize.SL.Sem Idealize.ShloMosaic.TcCoe
open Cert.KernelFdwIdeal Cert.KernelFdwIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The accumulator starts at zero. -/
theorem pay1_at (j : S704x2048.Idx) : k0_pay1 (F := Ideal) j = 0 := by
  unfold k0_pay1
  pointwise

/-- A step adds one row tile's product. -/
theorem pay2_at (a : S704x2048.Idx → EReal) (x : S1x1664x704.Idx → EReal) (d : S1664x2048.Idx → EReal) (j : S704x2048.Idx) :
    k0_pay2 (F := Ideal) (e32 a) (e16 x) (e16 d) j = a j + ∑ q : Fin 1664, x (ix3 0 q (j 0)) * d (ix2 q (j 1)) := by
  unfold k0_pay2
  obtain ⟨r, l, rfl⟩ : ∃ r l, j = ix2 r l := ⟨j 0, j 1, by funext a; fin_cases a <;> rfl⟩
  pointwise

/-- The last step's store takes the accumulator as it stands. -/
theorem pay3_at (a : S704x2048.Idx → EReal) (z : Fin 1) (r : Fin 704) (l : Fin 2048) :
    k0_pay3 (F := Ideal) (e32 a) (ix3 z r l) = a (ix2 r l) := by
  unfold k0_pay3
  obtain rfl : z = 0 := Subsingleton.elim _ _
  pointwise

section
variable (m : (ℓ : Loc nD τ sig) → Buf (Elt Ideal) ℓ) (c : Dev nD) (h : S1x8320x5632.Idx → EReal) (d : S1x8320x2048.Idx → EReal)
variable (hh : m ((c : Thread nD τ).loc main_arg0) = e32 h) (hd : m ((c : Thread nD τ).loc main_arg1) = e32 d)

include hd in
/-- The cotangent as the call finds them in its array. -/
theorem entry_d : V m c (Pipeline.arrRef spec0 1) = e16 fun j : S8320x2048.Idx => d (ix3 0 (j 0) (j 1)) := by
  entry_read
  rw [show m (c, Proc.tc.devRef main_arg1) = e32 d from hd]
  refine (funext fun (j : S8320x2048.Idx) => ?_)
  obtain ⟨r, l, rfl⟩ : ∃ r l, j = ix2 r l := ⟨j 0, j 1, by funext a; fin_cases a <;> rfl⟩
  pointwise
  rfl

/-- The row tile of a grid point. -/
def rt (t : Fin cfg0.N) : Fin 5 := ⟨t.val % 5, Nat.mod_lt _ (by decide)⟩
/-- The column tile of a grid point. -/
def ct (t : Fin cfg0.N) : Fin 8 := ⟨t.val / 5, by have : t.val < 40 := t.isLt; omega⟩
/-- Row `p` of row tile `s`. -/
def row (s : Fin 5) (p : Fin 1664) : Fin 8320 := ⟨s.val * 1664 + p.val, by omega⟩
/-- Column `l` of column tile `n`. -/
def col (n : Fin 8) (l : Fin 704) : Fin 5632 := ⟨n.val * 704 + l.val, by omega⟩

include hh in
/-- The gated unit's blocks of columns as the call finds them in its array. -/
theorem entry_h : V m c (Pipeline.arrRef spec0 0) = e16 fun j : S8x8320x704.Idx => h (ix3 0 (j 1) (col (j 0) (j 2))) := by
  entry_read
  rw [show m (c, Proc.tc.devRef main_arg0) = e32 h from hh]
  refine (funext fun (j : S8x8320x704.Idx) => ?_)
  obtain ⟨n, k, l, rfl⟩ : ∃ n k l, j = ix3 n k l := ⟨j 0, j 1, j 2, by funext a; fin_cases a <;> rfl⟩
  pointwise
  rfl

/-- Where a place of window 0's block lies in its array. -/
theorem emb_0 (t : Fin cfg0.N) (z : Fin 1) (p : Fin 1664) (l : Fin 704) :
    (win0_0.blk t).view.emb (ix3 z p l : S1x1664x704.Idx) = (ix3 (ct t) (row (rt t) p) l : S8x8320x704.Idx) := by
  have e : ∀ t : Fin cfg0.N, win0_0.index t = ![t.val / 5, t.val % 5, 0] := (by decide +kernel : ∀ t : Fin grid0.N, _)
  blk_ext [e t, row, rt, ct]

/-- Where a place of window 1's block lies in its array. -/
theorem emb_1 (t : Fin cfg0.N) (p : Fin 1664) (l : Fin 2048) :
    (win0_1.blk t).view.emb (ix2 p l : S1664x2048.Idx) = (ix2 (row (rt t) p) l : S8320x2048.Idx) := by
  have e : ∀ t : Fin cfg0.N, win0_1.index t = ![t.val % 5, 0] := (by decide +kernel : ∀ t : Fin grid0.N, _)
  blk_ext [e t, row, rt]

/-- Where a place of window 2's block lies in its array. -/
theorem emb_2 (t : Fin cfg0.N) (r : Fin 704) (l : Fin 2048) :
    (win0_2.blk t).view.emb (ix3 0 r l : S1x704x2048.Idx) = (ix3 (ct t) r l : S8x704x2048.Idx) := by
  have e : ∀ t : Fin cfg0.N, win0_2.index t = ![t.val / 5, 0, 0] := (by decide +kernel : ∀ t : Fin grid0.N, _)
  blk_ext [e t, ct]

include hh in
/-- A point's block of the gated unit. -/
theorem blk_h (t : Fin cfg0.N) : iblk m c 0 t = e16 fun j : S1x1664x704.Idx => h (ix3 0 (row (rt t) (j 1)) (col (ct t) (j 2))) := by
  unfold iblk
  rw [entry_h m c h hh]
  funext j
  change S1x1664x704.Idx at j
  obtain ⟨z, p, l, rfl⟩ : ∃ z p l, j = ix3 z p l := ⟨j 0, j 1, j 2, by funext a; fin_cases a <;> rfl⟩
  exact congrArg (e16 fun j : S8x8320x704.Idx => h (ix3 0 (j 1) (col (j 0) (j 2)))) (emb_0 t z p l)

include hd in
/-- A point's block of the cotangent. -/
theorem blk_d (t : Fin cfg0.N) : iblk m c 1 t = e16 fun j : S1664x2048.Idx => d (ix3 0 (row (rt t) (j 0)) (j 1)) := by
  unfold iblk
  rw [entry_d m c d hd]
  funext j
  change S1664x2048.Idx at j
  obtain ⟨p, l, rfl⟩ : ∃ p l, j = ix2 p l := ⟨j 0, j 1, by funext a; fin_cases a <;> rfl⟩
  exact congrArg (e16 fun j : S8320x2048.Idx => d (ix3 0 (j 0) (j 1))) (emb_1 t p l)

/-- One row tile's product. -/
def part (s : Fin 5) (n : Fin 8) (r : Fin 704) (l : Fin 2048) : EReal :=
  ∑ q : Fin 1664, h (ix3 0 (row s q) (col n r)) * d (ix3 0 (row s q) l)

include hh hd in
/-- After the last row tile of a column tile: the sum over the row tiles. -/
theorem acc_last (t : Fin cfg0.N) (hr : t.val % 5 = 4) (j : S704x2048.Idx) :
    (outsAt0 m c t.val t.isLt).2 j = 0 + ∑ s : Fin 5, part h d s (ct t) (j 0) (j 1) := by
  refine (Pipeline.eq_sum_fin_of_reset_step_apply_of_flush (fun n h => (outsAt0 m c n h).2) 5 (fun _ => 0)
    (fun p j => part h d (rt p) (ct p) (j 0) (j 1)) (fun t h0 j => ?_) (fun t h0 j => ?_) t hr j).trans ?_
  · rw [outsAt0_A m c t h0 (by omega)]
    frame_out
    rw [blk_h m c h hh, blk_d m c d hd]
    refine (pay2_at _ _ _ _).trans ?_
    rw [pay1_at]
    rfl
  · by_cases h1 : t.val % 5 = 4
    · rw [outsAt0_C m c t h0 h1]
      frame_out
      rw [blk_h m c h hh, blk_d m c d hd, read_unread_whole]
      exact pay2_at _ _ _ _
    · rw [outsAt0_B m c t h0 h1]
      frame_out
      rw [blk_h m c h hh, blk_d m c d hd, read_unread_whole]
      exact pay2_at _ _ _ _
  · refine congrArg (0 + ·) (Finset.sum_congr rfl fun s _ => ?_)
    have e1 : rt ⟨5 * (t.val / 5) + s.val, by have : t.val < 40 := t.isLt; show _ < 40; omega⟩ = s := Fin.ext (by show (5 * (t.val / 5) + s.val) % 5 = s.val; omega)
    have e2 : ct ⟨5 * (t.val / 5) + s.val, by have : t.val < 40 := t.isLt; show _ < 40; omega⟩ = ct t := Fin.ext (by show (5 * (t.val / 5) + s.val) / 5 = t.val / 5; omega)
    exact congrArg₂ (fun s n => part h d s n (j 0) (j 1)) e1 e2

/-- At the last row tile the output is the accumulator. -/
theorem out_last (t : Fin cfg0.N) (hr : t.val % 5 = 4) :
    (outsAt0 m c t.val t.isLt).1 = k0_pay3 (outsAt0 m c t.val t.isLt).2 := by
  rw [outsAt0_C m c t (by omega) hr]
  frame_out

/-- An entry of the gradient, all rows summed. -/
def dw (n : Fin 8) (r : Fin 704) (l : Fin 2048) : EReal := ∑ q : Fin 8320, h (ix3 0 q (col n r)) * d (ix3 0 q l)

/-- The row tiles run through the rows. -/
theorem sum_parts (n : Fin 8) (r : Fin 704) (l : Fin 2048) : ∑ s : Fin 5, part h d s n r l = dw h d n r l := by
  unfold part dw
  exact Fin.sum_mul_add_congr (M := EReal) (S := 5) (n := 1664)
    (f := fun q : Fin 8320 => h (ix3 0 q (col n r)) * d (ix3 0 q l)) fun s k hl => rfl

include hh hd in
/-- The gradient, whole. -/
theorem arr_dw : (dats m 0 c).arrAt 2 cfg0.N = e16 fun j : S8x704x2048.Idx => dw h d (j 0) (j 1) (j 2) := by
  refine (dats m 0 c).arrAt_eq_of_covers 2 _ (by decide +kernel) fun t hf j => ?_
  change S1x704x2048.Idx at j
  have hr : t.val % 5 = 4 := (by decide +kernel : ∀ t : Fin grid0.N, win0_2.flush t = true → t.val % 5 = 4) t hf
  obtain ⟨z, r, l, rfl⟩ : ∃ z r l, j = ix3 z r l := ⟨j 0, j 1, j 2, by funext a; fin_cases a <;> rfl⟩
  obtain rfl : z = 0 := Subsingleton.elim _ _
  rw [after0_2, out_last m c t hr]
  refine (pay3_at _ 0 r l).trans ?_
  rw [acc_last m c h d hh hd t hr, zero_add]
  refine (sum_parts h d (ct t) r l).trans ?_
  show (e16 fun j : S8x704x2048.Idx => dw h d (j 0) (j 1) (j 2)) (ix3 (ct t) r l : S8x704x2048.Idx) = _
  exact congrArg (e16 fun j : S8x704x2048.Idx => dw h d (j 0) (j 1) (j 2)) (emb_2 t r l).symm
end

set_option maxRecDepth 65536 in
set_option maxHeartbeats 4000000 in
/-- The two programs leave the same gradient at every argument. -/
theorem algebraic_fdw : algebraic_KernelFdwIdeal_ReferenceFdwIdeal := by
  intro m ρ m' ρ' _ hagree
  refine ⟨_, KernelFdwIdeal.Value.run_blocks (F := Ideal) m ρ, ?_⟩
  refine (θ_run ReferenceFdwIdeal.defs _ _).mono (fun _ run c => ?_) (ReferenceFdwIdeal.Value.run (F := Ideal) m' ρ')
  obtain ⟨e0, e1⟩ := hagree c
  obtain ⟨h, hh⟩ : ∃ x : S1x8320x5632.Idx → EReal, m ((c : Thread nD τ).loc main_arg0) = e32 x := ⟨m ((c : Thread nD τ).loc main_arg0), rfl⟩
  obtain ⟨d, hd⟩ : ∃ x : S1x8320x2048.Idx → EReal, m ((c : Thread nD τ).loc main_arg1) = e32 x := ⟨m ((c : Thread nD τ).loc main_arg1), rfl⟩
  refine ⟨(run c).1.trans ?_, (run c).2⟩
  refine Eq.trans ?_ (arr_dw m c h d hh hd).symm
  rw [e0.trans hh, e1.trans hd]
  refine congrArg e16 (funext fun j => ?_)
  obtain ⟨n, r, l, rfl⟩ : ∃ n r l, j = (ix3 n r l : S8x704x2048.Idx) := ⟨j 0, j 1, j 2, by funext a; fin_cases a <;> rfl⟩
  pointwise
  rw [Fin.sum_univ_one]
  exact Finset.sum_congr rfl fun q _ => EReal.mul_comm _ _

end Cert.Proof.Fdw

end
-- ==== Proof.Adam.lean ====
/- One AdamW step of a weight's shard from the eight contributions to its gradient, over the extended reals. -/
module

public import proofs.«01_k».proof.Defs
public import proofs.«01_k».proof.Proof.Gen.KernelAdam.Frame
public import proofs.«01_k».proof.Proof.Gen.KernelAdamIdeal.Value
public import proofs.«01_k».proof.Proof.Gen.ReferenceAdamIdeal.Run
public import Idealize.ShloMosaic.Lib.Pipeline.ValueKit

@[expose] public section

noncomputable section

namespace Cert.Proof.Adam

open Idealize.ShloMosaic Idealize.SL.Sem Idealize.ShloMosaic.TcCoe
open Cert.KernelAdamIdeal Cert.KernelAdamIdeal.Gen

/-- A 32-bit array given by its entries, as extended reals. -/
abbrev e32 {s : Shape} (x : s.Idx → EReal) : FVec Ideal s .f32 := x
/-- The same in the narrow format. -/
abbrev e16 {s : Shape} (x : s.Idx → EReal) : FVec Ideal s .bf16 := x

/-- The first moment's step. -/
def mom (g m : EReal) : EReal := Ideal.ofBits .f32 0x3F666666#32 * m + Ideal.ofBits .f32 0x3DCCCCCD#32 * g
/-- The second moment's step. -/
def sec (g v : EReal) : EReal := Ideal.ofBits .f32 0x3F7FBE77#32 * v + Ideal.ofBits .f32 0x3A83126F#32 * (g * g)
/-- The weight's step. -/
def step (g m v w : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

section
variable (w m v : S256x1408.Idx → EReal) (x : S8x256x1408.Idx → EReal)

/-- The eight contributions to a tile, summed. -/
theorem pay5_eq : k0_pay5 (F := Ideal) (e32 w) (e32 m) (e32 v) (e16 x)
    = e32 fun j : S256x1408.Idx => ∑ s : Fin 8, x (ix3 s (j 0) (j 1)) := by
  unfold k0_pay5 k0_pay4
  funext j
  obtain ⟨r, l, rfl⟩ : ∃ r l, j = ix2 r l := ⟨j 0, j 1, by funext a; fin_cases a <;> rfl⟩
  pointwise
  exact (Fin.sum_univ_eight fun s => x (ix3 s r l)).symm

/-- A tile of the first moment. -/
theorem pay1_eq (g : S256x1408.Idx → EReal) :
    k0_pay1 (F := Ideal) (e32 g) (e32 m) (Scalar.ofBits .f32 0x3F666666#32) = e32 fun j : S256x1408.Idx => mom (g j) (m j) := by
  unfold k0_pay1
  funext j
  pointwise
  rfl

/-- A tile of the second moment. -/
theorem pay2_eq (g : S256x1408.Idx → EReal) :
    k0_pay2 (F := Ideal) (e32 g) (e32 v) = e32 fun j : S256x1408.Idx => sec (g j) (v j) := by
  unfold k0_pay2
  funext j
  pointwise
  rfl

/-- A tile of the weight's step. -/
theorem pay3_eq (g : S256x1408.Idx → EReal) :
    k0_pay3 (F := Ideal) (e32 g) (e32 m) (Scalar.ofBits .f32 0x3F666666#32) (e32 v) (e32 w)
      = e32 fun j : S256x1408.Idx => step (g j) (m j) (v j) (w j) := by
  unfold k0_pay3
  rw [pay1_eq, pay2_eq]
  funext j
  pointwise
  rfl
end

section
variable (M : (ℓ : Loc nD τ sig) → Buf (Elt Ideal) ℓ) (c : Dev nD) (w m v : S2048x1408.Idx → EReal) (x : S8x2048x1408.Idx → EReal)
variable (hw : M ((c : Thread nD τ).loc main_arg0) = e32 w) (hm : M ((c : Thread nD τ).loc main_arg1) = e32 m)
variable (hv : M ((c : Thread nD τ).loc main_arg2) = e32 v) (hx : M ((c : Thread nD τ).loc main_arg3) = e16 x)

/-- Row `p` of tile `t`. -/
def at_ (t : Fin cfg0.N) (p : Fin 256) : Fin 2048 := ⟨t.val * 256 + p.val, by have : t.val < 8 := t.isLt; omega⟩

/-- Where a place of window 0's block lies in its array. -/
theorem emb_0 (t : Fin cfg0.N) (j : S256x1408.Idx) :
    (win0_0.blk t).view.emb j = (ix2 (at_ t (j 0)) (j 1) : S2048x1408.Idx) := by
  have e : ∀ t : Fin cfg0.N, win0_0.index t = ![t.val, 0] := (by decide +kernel : ∀ t : Fin grid0.N, _)
  blk_ext [e t, at_]

/-- Where a place of window 1's block lies in its array. -/
theorem emb_1 (t : Fin cfg0.N) (j : S256x1408.Idx) :
    (win0_1.blk t).view.emb j = (ix2 (at_ t (j 0)) (j 1) : S2048x1408.Idx) := by
  have e : ∀ t : Fin cfg0.N, win0_1.index t = ![t.val, 0] := (by decide +kernel : ∀ t : Fin grid0.N, _)
  blk_ext [e t, at_]

/-- Where a place of window 2's block lies in its array. -/
theorem emb_2 (t : Fin cfg0.N) (j : S256x1408.Idx) :
    (win0_2.blk t).view.emb j = (ix2 (at_ t (j 0)) (j 1) : S2048x1408.Idx) := by
  have e : ∀ t : Fin cfg0.N, win0_2.index t = ![t.val, 0] := (by decide +kernel : ∀ t : Fin grid0.N, _)
  blk_ext [e t, at_]

/-- Where a place of window 4's block lies in its array. -/
theorem emb_4 (t : Fin cfg0.N) (j : S256x1408.Idx) :
    (win0_4.blk t).view.emb j = (ix2 (at_ t (j 0)) (j 1) : S2048x1408.Idx) := by
  have e : ∀ t : Fin cfg0.N, win0_4.index t = ![t.val, 0] := (by decide +kernel : ∀ t : Fin grid0.N, _)
  blk_ext [e t, at_]

/-- Where a place of window 5's block lies in its array. -/
theorem emb_5 (t : Fin cfg0.N) (j : S256x1408.Idx) :
    (win0_5.blk t).view.emb j = (ix2 (at_ t (j 0)) (j 1) : S2048x1408.Idx) := by
  have e : ∀ t : Fin cfg0.N, win0_5.index t = ![t.val, 0] := (by decide +kernel : ∀ t : Fin grid0.N, _)
  blk_ext [e t, at_]

/-- Where a place of window 6's block lies in its array. -/
theorem emb_6 (t : Fin cfg0.N) (j : S256x1408.Idx) :
    (win0_6.blk t).view.emb j = (ix2 (at_ t (j 0)) (j 1) : S2048x1408.Idx) := by
  have e : ∀ t : Fin cfg0.N, win0_6.index t = ![t.val, 0] := (by decide +kernel : ∀ t : Fin grid0.N, _)
  blk_ext [e t, at_]

/-- Where a place of window 7's block lies in its array. -/
theorem emb_7 (t : Fin cfg0.N) (j : S256x1408.Idx) :
    (win0_7.blk t).view.emb j = (ix2 (at_ t (j 0)) (j 1) : S2048x1408.Idx) := by
  have e : ∀ t : Fin cfg0.N, win0_7.index t = ![t.val, 0] := (by decide +kernel : ∀ t : Fin grid0.N, _)
  blk_ext [e t, at_]

/-- Where a place of window 3's block lies in its array. -/
theorem emb_3 (t : Fin cfg0.N) (j : S8x256x1408.Idx) :
    (win0_3.blk t).view.emb j = (ix3 (j 0) (at_ t (j 1)) (j 2) : S8x2048x1408.Idx) := by
  have e : ∀ t : Fin cfg0.N, win0_3.index t = ![0, t.val, 0] := (by decide +kernel : ∀ t : Fin grid0.N, _)
  blk_ext [e t, at_]

include hw in
/-- A point's block of the weights. -/
theorem blk_w (t : Fin cfg0.N) : iblk M c 0 t = e32 fun j : S256x1408.Idx => w (ix2 (at_ t (j 0)) (j 1)) := by
  unfold iblk
  rw [show V M c (Pipeline.arrRef spec0 0) = e32 w from hw]
  funext j
  exact congrArg (e32 w) (emb_0 t j)

include hm in
/-- A point's block of the first moments. -/
theorem blk_m (t : Fin cfg0.N) : iblk M c 1 t = e32 fun j : S256x1408.Idx => m (ix2 (at_ t (j 0)) (j 1)) := by
  unfold iblk
  rw [show V M c (Pipeline.arrRef spec0 1) = e32 m from hm]
  funext j
  exact congrArg (e32 m) (emb_1 t j)

include hv in
/-- A point's block of the second moments. -/
theorem blk_v (t : Fin cfg0.N) : iblk M c 2 t = e32 fun j : S256x1408.Idx => v (ix2 (at_ t (j 0)) (j 1)) := by
  unfold iblk
  rw [show V M c (Pipeline.arrRef spec0 2) = e32 v from hv]
  funext j
  exact congrArg (e32 v) (emb_2 t j)

include hx in
/-- A point's block of the devices' contributions. -/
theorem blk_x (t : Fin cfg0.N) : iblk M c 3 t = e16 fun j : S8x256x1408.Idx => x (ix3 (j 0) (at_ t (j 1)) (j 2)) := by
  unfold iblk
  rw [show V M c (Pipeline.arrRef spec0 3) = e16 x from hx]
  funext j
  exact congrArg (e16 x) (emb_3 t j)

/-- An entry of the gradient: the eight contributions summed. -/
def grad (r : Fin 2048) (l : Fin 1408) : EReal := ∑ s : Fin 8, x (ix3 s r l)

set_option maxHeartbeats 2000000 in
include hw hm hv hx in
/-- The gradient, whole. -/
theorem arr_g : (dats M 0 c).arrAt 4 cfg0.N = e32 fun j : S2048x1408.Idx => grad x (j 0) (j 1) := by
  refine (dats M 0 c).arrAt_eq_of_covers 4 _ (by decide +kernel) fun t hf j => ?_
  change S256x1408.Idx at j
  rw [after0_4]
  unfold out0_4
  frame_out
  rw [blk_w M c w hw t, blk_m M c m hm t, blk_v M c v hv t, blk_x M c x hx t, pay5_eq]
  exact congrArg (e32 fun j : S2048x1408.Idx => grad x (j 0) (j 1)) (emb_4 t j).symm

set_option maxHeartbeats 2000000 in
include hw hm hv hx in
/-- The weight's step, whole. -/
theorem arr_d : (dats M 0 c).arrAt 5 cfg0.N = e32 fun j : S2048x1408.Idx => step (grad x (j 0) (j 1)) (m j) (v j) (w j) := by
  refine (dats M 0 c).arrAt_eq_of_covers 5 _ (by decide +kernel) fun t hf j => ?_
  change S256x1408.Idx at j
  rw [after0_5]
  unfold out0_5
  frame_out
  rw [blk_w M c w hw t, blk_m M c m hm t, blk_v M c v hv t, blk_x M c x hx t, pay5_eq, pay3_eq]
  exact congrArg (e32 fun j : S2048x1408.Idx => step (grad x (j 0) (j 1)) (m j) (v j) (w j)) (emb_5 t j).symm

set_option maxHeartbeats 2000000 in
include hw hm hv hx in
/-- The first moment, whole. -/
theorem arr_m : (dats M 0 c).arrAt 6 cfg0.N = e32 fun j : S2048x1408.Idx => mom (grad x (j 0) (j 1)) (m j) := by
  refine (dats M 0 c).arrAt_eq_of_covers 6 _ (by decide +kernel) fun t hf j => ?_
  change S256x1408.Idx at j
  rw [after0_6]
  unfold out0_6
  frame_out
  rw [blk_w M c w hw t, blk_m M c m hm t, blk_v M c v hv t, blk_x M c x hx t, pay5_eq, pay1_eq]
  exact congrArg (e32 fun j : S2048x1408.Idx => mom (grad x (j 0) (j 1)) (m j)) (emb_6 t j).symm

set_option maxHeartbeats 2000000 in
include hw hm hv hx in
/-- The second moment, whole. -/
theorem arr_v : (dats M 0 c).arrAt 7 cfg0.N = e32 fun j : S2048x1408.Idx => sec (grad x (j 0) (j 1)) (v j) := by
  refine (dats M 0 c).arrAt_eq_of_covers 7 _ (by decide +kernel) fun t hf j => ?_
  change S256x1408.Idx at j
  rw [after0_7]
  unfold out0_7
  frame_out
  rw [blk_w M c w hw t, blk_m M c m hm t, blk_v M c v hv t, blk_x M c x hx t, pay5_eq, pay2_eq]
  exact congrArg (e32 fun j : S2048x1408.Idx => sec (grad x (j 0) (j 1)) (v j)) (emb_7 t j).symm

end

/-- The reference's gradient. -/
theorem ref_g (x : S8x2048x1408.Idx → EReal) :
    Host.reduceAdd (extf .f32 (e16 x) ReferenceAdamIdeal.Gen.bitsLt_bf16_f32) (constant (F := Ideal) ReferenceAdamIdeal.S_ .f32 0x00000000#32)
      ReferenceAdamIdeal.Gen.reducesTo_S8x2048x1408_S2048x1408_d0 ReferenceAdamIdeal.Gen.h_S_
    = e32 fun j : S2048x1408.Idx => grad x (j 0) (j 1) := by
  funext j
  obtain ⟨r, l, rfl⟩ : ∃ r l, j = (ix2 r l : S2048x1408.Idx) := ⟨j 0, j 1, by funext a; fin_cases a <;> rfl⟩
  pointwise
  rfl

set_option maxRecDepth 65536 in
set_option maxHeartbeats 4000000 in
/-- The two programs leave the same gradient, step and moments at every argument. -/
theorem algebraic_adam : algebraic_KernelAdamIdeal_ReferenceAdamIdeal := by
  intro M ρ m' ρ' _ hagree
  refine ⟨_, _, _, _, KernelAdamIdeal.Value.run_blocks (F := Ideal) M ρ, ?_⟩
  refine (θ_run ReferenceAdamIdeal.defs _ _).mono (fun _ run c => ?_) (ReferenceAdamIdeal.Value.run (F := Ideal) m' ρ')
  obtain ⟨e0, e1, e2, e3⟩ := hagree c
  obtain ⟨w, hw⟩ : ∃ x : S2048x1408.Idx → EReal, M ((c : Thread nD τ).loc main_arg0) = e32 x := ⟨M ((c : Thread nD τ).loc main_arg0), rfl⟩
  obtain ⟨m, hm⟩ : ∃ x : S2048x1408.Idx → EReal, M ((c : Thread nD τ).loc main_arg1) = e32 x := ⟨M ((c : Thread nD τ).loc main_arg1), rfl⟩
  obtain ⟨v, hv⟩ : ∃ x : S2048x1408.Idx → EReal, M ((c : Thread nD τ).loc main_arg2) = e32 x := ⟨M ((c : Thread nD τ).loc main_arg2), rfl⟩
  obtain ⟨x, hx⟩ : ∃ x : S8x2048x1408.Idx → EReal, M ((c : Thread nD τ).loc main_arg3) = e16 x := ⟨M ((c : Thread nD τ).loc main_arg3), rfl⟩
  refine ⟨(run c).1.trans ?_, (run c).2.1.trans ?_, (run c).2.2.1.trans ?_, (run c).2.2.2.1.trans ?_, (run c).2.2.2.2⟩
  · refine Eq.trans ?_ (arr_g M c w m v x hw hm hv hx).symm
    rw [e3.trans hx, ref_g]
  · refine Eq.trans ?_ (arr_d M c w m v x hw hm hv hx).symm
    rw [e0.trans hw, e1.trans hm, e2.trans hv, e3.trans hx, ref_g]
    refine congrArg e32 (funext fun j => ?_)
    obtain ⟨r, l, rfl⟩ : ∃ r l, j = (ix2 r l : S2048x1408.Idx) := ⟨j 0, j 1, by funext a; fin_cases a <;> rfl⟩
    pointwise
    rfl
  · refine Eq.trans ?_ (arr_m M c w m v x hw hm hv hx).symm
    rw [e1.trans hm, e3.trans hx, ref_g]
    refine congrArg e32 (funext fun j => ?_)
    obtain ⟨r, l, rfl⟩ : ∃ r l, j = (ix2 r l : S2048x1408.Idx) := ⟨j 0, j 1, by funext a; fin_cases a <;> rfl⟩
    pointwise
    rfl
  · refine Eq.trans ?_ (arr_v M c w m v x hw hm hv hx).symm
    rw [e2.trans hv, e3.trans hx, ref_g]
    refine congrArg e32 (funext fun j => ?_)
    obtain ⟨r, l, rfl⟩ : ∃ r l, j = (ix2 r l : S2048x1408.Idx) := ⟨j 0, j 1, by funext a; fin_cases a <;> rfl⟩
    pointwise
    rfl

end Cert.Proof.Adam

end
-- ==== Proof.lean ====
module

public import proofs.«01_k».proof.Defs
public import proofs.«01_k».proof.Proof.Lb
public import proofs.«01_k».proof.Proof.Ln2
public import proofs.«01_k».proof.Proof.Ln3
public import proofs.«01_k».proof.Proof.Ffn
public import proofs.«01_k».proof.Proof.MergeRef
public import proofs.«01_k».proof.Proof.HgrnBwd
public import proofs.«01_k».proof.Proof.HgrnFwd
public import proofs.«01_k».proof.Proof.SbValue
public import proofs.«01_k».proof.Proof.SbFwdBits
public import proofs.«01_k».proof.Proof.SbBwd
public import proofs.«01_k».proof.Proof.Res
public import proofs.«01_k».proof.Proof.Dwn
public import proofs.«01_k».proof.Proof.Inp
public import proofs.«01_k».proof.Proof.Gin
public import proofs.«01_k».proof.Proof.Giw
public import proofs.«01_k».proof.Proof.Fdh
public import proofs.«01_k».proof.Proof.Gw
public import proofs.«01_k».proof.Proof.Gwr
public import proofs.«01_k».proof.Proof.Fdw
public import proofs.«01_k».proof.Proof.Adam
public import Idealize.ShloMosaic.Adequacy
public import Idealize.ShloMosaic.Init
public import Idealize.ShloMosaic.Lib.Quiescent

@[expose] public section

noncomputable section

namespace Cert.Proof

open Idealize.ShloMosaic Idealize.SL.Sem

/-- The frame of the lower bound's reference: its run, with no semaphore in the program. -/
theorem frame_ReferenceLb : quiescent_ReferenceLbIdeal := fun m ρ _ =>
  (θ_run Cert.ReferenceLbIdeal.defs _ _).mono (fun r h => ⟨fun c => (h c).2, sem_eq_zero_of_no_sems (by decide) r.2⟩)
    (Cert.ReferenceLbIdeal.Value.run (F := Ideal) m ρ)

/-- The side conditions of the lower bound's precondition. -/
theorem facts_finite_lb : Cert.Pre_finite_lb.Facts := ⟨by decide, by decide⟩

/-- The frame of the second layer norm's reference: its run, with no semaphore in the program. -/
theorem frame_ReferenceLn2 : quiescent_ReferenceLn2Ideal := fun m ρ _ =>
  (θ_run Cert.ReferenceLn2Ideal.defs _ _).mono (fun r h => ⟨fun c => (h c).2.2.2.2, sem_eq_zero_of_no_sems (by decide) r.2⟩)
    (Cert.ReferenceLn2Ideal.Value.run (F := Ideal) m ρ)

/-- The side conditions of the second layer norm's precondition. -/
theorem facts_finite_ln2 : Cert.Pre_finite_ln2.Facts := ⟨by decide, by decide⟩

/-- The frame of the third layer norm's reference: its run, with no semaphore in the program. -/
theorem frame_ReferenceLn3 : quiescent_ReferenceLn3Ideal := fun m ρ _ =>
  (θ_run Cert.ReferenceLn3Ideal.defs _ _).mono (fun r h => ⟨fun c => (h c).2.2.2.2.2, sem_eq_zero_of_no_sems (by decide) r.2⟩)
    (Cert.ReferenceLn3Ideal.Value.run (F := Ideal) m ρ)

/-- The side conditions of the third layer norm's precondition. -/
theorem facts_finite_ln3 : Cert.Pre_finite_ln3.Facts := ⟨by decide, by decide, by decide⟩

/-- The frame of the gated unit's reference: its run, with no semaphore in the program. -/
theorem frame_ReferenceFfn : quiescent_ReferenceFfnIdeal := fun m ρ _ =>
  (θ_run Cert.ReferenceFfnIdeal.defs _ _).mono (fun r h => ⟨fun c => (h c).2.2.2, sem_eq_zero_of_no_sems (by decide) r.2⟩)
    (Cert.ReferenceFfnIdeal.Value.run (F := Ideal) m ρ)

/-- The side conditions of the gated unit's precondition. -/
theorem facts_finite_ffn : Cert.Pre_finite_ffn.Facts := ⟨by decide, by decide, by decide⟩

/-- The frame of the mixer's gate's reference: its run, with no semaphore in the program. -/
theorem frame_ReferenceMerge : quiescent_ReferenceMergeIdeal := fun m ρ _ =>
  (θ_run Cert.ReferenceMergeIdeal.defs _ _).mono (fun r h => ⟨fun c => (h c).2.2.2.2.2.2, sem_eq_zero_of_no_sems (by decide) r.2⟩)
    (Cert.ReferenceMergeIdeal.Value.run (F := Ideal) m ρ)

/-- The frame of the attention's reference: its run, with no semaphore in the program. -/
theorem frame_ReferenceSbf : quiescent_ReferenceSbfIdeal := fun m ρ _ =>
  (θ_run Cert.ReferenceSbfIdeal.defs _ _).mono (fun r h => ⟨fun c => (h c).2, sem_eq_zero_of_no_sems (by decide) r.2⟩)
    (Cert.ReferenceSbfIdeal.Value.run (F := Ideal) m ρ)

/-- The side conditions of the attention's precondition. -/
theorem facts_finite_sbf : Cert.Pre_finite_sbf.Facts := ⟨by decide⟩

/-- The frame of the residual sum and layer norm's reference: its run, with no semaphore in the program. -/
theorem frame_ReferenceRes : quiescent_ReferenceResIdeal := fun m ρ _ =>
  (θ_run Cert.ReferenceResIdeal.defs _ _).mono (fun r h => ⟨fun c => (h c).2.2.2, sem_eq_zero_of_no_sems (by decide) r.2⟩)
    (Cert.ReferenceResIdeal.Value.run (F := Ideal) m ρ)

/-- The frame of the feed-forward layer's last product, residual sum and layer norm's reference: its run, with no semaphore in the program. -/
theorem frame_ReferenceDwn : quiescent_ReferenceDwnIdeal := fun m ρ _ =>
  (θ_run Cert.ReferenceDwnIdeal.defs _ _).mono (fun r h => ⟨fun c => (h c).2.2.2, sem_eq_zero_of_no_sems (by decide) r.2⟩)
    (Cert.ReferenceDwnIdeal.Value.run (F := Ideal) m ρ)

/-- The frame of the input product's reference: its run, with no semaphore in the program. -/
theorem frame_ReferenceInp : quiescent_ReferenceInpIdeal := fun m ρ _ =>
  (θ_run Cert.ReferenceInpIdeal.defs _ _).mono (fun r h => ⟨fun c => (h c).2.2, sem_eq_zero_of_no_sems (by decide) r.2⟩)
    (Cert.ReferenceInpIdeal.Value.run (F := Ideal) m ρ)

/-- The frame of the input gradient's reference: its run, with no semaphore in the program. -/
theorem frame_ReferenceGin : quiescent_ReferenceGinIdeal := fun m ρ _ =>
  (θ_run Cert.ReferenceGinIdeal.defs _ _).mono (fun r h => ⟨fun c => (h c).2, sem_eq_zero_of_no_sems (by decide) r.2⟩)
    (Cert.ReferenceGinIdeal.Value.run (F := Ideal) m ρ)

/-- The frame of the branch gradient's reference: its run, with no semaphore in the program. -/
theorem frame_ReferenceGiw : quiescent_ReferenceGiwIdeal := fun m ρ _ =>
  (θ_run Cert.ReferenceGiwIdeal.defs _ _).mono (fun r h => ⟨fun c => (h c).2, sem_eq_zero_of_no_sems (by decide) r.2⟩)
    (Cert.ReferenceGiwIdeal.Value.run (F := Ideal) m ρ)

/-- The frame of the feed-forward layer's input gradient's reference: its run, with no semaphore in the program. -/
theorem frame_ReferenceFdh : quiescent_ReferenceFdhIdeal := fun m ρ _ =>
  (θ_run Cert.ReferenceFdhIdeal.defs _ _).mono (fun r h => ⟨fun c => (h c).2, sem_eq_zero_of_no_sems (by decide) r.2⟩)
    (Cert.ReferenceFdhIdeal.Value.run (F := Ideal) m ρ)

/-- The frame of the weight gradient's reference: its run, with no semaphore in the program. -/
theorem frame_ReferenceGw : quiescent_ReferenceGwIdeal := fun m ρ _ =>
  (θ_run Cert.ReferenceGwIdeal.defs _ _).mono (fun r h => ⟨fun c => (h c).2, sem_eq_zero_of_no_sems (by decide) r.2⟩)
    (Cert.ReferenceGwIdeal.Value.run (F := Ideal) m ρ)

/-- The frame of the row-shared weight gradient's reference: its run, with no semaphore in the program. -/
theorem frame_ReferenceGwr : quiescent_ReferenceGwrIdeal := fun m ρ _ =>
  (θ_run Cert.ReferenceGwrIdeal.defs _ _).mono (fun r h => ⟨fun c => (h c).2, sem_eq_zero_of_no_sems (by decide) r.2⟩)
    (Cert.ReferenceGwrIdeal.Value.run (F := Ideal) m ρ)

/-- The frame of the feed-forward layer's last weight gradient's reference: its run, with no semaphore in the program. -/
theorem frame_ReferenceFdw : quiescent_ReferenceFdwIdeal := fun m ρ _ =>
  (θ_run Cert.ReferenceFdwIdeal.defs _ _).mono (fun r h => ⟨fun c => (h c).2, sem_eq_zero_of_no_sems (by decide) r.2⟩)
    (Cert.ReferenceFdwIdeal.Value.run (F := Ideal) m ρ)

/-- The frame of the AdamW step's reference: its run, with no semaphore in the program. -/
theorem frame_ReferenceAdam : quiescent_ReferenceAdamIdeal := fun m ρ _ =>
  (θ_run Cert.ReferenceAdamIdeal.defs _ _).mono (fun r h => ⟨fun c => (h c).2.2.2.2, sem_eq_zero_of_no_sems (by decide) r.2⟩)
    (Cert.ReferenceAdamIdeal.Value.run (F := Ideal) m ρ)

/-- Everything claimed. -/
theorem claim : Cert.Claim := ⟨
  Cert.KernelLb.Gen.facts, Cert.KernelLbIdeal.Gen.facts, Cert.ReferenceLbIdeal.Gen.facts,
  Cert.KernelLn2.Gen.facts, Cert.KernelLn2Ideal.Gen.facts, Cert.ReferenceLn2Ideal.Gen.facts,
  Cert.KernelLn3.Gen.facts, Cert.KernelLn3Ideal.Gen.facts, Cert.ReferenceLn3Ideal.Gen.facts,
  Cert.KernelFfn.Gen.facts, Cert.KernelFfnIdeal.Gen.facts, Cert.ReferenceFfnIdeal.Gen.facts,
  Cert.KernelMerge.Gen.facts, Cert.KernelMergeIdeal.Gen.facts, Cert.ReferenceMergeIdeal.Gen.facts,
  Cert.KernelHgb.Gen.facts, Cert.KernelHgbIdeal.Gen.facts, Cert.KernelHgf.Gen.facts,
  Cert.KernelHgfIdeal.Gen.facts, Cert.KernelSbf.Gen.facts, Cert.KernelSbfIdeal.Gen.facts,
  Cert.ReferenceSbfIdeal.Gen.facts, Cert.KernelSbb.Gen.facts, Cert.KernelSbbIdeal.Gen.facts,
  Cert.KernelRes.Gen.facts, Cert.KernelResIdeal.Gen.facts, Cert.ReferenceResIdeal.Gen.facts,
  Cert.KernelDwn.Gen.facts, Cert.KernelDwnIdeal.Gen.facts, Cert.ReferenceDwnIdeal.Gen.facts,
  Cert.KernelInp.Gen.facts, Cert.KernelInpIdeal.Gen.facts, Cert.ReferenceInpIdeal.Gen.facts,
  Cert.KernelGin.Gen.facts, Cert.KernelGinIdeal.Gen.facts, Cert.ReferenceGinIdeal.Gen.facts,
  Cert.KernelGiw.Gen.facts, Cert.KernelGiwIdeal.Gen.facts, Cert.ReferenceGiwIdeal.Gen.facts,
  Cert.KernelFdh.Gen.facts, Cert.KernelFdhIdeal.Gen.facts, Cert.ReferenceFdhIdeal.Gen.facts,
  Cert.KernelGw.Gen.facts, Cert.KernelGwIdeal.Gen.facts, Cert.ReferenceGwIdeal.Gen.facts,
  Cert.KernelGwr.Gen.facts, Cert.KernelGwrIdeal.Gen.facts, Cert.ReferenceGwrIdeal.Gen.facts,
  Cert.KernelFdw.Gen.facts, Cert.KernelFdwIdeal.Gen.facts, Cert.ReferenceFdwIdeal.Gen.facts,
  Cert.KernelAdam.Gen.facts, Cert.KernelAdamIdeal.Gen.facts, Cert.ReferenceAdamIdeal.Gen.facts,
  facts_finite_lb, facts_finite_ln2, facts_finite_ln3, facts_finite_ffn, facts_finite_sbf,
  fun m ρ _ => Cert.KernelLb.Gen.frame m ρ, fun m ρ _ => Cert.KernelLbIdeal.Gen.frame m ρ, fun m ρ _ => Cert.KernelLbIdeal.Gen.frame m ρ,
  frame_ReferenceLb, fun m ρ _ => frame_ReferenceLb m ρ trivial,
  fun m ρ _ => Cert.KernelLn2.Gen.frame m ρ, fun m ρ _ => Cert.KernelLn2Ideal.Gen.frame m ρ, fun m ρ _ => Cert.KernelLn2Ideal.Gen.frame m ρ,
  frame_ReferenceLn2, fun m ρ _ => frame_ReferenceLn2 m ρ trivial,
  fun m ρ _ => Cert.KernelLn3.Gen.frame m ρ, fun m ρ _ => Cert.KernelLn3Ideal.Gen.frame m ρ, fun m ρ _ => Cert.KernelLn3Ideal.Gen.frame m ρ,
  frame_ReferenceLn3, fun m ρ _ => frame_ReferenceLn3 m ρ trivial,
  fun m ρ _ => Cert.KernelFfn.Gen.frame m ρ, fun m ρ _ => Cert.KernelFfnIdeal.Gen.frame m ρ, fun m ρ _ => Cert.KernelFfnIdeal.Gen.frame m ρ,
  frame_ReferenceFfn, fun m ρ _ => frame_ReferenceFfn m ρ trivial,
  fun m ρ _ => Cert.KernelMerge.Gen.frame m ρ, fun m ρ _ => Cert.KernelMergeIdeal.Gen.frame m ρ,
  frame_ReferenceMerge,
  HgrnBwd.frame_bits, HgrnBwd.frame_ideal,
  HgrnFwd.frame_bits, HgrnFwd.frame_ideal,
  SbFwdBits.frame_bits, SbFwd.frame_ideal, fun m ρ _ => SbFwd.frame_ideal m ρ trivial,
  frame_ReferenceSbf, fun m ρ _ => frame_ReferenceSbf m ρ trivial,
  SbBwd.frame_bits, SbBwd.frame_ideal,
  fun m ρ _ => Cert.KernelRes.Gen.frame m ρ, fun m ρ _ => Cert.KernelResIdeal.Gen.frame m ρ,
  frame_ReferenceRes,
  fun m ρ _ => Cert.KernelDwn.Gen.frame m ρ, fun m ρ _ => Cert.KernelDwnIdeal.Gen.frame m ρ,
  frame_ReferenceDwn,
  fun m ρ _ => Cert.KernelInp.Gen.frame m ρ, fun m ρ _ => Cert.KernelInpIdeal.Gen.frame m ρ,
  frame_ReferenceInp,
  fun m ρ _ => Cert.KernelGin.Gen.frame m ρ, fun m ρ _ => Cert.KernelGinIdeal.Gen.frame m ρ,
  frame_ReferenceGin,
  fun m ρ _ => Cert.KernelGiw.Gen.frame m ρ, fun m ρ _ => Cert.KernelGiwIdeal.Gen.frame m ρ,
  frame_ReferenceGiw,
  fun m ρ _ => Cert.KernelFdh.Gen.frame m ρ, fun m ρ _ => Cert.KernelFdhIdeal.Gen.frame m ρ,
  frame_ReferenceFdh,
  fun m ρ _ => Cert.KernelGw.Gen.frame m ρ, fun m ρ _ => Cert.KernelGwIdeal.Gen.frame m ρ,
  frame_ReferenceGw,
  fun m ρ _ => Cert.KernelGwr.Gen.frame m ρ, fun m ρ _ => Cert.KernelGwrIdeal.Gen.frame m ρ,
  frame_ReferenceGwr,
  fun m ρ _ => Cert.KernelFdw.Gen.frame m ρ, fun m ρ _ => Cert.KernelFdwIdeal.Gen.frame m ρ,
  frame_ReferenceFdw,
  fun m ρ _ => Cert.KernelAdam.Gen.frame m ρ, fun m ρ _ => Cert.KernelAdamIdeal.Gen.frame m ρ,
  frame_ReferenceAdam,
  trivial, algebraic_lb (hPre := facts_finite_lb),
  trivial, Ln2.algebraic_ln2 (hPre := facts_finite_ln2),
  trivial, Ln3.algebraic_ln3 (hPre := facts_finite_ln3), trivial, Ffn.algebraic_ffn (hPre := facts_finite_ffn), trivial, Merge.algebraic_merge, trivial, trivial, IdealRules.named_const.statement Cert.KernelSbfIdeal.κ "dead" .f32 0xC2D00000#32 ⊥ rfl, SbValue.algebraic_sbf (hPre := facts_finite_sbf), trivial, trivial, Res.algebraic_res, trivial, Dwn.algebraic_dwn, trivial, Inp.algebraic_inp, trivial, Gin.algebraic_gin, trivial, Giw.algebraic_giw, trivial, Fdh.algebraic_fdh, trivial, Gw.algebraic_gw, trivial, Gwr.algebraic_gwr, trivial, Fdw.algebraic_fdw, trivial, Adam.algebraic_adam⟩

end Cert.Proof

end
